-- ==== Defs.lean ====
def Pre_KernelMem (m : (ℓ : Loc Cert.KernelMem.nD Cert.KernelMem.τ Cert.KernelMem.sig) → Buf (Elt Bits) ℓ) : Prop :=
  True

def Pre_KernelMemIdeal (m : (ℓ : Loc Cert.KernelMemIdeal.nD Cert.KernelMemIdeal.τ Cert.KernelMemIdeal.sig) → Buf (Elt Ideal) ℓ) : Prop :=
  True

def Pre_ReferenceMemIdeal (m : (ℓ : Loc Cert.ReferenceMemIdeal.nD Cert.ReferenceMemIdeal.τ Cert.ReferenceMemIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelFfn (m : (ℓ : Loc Cert.KernelFfn.nD Cert.KernelFfn.τ Cert.KernelFfn.sig) → Buf (Elt Bits) ℓ) : Prop :=
  True

def Pre_KernelFfnIdeal (m : (ℓ : Loc Cert.KernelFfnIdeal.nD Cert.KernelFfnIdeal.τ Cert.KernelFfnIdeal.sig) → Buf (Elt Ideal) ℓ) : Prop :=
  True

def Pre_KernelFfnIdeal_finite_ffn [hPre_finite_ffn : Cert.Pre_finite_ffn.Facts] (m : (ℓ : Loc Cert.KernelFfnIdeal.nD Cert.KernelFfnIdeal.τ Cert.KernelFfnIdeal.sig) → Buf (Elt Ideal) ℓ) : Prop :=
  ∀ c : Dev Cert.KernelFfnIdeal.nD,
    (Cert.Pre_finite_ffn.fn (F := Ideal) (m ((c.tc : Thread Cert.KernelFfnIdeal.nD Cert.KernelFfnIdeal.τ).loc Cert.KernelFfnIdeal.main_arg0)) (m ((c.tc : Thread Cert.KernelFfnIdeal.nD Cert.KernelFfnIdeal.τ).loc Cert.KernelFfnIdeal.main_arg1)) (m ((c.tc : Thread Cert.KernelFfnIdeal.nD Cert.KernelFfnIdeal.τ).loc Cert.KernelFfnIdeal.main_arg2)) (m ((c.tc : Thread Cert.KernelFfnIdeal.nD Cert.KernelFfnIdeal.τ).loc Cert.KernelFfnIdeal.main_arg3)) (m ((c.tc : Thread Cert.KernelFfnIdeal.nD Cert.KernelFfnIdeal.τ).loc Cert.KernelFfnIdeal.main_arg4)) (m ((c.tc : Thread Cert.KernelFfnIdeal.nD Cert.KernelFfnIdeal.τ).loc Cert.KernelFfnIdeal.main_arg5)) (m ((c.tc : Thread Cert.KernelFfnIdeal.nD Cert.KernelFfnIdeal.τ).loc Cert.KernelFfnIdeal.main_arg6))) = (fun _ => 1#1)

def Pre_ReferenceFfnIdeal (m : (ℓ : Loc Cert.ReferenceFfnIdeal.nD Cert.ReferenceFfnIdeal.τ Cert.ReferenceFfnIdeal.sig) → Buf (Elt Ideal) ℓ) : Prop :=
  True

def Pre_ReferenceFfnIdeal_finite_ffn [hPre_finite_ffn : Cert.Pre_finite_ffn.Facts] (m : (ℓ : Loc Cert.ReferenceFfnIdeal.nD Cert.ReferenceFfnIdeal.τ Cert.ReferenceFfnIdeal.sig) → Buf (Elt Ideal) ℓ) : Prop :=
  ∀ c : Dev Cert.ReferenceFfnIdeal.nD,
    (Cert.Pre_finite_ffn.fn (F := Ideal) (m ((c.tc : Thread Cert.ReferenceFfnIdeal.nD Cert.ReferenceFfnIdeal.τ).loc Cert.ReferenceFfnIdeal.main_arg0)) (m ((c.tc : Thread Cert.ReferenceFfnIdeal.nD Cert.ReferenceFfnIdeal.τ).loc Cert.ReferenceFfnIdeal.main_arg1)) (m ((c.tc : Thread Cert.ReferenceFfnIdeal.nD Cert.ReferenceFfnIdeal.τ).loc Cert.ReferenceFfnIdeal.main_arg2)) (m ((c.tc : Thread Cert.ReferenceFfnIdeal.nD Cert.ReferenceFfnIdeal.τ).loc Cert.ReferenceFfnIdeal.main_arg3)) (m ((c.tc : Thread Cert.ReferenceFfnIdeal.nD Cert.ReferenceFfnIdeal.τ).loc Cert.ReferenceFfnIdeal.main_arg4)) (m ((c.tc : Thread Cert.ReferenceFfnIdeal.nD Cert.ReferenceFfnIdeal.τ).loc Cert.ReferenceFfnIdeal.main_arg5)) (m ((c.tc : Thread Cert.ReferenceFfnIdeal.nD Cert.ReferenceFfnIdeal.τ).loc Cert.ReferenceFfnIdeal.main_arg6))) = (fun _ => 1#1)

def Pre_KernelAttn (m : (ℓ : Loc Cert.KernelAttn.nD Cert.KernelAttn.τ Cert.KernelAttn.sig) → Buf (Elt Bits) ℓ) : Prop :=
  True

def Pre_KernelAttnIdeal (m : (ℓ : Loc Cert.KernelAttnIdeal.nD Cert.KernelAttnIdeal.τ Cert.KernelAttnIdeal.sig) → Buf (Elt Ideal) ℓ) : Prop :=
  True

def Pre_KernelAttnIdeal_finite_attn [hPre_finite_attn : Cert.Pre_finite_attn.Facts] (m : (ℓ : Loc Cert.KernelAttnIdeal.nD Cert.KernelAttnIdeal.τ Cert.KernelAttnIdeal.sig) → Buf (Elt Ideal) ℓ) : Prop :=
  ∀ c : Dev Cert.KernelAttnIdeal.nD,
    (Cert.Pre_finite_attn.fn (F := Ideal) (m ((c.tc : Thread Cert.KernelAttnIdeal.nD Cert.KernelAttnIdeal.τ).loc Cert.KernelAttnIdeal.main_arg0)) (m ((c.tc : Thread Cert.KernelAttnIdeal.nD Cert.KernelAttnIdeal.τ).loc Cert.KernelAttnIdeal.main_arg1)) (m ((c.tc : Thread Cert.KernelAttnIdeal.nD Cert.KernelAttnIdeal.τ).loc Cert.KernelAttnIdeal.main_arg2)) (m ((c.tc : Thread Cert.KernelAttnIdeal.nD Cert.KernelAttnIdeal.τ).loc Cert.KernelAttnIdeal.main_arg3)) (m ((c.tc : Thread Cert.KernelAttnIdeal.nD Cert.KernelAttnIdeal.τ).loc Cert.KernelAttnIdeal.main_arg4)) (m ((c.tc : Thread Cert.KernelAttnIdeal.nD Cert.KernelAttnIdeal.τ).loc Cert.KernelAttnIdeal.main_arg5)) (m ((c.tc : Thread Cert.KernelAttnIdeal.nD Cert.KernelAttnIdeal.τ).loc Cert.KernelAttnIdeal.main_arg6)) (m ((c.tc : Thread Cert.KernelAttnIdeal.nD Cert.KernelAttnIdeal.τ).loc Cert.KernelAttnIdeal.main_arg7)) (m ((c.tc : Thread Cert.KernelAttnIdeal.nD Cert.KernelAttnIdeal.τ).loc Cert.KernelAttnIdeal.main_arg8)) (m ((c.tc : Thread Cert.KernelAttnIdeal.nD Cert.KernelAttnIdeal.τ).loc Cert.KernelAttnIdeal.main_arg9)) (m ((c.tc : Thread Cert.KernelAttnIdeal.nD Cert.KernelAttnIdeal.τ).loc Cert.KernelAttnIdeal.main_arg10))) = (fun _ => 1#1)

def Pre_ReferenceAttnIdeal (m : (ℓ : Loc Cert.ReferenceAttnIdeal.nD Cert.ReferenceAttnIdeal.τ Cert.ReferenceAttnIdeal.sig) → Buf (Elt Ideal) ℓ) : Prop :=
  True

def Pre_ReferenceAttnIdeal_finite_attn [hPre_finite_attn : Cert.Pre_finite_attn.Facts] (m : (ℓ : Loc Cert.ReferenceAttnIdeal.nD Cert.ReferenceAttnIdeal.τ Cert.ReferenceAttnIdeal.sig) → Buf (Elt Ideal) ℓ) : Prop :=
  ∀ c : Dev Cert.ReferenceAttnIdeal.nD,
    (Cert.Pre_finite_attn.fn (F := Ideal) (m ((c.tc : Thread Cert.ReferenceAttnIdeal.nD Cert.ReferenceAttnIdeal.τ).loc Cert.ReferenceAttnIdeal.main_arg0)) (m ((c.tc : Thread Cert.ReferenceAttnIdeal.nD Cert.ReferenceAttnIdeal.τ).loc Cert.ReferenceAttnIdeal.main_arg1)) (m ((c.tc : Thread Cert.ReferenceAttnIdeal.nD Cert.ReferenceAttnIdeal.τ).loc Cert.ReferenceAttnIdeal.main_arg2)) (m ((c.tc : Thread Cert.ReferenceAttnIdeal.nD Cert.ReferenceAttnIdeal.τ).loc Cert.ReferenceAttnIdeal.main_arg3)) (m ((c.tc : Thread Cert.ReferenceAttnIdeal.nD Cert.ReferenceAttnIdeal.τ).loc Cert.ReferenceAttnIdeal.main_arg4)) (m ((c.tc : Thread Cert.ReferenceAttnIdeal.nD Cert.ReferenceAttnIdeal.τ).loc Cert.ReferenceAttnIdeal.main_arg5)) (m ((c.tc : Thread Cert.ReferenceAttnIdeal.nD Cert.ReferenceAttnIdeal.τ).loc Cert.ReferenceAttnIdeal.main_arg6)) (m ((c.tc : Thread Cert.ReferenceAttnIdeal.nD Cert.ReferenceAttnIdeal.τ).loc Cert.ReferenceAttnIdeal.main_arg7)) (m ((c.tc : Thread Cert.ReferenceAttnIdeal.nD Cert.ReferenceAttnIdeal.τ).loc Cert.ReferenceAttnIdeal.main_arg8)) (m ((c.tc : Thread Cert.ReferenceAttnIdeal.nD Cert.ReferenceAttnIdeal.τ).loc Cert.ReferenceAttnIdeal.main_arg9)) (m ((c.tc : Thread Cert.ReferenceAttnIdeal.nD Cert.ReferenceAttnIdeal.τ).loc Cert.ReferenceAttnIdeal.main_arg10))) = (fun _ => 1#1)

def Pre_KernelAfwd (m : (ℓ : Loc Cert.KernelAfwd.nD Cert.KernelAfwd.τ Cert.KernelAfwd.sig) → Buf (Elt Bits) ℓ) : Prop :=
  True

def Pre_KernelAfwdIdeal (m : (ℓ : Loc Cert.KernelAfwdIdeal.nD Cert.KernelAfwdIdeal.τ Cert.KernelAfwdIdeal.sig) → Buf (Elt Ideal) ℓ) : Prop :=
  True

def Pre_ReferenceAfwdIdeal (m : (ℓ : Loc Cert.ReferenceAfwdIdeal.nD Cert.ReferenceAfwdIdeal.τ Cert.ReferenceAfwdIdeal.sig) → Buf (Elt Ideal) ℓ) : Prop :=
  True

def Pre_KernelConv (m : (ℓ : Loc Cert.KernelConv.nD Cert.KernelConv.τ Cert.KernelConv.sig) → Buf (Elt Bits) ℓ) : Prop :=
  True

def Pre_KernelConvIdeal (m : (ℓ : Loc Cert.KernelConvIdeal.nD Cert.KernelConvIdeal.τ Cert.KernelConvIdeal.sig) → Buf (Elt Ideal) ℓ) : Prop :=
  True

def Pre_ReferenceConvIdeal (m : (ℓ : Loc Cert.ReferenceConvIdeal.nD Cert.ReferenceConvIdeal.τ Cert.ReferenceConvIdeal.sig) → Buf (Elt Ideal) ℓ) : Prop :=
  True

def Pre_KernelMfwd (m : (ℓ : Loc Cert.KernelMfwd.nD Cert.KernelMfwd.τ Cert.KernelMfwd.sig) → Buf (Elt Bits) ℓ) : Prop :=
  True

def Pre_KernelMfwdIdeal (m : (ℓ : Loc Cert.KernelMfwdIdeal.nD Cert.KernelMfwdIdeal.τ Cert.KernelMfwdIdeal.sig) → Buf (Elt Ideal) ℓ) : Prop :=
  True

def Pre_ReferenceMfwdIdeal (m : (ℓ : Loc Cert.ReferenceMfwdIdeal.nD Cert.ReferenceMfwdIdeal.τ Cert.ReferenceMfwdIdeal.sig) → Buf (Elt Ideal) ℓ) : Prop :=
  True

def Pre_KernelFfwd (m : (ℓ : Loc Cert.KernelFfwd.nD Cert.KernelFfwd.τ Cert.KernelFfwd.sig) → Buf (Elt Bits) ℓ) : Prop :=
  True

def Pre_KernelFfwdIdeal (m : (ℓ : Loc Cert.KernelFfwdIdeal.nD Cert.KernelFfwdIdeal.τ Cert.KernelFfwdIdeal.sig) → Buf (Elt Ideal) ℓ) : Prop :=
  True

def Pre_ReferenceFfwdIdeal (m : (ℓ : Loc Cert.ReferenceFfwdIdeal.nD Cert.ReferenceFfwdIdeal.τ Cert.ReferenceFfwdIdeal.sig) → Buf (Elt Ideal) ℓ) : Prop :=
  True

def Pre_KernelNfwd (m : (ℓ : Loc Cert.KernelNfwd.nD Cert.KernelNfwd.τ Cert.KernelNfwd.sig) → Buf (Elt Bits) ℓ) : Prop :=
  True

def Pre_KernelNfwdIdeal (m : (ℓ : Loc Cert.KernelNfwdIdeal.nD Cert.KernelNfwdIdeal.τ Cert.KernelNfwdIdeal.sig) → Buf (Elt Ideal) ℓ) : Prop :=
  True

def Pre_ReferenceNfwdIdeal (m : (ℓ : Loc Cert.ReferenceNfwdIdeal.nD Cert.ReferenceNfwdIdeal.τ Cert.ReferenceNfwdIdeal.sig) → Buf (Elt Ideal) ℓ) : Prop :=
  True

def Pre_KernelWgrad (m : (ℓ : Loc Cert.KernelWgrad.nD Cert.KernelWgrad.τ Cert.KernelWgrad.sig) → Buf (Elt Bits) ℓ) : Prop :=
  True

def Pre_KernelWgradIdeal (m : (ℓ : Loc Cert.KernelWgradIdeal.nD Cert.KernelWgradIdeal.τ Cert.KernelWgradIdeal.sig) → Buf (Elt Ideal) ℓ) : Prop :=
  True

def Pre_ReferenceWgradIdeal (m : (ℓ : Loc Cert.ReferenceWgradIdeal.nD Cert.ReferenceWgradIdeal.τ Cert.ReferenceWgradIdeal.sig) → Buf (Elt Ideal) ℓ) : Prop :=
  True

def Pre_KernelAdamw (m : (ℓ : Loc Cert.KernelAdamw.nD Cert.KernelAdamw.τ Cert.KernelAdamw.sig) → Buf (Elt Bits) ℓ) : Prop :=
  True

def Pre_KernelAdamwIdeal (m : (ℓ : Loc Cert.KernelAdamwIdeal.nD Cert.KernelAdamwIdeal.τ Cert.KernelAdamwIdeal.sig) → Buf (Elt Ideal) ℓ) : Prop :=
  True

def Pre_ReferenceAdamwIdeal (m : (ℓ : Loc Cert.ReferenceAdamwIdeal.nD Cert.ReferenceAdamwIdeal.τ Cert.ReferenceAdamwIdeal.sig) → Buf (Elt Ideal) ℓ) : Prop :=
  True

def Pre_KernelSums (m : (ℓ : Loc Cert.KernelSums.nD Cert.KernelSums.τ Cert.KernelSums.sig) → Buf (Elt Bits) ℓ) : Prop :=
  True

def Pre_KernelSumsIdeal (m : (ℓ : Loc Cert.KernelSumsIdeal.nD Cert.KernelSumsIdeal.τ Cert.KernelSumsIdeal.sig) → Buf (Elt Ideal) ℓ) : Prop :=
  True

def Pre_ReferenceSumsIdeal (m : (ℓ : Loc Cert.ReferenceSumsIdeal.nD Cert.ReferenceSumsIdeal.τ Cert.ReferenceSumsIdeal.sig) → Buf (Elt Ideal) ℓ) : Prop :=
  True

def quiescent_KernelMem [hKernelMem : Cert.KernelMem.Facts] : Prop :=
  ∀ (m : (ℓ : Loc Cert.KernelMem.nD Cert.KernelMem.τ Cert.KernelMem.sig) → Buf (Elt Bits) ℓ) (g : Dev Cert.KernelMem.nD → PrngReg), Pre_KernelMem m →
    θ_run (Cert.KernelMem.defs (F := Bits)) (onTc (τ := Cert.KernelMem.τ) (Cert.KernelMem.main (F := Bits))) ⟨m, fun _ => 0, g⟩ (fun r => (∀ c : Dev Cert.KernelMem.nD,
      r.2.mem ((c.tc : Thread Cert.KernelMem.nD Cert.KernelMem.τ).loc Cert.KernelMem.main_arg0) = m ((c.tc : Thread Cert.KernelMem.nD Cert.KernelMem.τ).loc Cert.KernelMem.main_arg0)
      ∧ r.2.mem ((c.tc : Thread Cert.KernelMem.nD Cert.KernelMem.τ).loc Cert.KernelMem.main_arg1) = m ((c.tc : Thread Cert.KernelMem.nD Cert.KernelMem.τ).loc Cert.KernelMem.main_arg1)
      ∧ r.2.mem ((c.tc : Thread Cert.KernelMem.nD Cert.KernelMem.τ).loc Cert.KernelMem.main_arg2) = m ((c.tc : Thread Cert.KernelMem.nD Cert.KernelMem.τ).loc Cert.KernelMem.main_arg2)
      ∧ r.2.mem ((c.tc : Thread Cert.KernelMem.nD Cert.KernelMem.τ).loc Cert.KernelMem.main_arg3) = m ((c.tc : Thread Cert.KernelMem.nD Cert.KernelMem.τ).loc Cert.KernelMem.main_arg3)
      ∧ r.2.mem ((c.tc : Thread Cert.KernelMem.nD Cert.KernelMem.τ).loc Cert.KernelMem.main_arg4) = m ((c.tc : Thread Cert.KernelMem.nD Cert.KernelMem.τ).loc Cert.KernelMem.main_arg4)
      ∧ r.2.mem ((c.tc : Thread Cert.KernelMem.nD Cert.KernelMem.τ).loc Cert.KernelMem.main_arg5) = m ((c.tc : Thread Cert.KernelMem.nD Cert.KernelMem.τ).loc Cert.KernelMem.main_arg5))
      ∧ r.2.sem = fun _ => 0)

def quiescent_KernelMemIdeal [hKernelMemIdeal : Cert.KernelMemIdeal.Facts] : Prop :=
  ∀ (m : (ℓ : Loc Cert.KernelMemIdeal.nD Cert.KernelMemIdeal.τ Cert.KernelMemIdeal.sig) → Buf (Elt Ideal) ℓ) (g : Dev Cert.KernelMemIdeal.nD → PrngReg), Pre_KernelMemIdeal m →
    θ_run (Cert.KernelMemIdeal.defs (F := Ideal)) (onTc (τ := Cert.KernelMemIdeal.τ) (Cert.KernelMemIdeal.main (F := Ideal))) ⟨m, fun _ => 0, g⟩ (fun r => (∀ c : Dev Cert.KernelMemIdeal.nD,
      r.2.mem ((c.tc : Thread Cert.KernelMemIdeal.nD Cert.KernelMemIdeal.τ).loc Cert.KernelMemIdeal.main_arg0) = m ((c.tc : Thread Cert.KernelMemIdeal.nD Cert.KernelMemIdeal.τ).loc Cert.KernelMemIdeal.main_arg0)
      ∧ r.2.mem ((c.tc : Thread Cert.KernelMemIdeal.nD Cert.KernelMemIdeal.τ).loc Cert.KernelMemIdeal.main_arg1) = m ((c.tc : Thread Cert.KernelMemIdeal.nD Cert.KernelMemIdeal.τ).loc Cert.KernelMemIdeal.main_arg1)
      ∧ r.2.mem ((c.tc : Thread Cert.KernelMemIdeal.nD Cert.KernelMemIdeal.τ).loc Cert.KernelMemIdeal.main_arg2) = m ((c.tc : Thread Cert.KernelMemIdeal.nD Cert.KernelMemIdeal.τ).loc Cert.KernelMemIdeal.main_arg2)
      ∧ r.2.mem ((c.tc : Thread Cert.KernelMemIdeal.nD Cert.KernelMemIdeal.τ).loc Cert.KernelMemIdeal.main_arg3) = m ((c.tc : Thread Cert.KernelMemIdeal.nD Cert.KernelMemIdeal.τ).loc Cert.KernelMemIdeal.main_arg3)
      ∧ r.2.mem ((c.tc : Thread Cert.KernelMemIdeal.nD Cert.KernelMemIdeal.τ).loc Cert.KernelMemIdeal.main_arg4) = m ((c.tc : Thread Cert.KernelMemIdeal.nD Cert.KernelMemIdeal.τ).loc Cert.KernelMemIdeal.main_arg4)
      ∧ r.2.mem ((c.tc : Thread Cert.KernelMemIdeal.nD Cert.KernelMemIdeal.τ).loc Cert.KernelMemIdeal.main_arg5) = m ((c.tc : Thread Cert.KernelMemIdeal.nD Cert.KernelMemIdeal.τ).loc Cert.KernelMemIdeal.main_arg5))
      ∧ r.2.sem = fun _ => 0)

def quiescent_ReferenceMemIdeal [hReferenceMemIdeal : Cert.ReferenceMemIdeal.Facts] : Prop :=
  ∀ (m : (ℓ : Loc Cert.ReferenceMemIdeal.nD Cert.ReferenceMemIdeal.τ Cert.ReferenceMemIdeal.sig) → Buf (Elt Ideal) ℓ) (g : Dev Cert.ReferenceMemIdeal.nD → PrngReg), Pre_ReferenceMemIdeal m →
    θ_run (Cert.ReferenceMemIdeal.defs (F := Ideal)) (onTc (τ := Cert.ReferenceMemIdeal.τ) (Cert.ReferenceMemIdeal.main (F := Ideal))) ⟨m, fun _ => 0, g⟩ (fun r => (∀ c : Dev Cert.ReferenceMemIdeal.nD,
      r.2.mem ((c.tc : Thread Cert.ReferenceMemIdeal.nD Cert.ReferenceMemIdeal.τ).loc Cert.ReferenceMemIdeal.main_arg0) = m ((c.tc : Thread Cert.ReferenceMemIdeal.nD Cert.ReferenceMemIdeal.τ).loc Cert.ReferenceMemIdeal.main_arg0)
      ∧ r.2.mem ((c.tc : Thread Cert.ReferenceMemIdeal.nD Cert.ReferenceMemIdeal.τ).loc Cert.ReferenceMemIdeal.main_arg1) = m ((c.tc : Thread Cert.ReferenceMemIdeal.nD Cert.ReferenceMemIdeal.τ).loc Cert.ReferenceMemIdeal.main_arg1)
      ∧ r.2.mem ((c.tc : Thread Cert.ReferenceMemIdeal.nD Cert.ReferenceMemIdeal.τ).loc Cert.ReferenceMemIdeal.main_arg2) = m ((c.tc : Thread Cert.ReferenceMemIdeal.nD Cert.ReferenceMemIdeal.τ).loc Cert.ReferenceMemIdeal.main_arg2)
      ∧ r.2.mem ((c.tc : Thread Cert.ReferenceMemIdeal.nD Cert.ReferenceMemIdeal.τ).loc Cert.ReferenceMemIdeal.main_arg3) = m ((c.tc : Thread Cert.ReferenceMemIdeal.nD Cert.ReferenceMemIdeal.τ).loc Cert.ReferenceMemIdeal.main_arg3)
      ∧ r.2.mem ((c.tc : Thread Cert.ReferenceMemIdeal.nD Cert.ReferenceMemIdeal.τ).loc Cert.ReferenceMemIdeal.main_arg4) = m ((c.tc : Thread Cert.ReferenceMemIdeal.nD Cert.ReferenceMemIdeal.τ).loc Cert.ReferenceMemIdeal.main_arg4)
      ∧ r.2.mem ((c.tc : Thread Cert.ReferenceMemIdeal.nD Cert.ReferenceMemIdeal.τ).loc Cert.ReferenceMemIdeal.main_arg5) = m ((c.tc : Thread Cert.ReferenceMemIdeal.nD Cert.ReferenceMemIdeal.τ).loc Cert.ReferenceMemIdeal.main_arg5))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2)
      ∧ r.2.mem ((c.tc : Thread Cert.KernelIn.nD Cert.KernelIn.τ).loc Cert.KernelIn.main_arg3) = m ((c.tc : Thread Cert.KernelIn.nD Cert.KernelIn.τ).loc Cert.KernelIn.main_arg3)
      ∧ r.2.mem ((c.tc : Thread Cert.KernelIn.nD Cert.KernelIn.τ).loc Cert.KernelIn.main_arg4) = m ((c.tc : Thread Cert.KernelIn.nD Cert.KernelIn.τ).loc Cert.KernelIn.main_arg4))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
      ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
      ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2)
      ∧ r.2.mem ((c.tc : Thread Cert.ReferenceInIdeal.nD Cert.ReferenceInIdeal.τ).loc Cert.ReferenceInIdeal.main_arg3) = m ((c.tc : Thread Cert.ReferenceInIdeal.nD Cert.ReferenceInIdeal.τ).loc Cert.ReferenceInIdeal.main_arg3)
      ∧ r.2.mem ((c.tc : Thread Cert.ReferenceInIdeal.nD Cert.ReferenceInIdeal.τ).loc Cert.ReferenceInIdeal.main_arg4) = m ((c.tc : Thread Cert.ReferenceInIdeal.nD Cert.ReferenceInIdeal.τ).loc Cert.ReferenceInIdeal.main_arg4))
      ∧ r.2.sem = fun _ => 0)

def quiescent_KernelFfn [hKernelFfn : Cert.KernelFfn.Facts] : Prop :=
  ∀ (m : (ℓ : Loc Cert.KernelFfn.nD Cert.KernelFfn.τ Cert.KernelFfn.sig) → Buf (Elt Bits) ℓ) (g : Dev Cert.KernelFfn.nD → PrngReg), Pre_KernelFfn m →
    θ_run (Cert.KernelFfn.defs (F := Bits)) (onTc (τ := Cert.KernelFfn.τ) (Cert.KernelFfn.main (F := Bits))) ⟨m, fun _ => 0, g⟩ (fun r => (∀ c : Dev Cert.KernelFfn.nD,
      r.2.mem ((c.tc : Thread Cert.KernelFfn.nD Cert.KernelFfn.τ).loc Cert.KernelFfn.main_arg0) = m ((c.tc : Thread Cert.KernelFfn.nD Cert.KernelFfn.τ).loc Cert.KernelFfn.main_arg0)
      ∧ r.2.mem ((c.tc : Thread Cert.KernelFfn.nD Cert.KernelFfn.τ).loc Cert.KernelFfn.main_arg1) = m ((c.tc : Thread Cert.KernelFfn.nD Cert.KernelFfn.τ).loc Cert.KernelFfn.main_arg1)
      ∧ r.2.mem ((c.tc : Thread Cert.KernelFfn.nD Cert.KernelFfn.τ).loc Cert.KernelFfn.main_arg2) = m ((c.tc : Thread Cert.KernelFfn.nD Cert.KernelFfn.τ).loc Cert.KernelFfn.main_arg2)
      ∧ r.2.mem ((c.tc : Thread Cert.KernelFfn.nD Cert.KernelFfn.τ).loc Cert.KernelFfn.main_arg3) = m ((c.tc : Thread Cert.KernelFfn.nD Cert.KernelFfn.τ).loc Cert.KernelFfn.main_arg3)
      ∧ r.2.mem ((c.tc : Thread Cert.KernelFfn.nD Cert.KernelFfn.τ).loc Cert.KernelFfn.main_arg4) = m ((c.tc : Thread Cert.KernelFfn.nD Cert.KernelFfn.τ).loc Cert.KernelFfn.main_arg4)
      ∧ r.2.mem ((c.tc : Thread Cert.KernelFfn.nD Cert.KernelFfn.τ).loc Cert.KernelFfn.main_arg5) = m ((c.tc : Thread Cert.KernelFfn.nD Cert.KernelFfn.τ).loc Cert.KernelFfn.main_arg5)
      ∧ r.2.mem ((c.tc : Thread Cert.KernelFfn.nD Cert.KernelFfn.τ).loc Cert.KernelFfn.main_arg6) = m ((c.tc : Thread Cert.KernelFfn.nD Cert.KernelFfn.τ).loc Cert.KernelFfn.main_arg6))
      ∧ r.2.sem = fun _ => 0)

def quiescent_KernelFfnIdeal [hKernelFfnIdeal : Cert.KernelFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
      ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5)
      ∧ r.2.mem ((c.tc : Thread Cert.KernelFfnIdeal.nD Cert.KernelFfnIdeal.τ).loc Cert.KernelFfnIdeal.main_arg6) = m ((c.tc : Thread Cert.KernelFfnIdeal.nD Cert.KernelFfnIdeal.τ).loc Cert.KernelFfnIdeal.main_arg6))
      ∧ r.2.sem = fun _ => 0)

def quiescent_KernelFfnIdeal_pre_finite_ffn [hKernelFfnIdeal : Cert.KernelFfnIdeal.Facts] [hPre_finite_ffn : Cert.Pre_finite_ffn.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal_finite_ffn m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
      ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5)
      ∧ r.2.mem ((c.tc : Thread Cert.KernelFfnIdeal.nD Cert.KernelFfnIdeal.τ).loc Cert.KernelFfnIdeal.main_arg6) = m ((c.tc : Thread Cert.KernelFfnIdeal.nD Cert.KernelFfnIdeal.τ).loc Cert.KernelFfnIdeal.main_arg6))
      ∧ r.2.sem = fun _ => 0)

def quiescent_ReferenceFfnIdeal [hReferenceFfnIdeal : Cert.ReferenceFfnIdeal.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4)
      ∧ r.2.mem ((c.tc : Thread Cert.ReferenceFfnIdeal.nD Cert.ReferenceFfnIdeal.τ).loc Cert.ReferenceFfnIdeal.main_arg5) = m ((c.tc : Thread Cert.ReferenceFfnIdeal.nD Cert.ReferenceFfnIdeal.τ).loc Cert.ReferenceFfnIdeal.main_arg5)
      ∧ r.2.mem ((c.tc : Thread Cert.ReferenceFfnIdeal.nD Cert.ReferenceFfnIdeal.τ).loc Cert.ReferenceFfnIdeal.main_arg6) = m ((c.tc : Thread Cert.ReferenceFfnIdeal.nD Cert.ReferenceFfnIdeal.τ).loc Cert.ReferenceFfnIdeal.main_arg6))
      ∧ r.2.sem = fun _ => 0)

def quiescent_ReferenceFfnIdeal_pre_finite_ffn [hReferenceFfnIdeal : Cert.ReferenceFfnIdeal.Facts] [hPre_finite_ffn : Cert.Pre_finite_ffn.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal_finite_ffn m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4)
      ∧ r.2.mem ((c.tc : Thread Cert.ReferenceFfnIdeal.nD Cert.ReferenceFfnIdeal.τ).loc Cert.ReferenceFfnIdeal.main_arg5) = m ((c.tc : Thread Cert.ReferenceFfnIdeal.nD Cert.ReferenceFfnIdeal.τ).loc Cert.ReferenceFfnIdeal.main_arg5)
      ∧ r.2.mem ((c.tc : Thread Cert.ReferenceFfnIdeal.nD Cert.ReferenceFfnIdeal.τ).loc Cert.ReferenceFfnIdeal.main_arg6) = m ((c.tc : Thread Cert.ReferenceFfnIdeal.nD Cert.ReferenceFfnIdeal.τ).loc Cert.ReferenceFfnIdeal.main_arg6))
      ∧ r.2.sem = fun _ => 0)

def quiescent_KernelAttn [hKernelAttn : Cert.KernelAttn.Facts] : Prop :=
  ∀ (m : (ℓ : Loc Cert.KernelAttn.nD Cert.KernelAttn.τ Cert.KernelAttn.sig) → Buf (Elt Bits) ℓ) (g : Dev Cert.KernelAttn.nD → PrngReg), Pre_KernelAttn m →
    θ_run (Cert.KernelAttn.defs (F := Bits)) (onTc (τ := Cert.KernelAttn.τ) (Cert.KernelAttn.main (F := Bits))) ⟨m, fun _ => 0, g⟩ (fun r => (∀ c : Dev Cert.KernelAttn.nD,
      r.2.mem ((c.tc : Thread Cert.KernelAttn.nD Cert.KernelAttn.τ).loc Cert.KernelAttn.main_arg0) = m ((c.tc : Thread Cert.KernelAttn.nD Cert.KernelAttn.τ).loc Cert.KernelAttn.main_arg0)
      ∧ r.2.mem ((c.tc : Thread Cert.KernelAttn.nD Cert.KernelAttn.τ).loc Cert.KernelAttn.main_arg1) = m ((c.tc : Thread Cert.KernelAttn.nD Cert.KernelAttn.τ).loc Cert.KernelAttn.main_arg1)
      ∧ r.2.mem ((c.tc : Thread Cert.KernelAttn.nD Cert.KernelAttn.τ).loc Cert.KernelAttn.main_arg2) = m ((c.tc : Thread Cert.KernelAttn.nD Cert.KernelAttn.τ).loc Cert.KernelAttn.main_arg2)
      ∧ r.2.mem ((c.tc : Thread Cert.KernelAttn.nD Cert.KernelAttn.τ).loc Cert.KernelAttn.main_arg3) = m ((c.tc : Thread Cert.KernelAttn.nD Cert.KernelAttn.τ).loc Cert.KernelAttn.main_arg3)
      ∧ r.2.mem ((c.tc : Thread Cert.KernelAttn.nD Cert.KernelAttn.τ).loc Cert.KernelAttn.main_arg4) = m ((c.tc : Thread Cert.KernelAttn.nD Cert.KernelAttn.τ).loc Cert.KernelAttn.main_arg4)
      ∧ r.2.mem ((c.tc : Thread Cert.KernelAttn.nD Cert.KernelAttn.τ).loc Cert.KernelAttn.main_arg5) = m ((c.tc : Thread Cert.KernelAttn.nD Cert.KernelAttn.τ).loc Cert.KernelAttn.main_arg5)
      ∧ r.2.mem ((c.tc : Thread Cert.KernelAttn.nD Cert.KernelAttn.τ).loc Cert.KernelAttn.main_arg6) = m ((c.tc : Thread Cert.KernelAttn.nD Cert.KernelAttn.τ).loc Cert.KernelAttn.main_arg6)
      ∧ r.2.mem ((c.tc : Thread Cert.KernelAttn.nD Cert.KernelAttn.τ).loc Cert.KernelAttn.main_arg7) = m ((c.tc : Thread Cert.KernelAttn.nD Cert.KernelAttn.τ).loc Cert.KernelAttn.main_arg7)
      ∧ r.2.mem ((c.tc : Thread Cert.KernelAttn.nD Cert.KernelAttn.τ).loc Cert.KernelAttn.main_arg8) = m ((c.tc : Thread Cert.KernelAttn.nD Cert.KernelAttn.τ).loc Cert.KernelAttn.main_arg8)
      ∧ r.2.mem ((c.tc : Thread Cert.KernelAttn.nD Cert.KernelAttn.τ).loc Cert.KernelAttn.main_arg9) = m ((c.tc : Thread Cert.KernelAttn.nD Cert.KernelAttn.τ).loc Cert.KernelAttn.main_arg9)
      ∧ r.2.mem ((c.tc : Thread Cert.KernelAttn.nD Cert.KernelAttn.τ).loc Cert.KernelAttn.main_arg10) = m ((c.tc : Thread Cert.KernelAttn.nD Cert.KernelAttn.τ).loc Cert.KernelAttn.main_arg10))
      ∧ r.2.sem = fun _ => 0)

def quiescent_KernelAttnIdeal [hKernelAttnIdeal : Cert.KernelAttnIdeal.Facts] : Prop :=
  ∀ (m : (ℓ : Loc Cert.KernelAttnIdeal.nD Cert.KernelAttnIdeal.τ Cert.KernelAttnIdeal.sig) → Buf (Elt Ideal) ℓ) (g : Dev Cert.KernelAttnIdeal.nD → PrngReg), Pre_KernelAttnIdeal m →
    θ_run (Cert.KernelAttnIdeal.defs (F := Ideal)) (onTc (τ := Cert.KernelAttnIdeal.τ) (Cert.KernelAttnIdeal.main (F := Ideal))) ⟨m, fun _ => 0, g⟩ (fun r => (∀ c : Dev Cert.KernelAttnIdeal.nD,
      r.2.mem ((c.tc : Thread Cert.KernelAttnIdeal.nD Cert.KernelAttnIdeal.τ).loc Cert.KernelAttnIdeal.main_arg0) = m ((c.tc : Thread Cert.KernelAttnIdeal.nD Cert.KernelAttnIdeal.τ).loc Cert.KernelAttnIdeal.main_arg0)
      ∧ r.2.mem ((c.tc : Thread Cert.KernelAttnIdeal.nD Cert.KernelAttnIdeal.τ).loc Cert.KernelAttnIdeal.main_arg1) = m ((c.tc : Thread Cert.KernelAttnIdeal.nD Cert.KernelAttnIdeal.τ).loc Cert.KernelAttnIdeal.main_arg1)
      ∧ r.2.mem ((c.tc : Thread Cert.KernelAttnIdeal.nD Cert.KernelAttnIdeal.τ).loc Cert.KernelAttnIdeal.main_arg2) = m ((c.tc : Thread Cert.KernelAttnIdeal.nD Cert.KernelAttnIdeal.τ).loc Cert.KernelAttnIdeal.main_arg2)
      ∧ r.2.mem ((c.tc : Thread Cert.KernelAttnIdeal.nD Cert.KernelAttnIdeal.τ).loc Cert.KernelAttnIdeal.main_arg3) = m ((c.tc : Thread Cert.KernelAttnIdeal.nD Cert.KernelAttnIdeal.τ).loc Cert.KernelAttnIdeal.main_arg3)
      ∧ r.2.mem ((c.tc : Thread Cert.KernelAttnIdeal.nD Cert.KernelAttnIdeal.τ).loc Cert.KernelAttnIdeal.main_arg4) = m ((c.tc : Thread Cert.KernelAttnIdeal.nD Cert.KernelAttnIdeal.τ).loc Cert.KernelAttnIdeal.main_arg4)
      ∧ r.2.mem ((c.tc : Thread Cert.KernelAttnIdeal.nD Cert.KernelAttnIdeal.τ).loc Cert.KernelAttnIdeal.main_arg5) = m ((c.tc : Thread Cert.KernelAttnIdeal.nD Cert.KernelAttnIdeal.τ).loc Cert.KernelAttnIdeal.main_arg5)
      ∧ r.2.mem ((c.tc : Thread Cert.KernelAttnIdeal.nD Cert.KernelAttnIdeal.τ).loc Cert.KernelAttnIdeal.main_arg6) = m ((c.tc : Thread Cert.KernelAttnIdeal.nD Cert.KernelAttnIdeal.τ).loc Cert.KernelAttnIdeal.main_arg6)
      ∧ r.2.mem ((c.tc : Thread Cert.KernelAttnIdeal.nD Cert.KernelAttnIdeal.τ).loc Cert.KernelAttnIdeal.main_arg7) = m ((c.tc : Thread Cert.KernelAttnIdeal.nD Cert.KernelAttnIdeal.τ).loc Cert.KernelAttnIdeal.main_arg7)
      ∧ r.2.mem ((c.tc : Thread Cert.KernelAttnIdeal.nD Cert.KernelAttnIdeal.τ).loc Cert.KernelAttnIdeal.main_arg8) = m ((c.tc : Thread Cert.KernelAttnIdeal.nD Cert.KernelAttnIdeal.τ).loc Cert.KernelAttnIdeal.main_arg8)
      ∧ r.2.mem ((c.tc : Thread Cert.KernelAttnIdeal.nD Cert.KernelAttnIdeal.τ).loc Cert.KernelAttnIdeal.main_arg9) = m ((c.tc : Thread Cert.KernelAttnIdeal.nD Cert.KernelAttnIdeal.τ).loc Cert.KernelAttnIdeal.main_arg9)
      ∧ r.2.mem ((c.tc : Thread Cert.KernelAttnIdeal.nD Cert.KernelAttnIdeal.τ).loc Cert.KernelAttnIdeal.main_arg10) = m ((c.tc : Thread Cert.KernelAttnIdeal.nD Cert.KernelAttnIdeal.τ).loc Cert.KernelAttnIdeal.main_arg10))
      ∧ r.2.sem = fun _ => 0)

def quiescent_KernelAttnIdeal_pre_finite_attn [hKernelAttnIdeal : Cert.KernelAttnIdeal.Facts] [hPre_finite_attn : Cert.Pre_finite_attn.Facts] : Prop :=
  ∀ (m : (ℓ : Loc Cert.KernelAttnIdeal.nD Cert.KernelAttnIdeal.τ Cert.KernelAttnIdeal.sig) → Buf (Elt Ideal) ℓ) (g : Dev Cert.KernelAttnIdeal.nD → PrngReg), Pre_KernelAttnIdeal_finite_attn m →
    θ_run (Cert.KernelAttnIdeal.defs (F := Ideal)) (onTc (τ := Cert.KernelAttnIdeal.τ) (Cert.KernelAttnIdeal.main (F := Ideal))) ⟨m, fun _ => 0, g⟩ (fun r => (∀ c : Dev Cert.KernelAttnIdeal.nD,
      r.2.mem ((c.tc : Thread Cert.KernelAttnIdeal.nD Cert.KernelAttnIdeal.τ).loc Cert.KernelAttnIdeal.main_arg0) = m ((c.tc : Thread Cert.KernelAttnIdeal.nD Cert.KernelAttnIdeal.τ).loc Cert.KernelAttnIdeal.main_arg0)
      ∧ r.2.mem ((c.tc : Thread Cert.KernelAttnIdeal.nD Cert.KernelAttnIdeal.τ).loc Cert.KernelAttnIdeal.main_arg1) = m ((c.tc : Thread Cert.KernelAttnIdeal.nD Cert.KernelAttnIdeal.τ).loc Cert.KernelAttnIdeal.main_arg1)
      ∧ r.2.mem ((c.tc : Thread Cert.KernelAttnIdeal.nD Cert.KernelAttnIdeal.τ).loc Cert.KernelAttnIdeal.main_arg2) = m ((c.tc : Thread Cert.KernelAttnIdeal.nD Cert.KernelAttnIdeal.τ).loc Cert.KernelAttnIdeal.main_arg2)
      ∧ r.2.mem ((c.tc : Thread Cert.KernelAttnIdeal.nD Cert.KernelAttnIdeal.τ).loc Cert.KernelAttnIdeal.main_arg3) = m ((c.tc : Thread Cert.KernelAttnIdeal.nD Cert.KernelAttnIdeal.τ).loc Cert.KernelAttnIdeal.main_arg3)
      ∧ r.2.mem ((c.tc : Thread Cert.KernelAttnIdeal.nD Cert.KernelAttnIdeal.τ).loc Cert.KernelAttnIdeal.main_arg4) = m ((c.tc : Thread Cert.KernelAttnIdeal.nD Cert.KernelAttnIdeal.τ).loc Cert.KernelAttnIdeal.main_arg4)
      ∧ r.2.mem ((c.tc : Thread Cert.KernelAttnIdeal.nD Cert.KernelAttnIdeal.τ).loc Cert.KernelAttnIdeal.main_arg5) = m ((c.tc : Thread Cert.KernelAttnIdeal.nD Cert.KernelAttnIdeal.τ).loc Cert.KernelAttnIdeal.main_arg5)
      ∧ r.2.mem ((c.tc : Thread Cert.KernelAttnIdeal.nD Cert.KernelAttnIdeal.τ).loc Cert.KernelAttnIdeal.main_arg6) = m ((c.tc : Thread Cert.KernelAttnIdeal.nD Cert.KernelAttnIdeal.τ).loc Cert.KernelAttnIdeal.main_arg6)
      ∧ r.2.mem ((c.tc : Thread Cert.KernelAttnIdeal.nD Cert.KernelAttnIdeal.τ).loc Cert.KernelAttnIdeal.main_arg7) = m ((c.tc : Thread Cert.KernelAttnIdeal.nD Cert.KernelAttnIdeal.τ).loc Cert.KernelAttnIdeal.main_arg7)
      ∧ r.2.mem ((c.tc : Thread Cert.KernelAttnIdeal.nD Cert.KernelAttnIdeal.τ).loc Cert.KernelAttnIdeal.main_arg8) = m ((c.tc : Thread Cert.KernelAttnIdeal.nD Cert.KernelAttnIdeal.τ).loc Cert.KernelAttnIdeal.main_arg8)
      ∧ r.2.mem ((c.tc : Thread Cert.KernelAttnIdeal.nD Cert.KernelAttnIdeal.τ).loc Cert.KernelAttnIdeal.main_arg9) = m ((c.tc : Thread Cert.KernelAttnIdeal.nD Cert.KernelAttnIdeal.τ).loc Cert.KernelAttnIdeal.main_arg9)
      ∧ r.2.mem ((c.tc : Thread Cert.KernelAttnIdeal.nD Cert.KernelAttnIdeal.τ).loc Cert.KernelAttnIdeal.main_arg10) = m ((c.tc : Thread Cert.KernelAttnIdeal.nD Cert.KernelAttnIdeal.τ).loc Cert.KernelAttnIdeal.main_arg10))
      ∧ r.2.sem = fun _ => 0)

def quiescent_ReferenceAttnIdeal [hReferenceAttnIdeal : Cert.ReferenceAttnIdeal.Facts] : Prop :=
  ∀ (m : (ℓ : Loc Cert.ReferenceAttnIdeal.nD Cert.ReferenceAttnIdeal.τ Cert.ReferenceAttnIdeal.sig) → Buf (Elt Ideal) ℓ) (g : Dev Cert.ReferenceAttnIdeal.nD → PrngReg), Pre_ReferenceAttnIdeal m →
    θ_run (Cert.ReferenceAttnIdeal.defs (F := Ideal)) (onTc (τ := Cert.ReferenceAttnIdeal.τ) (Cert.ReferenceAttnIdeal.main (F := Ideal))) ⟨m, fun _ => 0, g⟩ (fun r => (∀ c : Dev Cert.ReferenceAttnIdeal.nD,
      r.2.mem ((c.tc : Thread Cert.ReferenceAttnIdeal.nD Cert.ReferenceAttnIdeal.τ).loc Cert.ReferenceAttnIdeal.main_arg0) = m ((c.tc : Thread Cert.ReferenceAttnIdeal.nD Cert.ReferenceAttnIdeal.τ).loc Cert.ReferenceAttnIdeal.main_arg0)
      ∧ r.2.mem ((c.tc : Thread Cert.ReferenceAttnIdeal.nD Cert.ReferenceAttnIdeal.τ).loc Cert.ReferenceAttnIdeal.main_arg1) = m ((c.tc : Thread Cert.ReferenceAttnIdeal.nD Cert.ReferenceAttnIdeal.τ).loc Cert.ReferenceAttnIdeal.main_arg1)
      ∧ r.2.mem ((c.tc : Thread Cert.ReferenceAttnIdeal.nD Cert.ReferenceAttnIdeal.τ).loc Cert.ReferenceAttnIdeal.main_arg2) = m ((c.tc : Thread Cert.ReferenceAttnIdeal.nD Cert.ReferenceAttnIdeal.τ).loc Cert.ReferenceAttnIdeal.main_arg2)
      ∧ r.2.mem ((c.tc : Thread Cert.ReferenceAttnIdeal.nD Cert.ReferenceAttnIdeal.τ).loc Cert.ReferenceAttnIdeal.main_arg3) = m ((c.tc : Thread Cert.ReferenceAttnIdeal.nD Cert.ReferenceAttnIdeal.τ).loc Cert.ReferenceAttnIdeal.main_arg3)
      ∧ r.2.mem ((c.tc : Thread Cert.ReferenceAttnIdeal.nD Cert.ReferenceAttnIdeal.τ).loc Cert.ReferenceAttnIdeal.main_arg4) = m ((c.tc : Thread Cert.ReferenceAttnIdeal.nD Cert.ReferenceAttnIdeal.τ).loc Cert.ReferenceAttnIdeal.main_arg4)
      ∧ r.2.mem ((c.tc : Thread Cert.ReferenceAttnIdeal.nD Cert.ReferenceAttnIdeal.τ).loc Cert.ReferenceAttnIdeal.main_arg5) = m ((c.tc : Thread Cert.ReferenceAttnIdeal.nD Cert.ReferenceAttnIdeal.τ).loc Cert.ReferenceAttnIdeal.main_arg5)
      ∧ r.2.mem ((c.tc : Thread Cert.ReferenceAttnIdeal.nD Cert.ReferenceAttnIdeal.τ).loc Cert.ReferenceAttnIdeal.main_arg6) = m ((c.tc : Thread Cert.ReferenceAttnIdeal.nD Cert.ReferenceAttnIdeal.τ).loc Cert.ReferenceAttnIdeal.main_arg6)
      ∧ r.2.mem ((c.tc : Thread Cert.ReferenceAttnIdeal.nD Cert.ReferenceAttnIdeal.τ).loc Cert.ReferenceAttnIdeal.main_arg7) = m ((c.tc : Thread Cert.ReferenceAttnIdeal.nD Cert.ReferenceAttnIdeal.τ).loc Cert.ReferenceAttnIdeal.main_arg7)
      ∧ r.2.mem ((c.tc : Thread Cert.ReferenceAttnIdeal.nD Cert.ReferenceAttnIdeal.τ).loc Cert.ReferenceAttnIdeal.main_arg8) = m ((c.tc : Thread Cert.ReferenceAttnIdeal.nD Cert.ReferenceAttnIdeal.τ).loc Cert.ReferenceAttnIdeal.main_arg8)
      ∧ r.2.mem ((c.tc : Thread Cert.ReferenceAttnIdeal.nD Cert.ReferenceAttnIdeal.τ).loc Cert.ReferenceAttnIdeal.main_arg9) = m ((c.tc : Thread Cert.ReferenceAttnIdeal.nD Cert.ReferenceAttnIdeal.τ).loc Cert.ReferenceAttnIdeal.main_arg9)
      ∧ r.2.mem ((c.tc : Thread Cert.ReferenceAttnIdeal.nD Cert.ReferenceAttnIdeal.τ).loc Cert.ReferenceAttnIdeal.main_arg10) = m ((c.tc : Thread Cert.ReferenceAttnIdeal.nD Cert.ReferenceAttnIdeal.τ).loc Cert.ReferenceAttnIdeal.main_arg10))
      ∧ r.2.sem = fun _ => 0)

def quiescent_ReferenceAttnIdeal_pre_finite_attn [hReferenceAttnIdeal : Cert.ReferenceAttnIdeal.Facts] [hPre_finite_attn : Cert.Pre_finite_attn.Facts] : Prop :=
  ∀ (m : (ℓ : Loc Cert.ReferenceAttnIdeal.nD Cert.ReferenceAttnIdeal.τ Cert.ReferenceAttnIdeal.sig) → Buf (Elt Ideal) ℓ) (g : Dev Cert.ReferenceAttnIdeal.nD → PrngReg), Pre_ReferenceAttnIdeal_finite_attn m →
    θ_run (Cert.ReferenceAttnIdeal.defs (F := Ideal)) (onTc (τ := Cert.ReferenceAttnIdeal.τ) (Cert.ReferenceAttnIdeal.main (F := Ideal))) ⟨m, fun _ => 0, g⟩ (fun r => (∀ c : Dev Cert.ReferenceAttnIdeal.nD,
      r.2.mem ((c.tc : Thread Cert.ReferenceAttnIdeal.nD Cert.ReferenceAttnIdeal.τ).loc Cert.ReferenceAttnIdeal.main_arg0) = m ((c.tc : Thread Cert.ReferenceAttnIdeal.nD Cert.ReferenceAttnIdeal.τ).loc Cert.ReferenceAttnIdeal.main_arg0)
      ∧ r.2.mem ((c.tc : Thread Cert.ReferenceAttnIdeal.nD Cert.ReferenceAttnIdeal.τ).loc Cert.ReferenceAttnIdeal.main_arg1) = m ((c.tc : Thread Cert.ReferenceAttnIdeal.nD Cert.ReferenceAttnIdeal.τ).loc Cert.ReferenceAttnIdeal.main_arg1)
      ∧ r.2.mem ((c.tc : Thread Cert.ReferenceAttnIdeal.nD Cert.ReferenceAttnIdeal.τ).loc Cert.ReferenceAttnIdeal.main_arg2) = m ((c.tc : Thread Cert.ReferenceAttnIdeal.nD Cert.ReferenceAttnIdeal.τ).loc Cert.ReferenceAttnIdeal.main_arg2)
      ∧ r.2.mem ((c.tc : Thread Cert.ReferenceAttnIdeal.nD Cert.ReferenceAttnIdeal.τ).loc Cert.ReferenceAttnIdeal.main_arg3) = m ((c.tc : Thread Cert.ReferenceAttnIdeal.nD Cert.ReferenceAttnIdeal.τ).loc Cert.ReferenceAttnIdeal.main_arg3)
      ∧ r.2.mem ((c.tc : Thread Cert.ReferenceAttnIdeal.nD Cert.ReferenceAttnIdeal.τ).loc Cert.ReferenceAttnIdeal.main_arg4) = m ((c.tc : Thread Cert.ReferenceAttnIdeal.nD Cert.ReferenceAttnIdeal.τ).loc Cert.ReferenceAttnIdeal.main_arg4)
      ∧ r.2.mem ((c.tc : Thread Cert.ReferenceAttnIdeal.nD Cert.ReferenceAttnIdeal.τ).loc Cert.ReferenceAttnIdeal.main_arg5) = m ((c.tc : Thread Cert.ReferenceAttnIdeal.nD Cert.ReferenceAttnIdeal.τ).loc Cert.ReferenceAttnIdeal.main_arg5)
      ∧ r.2.mem ((c.tc : Thread Cert.ReferenceAttnIdeal.nD Cert.ReferenceAttnIdeal.τ).loc Cert.ReferenceAttnIdeal.main_arg6) = m ((c.tc : Thread Cert.ReferenceAttnIdeal.nD Cert.ReferenceAttnIdeal.τ).loc Cert.ReferenceAttnIdeal.main_arg6)
      ∧ r.2.mem ((c.tc : Thread Cert.ReferenceAttnIdeal.nD Cert.ReferenceAttnIdeal.τ).loc Cert.ReferenceAttnIdeal.main_arg7) = m ((c.tc : Thread Cert.ReferenceAttnIdeal.nD Cert.ReferenceAttnIdeal.τ).loc Cert.ReferenceAttnIdeal.main_arg7)
      ∧ r.2.mem ((c.tc : Thread Cert.ReferenceAttnIdeal.nD Cert.ReferenceAttnIdeal.τ).loc Cert.ReferenceAttnIdeal.main_arg8) = m ((c.tc : Thread Cert.ReferenceAttnIdeal.nD Cert.ReferenceAttnIdeal.τ).loc Cert.ReferenceAttnIdeal.main_arg8)
      ∧ r.2.mem ((c.tc : Thread Cert.ReferenceAttnIdeal.nD Cert.ReferenceAttnIdeal.τ).loc Cert.ReferenceAttnIdeal.main_arg9) = m ((c.tc : Thread Cert.ReferenceAttnIdeal.nD Cert.ReferenceAttnIdeal.τ).loc Cert.ReferenceAttnIdeal.main_arg9)
      ∧ r.2.mem ((c.tc : Thread Cert.ReferenceAttnIdeal.nD Cert.ReferenceAttnIdeal.τ).loc Cert.ReferenceAttnIdeal.main_arg10) = m ((c.tc : Thread Cert.ReferenceAttnIdeal.nD Cert.ReferenceAttnIdeal.τ).loc Cert.ReferenceAttnIdeal.main_arg10))
      ∧ r.2.sem = fun _ => 0)

def quiescent_KernelAfwd [hKernelAfwd : Cert.KernelAfwd.Facts] : Prop :=
  ∀ (m : (ℓ : Loc Cert.KernelAfwd.nD Cert.KernelAfwd.τ Cert.KernelAfwd.sig) → Buf (Elt Bits) ℓ) (g : Dev Cert.KernelAfwd.nD → PrngReg), Pre_KernelAfwd m →
    θ_run (Cert.KernelAfwd.defs (F := Bits)) (onTc (τ := Cert.KernelAfwd.τ) (Cert.KernelAfwd.main (F := Bits))) ⟨m, fun _ => 0, g⟩ (fun r => (∀ c : Dev Cert.KernelAfwd.nD,
      r.2.mem ((c.tc : Thread Cert.KernelAfwd.nD Cert.KernelAfwd.τ).loc Cert.KernelAfwd.main_arg0) = m ((c.tc : Thread Cert.KernelAfwd.nD Cert.KernelAfwd.τ).loc Cert.KernelAfwd.main_arg0)
      ∧ r.2.mem ((c.tc : Thread Cert.KernelAfwd.nD Cert.KernelAfwd.τ).loc Cert.KernelAfwd.main_arg1) = m ((c.tc : Thread Cert.KernelAfwd.nD Cert.KernelAfwd.τ).loc Cert.KernelAfwd.main_arg1)
      ∧ r.2.mem ((c.tc : Thread Cert.KernelAfwd.nD Cert.KernelAfwd.τ).loc Cert.KernelAfwd.main_arg2) = m ((c.tc : Thread Cert.KernelAfwd.nD Cert.KernelAfwd.τ).loc Cert.KernelAfwd.main_arg2)
      ∧ r.2.mem ((c.tc : Thread Cert.KernelAfwd.nD Cert.KernelAfwd.τ).loc Cert.KernelAfwd.main_arg3) = m ((c.tc : Thread Cert.KernelAfwd.nD Cert.KernelAfwd.τ).loc Cert.KernelAfwd.main_arg3)
      ∧ r.2.mem ((c.tc : Thread Cert.KernelAfwd.nD Cert.KernelAfwd.τ).loc Cert.KernelAfwd.main_arg4) = m ((c.tc : Thread Cert.KernelAfwd.nD Cert.KernelAfwd.τ).loc Cert.KernelAfwd.main_arg4)
      ∧ r.2.mem ((c.tc : Thread Cert.KernelAfwd.nD Cert.KernelAfwd.τ).loc Cert.KernelAfwd.main_arg5) = m ((c.tc : Thread Cert.KernelAfwd.nD Cert.KernelAfwd.τ).loc Cert.KernelAfwd.main_arg5)
      ∧ r.2.mem ((c.tc : Thread Cert.KernelAfwd.nD Cert.KernelAfwd.τ).loc Cert.KernelAfwd.main_arg6) = m ((c.tc : Thread Cert.KernelAfwd.nD Cert.KernelAfwd.τ).loc Cert.KernelAfwd.main_arg6))
      ∧ r.2.sem = fun _ => 0)

def quiescent_KernelAfwdIdeal [hKernelAfwdIdeal : Cert.KernelAfwdIdeal.Facts] : Prop :=
  ∀ (m : (ℓ : Loc Cert.KernelAfwdIdeal.nD Cert.KernelAfwdIdeal.τ Cert.KernelAfwdIdeal.sig) → Buf (Elt Ideal) ℓ) (g : Dev Cert.KernelAfwdIdeal.nD → PrngReg), Pre_KernelAfwdIdeal m →
    θ_run (Cert.KernelAfwdIdeal.defs (F := Ideal)) (onTc (τ := Cert.KernelAfwdIdeal.τ) (Cert.KernelAfwdIdeal.main (F := Ideal))) ⟨m, fun _ => 0, g⟩ (fun r => (∀ c : Dev Cert.KernelAfwdIdeal.nD,
      r.2.mem ((c.tc : Thread Cert.KernelAfwdIdeal.nD Cert.KernelAfwdIdeal.τ).loc Cert.KernelAfwdIdeal.main_arg0) = m ((c.tc : Thread Cert.KernelAfwdIdeal.nD Cert.KernelAfwdIdeal.τ).loc Cert.KernelAfwdIdeal.main_arg0)
      ∧ r.2.mem ((c.tc : Thread Cert.KernelAfwdIdeal.nD Cert.KernelAfwdIdeal.τ).loc Cert.KernelAfwdIdeal.main_arg1) = m ((c.tc : Thread Cert.KernelAfwdIdeal.nD Cert.KernelAfwdIdeal.τ).loc Cert.KernelAfwdIdeal.main_arg1)
      ∧ r.2.mem ((c.tc : Thread Cert.KernelAfwdIdeal.nD Cert.KernelAfwdIdeal.τ).loc Cert.KernelAfwdIdeal.main_arg2) = m ((c.tc : Thread Cert.KernelAfwdIdeal.nD Cert.KernelAfwdIdeal.τ).loc Cert.KernelAfwdIdeal.main_arg2)
      ∧ r.2.mem ((c.tc : Thread Cert.KernelAfwdIdeal.nD Cert.KernelAfwdIdeal.τ).loc Cert.KernelAfwdIdeal.main_arg3) = m ((c.tc : Thread Cert.KernelAfwdIdeal.nD Cert.KernelAfwdIdeal.τ).loc Cert.KernelAfwdIdeal.main_arg3)
      ∧ r.2.mem ((c.tc : Thread Cert.KernelAfwdIdeal.nD Cert.KernelAfwdIdeal.τ).loc Cert.KernelAfwdIdeal.main_arg4) = m ((c.tc : Thread Cert.KernelAfwdIdeal.nD Cert.KernelAfwdIdeal.τ).loc Cert.KernelAfwdIdeal.main_arg4)
      ∧ r.2.mem ((c.tc : Thread Cert.KernelAfwdIdeal.nD Cert.KernelAfwdIdeal.τ).loc Cert.KernelAfwdIdeal.main_arg5) = m ((c.tc : Thread Cert.KernelAfwdIdeal.nD Cert.KernelAfwdIdeal.τ).loc Cert.KernelAfwdIdeal.main_arg5)
      ∧ r.2.mem ((c.tc : Thread Cert.KernelAfwdIdeal.nD Cert.KernelAfwdIdeal.τ).loc Cert.KernelAfwdIdeal.main_arg6) = m ((c.tc : Thread Cert.KernelAfwdIdeal.nD Cert.KernelAfwdIdeal.τ).loc Cert.KernelAfwdIdeal.main_arg6))
      ∧ r.2.sem = fun _ => 0)

def quiescent_ReferenceAfwdIdeal [hReferenceAfwdIdeal : Cert.ReferenceAfwdIdeal.Facts] : Prop :=
  ∀ (m : (ℓ : Loc Cert.ReferenceAfwdIdeal.nD Cert.ReferenceAfwdIdeal.τ Cert.ReferenceAfwdIdeal.sig) → Buf (Elt Ideal) ℓ) (g : Dev Cert.ReferenceAfwdIdeal.nD → PrngReg), Pre_ReferenceAfwdIdeal m →
    θ_run (Cert.ReferenceAfwdIdeal.defs (F := Ideal)) (onTc (τ := Cert.ReferenceAfwdIdeal.τ) (Cert.ReferenceAfwdIdeal.main (F := Ideal))) ⟨m, fun _ => 0, g⟩ (fun r => (∀ c : Dev Cert.ReferenceAfwdIdeal.nD,
      r.2.mem ((c.tc : Thread Cert.ReferenceAfwdIdeal.nD Cert.ReferenceAfwdIdeal.τ).loc Cert.ReferenceAfwdIdeal.main_arg0) = m ((c.tc : Thread Cert.ReferenceAfwdIdeal.nD Cert.ReferenceAfwdIdeal.τ).loc Cert.ReferenceAfwdIdeal.main_arg0)
      ∧ r.2.mem ((c.tc : Thread Cert.ReferenceAfwdIdeal.nD Cert.ReferenceAfwdIdeal.τ).loc Cert.ReferenceAfwdIdeal.main_arg1) = m ((c.tc : Thread Cert.ReferenceAfwdIdeal.nD Cert.ReferenceAfwdIdeal.τ).loc Cert.ReferenceAfwdIdeal.main_arg1)
      ∧ r.2.mem ((c.tc : Thread Cert.ReferenceAfwdIdeal.nD Cert.ReferenceAfwdIdeal.τ).loc Cert.ReferenceAfwdIdeal.main_arg2) = m ((c.tc : Thread Cert.ReferenceAfwdIdeal.nD Cert.ReferenceAfwdIdeal.τ).loc Cert.ReferenceAfwdIdeal.main_arg2)
      ∧ r.2.mem ((c.tc : Thread Cert.ReferenceAfwdIdeal.nD Cert.ReferenceAfwdIdeal.τ).loc Cert.ReferenceAfwdIdeal.main_arg3) = m ((c.tc : Thread Cert.ReferenceAfwdIdeal.nD Cert.ReferenceAfwdIdeal.τ).loc Cert.ReferenceAfwdIdeal.main_arg3)
      ∧ r.2.mem ((c.tc : Thread Cert.ReferenceAfwdIdeal.nD Cert.ReferenceAfwdIdeal.τ).loc Cert.ReferenceAfwdIdeal.main_arg4) = m ((c.tc : Thread Cert.ReferenceAfwdIdeal.nD Cert.ReferenceAfwdIdeal.τ).loc Cert.ReferenceAfwdIdeal.main_arg4)
      ∧ r.2.mem ((c.tc : Thread Cert.ReferenceAfwdIdeal.nD Cert.ReferenceAfwdIdeal.τ).loc Cert.ReferenceAfwdIdeal.main_arg5) = m ((c.tc : Thread Cert.ReferenceAfwdIdeal.nD Cert.ReferenceAfwdIdeal.τ).loc Cert.ReferenceAfwdIdeal.main_arg5)
      ∧ r.2.mem ((c.tc : Thread Cert.ReferenceAfwdIdeal.nD Cert.ReferenceAfwdIdeal.τ).loc Cert.ReferenceAfwdIdeal.main_arg6) = m ((c.tc : Thread Cert.ReferenceAfwdIdeal.nD Cert.ReferenceAfwdIdeal.τ).loc Cert.ReferenceAfwdIdeal.main_arg6))
      ∧ r.2.sem = fun _ => 0)

def quiescent_KernelConv [hKernelConv : Cert.KernelConv.Facts] : Prop :=
  ∀ (m : (ℓ : Loc Cert.KernelConv.nD Cert.KernelConv.τ Cert.KernelConv.sig) → Buf (Elt Bits) ℓ) (g : Dev Cert.KernelConv.nD → PrngReg), Pre_KernelConv m →
    θ_run (Cert.KernelConv.defs (F := Bits)) (onTc (τ := Cert.KernelConv.τ) (Cert.KernelConv.main (F := Bits))) ⟨m, fun _ => 0, g⟩ (fun r => (∀ c : Dev Cert.KernelConv.nD,
      r.2.mem ((c.tc : Thread Cert.KernelConv.nD Cert.KernelConv.τ).loc Cert.KernelConv.main_arg0) = m ((c.tc : Thread Cert.KernelConv.nD Cert.KernelConv.τ).loc Cert.KernelConv.main_arg0)
      ∧ r.2.mem ((c.tc : Thread Cert.KernelConv.nD Cert.KernelConv.τ).loc Cert.KernelConv.main_arg1) = m ((c.tc : Thread Cert.KernelConv.nD Cert.KernelConv.τ).loc Cert.KernelConv.main_arg1)
      ∧ r.2.mem ((c.tc : Thread Cert.KernelConv.nD Cert.KernelConv.τ).loc Cert.KernelConv.main_arg2) = m ((c.tc : Thread Cert.KernelConv.nD Cert.KernelConv.τ).loc Cert.KernelConv.main_arg2)
      ∧ r.2.mem ((c.tc : Thread Cert.KernelConv.nD Cert.KernelConv.τ).loc Cert.KernelConv.main_arg3) = m ((c.tc : Thread Cert.KernelConv.nD Cert.KernelConv.τ).loc Cert.KernelConv.main_arg3)
      ∧ r.2.mem ((c.tc : Thread Cert.KernelConv.nD Cert.KernelConv.τ).loc Cert.KernelConv.main_arg4) = m ((c.tc : Thread Cert.KernelConv.nD Cert.KernelConv.τ).loc Cert.KernelConv.main_arg4)
      ∧ r.2.mem ((c.tc : Thread Cert.KernelConv.nD Cert.KernelConv.τ).loc Cert.KernelConv.main_arg5) = m ((c.tc : Thread Cert.KernelConv.nD Cert.KernelConv.τ).loc Cert.KernelConv.main_arg5)
      ∧ r.2.mem ((c.tc : Thread Cert.KernelConv.nD Cert.KernelConv.τ).loc Cert.KernelConv.main_arg6) = m ((c.tc : Thread Cert.KernelConv.nD Cert.KernelConv.τ).loc Cert.KernelConv.main_arg6))
      ∧ r.2.sem = fun _ => 0)

def quiescent_KernelConvIdeal [hKernelConvIdeal : Cert.KernelConvIdeal.Facts] : Prop :=
  ∀ (m : (ℓ : Loc Cert.KernelConvIdeal.nD Cert.KernelConvIdeal.τ Cert.KernelConvIdeal.sig) → Buf (Elt Ideal) ℓ) (g : Dev Cert.KernelConvIdeal.nD → PrngReg), Pre_KernelConvIdeal m →
    θ_run (Cert.KernelConvIdeal.defs (F := Ideal)) (onTc (τ := Cert.KernelConvIdeal.τ) (Cert.KernelConvIdeal.main (F := Ideal))) ⟨m, fun _ => 0, g⟩ (fun r => (∀ c : Dev Cert.KernelConvIdeal.nD,
      r.2.mem ((c.tc : Thread Cert.KernelConvIdeal.nD Cert.KernelConvIdeal.τ).loc Cert.KernelConvIdeal.main_arg0) = m ((c.tc : Thread Cert.KernelConvIdeal.nD Cert.KernelConvIdeal.τ).loc Cert.KernelConvIdeal.main_arg0)
      ∧ r.2.mem ((c.tc : Thread Cert.KernelConvIdeal.nD Cert.KernelConvIdeal.τ).loc Cert.KernelConvIdeal.main_arg1) = m ((c.tc : Thread Cert.KernelConvIdeal.nD Cert.KernelConvIdeal.τ).loc Cert.KernelConvIdeal.main_arg1)
      ∧ r.2.mem ((c.tc : Thread Cert.KernelConvIdeal.nD Cert.KernelConvIdeal.τ).loc Cert.KernelConvIdeal.main_arg2) = m ((c.tc : Thread Cert.KernelConvIdeal.nD Cert.KernelConvIdeal.τ).loc Cert.KernelConvIdeal.main_arg2)
      ∧ r.2.mem ((c.tc : Thread Cert.KernelConvIdeal.nD Cert.KernelConvIdeal.τ).loc Cert.KernelConvIdeal.main_arg3) = m ((c.tc : Thread Cert.KernelConvIdeal.nD Cert.KernelConvIdeal.τ).loc Cert.KernelConvIdeal.main_arg3)
      ∧ r.2.mem ((c.tc : Thread Cert.KernelConvIdeal.nD Cert.KernelConvIdeal.τ).loc Cert.KernelConvIdeal.main_arg4) = m ((c.tc : Thread Cert.KernelConvIdeal.nD Cert.KernelConvIdeal.τ).loc Cert.KernelConvIdeal.main_arg4)
      ∧ r.2.mem ((c.tc : Thread Cert.KernelConvIdeal.nD Cert.KernelConvIdeal.τ).loc Cert.KernelConvIdeal.main_arg5) = m ((c.tc : Thread Cert.KernelConvIdeal.nD Cert.KernelConvIdeal.τ).loc Cert.KernelConvIdeal.main_arg5)
      ∧ r.2.mem ((c.tc : Thread Cert.KernelConvIdeal.nD Cert.KernelConvIdeal.τ).loc Cert.KernelConvIdeal.main_arg6) = m ((c.tc : Thread Cert.KernelConvIdeal.nD Cert.KernelConvIdeal.τ).loc Cert.KernelConvIdeal.main_arg6))
      ∧ r.2.sem = fun _ => 0)

def quiescent_ReferenceConvIdeal [hReferenceConvIdeal : Cert.ReferenceConvIdeal.Facts] : Prop :=
  ∀ (m : (ℓ : Loc Cert.ReferenceConvIdeal.nD Cert.ReferenceConvIdeal.τ Cert.ReferenceConvIdeal.sig) → Buf (Elt Ideal) ℓ) (g : Dev Cert.ReferenceConvIdeal.nD → PrngReg), Pre_ReferenceConvIdeal m →
    θ_run (Cert.ReferenceConvIdeal.defs (F := Ideal)) (onTc (τ := Cert.ReferenceConvIdeal.τ) (Cert.ReferenceConvIdeal.main (F := Ideal))) ⟨m, fun _ => 0, g⟩ (fun r => (∀ c : Dev Cert.ReferenceConvIdeal.nD,
      r.2.mem ((c.tc : Thread Cert.ReferenceConvIdeal.nD Cert.ReferenceConvIdeal.τ).loc Cert.ReferenceConvIdeal.main_arg0) = m ((c.tc : Thread Cert.ReferenceConvIdeal.nD Cert.ReferenceConvIdeal.τ).loc Cert.ReferenceConvIdeal.main_arg0)
      ∧ r.2.mem ((c.tc : Thread Cert.ReferenceConvIdeal.nD Cert.ReferenceConvIdeal.τ).loc Cert.ReferenceConvIdeal.main_arg1) = m ((c.tc : Thread Cert.ReferenceConvIdeal.nD Cert.ReferenceConvIdeal.τ).loc Cert.ReferenceConvIdeal.main_arg1)
      ∧ r.2.mem ((c.tc : Thread Cert.ReferenceConvIdeal.nD Cert.ReferenceConvIdeal.τ).loc Cert.ReferenceConvIdeal.main_arg2) = m ((c.tc : Thread Cert.ReferenceConvIdeal.nD Cert.ReferenceConvIdeal.τ).loc Cert.ReferenceConvIdeal.main_arg2)
      ∧ r.2.mem ((c.tc : Thread Cert.ReferenceConvIdeal.nD Cert.ReferenceConvIdeal.τ).loc Cert.ReferenceConvIdeal.main_arg3) = m ((c.tc : Thread Cert.ReferenceConvIdeal.nD Cert.ReferenceConvIdeal.τ).loc Cert.ReferenceConvIdeal.main_arg3)
      ∧ r.2.mem ((c.tc : Thread Cert.ReferenceConvIdeal.nD Cert.ReferenceConvIdeal.τ).loc Cert.ReferenceConvIdeal.main_arg4) = m ((c.tc : Thread Cert.ReferenceConvIdeal.nD Cert.ReferenceConvIdeal.τ).loc Cert.ReferenceConvIdeal.main_arg4)
      ∧ r.2.mem ((c.tc : Thread Cert.ReferenceConvIdeal.nD Cert.ReferenceConvIdeal.τ).loc Cert.ReferenceConvIdeal.main_arg5) = m ((c.tc : Thread Cert.ReferenceConvIdeal.nD Cert.ReferenceConvIdeal.τ).loc Cert.ReferenceConvIdeal.main_arg5)
      ∧ r.2.mem ((c.tc : Thread Cert.ReferenceConvIdeal.nD Cert.ReferenceConvIdeal.τ).loc Cert.ReferenceConvIdeal.main_arg6) = m ((c.tc : Thread Cert.ReferenceConvIdeal.nD Cert.ReferenceConvIdeal.τ).loc Cert.ReferenceConvIdeal.main_arg6))
      ∧ r.2.sem = fun _ => 0)

def quiescent_KernelMfwd [hKernelMfwd : Cert.KernelMfwd.Facts] : Prop :=
  ∀ (m : (ℓ : Loc Cert.KernelMfwd.nD Cert.KernelMfwd.τ Cert.KernelMfwd.sig) → Buf (Elt Bits) ℓ) (g : Dev Cert.KernelMfwd.nD → PrngReg), Pre_KernelMfwd m →
    θ_run (Cert.KernelMfwd.defs (F := Bits)) (onTc (τ := Cert.KernelMfwd.τ) (Cert.KernelMfwd.main (F := Bits))) ⟨m, fun _ => 0, g⟩ (fun r => (∀ c : Dev Cert.KernelMfwd.nD,
      r.2.mem ((c.tc : Thread Cert.KernelMfwd.nD Cert.KernelMfwd.τ).loc Cert.KernelMfwd.main_arg0) = m ((c.tc : Thread Cert.KernelMfwd.nD Cert.KernelMfwd.τ).loc Cert.KernelMfwd.main_arg0)
      ∧ r.2.mem ((c.tc : Thread Cert.KernelMfwd.nD Cert.KernelMfwd.τ).loc Cert.KernelMfwd.main_arg1) = m ((c.tc : Thread Cert.KernelMfwd.nD Cert.KernelMfwd.τ).loc Cert.KernelMfwd.main_arg1)
      ∧ r.2.mem ((c.tc : Thread Cert.KernelMfwd.nD Cert.KernelMfwd.τ).loc Cert.KernelMfwd.main_arg2) = m ((c.tc : Thread Cert.KernelMfwd.nD Cert.KernelMfwd.τ).loc Cert.KernelMfwd.main_arg2)
      ∧ r.2.mem ((c.tc : Thread Cert.KernelMfwd.nD Cert.KernelMfwd.τ).loc Cert.KernelMfwd.main_arg3) = m ((c.tc : Thread Cert.KernelMfwd.nD Cert.KernelMfwd.τ).loc Cert.KernelMfwd.main_arg3))
      ∧ r.2.sem = fun _ => 0)

def quiescent_KernelMfwdIdeal [hKernelMfwdIdeal : Cert.KernelMfwdIdeal.Facts] : Prop :=
  ∀ (m : (ℓ : Loc Cert.KernelMfwdIdeal.nD Cert.KernelMfwdIdeal.τ Cert.KernelMfwdIdeal.sig) → Buf (Elt Ideal) ℓ) (g : Dev Cert.KernelMfwdIdeal.nD → PrngReg), Pre_KernelMfwdIdeal m →
    θ_run (Cert.KernelMfwdIdeal.defs (F := Ideal)) (onTc (τ := Cert.KernelMfwdIdeal.τ) (Cert.KernelMfwdIdeal.main (F := Ideal))) ⟨m, fun _ => 0, g⟩ (fun r => (∀ c : Dev Cert.KernelMfwdIdeal.nD,
      r.2.mem ((c.tc : Thread Cert.KernelMfwdIdeal.nD Cert.KernelMfwdIdeal.τ).loc Cert.KernelMfwdIdeal.main_arg0) = m ((c.tc : Thread Cert.KernelMfwdIdeal.nD Cert.KernelMfwdIdeal.τ).loc Cert.KernelMfwdIdeal.main_arg0)
      ∧ r.2.mem ((c.tc : Thread Cert.KernelMfwdIdeal.nD Cert.KernelMfwdIdeal.τ).loc Cert.KernelMfwdIdeal.main_arg1) = m ((c.tc : Thread Cert.KernelMfwdIdeal.nD Cert.KernelMfwdIdeal.τ).loc Cert.KernelMfwdIdeal.main_arg1)
      ∧ r.2.mem ((c.tc : Thread Cert.KernelMfwdIdeal.nD Cert.KernelMfwdIdeal.τ).loc Cert.KernelMfwdIdeal.main_arg2) = m ((c.tc : Thread Cert.KernelMfwdIdeal.nD Cert.KernelMfwdIdeal.τ).loc Cert.KernelMfwdIdeal.main_arg2)
      ∧ r.2.mem ((c.tc : Thread Cert.KernelMfwdIdeal.nD Cert.KernelMfwdIdeal.τ).loc Cert.KernelMfwdIdeal.main_arg3) = m ((c.tc : Thread Cert.KernelMfwdIdeal.nD Cert.KernelMfwdIdeal.τ).loc Cert.KernelMfwdIdeal.main_arg3))
      ∧ r.2.sem = fun _ => 0)

def quiescent_ReferenceMfwdIdeal [hReferenceMfwdIdeal : Cert.ReferenceMfwdIdeal.Facts] : Prop :=
  ∀ (m : (ℓ : Loc Cert.ReferenceMfwdIdeal.nD Cert.ReferenceMfwdIdeal.τ Cert.ReferenceMfwdIdeal.sig) → Buf (Elt Ideal) ℓ) (g : Dev Cert.ReferenceMfwdIdeal.nD → PrngReg), Pre_ReferenceMfwdIdeal m →
    θ_run (Cert.ReferenceMfwdIdeal.defs (F := Ideal)) (onTc (τ := Cert.ReferenceMfwdIdeal.τ) (Cert.ReferenceMfwdIdeal.main (F := Ideal))) ⟨m, fun _ => 0, g⟩ (fun r => (∀ c : Dev Cert.ReferenceMfwdIdeal.nD,
      r.2.mem ((c.tc : Thread Cert.ReferenceMfwdIdeal.nD Cert.ReferenceMfwdIdeal.τ).loc Cert.ReferenceMfwdIdeal.main_arg0) = m ((c.tc : Thread Cert.ReferenceMfwdIdeal.nD Cert.ReferenceMfwdIdeal.τ).loc Cert.ReferenceMfwdIdeal.main_arg0)
      ∧ r.2.mem ((c.tc : Thread Cert.ReferenceMfwdIdeal.nD Cert.ReferenceMfwdIdeal.τ).loc Cert.ReferenceMfwdIdeal.main_arg1) = m ((c.tc : Thread Cert.ReferenceMfwdIdeal.nD Cert.ReferenceMfwdIdeal.τ).loc Cert.ReferenceMfwdIdeal.main_arg1)
      ∧ r.2.mem ((c.tc : Thread Cert.ReferenceMfwdIdeal.nD Cert.ReferenceMfwdIdeal.τ).loc Cert.ReferenceMfwdIdeal.main_arg2) = m ((c.tc : Thread Cert.ReferenceMfwdIdeal.nD Cert.ReferenceMfwdIdeal.τ).loc Cert.ReferenceMfwdIdeal.main_arg2)
      ∧ r.2.mem ((c.tc : Thread Cert.ReferenceMfwdIdeal.nD Cert.ReferenceMfwdIdeal.τ).loc Cert.ReferenceMfwdIdeal.main_arg3) = m ((c.tc : Thread Cert.ReferenceMfwdIdeal.nD Cert.ReferenceMfwdIdeal.τ).loc Cert.ReferenceMfwdIdeal.main_arg3))
      ∧ r.2.sem = fun _ => 0)

def quiescent_KernelFfwd [hKernelFfwd : Cert.KernelFfwd.Facts] : Prop :=
  ∀ (m : (ℓ : Loc Cert.KernelFfwd.nD Cert.KernelFfwd.τ Cert.KernelFfwd.sig) → Buf (Elt Bits) ℓ) (g : Dev Cert.KernelFfwd.nD → PrngReg), Pre_KernelFfwd m →
    θ_run (Cert.KernelFfwd.defs (F := Bits)) (onTc (τ := Cert.KernelFfwd.τ) (Cert.KernelFfwd.main (F := Bits))) ⟨m, fun _ => 0, g⟩ (fun r => (∀ c : Dev Cert.KernelFfwd.nD,
      r.2.mem ((c.tc : Thread Cert.KernelFfwd.nD Cert.KernelFfwd.τ).loc Cert.KernelFfwd.main_arg0) = m ((c.tc : Thread Cert.KernelFfwd.nD Cert.KernelFfwd.τ).loc Cert.KernelFfwd.main_arg0)
      ∧ r.2.mem ((c.tc : Thread Cert.KernelFfwd.nD Cert.KernelFfwd.τ).loc Cert.KernelFfwd.main_arg1) = m ((c.tc : Thread Cert.KernelFfwd.nD Cert.KernelFfwd.τ).loc Cert.KernelFfwd.main_arg1)
      ∧ r.2.mem ((c.tc : Thread Cert.KernelFfwd.nD Cert.KernelFfwd.τ).loc Cert.KernelFfwd.main_arg2) = m ((c.tc : Thread Cert.KernelFfwd.nD Cert.KernelFfwd.τ).loc Cert.KernelFfwd.main_arg2)
      ∧ r.2.mem ((c.tc : Thread Cert.KernelFfwd.nD Cert.KernelFfwd.τ).loc Cert.KernelFfwd.main_arg3) = m ((c.tc : Thread Cert.KernelFfwd.nD Cert.KernelFfwd.τ).loc Cert.KernelFfwd.main_arg3)
      ∧ r.2.mem ((c.tc : Thread Cert.KernelFfwd.nD Cert.KernelFfwd.τ).loc Cert.KernelFfwd.main_arg4) = m ((c.tc : Thread Cert.KernelFfwd.nD Cert.KernelFfwd.τ).loc Cert.KernelFfwd.main_arg4)
      ∧ r.2.mem ((c.tc : Thread Cert.KernelFfwd.nD Cert.KernelFfwd.τ).loc Cert.KernelFfwd.main_arg5) = m ((c.tc : Thread Cert.KernelFfwd.nD Cert.KernelFfwd.τ).loc Cert.KernelFfwd.main_arg5)
      ∧ r.2.mem ((c.tc : Thread Cert.KernelFfwd.nD Cert.KernelFfwd.τ).loc Cert.KernelFfwd.main_arg6) = m ((c.tc : Thread Cert.KernelFfwd.nD Cert.KernelFfwd.τ).loc Cert.KernelFfwd.main_arg6))
      ∧ r.2.sem = fun _ => 0)

def quiescent_KernelFfwdIdeal [hKernelFfwdIdeal : Cert.KernelFfwdIdeal.Facts] : Prop :=
  ∀ (m : (ℓ : Loc Cert.KernelFfwdIdeal.nD Cert.KernelFfwdIdeal.τ Cert.KernelFfwdIdeal.sig) → Buf (Elt Ideal) ℓ) (g : Dev Cert.KernelFfwdIdeal.nD → PrngReg), Pre_KernelFfwdIdeal m →
    θ_run (Cert.KernelFfwdIdeal.defs (F := Ideal)) (onTc (τ := Cert.KernelFfwdIdeal.τ) (Cert.KernelFfwdIdeal.main (F := Ideal))) ⟨m, fun _ => 0, g⟩ (fun r => (∀ c : Dev Cert.KernelFfwdIdeal.nD,
      r.2.mem ((c.tc : Thread Cert.KernelFfwdIdeal.nD Cert.KernelFfwdIdeal.τ).loc Cert.KernelFfwdIdeal.main_arg0) = m ((c.tc : Thread Cert.KernelFfwdIdeal.nD Cert.KernelFfwdIdeal.τ).loc Cert.KernelFfwdIdeal.main_arg0)
      ∧ r.2.mem ((c.tc : Thread Cert.KernelFfwdIdeal.nD Cert.KernelFfwdIdeal.τ).loc Cert.KernelFfwdIdeal.main_arg1) = m ((c.tc : Thread Cert.KernelFfwdIdeal.nD Cert.KernelFfwdIdeal.τ).loc Cert.KernelFfwdIdeal.main_arg1)
      ∧ r.2.mem ((c.tc : Thread Cert.KernelFfwdIdeal.nD Cert.KernelFfwdIdeal.τ).loc Cert.KernelFfwdIdeal.main_arg2) = m ((c.tc : Thread Cert.KernelFfwdIdeal.nD Cert.KernelFfwdIdeal.τ).loc Cert.KernelFfwdIdeal.main_arg2)
      ∧ r.2.mem ((c.tc : Thread Cert.KernelFfwdIdeal.nD Cert.KernelFfwdIdeal.τ).loc Cert.KernelFfwdIdeal.main_arg3) = m ((c.tc : Thread Cert.KernelFfwdIdeal.nD Cert.KernelFfwdIdeal.τ).loc Cert.KernelFfwdIdeal.main_arg3)
      ∧ r.2.mem ((c.tc : Thread Cert.KernelFfwdIdeal.nD Cert.KernelFfwdIdeal.τ).loc Cert.KernelFfwdIdeal.main_arg4) = m ((c.tc : Thread Cert.KernelFfwdIdeal.nD Cert.KernelFfwdIdeal.τ).loc Cert.KernelFfwdIdeal.main_arg4)
      ∧ r.2.mem ((c.tc : Thread Cert.KernelFfwdIdeal.nD Cert.KernelFfwdIdeal.τ).loc Cert.KernelFfwdIdeal.main_arg5) = m ((c.tc : Thread Cert.KernelFfwdIdeal.nD Cert.KernelFfwdIdeal.τ).loc Cert.KernelFfwdIdeal.main_arg5)
      ∧ r.2.mem ((c.tc : Thread Cert.KernelFfwdIdeal.nD Cert.KernelFfwdIdeal.τ).loc Cert.KernelFfwdIdeal.main_arg6) = m ((c.tc : Thread Cert.KernelFfwdIdeal.nD Cert.KernelFfwdIdeal.τ).loc Cert.KernelFfwdIdeal.main_arg6))
      ∧ r.2.sem = fun _ => 0)

def quiescent_ReferenceFfwdIdeal [hReferenceFfwdIdeal : Cert.ReferenceFfwdIdeal.Facts] : Prop :=
  ∀ (m : (ℓ : Loc Cert.ReferenceFfwdIdeal.nD Cert.ReferenceFfwdIdeal.τ Cert.ReferenceFfwdIdeal.sig) → Buf (Elt Ideal) ℓ) (g : Dev Cert.ReferenceFfwdIdeal.nD → PrngReg), Pre_ReferenceFfwdIdeal m →
    θ_run (Cert.ReferenceFfwdIdeal.defs (F := Ideal)) (onTc (τ := Cert.ReferenceFfwdIdeal.τ) (Cert.ReferenceFfwdIdeal.main (F := Ideal))) ⟨m, fun _ => 0, g⟩ (fun r => (∀ c : Dev Cert.ReferenceFfwdIdeal.nD,
      r.2.mem ((c.tc : Thread Cert.ReferenceFfwdIdeal.nD Cert.ReferenceFfwdIdeal.τ).loc Cert.ReferenceFfwdIdeal.main_arg0) = m ((c.tc : Thread Cert.ReferenceFfwdIdeal.nD Cert.ReferenceFfwdIdeal.τ).loc Cert.ReferenceFfwdIdeal.main_arg0)
      ∧ r.2.mem ((c.tc : Thread Cert.ReferenceFfwdIdeal.nD Cert.ReferenceFfwdIdeal.τ).loc Cert.ReferenceFfwdIdeal.main_arg1) = m ((c.tc : Thread Cert.ReferenceFfwdIdeal.nD Cert.ReferenceFfwdIdeal.τ).loc Cert.ReferenceFfwdIdeal.main_arg1)
      ∧ r.2.mem ((c.tc : Thread Cert.ReferenceFfwdIdeal.nD Cert.ReferenceFfwdIdeal.τ).loc Cert.ReferenceFfwdIdeal.main_arg2) = m ((c.tc : Thread Cert.ReferenceFfwdIdeal.nD Cert.ReferenceFfwdIdeal.τ).loc Cert.ReferenceFfwdIdeal.main_arg2)
      ∧ r.2.mem ((c.tc : Thread Cert.ReferenceFfwdIdeal.nD Cert.ReferenceFfwdIdeal.τ).loc Cert.ReferenceFfwdIdeal.main_arg3) = m ((c.tc : Thread Cert.ReferenceFfwdIdeal.nD Cert.ReferenceFfwdIdeal.τ).loc Cert.ReferenceFfwdIdeal.main_arg3)
      ∧ r.2.mem ((c.tc : Thread Cert.ReferenceFfwdIdeal.nD Cert.ReferenceFfwdIdeal.τ).loc Cert.ReferenceFfwdIdeal.main_arg4) = m ((c.tc : Thread Cert.ReferenceFfwdIdeal.nD Cert.ReferenceFfwdIdeal.τ).loc Cert.ReferenceFfwdIdeal.main_arg4)
      ∧ r.2.mem ((c.tc : Thread Cert.ReferenceFfwdIdeal.nD Cert.ReferenceFfwdIdeal.τ).loc Cert.ReferenceFfwdIdeal.main_arg5) = m ((c.tc : Thread Cert.ReferenceFfwdIdeal.nD Cert.ReferenceFfwdIdeal.τ).loc Cert.ReferenceFfwdIdeal.main_arg5)
      ∧ r.2.mem ((c.tc : Thread Cert.ReferenceFfwdIdeal.nD Cert.ReferenceFfwdIdeal.τ).loc Cert.ReferenceFfwdIdeal.main_arg6) = m ((c.tc : Thread Cert.ReferenceFfwdIdeal.nD Cert.ReferenceFfwdIdeal.τ).loc Cert.ReferenceFfwdIdeal.main_arg6))
      ∧ r.2.sem = fun _ => 0)

def quiescent_KernelNfwd [hKernelNfwd : Cert.KernelNfwd.Facts] : Prop :=
  ∀ (m : (ℓ : Loc Cert.KernelNfwd.nD Cert.KernelNfwd.τ Cert.KernelNfwd.sig) → Buf (Elt Bits) ℓ) (g : Dev Cert.KernelNfwd.nD → PrngReg), Pre_KernelNfwd m →
    θ_run (Cert.KernelNfwd.defs (F := Bits)) (onTc (τ := Cert.KernelNfwd.τ) (Cert.KernelNfwd.main (F := Bits))) ⟨m, fun _ => 0, g⟩ (fun r => (∀ c : Dev Cert.KernelNfwd.nD,
      r.2.mem ((c.tc : Thread Cert.KernelNfwd.nD Cert.KernelNfwd.τ).loc Cert.KernelNfwd.main_arg0) = m ((c.tc : Thread Cert.KernelNfwd.nD Cert.KernelNfwd.τ).loc Cert.KernelNfwd.main_arg0)
      ∧ r.2.mem ((c.tc : Thread Cert.KernelNfwd.nD Cert.KernelNfwd.τ).loc Cert.KernelNfwd.main_arg1) = m ((c.tc : Thread Cert.KernelNfwd.nD Cert.KernelNfwd.τ).loc Cert.KernelNfwd.main_arg1)
      ∧ r.2.mem ((c.tc : Thread Cert.KernelNfwd.nD Cert.KernelNfwd.τ).loc Cert.KernelNfwd.main_arg2) = m ((c.tc : Thread Cert.KernelNfwd.nD Cert.KernelNfwd.τ).loc Cert.KernelNfwd.main_arg2))
      ∧ r.2.sem = fun _ => 0)

def quiescent_KernelNfwdIdeal [hKernelNfwdIdeal : Cert.KernelNfwdIdeal.Facts] : Prop :=
  ∀ (m : (ℓ : Loc Cert.KernelNfwdIdeal.nD Cert.KernelNfwdIdeal.τ Cert.KernelNfwdIdeal.sig) → Buf (Elt Ideal) ℓ) (g : Dev Cert.KernelNfwdIdeal.nD → PrngReg), Pre_KernelNfwdIdeal m →
    θ_run (Cert.KernelNfwdIdeal.defs (F := Ideal)) (onTc (τ := Cert.KernelNfwdIdeal.τ) (Cert.KernelNfwdIdeal.main (F := Ideal))) ⟨m, fun _ => 0, g⟩ (fun r => (∀ c : Dev Cert.KernelNfwdIdeal.nD,
      r.2.mem ((c.tc : Thread Cert.KernelNfwdIdeal.nD Cert.KernelNfwdIdeal.τ).loc Cert.KernelNfwdIdeal.main_arg0) = m ((c.tc : Thread Cert.KernelNfwdIdeal.nD Cert.KernelNfwdIdeal.τ).loc Cert.KernelNfwdIdeal.main_arg0)
      ∧ r.2.mem ((c.tc : Thread Cert.KernelNfwdIdeal.nD Cert.KernelNfwdIdeal.τ).loc Cert.KernelNfwdIdeal.main_arg1) = m ((c.tc : Thread Cert.KernelNfwdIdeal.nD Cert.KernelNfwdIdeal.τ).loc Cert.KernelNfwdIdeal.main_arg1)
      ∧ r.2.mem ((c.tc : Thread Cert.KernelNfwdIdeal.nD Cert.KernelNfwdIdeal.τ).loc Cert.KernelNfwdIdeal.main_arg2) = m ((c.tc : Thread Cert.KernelNfwdIdeal.nD Cert.KernelNfwdIdeal.τ).loc Cert.KernelNfwdIdeal.main_arg2))
      ∧ r.2.sem = fun _ => 0)

def quiescent_ReferenceNfwdIdeal [hReferenceNfwdIdeal : Cert.ReferenceNfwdIdeal.Facts] : Prop :=
  ∀ (m : (ℓ : Loc Cert.ReferenceNfwdIdeal.nD Cert.ReferenceNfwdIdeal.τ Cert.ReferenceNfwdIdeal.sig) → Buf (Elt Ideal) ℓ) (g : Dev Cert.ReferenceNfwdIdeal.nD → PrngReg), Pre_ReferenceNfwdIdeal m →
    θ_run (Cert.ReferenceNfwdIdeal.defs (F := Ideal)) (onTc (τ := Cert.ReferenceNfwdIdeal.τ) (Cert.ReferenceNfwdIdeal.main (F := Ideal))) ⟨m, fun _ => 0, g⟩ (fun r => (∀ c : Dev Cert.ReferenceNfwdIdeal.nD,
      r.2.mem ((c.tc : Thread Cert.ReferenceNfwdIdeal.nD Cert.ReferenceNfwdIdeal.τ).loc Cert.ReferenceNfwdIdeal.main_arg0) = m ((c.tc : Thread Cert.ReferenceNfwdIdeal.nD Cert.ReferenceNfwdIdeal.τ).loc Cert.ReferenceNfwdIdeal.main_arg0)
      ∧ r.2.mem ((c.tc : Thread Cert.ReferenceNfwdIdeal.nD Cert.ReferenceNfwdIdeal.τ).loc Cert.ReferenceNfwdIdeal.main_arg1) = m ((c.tc : Thread Cert.ReferenceNfwdIdeal.nD Cert.ReferenceNfwdIdeal.τ).loc Cert.ReferenceNfwdIdeal.main_arg1)
      ∧ r.2.mem ((c.tc : Thread Cert.ReferenceNfwdIdeal.nD Cert.ReferenceNfwdIdeal.τ).loc Cert.ReferenceNfwdIdeal.main_arg2) = m ((c.tc : Thread Cert.ReferenceNfwdIdeal.nD Cert.ReferenceNfwdIdeal.τ).loc Cert.ReferenceNfwdIdeal.main_arg2))
      ∧ r.2.sem = fun _ => 0)

def quiescent_KernelWgrad [hKernelWgrad : Cert.KernelWgrad.Facts] : Prop :=
  ∀ (m : (ℓ : Loc Cert.KernelWgrad.nD Cert.KernelWgrad.τ Cert.KernelWgrad.sig) → Buf (Elt Bits) ℓ) (g : Dev Cert.KernelWgrad.nD → PrngReg), Pre_KernelWgrad m →
    θ_run (Cert.KernelWgrad.defs (F := Bits)) (onTc (τ := Cert.KernelWgrad.τ) (Cert.KernelWgrad.main (F := Bits))) ⟨m, fun _ => 0, g⟩ (fun r => (∀ c : Dev Cert.KernelWgrad.nD,
      r.2.mem ((c.tc : Thread Cert.KernelWgrad.nD Cert.KernelWgrad.τ).loc Cert.KernelWgrad.main_arg0) = m ((c.tc : Thread Cert.KernelWgrad.nD Cert.KernelWgrad.τ).loc Cert.KernelWgrad.main_arg0)
      ∧ r.2.mem ((c.tc : Thread Cert.KernelWgrad.nD Cert.KernelWgrad.τ).loc Cert.KernelWgrad.main_arg1) = m ((c.tc : Thread Cert.KernelWgrad.nD Cert.KernelWgrad.τ).loc Cert.KernelWgrad.main_arg1))
      ∧ r.2.sem = fun _ => 0)

def quiescent_KernelWgradIdeal [hKernelWgradIdeal : Cert.KernelWgradIdeal.Facts] : Prop :=
  ∀ (m : (ℓ : Loc Cert.KernelWgradIdeal.nD Cert.KernelWgradIdeal.τ Cert.KernelWgradIdeal.sig) → Buf (Elt Ideal) ℓ) (g : Dev Cert.KernelWgradIdeal.nD → PrngReg), Pre_KernelWgradIdeal m →
    θ_run (Cert.KernelWgradIdeal.defs (F := Ideal)) (onTc (τ := Cert.KernelWgradIdeal.τ) (Cert.KernelWgradIdeal.main (F := Ideal))) ⟨m, fun _ => 0, g⟩ (fun r => (∀ c : Dev Cert.KernelWgradIdeal.nD,
      r.2.mem ((c.tc : Thread Cert.KernelWgradIdeal.nD Cert.KernelWgradIdeal.τ).loc Cert.KernelWgradIdeal.main_arg0) = m ((c.tc : Thread Cert.KernelWgradIdeal.nD Cert.KernelWgradIdeal.τ).loc Cert.KernelWgradIdeal.main_arg0)
      ∧ r.2.mem ((c.tc : Thread Cert.KernelWgradIdeal.nD Cert.KernelWgradIdeal.τ).loc Cert.KernelWgradIdeal.main_arg1) = m ((c.tc : Thread Cert.KernelWgradIdeal.nD Cert.KernelWgradIdeal.τ).loc Cert.KernelWgradIdeal.main_arg1))
      ∧ r.2.sem = fun _ => 0)

def quiescent_ReferenceWgradIdeal [hReferenceWgradIdeal : Cert.ReferenceWgradIdeal.Facts] : Prop :=
  ∀ (m : (ℓ : Loc Cert.ReferenceWgradIdeal.nD Cert.ReferenceWgradIdeal.τ Cert.ReferenceWgradIdeal.sig) → Buf (Elt Ideal) ℓ) (g : Dev Cert.ReferenceWgradIdeal.nD → PrngReg), Pre_ReferenceWgradIdeal m →
    θ_run (Cert.ReferenceWgradIdeal.defs (F := Ideal)) (onTc (τ := Cert.ReferenceWgradIdeal.τ) (Cert.ReferenceWgradIdeal.main (F := Ideal))) ⟨m, fun _ => 0, g⟩ (fun r => (∀ c : Dev Cert.ReferenceWgradIdeal.nD,
      r.2.mem ((c.tc : Thread Cert.ReferenceWgradIdeal.nD Cert.ReferenceWgradIdeal.τ).loc Cert.ReferenceWgradIdeal.main_arg0) = m ((c.tc : Thread Cert.ReferenceWgradIdeal.nD Cert.ReferenceWgradIdeal.τ).loc Cert.ReferenceWgradIdeal.main_arg0)
      ∧ r.2.mem ((c.tc : Thread Cert.ReferenceWgradIdeal.nD Cert.ReferenceWgradIdeal.τ).loc Cert.ReferenceWgradIdeal.main_arg1) = m ((c.tc : Thread Cert.ReferenceWgradIdeal.nD Cert.ReferenceWgradIdeal.τ).loc Cert.ReferenceWgradIdeal.main_arg1))
      ∧ r.2.sem = fun _ => 0)

def quiescent_KernelAdamw [hKernelAdamw : Cert.KernelAdamw.Facts] : Prop :=
  ∀ (m : (ℓ : Loc Cert.KernelAdamw.nD Cert.KernelAdamw.τ Cert.KernelAdamw.sig) → Buf (Elt Bits) ℓ) (g : Dev Cert.KernelAdamw.nD → PrngReg), Pre_KernelAdamw m →
    θ_run (Cert.KernelAdamw.defs (F := Bits)) (onTc (τ := Cert.KernelAdamw.τ) (Cert.KernelAdamw.main (F := Bits))) ⟨m, fun _ => 0, g⟩ (fun r => (∀ c : Dev Cert.KernelAdamw.nD,
      r.2.mem ((c.tc : Thread Cert.KernelAdamw.nD Cert.KernelAdamw.τ).loc Cert.KernelAdamw.main_arg0) = m ((c.tc : Thread Cert.KernelAdamw.nD Cert.KernelAdamw.τ).loc Cert.KernelAdamw.main_arg0)
      ∧ r.2.mem ((c.tc : Thread Cert.KernelAdamw.nD Cert.KernelAdamw.τ).loc Cert.KernelAdamw.main_arg1) = m ((c.tc : Thread Cert.KernelAdamw.nD Cert.KernelAdamw.τ).loc Cert.KernelAdamw.main_arg1)
      ∧ r.2.mem ((c.tc : Thread Cert.KernelAdamw.nD Cert.KernelAdamw.τ).loc Cert.KernelAdamw.main_arg2) = m ((c.tc : Thread Cert.KernelAdamw.nD Cert.KernelAdamw.τ).loc Cert.KernelAdamw.main_arg2)
      ∧ r.2.mem ((c.tc : Thread Cert.KernelAdamw.nD Cert.KernelAdamw.τ).loc Cert.KernelAdamw.main_arg3) = m ((c.tc : Thread Cert.KernelAdamw.nD Cert.KernelAdamw.τ).loc Cert.KernelAdamw.main_arg3))
      ∧ r.2.sem = fun _ => 0)

def quiescent_KernelAdamwIdeal [hKernelAdamwIdeal : Cert.KernelAdamwIdeal.Facts] : Prop :=
  ∀ (m : (ℓ : Loc Cert.KernelAdamwIdeal.nD Cert.KernelAdamwIdeal.τ Cert.KernelAdamwIdeal.sig) → Buf (Elt Ideal) ℓ) (g : Dev Cert.KernelAdamwIdeal.nD → PrngReg), Pre_KernelAdamwIdeal m →
    θ_run (Cert.KernelAdamwIdeal.defs (F := Ideal)) (onTc (τ := Cert.KernelAdamwIdeal.τ) (Cert.KernelAdamwIdeal.main (F := Ideal))) ⟨m, fun _ => 0, g⟩ (fun r => (∀ c : Dev Cert.KernelAdamwIdeal.nD,
      r.2.mem ((c.tc : Thread Cert.KernelAdamwIdeal.nD Cert.KernelAdamwIdeal.τ).loc Cert.KernelAdamwIdeal.main_arg0) = m ((c.tc : Thread Cert.KernelAdamwIdeal.nD Cert.KernelAdamwIdeal.τ).loc Cert.KernelAdamwIdeal.main_arg0)
      ∧ r.2.mem ((c.tc : Thread Cert.KernelAdamwIdeal.nD Cert.KernelAdamwIdeal.τ).loc Cert.KernelAdamwIdeal.main_arg1) = m ((c.tc : Thread Cert.KernelAdamwIdeal.nD Cert.KernelAdamwIdeal.τ).loc Cert.KernelAdamwIdeal.main_arg1)
      ∧ r.2.mem ((c.tc : Thread Cert.KernelAdamwIdeal.nD Cert.KernelAdamwIdeal.τ).loc Cert.KernelAdamwIdeal.main_arg2) = m ((c.tc : Thread Cert.KernelAdamwIdeal.nD Cert.KernelAdamwIdeal.τ).loc Cert.KernelAdamwIdeal.main_arg2)
      ∧ r.2.mem ((c.tc : Thread Cert.KernelAdamwIdeal.nD Cert.KernelAdamwIdeal.τ).loc Cert.KernelAdamwIdeal.main_arg3) = m ((c.tc : Thread Cert.KernelAdamwIdeal.nD Cert.KernelAdamwIdeal.τ).loc Cert.KernelAdamwIdeal.main_arg3))
      ∧ r.2.sem = fun _ => 0)

def quiescent_ReferenceAdamwIdeal [hReferenceAdamwIdeal : Cert.ReferenceAdamwIdeal.Facts] : Prop :=
  ∀ (m : (ℓ : Loc Cert.ReferenceAdamwIdeal.nD Cert.ReferenceAdamwIdeal.τ Cert.ReferenceAdamwIdeal.sig) → Buf (Elt Ideal) ℓ) (g : Dev Cert.ReferenceAdamwIdeal.nD → PrngReg), Pre_ReferenceAdamwIdeal m →
    θ_run (Cert.ReferenceAdamwIdeal.defs (F := Ideal)) (onTc (τ := Cert.ReferenceAdamwIdeal.τ) (Cert.ReferenceAdamwIdeal.main (F := Ideal))) ⟨m, fun _ => 0, g⟩ (fun r => (∀ c : Dev Cert.ReferenceAdamwIdeal.nD,
      r.2.mem ((c.tc : Thread Cert.ReferenceAdamwIdeal.nD Cert.ReferenceAdamwIdeal.τ).loc Cert.ReferenceAdamwIdeal.main_arg0) = m ((c.tc : Thread Cert.ReferenceAdamwIdeal.nD Cert.ReferenceAdamwIdeal.τ).loc Cert.ReferenceAdamwIdeal.main_arg0)
      ∧ r.2.mem ((c.tc : Thread Cert.ReferenceAdamwIdeal.nD Cert.ReferenceAdamwIdeal.τ).loc Cert.ReferenceAdamwIdeal.main_arg1) = m ((c.tc : Thread Cert.ReferenceAdamwIdeal.nD Cert.ReferenceAdamwIdeal.τ).loc Cert.ReferenceAdamwIdeal.main_arg1)
      ∧ r.2.mem ((c.tc : Thread Cert.ReferenceAdamwIdeal.nD Cert.ReferenceAdamwIdeal.τ).loc Cert.ReferenceAdamwIdeal.main_arg2) = m ((c.tc : Thread Cert.ReferenceAdamwIdeal.nD Cert.ReferenceAdamwIdeal.τ).loc Cert.ReferenceAdamwIdeal.main_arg2)
      ∧ r.2.mem ((c.tc : Thread Cert.ReferenceAdamwIdeal.nD Cert.ReferenceAdamwIdeal.τ).loc Cert.ReferenceAdamwIdeal.main_arg3) = m ((c.tc : Thread Cert.ReferenceAdamwIdeal.nD Cert.ReferenceAdamwIdeal.τ).loc Cert.ReferenceAdamwIdeal.main_arg3))
      ∧ r.2.sem = fun _ => 0)

def quiescent_KernelSums [hKernelSums : Cert.KernelSums.Facts] : Prop :=
  ∀ (m : (ℓ : Loc Cert.KernelSums.nD Cert.KernelSums.τ Cert.KernelSums.sig) → Buf (Elt Bits) ℓ) (g : Dev Cert.KernelSums.nD → PrngReg), Pre_KernelSums m →
    θ_run (Cert.KernelSums.defs (F := Bits)) (onTc (τ := Cert.KernelSums.τ) (Cert.KernelSums.main (F := Bits))) ⟨m, fun _ => 0, g⟩ (fun r => (∀ c : Dev Cert.KernelSums.nD,
      r.2.mem ((c.tc : Thread Cert.KernelSums.nD Cert.KernelSums.τ).loc Cert.KernelSums.main_arg0) = m ((c.tc : Thread Cert.KernelSums.nD Cert.KernelSums.τ).loc Cert.KernelSums.main_arg0))
      ∧ r.2.sem = fun _ => 0)

def quiescent_KernelSumsIdeal [hKernelSumsIdeal : Cert.KernelSumsIdeal.Facts] : Prop :=
  ∀ (m : (ℓ : Loc Cert.KernelSumsIdeal.nD Cert.KernelSumsIdeal.τ Cert.KernelSumsIdeal.sig) → Buf (Elt Ideal) ℓ) (g : Dev Cert.KernelSumsIdeal.nD → PrngReg), Pre_KernelSumsIdeal m →
    θ_run (Cert.KernelSumsIdeal.defs (F := Ideal)) (onTc (τ := Cert.KernelSumsIdeal.τ) (Cert.KernelSumsIdeal.main (F := Ideal))) ⟨m, fun _ => 0, g⟩ (fun r => (∀ c : Dev Cert.KernelSumsIdeal.nD,
      r.2.mem ((c.tc : Thread Cert.KernelSumsIdeal.nD Cert.KernelSumsIdeal.τ).loc Cert.KernelSumsIdeal.main_arg0) = m ((c.tc : Thread Cert.KernelSumsIdeal.nD Cert.KernelSumsIdeal.τ).loc Cert.KernelSumsIdeal.main_arg0))
      ∧ r.2.sem = fun _ => 0)

def quiescent_ReferenceSumsIdeal [hReferenceSumsIdeal : Cert.ReferenceSumsIdeal.Facts] : Prop :=
  ∀ (m : (ℓ : Loc Cert.ReferenceSumsIdeal.nD Cert.ReferenceSumsIdeal.τ Cert.ReferenceSumsIdeal.sig) → Buf (Elt Ideal) ℓ) (g : Dev Cert.ReferenceSumsIdeal.nD → PrngReg), Pre_ReferenceSumsIdeal m →
    θ_run (Cert.ReferenceSumsIdeal.defs (F := Ideal)) (onTc (τ := Cert.ReferenceSumsIdeal.τ) (Cert.ReferenceSumsIdeal.main (F := Ideal))) ⟨m, fun _ => 0, g⟩ (fun r => (∀ c : Dev Cert.ReferenceSumsIdeal.nD,
      r.2.mem ((c.tc : Thread Cert.ReferenceSumsIdeal.nD Cert.ReferenceSumsIdeal.τ).loc Cert.ReferenceSumsIdeal.main_arg0) = m ((c.tc : Thread Cert.ReferenceSumsIdeal.nD Cert.ReferenceSumsIdeal.τ).loc Cert.ReferenceSumsIdeal.main_arg0))
      ∧ r.2.sem = fun _ => 0)

def preserves_KernelMem_KernelMemIdeal : Prop :=
  True

def algebraic_KernelMemIdeal_ReferenceMemIdeal [hKernelMemIdeal : Cert.KernelMemIdeal.Facts] [hReferenceMemIdeal : Cert.ReferenceMemIdeal.Facts] : Prop :=
  ∀ (m : (ℓ : Loc Cert.KernelMemIdeal.nD Cert.KernelMemIdeal.τ Cert.KernelMemIdeal.sig) → Buf (Elt Ideal) ℓ) (g : Dev Cert.KernelMemIdeal.nD → PrngReg)
    (m' : (ℓ : Loc Cert.ReferenceMemIdeal.nD Cert.ReferenceMemIdeal.τ Cert.ReferenceMemIdeal.sig) → Buf (Elt Ideal) ℓ) (g' : Dev Cert.ReferenceMemIdeal.nD → PrngReg), Pre_KernelMemIdeal m →
    (∀ c : Dev Cert.KernelMemIdeal.nD,
      m' ((c.tc : Thread Cert.ReferenceMemIdeal.nD Cert.ReferenceMemIdeal.τ).loc Cert.ReferenceMemIdeal.main_arg0) = m ((c.tc : Thread Cert.KernelMemIdeal.nD Cert.KernelMemIdeal.τ).loc Cert.KernelMemIdeal.main_arg0)
      ∧ m' ((c.tc : Thread Cert.ReferenceMemIdeal.nD Cert.ReferenceMemIdeal.τ).loc Cert.ReferenceMemIdeal.main_arg1) = m ((c.tc : Thread Cert.KernelMemIdeal.nD Cert.KernelMemIdeal.τ).loc Cert.KernelMemIdeal.main_arg1)
      ∧ m' ((c.tc : Thread Cert.ReferenceMemIdeal.nD Cert.ReferenceMemIdeal.τ).loc Cert.ReferenceMemIdeal.main_arg2) = m ((c.tc : Thread Cert.KernelMemIdeal.nD Cert.KernelMemIdeal.τ).loc Cert.KernelMemIdeal.main_arg2)
      ∧ m' ((c.tc : Thread Cert.ReferenceMemIdeal.nD Cert.ReferenceMemIdeal.τ).loc Cert.ReferenceMemIdeal.main_arg3) = m ((c.tc : Thread Cert.KernelMemIdeal.nD Cert.KernelMemIdeal.τ).loc Cert.KernelMemIdeal.main_arg3)
      ∧ m' ((c.tc : Thread Cert.ReferenceMemIdeal.nD Cert.ReferenceMemIdeal.τ).loc Cert.ReferenceMemIdeal.main_arg4) = m ((c.tc : Thread Cert.KernelMemIdeal.nD Cert.KernelMemIdeal.τ).loc Cert.KernelMemIdeal.main_arg4)
      ∧ m' ((c.tc : Thread Cert.ReferenceMemIdeal.nD Cert.ReferenceMemIdeal.τ).loc Cert.ReferenceMemIdeal.main_arg5) = m ((c.tc : Thread Cert.KernelMemIdeal.nD Cert.KernelMemIdeal.τ).loc Cert.KernelMemIdeal.main_arg5)) →
    ∃ (v0 : (c : Dev Cert.KernelMemIdeal.nD) → Buf (Elt Ideal) ((c.tc : Thread Cert.KernelMemIdeal.nD Cert.KernelMemIdeal.τ).loc Cert.KernelMemIdeal.main_v17_0)) (v1 : (c : Dev Cert.KernelMemIdeal.nD) → Buf (Elt Ideal) ((c.tc : Thread Cert.KernelMemIdeal.nD Cert.KernelMemIdeal.τ).loc Cert.KernelMemIdeal.main_v17_1)) (v2 : (c : Dev Cert.KernelMemIdeal.nD) → Buf (Elt Ideal) ((c.tc : Thread Cert.KernelMemIdeal.nD Cert.KernelMemIdeal.τ).loc Cert.KernelMemIdeal.main_v17_2)),
      θ_run (Cert.KernelMemIdeal.defs (F := Ideal)) (onTc (τ := Cert.KernelMemIdeal.τ) (Cert.KernelMemIdeal.main (F := Ideal))) ⟨m, fun _ => 0, g⟩ (fun r => ∀ c : Dev Cert.KernelMemIdeal.nD,
          r.2.mem ((c.tc : Thread Cert.KernelMemIdeal.nD Cert.KernelMemIdeal.τ).loc Cert.KernelMemIdeal.main_v17_0) = v0 c
          ∧ r.2.mem ((c.tc : Thread Cert.KernelMemIdeal.nD Cert.KernelMemIdeal.τ).loc Cert.KernelMemIdeal.main_v17_1) = v1 c
          ∧ r.2.mem ((c.tc : Thread Cert.KernelMemIdeal.nD Cert.KernelMemIdeal.τ).loc Cert.KernelMemIdeal.main_v17_2) = v2 c
          ∧ r.2.mem ((c.tc : Thread Cert.KernelMemIdeal.nD Cert.KernelMemIdeal.τ).loc Cert.KernelMemIdeal.main_arg0) = m ((c.tc : Thread Cert.KernelMemIdeal.nD Cert.KernelMemIdeal.τ).loc Cert.KernelMemIdeal.main_arg0)
          ∧ r.2.mem ((c.tc : Thread Cert.KernelMemIdeal.nD Cert.KernelMemIdeal.τ).loc Cert.KernelMemIdeal.main_arg1) = m ((c.tc : Thread Cert.KernelMemIdeal.nD Cert.KernelMemIdeal.τ).loc Cert.KernelMemIdeal.main_arg1)
          ∧ r.2.mem ((c.tc : Thread Cert.KernelMemIdeal.nD Cert.KernelMemIdeal.τ).loc Cert.KernelMemIdeal.main_arg2) = m ((c.tc : Thread Cert.KernelMemIdeal.nD Cert.KernelMemIdeal.τ).loc Cert.KernelMemIdeal.main_arg2)
          ∧ r.2.mem ((c.tc : Thread Cert.KernelMemIdeal.nD Cert.KernelMemIdeal.τ).loc Cert.KernelMemIdeal.main_arg3) = m ((c.tc : Thread Cert.KernelMemIdeal.nD Cert.KernelMemIdeal.τ).loc Cert.KernelMemIdeal.main_arg3)
          ∧ r.2.mem ((c.tc : Thread Cert.KernelMemIdeal.nD Cert.KernelMemIdeal.τ).loc Cert.KernelMemIdeal.main_arg4) = m ((c.tc : Thread Cert.KernelMemIdeal.nD Cert.KernelMemIdeal.τ).loc Cert.KernelMemIdeal.main_arg4)
          ∧ r.2.mem ((c.tc : Thread Cert.KernelMemIdeal.nD Cert.KernelMemIdeal.τ).loc Cert.KernelMemIdeal.main_arg5) = m ((c.tc : Thread Cert.KernelMemIdeal.nD Cert.KernelMemIdeal.τ).loc Cert.KernelMemIdeal.main_arg5))
      ∧ θ_run (Cert.ReferenceMemIdeal.defs (F := Ideal)) (onTc (τ := Cert.ReferenceMemIdeal.τ) (Cert.ReferenceMemIdeal.main (F := Ideal))) ⟨m', fun _ => 0, g'⟩ (fun r => ∀ c : Dev Cert.ReferenceMemIdeal.nD,
          r.2.mem ((c.tc : Thread Cert.ReferenceMemIdeal.nD Cert.ReferenceMemIdeal.τ).loc Cert.ReferenceMemIdeal.main_v26) = v0 c
          ∧ r.2.mem ((c.tc : Thread Cert.ReferenceMemIdeal.nD Cert.ReferenceMemIdeal.τ).loc Cert.ReferenceMemIdeal.main_v27) = v1 c
          ∧ r.2.mem ((c.tc : Thread Cert.ReferenceMemIdeal.nD Cert.ReferenceMemIdeal.τ).loc Cert.ReferenceMemIdeal.main_v28) = v2 c
          ∧ r.2.mem ((c.tc : Thread Cert.ReferenceMemIdeal.nD Cert.ReferenceMemIdeal.τ).loc Cert.ReferenceMemIdeal.main_arg0) = m' ((c.tc : Thread Cert.ReferenceMemIdeal.nD Cert.ReferenceMemIdeal.τ).loc Cert.ReferenceMemIdeal.main_arg0)
          ∧ r.2.mem ((c.tc : Thread Cert.ReferenceMemIdeal.nD Cert.ReferenceMemIdeal.τ).loc Cert.ReferenceMemIdeal.main_arg1) = m' ((c.tc : Thread Cert.ReferenceMemIdeal.nD Cert.ReferenceMemIdeal.τ).loc Cert.ReferenceMemIdeal.main_arg1)
          ∧ r.2.mem ((c.tc : Thread Cert.ReferenceMemIdeal.nD Cert.ReferenceMemIdeal.τ).loc Cert.ReferenceMemIdeal.main_arg2) = m' ((c.tc : Thread Cert.ReferenceMemIdeal.nD Cert.ReferenceMemIdeal.τ).loc Cert.ReferenceMemIdeal.main_arg2)
          ∧ r.2.mem ((c.tc : Thread Cert.ReferenceMemIdeal.nD Cert.ReferenceMemIdeal.τ).loc Cert.ReferenceMemIdeal.main_arg3) = m' ((c.tc : Thread Cert.ReferenceMemIdeal.nD Cert.ReferenceMemIdeal.τ).loc Cert.ReferenceMemIdeal.main_arg3)
          ∧ r.2.mem ((c.tc : Thread Cert.ReferenceMemIdeal.nD Cert.ReferenceMemIdeal.τ).loc Cert.ReferenceMemIdeal.main_arg4) = m' ((c.tc : Thread Cert.ReferenceMemIdeal.nD Cert.ReferenceMemIdeal.τ).loc Cert.ReferenceMemIdeal.main_arg4)
          ∧ r.2.mem ((c.tc : Thread Cert.ReferenceMemIdeal.nD Cert.ReferenceMemIdeal.τ).loc Cert.ReferenceMemIdeal.main_arg5) = m' ((c.tc : Thread Cert.ReferenceMemIdeal.nD Cert.ReferenceMemIdeal.τ).loc Cert.ReferenceMemIdeal.main_arg5))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
      ∧ m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)
      ∧ m' ((c.tc : Thread Cert.ReferenceInIdeal.nD Cert.ReferenceInIdeal.τ).loc Cert.ReferenceInIdeal.main_arg3) = m ((c.tc : Thread Cert.KernelInIdeal.nD Cert.KernelInIdeal.τ).loc Cert.KernelInIdeal.main_arg3)
      ∧ m' ((c.tc : Thread Cert.ReferenceInIdeal.nD Cert.ReferenceInIdeal.τ).loc Cert.ReferenceInIdeal.main_arg4) = m ((c.tc : Thread Cert.KernelInIdeal.nD Cert.KernelInIdeal.τ).loc Cert.KernelInIdeal.main_arg4)) →
    ∃ (v0 : (c : Dev Cert.KernelInIdeal.nD) → Buf (Elt Ideal) ((c.tc : Thread Cert.KernelInIdeal.nD Cert.KernelInIdeal.τ).loc Cert.KernelInIdeal.main_v5_0)) (v1 : (c : Dev Cert.KernelInIdeal.nD) → Buf (Elt Ideal) ((c.tc : Thread Cert.KernelInIdeal.nD Cert.KernelInIdeal.τ).loc Cert.KernelInIdeal.main_v5_1)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v5_0) = v0 c
          ∧ r.2.mem ((c.tc : Thread Cert.KernelInIdeal.nD Cert.KernelInIdeal.τ).loc Cert.KernelInIdeal.main_v5_1) = v1 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
          ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
          ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v38) = v0 c
          ∧ r.2.mem ((c.tc : Thread Cert.ReferenceInIdeal.nD Cert.ReferenceInIdeal.τ).loc Cert.ReferenceInIdeal.main_v39) = v1 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2)
          ∧ r.2.mem ((c.tc : Thread Cert.ReferenceInIdeal.nD Cert.ReferenceInIdeal.τ).loc Cert.ReferenceInIdeal.main_arg3) = m' ((c.tc : Thread Cert.ReferenceInIdeal.nD Cert.ReferenceInIdeal.τ).loc Cert.ReferenceInIdeal.main_arg3)
          ∧ r.2.mem ((c.tc : Thread Cert.ReferenceInIdeal.nD Cert.ReferenceInIdeal.τ).loc Cert.ReferenceInIdeal.main_arg4) = m' ((c.tc : Thread Cert.ReferenceInIdeal.nD Cert.ReferenceInIdeal.τ).loc Cert.ReferenceInIdeal.main_arg4))

def preserves_KernelFfn_KernelFfnIdeal : Prop :=
  True

def algebraic_KernelFfnIdeal_ReferenceFfnIdeal_pre_finite_ffn [hKernelFfnIdeal : Cert.KernelFfnIdeal.Facts] [hReferenceFfnIdeal : Cert.ReferenceFfnIdeal.Facts] [hPre_finite_ffn : Cert.Pre_finite_ffn.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg)
    (m' : (ℓ : Loc Cert.ReferenceFfnIdeal.nD Cert.ReferenceFfnIdeal.τ Cert.ReferenceFfnIdeal.sig) → Buf (Elt Ideal) ℓ) (g' : Dev Cert.ReferenceFfnIdeal.nD → PrngReg), Pre_KernelFfnIdeal_finite_ffn m →
    (∀ c : Dev Cert.KernelFfnIdeal.nD,
      m' ((c.tc : Thread Cert.ReferenceFfnIdeal.nD Cert.ReferenceFfnIdeal.τ).loc Cert.ReferenceFfnIdeal.main_arg0) = m ((c.tc : Thread Cert.KernelFfnIdeal.nD Cert.KernelFfnIdeal.τ).loc Cert.KernelFfnIdeal.main_arg0)
      ∧ m' ((c.tc : Thread Cert.ReferenceFfnIdeal.nD Cert.ReferenceFfnIdeal.τ).loc Cert.ReferenceFfnIdeal.main_arg1) = m ((c.tc : Thread Cert.KernelFfnIdeal.nD Cert.KernelFfnIdeal.τ).loc Cert.KernelFfnIdeal.main_arg1)
      ∧ m' ((c.tc : Thread Cert.ReferenceFfnIdeal.nD Cert.ReferenceFfnIdeal.τ).loc Cert.ReferenceFfnIdeal.main_arg2) = m ((c.tc : Thread Cert.KernelFfnIdeal.nD Cert.KernelFfnIdeal.τ).loc Cert.KernelFfnIdeal.main_arg2)
      ∧ m' ((c.tc : Thread Cert.ReferenceFfnIdeal.nD Cert.ReferenceFfnIdeal.τ).loc Cert.ReferenceFfnIdeal.main_arg3) = m ((c.tc : Thread Cert.KernelFfnIdeal.nD Cert.KernelFfnIdeal.τ).loc Cert.KernelFfnIdeal.main_arg3)
      ∧ m' ((c.tc : Thread Cert.ReferenceFfnIdeal.nD Cert.ReferenceFfnIdeal.τ).loc Cert.ReferenceFfnIdeal.main_arg4) = m ((c.tc : Thread Cert.KernelFfnIdeal.nD Cert.KernelFfnIdeal.τ).loc Cert.KernelFfnIdeal.main_arg4)
      ∧ m' ((c.tc : Thread Cert.ReferenceFfnIdeal.nD Cert.ReferenceFfnIdeal.τ).loc Cert.ReferenceFfnIdeal.main_arg5) = m ((c.tc : Thread Cert.KernelFfnIdeal.nD Cert.KernelFfnIdeal.τ).loc Cert.KernelFfnIdeal.main_arg5)
      ∧ m' ((c.tc : Thread Cert.ReferenceFfnIdeal.nD Cert.ReferenceFfnIdeal.τ).loc Cert.ReferenceFfnIdeal.main_arg6) = m ((c.tc : Thread Cert.KernelFfnIdeal.nD Cert.KernelFfnIdeal.τ).loc Cert.KernelFfnIdeal.main_arg6)) →
    ∃ (v0 : (c : Dev Cert.KernelFfnIdeal.nD) → Buf (Elt Ideal) ((c.tc : Thread Cert.KernelFfnIdeal.nD Cert.KernelFfnIdeal.τ).loc Cert.KernelFfnIdeal.main_v28_0)) (v1 : (c : Dev Cert.KernelFfnIdeal.nD) → Buf (Elt Ideal) ((c.tc : Thread Cert.KernelFfnIdeal.nD Cert.KernelFfnIdeal.τ).loc Cert.KernelFfnIdeal.main_v28_1)) (v2 : (c : Dev Cert.KernelFfnIdeal.nD) → Buf (Elt Ideal) ((c.tc : Thread Cert.KernelFfnIdeal.nD Cert.KernelFfnIdeal.τ).loc Cert.KernelFfnIdeal.main_v28_2)) (v3 : (c : Dev Cert.KernelFfnIdeal.nD) → Buf (Elt Ideal) ((c.tc : Thread Cert.KernelFfnIdeal.nD Cert.KernelFfnIdeal.τ).loc Cert.KernelFfnIdeal.main_v28_3)) (v4 : (c : Dev Cert.KernelFfnIdeal.nD) → Buf (Elt Ideal) ((c.tc : Thread Cert.KernelFfnIdeal.nD Cert.KernelFfnIdeal.τ).loc Cert.KernelFfnIdeal.main_v28_4)) (v5 : (c : Dev Cert.KernelFfnIdeal.nD) → Buf (Elt Ideal) ((c.tc : Thread Cert.KernelFfnIdeal.nD Cert.KernelFfnIdeal.τ).loc Cert.KernelFfnIdeal.main_v28_5)) (v6 : (c : Dev Cert.KernelFfnIdeal.nD) → Buf (Elt Ideal) ((c.tc : Thread Cert.KernelFfnIdeal.nD Cert.KernelFfnIdeal.τ).loc Cert.KernelFfnIdeal.main_v28_6)),
      θ_run (Cert.KernelFfnIdeal.defs (F := Ideal)) (onTc (τ := Cert.KernelFfnIdeal.τ) (Cert.KernelFfnIdeal.main (F := Ideal))) ⟨m, fun _ => 0, g⟩ (fun r => ∀ c : Dev Cert.KernelFfnIdeal.nD,
          r.2.mem ((c.tc : Thread Cert.KernelFfnIdeal.nD Cert.KernelFfnIdeal.τ).loc Cert.KernelFfnIdeal.main_v28_0) = v0 c
          ∧ r.2.mem ((c.tc : Thread Cert.KernelFfnIdeal.nD Cert.KernelFfnIdeal.τ).loc Cert.KernelFfnIdeal.main_v28_1) = v1 c
          ∧ r.2.mem ((c.tc : Thread Cert.KernelFfnIdeal.nD Cert.KernelFfnIdeal.τ).loc Cert.KernelFfnIdeal.main_v28_2) = v2 c
          ∧ r.2.mem ((c.tc : Thread Cert.KernelFfnIdeal.nD Cert.KernelFfnIdeal.τ).loc Cert.KernelFfnIdeal.main_v28_3) = v3 c
          ∧ r.2.mem ((c.tc : Thread Cert.KernelFfnIdeal.nD Cert.KernelFfnIdeal.τ).loc Cert.KernelFfnIdeal.main_v28_4) = v4 c
          ∧ r.2.mem ((c.tc : Thread Cert.KernelFfnIdeal.nD Cert.KernelFfnIdeal.τ).loc Cert.KernelFfnIdeal.main_v28_5) = v5 c
          ∧ r.2.mem ((c.tc : Thread Cert.KernelFfnIdeal.nD Cert.KernelFfnIdeal.τ).loc Cert.KernelFfnIdeal.main_v28_6) = v6 c
          ∧ r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
          ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
          ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
          ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
          ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
          ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5)
          ∧ r.2.mem ((c.tc : Thread Cert.KernelFfnIdeal.nD Cert.KernelFfnIdeal.τ).loc Cert.KernelFfnIdeal.main_arg6) = m ((c.tc : Thread Cert.KernelFfnIdeal.nD Cert.KernelFfnIdeal.τ).loc Cert.KernelFfnIdeal.main_arg6))
      ∧ θ_run (Cert.ReferenceFfnIdeal.defs (F := Ideal)) (onTc (τ := Cert.ReferenceFfnIdeal.τ) (Cert.ReferenceFfnIdeal.main (F := Ideal))) ⟨m', fun _ => 0, g'⟩ (fun r => ∀ c : Dev Cert.ReferenceFfnIdeal.nD,
          r.2.mem ((c.tc : Thread Cert.ReferenceFfnIdeal.nD Cert.ReferenceFfnIdeal.τ).loc Cert.ReferenceFfnIdeal.main_v105) = v0 c
          ∧ r.2.mem ((c.tc : Thread Cert.ReferenceFfnIdeal.nD Cert.ReferenceFfnIdeal.τ).loc Cert.ReferenceFfnIdeal.main_v106) = v1 c
          ∧ r.2.mem ((c.tc : Thread Cert.ReferenceFfnIdeal.nD Cert.ReferenceFfnIdeal.τ).loc Cert.ReferenceFfnIdeal.main_v107) = v2 c
          ∧ r.2.mem ((c.tc : Thread Cert.ReferenceFfnIdeal.nD Cert.ReferenceFfnIdeal.τ).loc Cert.ReferenceFfnIdeal.main_v108) = v3 c
          ∧ r.2.mem ((c.tc : Thread Cert.ReferenceFfnIdeal.nD Cert.ReferenceFfnIdeal.τ).loc Cert.ReferenceFfnIdeal.main_v109) = v4 c
          ∧ r.2.mem ((c.tc : Thread Cert.ReferenceFfnIdeal.nD Cert.ReferenceFfnIdeal.τ).loc Cert.ReferenceFfnIdeal.main_v110) = v5 c
          ∧ r.2.mem ((c.tc : Thread Cert.ReferenceFfnIdeal.nD Cert.ReferenceFfnIdeal.τ).loc Cert.ReferenceFfnIdeal.main_v111) = v6 c
          ∧ r.2.mem ((c.tc : Thread Cert.ReferenceFfnIdeal.nD Cert.ReferenceFfnIdeal.τ).loc Cert.ReferenceFfnIdeal.main_arg0) = m' ((c.tc : Thread Cert.ReferenceFfnIdeal.nD Cert.ReferenceFfnIdeal.τ).loc Cert.ReferenceFfnIdeal.main_arg0)
          ∧ r.2.mem ((c.tc : Thread Cert.ReferenceFfnIdeal.nD Cert.ReferenceFfnIdeal.τ).loc Cert.ReferenceFfnIdeal.main_arg1) = m' ((c.tc : Thread Cert.ReferenceFfnIdeal.nD Cert.ReferenceFfnIdeal.τ).loc Cert.ReferenceFfnIdeal.main_arg1)
          ∧ r.2.mem ((c.tc : Thread Cert.ReferenceFfnIdeal.nD Cert.ReferenceFfnIdeal.τ).loc Cert.ReferenceFfnIdeal.main_arg2) = m' ((c.tc : Thread Cert.ReferenceFfnIdeal.nD Cert.ReferenceFfnIdeal.τ).loc Cert.ReferenceFfnIdeal.main_arg2)
          ∧ r.2.mem ((c.tc : Thread Cert.ReferenceFfnIdeal.nD Cert.ReferenceFfnIdeal.τ).loc Cert.ReferenceFfnIdeal.main_arg3) = m' ((c.tc : Thread Cert.ReferenceFfnIdeal.nD Cert.ReferenceFfnIdeal.τ).loc Cert.ReferenceFfnIdeal.main_arg3)
          ∧ r.2.mem ((c.tc : Thread Cert.ReferenceFfnIdeal.nD Cert.ReferenceFfnIdeal.τ).loc Cert.ReferenceFfnIdeal.main_arg4) = m' ((c.tc : Thread Cert.ReferenceFfnIdeal.nD Cert.ReferenceFfnIdeal.τ).loc Cert.ReferenceFfnIdeal.main_arg4)
          ∧ r.2.mem ((c.tc : Thread Cert.ReferenceFfnIdeal.nD Cert.ReferenceFfnIdeal.τ).loc Cert.ReferenceFfnIdeal.main_arg5) = m' ((c.tc : Thread Cert.ReferenceFfnIdeal.nD Cert.ReferenceFfnIdeal.τ).loc Cert.ReferenceFfnIdeal.main_arg5)
          ∧ r.2.mem ((c.tc : Thread Cert.ReferenceFfnIdeal.nD Cert.ReferenceFfnIdeal.τ).loc Cert.ReferenceFfnIdeal.main_arg6) = m' ((c.tc : Thread Cert.ReferenceFfnIdeal.nD Cert.ReferenceFfnIdeal.τ).loc Cert.ReferenceFfnIdeal.main_arg6))

def preserves_KernelAttn_KernelAttnIdeal : Prop :=
  True

def algebraic_KernelAttnIdeal_ReferenceAttnIdeal_pre_finite_attn [hKernelAttnIdeal : Cert.KernelAttnIdeal.Facts] [hReferenceAttnIdeal : Cert.ReferenceAttnIdeal.Facts] [hPre_finite_attn : Cert.Pre_finite_attn.Facts] : Prop :=
  ∀ (m : (ℓ : Loc Cert.KernelAttnIdeal.nD Cert.KernelAttnIdeal.τ Cert.KernelAttnIdeal.sig) → Buf (Elt Ideal) ℓ) (g : Dev Cert.KernelAttnIdeal.nD → PrngReg)
    (m' : (ℓ : Loc Cert.ReferenceAttnIdeal.nD Cert.ReferenceAttnIdeal.τ Cert.ReferenceAttnIdeal.sig) → Buf (Elt Ideal) ℓ) (g' : Dev Cert.ReferenceAttnIdeal.nD → PrngReg), Pre_KernelAttnIdeal_finite_attn m →
    (∀ c : Dev Cert.KernelAttnIdeal.nD,
      m' ((c.tc : Thread Cert.ReferenceAttnIdeal.nD Cert.ReferenceAttnIdeal.τ).loc Cert.ReferenceAttnIdeal.main_arg0) = m ((c.tc : Thread Cert.KernelAttnIdeal.nD Cert.KernelAttnIdeal.τ).loc Cert.KernelAttnIdeal.main_arg0)
      ∧ m' ((c.tc : Thread Cert.ReferenceAttnIdeal.nD Cert.ReferenceAttnIdeal.τ).loc Cert.ReferenceAttnIdeal.main_arg1) = m ((c.tc : Thread Cert.KernelAttnIdeal.nD Cert.KernelAttnIdeal.τ).loc Cert.KernelAttnIdeal.main_arg1)
      ∧ m' ((c.tc : Thread Cert.ReferenceAttnIdeal.nD Cert.ReferenceAttnIdeal.τ).loc Cert.ReferenceAttnIdeal.main_arg2) = m ((c.tc : Thread Cert.KernelAttnIdeal.nD Cert.KernelAttnIdeal.τ).loc Cert.KernelAttnIdeal.main_arg2)
      ∧ m' ((c.tc : Thread Cert.ReferenceAttnIdeal.nD Cert.ReferenceAttnIdeal.τ).loc Cert.ReferenceAttnIdeal.main_arg3) = m ((c.tc : Thread Cert.KernelAttnIdeal.nD Cert.KernelAttnIdeal.τ).loc Cert.KernelAttnIdeal.main_arg3)
      ∧ m' ((c.tc : Thread Cert.ReferenceAttnIdeal.nD Cert.ReferenceAttnIdeal.τ).loc Cert.ReferenceAttnIdeal.main_arg4) = m ((c.tc : Thread Cert.KernelAttnIdeal.nD Cert.KernelAttnIdeal.τ).loc Cert.KernelAttnIdeal.main_arg4)
      ∧ m' ((c.tc : Thread Cert.ReferenceAttnIdeal.nD Cert.ReferenceAttnIdeal.τ).loc Cert.ReferenceAttnIdeal.main_arg5) = m ((c.tc : Thread Cert.KernelAttnIdeal.nD Cert.KernelAttnIdeal.τ).loc Cert.KernelAttnIdeal.main_arg5)
      ∧ m' ((c.tc : Thread Cert.ReferenceAttnIdeal.nD Cert.ReferenceAttnIdeal.τ).loc Cert.ReferenceAttnIdeal.main_arg6) = m ((c.tc : Thread Cert.KernelAttnIdeal.nD Cert.KernelAttnIdeal.τ).loc Cert.KernelAttnIdeal.main_arg6)
      ∧ m' ((c.tc : Thread Cert.ReferenceAttnIdeal.nD Cert.ReferenceAttnIdeal.τ).loc Cert.ReferenceAttnIdeal.main_arg7) = m ((c.tc : Thread Cert.KernelAttnIdeal.nD Cert.KernelAttnIdeal.τ).loc Cert.KernelAttnIdeal.main_arg7)
      ∧ m' ((c.tc : Thread Cert.ReferenceAttnIdeal.nD Cert.ReferenceAttnIdeal.τ).loc Cert.ReferenceAttnIdeal.main_arg8) = m ((c.tc : Thread Cert.KernelAttnIdeal.nD Cert.KernelAttnIdeal.τ).loc Cert.KernelAttnIdeal.main_arg8)
      ∧ m' ((c.tc : Thread Cert.ReferenceAttnIdeal.nD Cert.ReferenceAttnIdeal.τ).loc Cert.ReferenceAttnIdeal.main_arg9) = m ((c.tc : Thread Cert.KernelAttnIdeal.nD Cert.KernelAttnIdeal.τ).loc Cert.KernelAttnIdeal.main_arg9)
      ∧ m' ((c.tc : Thread Cert.ReferenceAttnIdeal.nD Cert.ReferenceAttnIdeal.τ).loc Cert.ReferenceAttnIdeal.main_arg10) = m ((c.tc : Thread Cert.KernelAttnIdeal.nD Cert.KernelAttnIdeal.τ).loc Cert.KernelAttnIdeal.main_arg10)) →
    ∃ (v0 : (c : Dev Cert.KernelAttnIdeal.nD) → Buf (Elt Ideal) ((c.tc : Thread Cert.KernelAttnIdeal.nD Cert.KernelAttnIdeal.τ).loc Cert.KernelAttnIdeal.main_v62_0)) (v1 : (c : Dev Cert.KernelAttnIdeal.nD) → Buf (Elt Ideal) ((c.tc : Thread Cert.KernelAttnIdeal.nD Cert.KernelAttnIdeal.τ).loc Cert.KernelAttnIdeal.main_v62_1)) (v2 : (c : Dev Cert.KernelAttnIdeal.nD) → Buf (Elt Ideal) ((c.tc : Thread Cert.KernelAttnIdeal.nD Cert.KernelAttnIdeal.τ).loc Cert.KernelAttnIdeal.main_v62_2)) (v3 : (c : Dev Cert.KernelAttnIdeal.nD) → Buf (Elt Ideal) ((c.tc : Thread Cert.KernelAttnIdeal.nD Cert.KernelAttnIdeal.τ).loc Cert.KernelAttnIdeal.main_v62_3)) (v4 : (c : Dev Cert.KernelAttnIdeal.nD) → Buf (Elt Ideal) ((c.tc : Thread Cert.KernelAttnIdeal.nD Cert.KernelAttnIdeal.τ).loc Cert.KernelAttnIdeal.main_v62_4)) (v5 : (c : Dev Cert.KernelAttnIdeal.nD) → Buf (Elt Ideal) ((c.tc : Thread Cert.KernelAttnIdeal.nD Cert.KernelAttnIdeal.τ).loc Cert.KernelAttnIdeal.main_v62_5)) (v6 : (c : Dev Cert.KernelAttnIdeal.nD) → Buf (Elt Ideal) ((c.tc : Thread Cert.KernelAttnIdeal.nD Cert.KernelAttnIdeal.τ).loc Cert.KernelAttnIdeal.main_v62_6)) (v7 : (c : Dev Cert.KernelAttnIdeal.nD) → Buf (Elt Ideal) ((c.tc : Thread Cert.KernelAttnIdeal.nD Cert.KernelAttnIdeal.τ).loc Cert.KernelAttnIdeal.main_v62_7)) (v8 : (c : Dev Cert.KernelAttnIdeal.nD) → Buf (Elt Ideal) ((c.tc : Thread Cert.KernelAttnIdeal.nD Cert.KernelAttnIdeal.τ).loc Cert.KernelAttnIdeal.main_v62_8)) (v9 : (c : Dev Cert.KernelAttnIdeal.nD) → Buf (Elt Ideal) ((c.tc : Thread Cert.KernelAttnIdeal.nD Cert.KernelAttnIdeal.τ).loc Cert.KernelAttnIdeal.main_v62_9)),
      θ_run (Cert.KernelAttnIdeal.defs (F := Ideal)) (onTc (τ := Cert.KernelAttnIdeal.τ) (Cert.KernelAttnIdeal.main (F := Ideal))) ⟨m, fun _ => 0, g⟩ (fun r => ∀ c : Dev Cert.KernelAttnIdeal.nD,
          r.2.mem ((c.tc : Thread Cert.KernelAttnIdeal.nD Cert.KernelAttnIdeal.τ).loc Cert.KernelAttnIdeal.main_v62_0) = v0 c
          ∧ r.2.mem ((c.tc : Thread Cert.KernelAttnIdeal.nD Cert.KernelAttnIdeal.τ).loc Cert.KernelAttnIdeal.main_v62_1) = v1 c
          ∧ r.2.mem ((c.tc : Thread Cert.KernelAttnIdeal.nD Cert.KernelAttnIdeal.τ).loc Cert.KernelAttnIdeal.main_v62_2) = v2 c
          ∧ r.2.mem ((c.tc : Thread Cert.KernelAttnIdeal.nD Cert.KernelAttnIdeal.τ).loc Cert.KernelAttnIdeal.main_v62_3) = v3 c
          ∧ r.2.mem ((c.tc : Thread Cert.KernelAttnIdeal.nD Cert.KernelAttnIdeal.τ).loc Cert.KernelAttnIdeal.main_v62_4) = v4 c
          ∧ r.2.mem ((c.tc : Thread Cert.KernelAttnIdeal.nD Cert.KernelAttnIdeal.τ).loc Cert.KernelAttnIdeal.main_v62_5) = v5 c
          ∧ r.2.mem ((c.tc : Thread Cert.KernelAttnIdeal.nD Cert.KernelAttnIdeal.τ).loc Cert.KernelAttnIdeal.main_v62_6) = v6 c
          ∧ r.2.mem ((c.tc : Thread Cert.KernelAttnIdeal.nD Cert.KernelAttnIdeal.τ).loc Cert.KernelAttnIdeal.main_v62_7) = v7 c
          ∧ r.2.mem ((c.tc : Thread Cert.KernelAttnIdeal.nD Cert.KernelAttnIdeal.τ).loc Cert.KernelAttnIdeal.main_v62_8) = v8 c
          ∧ r.2.mem ((c.tc : Thread Cert.KernelAttnIdeal.nD Cert.KernelAttnIdeal.τ).loc Cert.KernelAttnIdeal.main_v62_9) = v9 c
          ∧ r.2.mem ((c.tc : Thread Cert.KernelAttnIdeal.nD Cert.KernelAttnIdeal.τ).loc Cert.KernelAttnIdeal.main_arg0) = m ((c.tc : Thread Cert.KernelAttnIdeal.nD Cert.KernelAttnIdeal.τ).loc Cert.KernelAttnIdeal.main_arg0)
          ∧ r.2.mem ((c.tc : Thread Cert.KernelAttnIdeal.nD Cert.KernelAttnIdeal.τ).loc Cert.KernelAttnIdeal.main_arg1) = m ((c.tc : Thread Cert.KernelAttnIdeal.nD Cert.KernelAttnIdeal.τ).loc Cert.KernelAttnIdeal.main_arg1)
          ∧ r.2.mem ((c.tc : Thread Cert.KernelAttnIdeal.nD Cert.KernelAttnIdeal.τ).loc Cert.KernelAttnIdeal.main_arg2) = m ((c.tc : Thread Cert.KernelAttnIdeal.nD Cert.KernelAttnIdeal.τ).loc Cert.KernelAttnIdeal.main_arg2)
          ∧ r.2.mem ((c.tc : Thread Cert.KernelAttnIdeal.nD Cert.KernelAttnIdeal.τ).loc Cert.KernelAttnIdeal.main_arg3) = m ((c.tc : Thread Cert.KernelAttnIdeal.nD Cert.KernelAttnIdeal.τ).loc Cert.KernelAttnIdeal.main_arg3)
          ∧ r.2.mem ((c.tc : Thread Cert.KernelAttnIdeal.nD Cert.KernelAttnIdeal.τ).loc Cert.KernelAttnIdeal.main_arg4) = m ((c.tc : Thread Cert.KernelAttnIdeal.nD Cert.KernelAttnIdeal.τ).loc Cert.KernelAttnIdeal.main_arg4)
          ∧ r.2.mem ((c.tc : Thread Cert.KernelAttnIdeal.nD Cert.KernelAttnIdeal.τ).loc Cert.KernelAttnIdeal.main_arg5) = m ((c.tc : Thread Cert.KernelAttnIdeal.nD Cert.KernelAttnIdeal.τ).loc Cert.KernelAttnIdeal.main_arg5)
          ∧ r.2.mem ((c.tc : Thread Cert.KernelAttnIdeal.nD Cert.KernelAttnIdeal.τ).loc Cert.KernelAttnIdeal.main_arg6) = m ((c.tc : Thread Cert.KernelAttnIdeal.nD Cert.KernelAttnIdeal.τ).loc Cert.KernelAttnIdeal.main_arg6)
          ∧ r.2.mem ((c.tc : Thread Cert.KernelAttnIdeal.nD Cert.KernelAttnIdeal.τ).loc Cert.KernelAttnIdeal.main_arg7) = m ((c.tc : Thread Cert.KernelAttnIdeal.nD Cert.KernelAttnIdeal.τ).loc Cert.KernelAttnIdeal.main_arg7)
          ∧ r.2.mem ((c.tc : Thread Cert.KernelAttnIdeal.nD Cert.KernelAttnIdeal.τ).loc Cert.KernelAttnIdeal.main_arg8) = m ((c.tc : Thread Cert.KernelAttnIdeal.nD Cert.KernelAttnIdeal.τ).loc Cert.KernelAttnIdeal.main_arg8)
          ∧ r.2.mem ((c.tc : Thread Cert.KernelAttnIdeal.nD Cert.KernelAttnIdeal.τ).loc Cert.KernelAttnIdeal.main_arg9) = m ((c.tc : Thread Cert.KernelAttnIdeal.nD Cert.KernelAttnIdeal.τ).loc Cert.KernelAttnIdeal.main_arg9)
          ∧ r.2.mem ((c.tc : Thread Cert.KernelAttnIdeal.nD Cert.KernelAttnIdeal.τ).loc Cert.KernelAttnIdeal.main_arg10) = m ((c.tc : Thread Cert.KernelAttnIdeal.nD Cert.KernelAttnIdeal.τ).loc Cert.KernelAttnIdeal.main_arg10))
      ∧ θ_run (Cert.ReferenceAttnIdeal.defs (F := Ideal)) (onTc (τ := Cert.ReferenceAttnIdeal.τ) (Cert.ReferenceAttnIdeal.main (F := Ideal))) ⟨m', fun _ => 0, g'⟩ (fun r => ∀ c : Dev Cert.ReferenceAttnIdeal.nD,
          r.2.mem ((c.tc : Thread Cert.ReferenceAttnIdeal.nD Cert.ReferenceAttnIdeal.τ).loc Cert.ReferenceAttnIdeal.main_v164) = v0 c
          ∧ r.2.mem ((c.tc : Thread Cert.ReferenceAttnIdeal.nD Cert.ReferenceAttnIdeal.τ).loc Cert.ReferenceAttnIdeal.main_v186) = v1 c
          ∧ r.2.mem ((c.tc : Thread Cert.ReferenceAttnIdeal.nD Cert.ReferenceAttnIdeal.τ).loc Cert.ReferenceAttnIdeal.main_v187) = v2 c
          ∧ r.2.mem ((c.tc : Thread Cert.ReferenceAttnIdeal.nD Cert.ReferenceAttnIdeal.τ).loc Cert.ReferenceAttnIdeal.main_v141) = v3 c
          ∧ r.2.mem ((c.tc : Thread Cert.ReferenceAttnIdeal.nD Cert.ReferenceAttnIdeal.τ).loc Cert.ReferenceAttnIdeal.main_v140) = v4 c
          ∧ r.2.mem ((c.tc : Thread Cert.ReferenceAttnIdeal.nD Cert.ReferenceAttnIdeal.τ).loc Cert.ReferenceAttnIdeal.main_v188) = v5 c
          ∧ r.2.mem ((c.tc : Thread Cert.ReferenceAttnIdeal.nD Cert.ReferenceAttnIdeal.τ).loc Cert.ReferenceAttnIdeal.main_v189) = v6 c
          ∧ r.2.mem ((c.tc : Thread Cert.ReferenceAttnIdeal.nD Cert.ReferenceAttnIdeal.τ).loc Cert.ReferenceAttnIdeal.main_v190) = v7 c
          ∧ r.2.mem ((c.tc : Thread Cert.ReferenceAttnIdeal.nD Cert.ReferenceAttnIdeal.τ).loc Cert.ReferenceAttnIdeal.main_v191) = v8 c
          ∧ r.2.mem ((c.tc : Thread Cert.ReferenceAttnIdeal.nD Cert.ReferenceAttnIdeal.τ).loc Cert.ReferenceAttnIdeal.main_v192) = v9 c
          ∧ r.2.mem ((c.tc : Thread Cert.ReferenceAttnIdeal.nD Cert.ReferenceAttnIdeal.τ).loc Cert.ReferenceAttnIdeal.main_arg0) = m' ((c.tc : Thread Cert.ReferenceAttnIdeal.nD Cert.ReferenceAttnIdeal.τ).loc Cert.ReferenceAttnIdeal.main_arg0)
          ∧ r.2.mem ((c.tc : Thread Cert.ReferenceAttnIdeal.nD Cert.ReferenceAttnIdeal.τ).loc Cert.ReferenceAttnIdeal.main_arg1) = m' ((c.tc : Thread Cert.ReferenceAttnIdeal.nD Cert.ReferenceAttnIdeal.τ).loc Cert.ReferenceAttnIdeal.main_arg1)
          ∧ r.2.mem ((c.tc : Thread Cert.ReferenceAttnIdeal.nD Cert.ReferenceAttnIdeal.τ).loc Cert.ReferenceAttnIdeal.main_arg2) = m' ((c.tc : Thread Cert.ReferenceAttnIdeal.nD Cert.ReferenceAttnIdeal.τ).loc Cert.ReferenceAttnIdeal.main_arg2)
          ∧ r.2.mem ((c.tc : Thread Cert.ReferenceAttnIdeal.nD Cert.ReferenceAttnIdeal.τ).loc Cert.ReferenceAttnIdeal.main_arg3) = m' ((c.tc : Thread Cert.ReferenceAttnIdeal.nD Cert.ReferenceAttnIdeal.τ).loc Cert.ReferenceAttnIdeal.main_arg3)
          ∧ r.2.mem ((c.tc : Thread Cert.ReferenceAttnIdeal.nD Cert.ReferenceAttnIdeal.τ).loc Cert.ReferenceAttnIdeal.main_arg4) = m' ((c.tc : Thread Cert.ReferenceAttnIdeal.nD Cert.ReferenceAttnIdeal.τ).loc Cert.ReferenceAttnIdeal.main_arg4)
          ∧ r.2.mem ((c.tc : Thread Cert.ReferenceAttnIdeal.nD Cert.ReferenceAttnIdeal.τ).loc Cert.ReferenceAttnIdeal.main_arg5) = m' ((c.tc : Thread Cert.ReferenceAttnIdeal.nD Cert.ReferenceAttnIdeal.τ).loc Cert.ReferenceAttnIdeal.main_arg5)
          ∧ r.2.mem ((c.tc : Thread Cert.ReferenceAttnIdeal.nD Cert.ReferenceAttnIdeal.τ).loc Cert.ReferenceAttnIdeal.main_arg6) = m' ((c.tc : Thread Cert.ReferenceAttnIdeal.nD Cert.ReferenceAttnIdeal.τ).loc Cert.ReferenceAttnIdeal.main_arg6)
          ∧ r.2.mem ((c.tc : Thread Cert.ReferenceAttnIdeal.nD Cert.ReferenceAttnIdeal.τ).loc Cert.ReferenceAttnIdeal.main_arg7) = m' ((c.tc : Thread Cert.ReferenceAttnIdeal.nD Cert.ReferenceAttnIdeal.τ).loc Cert.ReferenceAttnIdeal.main_arg7)
          ∧ r.2.mem ((c.tc : Thread Cert.ReferenceAttnIdeal.nD Cert.ReferenceAttnIdeal.τ).loc Cert.ReferenceAttnIdeal.main_arg8) = m' ((c.tc : Thread Cert.ReferenceAttnIdeal.nD Cert.ReferenceAttnIdeal.τ).loc Cert.ReferenceAttnIdeal.main_arg8)
          ∧ r.2.mem ((c.tc : Thread Cert.ReferenceAttnIdeal.nD Cert.ReferenceAttnIdeal.τ).loc Cert.ReferenceAttnIdeal.main_arg9) = m' ((c.tc : Thread Cert.ReferenceAttnIdeal.nD Cert.ReferenceAttnIdeal.τ).loc Cert.ReferenceAttnIdeal.main_arg9)
          ∧ r.2.mem ((c.tc : Thread Cert.ReferenceAttnIdeal.nD Cert.ReferenceAttnIdeal.τ).loc Cert.ReferenceAttnIdeal.main_arg10) = m' ((c.tc : Thread Cert.ReferenceAttnIdeal.nD Cert.ReferenceAttnIdeal.τ).loc Cert.ReferenceAttnIdeal.main_arg10))

def preserves_KernelAfwd_KernelAfwdIdeal : Prop :=
  True

def algebraic_KernelAfwdIdeal_ReferenceAfwdIdeal [hKernelAfwdIdeal : Cert.KernelAfwdIdeal.Facts] [hReferenceAfwdIdeal : Cert.ReferenceAfwdIdeal.Facts] : Prop :=
  ∀ (m : (ℓ : Loc Cert.KernelAfwdIdeal.nD Cert.KernelAfwdIdeal.τ Cert.KernelAfwdIdeal.sig) → Buf (Elt Ideal) ℓ) (g : Dev Cert.KernelAfwdIdeal.nD → PrngReg)
    (m' : (ℓ : Loc Cert.ReferenceAfwdIdeal.nD Cert.ReferenceAfwdIdeal.τ Cert.ReferenceAfwdIdeal.sig) → Buf (Elt Ideal) ℓ) (g' : Dev Cert.ReferenceAfwdIdeal.nD → PrngReg), Pre_KernelAfwdIdeal m →
    (∀ c : Dev Cert.KernelAfwdIdeal.nD,
      m' ((c.tc : Thread Cert.ReferenceAfwdIdeal.nD Cert.ReferenceAfwdIdeal.τ).loc Cert.ReferenceAfwdIdeal.main_arg0) = m ((c.tc : Thread Cert.KernelAfwdIdeal.nD Cert.KernelAfwdIdeal.τ).loc Cert.KernelAfwdIdeal.main_arg0)
      ∧ m' ((c.tc : Thread Cert.ReferenceAfwdIdeal.nD Cert.ReferenceAfwdIdeal.τ).loc Cert.ReferenceAfwdIdeal.main_arg1) = m ((c.tc : Thread Cert.KernelAfwdIdeal.nD Cert.KernelAfwdIdeal.τ).loc Cert.KernelAfwdIdeal.main_arg1)
      ∧ m' ((c.tc : Thread Cert.ReferenceAfwdIdeal.nD Cert.ReferenceAfwdIdeal.τ).loc Cert.ReferenceAfwdIdeal.main_arg2) = m ((c.tc : Thread Cert.KernelAfwdIdeal.nD Cert.KernelAfwdIdeal.τ).loc Cert.KernelAfwdIdeal.main_arg2)
      ∧ m' ((c.tc : Thread Cert.ReferenceAfwdIdeal.nD Cert.ReferenceAfwdIdeal.τ).loc Cert.ReferenceAfwdIdeal.main_arg3) = m ((c.tc : Thread Cert.KernelAfwdIdeal.nD Cert.KernelAfwdIdeal.τ).loc Cert.KernelAfwdIdeal.main_arg3)
      ∧ m' ((c.tc : Thread Cert.ReferenceAfwdIdeal.nD Cert.ReferenceAfwdIdeal.τ).loc Cert.ReferenceAfwdIdeal.main_arg4) = m ((c.tc : Thread Cert.KernelAfwdIdeal.nD Cert.KernelAfwdIdeal.τ).loc Cert.KernelAfwdIdeal.main_arg4)
      ∧ m' ((c.tc : Thread Cert.ReferenceAfwdIdeal.nD Cert.ReferenceAfwdIdeal.τ).loc Cert.ReferenceAfwdIdeal.main_arg5) = m ((c.tc : Thread Cert.KernelAfwdIdeal.nD Cert.KernelAfwdIdeal.τ).loc Cert.KernelAfwdIdeal.main_arg5)
      ∧ m' ((c.tc : Thread Cert.ReferenceAfwdIdeal.nD Cert.ReferenceAfwdIdeal.τ).loc Cert.ReferenceAfwdIdeal.main_arg6) = m ((c.tc : Thread Cert.KernelAfwdIdeal.nD Cert.KernelAfwdIdeal.τ).loc Cert.KernelAfwdIdeal.main_arg6)) →
    ∃ (v0 : (c : Dev Cert.KernelAfwdIdeal.nD) → Buf (Elt Ideal) ((c.tc : Thread Cert.KernelAfwdIdeal.nD Cert.KernelAfwdIdeal.τ).loc Cert.KernelAfwdIdeal.main_v6_0)) (v1 : (c : Dev Cert.KernelAfwdIdeal.nD) → Buf (Elt Ideal) ((c.tc : Thread Cert.KernelAfwdIdeal.nD Cert.KernelAfwdIdeal.τ).loc Cert.KernelAfwdIdeal.main_v6_1)) (v2 : (c : Dev Cert.KernelAfwdIdeal.nD) → Buf (Elt Ideal) ((c.tc : Thread Cert.KernelAfwdIdeal.nD Cert.KernelAfwdIdeal.τ).loc Cert.KernelAfwdIdeal.main_v6_2)) (v3 : (c : Dev Cert.KernelAfwdIdeal.nD) → Buf (Elt Ideal) ((c.tc : Thread Cert.KernelAfwdIdeal.nD Cert.KernelAfwdIdeal.τ).loc Cert.KernelAfwdIdeal.main_v6_3)) (v4 : (c : Dev Cert.KernelAfwdIdeal.nD) → Buf (Elt Ideal) ((c.tc : Thread Cert.KernelAfwdIdeal.nD Cert.KernelAfwdIdeal.τ).loc Cert.KernelAfwdIdeal.main_v6_4)),
      θ_run (Cert.KernelAfwdIdeal.defs (F := Ideal)) (onTc (τ := Cert.KernelAfwdIdeal.τ) (Cert.KernelAfwdIdeal.main (F := Ideal))) ⟨m, fun _ => 0, g⟩ (fun r => ∀ c : Dev Cert.KernelAfwdIdeal.nD,
          r.2.mem ((c.tc : Thread Cert.KernelAfwdIdeal.nD Cert.KernelAfwdIdeal.τ).loc Cert.KernelAfwdIdeal.main_v6_0) = v0 c
          ∧ r.2.mem ((c.tc : Thread Cert.KernelAfwdIdeal.nD Cert.KernelAfwdIdeal.τ).loc Cert.KernelAfwdIdeal.main_v6_1) = v1 c
          ∧ r.2.mem ((c.tc : Thread Cert.KernelAfwdIdeal.nD Cert.KernelAfwdIdeal.τ).loc Cert.KernelAfwdIdeal.main_v6_2) = v2 c
          ∧ r.2.mem ((c.tc : Thread Cert.KernelAfwdIdeal.nD Cert.KernelAfwdIdeal.τ).loc Cert.KernelAfwdIdeal.main_v6_3) = v3 c
          ∧ r.2.mem ((c.tc : Thread Cert.KernelAfwdIdeal.nD Cert.KernelAfwdIdeal.τ).loc Cert.KernelAfwdIdeal.main_v6_4) = v4 c
          ∧ r.2.mem ((c.tc : Thread Cert.KernelAfwdIdeal.nD Cert.KernelAfwdIdeal.τ).loc Cert.KernelAfwdIdeal.main_arg0) = m ((c.tc : Thread Cert.KernelAfwdIdeal.nD Cert.KernelAfwdIdeal.τ).loc Cert.KernelAfwdIdeal.main_arg0)
          ∧ r.2.mem ((c.tc : Thread Cert.KernelAfwdIdeal.nD Cert.KernelAfwdIdeal.τ).loc Cert.KernelAfwdIdeal.main_arg1) = m ((c.tc : Thread Cert.KernelAfwdIdeal.nD Cert.KernelAfwdIdeal.τ).loc Cert.KernelAfwdIdeal.main_arg1)
          ∧ r.2.mem ((c.tc : Thread Cert.KernelAfwdIdeal.nD Cert.KernelAfwdIdeal.τ).loc Cert.KernelAfwdIdeal.main_arg2) = m ((c.tc : Thread Cert.KernelAfwdIdeal.nD Cert.KernelAfwdIdeal.τ).loc Cert.KernelAfwdIdeal.main_arg2)
          ∧ r.2.mem ((c.tc : Thread Cert.KernelAfwdIdeal.nD Cert.KernelAfwdIdeal.τ).loc Cert.KernelAfwdIdeal.main_arg3) = m ((c.tc : Thread Cert.KernelAfwdIdeal.nD Cert.KernelAfwdIdeal.τ).loc Cert.KernelAfwdIdeal.main_arg3)
          ∧ r.2.mem ((c.tc : Thread Cert.KernelAfwdIdeal.nD Cert.KernelAfwdIdeal.τ).loc Cert.KernelAfwdIdeal.main_arg4) = m ((c.tc : Thread Cert.KernelAfwdIdeal.nD Cert.KernelAfwdIdeal.τ).loc Cert.KernelAfwdIdeal.main_arg4)
          ∧ r.2.mem ((c.tc : Thread Cert.KernelAfwdIdeal.nD Cert.KernelAfwdIdeal.τ).loc Cert.KernelAfwdIdeal.main_arg5) = m ((c.tc : Thread Cert.KernelAfwdIdeal.nD Cert.KernelAfwdIdeal.τ).loc Cert.KernelAfwdIdeal.main_arg5)
          ∧ r.2.mem ((c.tc : Thread Cert.KernelAfwdIdeal.nD Cert.KernelAfwdIdeal.τ).loc Cert.KernelAfwdIdeal.main_arg6) = m ((c.tc : Thread Cert.KernelAfwdIdeal.nD Cert.KernelAfwdIdeal.τ).loc Cert.KernelAfwdIdeal.main_arg6))
      ∧ θ_run (Cert.ReferenceAfwdIdeal.defs (F := Ideal)) (onTc (τ := Cert.ReferenceAfwdIdeal.τ) (Cert.ReferenceAfwdIdeal.main (F := Ideal))) ⟨m', fun _ => 0, g'⟩ (fun r => ∀ c : Dev Cert.ReferenceAfwdIdeal.nD,
          r.2.mem ((c.tc : Thread Cert.ReferenceAfwdIdeal.nD Cert.ReferenceAfwdIdeal.τ).loc Cert.ReferenceAfwdIdeal.main_v48) = v0 c
          ∧ r.2.mem ((c.tc : Thread Cert.ReferenceAfwdIdeal.nD Cert.ReferenceAfwdIdeal.τ).loc Cert.ReferenceAfwdIdeal.main_v49) = v1 c
          ∧ r.2.mem ((c.tc : Thread Cert.ReferenceAfwdIdeal.nD Cert.ReferenceAfwdIdeal.τ).loc Cert.ReferenceAfwdIdeal.main_v51) = v2 c
          ∧ r.2.mem ((c.tc : Thread Cert.ReferenceAfwdIdeal.nD Cert.ReferenceAfwdIdeal.τ).loc Cert.ReferenceAfwdIdeal.main_v52) = v3 c
          ∧ r.2.mem ((c.tc : Thread Cert.ReferenceAfwdIdeal.nD Cert.ReferenceAfwdIdeal.τ).loc Cert.ReferenceAfwdIdeal.main_v53) = v4 c
          ∧ r.2.mem ((c.tc : Thread Cert.ReferenceAfwdIdeal.nD Cert.ReferenceAfwdIdeal.τ).loc Cert.ReferenceAfwdIdeal.main_arg0) = m' ((c.tc : Thread Cert.ReferenceAfwdIdeal.nD Cert.ReferenceAfwdIdeal.τ).loc Cert.ReferenceAfwdIdeal.main_arg0)
          ∧ r.2.mem ((c.tc : Thread Cert.ReferenceAfwdIdeal.nD Cert.ReferenceAfwdIdeal.τ).loc Cert.ReferenceAfwdIdeal.main_arg1) = m' ((c.tc : Thread Cert.ReferenceAfwdIdeal.nD Cert.ReferenceAfwdIdeal.τ).loc Cert.ReferenceAfwdIdeal.main_arg1)
          ∧ r.2.mem ((c.tc : Thread Cert.ReferenceAfwdIdeal.nD Cert.ReferenceAfwdIdeal.τ).loc Cert.ReferenceAfwdIdeal.main_arg2) = m' ((c.tc : Thread Cert.ReferenceAfwdIdeal.nD Cert.ReferenceAfwdIdeal.τ).loc Cert.ReferenceAfwdIdeal.main_arg2)
          ∧ r.2.mem ((c.tc : Thread Cert.ReferenceAfwdIdeal.nD Cert.ReferenceAfwdIdeal.τ).loc Cert.ReferenceAfwdIdeal.main_arg3) = m' ((c.tc : Thread Cert.ReferenceAfwdIdeal.nD Cert.ReferenceAfwdIdeal.τ).loc Cert.ReferenceAfwdIdeal.main_arg3)
          ∧ r.2.mem ((c.tc : Thread Cert.ReferenceAfwdIdeal.nD Cert.ReferenceAfwdIdeal.τ).loc Cert.ReferenceAfwdIdeal.main_arg4) = m' ((c.tc : Thread Cert.ReferenceAfwdIdeal.nD Cert.ReferenceAfwdIdeal.τ).loc Cert.ReferenceAfwdIdeal.main_arg4)
          ∧ r.2.mem ((c.tc : Thread Cert.ReferenceAfwdIdeal.nD Cert.ReferenceAfwdIdeal.τ).loc Cert.ReferenceAfwdIdeal.main_arg5) = m' ((c.tc : Thread Cert.ReferenceAfwdIdeal.nD Cert.ReferenceAfwdIdeal.τ).loc Cert.ReferenceAfwdIdeal.main_arg5)
          ∧ r.2.mem ((c.tc : Thread Cert.ReferenceAfwdIdeal.nD Cert.ReferenceAfwdIdeal.τ).loc Cert.ReferenceAfwdIdeal.main_arg6) = m' ((c.tc : Thread Cert.ReferenceAfwdIdeal.nD Cert.ReferenceAfwdIdeal.τ).loc Cert.ReferenceAfwdIdeal.main_arg6))

def preserves_KernelConv_KernelConvIdeal : Prop :=
  True

def preserves_KernelMfwd_KernelMfwdIdeal : Prop :=
  True

def algebraic_KernelMfwdIdeal_ReferenceMfwdIdeal [hKernelMfwdIdeal : Cert.KernelMfwdIdeal.Facts] [hReferenceMfwdIdeal : Cert.ReferenceMfwdIdeal.Facts] : Prop :=
  ∀ (m : (ℓ : Loc Cert.KernelMfwdIdeal.nD Cert.KernelMfwdIdeal.τ Cert.KernelMfwdIdeal.sig) → Buf (Elt Ideal) ℓ) (g : Dev Cert.KernelMfwdIdeal.nD → PrngReg)
    (m' : (ℓ : Loc Cert.ReferenceMfwdIdeal.nD Cert.ReferenceMfwdIdeal.τ Cert.ReferenceMfwdIdeal.sig) → Buf (Elt Ideal) ℓ) (g' : Dev Cert.ReferenceMfwdIdeal.nD → PrngReg), Pre_KernelMfwdIdeal m →
    (∀ c : Dev Cert.KernelMfwdIdeal.nD,
      m' ((c.tc : Thread Cert.ReferenceMfwdIdeal.nD Cert.ReferenceMfwdIdeal.τ).loc Cert.ReferenceMfwdIdeal.main_arg0) = m ((c.tc : Thread Cert.KernelMfwdIdeal.nD Cert.KernelMfwdIdeal.τ).loc Cert.KernelMfwdIdeal.main_arg0)
      ∧ m' ((c.tc : Thread Cert.ReferenceMfwdIdeal.nD Cert.ReferenceMfwdIdeal.τ).loc Cert.ReferenceMfwdIdeal.main_arg1) = m ((c.tc : Thread Cert.KernelMfwdIdeal.nD Cert.KernelMfwdIdeal.τ).loc Cert.KernelMfwdIdeal.main_arg1)
      ∧ m' ((c.tc : Thread Cert.ReferenceMfwdIdeal.nD Cert.ReferenceMfwdIdeal.τ).loc Cert.ReferenceMfwdIdeal.main_arg2) = m ((c.tc : Thread Cert.KernelMfwdIdeal.nD Cert.KernelMfwdIdeal.τ).loc Cert.KernelMfwdIdeal.main_arg2)
      ∧ m' ((c.tc : Thread Cert.ReferenceMfwdIdeal.nD Cert.ReferenceMfwdIdeal.τ).loc Cert.ReferenceMfwdIdeal.main_arg3) = m ((c.tc : Thread Cert.KernelMfwdIdeal.nD Cert.KernelMfwdIdeal.τ).loc Cert.KernelMfwdIdeal.main_arg3)) →
    ∃ (v0 : (c : Dev Cert.KernelMfwdIdeal.nD) → Buf (Elt Ideal) ((c.tc : Thread Cert.KernelMfwdIdeal.nD Cert.KernelMfwdIdeal.τ).loc Cert.KernelMfwdIdeal.main_v3_0)) (v1 : (c : Dev Cert.KernelMfwdIdeal.nD) → Buf (Elt Ideal) ((c.tc : Thread Cert.KernelMfwdIdeal.nD Cert.KernelMfwdIdeal.τ).loc Cert.KernelMfwdIdeal.main_v3_1)) (v2 : (c : Dev Cert.KernelMfwdIdeal.nD) → Buf (Elt Ideal) ((c.tc : Thread Cert.KernelMfwdIdeal.nD Cert.KernelMfwdIdeal.τ).loc Cert.KernelMfwdIdeal.main_v3_2)),
      θ_run (Cert.KernelMfwdIdeal.defs (F := Ideal)) (onTc (τ := Cert.KernelMfwdIdeal.τ) (Cert.KernelMfwdIdeal.main (F := Ideal))) ⟨m, fun _ => 0, g⟩ (fun r => ∀ c : Dev Cert.KernelMfwdIdeal.nD,
          r.2.mem ((c.tc : Thread Cert.KernelMfwdIdeal.nD Cert.KernelMfwdIdeal.τ).loc Cert.KernelMfwdIdeal.main_v3_0) = v0 c
          ∧ r.2.mem ((c.tc : Thread Cert.KernelMfwdIdeal.nD Cert.KernelMfwdIdeal.τ).loc Cert.KernelMfwdIdeal.main_v3_1) = v1 c
          ∧ r.2.mem ((c.tc : Thread Cert.KernelMfwdIdeal.nD Cert.KernelMfwdIdeal.τ).loc Cert.KernelMfwdIdeal.main_v3_2) = v2 c
          ∧ r.2.mem ((c.tc : Thread Cert.KernelMfwdIdeal.nD Cert.KernelMfwdIdeal.τ).loc Cert.KernelMfwdIdeal.main_arg0) = m ((c.tc : Thread Cert.KernelMfwdIdeal.nD Cert.KernelMfwdIdeal.τ).loc Cert.KernelMfwdIdeal.main_arg0)
          ∧ r.2.mem ((c.tc : Thread Cert.KernelMfwdIdeal.nD Cert.KernelMfwdIdeal.τ).loc Cert.KernelMfwdIdeal.main_arg1) = m ((c.tc : Thread Cert.KernelMfwdIdeal.nD Cert.KernelMfwdIdeal.τ).loc Cert.KernelMfwdIdeal.main_arg1)
          ∧ r.2.mem ((c.tc : Thread Cert.KernelMfwdIdeal.nD Cert.KernelMfwdIdeal.τ).loc Cert.KernelMfwdIdeal.main_arg2) = m ((c.tc : Thread Cert.KernelMfwdIdeal.nD Cert.KernelMfwdIdeal.τ).loc Cert.KernelMfwdIdeal.main_arg2)
          ∧ r.2.mem ((c.tc : Thread Cert.KernelMfwdIdeal.nD Cert.KernelMfwdIdeal.τ).loc Cert.KernelMfwdIdeal.main_arg3) = m ((c.tc : Thread Cert.KernelMfwdIdeal.nD Cert.KernelMfwdIdeal.τ).loc Cert.KernelMfwdIdeal.main_arg3))
      ∧ θ_run (Cert.ReferenceMfwdIdeal.defs (F := Ideal)) (onTc (τ := Cert.ReferenceMfwdIdeal.τ) (Cert.ReferenceMfwdIdeal.main (F := Ideal))) ⟨m', fun _ => 0, g'⟩ (fun r => ∀ c : Dev Cert.ReferenceMfwdIdeal.nD,
          r.2.mem ((c.tc : Thread Cert.ReferenceMfwdIdeal.nD Cert.ReferenceMfwdIdeal.τ).loc Cert.ReferenceMfwdIdeal.main_v15) = v0 c
          ∧ r.2.mem ((c.tc : Thread Cert.ReferenceMfwdIdeal.nD Cert.ReferenceMfwdIdeal.τ).loc Cert.ReferenceMfwdIdeal.main_v16) = v1 c
          ∧ r.2.mem ((c.tc : Thread Cert.ReferenceMfwdIdeal.nD Cert.ReferenceMfwdIdeal.τ).loc Cert.ReferenceMfwdIdeal.main_v17) = v2 c
          ∧ r.2.mem ((c.tc : Thread Cert.ReferenceMfwdIdeal.nD Cert.ReferenceMfwdIdeal.τ).loc Cert.ReferenceMfwdIdeal.main_arg0) = m' ((c.tc : Thread Cert.ReferenceMfwdIdeal.nD Cert.ReferenceMfwdIdeal.τ).loc Cert.ReferenceMfwdIdeal.main_arg0)
          ∧ r.2.mem ((c.tc : Thread Cert.ReferenceMfwdIdeal.nD Cert.ReferenceMfwdIdeal.τ).loc Cert.ReferenceMfwdIdeal.main_arg1) = m' ((c.tc : Thread Cert.ReferenceMfwdIdeal.nD Cert.ReferenceMfwdIdeal.τ).loc Cert.ReferenceMfwdIdeal.main_arg1)
          ∧ r.2.mem ((c.tc : Thread Cert.ReferenceMfwdIdeal.nD Cert.ReferenceMfwdIdeal.τ).loc Cert.ReferenceMfwdIdeal.main_arg2) = m' ((c.tc : Thread Cert.ReferenceMfwdIdeal.nD Cert.ReferenceMfwdIdeal.τ).loc Cert.ReferenceMfwdIdeal.main_arg2)
          ∧ r.2.mem ((c.tc : Thread Cert.ReferenceMfwdIdeal.nD Cert.ReferenceMfwdIdeal.τ).loc Cert.ReferenceMfwdIdeal.main_arg3) = m' ((c.tc : Thread Cert.ReferenceMfwdIdeal.nD Cert.ReferenceMfwdIdeal.τ).loc Cert.ReferenceMfwdIdeal.main_arg3))

def preserves_KernelFfwd_KernelFfwdIdeal : Prop :=
  True

def algebraic_KernelFfwdIdeal_ReferenceFfwdIdeal [hKernelFfwdIdeal : Cert.KernelFfwdIdeal.Facts] [hReferenceFfwdIdeal : Cert.ReferenceFfwdIdeal.Facts] : Prop :=
  ∀ (m : (ℓ : Loc Cert.KernelFfwdIdeal.nD Cert.KernelFfwdIdeal.τ Cert.KernelFfwdIdeal.sig) → Buf (Elt Ideal) ℓ) (g : Dev Cert.KernelFfwdIdeal.nD → PrngReg)
    (m' : (ℓ : Loc Cert.ReferenceFfwdIdeal.nD Cert.ReferenceFfwdIdeal.τ Cert.ReferenceFfwdIdeal.sig) → Buf (Elt Ideal) ℓ) (g' : Dev Cert.ReferenceFfwdIdeal.nD → PrngReg), Pre_KernelFfwdIdeal m →
    (∀ c : Dev Cert.KernelFfwdIdeal.nD,
      m' ((c.tc : Thread Cert.ReferenceFfwdIdeal.nD Cert.ReferenceFfwdIdeal.τ).loc Cert.ReferenceFfwdIdeal.main_arg0) = m ((c.tc : Thread Cert.KernelFfwdIdeal.nD Cert.KernelFfwdIdeal.τ).loc Cert.KernelFfwdIdeal.main_arg0)
      ∧ m' ((c.tc : Thread Cert.ReferenceFfwdIdeal.nD Cert.ReferenceFfwdIdeal.τ).loc Cert.ReferenceFfwdIdeal.main_arg1) = m ((c.tc : Thread Cert.KernelFfwdIdeal.nD Cert.KernelFfwdIdeal.τ).loc Cert.KernelFfwdIdeal.main_arg1)
      ∧ m' ((c.tc : Thread Cert.ReferenceFfwdIdeal.nD Cert.ReferenceFfwdIdeal.τ).loc Cert.ReferenceFfwdIdeal.main_arg2) = m ((c.tc : Thread Cert.KernelFfwdIdeal.nD Cert.KernelFfwdIdeal.τ).loc Cert.KernelFfwdIdeal.main_arg2)
      ∧ m' ((c.tc : Thread Cert.ReferenceFfwdIdeal.nD Cert.ReferenceFfwdIdeal.τ).loc Cert.ReferenceFfwdIdeal.main_arg3) = m ((c.tc : Thread Cert.KernelFfwdIdeal.nD Cert.KernelFfwdIdeal.τ).loc Cert.KernelFfwdIdeal.main_arg3)
      ∧ m' ((c.tc : Thread Cert.ReferenceFfwdIdeal.nD Cert.ReferenceFfwdIdeal.τ).loc Cert.ReferenceFfwdIdeal.main_arg4) = m ((c.tc : Thread Cert.KernelFfwdIdeal.nD Cert.KernelFfwdIdeal.τ).loc Cert.KernelFfwdIdeal.main_arg4)
      ∧ m' ((c.tc : Thread Cert.ReferenceFfwdIdeal.nD Cert.ReferenceFfwdIdeal.τ).loc Cert.ReferenceFfwdIdeal.main_arg5) = m ((c.tc : Thread Cert.KernelFfwdIdeal.nD Cert.KernelFfwdIdeal.τ).loc Cert.KernelFfwdIdeal.main_arg5)
      ∧ m' ((c.tc : Thread Cert.ReferenceFfwdIdeal.nD Cert.ReferenceFfwdIdeal.τ).loc Cert.ReferenceFfwdIdeal.main_arg6) = m ((c.tc : Thread Cert.KernelFfwdIdeal.nD Cert.KernelFfwdIdeal.τ).loc Cert.KernelFfwdIdeal.main_arg6)) →
    ∃ (v0 : (c : Dev Cert.KernelFfwdIdeal.nD) → Buf (Elt Ideal) ((c.tc : Thread Cert.KernelFfwdIdeal.nD Cert.KernelFfwdIdeal.τ).loc Cert.KernelFfwdIdeal.main_v7_0)) (v1 : (c : Dev Cert.KernelFfwdIdeal.nD) → Buf (Elt Ideal) ((c.tc : Thread Cert.KernelFfwdIdeal.nD Cert.KernelFfwdIdeal.τ).loc Cert.KernelFfwdIdeal.main_v7_1)) (v2 : (c : Dev Cert.KernelFfwdIdeal.nD) → Buf (Elt Ideal) ((c.tc : Thread Cert.KernelFfwdIdeal.nD Cert.KernelFfwdIdeal.τ).loc Cert.KernelFfwdIdeal.main_v7_2)) (v3 : (c : Dev Cert.KernelFfwdIdeal.nD) → Buf (Elt Ideal) ((c.tc : Thread Cert.KernelFfwdIdeal.nD Cert.KernelFfwdIdeal.τ).loc Cert.KernelFfwdIdeal.main_v7_3)) (v4 : (c : Dev Cert.KernelFfwdIdeal.nD) → Buf (Elt Ideal) ((c.tc : Thread Cert.KernelFfwdIdeal.nD Cert.KernelFfwdIdeal.τ).loc Cert.KernelFfwdIdeal.main_v7_4)),
      θ_run (Cert.KernelFfwdIdeal.defs (F := Ideal)) (onTc (τ := Cert.KernelFfwdIdeal.τ) (Cert.KernelFfwdIdeal.main (F := Ideal))) ⟨m, fun _ => 0, g⟩ (fun r => ∀ c : Dev Cert.KernelFfwdIdeal.nD,
          r.2.mem ((c.tc : Thread Cert.KernelFfwdIdeal.nD Cert.KernelFfwdIdeal.τ).loc Cert.KernelFfwdIdeal.main_v7_0) = v0 c
          ∧ r.2.mem ((c.tc : Thread Cert.KernelFfwdIdeal.nD Cert.KernelFfwdIdeal.τ).loc Cert.KernelFfwdIdeal.main_v7_1) = v1 c
          ∧ r.2.mem ((c.tc : Thread Cert.KernelFfwdIdeal.nD Cert.KernelFfwdIdeal.τ).loc Cert.KernelFfwdIdeal.main_v7_2) = v2 c
          ∧ r.2.mem ((c.tc : Thread Cert.KernelFfwdIdeal.nD Cert.KernelFfwdIdeal.τ).loc Cert.KernelFfwdIdeal.main_v7_3) = v3 c
          ∧ r.2.mem ((c.tc : Thread Cert.KernelFfwdIdeal.nD Cert.KernelFfwdIdeal.τ).loc Cert.KernelFfwdIdeal.main_v7_4) = v4 c
          ∧ r.2.mem ((c.tc : Thread Cert.KernelFfwdIdeal.nD Cert.KernelFfwdIdeal.τ).loc Cert.KernelFfwdIdeal.main_arg0) = m ((c.tc : Thread Cert.KernelFfwdIdeal.nD Cert.KernelFfwdIdeal.τ).loc Cert.KernelFfwdIdeal.main_arg0)
          ∧ r.2.mem ((c.tc : Thread Cert.KernelFfwdIdeal.nD Cert.KernelFfwdIdeal.τ).loc Cert.KernelFfwdIdeal.main_arg1) = m ((c.tc : Thread Cert.KernelFfwdIdeal.nD Cert.KernelFfwdIdeal.τ).loc Cert.KernelFfwdIdeal.main_arg1)
          ∧ r.2.mem ((c.tc : Thread Cert.KernelFfwdIdeal.nD Cert.KernelFfwdIdeal.τ).loc Cert.KernelFfwdIdeal.main_arg2) = m ((c.tc : Thread Cert.KernelFfwdIdeal.nD Cert.KernelFfwdIdeal.τ).loc Cert.KernelFfwdIdeal.main_arg2)
          ∧ r.2.mem ((c.tc : Thread Cert.KernelFfwdIdeal.nD Cert.KernelFfwdIdeal.τ).loc Cert.KernelFfwdIdeal.main_arg3) = m ((c.tc : Thread Cert.KernelFfwdIdeal.nD Cert.KernelFfwdIdeal.τ).loc Cert.KernelFfwdIdeal.main_arg3)
          ∧ r.2.mem ((c.tc : Thread Cert.KernelFfwdIdeal.nD Cert.KernelFfwdIdeal.τ).loc Cert.KernelFfwdIdeal.main_arg4) = m ((c.tc : Thread Cert.KernelFfwdIdeal.nD Cert.KernelFfwdIdeal.τ).loc Cert.KernelFfwdIdeal.main_arg4)
          ∧ r.2.mem ((c.tc : Thread Cert.KernelFfwdIdeal.nD Cert.KernelFfwdIdeal.τ).loc Cert.KernelFfwdIdeal.main_arg5) = m ((c.tc : Thread Cert.KernelFfwdIdeal.nD Cert.KernelFfwdIdeal.τ).loc Cert.KernelFfwdIdeal.main_arg5)
          ∧ r.2.mem ((c.tc : Thread Cert.KernelFfwdIdeal.nD Cert.KernelFfwdIdeal.τ).loc Cert.KernelFfwdIdeal.main_arg6) = m ((c.tc : Thread Cert.KernelFfwdIdeal.nD Cert.KernelFfwdIdeal.τ).loc Cert.KernelFfwdIdeal.main_arg6))
      ∧ θ_run (Cert.ReferenceFfwdIdeal.defs (F := Ideal)) (onTc (τ := Cert.ReferenceFfwdIdeal.τ) (Cert.ReferenceFfwdIdeal.main (F := Ideal))) ⟨m', fun _ => 0, g'⟩ (fun r => ∀ c : Dev Cert.ReferenceFfwdIdeal.nD,
          r.2.mem ((c.tc : Thread Cert.ReferenceFfwdIdeal.nD Cert.ReferenceFfwdIdeal.τ).loc Cert.ReferenceFfwdIdeal.main_v34) = v0 c
          ∧ r.2.mem ((c.tc : Thread Cert.ReferenceFfwdIdeal.nD Cert.ReferenceFfwdIdeal.τ).loc Cert.ReferenceFfwdIdeal.main_v35) = v1 c
          ∧ r.2.mem ((c.tc : Thread Cert.ReferenceFfwdIdeal.nD Cert.ReferenceFfwdIdeal.τ).loc Cert.ReferenceFfwdIdeal.main_v36) = v2 c
          ∧ r.2.mem ((c.tc : Thread Cert.ReferenceFfwdIdeal.nD Cert.ReferenceFfwdIdeal.τ).loc Cert.ReferenceFfwdIdeal.main_v37) = v3 c
          ∧ r.2.mem ((c.tc : Thread Cert.ReferenceFfwdIdeal.nD Cert.ReferenceFfwdIdeal.τ).loc Cert.ReferenceFfwdIdeal.main_v39) = v4 c
          ∧ r.2.mem ((c.tc : Thread Cert.ReferenceFfwdIdeal.nD Cert.ReferenceFfwdIdeal.τ).loc Cert.ReferenceFfwdIdeal.main_arg0) = m' ((c.tc : Thread Cert.ReferenceFfwdIdeal.nD Cert.ReferenceFfwdIdeal.τ).loc Cert.ReferenceFfwdIdeal.main_arg0)
          ∧ r.2.mem ((c.tc : Thread Cert.ReferenceFfwdIdeal.nD Cert.ReferenceFfwdIdeal.τ).loc Cert.ReferenceFfwdIdeal.main_arg1) = m' ((c.tc : Thread Cert.ReferenceFfwdIdeal.nD Cert.ReferenceFfwdIdeal.τ).loc Cert.ReferenceFfwdIdeal.main_arg1)
          ∧ r.2.mem ((c.tc : Thread Cert.ReferenceFfwdIdeal.nD Cert.ReferenceFfwdIdeal.τ).loc Cert.ReferenceFfwdIdeal.main_arg2) = m' ((c.tc : Thread Cert.ReferenceFfwdIdeal.nD Cert.ReferenceFfwdIdeal.τ).loc Cert.ReferenceFfwdIdeal.main_arg2)
          ∧ r.2.mem ((c.tc : Thread Cert.ReferenceFfwdIdeal.nD Cert.ReferenceFfwdIdeal.τ).loc Cert.ReferenceFfwdIdeal.main_arg3) = m' ((c.tc : Thread Cert.ReferenceFfwdIdeal.nD Cert.ReferenceFfwdIdeal.τ).loc Cert.ReferenceFfwdIdeal.main_arg3)
          ∧ r.2.mem ((c.tc : Thread Cert.ReferenceFfwdIdeal.nD Cert.ReferenceFfwdIdeal.τ).loc Cert.ReferenceFfwdIdeal.main_arg4) = m' ((c.tc : Thread Cert.ReferenceFfwdIdeal.nD Cert.ReferenceFfwdIdeal.τ).loc Cert.ReferenceFfwdIdeal.main_arg4)
          ∧ r.2.mem ((c.tc : Thread Cert.ReferenceFfwdIdeal.nD Cert.ReferenceFfwdIdeal.τ).loc Cert.ReferenceFfwdIdeal.main_arg5) = m' ((c.tc : Thread Cert.ReferenceFfwdIdeal.nD Cert.ReferenceFfwdIdeal.τ).loc Cert.ReferenceFfwdIdeal.main_arg5)
          ∧ r.2.mem ((c.tc : Thread Cert.ReferenceFfwdIdeal.nD Cert.ReferenceFfwdIdeal.τ).loc Cert.ReferenceFfwdIdeal.main_arg6) = m' ((c.tc : Thread Cert.ReferenceFfwdIdeal.nD Cert.ReferenceFfwdIdeal.τ).loc Cert.ReferenceFfwdIdeal.main_arg6))

def preserves_KernelNfwd_KernelNfwdIdeal : Prop :=
  True

def algebraic_KernelNfwdIdeal_ReferenceNfwdIdeal [hKernelNfwdIdeal : Cert.KernelNfwdIdeal.Facts] [hReferenceNfwdIdeal : Cert.ReferenceNfwdIdeal.Facts] : Prop :=
  ∀ (m : (ℓ : Loc Cert.KernelNfwdIdeal.nD Cert.KernelNfwdIdeal.τ Cert.KernelNfwdIdeal.sig) → Buf (Elt Ideal) ℓ) (g : Dev Cert.KernelNfwdIdeal.nD → PrngReg)
    (m' : (ℓ : Loc Cert.ReferenceNfwdIdeal.nD Cert.ReferenceNfwdIdeal.τ Cert.ReferenceNfwdIdeal.sig) → Buf (Elt Ideal) ℓ) (g' : Dev Cert.ReferenceNfwdIdeal.nD → PrngReg), Pre_KernelNfwdIdeal m →
    (∀ c : Dev Cert.KernelNfwdIdeal.nD,
      m' ((c.tc : Thread Cert.ReferenceNfwdIdeal.nD Cert.ReferenceNfwdIdeal.τ).loc Cert.ReferenceNfwdIdeal.main_arg0) = m ((c.tc : Thread Cert.KernelNfwdIdeal.nD Cert.KernelNfwdIdeal.τ).loc Cert.KernelNfwdIdeal.main_arg0)
      ∧ m' ((c.tc : Thread Cert.ReferenceNfwdIdeal.nD Cert.ReferenceNfwdIdeal.τ).loc Cert.ReferenceNfwdIdeal.main_arg1) = m ((c.tc : Thread Cert.KernelNfwdIdeal.nD Cert.KernelNfwdIdeal.τ).loc Cert.KernelNfwdIdeal.main_arg1)
      ∧ m' ((c.tc : Thread Cert.ReferenceNfwdIdeal.nD Cert.ReferenceNfwdIdeal.τ).loc Cert.ReferenceNfwdIdeal.main_arg2) = m ((c.tc : Thread Cert.KernelNfwdIdeal.nD Cert.KernelNfwdIdeal.τ).loc Cert.KernelNfwdIdeal.main_arg2)) →
    ∃ (v0 : (c : Dev Cert.KernelNfwdIdeal.nD) → Buf (Elt Ideal) ((c.tc : Thread Cert.KernelNfwdIdeal.nD Cert.KernelNfwdIdeal.τ).loc Cert.KernelNfwdIdeal.main_v3_0)) (v1 : (c : Dev Cert.KernelNfwdIdeal.nD) → Buf (Elt Ideal) ((c.tc : Thread Cert.KernelNfwdIdeal.nD Cert.KernelNfwdIdeal.τ).loc Cert.KernelNfwdIdeal.main_v3_1)),
      θ_run (Cert.KernelNfwdIdeal.defs (F := Ideal)) (onTc (τ := Cert.KernelNfwdIdeal.τ) (Cert.KernelNfwdIdeal.main (F := Ideal))) ⟨m, fun _ => 0, g⟩ (fun r => ∀ c : Dev Cert.KernelNfwdIdeal.nD,
          r.2.mem ((c.tc : Thread Cert.KernelNfwdIdeal.nD Cert.KernelNfwdIdeal.τ).loc Cert.KernelNfwdIdeal.main_v3_0) = v0 c
          ∧ r.2.mem ((c.tc : Thread Cert.KernelNfwdIdeal.nD Cert.KernelNfwdIdeal.τ).loc Cert.KernelNfwdIdeal.main_v3_1) = v1 c
          ∧ r.2.mem ((c.tc : Thread Cert.KernelNfwdIdeal.nD Cert.KernelNfwdIdeal.τ).loc Cert.KernelNfwdIdeal.main_arg0) = m ((c.tc : Thread Cert.KernelNfwdIdeal.nD Cert.KernelNfwdIdeal.τ).loc Cert.KernelNfwdIdeal.main_arg0)
          ∧ r.2.mem ((c.tc : Thread Cert.KernelNfwdIdeal.nD Cert.KernelNfwdIdeal.τ).loc Cert.KernelNfwdIdeal.main_arg1) = m ((c.tc : Thread Cert.KernelNfwdIdeal.nD Cert.KernelNfwdIdeal.τ).loc Cert.KernelNfwdIdeal.main_arg1)
          ∧ r.2.mem ((c.tc : Thread Cert.KernelNfwdIdeal.nD Cert.KernelNfwdIdeal.τ).loc Cert.KernelNfwdIdeal.main_arg2) = m ((c.tc : Thread Cert.KernelNfwdIdeal.nD Cert.KernelNfwdIdeal.τ).loc Cert.KernelNfwdIdeal.main_arg2))
      ∧ θ_run (Cert.ReferenceNfwdIdeal.defs (F := Ideal)) (onTc (τ := Cert.ReferenceNfwdIdeal.τ) (Cert.ReferenceNfwdIdeal.main (F := Ideal))) ⟨m', fun _ => 0, g'⟩ (fun r => ∀ c : Dev Cert.ReferenceNfwdIdeal.nD,
          r.2.mem ((c.tc : Thread Cert.ReferenceNfwdIdeal.nD Cert.ReferenceNfwdIdeal.τ).loc Cert.ReferenceNfwdIdeal.main_v13) = v0 c
          ∧ r.2.mem ((c.tc : Thread Cert.ReferenceNfwdIdeal.nD Cert.ReferenceNfwdIdeal.τ).loc Cert.ReferenceNfwdIdeal.main_v15) = v1 c
          ∧ r.2.mem ((c.tc : Thread Cert.ReferenceNfwdIdeal.nD Cert.ReferenceNfwdIdeal.τ).loc Cert.ReferenceNfwdIdeal.main_arg0) = m' ((c.tc : Thread Cert.ReferenceNfwdIdeal.nD Cert.ReferenceNfwdIdeal.τ).loc Cert.ReferenceNfwdIdeal.main_arg0)
          ∧ r.2.mem ((c.tc : Thread Cert.ReferenceNfwdIdeal.nD Cert.ReferenceNfwdIdeal.τ).loc Cert.ReferenceNfwdIdeal.main_arg1) = m' ((c.tc : Thread Cert.ReferenceNfwdIdeal.nD Cert.ReferenceNfwdIdeal.τ).loc Cert.ReferenceNfwdIdeal.main_arg1)
          ∧ r.2.mem ((c.tc : Thread Cert.ReferenceNfwdIdeal.nD Cert.ReferenceNfwdIdeal.τ).loc Cert.ReferenceNfwdIdeal.main_arg2) = m' ((c.tc : Thread Cert.ReferenceNfwdIdeal.nD Cert.ReferenceNfwdIdeal.τ).loc Cert.ReferenceNfwdIdeal.main_arg2))

def preserves_KernelWgrad_KernelWgradIdeal : Prop :=
  True

def algebraic_KernelWgradIdeal_ReferenceWgradIdeal [hKernelWgradIdeal : Cert.KernelWgradIdeal.Facts] [hReferenceWgradIdeal : Cert.ReferenceWgradIdeal.Facts] : Prop :=
  ∀ (m : (ℓ : Loc Cert.KernelWgradIdeal.nD Cert.KernelWgradIdeal.τ Cert.KernelWgradIdeal.sig) → Buf (Elt Ideal) ℓ) (g : Dev Cert.KernelWgradIdeal.nD → PrngReg)
    (m' : (ℓ : Loc Cert.ReferenceWgradIdeal.nD Cert.ReferenceWgradIdeal.τ Cert.ReferenceWgradIdeal.sig) → Buf (Elt Ideal) ℓ) (g' : Dev Cert.ReferenceWgradIdeal.nD → PrngReg), Pre_KernelWgradIdeal m →
    (∀ c : Dev Cert.KernelWgradIdeal.nD,
      m' ((c.tc : Thread Cert.ReferenceWgradIdeal.nD Cert.ReferenceWgradIdeal.τ).loc Cert.ReferenceWgradIdeal.main_arg0) = m ((c.tc : Thread Cert.KernelWgradIdeal.nD Cert.KernelWgradIdeal.τ).loc Cert.KernelWgradIdeal.main_arg0)
      ∧ m' ((c.tc : Thread Cert.ReferenceWgradIdeal.nD Cert.ReferenceWgradIdeal.τ).loc Cert.ReferenceWgradIdeal.main_arg1) = m ((c.tc : Thread Cert.KernelWgradIdeal.nD Cert.KernelWgradIdeal.τ).loc Cert.KernelWgradIdeal.main_arg1)) →
    ∃ (v0 : (c : Dev Cert.KernelWgradIdeal.nD) → Buf (Elt Ideal) ((c.tc : Thread Cert.KernelWgradIdeal.nD Cert.KernelWgradIdeal.τ).loc Cert.KernelWgradIdeal.main_v2)),
      θ_run (Cert.KernelWgradIdeal.defs (F := Ideal)) (onTc (τ := Cert.KernelWgradIdeal.τ) (Cert.KernelWgradIdeal.main (F := Ideal))) ⟨m, fun _ => 0, g⟩ (fun r => ∀ c : Dev Cert.KernelWgradIdeal.nD,
          r.2.mem ((c.tc : Thread Cert.KernelWgradIdeal.nD Cert.KernelWgradIdeal.τ).loc Cert.KernelWgradIdeal.main_v2) = v0 c
          ∧ r.2.mem ((c.tc : Thread Cert.KernelWgradIdeal.nD Cert.KernelWgradIdeal.τ).loc Cert.KernelWgradIdeal.main_arg0) = m ((c.tc : Thread Cert.KernelWgradIdeal.nD Cert.KernelWgradIdeal.τ).loc Cert.KernelWgradIdeal.main_arg0)
          ∧ r.2.mem ((c.tc : Thread Cert.KernelWgradIdeal.nD Cert.KernelWgradIdeal.τ).loc Cert.KernelWgradIdeal.main_arg1) = m ((c.tc : Thread Cert.KernelWgradIdeal.nD Cert.KernelWgradIdeal.τ).loc Cert.KernelWgradIdeal.main_arg1))
      ∧ θ_run (Cert.ReferenceWgradIdeal.defs (F := Ideal)) (onTc (τ := Cert.ReferenceWgradIdeal.τ) (Cert.ReferenceWgradIdeal.main (F := Ideal))) ⟨m', fun _ => 0, g'⟩ (fun r => ∀ c : Dev Cert.ReferenceWgradIdeal.nD,
          r.2.mem ((c.tc : Thread Cert.ReferenceWgradIdeal.nD Cert.ReferenceWgradIdeal.τ).loc Cert.ReferenceWgradIdeal.main_v1) = v0 c
          ∧ r.2.mem ((c.tc : Thread Cert.ReferenceWgradIdeal.nD Cert.ReferenceWgradIdeal.τ).loc Cert.ReferenceWgradIdeal.main_arg0) = m' ((c.tc : Thread Cert.ReferenceWgradIdeal.nD Cert.ReferenceWgradIdeal.τ).loc Cert.ReferenceWgradIdeal.main_arg0)
          ∧ r.2.mem ((c.tc : Thread Cert.ReferenceWgradIdeal.nD Cert.ReferenceWgradIdeal.τ).loc Cert.ReferenceWgradIdeal.main_arg1) = m' ((c.tc : Thread Cert.ReferenceWgradIdeal.nD Cert.ReferenceWgradIdeal.τ).loc Cert.ReferenceWgradIdeal.main_arg1))

def preserves_KernelAdamw_KernelAdamwIdeal : Prop :=
  True

def algebraic_KernelAdamwIdeal_ReferenceAdamwIdeal [hKernelAdamwIdeal : Cert.KernelAdamwIdeal.Facts] [hReferenceAdamwIdeal : Cert.ReferenceAdamwIdeal.Facts] : Prop :=
  ∀ (m : (ℓ : Loc Cert.KernelAdamwIdeal.nD Cert.KernelAdamwIdeal.τ Cert.KernelAdamwIdeal.sig) → Buf (Elt Ideal) ℓ) (g : Dev Cert.KernelAdamwIdeal.nD → PrngReg)
    (m' : (ℓ : Loc Cert.ReferenceAdamwIdeal.nD Cert.ReferenceAdamwIdeal.τ Cert.ReferenceAdamwIdeal.sig) → Buf (Elt Ideal) ℓ) (g' : Dev Cert.ReferenceAdamwIdeal.nD → PrngReg), Pre_KernelAdamwIdeal m →
    (∀ c : Dev Cert.KernelAdamwIdeal.nD,
      m' ((c.tc : Thread Cert.ReferenceAdamwIdeal.nD Cert.ReferenceAdamwIdeal.τ).loc Cert.ReferenceAdamwIdeal.main_arg0) = m ((c.tc : Thread Cert.KernelAdamwIdeal.nD Cert.KernelAdamwIdeal.τ).loc Cert.KernelAdamwIdeal.main_arg0)
      ∧ m' ((c.tc : Thread Cert.ReferenceAdamwIdeal.nD Cert.ReferenceAdamwIdeal.τ).loc Cert.ReferenceAdamwIdeal.main_arg1) = m ((c.tc : Thread Cert.KernelAdamwIdeal.nD Cert.KernelAdamwIdeal.τ).loc Cert.KernelAdamwIdeal.main_arg1)
      ∧ m' ((c.tc : Thread Cert.ReferenceAdamwIdeal.nD Cert.ReferenceAdamwIdeal.τ).loc Cert.ReferenceAdamwIdeal.main_arg2) = m ((c.tc : Thread Cert.KernelAdamwIdeal.nD Cert.KernelAdamwIdeal.τ).loc Cert.KernelAdamwIdeal.main_arg2)
      ∧ m' ((c.tc : Thread Cert.ReferenceAdamwIdeal.nD Cert.ReferenceAdamwIdeal.τ).loc Cert.ReferenceAdamwIdeal.main_arg3) = m ((c.tc : Thread Cert.KernelAdamwIdeal.nD Cert.KernelAdamwIdeal.τ).loc Cert.KernelAdamwIdeal.main_arg3)) →
    ∃ (v0 : (c : Dev Cert.KernelAdamwIdeal.nD) → Buf (Elt Ideal) ((c.tc : Thread Cert.KernelAdamwIdeal.nD Cert.KernelAdamwIdeal.τ).loc Cert.KernelAdamwIdeal.main_v2_0)) (v1 : (c : Dev Cert.KernelAdamwIdeal.nD) → Buf (Elt Ideal) ((c.tc : Thread Cert.KernelAdamwIdeal.nD Cert.KernelAdamwIdeal.τ).loc Cert.KernelAdamwIdeal.main_v2_1)) (v2 : (c : Dev Cert.KernelAdamwIdeal.nD) → Buf (Elt Ideal) ((c.tc : Thread Cert.KernelAdamwIdeal.nD Cert.KernelAdamwIdeal.τ).loc Cert.KernelAdamwIdeal.main_v2_2)) (v3 : (c : Dev Cert.KernelAdamwIdeal.nD) → Buf (Elt Ideal) ((c.tc : Thread Cert.KernelAdamwIdeal.nD Cert.KernelAdamwIdeal.τ).loc Cert.KernelAdamwIdeal.main_v2_3)),
      θ_run (Cert.KernelAdamwIdeal.defs (F := Ideal)) (onTc (τ := Cert.KernelAdamwIdeal.τ) (Cert.KernelAdamwIdeal.main (F := Ideal))) ⟨m, fun _ => 0, g⟩ (fun r => ∀ c : Dev Cert.KernelAdamwIdeal.nD,
          r.2.mem ((c.tc : Thread Cert.KernelAdamwIdeal.nD Cert.KernelAdamwIdeal.τ).loc Cert.KernelAdamwIdeal.main_v2_0) = v0 c
          ∧ r.2.mem ((c.tc : Thread Cert.KernelAdamwIdeal.nD Cert.KernelAdamwIdeal.τ).loc Cert.KernelAdamwIdeal.main_v2_1) = v1 c
          ∧ r.2.mem ((c.tc : Thread Cert.KernelAdamwIdeal.nD Cert.KernelAdamwIdeal.τ).loc Cert.KernelAdamwIdeal.main_v2_2) = v2 c
          ∧ r.2.mem ((c.tc : Thread Cert.KernelAdamwIdeal.nD Cert.KernelAdamwIdeal.τ).loc Cert.KernelAdamwIdeal.main_v2_3) = v3 c
          ∧ r.2.mem ((c.tc : Thread Cert.KernelAdamwIdeal.nD Cert.KernelAdamwIdeal.τ).loc Cert.KernelAdamwIdeal.main_arg0) = m ((c.tc : Thread Cert.KernelAdamwIdeal.nD Cert.KernelAdamwIdeal.τ).loc Cert.KernelAdamwIdeal.main_arg0)
          ∧ r.2.mem ((c.tc : Thread Cert.KernelAdamwIdeal.nD Cert.KernelAdamwIdeal.τ).loc Cert.KernelAdamwIdeal.main_arg1) = m ((c.tc : Thread Cert.KernelAdamwIdeal.nD Cert.KernelAdamwIdeal.τ).loc Cert.KernelAdamwIdeal.main_arg1)
          ∧ r.2.mem ((c.tc : Thread Cert.KernelAdamwIdeal.nD Cert.KernelAdamwIdeal.τ).loc Cert.KernelAdamwIdeal.main_arg2) = m ((c.tc : Thread Cert.KernelAdamwIdeal.nD Cert.KernelAdamwIdeal.τ).loc Cert.KernelAdamwIdeal.main_arg2)
          ∧ r.2.mem ((c.tc : Thread Cert.KernelAdamwIdeal.nD Cert.KernelAdamwIdeal.τ).loc Cert.KernelAdamwIdeal.main_arg3) = m ((c.tc : Thread Cert.KernelAdamwIdeal.nD Cert.KernelAdamwIdeal.τ).loc Cert.KernelAdamwIdeal.main_arg3))
      ∧ θ_run (Cert.ReferenceAdamwIdeal.defs (F := Ideal)) (onTc (τ := Cert.ReferenceAdamwIdeal.τ) (Cert.ReferenceAdamwIdeal.main (F := Ideal))) ⟨m', fun _ => 0, g'⟩ (fun r => ∀ c : Dev Cert.ReferenceAdamwIdeal.nD,
          r.2.mem ((c.tc : Thread Cert.ReferenceAdamwIdeal.nD Cert.ReferenceAdamwIdeal.τ).loc Cert.ReferenceAdamwIdeal.main_v0) = v0 c
          ∧ r.2.mem ((c.tc : Thread Cert.ReferenceAdamwIdeal.nD Cert.ReferenceAdamwIdeal.τ).loc Cert.ReferenceAdamwIdeal.main_v24) = v1 c
          ∧ r.2.mem ((c.tc : Thread Cert.ReferenceAdamwIdeal.nD Cert.ReferenceAdamwIdeal.τ).loc Cert.ReferenceAdamwIdeal.main_v5) = v2 c
          ∧ r.2.mem ((c.tc : Thread Cert.ReferenceAdamwIdeal.nD Cert.ReferenceAdamwIdeal.τ).loc Cert.ReferenceAdamwIdeal.main_v11) = v3 c
          ∧ r.2.mem ((c.tc : Thread Cert.ReferenceAdamwIdeal.nD Cert.ReferenceAdamwIdeal.τ).loc Cert.ReferenceAdamwIdeal.main_arg0) = m' ((c.tc : Thread Cert.ReferenceAdamwIdeal.nD Cert.ReferenceAdamwIdeal.τ).loc Cert.ReferenceAdamwIdeal.main_arg0)
          ∧ r.2.mem ((c.tc : Thread Cert.ReferenceAdamwIdeal.nD Cert.ReferenceAdamwIdeal.τ).loc Cert.ReferenceAdamwIdeal.main_arg1) = m' ((c.tc : Thread Cert.ReferenceAdamwIdeal.nD Cert.ReferenceAdamwIdeal.τ).loc Cert.ReferenceAdamwIdeal.main_arg1)
          ∧ r.2.mem ((c.tc : Thread Cert.ReferenceAdamwIdeal.nD Cert.ReferenceAdamwIdeal.τ).loc Cert.ReferenceAdamwIdeal.main_arg2) = m' ((c.tc : Thread Cert.ReferenceAdamwIdeal.nD Cert.ReferenceAdamwIdeal.τ).loc Cert.ReferenceAdamwIdeal.main_arg2)
          ∧ r.2.mem ((c.tc : Thread Cert.ReferenceAdamwIdeal.nD Cert.ReferenceAdamwIdeal.τ).loc Cert.ReferenceAdamwIdeal.main_arg3) = m' ((c.tc : Thread Cert.ReferenceAdamwIdeal.nD Cert.ReferenceAdamwIdeal.τ).loc Cert.ReferenceAdamwIdeal.main_arg3))

def preserves_KernelSums_KernelSumsIdeal : Prop :=
  True

def algebraic_KernelSumsIdeal_ReferenceSumsIdeal [hKernelSumsIdeal : Cert.KernelSumsIdeal.Facts] [hReferenceSumsIdeal : Cert.ReferenceSumsIdeal.Facts] : Prop :=
  ∀ (m : (ℓ : Loc Cert.KernelSumsIdeal.nD Cert.KernelSumsIdeal.τ Cert.KernelSumsIdeal.sig) → Buf (Elt Ideal) ℓ) (g : Dev Cert.KernelSumsIdeal.nD → PrngReg)
    (m' : (ℓ : Loc Cert.ReferenceSumsIdeal.nD Cert.ReferenceSumsIdeal.τ Cert.ReferenceSumsIdeal.sig) → Buf (Elt Ideal) ℓ) (g' : Dev Cert.ReferenceSumsIdeal.nD → PrngReg), Pre_KernelSumsIdeal m →
    (∀ c : Dev Cert.KernelSumsIdeal.nD,
      m' ((c.tc : Thread Cert.ReferenceSumsIdeal.nD Cert.ReferenceSumsIdeal.τ).loc Cert.ReferenceSumsIdeal.main_arg0) = m ((c.tc : Thread Cert.KernelSumsIdeal.nD Cert.KernelSumsIdeal.τ).loc Cert.KernelSumsIdeal.main_arg0)) →
    ∃ (v0 : (c : Dev Cert.KernelSumsIdeal.nD) → Buf (Elt Ideal) ((c.tc : Thread Cert.KernelSumsIdeal.nD Cert.KernelSumsIdeal.τ).loc Cert.KernelSumsIdeal.main_v0)),
      θ_run (Cert.KernelSumsIdeal.defs (F := Ideal)) (onTc (τ := Cert.KernelSumsIdeal.τ) (Cert.KernelSumsIdeal.main (F := Ideal))) ⟨m, fun _ => 0, g⟩ (fun r => ∀ c : Dev Cert.KernelSumsIdeal.nD,
          r.2.mem ((c.tc : Thread Cert.KernelSumsIdeal.nD Cert.KernelSumsIdeal.τ).loc Cert.KernelSumsIdeal.main_v0) = v0 c
          ∧ r.2.mem ((c.tc : Thread Cert.KernelSumsIdeal.nD Cert.KernelSumsIdeal.τ).loc Cert.KernelSumsIdeal.main_arg0) = m ((c.tc : Thread Cert.KernelSumsIdeal.nD Cert.KernelSumsIdeal.τ).loc Cert.KernelSumsIdeal.main_arg0))
      ∧ θ_run (Cert.ReferenceSumsIdeal.defs (F := Ideal)) (onTc (τ := Cert.ReferenceSumsIdeal.τ) (Cert.ReferenceSumsIdeal.main (F := Ideal))) ⟨m', fun _ => 0, g'⟩ (fun r => ∀ c : Dev Cert.ReferenceSumsIdeal.nD,
          r.2.mem ((c.tc : Thread Cert.ReferenceSumsIdeal.nD Cert.ReferenceSumsIdeal.τ).loc Cert.ReferenceSumsIdeal.main_v0) = v0 c
          ∧ r.2.mem ((c.tc : Thread Cert.ReferenceSumsIdeal.nD Cert.ReferenceSumsIdeal.τ).loc Cert.ReferenceSumsIdeal.main_arg0) = m' ((c.tc : Thread Cert.ReferenceSumsIdeal.nD Cert.ReferenceSumsIdeal.τ).loc Cert.ReferenceSumsIdeal.main_arg0))

def Claim : Prop :=
  ∃ (hKernelMem : Cert.KernelMem.Facts) (hKernelMemIdeal : Cert.KernelMemIdeal.Facts) (hReferenceMemIdeal : Cert.ReferenceMemIdeal.Facts) (hKernelIn : Cert.KernelIn.Facts) (hKernelInIdeal : Cert.KernelInIdeal.Facts) (hReferenceInIdeal : Cert.ReferenceInIdeal.Facts) (hKernelFfn : Cert.KernelFfn.Facts) (hKernelFfnIdeal : Cert.KernelFfnIdeal.Facts) (hReferenceFfnIdeal : Cert.ReferenceFfnIdeal.Facts) (hKernelAttn : Cert.KernelAttn.Facts) (hKernelAttnIdeal : Cert.KernelAttnIdeal.Facts) (hReferenceAttnIdeal : Cert.ReferenceAttnIdeal.Facts) (hKernelAfwd : Cert.KernelAfwd.Facts) (hKernelAfwdIdeal : Cert.KernelAfwdIdeal.Facts) (hReferenceAfwdIdeal : Cert.ReferenceAfwdIdeal.Facts) (hKernelConv : Cert.KernelConv.Facts) (hKernelConvIdeal : Cert.KernelConvIdeal.Facts) (hReferenceConvIdeal : Cert.ReferenceConvIdeal.Facts) (hKernelMfwd : Cert.KernelMfwd.Facts) (hKernelMfwdIdeal : Cert.KernelMfwdIdeal.Facts) (hReferenceMfwdIdeal : Cert.ReferenceMfwdIdeal.Facts) (hKernelFfwd : Cert.KernelFfwd.Facts) (hKernelFfwdIdeal : Cert.KernelFfwdIdeal.Facts) (hReferenceFfwdIdeal : Cert.ReferenceFfwdIdeal.Facts) (hKernelNfwd : Cert.KernelNfwd.Facts) (hKernelNfwdIdeal : Cert.KernelNfwdIdeal.Facts) (hReferenceNfwdIdeal : Cert.ReferenceNfwdIdeal.Facts) (hKernelWgrad : Cert.KernelWgrad.Facts) (hKernelWgradIdeal : Cert.KernelWgradIdeal.Facts) (hReferenceWgradIdeal : Cert.ReferenceWgradIdeal.Facts) (hKernelAdamw : Cert.KernelAdamw.Facts) (hKernelAdamwIdeal : Cert.KernelAdamwIdeal.Facts) (hReferenceAdamwIdeal : Cert.ReferenceAdamwIdeal.Facts) (hKernelSums : Cert.KernelSums.Facts) (hKernelSumsIdeal : Cert.KernelSumsIdeal.Facts) (hReferenceSumsIdeal : Cert.ReferenceSumsIdeal.Facts) (hPre_finite_ffn : Cert.Pre_finite_ffn.Facts) (hPre_finite_attn : Cert.Pre_finite_attn.Facts),
    quiescent_KernelMem (hKernelMem := hKernelMem)
    ∧ quiescent_KernelMemIdeal (hKernelMemIdeal := hKernelMemIdeal)
    ∧ quiescent_ReferenceMemIdeal (hReferenceMemIdeal := hReferenceMemIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelFfn (hKernelFfn := hKernelFfn)
    ∧ quiescent_KernelFfnIdeal (hKernelFfnIdeal := hKernelFfnIdeal)
    ∧ quiescent_KernelFfnIdeal_pre_finite_ffn (hKernelFfnIdeal := hKernelFfnIdeal) (hPre_finite_ffn := hPre_finite_ffn)
    ∧ quiescent_ReferenceFfnIdeal (hReferenceFfnIdeal := hReferenceFfnIdeal)
    ∧ quiescent_ReferenceFfnIdeal_pre_finite_ffn (hReferenceFfnIdeal := hReferenceFfnIdeal) (hPre_finite_ffn := hPre_finite_ffn)
    ∧ quiescent_KernelAttn (hKernelAttn := hKernelAttn)
    ∧ quiescent_KernelAttnIdeal (hKernelAttnIdeal := hKernelAttnIdeal)
    ∧ quiescent_KernelAttnIdeal_pre_finite_attn (hKernelAttnIdeal := hKernelAttnIdeal) (hPre_finite_attn := hPre_finite_attn)
    ∧ quiescent_ReferenceAttnIdeal (hReferenceAttnIdeal := hReferenceAttnIdeal)
    ∧ quiescent_ReferenceAttnIdeal_pre_finite_attn (hReferenceAttnIdeal := hReferenceAttnIdeal) (hPre_finite_attn := hPre_finite_attn)
    ∧ quiescent_KernelAfwd (hKernelAfwd := hKernelAfwd)
    ∧ quiescent_KernelAfwdIdeal (hKernelAfwdIdeal := hKernelAfwdIdeal)
    ∧ quiescent_ReferenceAfwdIdeal (hReferenceAfwdIdeal := hReferenceAfwdIdeal)
    ∧ quiescent_KernelConv (hKernelConv := hKernelConv)
    ∧ quiescent_KernelConvIdeal (hKernelConvIdeal := hKernelConvIdeal)
    ∧ quiescent_ReferenceConvIdeal (hReferenceConvIdeal := hReferenceConvIdeal)
    ∧ quiescent_KernelMfwd (hKernelMfwd := hKernelMfwd)
    ∧ quiescent_KernelMfwdIdeal (hKernelMfwdIdeal := hKernelMfwdIdeal)
    ∧ quiescent_ReferenceMfwdIdeal (hReferenceMfwdIdeal := hReferenceMfwdIdeal)
    ∧ quiescent_KernelFfwd (hKernelFfwd := hKernelFfwd)
    ∧ quiescent_KernelFfwdIdeal (hKernelFfwdIdeal := hKernelFfwdIdeal)
    ∧ quiescent_ReferenceFfwdIdeal (hReferenceFfwdIdeal := hReferenceFfwdIdeal)
    ∧ quiescent_KernelNfwd (hKernelNfwd := hKernelNfwd)
    ∧ quiescent_KernelNfwdIdeal (hKernelNfwdIdeal := hKernelNfwdIdeal)
    ∧ quiescent_ReferenceNfwdIdeal (hReferenceNfwdIdeal := hReferenceNfwdIdeal)
    ∧ quiescent_KernelWgrad (hKernelWgrad := hKernelWgrad)
    ∧ quiescent_KernelWgradIdeal (hKernelWgradIdeal := hKernelWgradIdeal)
    ∧ quiescent_ReferenceWgradIdeal (hReferenceWgradIdeal := hReferenceWgradIdeal)
    ∧ quiescent_KernelAdamw (hKernelAdamw := hKernelAdamw)
    ∧ quiescent_KernelAdamwIdeal (hKernelAdamwIdeal := hKernelAdamwIdeal)
    ∧ quiescent_ReferenceAdamwIdeal (hReferenceAdamwIdeal := hReferenceAdamwIdeal)
    ∧ quiescent_KernelSums (hKernelSums := hKernelSums)
    ∧ quiescent_KernelSumsIdeal (hKernelSumsIdeal := hKernelSumsIdeal)
    ∧ quiescent_ReferenceSumsIdeal (hReferenceSumsIdeal := hReferenceSumsIdeal)
    ∧ preserves_KernelMem_KernelMemIdeal
    ∧ algebraic_KernelMemIdeal_ReferenceMemIdeal (hKernelMemIdeal := hKernelMemIdeal) (hReferenceMemIdeal := hReferenceMemIdeal)
    ∧ preserves_KernelIn_KernelInIdeal
    ∧ algebraic_KernelInIdeal_ReferenceInIdeal (hKernelInIdeal := hKernelInIdeal) (hReferenceInIdeal := hReferenceInIdeal)
    ∧ preserves_KernelFfn_KernelFfnIdeal
    ∧ algebraic_KernelFfnIdeal_ReferenceFfnIdeal_pre_finite_ffn (hKernelFfnIdeal := hKernelFfnIdeal) (hReferenceFfnIdeal := hReferenceFfnIdeal) (hPre_finite_ffn := hPre_finite_ffn)
    ∧ preserves_KernelAttn_KernelAttnIdeal
    ∧ algebraic_KernelAttnIdeal_ReferenceAttnIdeal_pre_finite_attn (hKernelAttnIdeal := hKernelAttnIdeal) (hReferenceAttnIdeal := hReferenceAttnIdeal) (hPre_finite_attn := hPre_finite_attn)
    ∧ preserves_KernelAfwd_KernelAfwdIdeal
    ∧ algebraic_KernelAfwdIdeal_ReferenceAfwdIdeal (hKernelAfwdIdeal := hKernelAfwdIdeal) (hReferenceAfwdIdeal := hReferenceAfwdIdeal)
    ∧ preserves_KernelConv_KernelConvIdeal
    ∧ preserves_KernelMfwd_KernelMfwdIdeal
    ∧ algebraic_KernelMfwdIdeal_ReferenceMfwdIdeal (hKernelMfwdIdeal := hKernelMfwdIdeal) (hReferenceMfwdIdeal := hReferenceMfwdIdeal)
    ∧ preserves_KernelFfwd_KernelFfwdIdeal
    ∧ algebraic_KernelFfwdIdeal_ReferenceFfwdIdeal (hKernelFfwdIdeal := hKernelFfwdIdeal) (hReferenceFfwdIdeal := hReferenceFfwdIdeal)
    ∧ preserves_KernelNfwd_KernelNfwdIdeal
    ∧ algebraic_KernelNfwdIdeal_ReferenceNfwdIdeal (hKernelNfwdIdeal := hKernelNfwdIdeal) (hReferenceNfwdIdeal := hReferenceNfwdIdeal)
    ∧ preserves_KernelWgrad_KernelWgradIdeal
    ∧ algebraic_KernelWgradIdeal_ReferenceWgradIdeal (hKernelWgradIdeal := hKernelWgradIdeal) (hReferenceWgradIdeal := hReferenceWgradIdeal)
    ∧ preserves_KernelAdamw_KernelAdamwIdeal
    ∧ algebraic_KernelAdamwIdeal_ReferenceAdamwIdeal (hKernelAdamwIdeal := hKernelAdamwIdeal) (hReferenceAdamwIdeal := hReferenceAdamwIdeal)
    ∧ preserves_KernelSums_KernelSumsIdeal
    ∧ algebraic_KernelSumsIdeal_ReferenceSumsIdeal (hKernelSumsIdeal := hKernelSumsIdeal) (hReferenceSumsIdeal := hReferenceSumsIdeal)
-- ==== Pre_finite_attn.lean ====
abbrev S16384x1024 : Shape := ⟨2, ![16384, 1024]⟩
abbrev S1024x1024 : Shape := ⟨2, ![1024, 1024]⟩
abbrev S1024 : Shape := ⟨1, ![1024]⟩
abbrev S256x1024 : Shape := ⟨2, ![256, 1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S256x1024 : S_.BroadcastsInDim S256x1024 (![] : Fin 0 → Fin S256x1024.rank)
  reducesTo_S256x1024_S_d0_1 : S256x1024.ReducesTo [0, 1] S_

variable [Facts]

def fn {F : FTy → Type} [FloatOps F] (main_arg0 : FVec F S16384x1024 .f32) (main_arg1 : FVec F S16384x1024 .f32) (main_arg2 : FVec F S1024x1024 .f32) (main_arg3 : FVec F S1024 .f32) (main_arg4 : FVec F S1024 .f32) (main_arg5 : FVec F S1024x1024 .f32) (main_arg6 : FVec F S256x1024 .f32) (main_arg7 : FVec F S256x1024 .f32) (main_arg8 : FVec F S1024x1024 .f32) (main_arg9 : FVec F S1024 .f32) (main_arg10 : FVec F S16384x1024 .f32) : IVec S_ 1 :=
  let main_v0 : FVec F S1024 .f32 := Host.absf main_arg4
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x1024 .f32 := Host.absf main_arg5
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S256x1024 .f32 := Host.absf main_arg6
  let main_cst_2 : FVec F S_ .f32 := constant S_ .f32 0x7F800000#32
  let main_v10 : FVec F S256x1024 .f32 := broadcastInDim S256x1024 ![] bcast_S_S256x1024 main_cst_2
  let main_v11 : IVec S256x1024 1 := cmpf .olt main_v9 main_v10
  let main_c_3 : IVec S_ 1 := constantI S_ 1 1#1
  let main_v12 : IVec S_ 1 := (fun x v => Host.reduce IntOp.andi x v reducesTo_S256x1024_S_d0_1 h_S_) main_v11 main_c_3
  let main_v13 : IVec S_ 1 := andi main_v8 main_v12
  main_v13
-- ==== Pre_finite_ffn.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S16384x1024 .f32) (main_arg1 : FVec F S16384x1024 .f32) (main_arg2 : FVec F S1024 .f32) (main_arg3 : FVec F S1024x2816 .f32) (main_arg4 : FVec F S1024x2816 .f32) (main_arg5 : FVec F S2816x1024 .f32) (main_arg6 : FVec F S1024 .f32) : IVec S_ 1 :=
  let main_v0 : FVec F S16384x1024 .f32 := Host.absf main_arg1
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024 .f32 := Host.absf main_arg6
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  main_v8
-- ==== KernelMem.lean ====
abbrev S256x1024 : Shape := ⟨2, ![256, 1024]⟩
abbrev S1024 : Shape := ⟨1, ![1024]⟩
abbrev S1024x1024 : Shape := ⟨2, ![1024, 1024]⟩
abbrev S_ : Shape := ⟨0, ![]⟩
abbrev S256 : Shape := ⟨1, ![256]⟩
abbrev S256x1 : Shape := ⟨2, ![256, 1]⟩
abbrev S1x1024 : Shape := ⟨2, ![1, 1024]⟩

abbrev nBuf : Space → Nat
  | .hbm => 29
  | .vmem => 10
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x1024, .f32⟩
  | .hbm, ⟨3, _⟩ => ⟨S1024x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S_, .f32⟩
  | .hbm, ⟨14, _⟩ => ⟨S256x1, .f32⟩
  | .hbm, ⟨15, _⟩ => ⟨S256x1, .f32⟩
  | .hbm, ⟨16, _⟩ => ⟨S256x1, .f32⟩
  | .hbm, ⟨17, _⟩ => ⟨S256x1024, .f32⟩
  | .hbm, ⟨18, _⟩ => ⟨S256x1024, .f32⟩
  | .hbm, ⟨19, _⟩ => ⟨S1x1024, .f32⟩
  | .hbm, ⟨20, _⟩ => ⟨S256x1024, .f32⟩
  | .hbm, ⟨21, _⟩ => ⟨S256x1024, .f32⟩
  | .hbm, ⟨22, _⟩ => ⟨S256x1024, .bf16⟩
  | .hbm, ⟨23, _⟩ => ⟨S1x1024, .f32⟩
  | .hbm, ⟨24, _⟩ => ⟨S1024x1024, .bf16⟩
  | .hbm, ⟨25, _⟩ => ⟨S1024x1024, .bf16⟩
  | .hbm, ⟨26, _⟩ => ⟨S1024x1024, .bf16⟩
  | .hbm, ⟨27, _⟩ => ⟨S1024x1024, .bf16⟩
  | .hbm, ⟨28, _⟩ => ⟨S1x1024, .f32⟩
  | .local _ .vmem, ⟨0, _⟩ => ⟨S256x1024, .f32⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17_0 : Ref sig .tc := ⟨.hbm, 26, rfl⟩
abbrev main_v17_1 : Ref sig .tc := ⟨.hbm, 27, rfl⟩
abbrev main_v17_2 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceMemIdeal.lean ====
abbrev S256x1024 : Shape := ⟨2, ![256, 1024]⟩
abbrev S1024 : Shape := ⟨1, ![1024]⟩
abbrev S1024x1024 : Shape := ⟨2, ![1024, 1024]⟩
abbrev S_ : Shape := ⟨0, ![]⟩
abbrev S256 : Shape := ⟨1, ![256]⟩
abbrev S256x1 : Shape := ⟨2, ![256, 1]⟩
abbrev S1x1024 : Shape := ⟨2, ![1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x1024, .f32⟩
  | .hbm, ⟨3, _⟩ => ⟨S1024x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S_, .f32⟩
  | .hbm, ⟨14, _⟩ => ⟨S256x1, .f32⟩
  | .hbm, ⟨15, _⟩ => ⟨S256x1, .f32⟩
  | .hbm, ⟨16, _⟩ => ⟨S256x1, .f32⟩
  | .hbm, ⟨17, _⟩ => ⟨S256x1024, .f32⟩
  | .hbm, ⟨18, _⟩ => ⟨S256x1024, .f32⟩
  | .hbm, ⟨19, _⟩ => ⟨S1x1024, .f32⟩
  | .hbm, ⟨20, _⟩ => ⟨S256x1024, .f32⟩
  | .hbm, ⟨21, _⟩ => ⟨S256x1024, .f32⟩
  | .hbm, ⟨22, _⟩ => ⟨S256x1024, .f32⟩
  | .hbm, ⟨23, _⟩ => ⟨S256x1024, .f32⟩
  | .hbm, ⟨24, _⟩ => ⟨S1024x1024, .f32⟩
  | .hbm, ⟨25, _⟩ => ⟨S1024x1024, .f32⟩
  | .hbm, ⟨26, _⟩ => ⟨S256x1024, .f32⟩
  | .hbm, ⟨27, _⟩ => ⟨S1024x1024, .f32⟩
  | .hbm, ⟨28, _⟩ => ⟨S1024x1024, .f32⟩
  | .hbm, ⟨29, _⟩ => ⟨S256x1024, .f32⟩
  | .hbm, ⟨30, _⟩ => ⟨S256x1024, .f32⟩
  | .hbm, ⟨31, _⟩ => ⟨S256x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S_, .f32⟩
  | .hbm, ⟨36, _⟩ => ⟨S1024, .f32⟩
  | .hbm, ⟨37, _⟩ => ⟨S1024x1024, .bf16⟩
  | .hbm, ⟨38, _⟩ => ⟨S1024x1024, .bf16⟩
  | .hbm, ⟨39, _⟩ => ⟨S1x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== KernelIn.lean ====
abbrev S16384x1024 : Shape := ⟨2, ![16384, 1024]⟩
abbrev S1024 : Shape := ⟨1, ![1024]⟩
abbrev S1024x2560 : Shape := ⟨2, ![1024, 2560]⟩
abbrev S16384x2560 : Shape := ⟨2, ![16384, 2560]⟩
abbrev S_ : Shape := ⟨0, ![]⟩
abbrev S8x128 : Shape := ⟨2, ![8, 128]⟩
abbrev S2560x1024 : Shape := ⟨2, ![2560, 1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 13
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2560, .f32⟩
  | .hbm, ⟨3, _⟩ => ⟨S16384x2560, .f32⟩
  | .hbm, ⟨4, _⟩ => ⟨S16384x1024, .f32⟩
  | .hbm, ⟨5, _⟩ => ⟨S_, .f32⟩
  | .hbm, ⟨6, _⟩ => ⟨S8x128, .f32⟩
  | .hbm, ⟨7, _⟩ => ⟨S16384x2560, .bf16⟩
  | .hbm, ⟨8, _⟩ => ⟨S2560x1024, .f32⟩
  | .hbm, ⟨9, _⟩ => ⟨S2560x1024, .bf16⟩
  | .hbm, ⟨10, _⟩ => ⟨S1x1024, .f32⟩
  | .hbm, ⟨11, _⟩ => ⟨S16384x1024, .f32⟩
  | .hbm, ⟨12, _⟩ => ⟨S1x1024, .f32⟩
  | .local _ .vmem, ⟨0, _⟩ => ⟨S1024x2560, .bf16⟩
  | .local _ .vmem, ⟨1, _⟩ => ⟨S1024x2560, .bf16⟩
  | .local _ .vmem, ⟨2, _⟩ => ⟨S2560x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2560x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceInIdeal.lean ====
abbrev S16384x1024 : Shape := ⟨2, ![16384, 1024]⟩
abbrev S1024 : Shape := ⟨1, ![1024]⟩
abbrev S1024x2560 : Shape := ⟨2, ![1024, 2560]⟩
abbrev S16384x2560 : Shape := ⟨2, ![16384, 2560]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2560, .f32⟩
  | .hbm, ⟨3, _⟩ => ⟨S16384x2560, .f32⟩
  | .hbm, ⟨4, _⟩ => ⟨S16384x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S16384x2560, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S1024, .f32⟩
  | .hbm, ⟨35, _⟩ => ⟨S16384x1024, .f32⟩
  | .hbm, ⟨36, _⟩ => ⟨S_, .f32⟩
  | .hbm, ⟨37, _⟩ => ⟨S16384, .f32⟩
  | .hbm, ⟨38, _⟩ => ⟨S16384x1, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S_, .f32⟩
  | .hbm, ⟨47, _⟩ => ⟨S16384, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== KernelFfn.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩

abbrev nBuf : Space → Nat
  | .hbm => 53
  | .vmem => 27
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S16384x2816, .f32⟩
  | .hbm, ⟨24, _⟩ => ⟨S16384x2816, .f32⟩
  | .hbm, ⟨25, _⟩ => ⟨S16384x2816, .f32⟩
  | .hbm, ⟨26, _⟩ => ⟨S16384x2816, .f32⟩
  | .hbm, ⟨27, _⟩ => ⟨S_, .f32⟩
  | .hbm, ⟨28, _⟩ => ⟨S16384x2816, .f32⟩
  | .hbm, ⟨29, _⟩ => ⟨S16384x2816, .f32⟩
  | .hbm, ⟨30, _⟩ => ⟨S_, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S16384x2816, .f32⟩
  | .hbm, ⟨35, _⟩ => ⟨S16384x1024, .f32⟩
  | .hbm, ⟨36, _⟩ => ⟨S16384x1024, .bf16⟩
  | .hbm, ⟨37, _⟩ => ⟨S16384x2816, .bf16⟩
  | .hbm, ⟨38, _⟩ => ⟨S16384x2816, .bf16⟩
  | .hbm, ⟨39, _⟩ => ⟨S1x1024, .f32⟩
  | .hbm, ⟨40, _⟩ => ⟨S2816x1024, .f32⟩
  | .hbm, ⟨41, _⟩ => ⟨S2816x1024, .bf16⟩
  | .hbm, ⟨42, _⟩ => ⟨S2816x1024, .f32⟩
  | .hbm, ⟨43, _⟩ => ⟨S2816x1024, .bf16⟩
  | .hbm, ⟨44, _⟩ => ⟨S2816x1024, .bf16⟩
  | .hbm, ⟨45, _⟩ => ⟨S1x1024, .f32⟩
  | .hbm, ⟨46, _⟩ => ⟨S16384x1024, .f32⟩
  | .hbm, ⟨47, _⟩ => ⟨S16384x1024, .bf16⟩
  | .hbm, ⟨48, _⟩ => ⟨S16384x2816, .bf16⟩
  | .hbm, ⟨49, _⟩ => ⟨S16384x2816, .bf16⟩
  | .hbm, ⟨50, _⟩ => ⟨S16384x2816, .bf16⟩
  | .hbm, ⟨51, _⟩ => ⟨S1x1024, .f32⟩
  | .hbm, ⟨52, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .f32⟩
  | .local _ .vmem, ⟨5, _⟩ => ⟨S256x1024, .f32⟩
  | .local _ .vmem, ⟨6, _⟩ => ⟨S256x2816, .bf16⟩
  | .local _ .vmem, ⟨7, _⟩ => ⟨S256x2816, .bf16⟩
  | .local _ .vmem, ⟨8, _⟩ => ⟨S256x2816, .bf16⟩
  | .local _ .vmem, ⟨9, _⟩ => ⟨S256x2816, .bf16⟩
  | .local _ .vmem, ⟨10, _⟩ => ⟨S1x1024, .f32⟩
  | .local _ .vmem, ⟨11, _⟩ => ⟨S2816x1024, .bf16⟩
  | .local _ .vmem, ⟨12, _⟩ => ⟨S2816x1024, .bf16⟩
  | .local _ .vmem, ⟨13, _⟩ => ⟨S2816x1024, .bf16⟩
  | .local _ .vmem, ⟨14, _⟩ => ⟨S1x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .bf16⟩
  | .local _ .vmem, ⟨18, _⟩ => ⟨S256x1024, .bf16⟩
  | .local _ .vmem, ⟨19, _⟩ => ⟨S256x2816, .bf16⟩
  | .local _ .vmem, ⟨20, _⟩ => ⟨S256x2816, .bf16⟩
  | .local _ .vmem, ⟨21, _⟩ => ⟨S256x2816, .bf16⟩
  | .local _ .vmem, ⟨22, _⟩ => ⟨S256x2816, .bf16⟩
  | .local _ .vmem, ⟨23, _⟩ => ⟨S256x2816, .bf16⟩
  | .local _ .vmem, ⟨24, _⟩ => ⟨S256x2816, .bf16⟩
  | .local _ .vmem, ⟨25, _⟩ => ⟨S1x1024, .f32⟩
  | .local _ .vmem, ⟨26, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28_0 : Ref sig .tc := ⟨.hbm, 46, rfl⟩
abbrev main_v28_1 : Ref sig .tc := ⟨.hbm, 47, rfl⟩
abbrev main_v28_2 : Ref sig .tc := ⟨.hbm, 48, rfl⟩
abbrev main_v28_3 : Ref sig .tc := ⟨.hbm, 49, rfl⟩
abbrev main_v28_4 : Ref sig .tc := ⟨.hbm, 50, rfl⟩
abbrev main_v28_5 : Ref sig .tc := ⟨.hbm, 51, rfl⟩
abbrev main_v28_6 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg16_0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem16_0 : DmaSem sig := 26

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2816 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2816 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x2816 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== ReferenceFfnIdeal.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16384x2816 : Shape := ⟨2, ![16384, 2816]⟩
abbrev S16384 : Shape := ⟨1, ![16384]⟩
abbrev S16384x1 : Shape := ⟨2, ![16384, 1]⟩
abbrev S1x1024 : Shape := ⟨2, ![1, 1024]⟩

abbrev nBuf : Space → Nat
  | .hbm => 162
  | .vmem => 0
  | .smem => 0
  | _ => 0

abbrev hbmTy0_0 (i : Nat) : BufTy := match i % 128 with
  | 0 => ⟨S16384x1024, .f32⟩
  | 1 => ⟨S16384x1024, .f32⟩
  | 2 => ⟨S1024, .f32⟩
  | 3 => ⟨S1024x2816, .f32⟩
  | 4 => ⟨S1024x2816, .f32⟩
  | 5 => ⟨S2816x1024, .f32⟩
  | 6 => ⟨S1024, .f32⟩
  | 7 => ⟨S_, .f32⟩
  | 8 => ⟨S16384x2816, .f32⟩
  | 9 => ⟨S_, .f32⟩
  | 10 => ⟨S16384x1024, .f32⟩
  | 11 => ⟨S16384x1024, .f32⟩
  | 12 => ⟨S_, .f32⟩
  | 13 => ⟨S16384, .f32⟩
  | 14 => ⟨S16384x1, .f32⟩
  | 15 => ⟨S_, .f32⟩
  | 16 => ⟨S16384x1, .f32⟩
  | 17 => ⟨S16384x1, .f32⟩
  | 18 => ⟨S_, .f32⟩
  | 19 => ⟨S16384x1, .f32⟩
  | 20 => ⟨S16384x1, .f32⟩
  | 21 => ⟨S16384x1, .f32⟩
  | 22 => ⟨S16384x1, .f32⟩
  | 23 => ⟨S_, .f32⟩
  | 24 => ⟨S16384x1, .f32⟩
  | 25 => ⟨S16384x1, .f32⟩
  | 26 => ⟨S16384x1024, .f32⟩
  | 27 => ⟨S16384x1024, .f32⟩
  | 28 => ⟨S1x1024, .f32⟩
  | 29 => ⟨S16384x1024, .f32⟩
  | 30 => ⟨S16384x1024, .f32⟩
  | 31 => ⟨S16384x2816, .f32⟩
  | 32 => ⟨S16384x2816, .f32⟩
  | 33 => ⟨S16384x2816, .f32⟩
  | 34 => ⟨S16384x2816, .f32⟩
  | 35 => ⟨S16384x2816, .f32⟩
  | 36 => ⟨S16384x2816, .f32⟩
  | 37 => ⟨S_, .f32⟩
  | 38 => ⟨S16384x2816, .f32⟩
  | 39 => ⟨S16384x2816, .f32⟩
  | 40 => ⟨S_, .f32⟩
  | 41 => ⟨S16384x2816, .f32⟩
  | 42 => ⟨S16384x2816, .f32⟩
  | 43 => ⟨S_, .f32⟩
  | 44 => ⟨S16384x2816, .f32⟩
  | 45 => ⟨S16384x2816, .f32⟩
  | 46 => ⟨S16384x2816, .f32⟩
  | 47 => ⟨S16384x2816, .f32⟩
  | 48 => ⟨S16384x2816, .f32⟩
  | 49 => ⟨S16384x1024, .f32⟩
  | 50 => ⟨S16384x1024, .f32⟩
  | 51 => ⟨S16384x1024, .f32⟩
  | 52 => ⟨S_, .f32⟩
  | 53 => ⟨S16384, .f32⟩
  | 54 => ⟨S16384x1, .f32⟩
  | 55 => ⟨S_, .f32⟩
  | 56 => ⟨S16384x1, .f32⟩
  | 57 => ⟨S16384x1, .f32⟩
  | 58 => ⟨S_, .f32⟩
  | 59 => ⟨S16384x1, .f32⟩
  | 60 => ⟨S16384x1, .f32⟩
  | 61 => ⟨S16384x1, .f32⟩
  | 62 => ⟨S16384x1, .f32⟩
  | 63 => ⟨S_, .f32⟩
  | 64 => ⟨S16384x1, .f32⟩
  | 65 => ⟨S16384x1, .f32⟩
  | 66 => ⟨S16384x1024, .f32⟩
  | 67 => ⟨S16384x1024, .f32⟩
  | 68 => ⟨S1x1024, .f32⟩
  | 69 => ⟨S16384x1024, .f32⟩
  | 70 => ⟨S16384x1024, .f32⟩
  | 71 => ⟨S16384x1024, .f32⟩
  | 72 => ⟨S16384x1024, .f32⟩
  | 73 => ⟨S16384x1024, .f32⟩
  | 74 => ⟨S_, .f32⟩
  | 75 => ⟨S16384x1024, .f32⟩
  | 76 => ⟨S16384x1024, .f32⟩
  | 77 => ⟨S_, .f32⟩
  | 78 => ⟨S16384, .f32⟩
  | 79 => ⟨S_, .f32⟩
  | 80 => ⟨S16384, .f32⟩
  | 81 => ⟨S16384, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S16384, .f32⟩
  | 90 => ⟨S_, .f32⟩
  | 91 => ⟨S16384, .f32⟩
  | 92 => ⟨S16384, .f32⟩
  | 93 => ⟨S16384x1024, .f32⟩
  | 94 => ⟨S16384x1024, .f32⟩
  | 95 => ⟨S16384x1024, .f32⟩
  | 96 => ⟨S_, .f32⟩
  | 97 => ⟨S1024, .f32⟩
  | 98 => ⟨S1x1024, .f32⟩
  | 99 => ⟨S16384x1024, .f32⟩
  | 100 => ⟨S16384x1024, .f32⟩
  | 101 => ⟨S_, .f32⟩
  | 102 => ⟨S1024, .f32⟩
  | 103 => ⟨S16384x1024, .f32⟩
  | 104 => ⟨S_, .f32⟩
  | 105 => ⟨S16384, .f32⟩
  | 106 => ⟨S16384x1, .f32⟩
  | 107 => ⟨S16384x1024, .f32⟩
  | 108 => ⟨S16384x1024, .f32⟩
  | 109 => ⟨S16384x1, .f32⟩
  | 110 => ⟨S_, .f32⟩
  | 111 => ⟨S16384x1, .f32⟩
  | 112 => ⟨S16384x1, .f32⟩
  | 113 => ⟨S_, .f32⟩
  | 114 => ⟨S16384, .f32⟩
  | 115 => ⟨S16384x1024, .f32⟩
  | 116 => ⟨S16384x1024, .f32⟩
  | 117 => ⟨S16384x1024, .f32⟩
  | 118 => ⟨S16384x1024, .f32⟩
  | 119 => ⟨S16384x1024, .f32⟩
  | 120 => ⟨S16384x2816, .f32⟩
  | 121 => ⟨S16384x2816, .f32⟩
  | 122 => ⟨S16384x2816, .f32⟩
  | 123 => ⟨S16384x2816, .f32⟩
  | 124 => ⟨S16384x2816, .f32⟩
  | 125 => ⟨S16384x2816, .f32⟩
  | 126 => ⟨S16384x2816, .f32⟩
  | 127 => ⟨S16384x1024, .f32⟩
  | _ => ⟨S16384x1024, .f32⟩

abbrev hbmTy0_1 (i : Nat) : BufTy := match i % 128 with
  | 0 => ⟨S16384x1024, .f32⟩
  | 1 => ⟨S16384x1024, .f32⟩
  | 2 => ⟨S16384x1024, .f32⟩
  | 3 => ⟨S_, .f32⟩
  | 4 => ⟨S1024, .f32⟩
  | 5 => ⟨S1x1024, .f32⟩
  | 6 => ⟨S16384x1024, .f32⟩
  | 7 => ⟨S16384x1024, .f32⟩
  | 8 => ⟨S_, .f32⟩
  | 9 => ⟨S1024, .f32⟩
  | 10 => ⟨S16384x1024, .f32⟩
  | 11 => ⟨S_, .f32⟩
  | 12 => ⟨S16384, .f32⟩
  | 13 => ⟨S16384x1, .f32⟩
  | 14 => ⟨S16384x1024, .f32⟩
  | 15 => ⟨S16384x1024, .f32⟩
  | 16 => ⟨S16384x1024, .f32⟩
  | 17 => ⟨S16384x1, .f32⟩
  | 18 => ⟨S_, .f32⟩
  | 19 => ⟨S16384x1, .f32⟩
  | 20 => ⟨S16384x1, .f32⟩
  | 21 => ⟨S_, .f32⟩
  | 22 => ⟨S16384, .f32⟩
  | 23 => ⟨S16384x1024, .f32⟩
  | 24 => ⟨S16384x1024, .f32⟩
  | 25 => ⟨S16384x1024, .f32⟩
  | 26 => ⟨S16384x1024, .f32⟩
  | 27 => ⟨S16384x1024, .f32⟩
  | 28 => ⟨S16384x1024, .bf16⟩
  | 29 => ⟨S16384x2816, .bf16⟩
  | 30 => ⟨S16384x2816, .bf16⟩
  | 31 => ⟨S16384x2816, .bf16⟩
  | 32 => ⟨S1x1024, .f32⟩
  | 33 => ⟨S1x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_cst_1 : Ref sig .tc := ⟨.hbm, 12, rfl⟩
abbrev main_v3 : Ref sig .tc := ⟨.hbm, 13, rfl⟩
abbrev main_v4 : Ref sig .tc := ⟨.hbm, 14, rfl⟩
abbrev main_cst_2 : Ref sig .tc := ⟨.hbm, 15, rfl⟩
abbrev main_v5 : Ref sig .tc := ⟨.hbm, 16, rfl⟩
abbrev main_v6 : Ref sig .tc := ⟨.hbm, 17, rfl⟩
abbrev main_cst_3 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_v22_2 : Ref sig .tc := ⟨.hbm, 42, rfl⟩
abbrev main_call0_cst_1 : Ref sig .tc := ⟨.hbm, 43, rfl⟩
abbrev main_call0_v6 : Ref sig .tc := ⟨.hbm, 44, rfl⟩
abbrev main_call0_v7 : Ref sig .tc := ⟨.hbm, 45, rfl⟩
abbrev main_v22_1 : Ref sig .tc := ⟨.hbm, 46, rfl⟩
abbrev main_v22_0 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_cst_5 : Ref sig .tc := ⟨.hbm, 52, rfl⟩
abbrev main_v27 : Ref sig .tc := ⟨.hbm, 53, rfl⟩
abbrev main_v28 : Ref sig .tc := ⟨.hbm, 54, rfl⟩
abbrev main_cst_6 : Ref sig .tc := ⟨.hbm, 55, rfl⟩
abbrev main_v29 : Ref sig .tc := ⟨.hbm, 56, rfl⟩
abbrev main_v30 : Ref sig .tc := ⟨.hbm, 57, rfl⟩
abbrev main_cst_7 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_8 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_9 : Ref sig .tc := ⟨.hbm, 74, rfl⟩
abbrev main_v45 : Ref sig .tc := ⟨.hbm, 75, rfl⟩
abbrev main_v46 : Ref sig .tc := ⟨.hbm, 76, rfl⟩
abbrev main_cst_10 : Ref sig .tc := ⟨.hbm, 77, rfl⟩
abbrev main_v47 : Ref sig .tc := ⟨.hbm, 78, rfl⟩
abbrev main_cst_11 : Ref sig .tc := ⟨.hbm, 79, rfl⟩
abbrev main_v48 : Ref sig .tc := ⟨.hbm, 80, rfl⟩
abbrev main_v49 : Ref sig .tc := ⟨.hbm, 81, rfl⟩
abbrev main_cst_12 : Ref sig .tc := ⟨.hbm, 82, rfl⟩
abbrev main_v50 : Ref sig .tc := ⟨.hbm, 83, rfl⟩
abbrev main_cst_13 : Ref sig .tc := ⟨.hbm, 84, rfl⟩
abbrev main_v51 : Ref sig .tc := ⟨.hbm, 85, rfl⟩
abbrev main_cst_14 : Ref sig .tc := ⟨.hbm, 86, rfl⟩
abbrev main_cst_15 : Ref sig .tc := ⟨.hbm, 87, rfl⟩
abbrev main_v52 : Ref sig .tc := ⟨.hbm, 88, rfl⟩
abbrev main_v53 : Ref sig .tc := ⟨.hbm, 89, rfl⟩
abbrev main_cst_16 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_cst_17 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_cst_18 : Ref sig .tc := ⟨.hbm, 101, rfl⟩
abbrev main_v63 : Ref sig .tc := ⟨.hbm, 102, rfl⟩
abbrev main_v64 : Ref sig .tc := ⟨.hbm, 103, rfl⟩
abbrev main_cst_19 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_cst_20 : Ref sig .tc := ⟨.hbm, 110, rfl⟩
abbrev main_v70 : Ref sig .tc := ⟨.hbm, 111, rfl⟩
abbrev main_v71 : Ref sig .tc := ⟨.hbm, 112, rfl⟩
abbrev main_cst_21 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_call1_v0 : Ref sig .tc := ⟨.hbm, 123, rfl⟩
abbrev main_call1_v1 : Ref sig .tc := ⟨.hbm, 124, rfl⟩
abbrev main_call1_v2 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_cst_22 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_cst_23 : Ref sig .tc := ⟨.hbm, 136, rfl⟩
abbrev main_v90 : Ref sig .tc := ⟨.hbm, 137, rfl⟩
abbrev main_v91 : Ref sig .tc := ⟨.hbm, 138, rfl⟩
abbrev main_cst_24 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_cst_25 : Ref sig .tc := ⟨.hbm, 146, rfl⟩
abbrev main_v98 : Ref sig .tc := ⟨.hbm, 147, rfl⟩
abbrev main_v99 : Ref sig .tc := ⟨.hbm, 148, rfl⟩
abbrev main_cst_26 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩

abbrev nD : Nat := 1
abbrev τ : Topo := Topo.v7x

variable {F : FTy → Type} [FloatOps F]
-- ==== KernelAttn.lean ====
abbrev S16384x1024 : Shape := ⟨2, ![16384, 1024]⟩
abbrev S1024x1024 : Shape := ⟨2, ![1024, 1024]⟩
abbrev S1024 : Shape := ⟨1, ![1024]⟩
abbrev S256x1024 : Shape := ⟨2, ![256, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4x256 : Shape := ⟨3, ![16384, 4, 256]⟩
abbrev S256x4x256 : Shape := ⟨3, ![256, 4, 256]⟩
abbrev S4x16384x256 : Shape := ⟨3, ![4, 16384, 256]⟩
abbrev S4x16384 : Shape := ⟨2, ![4, 16384]⟩
abbrev S4x16384x1 : Shape := ⟨3, ![4, 16384, 1]⟩
abbrev S4x256x16384 : Shape := ⟨3, ![4, 256, 16384]⟩
abbrev S512x1024 : Shape := ⟨2, ![512, 1024]⟩
abbrev S512 : Shape := ⟨1, ![512]⟩
abbrev S512x1 : Shape := ⟨2, ![512, 1]⟩
abbrev S512x256 : Shape := ⟨2, ![512, 256]⟩
abbrev S256x256 : Shape := ⟨2, ![256, 256]⟩

abbrev nBuf : Space → Nat
  | .hbm => 93
  | .vmem => 34
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024x1024, .f32⟩
  | .hbm, ⟨6, _⟩ => ⟨S256x1024, .f32⟩
  | .hbm, ⟨7, _⟩ => ⟨S256x1024, .f32⟩
  | .hbm, ⟨8, _⟩ => ⟨S1024x1024, .f32⟩
  | .hbm, ⟨9, _⟩ => ⟨S1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1, .f32⟩
  | .hbm, ⟨23, _⟩ => ⟨S16384x1024, .f32⟩
  | .hbm, ⟨24, _⟩ => ⟨S16384x1024, .f32⟩
  | .hbm, ⟨25, _⟩ => ⟨S1x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S16384, .f32⟩
  | .hbm, ⟨32, _⟩ => ⟨S16384x1, .f32⟩
  | .hbm, ⟨33, _⟩ => ⟨S_, .f32⟩
  | .hbm, ⟨34, _⟩ => ⟨S16384x1, .f32⟩
  | .hbm, ⟨35, _⟩ => ⟨S16384x1, .f32⟩
  | .hbm, ⟨36, _⟩ => ⟨S_, .f32⟩
  | .hbm, ⟨37, _⟩ => ⟨S16384x1, .f32⟩
  | .hbm, ⟨38, _⟩ => ⟨S16384x1, .f32⟩
  | .hbm, ⟨39, _⟩ => ⟨S16384x1, .f32⟩
  | .hbm, ⟨40, _⟩ => ⟨S16384x1024, .f32⟩
  | .hbm, ⟨41, _⟩ => ⟨S16384x1024, .f32⟩
  | .hbm, ⟨42, _⟩ => ⟨S1x1024, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S16384x4x256, .f32⟩
  | .hbm, ⟨47, _⟩ => ⟨S256x4x256, .f32⟩
  | .hbm, ⟨48, _⟩ => ⟨S256x4x256, .f32⟩
  | .hbm, ⟨49, _⟩ => ⟨S4x16384x256, .f32⟩
  | .hbm, ⟨50, _⟩ => ⟨S_, .f32⟩
  | .hbm, ⟨51, _⟩ => ⟨S4x16384x256, .f32⟩
  | .hbm, ⟨52, _⟩ => ⟨S4x16384x256, .f32⟩
  | .hbm, ⟨53, _⟩ => ⟨S_, .f32⟩
  | .hbm, ⟨54, _⟩ => ⟨S4x16384, .f32⟩
  | .hbm, ⟨55, _⟩ => ⟨S_, .f32⟩
  | .hbm, ⟨56, _⟩ => ⟨S4x16384, .f32⟩
  | .hbm, ⟨57, _⟩ => ⟨S4x16384, .f32⟩
  | .hbm, ⟨58, _⟩ => ⟨S4x16384x1, .f32⟩
  | .hbm, ⟨59, _⟩ => ⟨S4x16384x256, .f32⟩
  | .hbm, ⟨60, _⟩ => ⟨S4x16384x256, .f32⟩
  | .hbm, ⟨61, _⟩ => ⟨S4x16384x256, .f32⟩
  | .hbm, ⟨62, _⟩ => ⟨S_, .f32⟩
  | .hbm, ⟨63, _⟩ => ⟨S4x16384, .f32⟩
  | .hbm, ⟨64, _⟩ => ⟨S4x16384x1, .f32⟩
  | .hbm, ⟨65, _⟩ => ⟨S4x16384x256, .f32⟩
  | .hbm, ⟨66, _⟩ => ⟨S4x16384x256, .f32⟩
  | .hbm, ⟨67, _⟩ => ⟨S4x256x16384, .f32⟩
  | .hbm, ⟨68, _⟩ => ⟨S16384x4x256, .f32⟩
  | .hbm, ⟨69, _⟩ => ⟨S16384x1024, .f32⟩
  | .hbm, ⟨70, _⟩ => ⟨S16384x1024, .f32⟩
  | .hbm, ⟨71, _⟩ => ⟨S16384x1024, .bf16⟩
  | .hbm, ⟨72, _⟩ => ⟨S16384x1024, .f32⟩
  | .hbm, ⟨73, _⟩ => ⟨S16384x1024, .bf16⟩
  | .hbm, ⟨74, _⟩ => ⟨S256x1024, .bf16⟩
  | .hbm, ⟨75, _⟩ => ⟨S256x1024, .bf16⟩
  | .hbm, ⟨76, _⟩ => ⟨S1x1024, .f32⟩
  | .hbm, ⟨77, _⟩ => ⟨S1024x1024, .bf16⟩
  | .hbm, ⟨78, _⟩ => ⟨S1024x1024, .bf16⟩
  | .hbm, ⟨79, _⟩ => ⟨S1x1024, .f32⟩
  | .hbm, ⟨80, _⟩ => ⟨S16384x1024, .bf16⟩
  | .hbm, ⟨81, _⟩ => ⟨S1024x1024, .bf16⟩
  | .hbm, ⟨82, _⟩ => ⟨S1x1024, .f32⟩
  | .hbm, ⟨83, _⟩ => ⟨S16384x1024, .f32⟩
  | .hbm, ⟨84, _⟩ => ⟨S16384x1024, .bf16⟩
  | .hbm, ⟨85, _⟩ => ⟨S16384x1024, .bf16⟩
  | .hbm, ⟨86, _⟩ => ⟨S256x1024, .f32⟩
  | .hbm, ⟨87, _⟩ => ⟨S256x1024, .f32⟩
  | .hbm, ⟨88, _⟩ => ⟨S1x1024, .f32⟩
  | .hbm, ⟨89, _⟩ => ⟨S1x1024, .f32⟩
  | .hbm, ⟨90, _⟩ => ⟨S16384x1024, .bf16⟩
  | .hbm, ⟨91, _⟩ => ⟨S16384x1024, .bf16⟩
  | .hbm, ⟨92, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S256x1024, .bf16⟩
  | .local _ .vmem, ⟨9, _⟩ => ⟨S256x1024, .bf16⟩
  | .local _ .vmem, ⟨10, _⟩ => ⟨S1x1024, .f32⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S512x1024, .bf16⟩
  | .local _ .vmem, ⟨15, _⟩ => ⟨S512x1024, .bf16⟩
  | .local _ .vmem, ⟨16, _⟩ => ⟨S1024x1024, .bf16⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S256x1024, .f32⟩
  | .local _ .vmem, ⟨25, _⟩ => ⟨S256x1024, .f32⟩
  | .local _ .vmem, ⟨26, _⟩ => ⟨S1x1024, .f32⟩
  | .local _ .vmem, ⟨27, _⟩ => ⟨S1x1024, .f32⟩
  | .local _ .vmem, ⟨28, _⟩ => ⟨S512x1024, .bf16⟩
  | .local _ .vmem, ⟨29, _⟩ => ⟨S512x1024, .bf16⟩
  | .local _ .vmem, ⟨30, _⟩ => ⟨S512x1024, .bf16⟩
  | .local _ .vmem, ⟨31, _⟩ => ⟨S512x1024, .bf16⟩
  | .local _ .vmem, ⟨32, _⟩ => ⟨S1x1024, .f32⟩
  | .local _ .vmem, ⟨33, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_5 : Ref sig .tc := ⟨.hbm, 50, rfl⟩
abbrev main_v33 : Ref sig .tc := ⟨.hbm, 51, rfl⟩
abbrev main_v34 : Ref sig .tc := ⟨.hbm, 52, rfl⟩
abbrev main_cst_6 : Ref sig .tc := ⟨.hbm, 53, rfl⟩
abbrev main_v35 : Ref sig .tc := ⟨.hbm, 54, rfl⟩
abbrev main_cst_7 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62_0 : Ref sig .tc := ⟨.hbm, 83, rfl⟩
abbrev main_v62_1 : Ref sig .tc := ⟨.hbm, 84, rfl⟩
abbrev main_v62_2 : Ref sig .tc := ⟨.hbm, 85, rfl⟩
abbrev main_v62_3 : Ref sig .tc := ⟨.hbm, 86, rfl⟩
abbrev main_v62_4 : Ref sig .tc := ⟨.hbm, 87, rfl⟩
abbrev main_v62_5 : Ref sig .tc := ⟨.hbm, 88, rfl⟩
abbrev main_v62_6 : Ref sig .tc := ⟨.hbm, 89, rfl⟩
abbrev main_v62_7 : Ref sig .tc := ⟨.hbm, 90, rfl⟩
abbrev main_v62_8 : Ref sig .tc := ⟨.hbm, 91, rfl⟩
abbrev main_v62_9 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg18_0 : Ref sig .tc := ⟨.vmem, 26, rfl⟩
abbrev cc0_stg19_0 : Ref sig .tc := ⟨.vmem, 27, rfl⟩
abbrev cc0_stg20_0 : Ref sig .tc := ⟨.vmem, 28, rfl⟩
abbrev cc0_stg20_1 : Ref sig .tc := ⟨.vmem, 29, rfl⟩
abbrev cc0_stg21_0 : Ref sig .tc := ⟨.vmem, 30, rfl⟩
abbrev cc0_stg21_1 : Ref sig .tc := ⟨.vmem, 31, rfl⟩
abbrev cc0_stg22_0 : Ref sig .tc := ⟨.vmem, 32, rfl⟩
abbrev cc0_scratch0 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem17_0 : DmaSem sig := 25
abbrev cc0_sem18_0 : DmaSem sig := 26
abbrev cc0_sem19_0 : DmaSem sig := 27
abbrev cc0_sem20_0 : DmaSem sig := 28
abbrev cc0_sem20_1 : DmaSem sig := 29
abbrev cc0_sem21_0 : DmaSem sig := 30
abbrev cc0_sem21_1 : DmaSem sig := 31
abbrev cc0_sem22_0 : DmaSem sig := 32

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S256x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S256x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S512x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 1 → Memref sig .tc .vmem S1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]
-- ==== ReferenceAttnIdeal.lean ====
abbrev S16384x1024 : Shape := ⟨2, ![16384, 1024]⟩
abbrev S1024x1024 : Shape := ⟨2, ![1024, 1024]⟩
abbrev S1024 : Shape := ⟨1, ![1024]⟩
abbrev S256x1024 : Shape := ⟨2, ![256, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4x256 : Shape := ⟨3, ![16384, 4, 256]⟩
abbrev S256x4x256 : Shape := ⟨3, ![256, 4, 256]⟩
abbrev S4x16384x256 : Shape := ⟨3, ![4, 16384, 256]⟩
abbrev S4x16384 : Shape := ⟨2, ![4, 16384]⟩
abbrev S4x16384x1 : Shape := ⟨3, ![4, 16384, 1]⟩
abbrev S4x256x16384 : Shape := ⟨3, ![4, 256, 16384]⟩
abbrev S4x256x256 : Shape := ⟨3, ![4, 256, 256]⟩

abbrev nBuf : Space → Nat
  | .hbm => 246
  | .vmem => 0
  | .smem => 0
  | _ => 0

abbrev hbmTy0_0 (i : Nat) : BufTy := match i % 128 with
  | 0 => ⟨S16384x1024, .f32⟩
  | 1 => ⟨S16384x1024, .f32⟩
  | 2 => ⟨S1024x1024, .f32⟩
  | 3 => ⟨S1024, .f32⟩
  | 4 => ⟨S1024, .f32⟩
  | 5 => ⟨S1024x1024, .f32⟩
  | 6 => ⟨S256x1024, .f32⟩
  | 7 => ⟨S256x1024, .f32⟩
  | 8 => ⟨S1024x1024, .f32⟩
  | 9 => ⟨S1024, .f32⟩
  | 10 => ⟨S16384x1024, .f32⟩
  | 11 => ⟨S_, .f32⟩
  | 12 => ⟨S16384x1024, .f32⟩
  | 13 => ⟨S16384x1024, .f32⟩
  | 14 => ⟨S16384x1024, .f32⟩
  | 15 => ⟨S16384x1024, .f32⟩
  | 16 => ⟨S_, .f32⟩
  | 17 => ⟨S16384, .f32⟩
  | 18 => ⟨S16384x1, .f32⟩
  | 19 => ⟨S_, .f32⟩
  | 20 => ⟨S16384x1, .f32⟩
  | 21 => ⟨S16384x1, .f32⟩
  | 22 => ⟨S_, .f32⟩
  | 23 => ⟨S16384x1, .f32⟩
  | 24 => ⟨S16384x1, .f32⟩
  | 25 => ⟨S16384x1, .f32⟩
  | 26 => ⟨S16384x1, .f32⟩
  | 27 => ⟨S_, .f32⟩
  | 28 => ⟨S16384x1, .f32⟩
  | 29 => ⟨S16384x1, .f32⟩
  | 30 => ⟨S16384x1024, .f32⟩
  | 31 => ⟨S16384x1024, .f32⟩
  | 32 => ⟨S1x1024, .f32⟩
  | 33 => ⟨S16384x1024, .f32⟩
  | 34 => ⟨S16384x1024, .f32⟩
  | 35 => ⟨S16384x1024, .f32⟩
  | 36 => ⟨S16384x1024, .f32⟩
  | 37 => ⟨S_, .f32⟩
  | 38 => ⟨S16384, .f32⟩
  | 39 => ⟨S16384x1, .f32⟩
  | 40 => ⟨S_, .f32⟩
  | 41 => ⟨S16384x1, .f32⟩
  | 42 => ⟨S16384x1, .f32⟩
  | 43 => ⟨S_, .f32⟩
  | 44 => ⟨S16384x1, .f32⟩
  | 45 => ⟨S16384x1, .f32⟩
  | 46 => ⟨S16384x1, .f32⟩
  | 47 => ⟨S16384x1, .f32⟩
  | 48 => ⟨S_, .f32⟩
  | 49 => ⟨S16384x1, .f32⟩
  | 50 => ⟨S16384x1, .f32⟩
  | 51 => ⟨S16384x1024, .f32⟩
  | 52 => ⟨S16384x1024, .f32⟩
  | 53 => ⟨S1x1024, .f32⟩
  | 54 => ⟨S16384x1024, .f32⟩
  | 55 => ⟨S16384x1024, .f32⟩
  | 56 => ⟨S16384x1024, .f32⟩
  | 57 => ⟨S16384x1024, .f32⟩
  | 58 => ⟨S16384x4x256, .f32⟩
  | 59 => ⟨S256x4x256, .f32⟩
  | 60 => ⟨S256x4x256, .f32⟩
  | 61 => ⟨S4x16384x256, .f32⟩
  | 62 => ⟨S_, .f32⟩
  | 63 => ⟨S4x16384x256, .f32⟩
  | 64 => ⟨S4x16384x256, .f32⟩
  | 65 => ⟨S_, .f32⟩
  | 66 => ⟨S4x16384, .f32⟩
  | 67 => ⟨S4x16384x1, .f32⟩
  | 68 => ⟨S4x16384x256, .f32⟩
  | 69 => ⟨S4x16384x256, .i1⟩
  | 70 => ⟨S4x16384x256, .f32⟩
  | 71 => ⟨S_, .f32⟩
  | 72 => ⟨S4x16384, .f32⟩
  | 73 => ⟨S_, .f32⟩
  | 74 => ⟨S4x16384, .f32⟩
  | 75 => ⟨S4x16384, .f32⟩
  | 76 => ⟨S_, .f32⟩
  | 77 => ⟨S4x16384, .f32⟩
  | 78 => ⟨S4x16384, .i1⟩
  | 79 => ⟨S_, .f32⟩
  | 80 => ⟨S4x16384, .f32⟩
  | 81 => ⟨S4x16384, .i1⟩
  | 82 => ⟨S_, .f32⟩
  | 83 => ⟨S4x16384, .f32⟩
  | 84 => ⟨S_, .f32⟩
  | 85 => ⟨S4x16384, .f32⟩
  | 86 => ⟨S_, .f32⟩
  | 87 => ⟨S4x16384, .f32⟩
  | 88 => ⟨S4x16384, .f32⟩
  | 89 => ⟨S4x16384, .f32⟩
  | 90 => ⟨S4x16384x1, .f32⟩
  | 91 => ⟨S4x16384x256, .f32⟩
  | 92 => ⟨S4x16384x256, .f32⟩
  | 93 => ⟨S4x16384x256, .f32⟩
  | 94 => ⟨S_, .f32⟩
  | 95 => ⟨S4x16384, .f32⟩
  | 96 => ⟨S4x16384x1, .f32⟩
  | 97 => ⟨S4x16384x256, .f32⟩
  | 98 => ⟨S4x16384x256, .f32⟩
  | 99 => ⟨S4x16384x1, .f32⟩
  | 100 => ⟨S_, .f32⟩
  | 101 => ⟨S4x16384x1, .f32⟩
  | 102 => ⟨S4x16384x1, .f32⟩
  | 103 => ⟨S4x256x16384, .f32⟩
  | 104 => ⟨S16384x4x256, .f32⟩
  | 105 => ⟨S16384x1024, .f32⟩
  | 106 => ⟨S16384x1024, .f32⟩
  | 107 => ⟨S16384x1024, .f32⟩
  | 108 => ⟨S16384x1024, .f32⟩
  | 109 => ⟨S_, .f32⟩
  | 110 => ⟨S16384, .f32⟩
  | 111 => ⟨S16384x1, .f32⟩
  | 112 => ⟨S_, .f32⟩
  | 113 => ⟨S16384x1, .f32⟩
  | 114 => ⟨S16384x1, .f32⟩
  | 115 => ⟨S_, .f32⟩
  | 116 => ⟨S16384x1, .f32⟩
  | 117 => ⟨S16384x1, .f32⟩
  | 118 => ⟨S16384x1, .f32⟩
  | 119 => ⟨S16384x1, .f32⟩
  | 120 => ⟨S_, .f32⟩
  | 121 => ⟨S16384x1, .f32⟩
  | 122 => ⟨S16384x1, .f32⟩
  | 123 => ⟨S16384x1024, .f32⟩
  | 124 => ⟨S16384x1024, .f32⟩
  | 125 => ⟨S1x1024, .f32⟩
  | 126 => ⟨S16384x1024, .f32⟩
  | 127 => ⟨S16384x1024, .f32⟩
  | _ => ⟨S16384x1024, .f32⟩

abbrev hbmTy0_1 (i : Nat) : BufTy := match i % 128 with
  | 0 => ⟨S16384x1024, .f32⟩
  | 1 => ⟨S16384x1024, .f32⟩
  | 2 => ⟨S16384x1024, .f32⟩
  | 3 => ⟨S16384x1024, .f32⟩
  | 4 => ⟨S_, .f32⟩
  | 5 => ⟨S1024, .f32⟩
  | 6 => ⟨S1x1024, .f32⟩
  | 7 => ⟨S16384x1024, .f32⟩
  | 8 => ⟨S16384x1024, .f32⟩
  | 9 => ⟨S_, .f32⟩
  | 10 => ⟨S1024, .f32⟩
  | 11 => ⟨S16384x1024, .f32⟩
  | 12 => ⟨S_, .f32⟩
  | 13 => ⟨S16384, .f32⟩
  | 14 => ⟨S16384x1, .f32⟩
  | 15 => ⟨S16384x1024, .f32⟩
  | 16 => ⟨S16384x1024, .f32⟩
  | 17 => ⟨S16384x1, .f32⟩
  | 18 => ⟨S_, .f32⟩
  | 19 => ⟨S16384x1, .f32⟩
  | 20 => ⟨S16384x1, .f32⟩
  | 21 => ⟨S_, .f32⟩
  | 22 => ⟨S16384, .f32⟩
  | 23 => ⟨S16384x1024, .f32⟩
  | 24 => ⟨S16384x1024, .f32⟩
  | 25 => ⟨S16384x1024, .f32⟩
  | 26 => ⟨S16384x1024, .f32⟩
  | 27 => ⟨S16384x1024, .f32⟩
  | 28 => ⟨S16384x1024, .f32⟩
  | 29 => ⟨S16384x4x256, .f32⟩
  | 30 => ⟨S4x256x16384, .f32⟩
  | 31 => ⟨S4x16384x256, .f32⟩
  | 32 => ⟨S4x256x256, .f32⟩
  | 33 => ⟨S256x4x256, .f32⟩
  | 34 => ⟨S4x16384x256, .f32⟩
  | 35 => ⟨S4x16384x256, .f32⟩
  | 36 => ⟨S4x16384x256, .f32⟩
  | 37 => ⟨S_, .f32⟩
  | 38 => ⟨S4x16384, .f32⟩
  | 39 => ⟨S4x16384x1, .f32⟩
  | 40 => ⟨S4x16384x1, .f32⟩
  | 41 => ⟨S4x16384x256, .f32⟩
  | 42 => ⟨S4x16384x256, .f32⟩
  | 43 => ⟨S_, .f32⟩
  | 44 => ⟨S4x16384, .f32⟩
  | 45 => ⟨S4x16384x256, .f32⟩
  | 46 => ⟨S4x16384x256, .f32⟩
  | 47 => ⟨S4x16384x256, .f32⟩
  | 48 => ⟨S_, .f32⟩
  | 49 => ⟨S4x16384x256, .f32⟩
  | 50 => ⟨S4x16384x256, .f32⟩
  | 51 => ⟨S4x256x256, .f32⟩
  | 52 => ⟨S256x4x256, .f32⟩
  | 53 => ⟨S4x16384x256, .f32⟩
  | 54 => ⟨S16384x4x256, .f32⟩
  | 55 => ⟨S256x1024, .f32⟩
  | 56 => ⟨S256x1024, .f32⟩
  | 57 => ⟨S16384x1024, .f32⟩
  | 58 => ⟨S16384x1024, .f32⟩
  | 59 => ⟨S16384x1024, .f32⟩
  | 60 => ⟨S_, .f32⟩
  | 61 => ⟨S1024, .f32⟩
  | 62 => ⟨S1x1024, .f32⟩
  | 63 => ⟨S16384x1024, .f32⟩
  | 64 => ⟨S16384x1024, .f32⟩
  | 65 => ⟨S_, .f32⟩
  | 66 => ⟨S1024, .f32⟩
  | 67 => ⟨S16384x1024, .f32⟩
  | 68 => ⟨S_, .f32⟩
  | 69 => ⟨S16384, .f32⟩
  | 70 => ⟨S16384x1, .f32⟩
  | 71 => ⟨S16384x1024, .f32⟩
  | 72 => ⟨S16384x1024, .f32⟩
  | 73 => ⟨S16384x1024, .f32⟩
  | 74 => ⟨S16384x1, .f32⟩
  | 75 => ⟨S_, .f32⟩
  | 76 => ⟨S16384x1, .f32⟩
  | 77 => ⟨S16384x1, .f32⟩
  | 78 => ⟨S_, .f32⟩
  | 79 => ⟨S16384, .f32⟩
  | 80 => ⟨S16384x1024, .f32⟩
  | 81 => ⟨S16384x1024, .f32⟩
  | 82 => ⟨S16384x1024, .f32⟩
  | 83 => ⟨S16384x1024, .f32⟩
  | 84 => ⟨S16384x1024, .f32⟩
  | 85 => ⟨S16384x1024, .f32⟩
  | 86 => ⟨S_, .f32⟩
  | 87 => ⟨S1024, .f32⟩
  | 88 => ⟨S1x1024, .f32⟩
  | 89 => ⟨S16384x1024, .f32⟩
  | 90 => ⟨S16384x1024, .f32⟩
  | 91 => ⟨S_, .f32⟩
  | 92 => ⟨S1024, .f32⟩
  | 93 => ⟨S16384x1024, .f32⟩
  | 94 => ⟨S_, .f32⟩
  | 95 => ⟨S16384, .f32⟩
  | 96 => ⟨S16384x1, .f32⟩
  | 97 => ⟨S16384x1024, .f32⟩
  | 98 => ⟨S16384x1024, .f32⟩
  | 99 => ⟨S16384x1, .f32⟩
  | 100 => ⟨S_, .f32⟩
  | 101 => ⟨S16384x1, .f32⟩
  | 102 => ⟨S16384x1, .f32⟩
  | 103 => ⟨S_, .f32⟩
  | 104 => ⟨S16384, .f32⟩
  | 105 => ⟨S16384x1024, .f32⟩
  | 106 => ⟨S16384x1024, .f32⟩
  | 107 => ⟨S16384x1024, .f32⟩
  | 108 => ⟨S16384x1024, .f32⟩
  | 109 => ⟨S16384x1024, .f32⟩
  | 110 => ⟨S16384x1024, .f32⟩
  | 111 => ⟨S16384x1024, .bf16⟩
  | 112 => ⟨S16384x1024, .bf16⟩
  | 113 => ⟨S1x1024, .f32⟩
  | 114 => ⟨S1x1024, .f32⟩
  | 115 => ⟨S16384x1024, .bf16⟩
  | 116 => ⟨S16384x1024, .bf16⟩
  | 117 => ⟨S1x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_cst_2 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_3 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_4 : Ref sig .tc := ⟨.hbm, 37, rfl⟩
abbrev main_v21 : Ref sig .tc := ⟨.hbm, 38, rfl⟩
abbrev main_v22 : Ref sig .tc := ⟨.hbm, 39, rfl⟩
abbrev main_cst_5 : Ref sig .tc := ⟨.hbm, 40, rfl⟩
abbrev main_v23 : Ref sig .tc := ⟨.hbm, 41, rfl⟩
abbrev main_v24 : Ref sig .tc := ⟨.hbm, 42, rfl⟩
abbrev main_cst_6 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_7 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_10 : Ref sig .tc := ⟨.hbm, 71, rfl⟩
abbrev main_v49 : Ref sig .tc := ⟨.hbm, 72, rfl⟩
abbrev main_cst_11 : Ref sig .tc := ⟨.hbm, 73, rfl⟩
abbrev main_v50 : Ref sig .tc := ⟨.hbm, 74, rfl⟩
abbrev main_v51 : Ref sig .tc := ⟨.hbm, 75, rfl⟩
abbrev main_cst_12 : Ref sig .tc := ⟨.hbm, 76, rfl⟩
abbrev main_v52 : Ref sig .tc := ⟨.hbm, 77, rfl⟩
abbrev main_v53 : Ref sig .tc := ⟨.hbm, 78, rfl⟩
abbrev main_cst_13 : Ref sig .tc := ⟨.hbm, 79, rfl⟩
abbrev main_v54 : Ref sig .tc := ⟨.hbm, 80, rfl⟩
abbrev main_v55 : Ref sig .tc := ⟨.hbm, 81, rfl⟩
abbrev main_cst_14 : Ref sig .tc := ⟨.hbm, 82, rfl⟩
abbrev main_v56 : Ref sig .tc := ⟨.hbm, 83, rfl⟩
abbrev main_cst_15 : Ref sig .tc := ⟨.hbm, 84, rfl⟩
abbrev main_v57 : Ref sig .tc := ⟨.hbm, 85, rfl⟩
abbrev main_cst_16 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_17 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_18 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_19 : Ref sig .tc := ⟨.hbm, 109, rfl⟩
abbrev main_v78 : Ref sig .tc := ⟨.hbm, 110, rfl⟩
abbrev main_v79 : Ref sig .tc := ⟨.hbm, 111, rfl⟩
abbrev main_cst_20 : Ref sig .tc := ⟨.hbm, 112, rfl⟩
abbrev main_v80 : Ref sig .tc := ⟨.hbm, 113, rfl⟩
abbrev main_v81 : Ref sig .tc := ⟨.hbm, 114, rfl⟩
abbrev main_cst_21 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_cst_22 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_cst_23 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_cst_24 : Ref sig .tc := ⟨.hbm, 137, rfl⟩
abbrev main_v101 : Ref sig .tc := ⟨.hbm, 138, rfl⟩
abbrev main_v102 : Ref sig .tc := ⟨.hbm, 139, rfl⟩
abbrev main_cst_25 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_cst_26 : Ref sig .tc := ⟨.hbm, 146, rfl⟩
abbrev main_v108 : Ref sig .tc := ⟨.hbm, 147, rfl⟩
abbrev main_v109 : Ref sig .tc := ⟨.hbm, 148, rfl⟩
abbrev main_cst_27 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_cst_28 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_cst_29 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_cst_30 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_cst_31 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_cst_32 : Ref sig .tc := ⟨.hbm, 193, rfl⟩
abbrev main_v149 : Ref sig .tc := ⟨.hbm, 194, rfl⟩
abbrev main_v150 : Ref sig .tc := ⟨.hbm, 195, rfl⟩
abbrev main_cst_33 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_cst_34 : Ref sig .tc := ⟨.hbm, 203, rfl⟩
abbrev main_v157 : Ref sig .tc := ⟨.hbm, 204, rfl⟩
abbrev main_v158 : Ref sig .tc := ⟨.hbm, 205, rfl⟩
abbrev main_cst_35 : Ref sig .tc := ⟨.hbm, 206, rfl⟩
abbrev main_v159 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_v164 : Ref sig .tc := ⟨.hbm, 212, rfl⟩
abbrev main_v165 : Ref sig .tc := ⟨.hbm, 213, rfl⟩
abbrev main_cst_36 : Ref sig .tc := ⟨.hbm, 214, rfl⟩
abbrev main_v166 : Ref sig .tc := ⟨.hbm, 215, rfl⟩
abbrev main_v167 : Ref sig .tc := ⟨.hbm, 216, rfl⟩
abbrev main_v168 : Ref sig .tc := ⟨.hbm, 217, rfl⟩
abbrev main_v169 : Ref sig .tc := ⟨.hbm, 218, rfl⟩
abbrev main_cst_37 : Ref sig .tc := ⟨.hbm, 219, rfl⟩
abbrev main_v170 : Ref sig .tc := ⟨.hbm, 220, rfl⟩
abbrev main_v171 : Ref sig .tc := ⟨.hbm, 221, rfl⟩
abbrev main_cst_38 : Ref sig .tc := ⟨.hbm, 222, rfl⟩
abbrev main_v172 : Ref sig .tc := ⟨.hbm, 223, rfl⟩
abbrev main_v173 : Ref sig .tc := ⟨.hbm, 224, rfl⟩
abbrev main_v174 : Ref sig .tc := ⟨.hbm, 225, rfl⟩
abbrev main_v175 : Ref sig .tc := ⟨.hbm, 226, rfl⟩
abbrev main_v176 : Ref sig .tc := ⟨.hbm, 227, rfl⟩
abbrev main_cst_39 : Ref sig .tc := ⟨.hbm, 228, rfl⟩
abbrev main_v177 : Ref sig .tc := ⟨.hbm, 229, rfl⟩
abbrev main_v178 : Ref sig .tc := ⟨.hbm, 230, rfl⟩
abbrev main_cst_40 : Ref sig .tc := ⟨.hbm, 231, rfl⟩
abbrev main_v179 : Ref sig .tc := ⟨.hbm, 232, rfl⟩
abbrev main_v180 : Ref sig .tc := ⟨.hbm, 233, rfl⟩
abbrev main_v181 : Ref sig .tc := ⟨.hbm, 234, rfl⟩
abbrev main_v182 : Ref sig .tc := ⟨.hbm, 235, rfl⟩
abbrev main_v183 : Ref sig .tc := ⟨.hbm, 236, rfl⟩
abbrev main_v184 : Ref sig .tc := ⟨.hbm, 237, rfl⟩
abbrev main_v185 : Ref sig .tc := ⟨.hbm, 238, rfl⟩
abbrev main_v186 : Ref sig .tc := ⟨.hbm, 239, rfl⟩
abbrev main_v187 : Ref sig .tc := ⟨.hbm, 240, rfl⟩
abbrev main_v188 : Ref sig .tc := ⟨.hbm, 241, rfl⟩
abbrev main_v189 : Ref sig .tc := ⟨.hbm, 242, rfl⟩
abbrev main_v190 : Ref sig .tc := ⟨.hbm, 243, rfl⟩
abbrev main_v191 : Ref sig .tc := ⟨.hbm, 244, rfl⟩
abbrev main_v192 : Ref sig .tc := ⟨.hbm, 245, rfl⟩

abbrev nD : Nat := 1
abbrev τ : Topo := Topo.v7x

variable {F : FTy → Type} [FloatOps F]
-- ==== KernelAfwd.lean ====
abbrev S16384x1024 : Shape := ⟨2, ![16384, 1024]⟩
abbrev S1024 : Shape := ⟨1, ![1024]⟩
abbrev S1024x1024 : Shape := ⟨2, ![1024, 1024]⟩
abbrev S256x1024 : Shape := ⟨2, ![256, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S512x256 : Shape := ⟨2, ![512, 256]⟩
abbrev S256x256 : Shape := ⟨2, ![256, 256]⟩

abbrev nBuf : Space → Nat
  | .hbm => 18
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1024, .f32⟩
  | .hbm, ⟨3, _⟩ => ⟨S256x1024, .f32⟩
  | .hbm, ⟨4, _⟩ => ⟨S256x1024, .f32⟩
  | .hbm, ⟨5, _⟩ => ⟨S1024x1024, .f32⟩
  | .hbm, ⟨6, _⟩ => ⟨S1024, .f32⟩
  | .hbm, ⟨7, _⟩ => ⟨S1x1024, .f32⟩
  | .hbm, ⟨8, _⟩ => ⟨S1024x1024, .bf16⟩
  | .hbm, ⟨9, _⟩ => ⟨S256x1024, .bf16⟩
  | .hbm, ⟨10, _⟩ => ⟨S256x1024, .bf16⟩
  | .hbm, ⟨11, _⟩ => ⟨S1024x1024, .bf16⟩
  | .hbm, ⟨12, _⟩ => ⟨S1x1024, .f32⟩
  | .hbm, ⟨13, _⟩ => ⟨S16384x1024, .f32⟩
  | .hbm, ⟨14, _⟩ => ⟨S16384x1024, .bf16⟩
  | .hbm, ⟨15, _⟩ => ⟨S16384x1024, .bf16⟩
  | .hbm, ⟨16, _⟩ => ⟨S16384x1024, .bf16⟩
  | .hbm, ⟨17, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S256x1024, .bf16⟩
  | .local _ .vmem, ⟨5, _⟩ => ⟨S256x1024, .bf16⟩
  | .local _ .vmem, ⟨6, _⟩ => ⟨S1024x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v6_3 : Ref sig .tc := ⟨.hbm, 16, rfl⟩
abbrev main_v6_4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceAfwdIdeal.lean ====
abbrev S16384x1024 : Shape := ⟨2, ![16384, 1024]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4x256 : Shape := ⟨3, ![16384, 4, 256]⟩
abbrev S256x4x256 : Shape := ⟨3, ![256, 4, 256]⟩
abbrev S4x16384x256 : Shape := ⟨3, ![4, 16384, 256]⟩
abbrev S4x16384 : Shape := ⟨2, ![4, 16384]⟩
abbrev S4x16384x1 : Shape := ⟨3, ![4, 16384, 1]⟩
abbrev S4x256x16384 : Shape := ⟨3, ![4, 256, 16384]⟩

abbrev nBuf : Space → Nat
  | .hbm => 71
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1024, .f32⟩
  | .hbm, ⟨3, _⟩ => ⟨S256x1024, .f32⟩
  | .hbm, ⟨4, _⟩ => ⟨S256x1024, .f32⟩
  | .hbm, ⟨5, _⟩ => ⟨S1024x1024, .f32⟩
  | .hbm, ⟨6, _⟩ => ⟨S1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x4x256, .f32⟩
  | .hbm, ⟨25, _⟩ => ⟨S256x4x256, .f32⟩
  | .hbm, ⟨26, _⟩ => ⟨S256x4x256, .f32⟩
  | .hbm, ⟨27, _⟩ => ⟨S4x16384x256, .f32⟩
  | .hbm, ⟨28, _⟩ => ⟨S_, .f32⟩
  | .hbm, ⟨29, _⟩ => ⟨S4x16384x256, .f32⟩
  | .hbm, ⟨30, _⟩ => ⟨S4x16384x256, .f32⟩
  | .hbm, ⟨31, _⟩ => ⟨S_, .f32⟩
  | .hbm, ⟨32, _⟩ => ⟨S4x16384, .f32⟩
  | .hbm, ⟨33, _⟩ => ⟨S_, .f32⟩
  | .hbm, ⟨34, _⟩ => ⟨S4x16384, .f32⟩
  | .hbm, ⟨35, _⟩ => ⟨S4x16384, .f32⟩
  | .hbm, ⟨36, _⟩ => ⟨S4x16384x1, .f32⟩
  | .hbm, ⟨37, _⟩ => ⟨S4x16384x256, .f32⟩
  | .hbm, ⟨38, _⟩ => ⟨S4x16384x256, .f32⟩
  | .hbm, ⟨39, _⟩ => ⟨S4x16384x256, .f32⟩
  | .hbm, ⟨40, _⟩ => ⟨S_, .f32⟩
  | .hbm, ⟨41, _⟩ => ⟨S4x16384, .f32⟩
  | .hbm, ⟨42, _⟩ => ⟨S4x16384x1, .f32⟩
  | .hbm, ⟨43, _⟩ => ⟨S4x16384x256, .f32⟩
  | .hbm, ⟨44, _⟩ => ⟨S4x16384x256, .f32⟩
  | .hbm, ⟨45, _⟩ => ⟨S4x256x16384, .f32⟩
  | .hbm, ⟨46, _⟩ => ⟨S16384x4x256, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S_, .f32⟩
  | .hbm, ⟨51, _⟩ => ⟨S16384, .f32⟩
  | .hbm, ⟨52, _⟩ => ⟨S16384x1, .f32⟩
  | .hbm, ⟨53, _⟩ => ⟨S_, .f32⟩
  | .hbm, ⟨54, _⟩ => ⟨S16384x1, .f32⟩
  | .hbm, ⟨55, _⟩ => ⟨S16384x1, .f32⟩
  | .hbm, ⟨56, _⟩ => ⟨S_, .f32⟩
  | .hbm, ⟨57, _⟩ => ⟨S16384x1, .f32⟩
  | .hbm, ⟨58, _⟩ => ⟨S16384x1, .f32⟩
  | .hbm, ⟨59, _⟩ => ⟨S16384x1, .f32⟩
  | .hbm, ⟨60, _⟩ => ⟨S16384x1024, .f32⟩
  | .hbm, ⟨61, _⟩ => ⟨S16384x1024, .f32⟩
  | .hbm, ⟨62, _⟩ => ⟨S1x1024, .f32⟩
  | .hbm, ⟨63, _⟩ => ⟨S16384x1024, .f32⟩
  | .hbm, ⟨64, _⟩ => ⟨S16384x1024, .f32⟩
  | .hbm, ⟨65, _⟩ => ⟨S16384x1024, .f32⟩
  | .hbm, ⟨66, _⟩ => ⟨S16384x1024, .bf16⟩
  | .hbm, ⟨67, _⟩ => ⟨S16384x1024, .f32⟩
  | .hbm, ⟨68, _⟩ => ⟨S16384x1024, .bf16⟩
  | .hbm, ⟨69, _⟩ => ⟨S16384x1024, .bf16⟩
  | .hbm, ⟨70, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩

abbrev nD : Nat := 1
abbrev τ : Topo := Topo.v7x

variable {F : FTy → Type} [FloatOps F]
-- ==== KernelConv.lean ====
abbrev S16384x2560 : Shape := ⟨2, ![16384, 2560]⟩
abbrev S3x512 : Shape := ⟨2, ![3, 512]⟩
abbrev S31x512 : Shape := ⟨2, ![31, 512]⟩
abbrev S512 : Shape := ⟨1, ![512]⟩
abbrev S16384x1024 : Shape := ⟨2, ![16384, 1024]⟩
abbrev S16384x512 : Shape := ⟨2, ![16384, 512]⟩
abbrev S_ : Shape := ⟨0, ![]⟩
abbrev S2x512 : Shape := ⟨2, ![2, 512]⟩
abbrev S16386x512 : Shape := ⟨2, ![16386, 512]⟩
abbrev S1x512 : Shape := ⟨2, ![1, 512]⟩
abbrev S30x512 : Shape := ⟨2, ![30, 512]⟩
abbrev S16414x512 : Shape := ⟨2, ![16414, 512]⟩
abbrev S256x1024 : Shape := ⟨2, ![256, 1024]⟩
abbrev S256x2560 : Shape := ⟨2, ![256, 2560]⟩
abbrev S256x512 : Shape := ⟨2, ![256, 512]⟩
abbrev S4x288x128 : Shape := ⟨3, ![4, 288, 128]⟩
abbrev S4x264x128 : Shape := ⟨3, ![4, 264, 128]⟩
abbrev S4x256x128 : Shape := ⟨3, ![4, 256, 128]⟩
abbrev S31x8x512 : Shape := ⟨3, ![31, 8, 512]⟩
abbrev S3x8x512 : Shape := ⟨3, ![3, 8, 512]⟩
abbrev S4x32x128 : Shape := ⟨3, ![4, 32, 128]⟩
abbrev S4x8x128 : Shape := ⟨3, ![4, 8, 128]⟩
abbrev S8x512 : Shape := ⟨2, ![8, 512]⟩
abbrev S32x512 : Shape := ⟨2, ![32, 512]⟩
abbrev S32x128 : Shape := ⟨2, ![32, 128]⟩
abbrev S1x32x128 : Shape := ⟨3, ![1, 32, 128]⟩
abbrev S32 : Shape := ⟨1, ![32]⟩
abbrev S32x1 : Shape := ⟨2, ![32, 1]⟩
abbrev S4x8x512 : Shape := ⟨3, ![4, 8, 512]⟩
abbrev S1x8x512 : Shape := ⟨3, ![1, 8, 512]⟩
abbrev S1x128 : Shape := ⟨2, ![1, 128]⟩
abbrev S1x8x128 : Shape := ⟨3, ![1, 8, 128]⟩
abbrev S8x128 : Shape := ⟨2, ![8, 128]⟩

abbrev nBuf : Space → Nat
  | .hbm => 279
  | .vmem => 27
  | .smem => 0
  | _ => 0

abbrev hbmTy0_0 (i : Nat) : BufTy := match i % 128 with
  | 0 => ⟨S16384x2560, .f32⟩
  | 1 => ⟨S3x512, .f32⟩
  | 2 => ⟨S31x512, .f32⟩
  | 3 => ⟨S512, .f32⟩
  | 4 => ⟨S512, .f32⟩
  | 5 => ⟨S512, .f32⟩
  | 6 => ⟨S16384x1024, .f32⟩
  | 7 => ⟨S16384x512, .f32⟩
  | 8 => ⟨S16384x512, .f32⟩
  | 9 => ⟨S16384x512, .f32⟩
  | 10 => ⟨S16384x512, .f32⟩
  | 11 => ⟨S16384x512, .f32⟩
  | 12 => ⟨S16384x512, .f32⟩
  | 13 => ⟨S_, .f32⟩
  | 14 => ⟨S2x512, .f32⟩
  | 15 => ⟨S16386x512, .f32⟩
  | 16 => ⟨S1x512, .f32⟩
  | 17 => ⟨S512, .f32⟩
  | 18 => ⟨S1x512, .f32⟩
  | 19 => ⟨S16384x512, .f32⟩
  | 20 => ⟨S16384x512, .f32⟩
  | 21 => ⟨S16384x512, .f32⟩
  | 22 => ⟨S1x512, .f32⟩
  | 23 => ⟨S512, .f32⟩
  | 24 => ⟨S1x512, .f32⟩
  | 25 => ⟨S16384x512, .f32⟩
  | 26 => ⟨S16384x512, .f32⟩
  | 27 => ⟨S16384x512, .f32⟩
  | 28 => ⟨S16384x512, .f32⟩
  | 29 => ⟨S1x512, .f32⟩
  | 30 => ⟨S512, .f32⟩
  | 31 => ⟨S1x512, .f32⟩
  | 32 => ⟨S16384x512, .f32⟩
  | 33 => ⟨S16384x512, .f32⟩
  | 34 => ⟨S16384x512, .f32⟩
  | 35 => ⟨S16384x512, .f32⟩
  | 36 => ⟨S16384x512, .f32⟩
  | 37 => ⟨S16384x512, .f32⟩
  | 38 => ⟨S_, .f32⟩
  | 39 => ⟨S16384x512, .f32⟩
  | 40 => ⟨S16384x512, .f32⟩
  | 41 => ⟨S_, .f32⟩
  | 42 => ⟨S16384x512, .f32⟩
  | 43 => ⟨S16384x512, .f32⟩
  | 44 => ⟨S16384x512, .f32⟩
  | 45 => ⟨S_, .f32⟩
  | 46 => ⟨S30x512, .f32⟩
  | 47 => ⟨S16414x512, .f32⟩
  | 48 => ⟨S1x512, .f32⟩
  | 49 => ⟨S512, .f32⟩
  | 50 => ⟨S1x512, .f32⟩
  | 51 => ⟨S16384x512, .f32⟩
  | 52 => ⟨S16384x512, .f32⟩
  | 53 => ⟨S16384x512, .f32⟩
  | 54 => ⟨S1x512, .f32⟩
  | 55 => ⟨S512, .f32⟩
  | 56 => ⟨S1x512, .f32⟩
  | 57 => ⟨S16384x512, .f32⟩
  | 58 => ⟨S16384x512, .f32⟩
  | 59 => ⟨S16384x512, .f32⟩
  | 60 => ⟨S16384x512, .f32⟩
  | 61 => ⟨S1x512, .f32⟩
  | 62 => ⟨S512, .f32⟩
  | 63 => ⟨S1x512, .f32⟩
  | 64 => ⟨S16384x512, .f32⟩
  | 65 => ⟨S16384x512, .f32⟩
  | 66 => ⟨S16384x512, .f32⟩
  | 67 => ⟨S16384x512, .f32⟩
  | 68 => ⟨S1x512, .f32⟩
  | 69 => ⟨S512, .f32⟩
  | 70 => ⟨S1x512, .f32⟩
  | 71 => ⟨S16384x512, .f32⟩
  | 72 => ⟨S16384x512, .f32⟩
  | 73 => ⟨S16384x512, .f32⟩
  | 74 => ⟨S16384x512, .f32⟩
  | 75 => ⟨S1x512, .f32⟩
  | 76 => ⟨S512, .f32⟩
  | 77 => ⟨S1x512, .f32⟩
  | 78 => ⟨S16384x512, .f32⟩
  | 79 => ⟨S16384x512, .f32⟩
  | 80 => ⟨S16384x512, .f32⟩
  | 81 => ⟨S16384x512, .f32⟩
  | 82 => ⟨S1x512, .f32⟩
  | 83 => ⟨S512, .f32⟩
  | 84 => ⟨S1x512, .f32⟩
  | 85 => ⟨S16384x512, .f32⟩
  | 86 => ⟨S16384x512, .f32⟩
  | 87 => ⟨S16384x512, .f32⟩
  | 88 => ⟨S16384x512, .f32⟩
  | 89 => ⟨S1x512, .f32⟩
  | 90 => ⟨S512, .f32⟩
  | 91 => ⟨S1x512, .f32⟩
  | 92 => ⟨S16384x512, .f32⟩
  | 93 => ⟨S16384x512, .f32⟩
  | 94 => ⟨S16384x512, .f32⟩
  | 95 => ⟨S16384x512, .f32⟩
  | 96 => ⟨S1x512, .f32⟩
  | 97 => ⟨S512, .f32⟩
  | 98 => ⟨S1x512, .f32⟩
  | 99 => ⟨S16384x512, .f32⟩
  | 100 => ⟨S16384x512, .f32⟩
  | 101 => ⟨S16384x512, .f32⟩
  | 102 => ⟨S16384x512, .f32⟩
  | 103 => ⟨S1x512, .f32⟩
  | 104 => ⟨S512, .f32⟩
  | 105 => ⟨S1x512, .f32⟩
  | 106 => ⟨S16384x512, .f32⟩
  | 107 => ⟨S16384x512, .f32⟩
  | 108 => ⟨S16384x512, .f32⟩
  | 109 => ⟨S16384x512, .f32⟩
  | 110 => ⟨S1x512, .f32⟩
  | 111 => ⟨S512, .f32⟩
  | 112 => ⟨S1x512, .f32⟩
  | 113 => ⟨S16384x512, .f32⟩
  | 114 => ⟨S16384x512, .f32⟩
  | 115 => ⟨S16384x512, .f32⟩
  | 116 => ⟨S16384x512, .f32⟩
  | 117 => ⟨S1x512, .f32⟩
  | 118 => ⟨S512, .f32⟩
  | 119 => ⟨S1x512, .f32⟩
  | 120 => ⟨S16384x512, .f32⟩
  | 121 => ⟨S16384x512, .f32⟩
  | 122 => ⟨S16384x512, .f32⟩
  | 123 => ⟨S16384x512, .f32⟩
  | 124 => ⟨S1x512, .f32⟩
  | 125 => ⟨S512, .f32⟩
  | 126 => ⟨S1x512, .f32⟩
  | 127 => ⟨S16384x512, .f32⟩
  | _ => ⟨S16384x2560, .f32⟩

abbrev hbmTy0_1 (i : Nat) : BufTy := match i % 128 with
  | 0 => ⟨S16384x512, .f32⟩
  | 1 => ⟨S16384x512, .f32⟩
  | 2 => ⟨S16384x512, .f32⟩
  | 3 => ⟨S1x512, .f32⟩
  | 4 => ⟨S512, .f32⟩
  | 5 => ⟨S1x512, .f32⟩
  | 6 => ⟨S16384x512, .f32⟩
  | 7 => ⟨S16384x512, .f32⟩
  | 8 => ⟨S16384x512, .f32⟩
  | 9 => ⟨S16384x512, .f32⟩
  | 10 => ⟨S1x512, .f32⟩
  | 11 => ⟨S512, .f32⟩
  | 12 => ⟨S1x512, .f32⟩
  | 13 => ⟨S16384x512, .f32⟩
  | 14 => ⟨S16384x512, .f32⟩
  | 15 => ⟨S16384x512, .f32⟩
  | 16 => ⟨S16384x512, .f32⟩
  | 17 => ⟨S1x512, .f32⟩
  | 18 => ⟨S512, .f32⟩
  | 19 => ⟨S1x512, .f32⟩
  | 20 => ⟨S16384x512, .f32⟩
  | 21 => ⟨S16384x512, .f32⟩
  | 22 => ⟨S16384x512, .f32⟩
  | 23 => ⟨S16384x512, .f32⟩
  | 24 => ⟨S1x512, .f32⟩
  | 25 => ⟨S512, .f32⟩
  | 26 => ⟨S1x512, .f32⟩
  | 27 => ⟨S16384x512, .f32⟩
  | 28 => ⟨S16384x512, .f32⟩
  | 29 => ⟨S16384x512, .f32⟩
  | 30 => ⟨S16384x512, .f32⟩
  | 31 => ⟨S1x512, .f32⟩
  | 32 => ⟨S512, .f32⟩
  | 33 => ⟨S1x512, .f32⟩
  | 34 => ⟨S16384x512, .f32⟩
  | 35 => ⟨S16384x512, .f32⟩
  | 36 => ⟨S16384x512, .f32⟩
  | 37 => ⟨S16384x512, .f32⟩
  | 38 => ⟨S1x512, .f32⟩
  | 39 => ⟨S512, .f32⟩
  | 40 => ⟨S1x512, .f32⟩
  | 41 => ⟨S16384x512, .f32⟩
  | 42 => ⟨S16384x512, .f32⟩
  | 43 => ⟨S16384x512, .f32⟩
  | 44 => ⟨S16384x512, .f32⟩
  | 45 => ⟨S1x512, .f32⟩
  | 46 => ⟨S512, .f32⟩
  | 47 => ⟨S1x512, .f32⟩
  | 48 => ⟨S16384x512, .f32⟩
  | 49 => ⟨S16384x512, .f32⟩
  | 50 => ⟨S16384x512, .f32⟩
  | 51 => ⟨S16384x512, .f32⟩
  | 52 => ⟨S1x512, .f32⟩
  | 53 => ⟨S512, .f32⟩
  | 54 => ⟨S1x512, .f32⟩
  | 55 => ⟨S16384x512, .f32⟩
  | 56 => ⟨S16384x512, .f32⟩
  | 57 => ⟨S16384x512, .f32⟩
  | 58 => ⟨S16384x512, .f32⟩
  | 59 => ⟨S1x512, .f32⟩
  | 60 => ⟨S512, .f32⟩
  | 61 => ⟨S1x512, .f32⟩
  | 62 => ⟨S16384x512, .f32⟩
  | 63 => ⟨S16384x512, .f32⟩
  | 64 => ⟨S16384x512, .f32⟩
  | 65 => ⟨S16384x512, .f32⟩
  | 66 => ⟨S1x512, .f32⟩
  | 67 => ⟨S512, .f32⟩
  | 68 => ⟨S1x512, .f32⟩
  | 69 => ⟨S16384x512, .f32⟩
  | 70 => ⟨S16384x512, .f32⟩
  | 71 => ⟨S16384x512, .f32⟩
  | 72 => ⟨S16384x512, .f32⟩
  | 73 => ⟨S1x512, .f32⟩
  | 74 => ⟨S512, .f32⟩
  | 75 => ⟨S1x512, .f32⟩
  | 76 => ⟨S16384x512, .f32⟩
  | 77 => ⟨S16384x512, .f32⟩
  | 78 => ⟨S16384x512, .f32⟩
  | 79 => ⟨S16384x512, .f32⟩
  | 80 => ⟨S1x512, .f32⟩
  | 81 => ⟨S512, .f32⟩
  | 82 => ⟨S1x512, .f32⟩
  | 83 => ⟨S16384x512, .f32⟩
  | 84 => ⟨S16384x512, .f32⟩
  | 85 => ⟨S16384x512, .f32⟩
  | 86 => ⟨S16384x512, .f32⟩
  | 87 => ⟨S1x512, .f32⟩
  | 88 => ⟨S512, .f32⟩
  | 89 => ⟨S1x512, .f32⟩
  | 90 => ⟨S16384x512, .f32⟩
  | 91 => ⟨S16384x512, .f32⟩
  | 92 => ⟨S16384x512, .f32⟩
  | 93 => ⟨S16384x512, .f32⟩
  | 94 => ⟨S1x512, .f32⟩
  | 95 => ⟨S512, .f32⟩
  | 96 => ⟨S1x512, .f32⟩
  | 97 => ⟨S16384x512, .f32⟩
  | 98 => ⟨S16384x512, .f32⟩
  | 99 => ⟨S16384x512, .f32⟩
  | 100 => ⟨S16384x512, .f32⟩
  | 101 => ⟨S1x512, .f32⟩
  | 102 => ⟨S512, .f32⟩
  | 103 => ⟨S1x512, .f32⟩
  | 104 => ⟨S16384x512, .f32⟩
  | 105 => ⟨S16384x512, .f32⟩
  | 106 => ⟨S16384x512, .f32⟩
  | 107 => ⟨S16384x512, .f32⟩
  | 108 => ⟨S1x512, .f32⟩
  | 109 => ⟨S512, .f32⟩
  | 110 => ⟨S1x512, .f32⟩
  | 111 => ⟨S16384x512, .f32⟩
  | 112 => ⟨S16384x512, .f32⟩
  | 113 => ⟨S16384x512, .f32⟩
  | 114 => ⟨S16384x512, .f32⟩
  | 115 => ⟨S1x512, .f32⟩
  | 116 => ⟨S512, .f32⟩
  | 117 => ⟨S1x512, .f32⟩
  | 118 => ⟨S16384x512, .f32⟩
  | 119 => ⟨S16384x512, .f32⟩
  | 120 => ⟨S16384x512, .f32⟩
  | 121 => ⟨S16384x512, .f32⟩
  | 122 => ⟨S1x512, .f32⟩
  | 123 => ⟨S512, .f32⟩
  | 124 => ⟨S1x512, .f32⟩
  | 125 => ⟨S16384x512, .f32⟩
  | 126 => ⟨S16384x512, .f32⟩
  | 127 => ⟨S16384x512, .f32⟩
  | _ => ⟨S16384x2560, .f32⟩

abbrev hbmTy0_2 (i : Nat) : BufTy := match i % 128 with
  | 0 => ⟨S16384x512, .f32⟩
  | 1 => ⟨S1x512, .f32⟩
  | 2 => ⟨S512, .f32⟩
  | 3 => ⟨S1x512, .f32⟩
  | 4 => ⟨S16384x512, .f32⟩
  | 5 => ⟨S16384x512, .f32⟩
  | 6 => ⟨S16384x512, .f32⟩
  | 7 => ⟨S16384x512, .f32⟩
  | 8 => ⟨S1x512, .f32⟩
  | 9 => ⟨S16384x512, .f32⟩
  | 10 => ⟨S16384x512, .f32⟩
  | 11 => ⟨S16384x1024, .bf16⟩
  | 12 => ⟨S16384x2560, .bf16⟩
  | 13 => ⟨S16384x512, .bf16⟩
  | 14 => ⟨S16384x512, .bf16⟩
  | 15 => ⟨S1x512, .f32⟩
  | 16 => ⟨S1x512, .f32⟩
  | 17 => ⟨S16384x2560, .bf16⟩
  | 18 => ⟨S3x512, .f32⟩
  | 19 => ⟨S31x512, .f32⟩
  | 20 => ⟨S1x512, .f32⟩
  | 21 => ⟨S1x512, .f32⟩
  | 22 => ⟨S1x512, .f32⟩
  | _ => ⟨S16384x2560, .f32⟩

abbrev hbmTy (i : Nat) : BufTy := match i / 128 with
  | 0 => hbmTy0_0 i
  | 1 => hbmTy0_1 i
  | 2 => hbmTy0_2 i
  | _ => ⟨S16384x2560, .f32⟩

abbrev bufTy : (tb : Table) → Fin (tcTables nBuf tb) → BufTy
  | .hbm, ⟨i, _⟩ => hbmTy i
  | .local _ .vmem, ⟨0, _⟩ => ⟨S256x1024, .bf16⟩
  | .local _ .vmem, ⟨1, _⟩ => ⟨S256x1024, .bf16⟩
  | .local _ .vmem, ⟨2, _⟩ => ⟨S256x2560, .bf16⟩
  | .local _ .vmem, ⟨3, _⟩ => ⟨S256x2560, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S3x512, .f32⟩
  | .local _ .vmem, ⟨9, _⟩ => ⟨S31x512, .f32⟩
  | .local _ .vmem, ⟨10, _⟩ => ⟨S1x512, .f32⟩
  | .local _ .vmem, ⟨11, _⟩ => ⟨S1x512, .f32⟩
  | .local _ .vmem, ⟨12, _⟩ => ⟨S256x2560, .bf16⟩
  | .local _ .vmem, ⟨13, _⟩ => ⟨S256x2560, .bf16⟩
  | .local _ .vmem, ⟨14, _⟩ => ⟨S3x512, .f32⟩
  | .local _ .vmem, ⟨15, _⟩ => ⟨S31x512, .f32⟩
  | .local _ .vmem, ⟨16, _⟩ => ⟨S1x512, .f32⟩
  | .local _ .vmem, ⟨17, _⟩ => ⟨S1x512, .f32⟩
  | .local _ .vmem, ⟨18, _⟩ => ⟨S1x512, .f32⟩
  | .local _ .vmem, ⟨19, _⟩ => ⟨S4x288x128, .f32⟩
  | .local _ .vmem, ⟨20, _⟩ => ⟨S4x264x128, .f32⟩
  | .local _ .vmem, ⟨21, _⟩ => ⟨S4x256x128, .f32⟩
  | .local _ .vmem, ⟨22, _⟩ => ⟨S4x256x128, .f32⟩
  | .local _ .vmem, ⟨23, _⟩ => ⟨S4x256x128, .f32⟩
  | .local _ .vmem, ⟨24, _⟩ => ⟨S31x8x512, .f32⟩
  | .local _ .vmem, ⟨25, _⟩ => ⟨S3x8x512, .f32⟩
  | .local _ .vmem, ⟨26, _⟩ => ⟨S3x8x512, .f32⟩
  | _, _ => ⟨S16384x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_0 : Ref sig .tc := ⟨.hbm, 38, rfl⟩
abbrev main_v30 : Ref sig .tc := ⟨.hbm, 39, rfl⟩
abbrev main_v31 : Ref sig .tc := ⟨.hbm, 40, rfl⟩
abbrev main_cst_1 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_2 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_v143 : Ref sig .tc := ⟨.hbm, 154, rfl⟩
abbrev main_v144 : Ref sig .tc := ⟨.hbm, 155, rfl⟩
abbrev main_v145 : Ref sig .tc := ⟨.hbm, 156, rfl⟩
abbrev main_v146 : Ref sig .tc := ⟨.hbm, 157, rfl⟩
abbrev main_v147 : Ref sig .tc := ⟨.hbm, 158, rfl⟩
abbrev main_v148 : Ref sig .tc := ⟨.hbm, 159, rfl⟩
abbrev main_v149 : Ref sig .tc := ⟨.hbm, 160, rfl⟩
abbrev main_v150 : Ref sig .tc := ⟨.hbm, 161, rfl⟩
abbrev main_v151 : Ref sig .tc := ⟨.hbm, 162, rfl⟩
abbrev main_v152 : Ref sig .tc := ⟨.hbm, 163, rfl⟩
abbrev main_v153 : Ref sig .tc := ⟨.hbm, 164, rfl⟩
abbrev main_v154 : Ref sig .tc := ⟨.hbm, 165, rfl⟩
abbrev main_v155 : Ref sig .tc := ⟨.hbm, 166, rfl⟩
abbrev main_v156 : Ref sig .tc := ⟨.hbm, 167, rfl⟩
abbrev main_v157 : Ref sig .tc := ⟨.hbm, 168, rfl⟩
abbrev main_v158 : Ref sig .tc := ⟨.hbm, 169, rfl⟩
abbrev main_v159 : Ref sig .tc := ⟨.hbm, 170, rfl⟩
abbrev main_v160 : Ref sig .tc := ⟨.hbm, 171, rfl⟩
abbrev main_v161 : Ref sig .tc := ⟨.hbm, 172, rfl⟩
abbrev main_v162 : Ref sig .tc := ⟨.hbm, 173, rfl⟩
abbrev main_v163 : Ref sig .tc := ⟨.hbm, 174, rfl⟩
abbrev main_v164 : Ref sig .tc := ⟨.hbm, 175, rfl⟩
abbrev main_v165 : Ref sig .tc := ⟨.hbm, 176, rfl⟩
abbrev main_v166 : Ref sig .tc := ⟨.hbm, 177, rfl⟩
abbrev main_v167 : Ref sig .tc := ⟨.hbm, 178, rfl⟩
abbrev main_v168 : Ref sig .tc := ⟨.hbm, 179, rfl⟩
abbrev main_v169 : Ref sig .tc := ⟨.hbm, 180, rfl⟩
abbrev main_v170 : Ref sig .tc := ⟨.hbm, 181, rfl⟩
abbrev main_v171 : Ref sig .tc := ⟨.hbm, 182, rfl⟩
abbrev main_v172 : Ref sig .tc := ⟨.hbm, 183, rfl⟩
abbrev main_v173 : Ref sig .tc := ⟨.hbm, 184, rfl⟩
abbrev main_v174 : Ref sig .tc := ⟨.hbm, 185, rfl⟩
abbrev main_v175 : Ref sig .tc := ⟨.hbm, 186, rfl⟩
abbrev main_v176 : Ref sig .tc := ⟨.hbm, 187, rfl⟩
abbrev main_v177 : Ref sig .tc := ⟨.hbm, 188, rfl⟩
abbrev main_v178 : Ref sig .tc := ⟨.hbm, 189, rfl⟩
abbrev main_v179 : Ref sig .tc := ⟨.hbm, 190, rfl⟩
abbrev main_v180 : Ref sig .tc := ⟨.hbm, 191, rfl⟩
abbrev main_v181 : Ref sig .tc := ⟨.hbm, 192, rfl⟩
abbrev main_v182 : Ref sig .tc := ⟨.hbm, 193, rfl⟩
abbrev main_v183 : Ref sig .tc := ⟨.hbm, 194, rfl⟩
abbrev main_v184 : Ref sig .tc := ⟨.hbm, 195, rfl⟩
abbrev main_v185 : Ref sig .tc := ⟨.hbm, 196, rfl⟩
abbrev main_v186 : Ref sig .tc := ⟨.hbm, 197, rfl⟩
abbrev main_v187 : Ref sig .tc := ⟨.hbm, 198, rfl⟩
abbrev main_v188 : Ref sig .tc := ⟨.hbm, 199, rfl⟩
abbrev main_v189 : Ref sig .tc := ⟨.hbm, 200, rfl⟩
abbrev main_v190 : Ref sig .tc := ⟨.hbm, 201, rfl⟩
abbrev main_v191 : Ref sig .tc := ⟨.hbm, 202, rfl⟩
abbrev main_v192 : Ref sig .tc := ⟨.hbm, 203, rfl⟩
abbrev main_v193 : Ref sig .tc := ⟨.hbm, 204, rfl⟩
abbrev main_v194 : Ref sig .tc := ⟨.hbm, 205, rfl⟩
abbrev main_v195 : Ref sig .tc := ⟨.hbm, 206, rfl⟩
abbrev main_v196 : Ref sig .tc := ⟨.hbm, 207, rfl⟩
abbrev main_v197 : Ref sig .tc := ⟨.hbm, 208, rfl⟩
abbrev main_v198 : Ref sig .tc := ⟨.hbm, 209, rfl⟩
abbrev main_v199 : Ref sig .tc := ⟨.hbm, 210, rfl⟩
abbrev main_v200 : Ref sig .tc := ⟨.hbm, 211, rfl⟩
abbrev main_v201 : Ref sig .tc := ⟨.hbm, 212, rfl⟩
abbrev main_v202 : Ref sig .tc := ⟨.hbm, 213, rfl⟩
abbrev main_v203 : Ref sig .tc := ⟨.hbm, 214, rfl⟩
abbrev main_v204 : Ref sig .tc := ⟨.hbm, 215, rfl⟩
abbrev main_v205 : Ref sig .tc := ⟨.hbm, 216, rfl⟩
abbrev main_v206 : Ref sig .tc := ⟨.hbm, 217, rfl⟩
abbrev main_v207 : Ref sig .tc := ⟨.hbm, 218, rfl⟩
abbrev main_v208 : Ref sig .tc := ⟨.hbm, 219, rfl⟩
abbrev main_v209 : Ref sig .tc := ⟨.hbm, 220, rfl⟩
abbrev main_v210 : Ref sig .tc := ⟨.hbm, 221, rfl⟩
abbrev main_v211 : Ref sig .tc := ⟨.hbm, 222, rfl⟩
abbrev main_v212 : Ref sig .tc := ⟨.hbm, 223, rfl⟩
abbrev main_v213 : Ref sig .tc := ⟨.hbm, 224, rfl⟩
abbrev main_v214 : Ref sig .tc := ⟨.hbm, 225, rfl⟩
abbrev main_v215 : Ref sig .tc := ⟨.hbm, 226, rfl⟩
abbrev main_v216 : Ref sig .tc := ⟨.hbm, 227, rfl⟩
abbrev main_v217 : Ref sig .tc := ⟨.hbm, 228, rfl⟩
abbrev main_v218 : Ref sig .tc := ⟨.hbm, 229, rfl⟩
abbrev main_v219 : Ref sig .tc := ⟨.hbm, 230, rfl⟩
abbrev main_v220 : Ref sig .tc := ⟨.hbm, 231, rfl⟩
abbrev main_v221 : Ref sig .tc := ⟨.hbm, 232, rfl⟩
abbrev main_v222 : Ref sig .tc := ⟨.hbm, 233, rfl⟩
abbrev main_v223 : Ref sig .tc := ⟨.hbm, 234, rfl⟩
abbrev main_v224 : Ref sig .tc := ⟨.hbm, 235, rfl⟩
abbrev main_v225 : Ref sig .tc := ⟨.hbm, 236, rfl⟩
abbrev main_v226 : Ref sig .tc := ⟨.hbm, 237, rfl⟩
abbrev main_v227 : Ref sig .tc := ⟨.hbm, 238, rfl⟩
abbrev main_v228 : Ref sig .tc := ⟨.hbm, 239, rfl⟩
abbrev main_v229 : Ref sig .tc := ⟨.hbm, 240, rfl⟩
abbrev main_v230 : Ref sig .tc := ⟨.hbm, 241, rfl⟩
abbrev main_v231 : Ref sig .tc := ⟨.hbm, 242, rfl⟩
abbrev main_v232 : Ref sig .tc := ⟨.hbm, 243, rfl⟩
abbrev main_v233 : Ref sig .tc := ⟨.hbm, 244, rfl⟩
abbrev main_v234 : Ref sig .tc := ⟨.hbm, 245, rfl⟩
abbrev main_v235 : Ref sig .tc := ⟨.hbm, 246, rfl⟩
abbrev main_v236 : Ref sig .tc := ⟨.hbm, 247, rfl⟩
abbrev main_v237 : Ref sig .tc := ⟨.hbm, 248, rfl⟩
abbrev main_v238 : Ref sig .tc := ⟨.hbm, 249, rfl⟩
abbrev main_v239 : Ref sig .tc := ⟨.hbm, 250, rfl⟩
abbrev main_v240 : Ref sig .tc := ⟨.hbm, 251, rfl⟩
abbrev main_v241 : Ref sig .tc := ⟨.hbm, 252, rfl⟩
abbrev main_v242 : Ref sig .tc := ⟨.hbm, 253, rfl⟩
abbrev main_v243 : Ref sig .tc := ⟨.hbm, 254, rfl⟩
abbrev main_v244 : Ref sig .tc := ⟨.hbm, 255, rfl⟩
abbrev main_v245 : Ref sig .tc := ⟨.hbm, 256, rfl⟩
abbrev main_v246 : Ref sig .tc := ⟨.hbm, 257, rfl⟩
abbrev main_v247 : Ref sig .tc := ⟨.hbm, 258, rfl⟩
abbrev main_v248 : Ref sig .tc := ⟨.hbm, 259, rfl⟩
abbrev main_v249 : Ref sig .tc := ⟨.hbm, 260, rfl⟩
abbrev main_v250 : Ref sig .tc := ⟨.hbm, 261, rfl⟩
abbrev main_v251 : Ref sig .tc := ⟨.hbm, 262, rfl⟩
abbrev main_v252 : Ref sig .tc := ⟨.hbm, 263, rfl⟩
abbrev main_v253 : Ref sig .tc := ⟨.hbm, 264, rfl⟩
abbrev main_v254 : Ref sig .tc := ⟨.hbm, 265, rfl⟩
abbrev main_v255 : Ref sig .tc := ⟨.hbm, 266, rfl⟩
abbrev main_v256 : Ref sig .tc := ⟨.hbm, 267, rfl⟩
abbrev main_v257 : Ref sig .tc := ⟨.hbm, 268, rfl⟩
abbrev main_v258 : Ref sig .tc := ⟨.hbm, 269, rfl⟩
abbrev main_v259 : Ref sig .tc := ⟨.hbm, 270, rfl⟩
abbrev main_v260 : Ref sig .tc := ⟨.hbm, 271, rfl⟩
abbrev main_v261 : Ref sig .tc := ⟨.hbm, 272, rfl⟩
abbrev main_v262_0 : Ref sig .tc := ⟨.hbm, 273, rfl⟩
abbrev main_v262_1 : Ref sig .tc := ⟨.hbm, 274, rfl⟩
abbrev main_v262_2 : Ref sig .tc := ⟨.hbm, 275, rfl⟩
abbrev main_v262_3 : Ref sig .tc := ⟨.hbm, 276, rfl⟩
abbrev main_v262_4 : Ref sig .tc := ⟨.hbm, 277, rfl⟩
abbrev main_v262_5 : Ref sig .tc := ⟨.hbm, 278, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_scratch5 : Ref sig .tc := ⟨.vmem, 24, rfl⟩
abbrev cc0_scratch6 : Ref sig .tc := ⟨.vmem, 25, rfl⟩
abbrev cc0_scratch7 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v18944 : BitVec 1 := Scalar.cmpi .eq arg0 c63_i32
  let v18945 : BitVec 32 := Scalar.extui v18944
  let c0_i32_14539 : BitVec 32 := 0#32
  let v18946 : BitVec 1 := Scalar.cmpi .ne v18945 c0_i32_14539
  v18946

def cc0_transform_0 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S31x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2560 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S3x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S31x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceConvIdeal.lean ====
abbrev S16384x2560 : Shape := ⟨2, ![16384, 2560]⟩
abbrev S3x512 : Shape := ⟨2, ![3, 512]⟩
abbrev S31x512 : Shape := ⟨2, ![31, 512]⟩
abbrev S512 : Shape := ⟨1, ![512]⟩
abbrev S16384x1024 : Shape := ⟨2, ![16384, 1024]⟩
abbrev S16384x512 : Shape := ⟨2, ![16384, 512]⟩
abbrev S_ : Shape := ⟨0, ![]⟩
abbrev S2x512 : Shape := ⟨2, ![2, 512]⟩
abbrev S16386x512 : Shape := ⟨2, ![16386, 512]⟩
abbrev S1x512 : Shape := ⟨2, ![1, 512]⟩
abbrev S30x512 : Shape := ⟨2, ![30, 512]⟩
abbrev S16414x512 : Shape := ⟨2, ![16414, 512]⟩
abbrev S16384 : Shape := ⟨1, ![16384]⟩
abbrev S16384x1 : Shape := ⟨2, ![16384, 1]⟩

abbrev nBuf : Space → Nat
  | .hbm => 903
  | .vmem => 0
  | .smem => 0
  | _ => 0

abbrev hbmTy0_0 (i : Nat) : BufTy := match i % 128 with
  | 0 => ⟨S16384x2560, .f32⟩
  | 1 => ⟨S3x512, .f32⟩
  | 2 => ⟨S31x512, .f32⟩
  | 3 => ⟨S512, .f32⟩
  | 4 => ⟨S512, .f32⟩
  | 5 => ⟨S512, .f32⟩
  | 6 => ⟨S16384x1024, .f32⟩
  | 7 => ⟨S16384x512, .f32⟩
  | 8 => ⟨S16384x512, .f32⟩
  | 9 => ⟨S16384x512, .f32⟩
  | 10 => ⟨S16384x512, .f32⟩
  | 11 => ⟨S16384x512, .f32⟩
  | 12 => ⟨S16384x512, .f32⟩
  | 13 => ⟨S_, .f32⟩
  | 14 => ⟨S2x512, .f32⟩
  | 15 => ⟨S16386x512, .f32⟩
  | 16 => ⟨S_, .f32⟩
  | 17 => ⟨S2x512, .f32⟩
  | 18 => ⟨S1x512, .f32⟩
  | 19 => ⟨S512, .f32⟩
  | 20 => ⟨S1x512, .f32⟩
  | 21 => ⟨S16384x512, .f32⟩
  | 22 => ⟨S16384x512, .f32⟩
  | 23 => ⟨S16384x512, .f32⟩
  | 24 => ⟨S1x512, .f32⟩
  | 25 => ⟨S512, .f32⟩
  | 26 => ⟨S1x512, .f32⟩
  | 27 => ⟨S16384x512, .f32⟩
  | 28 => ⟨S16384x512, .f32⟩
  | 29 => ⟨S16384x512, .f32⟩
  | 30 => ⟨S16384x512, .f32⟩
  | 31 => ⟨S1x512, .f32⟩
  | 32 => ⟨S512, .f32⟩
  | 33 => ⟨S1x512, .f32⟩
  | 34 => ⟨S16384x512, .f32⟩
  | 35 => ⟨S16384x512, .f32⟩
  | 36 => ⟨S16384x512, .f32⟩
  | 37 => ⟨S16384x512, .f32⟩
  | 38 => ⟨S16384x512, .f32⟩
  | 39 => ⟨S16384x512, .f32⟩
  | 40 => ⟨S16384x512, .f32⟩
  | 41 => ⟨S_, .f32⟩
  | 42 => ⟨S16384x512, .f32⟩
  | 43 => ⟨S16384x512, .f32⟩
  | 44 => ⟨S_, .f32⟩
  | 45 => ⟨S16384x512, .f32⟩
  | 46 => ⟨S16384x512, .f32⟩
  | 47 => ⟨S_, .f32⟩
  | 48 => ⟨S16384x512, .f32⟩
  | 49 => ⟨S16384x512, .f32⟩
  | 50 => ⟨S16384x512, .f32⟩
  | 51 => ⟨S16384x512, .f32⟩
  | 52 => ⟨S_, .f32⟩
  | 53 => ⟨S30x512, .f32⟩
  | 54 => ⟨S16414x512, .f32⟩
  | 55 => ⟨S_, .f32⟩
  | 56 => ⟨S30x512, .f32⟩
  | 57 => ⟨S1x512, .f32⟩
  | 58 => ⟨S512, .f32⟩
  | 59 => ⟨S1x512, .f32⟩
  | 60 => ⟨S16384x512, .f32⟩
  | 61 => ⟨S16384x512, .f32⟩
  | 62 => ⟨S16384x512, .f32⟩
  | 63 => ⟨S1x512, .f32⟩
  | 64 => ⟨S512, .f32⟩
  | 65 => ⟨S1x512, .f32⟩
  | 66 => ⟨S16384x512, .f32⟩
  | 67 => ⟨S16384x512, .f32⟩
  | 68 => ⟨S16384x512, .f32⟩
  | 69 => ⟨S16384x512, .f32⟩
  | 70 => ⟨S1x512, .f32⟩
  | 71 => ⟨S512, .f32⟩
  | 72 => ⟨S1x512, .f32⟩
  | 73 => ⟨S16384x512, .f32⟩
  | 74 => ⟨S16384x512, .f32⟩
  | 75 => ⟨S16384x512, .f32⟩
  | 76 => ⟨S16384x512, .f32⟩
  | 77 => ⟨S1x512, .f32⟩
  | 78 => ⟨S512, .f32⟩
  | 79 => ⟨S1x512, .f32⟩
  | 80 => ⟨S16384x512, .f32⟩
  | 81 => ⟨S16384x512, .f32⟩
  | 82 => ⟨S16384x512, .f32⟩
  | 83 => ⟨S16384x512, .f32⟩
  | 84 => ⟨S1x512, .f32⟩
  | 85 => ⟨S512, .f32⟩
  | 86 => ⟨S1x512, .f32⟩
  | 87 => ⟨S16384x512, .f32⟩
  | 88 => ⟨S16384x512, .f32⟩
  | 89 => ⟨S16384x512, .f32⟩
  | 90 => ⟨S16384x512, .f32⟩
  | 91 => ⟨S1x512, .f32⟩
  | 92 => ⟨S512, .f32⟩
  | 93 => ⟨S1x512, .f32⟩
  | 94 => ⟨S16384x512, .f32⟩
  | 95 => ⟨S16384x512, .f32⟩
  | 96 => ⟨S16384x512, .f32⟩
  | 97 => ⟨S16384x512, .f32⟩
  | 98 => ⟨S1x512, .f32⟩
  | 99 => ⟨S512, .f32⟩
  | 100 => ⟨S1x512, .f32⟩
  | 101 => ⟨S16384x512, .f32⟩
  | 102 => ⟨S16384x512, .f32⟩
  | 103 => ⟨S16384x512, .f32⟩
  | 104 => ⟨S16384x512, .f32⟩
  | 105 => ⟨S1x512, .f32⟩
  | 106 => ⟨S512, .f32⟩
  | 107 => ⟨S1x512, .f32⟩
  | 108 => ⟨S16384x512, .f32⟩
  | 109 => ⟨S16384x512, .f32⟩
  | 110 => ⟨S16384x512, .f32⟩
  | 111 => ⟨S16384x512, .f32⟩
  | 112 => ⟨S1x512, .f32⟩
  | 113 => ⟨S512, .f32⟩
  | 114 => ⟨S1x512, .f32⟩
  | 115 => ⟨S16384x512, .f32⟩
  | 116 => ⟨S16384x512, .f32⟩
  | 117 => ⟨S16384x512, .f32⟩
  | 118 => ⟨S16384x512, .f32⟩
  | 119 => ⟨S1x512, .f32⟩
  | 120 => ⟨S512, .f32⟩
  | 121 => ⟨S1x512, .f32⟩
  | 122 => ⟨S16384x512, .f32⟩
  | 123 => ⟨S16384x512, .f32⟩
  | 124 => ⟨S16384x512, .f32⟩
  | 125 => ⟨S16384x512, .f32⟩
  | 126 => ⟨S1x512, .f32⟩
  | 127 => ⟨S512, .f32⟩
  | _ => ⟨S16384x2560, .f32⟩

abbrev hbmTy0_1 (i : Nat) : BufTy := match i % 128 with
  | 0 => ⟨S1x512, .f32⟩
  | 1 => ⟨S16384x512, .f32⟩
  | 2 => ⟨S16384x512, .f32⟩
  | 3 => ⟨S16384x512, .f32⟩
  | 4 => ⟨S16384x512, .f32⟩
  | 5 => ⟨S1x512, .f32⟩
  | 6 => ⟨S512, .f32⟩
  | 7 => ⟨S1x512, .f32⟩
  | 8 => ⟨S16384x512, .f32⟩
  | 9 => ⟨S16384x512, .f32⟩
  | 10 => ⟨S16384x512, .f32⟩
  | 11 => ⟨S16384x512, .f32⟩
  | 12 => ⟨S1x512, .f32⟩
  | 13 => ⟨S512, .f32⟩
  | 14 => ⟨S1x512, .f32⟩
  | 15 => ⟨S16384x512, .f32⟩
  | 16 => ⟨S16384x512, .f32⟩
  | 17 => ⟨S16384x512, .f32⟩
  | 18 => ⟨S16384x512, .f32⟩
  | 19 => ⟨S1x512, .f32⟩
  | 20 => ⟨S512, .f32⟩
  | 21 => ⟨S1x512, .f32⟩
  | 22 => ⟨S16384x512, .f32⟩
  | 23 => ⟨S16384x512, .f32⟩
  | 24 => ⟨S16384x512, .f32⟩
  | 25 => ⟨S16384x512, .f32⟩
  | 26 => ⟨S1x512, .f32⟩
  | 27 => ⟨S512, .f32⟩
  | 28 => ⟨S1x512, .f32⟩
  | 29 => ⟨S16384x512, .f32⟩
  | 30 => ⟨S16384x512, .f32⟩
  | 31 => ⟨S16384x512, .f32⟩
  | 32 => ⟨S16384x512, .f32⟩
  | 33 => ⟨S1x512, .f32⟩
  | 34 => ⟨S512, .f32⟩
  | 35 => ⟨S1x512, .f32⟩
  | 36 => ⟨S16384x512, .f32⟩
  | 37 => ⟨S16384x512, .f32⟩
  | 38 => ⟨S16384x512, .f32⟩
  | 39 => ⟨S16384x512, .f32⟩
  | 40 => ⟨S1x512, .f32⟩
  | 41 => ⟨S512, .f32⟩
  | 42 => ⟨S1x512, .f32⟩
  | 43 => ⟨S16384x512, .f32⟩
  | 44 => ⟨S16384x512, .f32⟩
  | 45 => ⟨S16384x512, .f32⟩
  | 46 => ⟨S16384x512, .f32⟩
  | 47 => ⟨S1x512, .f32⟩
  | 48 => ⟨S512, .f32⟩
  | 49 => ⟨S1x512, .f32⟩
  | 50 => ⟨S16384x512, .f32⟩
  | 51 => ⟨S16384x512, .f32⟩
  | 52 => ⟨S16384x512, .f32⟩
  | 53 => ⟨S16384x512, .f32⟩
  | 54 => ⟨S1x512, .f32⟩
  | 55 => ⟨S512, .f32⟩
  | 56 => ⟨S1x512, .f32⟩
  | 57 => ⟨S16384x512, .f32⟩
  | 58 => ⟨S16384x512, .f32⟩
  | 59 => ⟨S16384x512, .f32⟩
  | 60 => ⟨S16384x512, .f32⟩
  | 61 => ⟨S1x512, .f32⟩
  | 62 => ⟨S512, .f32⟩
  | 63 => ⟨S1x512, .f32⟩
  | 64 => ⟨S16384x512, .f32⟩
  | 65 => ⟨S16384x512, .f32⟩
  | 66 => ⟨S16384x512, .f32⟩
  | 67 => ⟨S16384x512, .f32⟩
  | 68 => ⟨S1x512, .f32⟩
  | 69 => ⟨S512, .f32⟩
  | 70 => ⟨S1x512, .f32⟩
  | 71 => ⟨S16384x512, .f32⟩
  | 72 => ⟨S16384x512, .f32⟩
  | 73 => ⟨S16384x512, .f32⟩
  | 74 => ⟨S16384x512, .f32⟩
  | 75 => ⟨S1x512, .f32⟩
  | 76 => ⟨S512, .f32⟩
  | 77 => ⟨S1x512, .f32⟩
  | 78 => ⟨S16384x512, .f32⟩
  | 79 => ⟨S16384x512, .f32⟩
  | 80 => ⟨S16384x512, .f32⟩
  | 81 => ⟨S16384x512, .f32⟩
  | 82 => ⟨S1x512, .f32⟩
  | 83 => ⟨S512, .f32⟩
  | 84 => ⟨S1x512, .f32⟩
  | 85 => ⟨S16384x512, .f32⟩
  | 86 => ⟨S16384x512, .f32⟩
  | 87 => ⟨S16384x512, .f32⟩
  | 88 => ⟨S16384x512, .f32⟩
  | 89 => ⟨S1x512, .f32⟩
  | 90 => ⟨S512, .f32⟩
  | 91 => ⟨S1x512, .f32⟩
  | 92 => ⟨S16384x512, .f32⟩
  | 93 => ⟨S16384x512, .f32⟩
  | 94 => ⟨S16384x512, .f32⟩
  | 95 => ⟨S16384x512, .f32⟩
  | 96 => ⟨S1x512, .f32⟩
  | 97 => ⟨S512, .f32⟩
  | 98 => ⟨S1x512, .f32⟩
  | 99 => ⟨S16384x512, .f32⟩
  | 100 => ⟨S16384x512, .f32⟩
  | 101 => ⟨S16384x512, .f32⟩
  | 102 => ⟨S16384x512, .f32⟩
  | 103 => ⟨S1x512, .f32⟩
  | 104 => ⟨S512, .f32⟩
  | 105 => ⟨S1x512, .f32⟩
  | 106 => ⟨S16384x512, .f32⟩
  | 107 => ⟨S16384x512, .f32⟩
  | 108 => ⟨S16384x512, .f32⟩
  | 109 => ⟨S16384x512, .f32⟩
  | 110 => ⟨S1x512, .f32⟩
  | 111 => ⟨S512, .f32⟩
  | 112 => ⟨S1x512, .f32⟩
  | 113 => ⟨S16384x512, .f32⟩
  | 114 => ⟨S16384x512, .f32⟩
  | 115 => ⟨S16384x512, .f32⟩
  | 116 => ⟨S16384x512, .f32⟩
  | 117 => ⟨S1x512, .f32⟩
  | 118 => ⟨S512, .f32⟩
  | 119 => ⟨S1x512, .f32⟩
  | 120 => ⟨S16384x512, .f32⟩
  | 121 => ⟨S16384x512, .f32⟩
  | 122 => ⟨S16384x512, .f32⟩
  | 123 => ⟨S16384x512, .f32⟩
  | 124 => ⟨S1x512, .f32⟩
  | 125 => ⟨S512, .f32⟩
  | 126 => ⟨S1x512, .f32⟩
  | 127 => ⟨S16384x512, .f32⟩
  | _ => ⟨S16384x2560, .f32⟩

abbrev hbmTy0_2 (i : Nat) : BufTy := match i % 128 with
  | 0 => ⟨S16384x512, .f32⟩
  | 1 => ⟨S16384x512, .f32⟩
  | 2 => ⟨S16384x512, .f32⟩
  | 3 => ⟨S1x512, .f32⟩
  | 4 => ⟨S512, .f32⟩
  | 5 => ⟨S1x512, .f32⟩
  | 6 => ⟨S16384x512, .f32⟩
  | 7 => ⟨S16384x512, .f32⟩
  | 8 => ⟨S16384x512, .f32⟩
  | 9 => ⟨S16384x512, .f32⟩
  | 10 => ⟨S1x512, .f32⟩
  | 11 => ⟨S512, .f32⟩
  | 12 => ⟨S1x512, .f32⟩
  | 13 => ⟨S16384x512, .f32⟩
  | 14 => ⟨S16384x512, .f32⟩
  | 15 => ⟨S16384x512, .f32⟩
  | 16 => ⟨S16384x512, .f32⟩
  | 17 => ⟨S1x512, .f32⟩
  | 18 => ⟨S16384x512, .f32⟩
  | 19 => ⟨S16384x512, .f32⟩
  | 20 => ⟨S_, .f32⟩
  | 21 => ⟨S16384, .f32⟩
  | 22 => ⟨S16384x1, .f32⟩
  | 23 => ⟨S_, .f32⟩
  | 24 => ⟨S16384x1, .f32⟩
  | 25 => ⟨S16384x1, .f32⟩
  | 26 => ⟨S16384x512, .f32⟩
  | 27 => ⟨S16384x512, .f32⟩
  | 28 => ⟨S16384x512, .f32⟩
  | 29 => ⟨S_, .f32⟩
  | 30 => ⟨S16384x512, .f32⟩
  | 31 => ⟨S16384x512, .f32⟩
  | 32 => ⟨S_, .f32⟩
  | 33 => ⟨S16384, .f32⟩
  | 34 => ⟨S16384x1, .f32⟩
  | 35 => ⟨S_, .f32⟩
  | 36 => ⟨S16384x1, .f32⟩
  | 37 => ⟨S16384x1, .f32⟩
  | 38 => ⟨S16384x512, .f32⟩
  | 39 => ⟨S16384x512, .f32⟩
  | 40 => ⟨S_, .f32⟩
  | 41 => ⟨S16384x1, .f32⟩
  | 42 => ⟨S16384x1, .f32⟩
  | 43 => ⟨S16384x1, .f32⟩
  | 44 => ⟨S16384x1, .f32⟩
  | 45 => ⟨S_, .f32⟩
  | 46 => ⟨S16384x1, .f32⟩
  | 47 => ⟨S16384x1, .f32⟩
  | 48 => ⟨S16384x512, .f32⟩
  | 49 => ⟨S16384x512, .f32⟩
  | 50 => ⟨S1x512, .f32⟩
  | 51 => ⟨S16384x512, .f32⟩
  | 52 => ⟨S16384x512, .f32⟩
  | 53 => ⟨S1x512, .f32⟩
  | 54 => ⟨S16384x512, .f32⟩
  | 55 => ⟨S16384x512, .f32⟩
  | 56 => ⟨S16384x512, .f32⟩
  | 57 => ⟨S16384x512, .f32⟩
  | 58 => ⟨S_, .f32⟩
  | 59 => ⟨S16384x512, .f32⟩
  | 60 => ⟨S16384x512, .f32⟩
  | 61 => ⟨S_, .f32⟩
  | 62 => ⟨S16384x512, .f32⟩
  | 63 => ⟨S16384x512, .f32⟩
  | 64 => ⟨S_, .f32⟩
  | 65 => ⟨S16384x512, .f32⟩
  | 66 => ⟨S16384x512, .f32⟩
  | 67 => ⟨S16384x512, .f32⟩
  | 68 => ⟨S16384x512, .f32⟩
  | 69 => ⟨S16384x1024, .f32⟩
  | 70 => ⟨S16384x512, .f32⟩
  | 71 => ⟨S16384x512, .f32⟩
  | 72 => ⟨S16384x512, .f32⟩
  | 73 => ⟨S16384x512, .f32⟩
  | 74 => ⟨S16384x512, .f32⟩
  | 75 => ⟨S16384x512, .f32⟩
  | 76 => ⟨S_, .f32⟩
  | 77 => ⟨S512, .f32⟩
  | 78 => ⟨S1x512, .f32⟩
  | 79 => ⟨S_, .f32⟩
  | 80 => ⟨S512, .f32⟩
  | 81 => ⟨S16384x512, .f32⟩
  | 82 => ⟨S_, .f32⟩
  | 83 => ⟨S512, .f32⟩
  | 84 => ⟨S1x512, .f32⟩
  | 85 => ⟨S16384x512, .f32⟩
  | 86 => ⟨S16384x512, .f32⟩
  | 87 => ⟨S_, .f32⟩
  | 88 => ⟨S512, .f32⟩
  | 89 => ⟨S16384x512, .f32⟩
  | 90 => ⟨S_, .f32⟩
  | 91 => ⟨S16384, .f32⟩
  | 92 => ⟨S16384x1, .f32⟩
  | 93 => ⟨S16384x512, .f32⟩
  | 94 => ⟨S16384x512, .f32⟩
  | 95 => ⟨S16384x1, .f32⟩
  | 96 => ⟨S16384x512, .f32⟩
  | 97 => ⟨S_, .f32⟩
  | 98 => ⟨S16384, .f32⟩
  | 99 => ⟨S16384x1, .f32⟩
  | 100 => ⟨S_, .f32⟩
  | 101 => ⟨S16384x1, .f32⟩
  | 102 => ⟨S16384x1, .f32⟩
  | 103 => ⟨S_, .f32⟩
  | 104 => ⟨S16384, .f32⟩
  | 105 => ⟨S16384x512, .f32⟩
  | 106 => ⟨S16384x512, .f32⟩
  | 107 => ⟨S16384x512, .f32⟩
  | 108 => ⟨S_, .f32⟩
  | 109 => ⟨S16384, .f32⟩
  | 110 => ⟨S16384x1, .f32⟩
  | 111 => ⟨S16384x512, .f32⟩
  | 112 => ⟨S16384x1, .f32⟩
  | 113 => ⟨S_, .f32⟩
  | 114 => ⟨S16384x1, .f32⟩
  | 115 => ⟨S16384x1, .f32⟩
  | 116 => ⟨S_, .f32⟩
  | 117 => ⟨S16384, .f32⟩
  | 118 => ⟨S16384x512, .f32⟩
  | 119 => ⟨S16384x512, .f32⟩
  | 120 => ⟨S_, .f32⟩
  | 121 => ⟨S512, .f32⟩
  | 122 => ⟨S1x512, .f32⟩
  | 123 => ⟨S_, .f32⟩
  | 124 => ⟨S512, .f32⟩
  | 125 => ⟨S16384x512, .f32⟩
  | 126 => ⟨S16384x512, .f32⟩
  | 127 => ⟨S16384x512, .f32⟩
  | _ => ⟨S16384x2560, .f32⟩

abbrev hbmTy0_3 (i : Nat) : BufTy := match i % 128 with
  | 0 => ⟨S_, .f32⟩
  | 1 => ⟨S512, .f32⟩
  | 2 => ⟨S1x512, .f32⟩
  | 3 => ⟨S_, .f32⟩
  | 4 => ⟨S16414x512, .f32⟩
  | 5 => ⟨S_, .f32⟩
  | 6 => ⟨S512, .f32⟩
  | 7 => ⟨S1x512, .f32⟩
  | 8 => ⟨S_, .f32⟩
  | 9 => ⟨S31x512, .f32⟩
  | 10 => ⟨S16384x512, .f32⟩
  | 11 => ⟨S16384x512, .f32⟩
  | 12 => ⟨S16384x512, .f32⟩
  | 13 => ⟨S_, .f32⟩
  | 14 => ⟨S512, .f32⟩
  | 15 => ⟨S1x512, .f32⟩
  | 16 => ⟨S_, .f32⟩
  | 17 => ⟨S16414x512, .f32⟩
  | 18 => ⟨S16414x512, .f32⟩
  | 19 => ⟨S_, .f32⟩
  | 20 => ⟨S512, .f32⟩
  | 21 => ⟨S1x512, .f32⟩
  | 22 => ⟨S_, .f32⟩
  | 23 => ⟨S31x512, .f32⟩
  | 24 => ⟨S31x512, .f32⟩
  | 25 => ⟨S16384x512, .f32⟩
  | 26 => ⟨S16384x512, .f32⟩
  | 27 => ⟨S16384x512, .f32⟩
  | 28 => ⟨S_, .f32⟩
  | 29 => ⟨S512, .f32⟩
  | 30 => ⟨S1x512, .f32⟩
  | 31 => ⟨S_, .f32⟩
  | 32 => ⟨S16414x512, .f32⟩
  | 33 => ⟨S16414x512, .f32⟩
  | 34 => ⟨S_, .f32⟩
  | 35 => ⟨S512, .f32⟩
  | 36 => ⟨S1x512, .f32⟩
  | 37 => ⟨S_, .f32⟩
  | 38 => ⟨S31x512, .f32⟩
  | 39 => ⟨S31x512, .f32⟩
  | 40 => ⟨S16384x512, .f32⟩
  | 41 => ⟨S16384x512, .f32⟩
  | 42 => ⟨S16384x512, .f32⟩
  | 43 => ⟨S_, .f32⟩
  | 44 => ⟨S512, .f32⟩
  | 45 => ⟨S1x512, .f32⟩
  | 46 => ⟨S_, .f32⟩
  | 47 => ⟨S16414x512, .f32⟩
  | 48 => ⟨S16414x512, .f32⟩
  | 49 => ⟨S_, .f32⟩
  | 50 => ⟨S512, .f32⟩
  | 51 => ⟨S1x512, .f32⟩
  | 52 => ⟨S_, .f32⟩
  | 53 => ⟨S31x512, .f32⟩
  | 54 => ⟨S31x512, .f32⟩
  | 55 => ⟨S16384x512, .f32⟩
  | 56 => ⟨S16384x512, .f32⟩
  | 57 => ⟨S16384x512, .f32⟩
  | 58 => ⟨S_, .f32⟩
  | 59 => ⟨S512, .f32⟩
  | 60 => ⟨S1x512, .f32⟩
  | 61 => ⟨S_, .f32⟩
  | 62 => ⟨S16414x512, .f32⟩
  | 63 => ⟨S16414x512, .f32⟩
  | 64 => ⟨S_, .f32⟩
  | 65 => ⟨S512, .f32⟩
  | 66 => ⟨S1x512, .f32⟩
  | 67 => ⟨S_, .f32⟩
  | 68 => ⟨S31x512, .f32⟩
  | 69 => ⟨S31x512, .f32⟩
  | 70 => ⟨S16384x512, .f32⟩
  | 71 => ⟨S16384x512, .f32⟩
  | 72 => ⟨S16384x512, .f32⟩
  | 73 => ⟨S_, .f32⟩
  | 74 => ⟨S512, .f32⟩
  | 75 => ⟨S1x512, .f32⟩
  | 76 => ⟨S_, .f32⟩
  | 77 => ⟨S16414x512, .f32⟩
  | 78 => ⟨S16414x512, .f32⟩
  | 79 => ⟨S_, .f32⟩
  | 80 => ⟨S512, .f32⟩
  | 81 => ⟨S1x512, .f32⟩
  | 82 => ⟨S_, .f32⟩
  | 83 => ⟨S31x512, .f32⟩
  | 84 => ⟨S31x512, .f32⟩
  | 85 => ⟨S16384x512, .f32⟩
  | 86 => ⟨S16384x512, .f32⟩
  | 87 => ⟨S16384x512, .f32⟩
  | 88 => ⟨S_, .f32⟩
  | 89 => ⟨S512, .f32⟩
  | 90 => ⟨S1x512, .f32⟩
  | 91 => ⟨S_, .f32⟩
  | 92 => ⟨S16414x512, .f32⟩
  | 93 => ⟨S16414x512, .f32⟩
  | 94 => ⟨S_, .f32⟩
  | 95 => ⟨S512, .f32⟩
  | 96 => ⟨S1x512, .f32⟩
  | 97 => ⟨S_, .f32⟩
  | 98 => ⟨S31x512, .f32⟩
  | 99 => ⟨S31x512, .f32⟩
  | 100 => ⟨S16384x512, .f32⟩
  | 101 => ⟨S16384x512, .f32⟩
  | 102 => ⟨S16384x512, .f32⟩
  | 103 => ⟨S_, .f32⟩
  | 104 => ⟨S512, .f32⟩
  | 105 => ⟨S1x512, .f32⟩
  | 106 => ⟨S_, .f32⟩
  | 107 => ⟨S16414x512, .f32⟩
  | 108 => ⟨S16414x512, .f32⟩
  | 109 => ⟨S_, .f32⟩
  | 110 => ⟨S512, .f32⟩
  | 111 => ⟨S1x512, .f32⟩
  | 112 => ⟨S_, .f32⟩
  | 113 => ⟨S31x512, .f32⟩
  | 114 => ⟨S31x512, .f32⟩
  | 115 => ⟨S16384x512, .f32⟩
  | 116 => ⟨S16384x512, .f32⟩
  | 117 => ⟨S16384x512, .f32⟩
  | 118 => ⟨S_, .f32⟩
  | 119 => ⟨S512, .f32⟩
  | 120 => ⟨S1x512, .f32⟩
  | 121 => ⟨S_, .f32⟩
  | 122 => ⟨S16414x512, .f32⟩
  | 123 => ⟨S16414x512, .f32⟩
  | 124 => ⟨S_, .f32⟩
  | 125 => ⟨S512, .f32⟩
  | 126 => ⟨S1x512, .f32⟩
  | 127 => ⟨S_, .f32⟩
  | _ => ⟨S16384x2560, .f32⟩

abbrev hbmTy0_4 (i : Nat) : BufTy := match i % 128 with
  | 0 => ⟨S31x512, .f32⟩
  | 1 => ⟨S31x512, .f32⟩
  | 2 => ⟨S16384x512, .f32⟩
  | 3 => ⟨S16384x512, .f32⟩
  | 4 => ⟨S16384x512, .f32⟩
  | 5 => ⟨S_, .f32⟩
  | 6 => ⟨S512, .f32⟩
  | 7 => ⟨S1x512, .f32⟩
  | 8 => ⟨S_, .f32⟩
  | 9 => ⟨S16414x512, .f32⟩
  | 10 => ⟨S16414x512, .f32⟩
  | 11 => ⟨S_, .f32⟩
  | 12 => ⟨S512, .f32⟩
  | 13 => ⟨S1x512, .f32⟩
  | 14 => ⟨S_, .f32⟩
  | 15 => ⟨S31x512, .f32⟩
  | 16 => ⟨S31x512, .f32⟩
  | 17 => ⟨S16384x512, .f32⟩
  | 18 => ⟨S16384x512, .f32⟩
  | 19 => ⟨S16384x512, .f32⟩
  | 20 => ⟨S_, .f32⟩
  | 21 => ⟨S512, .f32⟩
  | 22 => ⟨S1x512, .f32⟩
  | 23 => ⟨S_, .f32⟩
  | 24 => ⟨S16414x512, .f32⟩
  | 25 => ⟨S16414x512, .f32⟩
  | 26 => ⟨S_, .f32⟩
  | 27 => ⟨S512, .f32⟩
  | 28 => ⟨S1x512, .f32⟩
  | 29 => ⟨S_, .f32⟩
  | 30 => ⟨S31x512, .f32⟩
  | 31 => ⟨S31x512, .f32⟩
  | 32 => ⟨S16384x512, .f32⟩
  | 33 => ⟨S16384x512, .f32⟩
  | 34 => ⟨S16384x512, .f32⟩
  | 35 => ⟨S_, .f32⟩
  | 36 => ⟨S512, .f32⟩
  | 37 => ⟨S1x512, .f32⟩
  | 38 => ⟨S_, .f32⟩
  | 39 => ⟨S16414x512, .f32⟩
  | 40 => ⟨S16414x512, .f32⟩
  | 41 => ⟨S_, .f32⟩
  | 42 => ⟨S512, .f32⟩
  | 43 => ⟨S1x512, .f32⟩
  | 44 => ⟨S_, .f32⟩
  | 45 => ⟨S31x512, .f32⟩
  | 46 => ⟨S31x512, .f32⟩
  | 47 => ⟨S16384x512, .f32⟩
  | 48 => ⟨S16384x512, .f32⟩
  | 49 => ⟨S16384x512, .f32⟩
  | 50 => ⟨S_, .f32⟩
  | 51 => ⟨S512, .f32⟩
  | 52 => ⟨S1x512, .f32⟩
  | 53 => ⟨S_, .f32⟩
  | 54 => ⟨S16414x512, .f32⟩
  | 55 => ⟨S16414x512, .f32⟩
  | 56 => ⟨S_, .f32⟩
  | 57 => ⟨S512, .f32⟩
  | 58 => ⟨S1x512, .f32⟩
  | 59 => ⟨S_, .f32⟩
  | 60 => ⟨S31x512, .f32⟩
  | 61 => ⟨S31x512, .f32⟩
  | 62 => ⟨S16384x512, .f32⟩
  | 63 => ⟨S16384x512, .f32⟩
  | 64 => ⟨S16384x512, .f32⟩
  | 65 => ⟨S_, .f32⟩
  | 66 => ⟨S512, .f32⟩
  | 67 => ⟨S1x512, .f32⟩
  | 68 => ⟨S_, .f32⟩
  | 69 => ⟨S16414x512, .f32⟩
  | 70 => ⟨S16414x512, .f32⟩
  | 71 => ⟨S_, .f32⟩
  | 72 => ⟨S512, .f32⟩
  | 73 => ⟨S1x512, .f32⟩
  | 74 => ⟨S_, .f32⟩
  | 75 => ⟨S31x512, .f32⟩
  | 76 => ⟨S31x512, .f32⟩
  | 77 => ⟨S16384x512, .f32⟩
  | 78 => ⟨S16384x512, .f32⟩
  | 79 => ⟨S16384x512, .f32⟩
  | 80 => ⟨S_, .f32⟩
  | 81 => ⟨S512, .f32⟩
  | 82 => ⟨S1x512, .f32⟩
  | 83 => ⟨S_, .f32⟩
  | 84 => ⟨S16414x512, .f32⟩
  | 85 => ⟨S16414x512, .f32⟩
  | 86 => ⟨S_, .f32⟩
  | 87 => ⟨S512, .f32⟩
  | 88 => ⟨S1x512, .f32⟩
  | 89 => ⟨S_, .f32⟩
  | 90 => ⟨S31x512, .f32⟩
  | 91 => ⟨S31x512, .f32⟩
  | 92 => ⟨S16384x512, .f32⟩
  | 93 => ⟨S16384x512, .f32⟩
  | 94 => ⟨S16384x512, .f32⟩
  | 95 => ⟨S_, .f32⟩
  | 96 => ⟨S512, .f32⟩
  | 97 => ⟨S1x512, .f32⟩
  | 98 => ⟨S_, .f32⟩
  | 99 => ⟨S16414x512, .f32⟩
  | 100 => ⟨S16414x512, .f32⟩
  | 101 => ⟨S_, .f32⟩
  | 102 => ⟨S512, .f32⟩
  | 103 => ⟨S1x512, .f32⟩
  | 104 => ⟨S_, .f32⟩
  | 105 => ⟨S31x512, .f32⟩
  | 106 => ⟨S31x512, .f32⟩
  | 107 => ⟨S16384x512, .f32⟩
  | 108 => ⟨S16384x512, .f32⟩
  | 109 => ⟨S16384x512, .f32⟩
  | 110 => ⟨S_, .f32⟩
  | 111 => ⟨S512, .f32⟩
  | 112 => ⟨S1x512, .f32⟩
  | 113 => ⟨S_, .f32⟩
  | 114 => ⟨S16414x512, .f32⟩
  | 115 => ⟨S16414x512, .f32⟩
  | 116 => ⟨S_, .f32⟩
  | 117 => ⟨S512, .f32⟩
  | 118 => ⟨S1x512, .f32⟩
  | 119 => ⟨S_, .f32⟩
  | 120 => ⟨S31x512, .f32⟩
  | 121 => ⟨S31x512, .f32⟩
  | 122 => ⟨S16384x512, .f32⟩
  | 123 => ⟨S16384x512, .f32⟩
  | 124 => ⟨S16384x512, .f32⟩
  | 125 => ⟨S_, .f32⟩
  | 126 => ⟨S512, .f32⟩
  | 127 => ⟨S1x512, .f32⟩
  | _ => ⟨S16384x2560, .f32⟩

abbrev hbmTy0_5 (i : Nat) : BufTy := match i % 128 with
  | 0 => ⟨S_, .f32⟩
  | 1 => ⟨S16414x512, .f32⟩
  | 2 => ⟨S16414x512, .f32⟩
  | 3 => ⟨S_, .f32⟩
  | 4 => ⟨S512, .f32⟩
  | 5 => ⟨S1x512, .f32⟩
  | 6 => ⟨S_, .f32⟩
  | 7 => ⟨S31x512, .f32⟩
  | 8 => ⟨S31x512, .f32⟩
  | 9 => ⟨S16384x512, .f32⟩
  | 10 => ⟨S16384x512, .f32⟩
  | 11 => ⟨S16384x512, .f32⟩
  | 12 => ⟨S_, .f32⟩
  | 13 => ⟨S512, .f32⟩
  | 14 => ⟨S1x512, .f32⟩
  | 15 => ⟨S_, .f32⟩
  | 16 => ⟨S16414x512, .f32⟩
  | 17 => ⟨S16414x512, .f32⟩
  | 18 => ⟨S_, .f32⟩
  | 19 => ⟨S512, .f32⟩
  | 20 => ⟨S1x512, .f32⟩
  | 21 => ⟨S_, .f32⟩
  | 22 => ⟨S31x512, .f32⟩
  | 23 => ⟨S31x512, .f32⟩
  | 24 => ⟨S16384x512, .f32⟩
  | 25 => ⟨S16384x512, .f32⟩
  | 26 => ⟨S16384x512, .f32⟩
  | 27 => ⟨S_, .f32⟩
  | 28 => ⟨S512, .f32⟩
  | 29 => ⟨S1x512, .f32⟩
  | 30 => ⟨S_, .f32⟩
  | 31 => ⟨S16414x512, .f32⟩
  | 32 => ⟨S16414x512, .f32⟩
  | 33 => ⟨S_, .f32⟩
  | 34 => ⟨S512, .f32⟩
  | 35 => ⟨S1x512, .f32⟩
  | 36 => ⟨S_, .f32⟩
  | 37 => ⟨S31x512, .f32⟩
  | 38 => ⟨S31x512, .f32⟩
  | 39 => ⟨S16384x512, .f32⟩
  | 40 => ⟨S16384x512, .f32⟩
  | 41 => ⟨S16384x512, .f32⟩
  | 42 => ⟨S_, .f32⟩
  | 43 => ⟨S512, .f32⟩
  | 44 => ⟨S1x512, .f32⟩
  | 45 => ⟨S_, .f32⟩
  | 46 => ⟨S16414x512, .f32⟩
  | 47 => ⟨S16414x512, .f32⟩
  | 48 => ⟨S_, .f32⟩
  | 49 => ⟨S512, .f32⟩
  | 50 => ⟨S1x512, .f32⟩
  | 51 => ⟨S_, .f32⟩
  | 52 => ⟨S31x512, .f32⟩
  | 53 => ⟨S31x512, .f32⟩
  | 54 => ⟨S16384x512, .f32⟩
  | 55 => ⟨S16384x512, .f32⟩
  | 56 => ⟨S16384x512, .f32⟩
  | 57 => ⟨S_, .f32⟩
  | 58 => ⟨S512, .f32⟩
  | 59 => ⟨S1x512, .f32⟩
  | 60 => ⟨S_, .f32⟩
  | 61 => ⟨S16414x512, .f32⟩
  | 62 => ⟨S16414x512, .f32⟩
  | 63 => ⟨S_, .f32⟩
  | 64 => ⟨S512, .f32⟩
  | 65 => ⟨S1x512, .f32⟩
  | 66 => ⟨S_, .f32⟩
  | 67 => ⟨S31x512, .f32⟩
  | 68 => ⟨S31x512, .f32⟩
  | 69 => ⟨S16384x512, .f32⟩
  | 70 => ⟨S16384x512, .f32⟩
  | 71 => ⟨S16384x512, .f32⟩
  | 72 => ⟨S_, .f32⟩
  | 73 => ⟨S512, .f32⟩
  | 74 => ⟨S1x512, .f32⟩
  | 75 => ⟨S_, .f32⟩
  | 76 => ⟨S16414x512, .f32⟩
  | 77 => ⟨S16414x512, .f32⟩
  | 78 => ⟨S_, .f32⟩
  | 79 => ⟨S512, .f32⟩
  | 80 => ⟨S1x512, .f32⟩
  | 81 => ⟨S_, .f32⟩
  | 82 => ⟨S31x512, .f32⟩
  | 83 => ⟨S31x512, .f32⟩
  | 84 => ⟨S16384x512, .f32⟩
  | 85 => ⟨S16384x512, .f32⟩
  | 86 => ⟨S16384x512, .f32⟩
  | 87 => ⟨S_, .f32⟩
  | 88 => ⟨S512, .f32⟩
  | 89 => ⟨S1x512, .f32⟩
  | 90 => ⟨S_, .f32⟩
  | 91 => ⟨S16414x512, .f32⟩
  | 92 => ⟨S16414x512, .f32⟩
  | 93 => ⟨S_, .f32⟩
  | 94 => ⟨S512, .f32⟩
  | 95 => ⟨S1x512, .f32⟩
  | 96 => ⟨S_, .f32⟩
  | 97 => ⟨S31x512, .f32⟩
  | 98 => ⟨S31x512, .f32⟩
  | 99 => ⟨S16384x512, .f32⟩
  | 100 => ⟨S16384x512, .f32⟩
  | 101 => ⟨S16384x512, .f32⟩
  | 102 => ⟨S_, .f32⟩
  | 103 => ⟨S512, .f32⟩
  | 104 => ⟨S1x512, .f32⟩
  | 105 => ⟨S_, .f32⟩
  | 106 => ⟨S16414x512, .f32⟩
  | 107 => ⟨S16414x512, .f32⟩
  | 108 => ⟨S_, .f32⟩
  | 109 => ⟨S512, .f32⟩
  | 110 => ⟨S1x512, .f32⟩
  | 111 => ⟨S_, .f32⟩
  | 112 => ⟨S31x512, .f32⟩
  | 113 => ⟨S31x512, .f32⟩
  | 114 => ⟨S16384x512, .f32⟩
  | 115 => ⟨S16384x512, .f32⟩
  | 116 => ⟨S16384x512, .f32⟩
  | 117 => ⟨S_, .f32⟩
  | 118 => ⟨S512, .f32⟩
  | 119 => ⟨S1x512, .f32⟩
  | 120 => ⟨S_, .f32⟩
  | 121 => ⟨S16414x512, .f32⟩
  | 122 => ⟨S16414x512, .f32⟩
  | 123 => ⟨S_, .f32⟩
  | 124 => ⟨S512, .f32⟩
  | 125 => ⟨S1x512, .f32⟩
  | 126 => ⟨S_, .f32⟩
  | 127 => ⟨S31x512, .f32⟩
  | _ => ⟨S16384x2560, .f32⟩

abbrev hbmTy0_6 (i : Nat) : BufTy := match i % 128 with
  | 0 => ⟨S31x512, .f32⟩
  | 1 => ⟨S16384x512, .f32⟩
  | 2 => ⟨S16384x512, .f32⟩
  | 3 => ⟨S16384x512, .f32⟩
  | 4 => ⟨S_, .f32⟩
  | 5 => ⟨S512, .f32⟩
  | 6 => ⟨S1x512, .f32⟩
  | 7 => ⟨S_, .f32⟩
  | 8 => ⟨S16414x512, .f32⟩
  | 9 => ⟨S16414x512, .f32⟩
  | 10 => ⟨S_, .f32⟩
  | 11 => ⟨S512, .f32⟩
  | 12 => ⟨S1x512, .f32⟩
  | 13 => ⟨S_, .f32⟩
  | 14 => ⟨S31x512, .f32⟩
  | 15 => ⟨S31x512, .f32⟩
  | 16 => ⟨S16384x512, .f32⟩
  | 17 => ⟨S16384x512, .f32⟩
  | 18 => ⟨S16384x512, .f32⟩
  | 19 => ⟨S_, .f32⟩
  | 20 => ⟨S512, .f32⟩
  | 21 => ⟨S1x512, .f32⟩
  | 22 => ⟨S_, .f32⟩
  | 23 => ⟨S16414x512, .f32⟩
  | 24 => ⟨S16414x512, .f32⟩
  | 25 => ⟨S_, .f32⟩
  | 26 => ⟨S512, .f32⟩
  | 27 => ⟨S1x512, .f32⟩
  | 28 => ⟨S_, .f32⟩
  | 29 => ⟨S31x512, .f32⟩
  | 30 => ⟨S31x512, .f32⟩
  | 31 => ⟨S16384x512, .f32⟩
  | 32 => ⟨S16384x512, .f32⟩
  | 33 => ⟨S16384x512, .f32⟩
  | 34 => ⟨S_, .f32⟩
  | 35 => ⟨S512, .f32⟩
  | 36 => ⟨S1x512, .f32⟩
  | 37 => ⟨S_, .f32⟩
  | 38 => ⟨S16414x512, .f32⟩
  | 39 => ⟨S16414x512, .f32⟩
  | 40 => ⟨S_, .f32⟩
  | 41 => ⟨S512, .f32⟩
  | 42 => ⟨S1x512, .f32⟩
  | 43 => ⟨S_, .f32⟩
  | 44 => ⟨S31x512, .f32⟩
  | 45 => ⟨S31x512, .f32⟩
  | 46 => ⟨S16384x512, .f32⟩
  | 47 => ⟨S16384x512, .f32⟩
  | 48 => ⟨S16384x512, .f32⟩
  | 49 => ⟨S_, .f32⟩
  | 50 => ⟨S512, .f32⟩
  | 51 => ⟨S1x512, .f32⟩
  | 52 => ⟨S_, .f32⟩
  | 53 => ⟨S16414x512, .f32⟩
  | 54 => ⟨S16414x512, .f32⟩
  | 55 => ⟨S_, .f32⟩
  | 56 => ⟨S512, .f32⟩
  | 57 => ⟨S1x512, .f32⟩
  | 58 => ⟨S_, .f32⟩
  | 59 => ⟨S31x512, .f32⟩
  | 60 => ⟨S31x512, .f32⟩
  | 61 => ⟨S16384x512, .f32⟩
  | 62 => ⟨S16384x512, .f32⟩
  | 63 => ⟨S16384x512, .f32⟩
  | 64 => ⟨S_, .f32⟩
  | 65 => ⟨S512, .f32⟩
  | 66 => ⟨S1x512, .f32⟩
  | 67 => ⟨S_, .f32⟩
  | 68 => ⟨S16414x512, .f32⟩
  | 69 => ⟨S16414x512, .f32⟩
  | 70 => ⟨S_, .f32⟩
  | 71 => ⟨S512, .f32⟩
  | 72 => ⟨S1x512, .f32⟩
  | 73 => ⟨S_, .f32⟩
  | 74 => ⟨S31x512, .f32⟩
  | 75 => ⟨S31x512, .f32⟩
  | 76 => ⟨S30x512, .f32⟩
  | 77 => ⟨S16384x512, .f32⟩
  | 78 => ⟨S16384x512, .f32⟩
  | 79 => ⟨S16384x512, .f32⟩
  | 80 => ⟨S16384x512, .f32⟩
  | 81 => ⟨S16384x512, .f32⟩
  | 82 => ⟨S16384x512, .f32⟩
  | 83 => ⟨S16384x512, .f32⟩
  | 84 => ⟨S16384x512, .f32⟩
  | 85 => ⟨S16384x512, .f32⟩
  | 86 => ⟨S_, .f32⟩
  | 87 => ⟨S512, .f32⟩
  | 88 => ⟨S1x512, .f32⟩
  | 89 => ⟨S_, .f32⟩
  | 90 => ⟨S16386x512, .f32⟩
  | 91 => ⟨S_, .f32⟩
  | 92 => ⟨S512, .f32⟩
  | 93 => ⟨S1x512, .f32⟩
  | 94 => ⟨S_, .f32⟩
  | 95 => ⟨S3x512, .f32⟩
  | 96 => ⟨S16384x512, .f32⟩
  | 97 => ⟨S16384x512, .f32⟩
  | 98 => ⟨S16384x512, .f32⟩
  | 99 => ⟨S_, .f32⟩
  | 100 => ⟨S512, .f32⟩
  | 101 => ⟨S1x512, .f32⟩
  | 102 => ⟨S_, .f32⟩
  | 103 => ⟨S16386x512, .f32⟩
  | 104 => ⟨S16386x512, .f32⟩
  | 105 => ⟨S_, .f32⟩
  | 106 => ⟨S512, .f32⟩
  | 107 => ⟨S1x512, .f32⟩
  | 108 => ⟨S_, .f32⟩
  | 109 => ⟨S3x512, .f32⟩
  | 110 => ⟨S3x512, .f32⟩
  | 111 => ⟨S16384x512, .f32⟩
  | 112 => ⟨S16384x512, .f32⟩
  | 113 => ⟨S16384x512, .f32⟩
  | 114 => ⟨S_, .f32⟩
  | 115 => ⟨S512, .f32⟩
  | 116 => ⟨S1x512, .f32⟩
  | 117 => ⟨S_, .f32⟩
  | 118 => ⟨S16386x512, .f32⟩
  | 119 => ⟨S16386x512, .f32⟩
  | 120 => ⟨S_, .f32⟩
  | 121 => ⟨S512, .f32⟩
  | 122 => ⟨S1x512, .f32⟩
  | 123 => ⟨S_, .f32⟩
  | 124 => ⟨S3x512, .f32⟩
  | 125 => ⟨S3x512, .f32⟩
  | 126 => ⟨S2x512, .f32⟩
  | 127 => ⟨S16384x512, .f32⟩
  | _ => ⟨S16384x2560, .f32⟩

abbrev hbmTy0_7 (i : Nat) : BufTy := match i % 128 with
  | 0 => ⟨S16384x512, .f32⟩
  | 1 => ⟨S16384x512, .f32⟩
  | 2 => ⟨S16384x2560, .f32⟩
  | 3 => ⟨S16384x2560, .bf16⟩
  | 4 => ⟨S1x512, .f32⟩
  | 5 => ⟨S1x512, .f32⟩
  | 6 => ⟨S1x512, .f32⟩
  | _ => ⟨S16384x2560, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S16384x2560, .f32⟩

abbrev bufTy : (tb : Table) → Fin (tcTables nBuf tb) → BufTy
  | .hbm, ⟨i, _⟩ => hbmTy i
  | _, _ => ⟨S16384x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_1 : Ref sig .tc := ⟨.hbm, 41, rfl⟩
abbrev main_v32 : Ref sig .tc := ⟨.hbm, 42, rfl⟩
abbrev main_v33 : Ref sig .tc := ⟨.hbm, 43, rfl⟩
abbrev main_cst_2 : Ref sig .tc := ⟨.hbm, 44, rfl⟩
abbrev main_v34 : Ref sig .tc := ⟨.hbm, 45, rfl⟩
abbrev main_v35 : Ref sig .tc := ⟨.hbm, 46, rfl⟩
abbrev main_cst_3 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_4 : Ref sig .tc := ⟨.hbm, 52, rfl⟩
abbrev main_v40 : Ref sig .tc := ⟨.hbm, 53, rfl⟩
abbrev main_v41 : Ref sig .tc := ⟨.hbm, 54, rfl⟩
abbrev main_cst_5 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_v134 : Ref sig .tc := ⟨.hbm, 148, rfl⟩
abbrev main_v135 : Ref sig .tc := ⟨.hbm, 149, rfl⟩
abbrev main_v136 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_v141 : Ref sig .tc := ⟨.hbm, 155, rfl⟩
abbrev main_v142 : Ref sig .tc := ⟨.hbm, 156, rfl⟩
abbrev main_v143 : Ref sig .tc := ⟨.hbm, 157, rfl⟩
abbrev main_v144 : Ref sig .tc := ⟨.hbm, 158, rfl⟩
abbrev main_v145 : Ref sig .tc := ⟨.hbm, 159, rfl⟩
abbrev main_v146 : Ref sig .tc := ⟨.hbm, 160, rfl⟩
abbrev main_v147 : Ref sig .tc := ⟨.hbm, 161, rfl⟩
abbrev main_v148 : Ref sig .tc := ⟨.hbm, 162, rfl⟩
abbrev main_v149 : Ref sig .tc := ⟨.hbm, 163, rfl⟩
abbrev main_v150 : Ref sig .tc := ⟨.hbm, 164, rfl⟩
abbrev main_v151 : Ref sig .tc := ⟨.hbm, 165, rfl⟩
abbrev main_v152 : Ref sig .tc := ⟨.hbm, 166, rfl⟩
abbrev main_v153 : Ref sig .tc := ⟨.hbm, 167, rfl⟩
abbrev main_v154 : Ref sig .tc := ⟨.hbm, 168, rfl⟩
abbrev main_v155 : Ref sig .tc := ⟨.hbm, 169, rfl⟩
abbrev main_v156 : Ref sig .tc := ⟨.hbm, 170, rfl⟩
abbrev main_v157 : Ref sig .tc := ⟨.hbm, 171, rfl⟩
abbrev main_v158 : Ref sig .tc := ⟨.hbm, 172, rfl⟩
abbrev main_v159 : Ref sig .tc := ⟨.hbm, 173, rfl⟩
abbrev main_v160 : Ref sig .tc := ⟨.hbm, 174, rfl⟩
abbrev main_v161 : Ref sig .tc := ⟨.hbm, 175, rfl⟩
abbrev main_v162 : Ref sig .tc := ⟨.hbm, 176, rfl⟩
abbrev main_v163 : Ref sig .tc := ⟨.hbm, 177, rfl⟩
abbrev main_v164 : Ref sig .tc := ⟨.hbm, 178, rfl⟩
abbrev main_v165 : Ref sig .tc := ⟨.hbm, 179, rfl⟩
abbrev main_v166 : Ref sig .tc := ⟨.hbm, 180, rfl⟩
abbrev main_v167 : Ref sig .tc := ⟨.hbm, 181, rfl⟩
abbrev main_v168 : Ref sig .tc := ⟨.hbm, 182, rfl⟩
abbrev main_v169 : Ref sig .tc := ⟨.hbm, 183, rfl⟩
abbrev main_v170 : Ref sig .tc := ⟨.hbm, 184, rfl⟩
abbrev main_v171 : Ref sig .tc := ⟨.hbm, 185, rfl⟩
abbrev main_v172 : Ref sig .tc := ⟨.hbm, 186, rfl⟩
abbrev main_v173 : Ref sig .tc := ⟨.hbm, 187, rfl⟩
abbrev main_v174 : Ref sig .tc := ⟨.hbm, 188, rfl⟩
abbrev main_v175 : Ref sig .tc := ⟨.hbm, 189, rfl⟩
abbrev main_v176 : Ref sig .tc := ⟨.hbm, 190, rfl⟩
abbrev main_v177 : Ref sig .tc := ⟨.hbm, 191, rfl⟩
abbrev main_v178 : Ref sig .tc := ⟨.hbm, 192, rfl⟩
abbrev main_v179 : Ref sig .tc := ⟨.hbm, 193, rfl⟩
abbrev main_v180 : Ref sig .tc := ⟨.hbm, 194, rfl⟩
abbrev main_v181 : Ref sig .tc := ⟨.hbm, 195, rfl⟩
abbrev main_v182 : Ref sig .tc := ⟨.hbm, 196, rfl⟩
abbrev main_v183 : Ref sig .tc := ⟨.hbm, 197, rfl⟩
abbrev main_v184 : Ref sig .tc := ⟨.hbm, 198, rfl⟩
abbrev main_v185 : Ref sig .tc := ⟨.hbm, 199, rfl⟩
abbrev main_v186 : Ref sig .tc := ⟨.hbm, 200, rfl⟩
abbrev main_v187 : Ref sig .tc := ⟨.hbm, 201, rfl⟩
abbrev main_v188 : Ref sig .tc := ⟨.hbm, 202, rfl⟩
abbrev main_v189 : Ref sig .tc := ⟨.hbm, 203, rfl⟩
abbrev main_v190 : Ref sig .tc := ⟨.hbm, 204, rfl⟩
abbrev main_v191 : Ref sig .tc := ⟨.hbm, 205, rfl⟩
abbrev main_v192 : Ref sig .tc := ⟨.hbm, 206, rfl⟩
abbrev main_v193 : Ref sig .tc := ⟨.hbm, 207, rfl⟩
abbrev main_v194 : Ref sig .tc := ⟨.hbm, 208, rfl⟩
abbrev main_v195 : Ref sig .tc := ⟨.hbm, 209, rfl⟩
abbrev main_v196 : Ref sig .tc := ⟨.hbm, 210, rfl⟩
abbrev main_v197 : Ref sig .tc := ⟨.hbm, 211, rfl⟩
abbrev main_v198 : Ref sig .tc := ⟨.hbm, 212, rfl⟩
abbrev main_v199 : Ref sig .tc := ⟨.hbm, 213, rfl⟩
abbrev main_v200 : Ref sig .tc := ⟨.hbm, 214, rfl⟩
abbrev main_v201 : Ref sig .tc := ⟨.hbm, 215, rfl⟩
abbrev main_v202 : Ref sig .tc := ⟨.hbm, 216, rfl⟩
abbrev main_v203 : Ref sig .tc := ⟨.hbm, 217, rfl⟩
abbrev main_v204 : Ref sig .tc := ⟨.hbm, 218, rfl⟩
abbrev main_v205 : Ref sig .tc := ⟨.hbm, 219, rfl⟩
abbrev main_v206 : Ref sig .tc := ⟨.hbm, 220, rfl⟩
abbrev main_v207 : Ref sig .tc := ⟨.hbm, 221, rfl⟩
abbrev main_v208 : Ref sig .tc := ⟨.hbm, 222, rfl⟩
abbrev main_v209 : Ref sig .tc := ⟨.hbm, 223, rfl⟩
abbrev main_v210 : Ref sig .tc := ⟨.hbm, 224, rfl⟩
abbrev main_v211 : Ref sig .tc := ⟨.hbm, 225, rfl⟩
abbrev main_v212 : Ref sig .tc := ⟨.hbm, 226, rfl⟩
abbrev main_v213 : Ref sig .tc := ⟨.hbm, 227, rfl⟩
abbrev main_v214 : Ref sig .tc := ⟨.hbm, 228, rfl⟩
abbrev main_v215 : Ref sig .tc := ⟨.hbm, 229, rfl⟩
abbrev main_v216 : Ref sig .tc := ⟨.hbm, 230, rfl⟩
abbrev main_v217 : Ref sig .tc := ⟨.hbm, 231, rfl⟩
abbrev main_v218 : Ref sig .tc := ⟨.hbm, 232, rfl⟩
abbrev main_v219 : Ref sig .tc := ⟨.hbm, 233, rfl⟩
abbrev main_v220 : Ref sig .tc := ⟨.hbm, 234, rfl⟩
abbrev main_v221 : Ref sig .tc := ⟨.hbm, 235, rfl⟩
abbrev main_v222 : Ref sig .tc := ⟨.hbm, 236, rfl⟩
abbrev main_v223 : Ref sig .tc := ⟨.hbm, 237, rfl⟩
abbrev main_v224 : Ref sig .tc := ⟨.hbm, 238, rfl⟩
abbrev main_v225 : Ref sig .tc := ⟨.hbm, 239, rfl⟩
abbrev main_v226 : Ref sig .tc := ⟨.hbm, 240, rfl⟩
abbrev main_v227 : Ref sig .tc := ⟨.hbm, 241, rfl⟩
abbrev main_v228 : Ref sig .tc := ⟨.hbm, 242, rfl⟩
abbrev main_v229 : Ref sig .tc := ⟨.hbm, 243, rfl⟩
abbrev main_v230 : Ref sig .tc := ⟨.hbm, 244, rfl⟩
abbrev main_v231 : Ref sig .tc := ⟨.hbm, 245, rfl⟩
abbrev main_v232 : Ref sig .tc := ⟨.hbm, 246, rfl⟩
abbrev main_v233 : Ref sig .tc := ⟨.hbm, 247, rfl⟩
abbrev main_v234 : Ref sig .tc := ⟨.hbm, 248, rfl⟩
abbrev main_v235 : Ref sig .tc := ⟨.hbm, 249, rfl⟩
abbrev main_v236 : Ref sig .tc := ⟨.hbm, 250, rfl⟩
abbrev main_v237 : Ref sig .tc := ⟨.hbm, 251, rfl⟩
abbrev main_v238 : Ref sig .tc := ⟨.hbm, 252, rfl⟩
abbrev main_v239 : Ref sig .tc := ⟨.hbm, 253, rfl⟩
abbrev main_v240 : Ref sig .tc := ⟨.hbm, 254, rfl⟩
abbrev main_v241 : Ref sig .tc := ⟨.hbm, 255, rfl⟩
abbrev main_v242 : Ref sig .tc := ⟨.hbm, 256, rfl⟩
abbrev main_v243 : Ref sig .tc := ⟨.hbm, 257, rfl⟩
abbrev main_v244 : Ref sig .tc := ⟨.hbm, 258, rfl⟩
abbrev main_v245 : Ref sig .tc := ⟨.hbm, 259, rfl⟩
abbrev main_v246 : Ref sig .tc := ⟨.hbm, 260, rfl⟩
abbrev main_v247 : Ref sig .tc := ⟨.hbm, 261, rfl⟩
abbrev main_v248 : Ref sig .tc := ⟨.hbm, 262, rfl⟩
abbrev main_v249 : Ref sig .tc := ⟨.hbm, 263, rfl⟩
abbrev main_v250 : Ref sig .tc := ⟨.hbm, 264, rfl⟩
abbrev main_v251 : Ref sig .tc := ⟨.hbm, 265, rfl⟩
abbrev main_v252 : Ref sig .tc := ⟨.hbm, 266, rfl⟩
abbrev main_v253 : Ref sig .tc := ⟨.hbm, 267, rfl⟩
abbrev main_v254 : Ref sig .tc := ⟨.hbm, 268, rfl⟩
abbrev main_v255 : Ref sig .tc := ⟨.hbm, 269, rfl⟩
abbrev main_v256 : Ref sig .tc := ⟨.hbm, 270, rfl⟩
abbrev main_v257 : Ref sig .tc := ⟨.hbm, 271, rfl⟩
abbrev main_v258 : Ref sig .tc := ⟨.hbm, 272, rfl⟩
abbrev main_v259 : Ref sig .tc := ⟨.hbm, 273, rfl⟩
abbrev main_v260 : Ref sig .tc := ⟨.hbm, 274, rfl⟩
abbrev main_v261 : Ref sig .tc := ⟨.hbm, 275, rfl⟩
abbrev main_cst_6 : Ref sig .tc := ⟨.hbm, 276, rfl⟩
abbrev main_v262 : Ref sig .tc := ⟨.hbm, 277, rfl⟩
abbrev main_v263 : Ref sig .tc := ⟨.hbm, 278, rfl⟩
abbrev main_cst_7 : Ref sig .tc := ⟨.hbm, 279, rfl⟩
abbrev main_v264 : Ref sig .tc := ⟨.hbm, 280, rfl⟩
abbrev main_v265 : Ref sig .tc := ⟨.hbm, 281, rfl⟩
abbrev main_v266 : Ref sig .tc := ⟨.hbm, 282, rfl⟩
abbrev main_v267 : Ref sig .tc := ⟨.hbm, 283, rfl⟩
abbrev main_v268 : Ref sig .tc := ⟨.hbm, 284, rfl⟩
abbrev main_cst_8 : Ref sig .tc := ⟨.hbm, 285, rfl⟩
abbrev main_v269 : Ref sig .tc := ⟨.hbm, 286, rfl⟩
abbrev main_v270 : Ref sig .tc := ⟨.hbm, 287, rfl⟩
abbrev main_cst_9 : Ref sig .tc := ⟨.hbm, 288, rfl⟩
abbrev main_v271 : Ref sig .tc := ⟨.hbm, 289, rfl⟩
abbrev main_v272 : Ref sig .tc := ⟨.hbm, 290, rfl⟩
abbrev main_cst_10 : Ref sig .tc := ⟨.hbm, 291, rfl⟩
abbrev main_v273 : Ref sig .tc := ⟨.hbm, 292, rfl⟩
abbrev main_v274 : Ref sig .tc := ⟨.hbm, 293, rfl⟩
abbrev main_v275 : Ref sig .tc := ⟨.hbm, 294, rfl⟩
abbrev main_v276 : Ref sig .tc := ⟨.hbm, 295, rfl⟩
abbrev main_cst_11 : Ref sig .tc := ⟨.hbm, 296, rfl⟩
abbrev main_v277 : Ref sig .tc := ⟨.hbm, 297, rfl⟩
abbrev main_v278 : Ref sig .tc := ⟨.hbm, 298, rfl⟩
abbrev main_v279 : Ref sig .tc := ⟨.hbm, 299, rfl⟩
abbrev main_v280 : Ref sig .tc := ⟨.hbm, 300, rfl⟩
abbrev main_cst_12 : Ref sig .tc := ⟨.hbm, 301, rfl⟩
abbrev main_v281 : Ref sig .tc := ⟨.hbm, 302, rfl⟩
abbrev main_v282 : Ref sig .tc := ⟨.hbm, 303, rfl⟩
abbrev main_v283 : Ref sig .tc := ⟨.hbm, 304, rfl⟩
abbrev main_v284 : Ref sig .tc := ⟨.hbm, 305, rfl⟩
abbrev main_v285 : Ref sig .tc := ⟨.hbm, 306, rfl⟩
abbrev main_v286 : Ref sig .tc := ⟨.hbm, 307, rfl⟩
abbrev main_v287 : Ref sig .tc := ⟨.hbm, 308, rfl⟩
abbrev main_v288 : Ref sig .tc := ⟨.hbm, 309, rfl⟩
abbrev main_v289 : Ref sig .tc := ⟨.hbm, 310, rfl⟩
abbrev main_v290 : Ref sig .tc := ⟨.hbm, 311, rfl⟩
abbrev main_call0_v0 : Ref sig .tc := ⟨.hbm, 312, rfl⟩
abbrev main_call0_v1 : Ref sig .tc := ⟨.hbm, 313, rfl⟩
abbrev main_call0_cst : Ref sig .tc := ⟨.hbm, 314, rfl⟩
abbrev main_call0_v2 : Ref sig .tc := ⟨.hbm, 315, rfl⟩
abbrev main_call0_v3 : Ref sig .tc := ⟨.hbm, 316, rfl⟩
abbrev main_call0_cst_0 : Ref sig .tc := ⟨.hbm, 317, rfl⟩
abbrev main_call0_v4 : Ref sig .tc := ⟨.hbm, 318, rfl⟩
abbrev main_v291_2 : Ref sig .tc := ⟨.hbm, 319, rfl⟩
abbrev main_call0_cst_1 : Ref sig .tc := ⟨.hbm, 320, rfl⟩
abbrev main_call0_v6 : Ref sig .tc := ⟨.hbm, 321, rfl⟩
abbrev main_call0_v7 : Ref sig .tc := ⟨.hbm, 322, rfl⟩
abbrev main_v291_1 : Ref sig .tc := ⟨.hbm, 323, rfl⟩
abbrev main_v291_0 : Ref sig .tc := ⟨.hbm, 324, rfl⟩
abbrev main_v292 : Ref sig .tc := ⟨.hbm, 325, rfl⟩
abbrev main_v293 : Ref sig .tc := ⟨.hbm, 326, rfl⟩
abbrev main_v294 : Ref sig .tc := ⟨.hbm, 327, rfl⟩
abbrev main_call1_v0 : Ref sig .tc := ⟨.hbm, 328, rfl⟩
abbrev main_call1_v1 : Ref sig .tc := ⟨.hbm, 329, rfl⟩
abbrev main_call1_v2 : Ref sig .tc := ⟨.hbm, 330, rfl⟩
abbrev main_v295 : Ref sig .tc := ⟨.hbm, 331, rfl⟩
abbrev main_cst_13 : Ref sig .tc := ⟨.hbm, 332, rfl⟩
abbrev main_v296 : Ref sig .tc := ⟨.hbm, 333, rfl⟩
abbrev main_v297 : Ref sig .tc := ⟨.hbm, 334, rfl⟩
abbrev main_cst_14 : Ref sig .tc := ⟨.hbm, 335, rfl⟩
abbrev main_v298 : Ref sig .tc := ⟨.hbm, 336, rfl⟩
abbrev main_v299 : Ref sig .tc := ⟨.hbm, 337, rfl⟩
abbrev main_cst_15 : Ref sig .tc := ⟨.hbm, 338, rfl⟩
abbrev main_v300 : Ref sig .tc := ⟨.hbm, 339, rfl⟩
abbrev main_v301 : Ref sig .tc := ⟨.hbm, 340, rfl⟩
abbrev main_v302 : Ref sig .tc := ⟨.hbm, 341, rfl⟩
abbrev main_v303 : Ref sig .tc := ⟨.hbm, 342, rfl⟩
abbrev main_cst_16 : Ref sig .tc := ⟨.hbm, 343, rfl⟩
abbrev main_v304 : Ref sig .tc := ⟨.hbm, 344, rfl⟩
abbrev main_v305 : Ref sig .tc := ⟨.hbm, 345, rfl⟩
abbrev main_cst_17 : Ref sig .tc := ⟨.hbm, 346, rfl⟩
abbrev main_v306 : Ref sig .tc := ⟨.hbm, 347, rfl⟩
abbrev main_v307 : Ref sig .tc := ⟨.hbm, 348, rfl⟩
abbrev main_v308 : Ref sig .tc := ⟨.hbm, 349, rfl⟩
abbrev main_v309 : Ref sig .tc := ⟨.hbm, 350, rfl⟩
abbrev main_v310 : Ref sig .tc := ⟨.hbm, 351, rfl⟩
abbrev main_v311 : Ref sig .tc := ⟨.hbm, 352, rfl⟩
abbrev main_cst_18 : Ref sig .tc := ⟨.hbm, 353, rfl⟩
abbrev main_v312 : Ref sig .tc := ⟨.hbm, 354, rfl⟩
abbrev main_v313 : Ref sig .tc := ⟨.hbm, 355, rfl⟩
abbrev main_cst_19 : Ref sig .tc := ⟨.hbm, 356, rfl⟩
abbrev main_v314 : Ref sig .tc := ⟨.hbm, 357, rfl⟩
abbrev main_v315 : Ref sig .tc := ⟨.hbm, 358, rfl⟩
abbrev main_cst_20 : Ref sig .tc := ⟨.hbm, 359, rfl⟩
abbrev main_v316 : Ref sig .tc := ⟨.hbm, 360, rfl⟩
abbrev main_v317 : Ref sig .tc := ⟨.hbm, 361, rfl⟩
abbrev main_v318 : Ref sig .tc := ⟨.hbm, 362, rfl⟩
abbrev main_v319 : Ref sig .tc := ⟨.hbm, 363, rfl⟩
abbrev main_cst_21 : Ref sig .tc := ⟨.hbm, 364, rfl⟩
abbrev main_v320 : Ref sig .tc := ⟨.hbm, 365, rfl⟩
abbrev main_v321 : Ref sig .tc := ⟨.hbm, 366, rfl⟩
abbrev main_v322 : Ref sig .tc := ⟨.hbm, 367, rfl⟩
abbrev main_v323 : Ref sig .tc := ⟨.hbm, 368, rfl⟩
abbrev main_cst_22 : Ref sig .tc := ⟨.hbm, 369, rfl⟩
abbrev main_v324 : Ref sig .tc := ⟨.hbm, 370, rfl⟩
abbrev main_v325 : Ref sig .tc := ⟨.hbm, 371, rfl⟩
abbrev main_cst_23 : Ref sig .tc := ⟨.hbm, 372, rfl⟩
abbrev main_v326 : Ref sig .tc := ⟨.hbm, 373, rfl⟩
abbrev main_v327 : Ref sig .tc := ⟨.hbm, 374, rfl⟩
abbrev main_v328 : Ref sig .tc := ⟨.hbm, 375, rfl⟩
abbrev main_cst_24 : Ref sig .tc := ⟨.hbm, 376, rfl⟩
abbrev main_v329 : Ref sig .tc := ⟨.hbm, 377, rfl⟩
abbrev main_v330 : Ref sig .tc := ⟨.hbm, 378, rfl⟩
abbrev main_cst_25 : Ref sig .tc := ⟨.hbm, 379, rfl⟩
abbrev main_v331 : Ref sig .tc := ⟨.hbm, 380, rfl⟩
abbrev main_v332 : Ref sig .tc := ⟨.hbm, 381, rfl⟩
abbrev main_v333 : Ref sig .tc := ⟨.hbm, 382, rfl⟩
abbrev main_v334 : Ref sig .tc := ⟨.hbm, 383, rfl⟩
abbrev main_cst_26 : Ref sig .tc := ⟨.hbm, 384, rfl⟩
abbrev main_v335 : Ref sig .tc := ⟨.hbm, 385, rfl⟩
abbrev main_v336 : Ref sig .tc := ⟨.hbm, 386, rfl⟩
abbrev main_cst_27 : Ref sig .tc := ⟨.hbm, 387, rfl⟩
abbrev main_v337 : Ref sig .tc := ⟨.hbm, 388, rfl⟩
abbrev main_cst_28 : Ref sig .tc := ⟨.hbm, 389, rfl⟩
abbrev main_v338 : Ref sig .tc := ⟨.hbm, 390, rfl⟩
abbrev main_v339 : Ref sig .tc := ⟨.hbm, 391, rfl⟩
abbrev main_cst_29 : Ref sig .tc := ⟨.hbm, 392, rfl⟩
abbrev main_v340 : Ref sig .tc := ⟨.hbm, 393, rfl⟩
abbrev main_v341 : Ref sig .tc := ⟨.hbm, 394, rfl⟩
abbrev main_v342 : Ref sig .tc := ⟨.hbm, 395, rfl⟩
abbrev main_v343 : Ref sig .tc := ⟨.hbm, 396, rfl⟩
abbrev main_cst_30 : Ref sig .tc := ⟨.hbm, 397, rfl⟩
abbrev main_v344 : Ref sig .tc := ⟨.hbm, 398, rfl⟩
abbrev main_v345 : Ref sig .tc := ⟨.hbm, 399, rfl⟩
abbrev main_cst_31 : Ref sig .tc := ⟨.hbm, 400, rfl⟩
abbrev main_v346 : Ref sig .tc := ⟨.hbm, 401, rfl⟩
abbrev main_v347 : Ref sig .tc := ⟨.hbm, 402, rfl⟩
abbrev main_cst_32 : Ref sig .tc := ⟨.hbm, 403, rfl⟩
abbrev main_v348 : Ref sig .tc := ⟨.hbm, 404, rfl⟩
abbrev main_v349 : Ref sig .tc := ⟨.hbm, 405, rfl⟩
abbrev main_cst_33 : Ref sig .tc := ⟨.hbm, 406, rfl⟩
abbrev main_v350 : Ref sig .tc := ⟨.hbm, 407, rfl⟩
abbrev main_v351 : Ref sig .tc := ⟨.hbm, 408, rfl⟩
abbrev main_v352 : Ref sig .tc := ⟨.hbm, 409, rfl⟩
abbrev main_v353 : Ref sig .tc := ⟨.hbm, 410, rfl⟩
abbrev main_v354 : Ref sig .tc := ⟨.hbm, 411, rfl⟩
abbrev main_cst_34 : Ref sig .tc := ⟨.hbm, 412, rfl⟩
abbrev main_v355 : Ref sig .tc := ⟨.hbm, 413, rfl⟩
abbrev main_v356 : Ref sig .tc := ⟨.hbm, 414, rfl⟩
abbrev main_cst_35 : Ref sig .tc := ⟨.hbm, 415, rfl⟩
abbrev main_v357 : Ref sig .tc := ⟨.hbm, 416, rfl⟩
abbrev main_v358 : Ref sig .tc := ⟨.hbm, 417, rfl⟩
abbrev main_cst_36 : Ref sig .tc := ⟨.hbm, 418, rfl⟩
abbrev main_v359 : Ref sig .tc := ⟨.hbm, 419, rfl⟩
abbrev main_v360 : Ref sig .tc := ⟨.hbm, 420, rfl⟩
abbrev main_cst_37 : Ref sig .tc := ⟨.hbm, 421, rfl⟩
abbrev main_v361 : Ref sig .tc := ⟨.hbm, 422, rfl⟩
abbrev main_v362 : Ref sig .tc := ⟨.hbm, 423, rfl⟩
abbrev main_v363 : Ref sig .tc := ⟨.hbm, 424, rfl⟩
abbrev main_v364 : Ref sig .tc := ⟨.hbm, 425, rfl⟩
abbrev main_v365 : Ref sig .tc := ⟨.hbm, 426, rfl⟩
abbrev main_cst_38 : Ref sig .tc := ⟨.hbm, 427, rfl⟩
abbrev main_v366 : Ref sig .tc := ⟨.hbm, 428, rfl⟩
abbrev main_v367 : Ref sig .tc := ⟨.hbm, 429, rfl⟩
abbrev main_cst_39 : Ref sig .tc := ⟨.hbm, 430, rfl⟩
abbrev main_v368 : Ref sig .tc := ⟨.hbm, 431, rfl⟩
abbrev main_v369 : Ref sig .tc := ⟨.hbm, 432, rfl⟩
abbrev main_cst_40 : Ref sig .tc := ⟨.hbm, 433, rfl⟩
abbrev main_v370 : Ref sig .tc := ⟨.hbm, 434, rfl⟩
abbrev main_v371 : Ref sig .tc := ⟨.hbm, 435, rfl⟩
abbrev main_cst_41 : Ref sig .tc := ⟨.hbm, 436, rfl⟩
abbrev main_v372 : Ref sig .tc := ⟨.hbm, 437, rfl⟩
abbrev main_v373 : Ref sig .tc := ⟨.hbm, 438, rfl⟩
abbrev main_v374 : Ref sig .tc := ⟨.hbm, 439, rfl⟩
abbrev main_v375 : Ref sig .tc := ⟨.hbm, 440, rfl⟩
abbrev main_v376 : Ref sig .tc := ⟨.hbm, 441, rfl⟩
abbrev main_cst_42 : Ref sig .tc := ⟨.hbm, 442, rfl⟩
abbrev main_v377 : Ref sig .tc := ⟨.hbm, 443, rfl⟩
abbrev main_v378 : Ref sig .tc := ⟨.hbm, 444, rfl⟩
abbrev main_cst_43 : Ref sig .tc := ⟨.hbm, 445, rfl⟩
abbrev main_v379 : Ref sig .tc := ⟨.hbm, 446, rfl⟩
abbrev main_v380 : Ref sig .tc := ⟨.hbm, 447, rfl⟩
abbrev main_cst_44 : Ref sig .tc := ⟨.hbm, 448, rfl⟩
abbrev main_v381 : Ref sig .tc := ⟨.hbm, 449, rfl⟩
abbrev main_v382 : Ref sig .tc := ⟨.hbm, 450, rfl⟩
abbrev main_cst_45 : Ref sig .tc := ⟨.hbm, 451, rfl⟩
abbrev main_v383 : Ref sig .tc := ⟨.hbm, 452, rfl⟩
abbrev main_v384 : Ref sig .tc := ⟨.hbm, 453, rfl⟩
abbrev main_v385 : Ref sig .tc := ⟨.hbm, 454, rfl⟩
abbrev main_v386 : Ref sig .tc := ⟨.hbm, 455, rfl⟩
abbrev main_v387 : Ref sig .tc := ⟨.hbm, 456, rfl⟩
abbrev main_cst_46 : Ref sig .tc := ⟨.hbm, 457, rfl⟩
abbrev main_v388 : Ref sig .tc := ⟨.hbm, 458, rfl⟩
abbrev main_v389 : Ref sig .tc := ⟨.hbm, 459, rfl⟩
abbrev main_cst_47 : Ref sig .tc := ⟨.hbm, 460, rfl⟩
abbrev main_v390 : Ref sig .tc := ⟨.hbm, 461, rfl⟩
abbrev main_v391 : Ref sig .tc := ⟨.hbm, 462, rfl⟩
abbrev main_cst_48 : Ref sig .tc := ⟨.hbm, 463, rfl⟩
abbrev main_v392 : Ref sig .tc := ⟨.hbm, 464, rfl⟩
abbrev main_v393 : Ref sig .tc := ⟨.hbm, 465, rfl⟩
abbrev main_cst_49 : Ref sig .tc := ⟨.hbm, 466, rfl⟩
abbrev main_v394 : Ref sig .tc := ⟨.hbm, 467, rfl⟩
abbrev main_v395 : Ref sig .tc := ⟨.hbm, 468, rfl⟩
abbrev main_v396 : Ref sig .tc := ⟨.hbm, 469, rfl⟩
abbrev main_v397 : Ref sig .tc := ⟨.hbm, 470, rfl⟩
abbrev main_v398 : Ref sig .tc := ⟨.hbm, 471, rfl⟩
abbrev main_cst_50 : Ref sig .tc := ⟨.hbm, 472, rfl⟩
abbrev main_v399 : Ref sig .tc := ⟨.hbm, 473, rfl⟩
abbrev main_v400 : Ref sig .tc := ⟨.hbm, 474, rfl⟩
abbrev main_cst_51 : Ref sig .tc := ⟨.hbm, 475, rfl⟩
abbrev main_v401 : Ref sig .tc := ⟨.hbm, 476, rfl⟩
abbrev main_v402 : Ref sig .tc := ⟨.hbm, 477, rfl⟩
abbrev main_cst_52 : Ref sig .tc := ⟨.hbm, 478, rfl⟩
abbrev main_v403 : Ref sig .tc := ⟨.hbm, 479, rfl⟩
abbrev main_v404 : Ref sig .tc := ⟨.hbm, 480, rfl⟩
abbrev main_cst_53 : Ref sig .tc := ⟨.hbm, 481, rfl⟩
abbrev main_v405 : Ref sig .tc := ⟨.hbm, 482, rfl⟩
abbrev main_v406 : Ref sig .tc := ⟨.hbm, 483, rfl⟩
abbrev main_v407 : Ref sig .tc := ⟨.hbm, 484, rfl⟩
abbrev main_v408 : Ref sig .tc := ⟨.hbm, 485, rfl⟩
abbrev main_v409 : Ref sig .tc := ⟨.hbm, 486, rfl⟩
abbrev main_cst_54 : Ref sig .tc := ⟨.hbm, 487, rfl⟩
abbrev main_v410 : Ref sig .tc := ⟨.hbm, 488, rfl⟩
abbrev main_v411 : Ref sig .tc := ⟨.hbm, 489, rfl⟩
abbrev main_cst_55 : Ref sig .tc := ⟨.hbm, 490, rfl⟩
abbrev main_v412 : Ref sig .tc := ⟨.hbm, 491, rfl⟩
abbrev main_v413 : Ref sig .tc := ⟨.hbm, 492, rfl⟩
abbrev main_cst_56 : Ref sig .tc := ⟨.hbm, 493, rfl⟩
abbrev main_v414 : Ref sig .tc := ⟨.hbm, 494, rfl⟩
abbrev main_v415 : Ref sig .tc := ⟨.hbm, 495, rfl⟩
abbrev main_cst_57 : Ref sig .tc := ⟨.hbm, 496, rfl⟩
abbrev main_v416 : Ref sig .tc := ⟨.hbm, 497, rfl⟩
abbrev main_v417 : Ref sig .tc := ⟨.hbm, 498, rfl⟩
abbrev main_v418 : Ref sig .tc := ⟨.hbm, 499, rfl⟩
abbrev main_v419 : Ref sig .tc := ⟨.hbm, 500, rfl⟩
abbrev main_v420 : Ref sig .tc := ⟨.hbm, 501, rfl⟩
abbrev main_cst_58 : Ref sig .tc := ⟨.hbm, 502, rfl⟩
abbrev main_v421 : Ref sig .tc := ⟨.hbm, 503, rfl⟩
abbrev main_v422 : Ref sig .tc := ⟨.hbm, 504, rfl⟩
abbrev main_cst_59 : Ref sig .tc := ⟨.hbm, 505, rfl⟩
abbrev main_v423 : Ref sig .tc := ⟨.hbm, 506, rfl⟩
abbrev main_v424 : Ref sig .tc := ⟨.hbm, 507, rfl⟩
abbrev main_cst_60 : Ref sig .tc := ⟨.hbm, 508, rfl⟩
abbrev main_v425 : Ref sig .tc := ⟨.hbm, 509, rfl⟩
abbrev main_v426 : Ref sig .tc := ⟨.hbm, 510, rfl⟩
abbrev main_cst_61 : Ref sig .tc := ⟨.hbm, 511, rfl⟩
abbrev main_v427 : Ref sig .tc := ⟨.hbm, 512, rfl⟩
abbrev main_v428 : Ref sig .tc := ⟨.hbm, 513, rfl⟩
abbrev main_v429 : Ref sig .tc := ⟨.hbm, 514, rfl⟩
abbrev main_v430 : Ref sig .tc := ⟨.hbm, 515, rfl⟩
abbrev main_v431 : Ref sig .tc := ⟨.hbm, 516, rfl⟩
abbrev main_cst_62 : Ref sig .tc := ⟨.hbm, 517, rfl⟩
abbrev main_v432 : Ref sig .tc := ⟨.hbm, 518, rfl⟩
abbrev main_v433 : Ref sig .tc := ⟨.hbm, 519, rfl⟩
abbrev main_cst_63 : Ref sig .tc := ⟨.hbm, 520, rfl⟩
abbrev main_v434 : Ref sig .tc := ⟨.hbm, 521, rfl⟩
abbrev main_v435 : Ref sig .tc := ⟨.hbm, 522, rfl⟩
abbrev main_cst_64 : Ref sig .tc := ⟨.hbm, 523, rfl⟩
abbrev main_v436 : Ref sig .tc := ⟨.hbm, 524, rfl⟩
abbrev main_v437 : Ref sig .tc := ⟨.hbm, 525, rfl⟩
abbrev main_cst_65 : Ref sig .tc := ⟨.hbm, 526, rfl⟩
abbrev main_v438 : Ref sig .tc := ⟨.hbm, 527, rfl⟩
abbrev main_v439 : Ref sig .tc := ⟨.hbm, 528, rfl⟩
abbrev main_v440 : Ref sig .tc := ⟨.hbm, 529, rfl⟩
abbrev main_v441 : Ref sig .tc := ⟨.hbm, 530, rfl⟩
abbrev main_v442 : Ref sig .tc := ⟨.hbm, 531, rfl⟩
abbrev main_cst_66 : Ref sig .tc := ⟨.hbm, 532, rfl⟩
abbrev main_v443 : Ref sig .tc := ⟨.hbm, 533, rfl⟩
abbrev main_v444 : Ref sig .tc := ⟨.hbm, 534, rfl⟩
abbrev main_cst_67 : Ref sig .tc := ⟨.hbm, 535, rfl⟩
abbrev main_v445 : Ref sig .tc := ⟨.hbm, 536, rfl⟩
abbrev main_v446 : Ref sig .tc := ⟨.hbm, 537, rfl⟩
abbrev main_cst_68 : Ref sig .tc := ⟨.hbm, 538, rfl⟩
abbrev main_v447 : Ref sig .tc := ⟨.hbm, 539, rfl⟩
abbrev main_v448 : Ref sig .tc := ⟨.hbm, 540, rfl⟩
abbrev main_cst_69 : Ref sig .tc := ⟨.hbm, 541, rfl⟩
abbrev main_v449 : Ref sig .tc := ⟨.hbm, 542, rfl⟩
abbrev main_v450 : Ref sig .tc := ⟨.hbm, 543, rfl⟩
abbrev main_v451 : Ref sig .tc := ⟨.hbm, 544, rfl⟩
abbrev main_v452 : Ref sig .tc := ⟨.hbm, 545, rfl⟩
abbrev main_v453 : Ref sig .tc := ⟨.hbm, 546, rfl⟩
abbrev main_cst_70 : Ref sig .tc := ⟨.hbm, 547, rfl⟩
abbrev main_v454 : Ref sig .tc := ⟨.hbm, 548, rfl⟩
abbrev main_v455 : Ref sig .tc := ⟨.hbm, 549, rfl⟩
abbrev main_cst_71 : Ref sig .tc := ⟨.hbm, 550, rfl⟩
abbrev main_v456 : Ref sig .tc := ⟨.hbm, 551, rfl⟩
abbrev main_v457 : Ref sig .tc := ⟨.hbm, 552, rfl⟩
abbrev main_cst_72 : Ref sig .tc := ⟨.hbm, 553, rfl⟩
abbrev main_v458 : Ref sig .tc := ⟨.hbm, 554, rfl⟩
abbrev main_v459 : Ref sig .tc := ⟨.hbm, 555, rfl⟩
abbrev main_cst_73 : Ref sig .tc := ⟨.hbm, 556, rfl⟩
abbrev main_v460 : Ref sig .tc := ⟨.hbm, 557, rfl⟩
abbrev main_v461 : Ref sig .tc := ⟨.hbm, 558, rfl⟩
abbrev main_v462 : Ref sig .tc := ⟨.hbm, 559, rfl⟩
abbrev main_v463 : Ref sig .tc := ⟨.hbm, 560, rfl⟩
abbrev main_v464 : Ref sig .tc := ⟨.hbm, 561, rfl⟩
abbrev main_cst_74 : Ref sig .tc := ⟨.hbm, 562, rfl⟩
abbrev main_v465 : Ref sig .tc := ⟨.hbm, 563, rfl⟩
abbrev main_v466 : Ref sig .tc := ⟨.hbm, 564, rfl⟩
abbrev main_cst_75 : Ref sig .tc := ⟨.hbm, 565, rfl⟩
abbrev main_v467 : Ref sig .tc := ⟨.hbm, 566, rfl⟩
abbrev main_v468 : Ref sig .tc := ⟨.hbm, 567, rfl⟩
abbrev main_cst_76 : Ref sig .tc := ⟨.hbm, 568, rfl⟩
abbrev main_v469 : Ref sig .tc := ⟨.hbm, 569, rfl⟩
abbrev main_v470 : Ref sig .tc := ⟨.hbm, 570, rfl⟩
abbrev main_cst_77 : Ref sig .tc := ⟨.hbm, 571, rfl⟩
abbrev main_v471 : Ref sig .tc := ⟨.hbm, 572, rfl⟩
abbrev main_v472 : Ref sig .tc := ⟨.hbm, 573, rfl⟩
abbrev main_v473 : Ref sig .tc := ⟨.hbm, 574, rfl⟩
abbrev main_v474 : Ref sig .tc := ⟨.hbm, 575, rfl⟩
abbrev main_v475 : Ref sig .tc := ⟨.hbm, 576, rfl⟩
abbrev main_cst_78 : Ref sig .tc := ⟨.hbm, 577, rfl⟩
abbrev main_v476 : Ref sig .tc := ⟨.hbm, 578, rfl⟩
abbrev main_v477 : Ref sig .tc := ⟨.hbm, 579, rfl⟩
abbrev main_cst_79 : Ref sig .tc := ⟨.hbm, 580, rfl⟩
abbrev main_v478 : Ref sig .tc := ⟨.hbm, 581, rfl⟩
abbrev main_v479 : Ref sig .tc := ⟨.hbm, 582, rfl⟩
abbrev main_cst_80 : Ref sig .tc := ⟨.hbm, 583, rfl⟩
abbrev main_v480 : Ref sig .tc := ⟨.hbm, 584, rfl⟩
abbrev main_v481 : Ref sig .tc := ⟨.hbm, 585, rfl⟩
abbrev main_cst_81 : Ref sig .tc := ⟨.hbm, 586, rfl⟩
abbrev main_v482 : Ref sig .tc := ⟨.hbm, 587, rfl⟩
abbrev main_v483 : Ref sig .tc := ⟨.hbm, 588, rfl⟩
abbrev main_v484 : Ref sig .tc := ⟨.hbm, 589, rfl⟩
abbrev main_v485 : Ref sig .tc := ⟨.hbm, 590, rfl⟩
abbrev main_v486 : Ref sig .tc := ⟨.hbm, 591, rfl⟩
abbrev main_cst_82 : Ref sig .tc := ⟨.hbm, 592, rfl⟩
abbrev main_v487 : Ref sig .tc := ⟨.hbm, 593, rfl⟩
abbrev main_v488 : Ref sig .tc := ⟨.hbm, 594, rfl⟩
abbrev main_cst_83 : Ref sig .tc := ⟨.hbm, 595, rfl⟩
abbrev main_v489 : Ref sig .tc := ⟨.hbm, 596, rfl⟩
abbrev main_v490 : Ref sig .tc := ⟨.hbm, 597, rfl⟩
abbrev main_cst_84 : Ref sig .tc := ⟨.hbm, 598, rfl⟩
abbrev main_v491 : Ref sig .tc := ⟨.hbm, 599, rfl⟩
abbrev main_v492 : Ref sig .tc := ⟨.hbm, 600, rfl⟩
abbrev main_cst_85 : Ref sig .tc := ⟨.hbm, 601, rfl⟩
abbrev main_v493 : Ref sig .tc := ⟨.hbm, 602, rfl⟩
abbrev main_v494 : Ref sig .tc := ⟨.hbm, 603, rfl⟩
abbrev main_v495 : Ref sig .tc := ⟨.hbm, 604, rfl⟩
abbrev main_v496 : Ref sig .tc := ⟨.hbm, 605, rfl⟩
abbrev main_v497 : Ref sig .tc := ⟨.hbm, 606, rfl⟩
abbrev main_cst_86 : Ref sig .tc := ⟨.hbm, 607, rfl⟩
abbrev main_v498 : Ref sig .tc := ⟨.hbm, 608, rfl⟩
abbrev main_v499 : Ref sig .tc := ⟨.hbm, 609, rfl⟩
abbrev main_cst_87 : Ref sig .tc := ⟨.hbm, 610, rfl⟩
abbrev main_v500 : Ref sig .tc := ⟨.hbm, 611, rfl⟩
abbrev main_v501 : Ref sig .tc := ⟨.hbm, 612, rfl⟩
abbrev main_cst_88 : Ref sig .tc := ⟨.hbm, 613, rfl⟩
abbrev main_v502 : Ref sig .tc := ⟨.hbm, 614, rfl⟩
abbrev main_v503 : Ref sig .tc := ⟨.hbm, 615, rfl⟩
abbrev main_cst_89 : Ref sig .tc := ⟨.hbm, 616, rfl⟩
abbrev main_v504 : Ref sig .tc := ⟨.hbm, 617, rfl⟩
abbrev main_v505 : Ref sig .tc := ⟨.hbm, 618, rfl⟩
abbrev main_v506 : Ref sig .tc := ⟨.hbm, 619, rfl⟩
abbrev main_v507 : Ref sig .tc := ⟨.hbm, 620, rfl⟩
abbrev main_v508 : Ref sig .tc := ⟨.hbm, 621, rfl⟩
abbrev main_cst_90 : Ref sig .tc := ⟨.hbm, 622, rfl⟩
abbrev main_v509 : Ref sig .tc := ⟨.hbm, 623, rfl⟩
abbrev main_v510 : Ref sig .tc := ⟨.hbm, 624, rfl⟩
abbrev main_cst_91 : Ref sig .tc := ⟨.hbm, 625, rfl⟩
abbrev main_v511 : Ref sig .tc := ⟨.hbm, 626, rfl⟩
abbrev main_v512 : Ref sig .tc := ⟨.hbm, 627, rfl⟩
abbrev main_cst_92 : Ref sig .tc := ⟨.hbm, 628, rfl⟩
abbrev main_v513 : Ref sig .tc := ⟨.hbm, 629, rfl⟩
abbrev main_v514 : Ref sig .tc := ⟨.hbm, 630, rfl⟩
abbrev main_cst_93 : Ref sig .tc := ⟨.hbm, 631, rfl⟩
abbrev main_v515 : Ref sig .tc := ⟨.hbm, 632, rfl⟩
abbrev main_v516 : Ref sig .tc := ⟨.hbm, 633, rfl⟩
abbrev main_v517 : Ref sig .tc := ⟨.hbm, 634, rfl⟩
abbrev main_v518 : Ref sig .tc := ⟨.hbm, 635, rfl⟩
abbrev main_v519 : Ref sig .tc := ⟨.hbm, 636, rfl⟩
abbrev main_cst_94 : Ref sig .tc := ⟨.hbm, 637, rfl⟩
abbrev main_v520 : Ref sig .tc := ⟨.hbm, 638, rfl⟩
abbrev main_v521 : Ref sig .tc := ⟨.hbm, 639, rfl⟩
abbrev main_cst_95 : Ref sig .tc := ⟨.hbm, 640, rfl⟩
abbrev main_v522 : Ref sig .tc := ⟨.hbm, 641, rfl⟩
abbrev main_v523 : Ref sig .tc := ⟨.hbm, 642, rfl⟩
abbrev main_cst_96 : Ref sig .tc := ⟨.hbm, 643, rfl⟩
abbrev main_v524 : Ref sig .tc := ⟨.hbm, 644, rfl⟩
abbrev main_v525 : Ref sig .tc := ⟨.hbm, 645, rfl⟩
abbrev main_cst_97 : Ref sig .tc := ⟨.hbm, 646, rfl⟩
abbrev main_v526 : Ref sig .tc := ⟨.hbm, 647, rfl⟩
abbrev main_v527 : Ref sig .tc := ⟨.hbm, 648, rfl⟩
abbrev main_v528 : Ref sig .tc := ⟨.hbm, 649, rfl⟩
abbrev main_v529 : Ref sig .tc := ⟨.hbm, 650, rfl⟩
abbrev main_v530 : Ref sig .tc := ⟨.hbm, 651, rfl⟩
abbrev main_cst_98 : Ref sig .tc := ⟨.hbm, 652, rfl⟩
abbrev main_v531 : Ref sig .tc := ⟨.hbm, 653, rfl⟩
abbrev main_v532 : Ref sig .tc := ⟨.hbm, 654, rfl⟩
abbrev main_cst_99 : Ref sig .tc := ⟨.hbm, 655, rfl⟩
abbrev main_v533 : Ref sig .tc := ⟨.hbm, 656, rfl⟩
abbrev main_v534 : Ref sig .tc := ⟨.hbm, 657, rfl⟩
abbrev main_cst_100 : Ref sig .tc := ⟨.hbm, 658, rfl⟩
abbrev main_v535 : Ref sig .tc := ⟨.hbm, 659, rfl⟩
abbrev main_v536 : Ref sig .tc := ⟨.hbm, 660, rfl⟩
abbrev main_cst_101 : Ref sig .tc := ⟨.hbm, 661, rfl⟩
abbrev main_v537 : Ref sig .tc := ⟨.hbm, 662, rfl⟩
abbrev main_v538 : Ref sig .tc := ⟨.hbm, 663, rfl⟩
abbrev main_v539 : Ref sig .tc := ⟨.hbm, 664, rfl⟩
abbrev main_v540 : Ref sig .tc := ⟨.hbm, 665, rfl⟩
abbrev main_v541 : Ref sig .tc := ⟨.hbm, 666, rfl⟩
abbrev main_cst_102 : Ref sig .tc := ⟨.hbm, 667, rfl⟩
abbrev main_v542 : Ref sig .tc := ⟨.hbm, 668, rfl⟩
abbrev main_v543 : Ref sig .tc := ⟨.hbm, 669, rfl⟩
abbrev main_cst_103 : Ref sig .tc := ⟨.hbm, 670, rfl⟩
abbrev main_v544 : Ref sig .tc := ⟨.hbm, 671, rfl⟩
abbrev main_v545 : Ref sig .tc := ⟨.hbm, 672, rfl⟩
abbrev main_cst_104 : Ref sig .tc := ⟨.hbm, 673, rfl⟩
abbrev main_v546 : Ref sig .tc := ⟨.hbm, 674, rfl⟩
abbrev main_v547 : Ref sig .tc := ⟨.hbm, 675, rfl⟩
abbrev main_cst_105 : Ref sig .tc := ⟨.hbm, 676, rfl⟩
abbrev main_v548 : Ref sig .tc := ⟨.hbm, 677, rfl⟩
abbrev main_v549 : Ref sig .tc := ⟨.hbm, 678, rfl⟩
abbrev main_v550 : Ref sig .tc := ⟨.hbm, 679, rfl⟩
abbrev main_v551 : Ref sig .tc := ⟨.hbm, 680, rfl⟩
abbrev main_v552 : Ref sig .tc := ⟨.hbm, 681, rfl⟩
abbrev main_cst_106 : Ref sig .tc := ⟨.hbm, 682, rfl⟩
abbrev main_v553 : Ref sig .tc := ⟨.hbm, 683, rfl⟩
abbrev main_v554 : Ref sig .tc := ⟨.hbm, 684, rfl⟩
abbrev main_cst_107 : Ref sig .tc := ⟨.hbm, 685, rfl⟩
abbrev main_v555 : Ref sig .tc := ⟨.hbm, 686, rfl⟩
abbrev main_v556 : Ref sig .tc := ⟨.hbm, 687, rfl⟩
abbrev main_cst_108 : Ref sig .tc := ⟨.hbm, 688, rfl⟩
abbrev main_v557 : Ref sig .tc := ⟨.hbm, 689, rfl⟩
abbrev main_v558 : Ref sig .tc := ⟨.hbm, 690, rfl⟩
abbrev main_cst_109 : Ref sig .tc := ⟨.hbm, 691, rfl⟩
abbrev main_v559 : Ref sig .tc := ⟨.hbm, 692, rfl⟩
abbrev main_v560 : Ref sig .tc := ⟨.hbm, 693, rfl⟩
abbrev main_v561 : Ref sig .tc := ⟨.hbm, 694, rfl⟩
abbrev main_v562 : Ref sig .tc := ⟨.hbm, 695, rfl⟩
abbrev main_v563 : Ref sig .tc := ⟨.hbm, 696, rfl⟩
abbrev main_cst_110 : Ref sig .tc := ⟨.hbm, 697, rfl⟩
abbrev main_v564 : Ref sig .tc := ⟨.hbm, 698, rfl⟩
abbrev main_v565 : Ref sig .tc := ⟨.hbm, 699, rfl⟩
abbrev main_cst_111 : Ref sig .tc := ⟨.hbm, 700, rfl⟩
abbrev main_v566 : Ref sig .tc := ⟨.hbm, 701, rfl⟩
abbrev main_v567 : Ref sig .tc := ⟨.hbm, 702, rfl⟩
abbrev main_cst_112 : Ref sig .tc := ⟨.hbm, 703, rfl⟩
abbrev main_v568 : Ref sig .tc := ⟨.hbm, 704, rfl⟩
abbrev main_v569 : Ref sig .tc := ⟨.hbm, 705, rfl⟩
abbrev main_cst_113 : Ref sig .tc := ⟨.hbm, 706, rfl⟩
abbrev main_v570 : Ref sig .tc := ⟨.hbm, 707, rfl⟩
abbrev main_v571 : Ref sig .tc := ⟨.hbm, 708, rfl⟩
abbrev main_v572 : Ref sig .tc := ⟨.hbm, 709, rfl⟩
abbrev main_v573 : Ref sig .tc := ⟨.hbm, 710, rfl⟩
abbrev main_v574 : Ref sig .tc := ⟨.hbm, 711, rfl⟩
abbrev main_cst_114 : Ref sig .tc := ⟨.hbm, 712, rfl⟩
abbrev main_v575 : Ref sig .tc := ⟨.hbm, 713, rfl⟩
abbrev main_v576 : Ref sig .tc := ⟨.hbm, 714, rfl⟩
abbrev main_cst_115 : Ref sig .tc := ⟨.hbm, 715, rfl⟩
abbrev main_v577 : Ref sig .tc := ⟨.hbm, 716, rfl⟩
abbrev main_v578 : Ref sig .tc := ⟨.hbm, 717, rfl⟩
abbrev main_cst_116 : Ref sig .tc := ⟨.hbm, 718, rfl⟩
abbrev main_v579 : Ref sig .tc := ⟨.hbm, 719, rfl⟩
abbrev main_v580 : Ref sig .tc := ⟨.hbm, 720, rfl⟩
abbrev main_cst_117 : Ref sig .tc := ⟨.hbm, 721, rfl⟩
abbrev main_v581 : Ref sig .tc := ⟨.hbm, 722, rfl⟩
abbrev main_v582 : Ref sig .tc := ⟨.hbm, 723, rfl⟩
abbrev main_v583 : Ref sig .tc := ⟨.hbm, 724, rfl⟩
abbrev main_v584 : Ref sig .tc := ⟨.hbm, 725, rfl⟩
abbrev main_v585 : Ref sig .tc := ⟨.hbm, 726, rfl⟩
abbrev main_cst_118 : Ref sig .tc := ⟨.hbm, 727, rfl⟩
abbrev main_v586 : Ref sig .tc := ⟨.hbm, 728, rfl⟩
abbrev main_v587 : Ref sig .tc := ⟨.hbm, 729, rfl⟩
abbrev main_cst_119 : Ref sig .tc := ⟨.hbm, 730, rfl⟩
abbrev main_v588 : Ref sig .tc := ⟨.hbm, 731, rfl⟩
abbrev main_v589 : Ref sig .tc := ⟨.hbm, 732, rfl⟩
abbrev main_cst_120 : Ref sig .tc := ⟨.hbm, 733, rfl⟩
abbrev main_v590 : Ref sig .tc := ⟨.hbm, 734, rfl⟩
abbrev main_v591 : Ref sig .tc := ⟨.hbm, 735, rfl⟩
abbrev main_cst_121 : Ref sig .tc := ⟨.hbm, 736, rfl⟩
abbrev main_v592 : Ref sig .tc := ⟨.hbm, 737, rfl⟩
abbrev main_v593 : Ref sig .tc := ⟨.hbm, 738, rfl⟩
abbrev main_v594 : Ref sig .tc := ⟨.hbm, 739, rfl⟩
abbrev main_v595 : Ref sig .tc := ⟨.hbm, 740, rfl⟩
abbrev main_v596 : Ref sig .tc := ⟨.hbm, 741, rfl⟩
abbrev main_cst_122 : Ref sig .tc := ⟨.hbm, 742, rfl⟩
abbrev main_v597 : Ref sig .tc := ⟨.hbm, 743, rfl⟩
abbrev main_v598 : Ref sig .tc := ⟨.hbm, 744, rfl⟩
abbrev main_cst_123 : Ref sig .tc := ⟨.hbm, 745, rfl⟩
abbrev main_v599 : Ref sig .tc := ⟨.hbm, 746, rfl⟩
abbrev main_v600 : Ref sig .tc := ⟨.hbm, 747, rfl⟩
abbrev main_cst_124 : Ref sig .tc := ⟨.hbm, 748, rfl⟩
abbrev main_v601 : Ref sig .tc := ⟨.hbm, 749, rfl⟩
abbrev main_v602 : Ref sig .tc := ⟨.hbm, 750, rfl⟩
abbrev main_cst_125 : Ref sig .tc := ⟨.hbm, 751, rfl⟩
abbrev main_v603 : Ref sig .tc := ⟨.hbm, 752, rfl⟩
abbrev main_v604 : Ref sig .tc := ⟨.hbm, 753, rfl⟩
abbrev main_v605 : Ref sig .tc := ⟨.hbm, 754, rfl⟩
abbrev main_v606 : Ref sig .tc := ⟨.hbm, 755, rfl⟩
abbrev main_v607 : Ref sig .tc := ⟨.hbm, 756, rfl⟩
abbrev main_cst_126 : Ref sig .tc := ⟨.hbm, 757, rfl⟩
abbrev main_v608 : Ref sig .tc := ⟨.hbm, 758, rfl⟩
abbrev main_v609 : Ref sig .tc := ⟨.hbm, 759, rfl⟩
abbrev main_cst_127 : Ref sig .tc := ⟨.hbm, 760, rfl⟩
abbrev main_v610 : Ref sig .tc := ⟨.hbm, 761, rfl⟩
abbrev main_v611 : Ref sig .tc := ⟨.hbm, 762, rfl⟩
abbrev main_cst_128 : Ref sig .tc := ⟨.hbm, 763, rfl⟩
abbrev main_v612 : Ref sig .tc := ⟨.hbm, 764, rfl⟩
abbrev main_v613 : Ref sig .tc := ⟨.hbm, 765, rfl⟩
abbrev main_cst_129 : Ref sig .tc := ⟨.hbm, 766, rfl⟩
abbrev main_v614 : Ref sig .tc := ⟨.hbm, 767, rfl⟩
abbrev main_v615 : Ref sig .tc := ⟨.hbm, 768, rfl⟩
abbrev main_v616 : Ref sig .tc := ⟨.hbm, 769, rfl⟩
abbrev main_v617 : Ref sig .tc := ⟨.hbm, 770, rfl⟩
abbrev main_v618 : Ref sig .tc := ⟨.hbm, 771, rfl⟩
abbrev main_cst_130 : Ref sig .tc := ⟨.hbm, 772, rfl⟩
abbrev main_v619 : Ref sig .tc := ⟨.hbm, 773, rfl⟩
abbrev main_v620 : Ref sig .tc := ⟨.hbm, 774, rfl⟩
abbrev main_cst_131 : Ref sig .tc := ⟨.hbm, 775, rfl⟩
abbrev main_v621 : Ref sig .tc := ⟨.hbm, 776, rfl⟩
abbrev main_v622 : Ref sig .tc := ⟨.hbm, 777, rfl⟩
abbrev main_cst_132 : Ref sig .tc := ⟨.hbm, 778, rfl⟩
abbrev main_v623 : Ref sig .tc := ⟨.hbm, 779, rfl⟩
abbrev main_v624 : Ref sig .tc := ⟨.hbm, 780, rfl⟩
abbrev main_cst_133 : Ref sig .tc := ⟨.hbm, 781, rfl⟩
abbrev main_v625 : Ref sig .tc := ⟨.hbm, 782, rfl⟩
abbrev main_v626 : Ref sig .tc := ⟨.hbm, 783, rfl⟩
abbrev main_v627 : Ref sig .tc := ⟨.hbm, 784, rfl⟩
abbrev main_v628 : Ref sig .tc := ⟨.hbm, 785, rfl⟩
abbrev main_v629 : Ref sig .tc := ⟨.hbm, 786, rfl⟩
abbrev main_cst_134 : Ref sig .tc := ⟨.hbm, 787, rfl⟩
abbrev main_v630 : Ref sig .tc := ⟨.hbm, 788, rfl⟩
abbrev main_v631 : Ref sig .tc := ⟨.hbm, 789, rfl⟩
abbrev main_cst_135 : Ref sig .tc := ⟨.hbm, 790, rfl⟩
abbrev main_v632 : Ref sig .tc := ⟨.hbm, 791, rfl⟩
abbrev main_v633 : Ref sig .tc := ⟨.hbm, 792, rfl⟩
abbrev main_cst_136 : Ref sig .tc := ⟨.hbm, 793, rfl⟩
abbrev main_v634 : Ref sig .tc := ⟨.hbm, 794, rfl⟩
abbrev main_v635 : Ref sig .tc := ⟨.hbm, 795, rfl⟩
abbrev main_cst_137 : Ref sig .tc := ⟨.hbm, 796, rfl⟩
abbrev main_v636 : Ref sig .tc := ⟨.hbm, 797, rfl⟩
abbrev main_v637 : Ref sig .tc := ⟨.hbm, 798, rfl⟩
abbrev main_v638 : Ref sig .tc := ⟨.hbm, 799, rfl⟩
abbrev main_v639 : Ref sig .tc := ⟨.hbm, 800, rfl⟩
abbrev main_v640 : Ref sig .tc := ⟨.hbm, 801, rfl⟩
abbrev main_cst_138 : Ref sig .tc := ⟨.hbm, 802, rfl⟩
abbrev main_v641 : Ref sig .tc := ⟨.hbm, 803, rfl⟩
abbrev main_v642 : Ref sig .tc := ⟨.hbm, 804, rfl⟩
abbrev main_cst_139 : Ref sig .tc := ⟨.hbm, 805, rfl⟩
abbrev main_v643 : Ref sig .tc := ⟨.hbm, 806, rfl⟩
abbrev main_v644 : Ref sig .tc := ⟨.hbm, 807, rfl⟩
abbrev main_cst_140 : Ref sig .tc := ⟨.hbm, 808, rfl⟩
abbrev main_v645 : Ref sig .tc := ⟨.hbm, 809, rfl⟩
abbrev main_v646 : Ref sig .tc := ⟨.hbm, 810, rfl⟩
abbrev main_cst_141 : Ref sig .tc := ⟨.hbm, 811, rfl⟩
abbrev main_v647 : Ref sig .tc := ⟨.hbm, 812, rfl⟩
abbrev main_v648 : Ref sig .tc := ⟨.hbm, 813, rfl⟩
abbrev main_v649 : Ref sig .tc := ⟨.hbm, 814, rfl⟩
abbrev main_v650 : Ref sig .tc := ⟨.hbm, 815, rfl⟩
abbrev main_v651 : Ref sig .tc := ⟨.hbm, 816, rfl⟩
abbrev main_cst_142 : Ref sig .tc := ⟨.hbm, 817, rfl⟩
abbrev main_v652 : Ref sig .tc := ⟨.hbm, 818, rfl⟩
abbrev main_v653 : Ref sig .tc := ⟨.hbm, 819, rfl⟩
abbrev main_cst_143 : Ref sig .tc := ⟨.hbm, 820, rfl⟩
abbrev main_v654 : Ref sig .tc := ⟨.hbm, 821, rfl⟩
abbrev main_v655 : Ref sig .tc := ⟨.hbm, 822, rfl⟩
abbrev main_cst_144 : Ref sig .tc := ⟨.hbm, 823, rfl⟩
abbrev main_v656 : Ref sig .tc := ⟨.hbm, 824, rfl⟩
abbrev main_v657 : Ref sig .tc := ⟨.hbm, 825, rfl⟩
abbrev main_cst_145 : Ref sig .tc := ⟨.hbm, 826, rfl⟩
abbrev main_v658 : Ref sig .tc := ⟨.hbm, 827, rfl⟩
abbrev main_v659 : Ref sig .tc := ⟨.hbm, 828, rfl⟩
abbrev main_v660 : Ref sig .tc := ⟨.hbm, 829, rfl⟩
abbrev main_v661 : Ref sig .tc := ⟨.hbm, 830, rfl⟩
abbrev main_v662 : Ref sig .tc := ⟨.hbm, 831, rfl⟩
abbrev main_cst_146 : Ref sig .tc := ⟨.hbm, 832, rfl⟩
abbrev main_v663 : Ref sig .tc := ⟨.hbm, 833, rfl⟩
abbrev main_v664 : Ref sig .tc := ⟨.hbm, 834, rfl⟩
abbrev main_cst_147 : Ref sig .tc := ⟨.hbm, 835, rfl⟩
abbrev main_v665 : Ref sig .tc := ⟨.hbm, 836, rfl⟩
abbrev main_v666 : Ref sig .tc := ⟨.hbm, 837, rfl⟩
abbrev main_cst_148 : Ref sig .tc := ⟨.hbm, 838, rfl⟩
abbrev main_v667 : Ref sig .tc := ⟨.hbm, 839, rfl⟩
abbrev main_v668 : Ref sig .tc := ⟨.hbm, 840, rfl⟩
abbrev main_cst_149 : Ref sig .tc := ⟨.hbm, 841, rfl⟩
abbrev main_v669 : Ref sig .tc := ⟨.hbm, 842, rfl⟩
abbrev main_v670 : Ref sig .tc := ⟨.hbm, 843, rfl⟩
abbrev main_v671 : Ref sig .tc := ⟨.hbm, 844, rfl⟩
abbrev main_v672 : Ref sig .tc := ⟨.hbm, 845, rfl⟩
abbrev main_v673 : Ref sig .tc := ⟨.hbm, 846, rfl⟩
abbrev main_v674 : Ref sig .tc := ⟨.hbm, 847, rfl⟩
abbrev main_v675 : Ref sig .tc := ⟨.hbm, 848, rfl⟩
abbrev main_v676 : Ref sig .tc := ⟨.hbm, 849, rfl⟩
abbrev main_v677 : Ref sig .tc := ⟨.hbm, 850, rfl⟩
abbrev main_v678 : Ref sig .tc := ⟨.hbm, 851, rfl⟩
abbrev main_v679 : Ref sig .tc := ⟨.hbm, 852, rfl⟩
abbrev main_v680 : Ref sig .tc := ⟨.hbm, 853, rfl⟩
abbrev main_cst_150 : Ref sig .tc := ⟨.hbm, 854, rfl⟩
abbrev main_v681 : Ref sig .tc := ⟨.hbm, 855, rfl⟩
abbrev main_v682 : Ref sig .tc := ⟨.hbm, 856, rfl⟩
abbrev main_cst_151 : Ref sig .tc := ⟨.hbm, 857, rfl⟩
abbrev main_v683 : Ref sig .tc := ⟨.hbm, 858, rfl⟩
abbrev main_cst_152 : Ref sig .tc := ⟨.hbm, 859, rfl⟩
abbrev main_v684 : Ref sig .tc := ⟨.hbm, 860, rfl⟩
abbrev main_v685 : Ref sig .tc := ⟨.hbm, 861, rfl⟩
abbrev main_cst_153 : Ref sig .tc := ⟨.hbm, 862, rfl⟩
abbrev main_v686 : Ref sig .tc := ⟨.hbm, 863, rfl⟩
abbrev main_v687 : Ref sig .tc := ⟨.hbm, 864, rfl⟩
abbrev main_v688 : Ref sig .tc := ⟨.hbm, 865, rfl⟩
abbrev main_v689 : Ref sig .tc := ⟨.hbm, 866, rfl⟩
abbrev main_cst_154 : Ref sig .tc := ⟨.hbm, 867, rfl⟩
abbrev main_v690 : Ref sig .tc := ⟨.hbm, 868, rfl⟩
abbrev main_v691 : Ref sig .tc := ⟨.hbm, 869, rfl⟩
abbrev main_cst_155 : Ref sig .tc := ⟨.hbm, 870, rfl⟩
abbrev main_v692 : Ref sig .tc := ⟨.hbm, 871, rfl⟩
abbrev main_v693 : Ref sig .tc := ⟨.hbm, 872, rfl⟩
abbrev main_cst_156 : Ref sig .tc := ⟨.hbm, 873, rfl⟩
abbrev main_v694 : Ref sig .tc := ⟨.hbm, 874, rfl⟩
abbrev main_v695 : Ref sig .tc := ⟨.hbm, 875, rfl⟩
abbrev main_cst_157 : Ref sig .tc := ⟨.hbm, 876, rfl⟩
abbrev main_v696 : Ref sig .tc := ⟨.hbm, 877, rfl⟩
abbrev main_v697 : Ref sig .tc := ⟨.hbm, 878, rfl⟩
abbrev main_v698 : Ref sig .tc := ⟨.hbm, 879, rfl⟩
abbrev main_v699 : Ref sig .tc := ⟨.hbm, 880, rfl⟩
abbrev main_v700 : Ref sig .tc := ⟨.hbm, 881, rfl⟩
abbrev main_cst_158 : Ref sig .tc := ⟨.hbm, 882, rfl⟩
abbrev main_v701 : Ref sig .tc := ⟨.hbm, 883, rfl⟩
abbrev main_v702 : Ref sig .tc := ⟨.hbm, 884, rfl⟩
abbrev main_cst_159 : Ref sig .tc := ⟨.hbm, 885, rfl⟩
abbrev main_v703 : Ref sig .tc := ⟨.hbm, 886, rfl⟩
abbrev main_v704 : Ref sig .tc := ⟨.hbm, 887, rfl⟩
abbrev main_cst_160 : Ref sig .tc := ⟨.hbm, 888, rfl⟩
abbrev main_v705 : Ref sig .tc := ⟨.hbm, 889, rfl⟩
abbrev main_v706 : Ref sig .tc := ⟨.hbm, 890, rfl⟩
abbrev main_cst_161 : Ref sig .tc := ⟨.hbm, 891, rfl⟩
abbrev main_v707 : Ref sig .tc := ⟨.hbm, 892, rfl⟩
abbrev main_v708 : Ref sig .tc := ⟨.hbm, 893, rfl⟩
abbrev main_v709 : Ref sig .tc := ⟨.hbm, 894, rfl⟩
abbrev main_v710 : Ref sig .tc := ⟨.hbm, 895, rfl⟩
abbrev main_v711 : Ref sig .tc := ⟨.hbm, 896, rfl⟩
abbrev main_v712 : Ref sig .tc := ⟨.hbm, 897, rfl⟩
abbrev main_v713 : Ref sig .tc := ⟨.hbm, 898, rfl⟩
abbrev main_v714 : Ref sig .tc := ⟨.hbm, 899, rfl⟩
abbrev main_v715 : Ref sig .tc := ⟨.hbm, 900, rfl⟩
abbrev main_v716 : Ref sig .tc := ⟨.hbm, 901, rfl⟩
abbrev main_v717 : Ref sig .tc := ⟨.hbm, 902, rfl⟩

abbrev nD : Nat := 1
abbrev τ : Topo := Topo.v7x

variable {F : FTy → Type} [FloatOps F]
-- ==== KernelMfwd.lean ====
abbrev S256x1024 : Shape := ⟨2, ![256, 1024]⟩
abbrev S1024 : Shape := ⟨1, ![1024]⟩
abbrev S1024x1024 : Shape := ⟨2, ![1024, 1024]⟩
abbrev S1x1024 : Shape := ⟨2, ![1, 1024]⟩
abbrev S256 : Shape := ⟨1, ![256]⟩
abbrev S256x1 : Shape := ⟨2, ![256, 1]⟩

abbrev nBuf : Space → Nat
  | .hbm => 10
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x1024, .f32⟩
  | .hbm, ⟨3, _⟩ => ⟨S1024x1024, .f32⟩
  | .hbm, ⟨4, _⟩ => ⟨S1x1024, .f32⟩
  | .hbm, ⟨5, _⟩ => ⟨S1024x1024, .bf16⟩
  | .hbm, ⟨6, _⟩ => ⟨S1024x1024, .bf16⟩
  | .hbm, ⟨7, _⟩ => ⟨S256x1024, .bf16⟩
  | .hbm, ⟨8, _⟩ => ⟨S256x1024, .bf16⟩
  | .hbm, ⟨9, _⟩ => ⟨S256x1024, .bf16⟩
  | .local _ .vmem, ⟨0, _⟩ => ⟨S256x1024, .f32⟩
  | .local _ .vmem, ⟨1, _⟩ => ⟨S1x1024, .f32⟩
  | .local _ .vmem, ⟨2, _⟩ => ⟨S1024x1024, .bf16⟩
  | .local _ .vmem, ⟨3, _⟩ => ⟨S1024x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceMfwdIdeal.lean ====
abbrev S256x1024 : Shape := ⟨2, ![256, 1024]⟩
abbrev S1024 : Shape := ⟨1, ![1024]⟩
abbrev S1024x1024 : Shape := ⟨2, ![1024, 1024]⟩
abbrev S_ : Shape := ⟨0, ![]⟩
abbrev S256 : Shape := ⟨1, ![256]⟩
abbrev S256x1 : Shape := ⟨2, ![256, 1]⟩
abbrev S1x1024 : Shape := ⟨2, ![1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x1024, .f32⟩
  | .hbm, ⟨3, _⟩ => ⟨S1024x1024, .f32⟩
  | .hbm, ⟨4, _⟩ => ⟨S256x1024, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x1024, .f32⟩
  | .hbm, ⟨16, _⟩ => ⟨S256x1024, .f32⟩
  | .hbm, ⟨17, _⟩ => ⟨S1x1024, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S256x1024, .bf16⟩
  | .hbm, ⟨23, _⟩ => ⟨S256x1024, .bf16⟩
  | .hbm, ⟨24, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== KernelFfwd.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S16384x2816 : Shape := ⟨2, ![16384, 2816]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩

abbrev nBuf : Space → Nat
  | .hbm => 19
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024, .f32⟩
  | .hbm, ⟨7, _⟩ => ⟨S1x1024, .f32⟩
  | .hbm, ⟨8, _⟩ => ⟨S2816x1024, .f32⟩
  | .hbm, ⟨9, _⟩ => ⟨S2816x1024, .bf16⟩
  | .hbm, ⟨10, _⟩ => ⟨S2816x1024, .f32⟩
  | .hbm, ⟨11, _⟩ => ⟨S2816x1024, .bf16⟩
  | .hbm, ⟨12, _⟩ => ⟨S2816x1024, .bf16⟩
  | .hbm, ⟨13, _⟩ => ⟨S1x1024, .f32⟩
  | .hbm, ⟨14, _⟩ => ⟨S16384x1024, .bf16⟩
  | .hbm, ⟨15, _⟩ => ⟨S16384x2816, .bf16⟩
  | .hbm, ⟨16, _⟩ => ⟨S16384x2816, .bf16⟩
  | .hbm, ⟨17, _⟩ => ⟨S16384x1024, .bf16⟩
  | .hbm, ⟨18, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2816x1024, .bf16⟩
  | .local _ .vmem, ⟨4, _⟩ => ⟨S2816x1024, .bf16⟩
  | .local _ .vmem, ⟨5, _⟩ => ⟨S2816x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x2816, .bf16⟩
  | .local _ .vmem, ⟨12, _⟩ => ⟨S512x2816, .bf16⟩
  | .local _ .vmem, ⟨13, _⟩ => ⟨S512x2816, .bf16⟩
  | .local _ .vmem, ⟨14, _⟩ => ⟨S512x2816, .bf16⟩
  | .local _ .vmem, ⟨15, _⟩ => ⟨S512x1024, .bf16⟩
  | .local _ .vmem, ⟨16, _⟩ => ⟨S512x1024, .bf16⟩
  | .local _ .vmem, ⟨17, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v7_3 : Ref sig .tc := ⟨.hbm, 17, rfl⟩
abbrev main_v7_4 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceFfwdIdeal.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩

abbrev nBuf : Space → Nat
  | .hbm => 62
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S16384x2816, .f32⟩
  | .hbm, ⟨24, _⟩ => ⟨S16384x2816, .f32⟩
  | .hbm, ⟨25, _⟩ => ⟨S16384x2816, .f32⟩
  | .hbm, ⟨26, _⟩ => ⟨S16384x2816, .f32⟩
  | .hbm, ⟨27, _⟩ => ⟨S_, .f32⟩
  | .hbm, ⟨28, _⟩ => ⟨S16384x2816, .f32⟩
  | .hbm, ⟨29, _⟩ => ⟨S16384x2816, .f32⟩
  | .hbm, ⟨30, _⟩ => ⟨S_, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S16384x2816, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S16384, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S16384x1, .f32⟩
  | .hbm, ⟨47, _⟩ => ⟨S16384x1024, .f32⟩
  | .hbm, ⟨48, _⟩ => ⟨S16384x1024, .f32⟩
  | .hbm, ⟨49, _⟩ => ⟨S1x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S16384x1024, .bf16⟩
  | .hbm, ⟨56, _⟩ => ⟨S16384x2816, .bf16⟩
  | .hbm, ⟨57, _⟩ => ⟨S16384x2816, .bf16⟩
  | .hbm, ⟨58, _⟩ => ⟨S16384x1024, .bf16⟩
  | .hbm, ⟨59, _⟩ => ⟨S_, .f32⟩
  | .hbm, ⟨60, _⟩ => ⟨S1024, .f32⟩
  | .hbm, ⟨61, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_2 : Ref sig .tc := ⟨.hbm, 37, rfl⟩
abbrev main_v19 : Ref sig .tc := ⟨.hbm, 38, rfl⟩
abbrev main_v20 : Ref sig .tc := ⟨.hbm, 39, rfl⟩
abbrev main_cst_3 : Ref sig .tc := ⟨.hbm, 40, rfl⟩
abbrev main_v21 : Ref sig .tc := ⟨.hbm, 41, rfl⟩
abbrev main_v22 : Ref sig .tc := ⟨.hbm, 42, rfl⟩
abbrev main_cst_4 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_5 : Ref sig .tc := ⟨.hbm, 59, rfl⟩
abbrev main_v38 : Ref sig .tc := ⟨.hbm, 60, rfl⟩
abbrev main_v39 : Ref sig .tc := ⟨.hbm, 61, rfl⟩

abbrev nD : Nat := 1
abbrev τ : Topo := Topo.v7x

variable {F : FTy → Type} [FloatOps F]
-- ==== KernelNfwd.lean ====
abbrev S16384x1024 : Shape := ⟨2, ![16384, 1024]⟩
abbrev S1024 : Shape := ⟨1, ![1024]⟩
abbrev S1024x2560 : Shape := ⟨2, ![1024, 2560]⟩
abbrev S1x1024 : Shape := ⟨2, ![1, 1024]⟩
abbrev S2560x1024 : Shape := ⟨2, ![2560, 1024]⟩
abbrev S16384x2560 : Shape := ⟨2, ![16384, 2560]⟩
abbrev S512x1024 : Shape := ⟨2, ![512, 1024]⟩
abbrev S512x2560 : Shape := ⟨2, ![512, 2560]⟩
abbrev S512 : Shape := ⟨1, ![512]⟩
abbrev S512x1 : Shape := ⟨2, ![512, 1]⟩

abbrev nBuf : Space → Nat
  | .hbm => 8
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2560, .f32⟩
  | .hbm, ⟨3, _⟩ => ⟨S1x1024, .f32⟩
  | .hbm, ⟨4, _⟩ => ⟨S2560x1024, .f32⟩
  | .hbm, ⟨5, _⟩ => ⟨S2560x1024, .bf16⟩
  | .hbm, ⟨6, _⟩ => ⟨S16384x1024, .bf16⟩
  | .hbm, ⟨7, _⟩ => ⟨S16384x2560, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2560x1024, .bf16⟩
  | .local _ .vmem, ⟨4, _⟩ => ⟨S512x1024, .bf16⟩
  | .local _ .vmem, ⟨5, _⟩ => ⟨S512x1024, .bf16⟩
  | .local _ .vmem, ⟨6, _⟩ => ⟨S512x2560, .bf16⟩
  | .local _ .vmem, ⟨7, _⟩ => ⟨S512x2560, .bf16⟩
  | .local _ .vmem, ⟨8, _⟩ => ⟨S1024x2560, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2560x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2560 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceNfwdIdeal.lean ====
abbrev S16384x1024 : Shape := ⟨2, ![16384, 1024]⟩
abbrev S1024 : Shape := ⟨1, ![1024]⟩
abbrev S1024x2560 : Shape := ⟨2, ![1024, 2560]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2560 : Shape := ⟨2, ![16384, 2560]⟩

abbrev nBuf : Space → Nat
  | .hbm => 22
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2560, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x1024, .bf16⟩
  | .hbm, ⟨20, _⟩ => ⟨S16384x2560, .f32⟩
  | .hbm, ⟨21, _⟩ => ⟨S16384x2560, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== KernelWgrad.lean ====
abbrev S16384x2816 : Shape := ⟨2, ![16384, 2816]⟩
abbrev S16384x1024 : Shape := ⟨2, ![16384, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16384x2816, .f32⟩
  | .hbm, ⟨1, _⟩ => ⟨S16384x1024, .f32⟩
  | .hbm, ⟨2, _⟩ => ⟨S16384x2816, .bf16⟩
  | .hbm, ⟨3, _⟩ => ⟨S16384x1024, .bf16⟩
  | .hbm, ⟨4, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S16384x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceWgradIdeal.lean ====
abbrev S16384x2816 : Shape := ⟨2, ![16384, 2816]⟩
abbrev S16384x1024 : Shape := ⟨2, ![16384, 1024]⟩
abbrev S2816x1024 : Shape := ⟨2, ![2816, 1024]⟩

abbrev nBuf : Space → Nat
  | .hbm => 4
  | .vmem => 0
  | .smem => 0
  | _ => 0

abbrev bufTy : (tb : Table) → Fin (tcTables nBuf tb) → BufTy
  | .hbm, ⟨0, _⟩ => ⟨S16384x2816, .f32⟩
  | .hbm, ⟨1, _⟩ => ⟨S16384x1024, .f32⟩
  | .hbm, ⟨2, _⟩ => ⟨S2816x1024, .f32⟩
  | .hbm, ⟨3, _⟩ => ⟨S2816x1024, .bf16⟩
  | _, _ => ⟨S16384x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== KernelAdamw.lean ====
abbrev S8x352x1024 : Shape := ⟨3, ![8, 352, 1024]⟩
abbrev S352x1024 : Shape := ⟨2, ![352, 1024]⟩
abbrev S_ : Shape := ⟨0, ![]⟩
abbrev S8x128 : Shape := ⟨2, ![8, 128]⟩
abbrev S1x352x1024 : Shape := ⟨3, ![1, 352, 1024]⟩

abbrev nBuf : Space → Nat
  | .hbm => 11
  | .vmem => 8
  | .smem => 0
  | _ => 0

abbrev bufTy : (tb : Table) → Fin (tcTables nBuf tb) → BufTy
  | .hbm, ⟨0, _⟩ => ⟨S8x352x1024, .f32⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S_, .f32⟩
  | .hbm, ⟨5, _⟩ => ⟨S8x128, .f32⟩
  | .hbm, ⟨6, _⟩ => ⟨S8x352x1024, .bf16⟩
  | .hbm, ⟨7, _⟩ => ⟨S352x1024, .f32⟩
  | .hbm, ⟨8, _⟩ => ⟨S352x1024, .f32⟩
  | .hbm, ⟨9, _⟩ => ⟨S352x1024, .f32⟩
  | .hbm, ⟨10, _⟩ => ⟨S352x1024, .f32⟩
  | .local _ .vmem, ⟨0, _⟩ => ⟨S8x352x1024, .bf16⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | _, _ => ⟨S8x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x352x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S352x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S352x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S352x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S352x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S352x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S352x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S352x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== ReferenceAdamwIdeal.lean ====
abbrev S8x352x1024 : Shape := ⟨3, ![8, 352, 1024]⟩
abbrev S352x1024 : Shape := ⟨2, ![352, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x352x1024, .f32⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S_, .f32⟩
  | .hbm, ⟨5, _⟩ => ⟨S352x1024, .f32⟩
  | .hbm, ⟨6, _⟩ => ⟨S_, .f32⟩
  | .hbm, ⟨7, _⟩ => ⟨S352x1024, .f32⟩
  | .hbm, ⟨8, _⟩ => ⟨S352x1024, .f32⟩
  | .hbm, ⟨9, _⟩ => ⟨S_, .f32⟩
  | .hbm, ⟨10, _⟩ => ⟨S352x1024, .f32⟩
  | .hbm, ⟨11, _⟩ => ⟨S352x1024, .f32⟩
  | .hbm, ⟨12, _⟩ => ⟨S352x1024, .f32⟩
  | .hbm, ⟨13, _⟩ => ⟨S_, .f32⟩
  | .hbm, ⟨14, _⟩ => ⟨S352x1024, .f32⟩
  | .hbm, ⟨15, _⟩ => ⟨S352x1024, .f32⟩
  | .hbm, ⟨16, _⟩ => ⟨S352x1024, .f32⟩
  | .hbm, ⟨17, _⟩ => ⟨S_, .f32⟩
  | .hbm, ⟨18, _⟩ => ⟨S352x1024, .f32⟩
  | .hbm, ⟨19, _⟩ => ⟨S352x1024, .f32⟩
  | .hbm, ⟨20, _⟩ => ⟨S352x1024, .f32⟩
  | .hbm, ⟨21, _⟩ => ⟨S_, .f32⟩
  | .hbm, ⟨22, _⟩ => ⟨S352x1024, .f32⟩
  | .hbm, ⟨23, _⟩ => ⟨S352x1024, .f32⟩
  | .hbm, ⟨24, _⟩ => ⟨S_, .f32⟩
  | .hbm, ⟨25, _⟩ => ⟨S352x1024, .f32⟩
  | .hbm, ⟨26, _⟩ => ⟨S352x1024, .f32⟩
  | .hbm, ⟨27, _⟩ => ⟨S352x1024, .f32⟩
  | .hbm, ⟨28, _⟩ => ⟨S_, .f32⟩
  | .hbm, ⟨29, _⟩ => ⟨S352x1024, .f32⟩
  | .hbm, ⟨30, _⟩ => ⟨S352x1024, .f32⟩
  | .hbm, ⟨31, _⟩ => ⟨S352x1024, .f32⟩
  | .hbm, ⟨32, _⟩ => ⟨S_, .f32⟩
  | .hbm, ⟨33, _⟩ => ⟨S352x1024, .f32⟩
  | .hbm, ⟨34, _⟩ => ⟨S352x1024, .f32⟩
  | .hbm, ⟨35, _⟩ => ⟨S352x1024, .f32⟩
  | .hbm, ⟨36, _⟩ => ⟨S_, .f32⟩
  | .hbm, ⟨37, _⟩ => ⟨S352x1024, .f32⟩
  | .hbm, ⟨38, _⟩ => ⟨S352x1024, .f32⟩
  | _, _ => ⟨S8x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== KernelSums.lean ====
abbrev S8x232x128 : Shape := ⟨3, ![8, 232, 128]⟩
abbrev S232x128 : Shape := ⟨2, ![232, 128]⟩
abbrev S1x232x128 : Shape := ⟨3, ![1, 232, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x232x128, .f32⟩
  | .hbm, ⟨1, _⟩ => ⟨S232x128, .f32⟩
  | .local _ .vmem, ⟨0, _⟩ => ⟨S8x232x128, .f32⟩
  | .local _ .vmem, ⟨1, _⟩ => ⟨S232x128, .f32⟩
  | _, _ => ⟨S8x232x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x232x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S232x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== ReferenceSumsIdeal.lean ====
abbrev S8x232x128 : Shape := ⟨3, ![8, 232, 128]⟩
abbrev S_ : Shape := ⟨0, ![]⟩
abbrev S232x128 : Shape := ⟨2, ![232, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x232x128, .f32⟩
  | .hbm, ⟨1, _⟩ => ⟨S_, .f32⟩
  | .hbm, ⟨2, _⟩ => ⟨S232x128, .f32⟩
  | _, _ => ⟨S8x232x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.AdamwValue.lean ====
module

public import proofs.«01_k».proof.Proof.Gen.KernelAdamwIdeal.Value
public import proofs.«01_k».proof.Proof.Gen.ReferenceAdamwIdeal.Run
public import proofs.«01_k».proof.Proof.Gen.ReferenceAdamwIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelAdamwIdeal.Value

open Cert.KernelAdamwIdeal Cert.KernelAdamwIdeal.Gen

variable (m : (ℓ : Loc nD τ sig) → Buf (Elt Ideal) ℓ) (c : Dev nD) (t : Fin cfg0.N)

/-- Where each block of point `t` lies. -/
theorem idx_all : ∀ t : Fin cfg0.N, win0_0.index t = ![0, 0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] :=
  (by decide +kernel : ∀ t : Fin grid0.N, _)

theorem read0 (k : Fin 8) (i : Fin 352) (j : Fin 1024) : iblk m c 0 t (ix3 k i j) = m ((c : Thread nD τ).loc main_arg0) (ix3 k i j) := by
  obtain ⟨i0, i1, i2, i3, i4, i5, i6, i7⟩ := idx_all t
  have e : ((cfg0.win 0).blk t).view.emb (ix3 k i j) = ix3 k i j := by blk_ext [i0]
  unfold iblk
  rw [View.read_apply, e]
  show V m c main_v1 _ = _
  dsimp only [V, hostOps0]
  after_results_simp
  rfl

theorem read1 (i : Fin 352) (j : Fin 1024) : iblk m c 1 t (ix2 i j) = m ((c : Thread nD τ).loc main_arg1) (ix2 i j) := by
  obtain ⟨i0, i1, i2, i3, i4, i5, i6, i7⟩ := idx_all t
  blk_ext [iblk, V, i1]

theorem read2 (i : Fin 352) (j : Fin 1024) : iblk m c 2 t (ix2 i j) = m ((c : Thread nD τ).loc main_arg2) (ix2 i j) := by
  obtain ⟨i0, i1, i2, i3, i4, i5, i6, i7⟩ := idx_all t
  blk_ext [iblk, V, i2]

theorem read3 (i : Fin 352) (j : Fin 1024) : iblk m c 3 t (ix2 i j) = m ((c : Thread nD τ).loc main_arg3) (ix2 i j) := by
  obtain ⟨i0, i1, i2, i3, i4, i5, i6, i7⟩ := idx_all t
  blk_ext [iblk, V, i3]

/-- Slice `k` of the eight, loaded. -/
theorem part (X : Vec Ideal S8x352x1024 .bf16) (k : Fin 8) (b) (i : Fin 352) (j : Fin 1024) :
    View.ld X (Rect.unit (s := S8x352x1024) ![k.val, 0, 0] ![1, 352, 1024] b) (ix3 0 i j) = X (ix3 k i j) := by
  refine congrArg X ?_
  funext a
  refine Fin.ext ((Rect.idx_unit_val _ _ _ _ _).trans ?_)
  fin_cases a
  · rfl
  · exact Nat.zero_add _
  · exact Nat.zero_add _

/-- The eight slices added, one after another. -/
def total (X : Vec Ideal S8x352x1024 .bf16) : FVec Ideal S352x1024 .f32 := k0_pay4 (View.ld X (Rect.unit (s := S8x352x1024) ![0, 0, 0] ![1, 352, 1024] inb_S8x352x1024_S1x352x1024_0_0_0)) (View.ld X (Rect.unit (s := S8x352x1024) ![1, 0, 0] ![1, 352, 1024] inb_S8x352x1024_S1x352x1024_1_0_0)) (View.ld X (Rect.unit (s := S8x352x1024) ![2, 0, 0] ![1, 352, 1024] inb_S8x352x1024_S1x352x1024_2_0_0)) (View.ld X (Rect.unit (s := S8x352x1024) ![3, 0, 0] ![1, 352, 1024] inb_S8x352x1024_S1x352x1024_3_0_0)) (View.ld X (Rect.unit (s := S8x352x1024) ![4, 0, 0] ![1, 352, 1024] inb_S8x352x1024_S1x352x1024_4_0_0)) (View.ld X (Rect.unit (s := S8x352x1024) ![5, 0, 0] ![1, 352, 1024] inb_S8x352x1024_S1x352x1024_5_0_0)) (View.ld X (Rect.unit (s := S8x352x1024) ![6, 0, 0] ![1, 352, 1024] inb_S8x352x1024_S1x352x1024_6_0_0)) (View.ld X (Rect.unit (s := S8x352x1024) ![7, 0, 0] ![1, 352, 1024] inb_S8x352x1024_S1x352x1024_7_0_0))

theorem total_eq (X : Vec Ideal S8x352x1024 .bf16) (i : Fin 352) (j : Fin 1024) : total X (ix2 i j) = ∑ k : Fin 8, (show EReal from X (ix3 k i j)) := by
  simp only [Fin.sum_univ_eight, ← part X 0 inb_S8x352x1024_S1x352x1024_0_0_0, ← part X 1 inb_S8x352x1024_S1x352x1024_1_0_0, ← part X 2 inb_S8x352x1024_S1x352x1024_2_0_0, ← part X 3 inb_S8x352x1024_S1x352x1024_3_0_0, ← part X 4 inb_S8x352x1024_S1x352x1024_4_0_0, ← part X 5 inb_S8x352x1024_S1x352x1024_5_0_0, ← part X 6 inb_S8x352x1024_S1x352x1024_6_0_0, ← part X 7 inb_S8x352x1024_S1x352x1024_7_0_0]
  unfold total
  pointwise [k0_pay4]

/-- The gradient: the devices' parts added. -/
theorem g_eq (i : Fin 352) (j : Fin 1024) : total (iblk m c 0 t) (ix2 i j) = Cert.ReferenceAdamwIdeal.Read.val_main_v0 (F := Ideal) (m ((c : Thread nD τ).loc main_arg0)) (ix2 i j) := by
  refine (total_eq _ i j).trans ?_
  open Cert.ReferenceAdamwIdeal.Read in
  pointwise [val_main_v0, val_main_cst]
  simp only [read0]

/-- The gradient. -/
theorem final4 : (dats m 0 c).arrAt 4 cfg0.N = Cert.ReferenceAdamwIdeal.Read.val_main_v0 (F := Ideal) (m ((c : Thread nD τ).loc main_arg0)) := by
  refine (dats m 0 c).arrAt_eq_of_covers 4 _ (by decide +kernel) fun t hf y => ?_
  blk_simp
  rw [after0_4]
  unfold outsAt0
  frame_out
  idx_vars y
  obtain ⟨i0, i1, i2, i3, i4, i5, i6, i7⟩ := idx_all t
  have e : ((cfg0.win 4).blk t).view.emb (ix2 y0 y1) = ix2 y0 y1 := by blk_ext [i4]
  rw [e]
  exact g_eq m c t y0 y1

/-- The weights' step. -/
theorem final5 : (dats m 0 c).arrAt 5 cfg0.N = Cert.ReferenceAdamwIdeal.Read.val_main_v24 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  unfold outsAt0
  frame_out
  idx_vars y
  obtain ⟨i0, i1, i2, i3, i4, i5, i6, i7⟩ := idx_all t
  have e : ((cfg0.win 5).blk t).view.emb (ix2 y0 y1) = ix2 y0 y1 := by blk_ext [i5]
  rw [e]
  have h := g_eq m c t
  change k0_pay3 (total (iblk m c 0 t)) (iblk m c 2 t) (iblk m c 3 t) (iblk m c 1 t) (ix2 y0 y1) = _
  revert h
  generalize total (iblk m c 0 t) = g
  intro h
  open Cert.ReferenceAdamwIdeal.Read in
  pointwise [k0_pay3, k0_pay1, k0_pay2, val_main_v24, val_main_v23, val_main_v22, val_main_v21, val_main_v20, val_main_v19, val_main_v18, val_main_v17, val_main_v16, val_main_v15, val_main_v14, val_main_v13, val_main_v12, val_main_cst_4, val_main_cst_5, val_main_cst_6, val_main_cst_7, val_main_cst_8, val_main_v5, val_main_v4, val_main_v3, val_main_v2, val_main_v1, val_main_cst_0, val_main_cst_1, val_main_v11, val_main_v10, val_main_v9, val_main_v8, val_main_v7, val_main_v6, val_main_cst_2, val_main_cst_3]
  simp only [h, read1, read2, read3]
  first | done | rfl

/-- The first moment. -/
theorem final6 : (dats m 0 c).arrAt 6 cfg0.N = Cert.ReferenceAdamwIdeal.Read.val_main_v5 (F := Ideal) (m ((c : Thread nD τ).loc main_arg0)) (m ((c : Thread nD τ).loc main_arg2)) := by
  refine (dats m 0 c).arrAt_eq_of_covers 6 _ (by decide +kernel) fun t hf y => ?_
  blk_simp
  rw [after0_6]
  unfold outsAt0
  frame_out
  idx_vars y
  obtain ⟨i0, i1, i2, i3, i4, i5, i6, i7⟩ := idx_all t
  have e : ((cfg0.win 6).blk t).view.emb (ix2 y0 y1) = ix2 y0 y1 := by blk_ext [i6]
  rw [e]
  have h := g_eq m c t
  change k0_pay1 (total (iblk m c 0 t)) (iblk m c 2 t) (ix2 y0 y1) = _
  revert h
  generalize total (iblk m c 0 t) = g
  intro h
  open Cert.ReferenceAdamwIdeal.Read in
  pointwise [k0_pay1, val_main_v5, val_main_v4, val_main_v3, val_main_v2, val_main_v1, val_main_cst_0, val_main_cst_1]
  simp only [h, read1, read2, read3]
  first | done | rfl

/-- The second moment. -/
theorem final7 : (dats m 0 c).arrAt 7 cfg0.N = Cert.ReferenceAdamwIdeal.Read.val_main_v11 (F := Ideal) (m ((c : Thread nD τ).loc main_arg0)) (m ((c : Thread nD τ).loc main_arg3)) := by
  refine (dats m 0 c).arrAt_eq_of_covers 7 _ (by decide +kernel) fun t hf y => ?_
  blk_simp
  rw [after0_7]
  unfold outsAt0
  frame_out
  idx_vars y
  obtain ⟨i0, i1, i2, i3, i4, i5, i6, i7⟩ := idx_all t
  have e : ((cfg0.win 7).blk t).view.emb (ix2 y0 y1) = ix2 y0 y1 := by blk_ext [i7]
  rw [e]
  have h := g_eq m c t
  change k0_pay2 (total (iblk m c 0 t)) (iblk m c 3 t) (ix2 y0 y1) = _
  revert h
  generalize total (iblk m c 0 t) = g
  intro h
  open Cert.ReferenceAdamwIdeal.Read in
  pointwise [k0_pay2, val_main_v11, val_main_v10, val_main_v9, val_main_v8, val_main_v7, val_main_v6, val_main_cst_2, val_main_cst_3]
  simp only [h, read1, read2, read3]
  first | done | rfl

end Cert.KernelAdamwIdeal.Value
end
-- ==== Proof.AdamwClaims.lean ====
module

public import proofs.«01_k».proof.Defs
public import proofs.«01_k».proof.Proof.Gen.KernelAdamw.Frame
public import proofs.«01_k».proof.Proof.Gen.ReferenceAdamwIdeal.Run
public import proofs.«01_k».proof.Proof.AdamwValue
public import Idealize.ShloMosaic.Lib.Quiescent

@[expose] public section

set_option maxRecDepth 16384

noncomputable section

open Idealize.ShloMosaic Idealize.ShloMosaic.TcCoe Idealize.SL.Sem

namespace Cert.Proof.Adamw

/-- The mathematics of the optimiser's step runs to its end, its arguments unchanged. -/
theorem frame_ri : Cert.quiescent_ReferenceAdamwIdeal := fun m ρ _ =>
  (θ_run Cert.ReferenceAdamwIdeal.defs _ _).mono (fun r h => ⟨fun c => (h c).2.2.2.2, sem_eq_zero_of_no_sems (by decide) r.2⟩)
    (Cert.ReferenceAdamwIdeal.Value.run (F := Ideal) m ρ)

/-- The kernel's four results are the mathematics' four. -/
theorem algebraic : Cert.algebraic_KernelAdamwIdeal_ReferenceAdamwIdeal := by
  intro m ρ m' ρ' _ hagree
  open Cert.KernelAdamwIdeal.Value in
  refine ⟨_, _, _, _, (θ_run Cert.KernelAdamwIdeal.defs _ _).mono (fun r h c => ⟨(h c).1.trans (final4 m c), (h c).2.1.trans (final5 m c), (h c).2.2.1.trans (final6 m c), (h c).2.2.2.1.trans (final7 m c), (h c).2.2.2.2⟩)
    (run_blocks m ρ), ?_⟩
  refine (θ_run Cert.ReferenceAdamwIdeal.defs _ _).mono (fun _ h c => ⟨(h c).1.trans ((Cert.ReferenceAdamwIdeal.Read.val_main_v0_eq _).trans ?_),
    (h c).2.1.trans ((Cert.ReferenceAdamwIdeal.Read.val_main_v24_eq _ _ _ _).trans ?_),
    (h c).2.2.1.trans ((Cert.ReferenceAdamwIdeal.Read.val_main_v5_eq _ _).trans ?_),
    (h c).2.2.2.1.trans ((Cert.ReferenceAdamwIdeal.Read.val_main_v11_eq _ _).trans ?_), (h c).2.2.2.2⟩)
    (Cert.ReferenceAdamwIdeal.Value.run (F := Ideal) m' ρ')
  all_goals
    obtain ⟨h0, h1, h2, h3⟩ := hagree c
    simp only [← h0, ← h1, ← h2, ← h3]

end Cert.Proof.Adamw

end
-- ==== Proof.Rms.lean ====
module

public import Idealize.ShloMosaic.Lib.Pointwise
public import Mathlib.Tactic.FieldSimp
public import Mathlib.Tactic.Ring
public import Mathlib.Tactic.Linarith

@[expose] public section

noncomputable section

open Idealize.ShloMosaic

namespace Cert.Rms

/-- The number of lanes a mean is taken over, as a real. -/
theorem lanes : Ideal.ofBits .f32 1149239296#32 = ((1024 : ℝ) : EReal) := by
  simp [Ideal.ofBits, Ideal.ieee, -EReal.coe_mul]; norm_num

/-- The small number added to the mean square is a positive real. -/
theorem eps_pos : ∃ e : ℝ, 0 < e ∧ Ideal.ofBits .f32 897988541#32 = (e : EReal) := by
  refine ⟨_, ?_, by simp [Ideal.ofBits, Ideal.ieee, -EReal.coe_mul]; rfl⟩
  positivity

/-- Minus a half, as a real. -/
theorem neg_half : Ideal.ofBits .f32 3204448256#32 = ((-(1 / 2) : ℝ) : EReal) := by
  simp [Ideal.ofBits, Ideal.ieee, -EReal.coe_mul]; norm_num

/-- A real that is not negative goes under a sum of extended reals. -/
theorem sum_mul_coe {ι : Type} (s : Finset ι) (f : ι → EReal) {c : ℝ} (hc : 0 ≤ c) : (∑ i ∈ s, f i) * (c : EReal) = ∑ i ∈ s, f i * (c : EReal) := by
  classical
  induction s using Finset.induction_on with
  | empty => simp
  | insert a s ha ih =>
    rw [Finset.sum_insert ha, Finset.sum_insert ha, EReal.right_distrib_of_nonneg_of_ne_top (by exact_mod_cast hc) (EReal.coe_ne_top c), ih]

/-- A quotient by a real that is not zero goes into a product. -/
theorem div_coe_eq (a : EReal) {b : ℝ} (hb : b ≠ 0) : Ideal.div a (b : EReal) = a * ((1 / b : ℝ) : EReal) := Ideal.div_coe hb a

/-- Twice a product with a real. -/
theorem mul_coe_add_self (a : EReal) (b : ℝ) : a * (b : EReal) + a * (b : EReal) = a * ((2 * b : ℝ) : EReal) := by
  rw [EReal.coe_mul, mul_comm (a := ((2 : ℝ) : EReal)), ← mul_assoc, show ((2 : ℝ) : EReal) = ((1 : ℝ) : EReal) + ((1 : ℝ) : EReal) by norm_cast,
    EReal.left_distrib_of_nonneg (by norm_num) (by norm_num)]
  norm_num

/-- The mean square of a row plus the small number: what the row's norm is the root of. -/
def meanSq {n : ℕ} (x : Fin n → EReal) : EReal := Ideal.div (∑ k, x k * x k) (Ideal.ofBits .f32 1149239296#32) + Ideal.ofBits .f32 897988541#32

/-- Either it is infinite, or it is a positive real and so is every entry of the row. -/
theorem meanSq_cases {n : ℕ} (x : Fin n → EReal) : meanSq x = ⊤ ∨ ((∃ v : ℝ, 0 < v ∧ meanSq x = (v : EReal)) ∧ ∀ k, ∃ y : ℝ, x k = (y : EReal)) := by
  obtain ⟨e, he, hE⟩ := eps_pos
  have hsq : ∀ k, 0 ≤ x k * x k := fun k => by
    rcases le_total 0 (x k) with h | h
    · exact EReal.mul_nonneg h h
    · exact EReal.mul_nonneg_iff.mpr (.inr ⟨h, h⟩)
  have hS : 0 ≤ ∑ k, x k * x k := Finset.sum_nonneg fun k _ => hsq k
  unfold meanSq
  rw [lanes, hE, div_coe_eq _ (by norm_num : (1024 : ℝ) ≠ 0)]
  by_cases hT : (∑ k, x k * x k) = ⊤
  · left
    rw [hT, EReal.top_mul_coe_of_pos (by norm_num)]
    simp
  · right
    have hB : (∑ k, x k * x k) ≠ ⊥ := ne_of_gt (lt_of_lt_of_le (by simp) hS)
    refine ⟨?_, fun k => ?_⟩
    · generalize (∑ k, x k * x k) = S at hT hB hS
      lift S to ℝ using ⟨hT, hB⟩
      have hs : 0 ≤ S := by exact_mod_cast hS
      exact ⟨S * (1 / 1024) + e, by positivity, by push_cast; rfl⟩
    · have hk : x k * x k ≠ ⊤ := fun h => hT (top_le_iff.mp (h ▸ Finset.single_le_sum (f := fun k => x k * x k) (fun i _ => hsq i) (Finset.mem_univ k)))
      have h1 : x k ≠ ⊤ := fun h => hk (by rw [h]; rfl)
      have h2 : x k ≠ ⊥ := fun h => hk (by rw [h]; rfl)
      exact ⟨(x k).toReal, (EReal.coe_toReal h1 h2).symm⟩

/-- One entry of the gradient through a row's norm: the form that multiplies the normalised row by its mean product with the
    incoming gradient, and the form with one summand for each place the row enters. Nothing is asked of the row or of the
    incoming gradient: where the mean square is infinite both are the first summand. -/
theorem row_grad {n : ℕ} (x dn : Fin n → EReal) (a : EReal) (j : Fin n) :
    a + Ideal.rsqrt (meanSq x) * (dn j - x j * Ideal.rsqrt (meanSq x) * Ideal.div (∑ k, dn k * (x k * Ideal.rsqrt (meanSq x))) (Ideal.ofBits .f32 1149239296#32))
    = a + dn j * Ideal.rsqrt (meanSq x)
      + x j * Ideal.div ((∑ k, x k * dn k) * (Ideal.ofBits .f32 3204448256#32 * Ideal.div (Ideal.rsqrt (meanSq x)) (meanSq x))) (Ideal.ofBits .f32 1149239296#32)
      + Ideal.div ((∑ k, x k * dn k) * (Ideal.ofBits .f32 3204448256#32 * Ideal.div (Ideal.rsqrt (meanSq x)) (meanSq x))) (Ideal.ofBits .f32 1149239296#32) * x j := by
  have hL : (1024 : ℝ) ≠ 0 := by norm_num
  rcases meanSq_cases x with h | ⟨⟨v, hv, h⟩, hx⟩
  · have hd : Ideal.div 0 ⊤ = 0 := by simp [Ideal.div]
    rw [h, Ideal.rsqrt_top, hd, lanes]
    simp [div_coe_eq _ hL]
  · obtain ⟨y, hy⟩ := hx j
    have hρ : 0 ≤ (√v)⁻¹ := by positivity
    have hρ2 : (√v)⁻¹ * (1 / v) = (√v)⁻¹ * ((√v)⁻¹ * (√v)⁻¹) := by
      rw [← mul_inv, Real.mul_self_sqrt hv.le, one_div]
    have hr : Ideal.rsqrt (meanSq x) = (((√v)⁻¹ : ℝ) : EReal) := by rw [h, Ideal.rsqrt_coe, if_neg (not_lt.mpr hv.le), if_neg hv.ne']
    have hs : ∑ k, dn k * (x k * (((√v)⁻¹ : ℝ) : EReal)) = (∑ k, x k * dn k) * (((√v)⁻¹ : ℝ) : EReal) := by
      rw [sum_mul_coe _ _ hρ]
      exact Finset.sum_congr rfl fun k _ => by rw [← mul_assoc, mul_comm (dn k)]
    rw [hr, hs, h, lanes, neg_half, div_coe_eq _ hL, div_coe_eq _ hL, div_coe_eq _ hv.ne', hy]
    generalize (∑ k, x k * dn k) = T
    generalize (√v)⁻¹ = ρ at *
    rw [sub_eq_add_neg, EReal.left_distrib_of_nonneg_of_ne_top (by exact_mod_cast hρ) (EReal.coe_ne_top ρ), mul_comm (dn j), add_assoc, add_assoc]
    congr 2
    have hk : (ρ : EReal) * -((y : EReal) * ρ * (T * ρ * ((1 / 1024 : ℝ) : EReal))) = T * ((ρ * (-y * ρ * (ρ * (1 / 1024))) : ℝ) : EReal) := by
      rw [← EReal.neg_mul, ← EReal.neg_mul, ← EReal.coe_neg]; push_cast; ac_rfl
    have hz : T * (((-(1 / 2) : ℝ) : EReal) * ((ρ : EReal) * ((1 / v : ℝ) : EReal))) * ((1 / 1024 : ℝ) : EReal) * y
        = T * ((-(1 / 2) * (ρ * (1 / v)) * (1 / 1024) * y : ℝ) : EReal) := by
      push_cast; ac_rfl
    rw [hk, mul_comm (y : EReal), hz, mul_coe_add_self]
    congr 2
    rw [hρ2]
    ring

/-- One entry of the gradient through a row's norm, without a residual. -/
theorem row_grad' {n : ℕ} (x dn : Fin n → EReal) (j : Fin n) :
    Ideal.rsqrt (meanSq x) * (dn j - x j * Ideal.rsqrt (meanSq x) * Ideal.div (∑ k, dn k * (x k * Ideal.rsqrt (meanSq x))) (Ideal.ofBits .f32 1149239296#32))
    = dn j * Ideal.rsqrt (meanSq x)
      + x j * Ideal.div ((∑ k, x k * dn k) * (Ideal.ofBits .f32 3204448256#32 * Ideal.div (Ideal.rsqrt (meanSq x)) (meanSq x))) (Ideal.ofBits .f32 1149239296#32)
      + Ideal.div ((∑ k, x k * dn k) * (Ideal.ofBits .f32 3204448256#32 * Ideal.div (Ideal.rsqrt (meanSq x)) (meanSq x))) (Ideal.ofBits .f32 1149239296#32) * x j := by
  simpa only [zero_add] using row_grad x dn 0 j

end Cert.Rms
end
-- ==== Proof.Gate.lean ====
module

public import proofs.«01_k».proof.Proof.Rms

@[expose] public section

noncomputable section

open Idealize.ShloMosaic

namespace Cert.Gate

/-- Half a square's gradient averaged over the lanes: the difference times one over their number. -/
theorem loss_grad (a : EReal) : Ideal.div (Ideal.ofBits .f32 1056964608#32) (Ideal.ofBits .f32 1149239296#32) * (Ideal.ofBits .f32 1073741824#32 * a)
    = a * Ideal.ofBits .f32 981467136#32 := by
  have h2 : Ideal.ofBits .f32 1073741824#32 = ((2 : ℝ) : EReal) := by simp [Ideal.ofBits, Ideal.ieee, -EReal.coe_mul]; norm_num
  have hh : Ideal.ofBits .f32 1056964608#32 = ((1 / 2 : ℝ) : EReal) := by simp [Ideal.ofBits, Ideal.ieee, -EReal.coe_mul]; norm_num
  have hi : Ideal.ofBits .f32 981467136#32 = ((1 / 1024 : ℝ) : EReal) := by simp [Ideal.ofBits, Ideal.ieee, -EReal.coe_mul]; norm_num
  rw [h2, hh, hi, Rms.lanes, Rms.div_coe_eq _ (by norm_num), ← EReal.coe_mul, ← mul_assoc, ← EReal.coe_mul, mul_comm a]
  norm_num

/-- The logistic function, as both programs write it. -/
def sig (g : EReal) : EReal := Ideal.div (1) (1 + Ideal.exp (-g))

theorem sig_top : sig ⊤ = 1 := by
  simp [sig, Ideal.div]

theorem sig_bot : sig ⊥ = 0 := by
  simp [sig, Ideal.div, EReal.add_top_of_ne_bot (show (1 : EReal) ≠ ⊥ by decide)]

/-- At a real it is a real that is not zero. -/
theorem sig_coe (g : ℝ) : ∃ s : ℝ, s ≠ 0 ∧ sig (g : EReal) = (s : EReal) := by
  have h : (1 : ℝ) + Real.exp (-g) ≠ 0 := by positivity
  refine ⟨1 * (1 / (1 + Real.exp (-g))), by positivity, ?_⟩
  rw [sig, ← EReal.coe_one, ← EReal.coe_neg, Ideal.exp_coe, ← EReal.coe_add, Rms.div_coe_eq _ h, ← EReal.coe_mul]

/-- The gate's gradient in one product and in two summands: equal where the gradient that reaches it is a real, and at zero and
    the two infinities whatever reaches it. -/
theorem silu_grad (T g : EReal) (h : (∃ r : ℝ, T = (r : EReal)) ∨ g = 0 ∨ g = ⊤ ∨ g = ⊥) :
    T * (sig g * (1 + g * (1 - sig g)))
    = T * sig g + g * T * (sig g * (1 - sig g)) := by
  induction g using EReal.rec with
  | bot => simp [sig_bot]
  | top => simp [sig_top, EReal.sub_self (show (1 : EReal) ≠ ⊤ by decide) (by decide)]
  | coe g =>
    obtain ⟨s, hs, hg⟩ := sig_coe g
    rw [hg]
    rcases h with ⟨r, rfl⟩ | h | h | h
    · norm_cast
      ring
    · rw [h]
      simp
    · exact absurd h (EReal.coe_ne_top g)
    · exact absurd h (EReal.coe_ne_bot g)

/-- Neither infinity. -/
def IsReal (a : EReal) : Prop := ∃ r : ℝ, a = (r : EReal)

theorem IsReal.add {a b : EReal} : IsReal a → IsReal b → IsReal (a + b) := by
  rintro ⟨r, rfl⟩ ⟨s, rfl⟩; exact ⟨r + s, by norm_cast⟩

theorem IsReal.mul {a b : EReal} : IsReal a → IsReal b → IsReal (a * b) := by
  rintro ⟨r, rfl⟩ ⟨s, rfl⟩; exact ⟨r * s, by norm_cast⟩

theorem IsReal.sub {a b : EReal} : IsReal a → IsReal b → IsReal (a - b) := by
  rintro ⟨r, rfl⟩ ⟨s, rfl⟩; exact ⟨r - s, by norm_cast⟩

theorem IsReal.sum {ι : Type} (s : Finset ι) {f : ι → EReal} (h : ∀ i ∈ s, IsReal (f i)) : IsReal (∑ i ∈ s, f i) :=
  Finset.sum_induction f IsReal (fun _ _ => IsReal.add) ⟨0, rfl⟩ h

theorem IsReal.of_add {a b : EReal} (h : IsReal (a + b)) : IsReal a ∧ IsReal b := by
  obtain ⟨r, h⟩ := h
  induction a using EReal.rec <;> induction b using EReal.rec <;> simp_all [IsReal]

/-- The summands of a sum that is a real are reals. -/
theorem IsReal.of_sum {ι : Type} (s : Finset ι) {f : ι → EReal} (h : IsReal (∑ i ∈ s, f i)) : ∀ i ∈ s, IsReal (f i) := by
  classical
  induction s using Finset.induction_on with
  | empty => simp
  | insert a s ha ih =>
    rw [Finset.sum_insert ha] at h
    intro i hi
    rcases Finset.mem_insert.mp hi with rfl | hi
    · exact h.of_add.1
    · exact ih h.of_add.2 i hi

/-- A factor of a product that is a real is a real, if the other factor is not zero. -/
theorem IsReal.of_mul {a b : EReal} (h : IsReal (a * b)) (ha : a ≠ 0) : IsReal b := by
  obtain ⟨r, h⟩ := h
  induction b using EReal.rec with
  | coe b => exact ⟨b, rfl⟩
  | top =>
    exfalso
    rcases lt_or_gt_of_ne ha with h' | h'
    · simp [EReal.mul_top_of_neg h'] at h
    · simp [EReal.mul_top_of_pos h'] at h
  | bot =>
    exfalso
    rcases lt_or_gt_of_ne ha with h' | h'
    · simp [EReal.mul_bot_of_neg h'] at h
    · simp [EReal.mul_bot_of_pos h'] at h

/-- What reaches the gate from a row. `u` and `g` the two products of lane `l`, `w` the down weights, `df` the gradient of the
    row's output, real whenever that output is: then what reaches the gate is a real, or the gate is zero or infinite. -/
theorem reach {n k : ℕ} (u g : Fin n → EReal) (w : Fin n → Fin k → EReal) (df : Fin k → EReal)
    (hf : (∀ j, df j = 0) ∨ (∀ j, IsReal (df j)) ∧ ∀ j, IsReal (∑ l, g l * sig (g l) * u l * w l j)) (l : Fin n) :
    (∃ r : ℝ, (∑ j, df j * w l j) * u l = (r : EReal)) ∨ g l = 0 ∨ g l = ⊤ ∨ g l = ⊥ := by
  rcases hf with h | ⟨hd, hf⟩
  · left
    exact ⟨0, by simp [h]⟩
  by_cases hg : g l = 0 ∨ g l = ⊤ ∨ g l = ⊥
  · exact .inr hg
  left
  push Not at hg
  lift g l to ℝ using ⟨hg.2.1, hg.2.2⟩ with γ hγ
  obtain ⟨s, hs, hsg⟩ := sig_coe γ
  have hne : (γ : EReal) * (s : EReal) ≠ 0 := mul_ne_zero hg.1 (by exact_mod_cast hs)
  have hm : ∀ j, IsReal ((γ : EReal) * (s : EReal) * u l * w l j) := fun j => by
    have := IsReal.of_sum _ (hf j) l (Finset.mem_univ l)
    rwa [← hγ, hsg] at this
  by_cases hu : u l = 0
  · exact ⟨0, by simp [hu]⟩
  by_cases hr : IsReal (u l)
  · refine IsReal.mul (IsReal.sum _ fun j _ => IsReal.mul (hd j) ?_) hr
    exact (hm j).of_mul (mul_ne_zero hne hu)
  · have hw : ∀ j, w l j = 0 := fun j => by
      by_contra hw
      have h1 := hm j
      rw [mul_comm] at h1
      exact hr ((h1.of_mul hw).of_mul hne)
    exact ⟨0, by simp [hw]⟩

/-- What reaches the gate, from the row the network starts at: the row `x` with its target `t` and the gain `gp` of the second
    norm, the target and the gain finite. `f` is the network's output, `d` the loss's gradient, `df` that of the output. -/
theorem reach_net {n k : ℕ} (x t gp gpre f d df : Fin k → EReal) (u g : Fin n → EReal) (a : Fin k → Fin n → EReal) (w : Fin n → Fin k → EReal)
    (ht : ∀ j, IsReal (t j)) (hg : ∀ j, IsReal (gp j))
    (hu : ∀ l, u l = ∑ j, x j * Ideal.rsqrt (Rms.meanSq x) * gpre j * a j l)
    (hf : ∀ j, f j = ∑ l, g l * sig (g l) * u l * w l j)
    (hd : ∀ j, d j = (x j + f j * Ideal.rsqrt (Rms.meanSq f) * gp j - t j) * Ideal.ofBits .f32 981467136#32)
    (hdf : ∀ j, df j = Ideal.rsqrt (Rms.meanSq f) * (d j * gp j - f j * Ideal.rsqrt (Rms.meanSq f)
      * Ideal.div (∑ k, d k * gp k * (f k * Ideal.rsqrt (Rms.meanSq f))) (Ideal.ofBits .f32 1149239296#32))) (l : Fin n) :
    (∃ r : ℝ, (∑ j, df j * w l j) * u l = (r : EReal)) ∨ g l = 0 ∨ g l = ⊤ ∨ g l = ⊥ := by
  rcases Rms.meanSq_cases x with h | ⟨-, hx⟩
  · left
    exact ⟨0, by simp [hu, h, Ideal.rsqrt_top]⟩
  refine reach u g w df ?_ l
  rcases Rms.meanSq_cases f with h | ⟨⟨v, hv, h⟩, hr⟩
  · left
    intro j
    rw [hdf, h, Ideal.rsqrt_top, zero_mul]
  · right
    replace hx : ∀ j, IsReal (x j) := hx
    replace hr : ∀ j, IsReal (f j) := hr
    have hs : IsReal (Ideal.rsqrt (Rms.meanSq f)) := by exact ⟨(√v)⁻¹, by rw [h, Ideal.rsqrt_coe, if_neg (not_lt.mpr hv.le), if_neg hv.ne']⟩
    have hi : Ideal.ofBits .f32 981467136#32 = ((1 / 1024 : ℝ) : EReal) := by simp [Ideal.ofBits, Ideal.ieee, -EReal.coe_mul]; norm_num
    have hdr : ∀ j, IsReal (d j * gp j) := fun j => by
      rw [hd, hi]
      exact (((hx j).add (((hr j).mul hs).mul (hg j))).sub (ht j)).mul ⟨_, rfl⟩ |>.mul (hg j)
    refine ⟨fun j => ?_, fun j => by rw [← hf]; exact hr j⟩
    rw [hdf, Rms.lanes, Rms.div_coe_eq _ (by norm_num)]
    exact hs.mul ((hdr j).sub (((hr j).mul hs).mul ((IsReal.sum _ fun k _ => (hdr k).mul ((hr k).mul hs)).mul ⟨_, rfl⟩)))

end Cert.Gate
end
-- ==== Proof.Soft.lean ====
module

public import proofs.«01_k».proof.Proof.Gate

@[expose] public section

noncomputable section

open Idealize.ShloMosaic

namespace Cert.Soft

open Cert.Gate

/-- The larger of two reals is a real. -/
theorem IsReal.max {a b : EReal} : IsReal a → IsReal b → IsReal (max a b) := by
  rintro ⟨r, rfl⟩ ⟨s, rfl⟩
  rcases le_total (r : EReal) (s : EReal) with h | h
  · exact ⟨s, max_eq_right h⟩
  · exact ⟨r, max_eq_left h⟩

/-- The largest of finitely many reals and minus infinity is minus infinity, or a real. -/
theorem fold_max {ι : Type} (s : Finset ι) (f : ι → EReal) (h : ∀ i, IsReal (f i)) : s.fold max ⊥ f = ⊥ ∧ s = ∅ ∨ IsReal (s.fold max ⊥ f) := by
  classical
  induction s using Finset.induction_on with
  | empty => exact .inl ⟨rfl, rfl⟩
  | insert a s ha ih =>
    right
    rw [Finset.fold_insert ha]
    rcases ih with ih | ih
    · rw [ih.1, max_eq_left bot_le]; exact h a
    · exact IsReal.max (h a) ih

/-- A row's exponentials above any real, when the row is of reals: they and their sum are reals above zero. -/
theorem exp_row {n : Nat} (s : Fin n → EReal) (M : EReal) (hs : ∀ k, IsReal (s k)) (hM : IsReal M) :
    ∃ e : Fin n → ℝ, (∀ k, 0 < e k) ∧ (∀ k, Ideal.exp (s k - M) = (e k : EReal)) ∧ ∑ k, Ideal.exp (s k - M) = ((∑ k, e k : ℝ) : EReal) := by
  obtain ⟨M, rfl⟩ := hM
  choose s' hs' using hs
  have h : ∀ k, Ideal.exp (s k - (M : EReal)) = ((Real.exp (s' k - M) : ℝ) : EReal) := fun k => by
    rw [hs', ← EReal.coe_sub, Ideal.exp_coe]
  exact ⟨fun k => Real.exp (s' k - M), fun k => Real.exp_pos _, h, by
    rw [Finset.sum_congr rfl fun k _ => h k]
    exact (map_sum ({ toFun := Real.toEReal, map_zero' := rfl, map_add' := EReal.coe_add } : ℝ →+ EReal) _ _).symm⟩

/-- The gradient of a softmax, in the form the kernel has (the weights times the row's gradient less its mean under the weights) and in the form of the
quotient rule, agree on a row of real scores, whatever the row's gradient. -/
theorem soft_grad {n : Nat} (s d : Fin n → EReal) (M : EReal) (hs : ∀ k, IsReal (s k)) (hM : IsReal M) (j : Fin n) :
    Ideal.div (Ideal.exp (s j - M)) (∑ k, Ideal.exp (s k - M)) * (d j - ∑ k, d k * Ideal.div (Ideal.exp (s k - M)) (∑ l, Ideal.exp (s l - M)))
      = (Ideal.div (d j) (∑ k, Ideal.exp (s k - M))
          + -(∑ k, d k * Ideal.div 1 ((∑ l, Ideal.exp (s l - M)) * ∑ l, Ideal.exp (s l - M)) * Ideal.exp (s k - M))) * Ideal.exp (s j - M) := by
  obtain ⟨e, he, hE, hL⟩ := exp_row s M hs hM
  have hl : 0 < ∑ k, e k := Finset.sum_pos (fun k _ => he k) ⟨j, Finset.mem_univ j⟩
  rw [hL]
  simp only [hE]
  set L := ∑ k, e k
  have hi : (0 : ℝ) ≤ 1 / L := by positivity
  rw [← EReal.coe_mul, Rms.div_coe_eq 1 (by positivity : L * L ≠ 0), one_mul]
  simp only [Rms.div_coe_eq _ hl.ne']
  have h1 : ∑ k, d k * ((e k : EReal) * ((1 / L : ℝ) : EReal)) = (∑ k, d k * (e k : EReal)) * ((1 / L : ℝ) : EReal) := by
    rw [Rms.sum_mul_coe _ _ hi]; exact Finset.sum_congr rfl fun k _ => (mul_assoc _ _ _).symm
  have h2 : ∑ k, d k * ((1 / (L * L) : ℝ) : EReal) * (e k : EReal) = (∑ k, d k * (e k : EReal)) * ((1 / L : ℝ) : EReal) * ((1 / L : ℝ) : EReal) := by
    rw [mul_assoc, ← EReal.coe_mul, Rms.sum_mul_coe _ _ (by positivity)]
    refine Finset.sum_congr rfl fun k _ => ?_
    rw [mul_right_comm]; congr 2; norm_cast; field_simp
  rw [h1, h2, sub_eq_add_neg]
  generalize (∑ k, d k * (e k : EReal)) * ((1 / L : ℝ) : EReal) = X
  rw [← EReal.neg_mul X, ← EReal.right_distrib_of_nonneg_of_ne_top (by exact_mod_cast hi) (EReal.coe_ne_top _), mul_comm, mul_assoc, mul_comm ((1 / L : ℝ) : EReal)]

/-- The largest entry of a row. -/
def peak {n : Nat} (s : Fin n → EReal) : EReal := Finset.univ.fold max ⊥ s

/-- The softmax of a row. -/
def soft {n : Nat} (s : Fin n → EReal) (j : Fin n) : EReal := Ideal.div (Ideal.exp (s j - peak s)) (∑ k, Ideal.exp (s k - peak s))

/-- The gradient at a row whose softmax has the gradient `d`. -/
def softGrad {n : Nat} (s d : Fin n → EReal) (j : Fin n) : EReal := soft s j * (d j - ∑ k, d k * soft s k)

theorem softGrad_eq {n : Nat} (s d : Fin n → EReal) (hs : ∀ k, IsReal (s k)) (hn : 0 < n) (j : Fin n) :
    softGrad s d j = (Ideal.div (d j) (∑ k, Ideal.exp (s k - peak s))
      + -(∑ k, d k * Ideal.div 1 ((∑ l, Ideal.exp (s l - peak s)) * ∑ l, Ideal.exp (s l - peak s)) * Ideal.exp (s k - peak s))) * Ideal.exp (s j - peak s) := by
  have hM : IsReal (peak s) := by
    rcases fold_max Finset.univ s hs with ⟨_, h⟩ | h
    · exact absurd (h ▸ Finset.mem_univ (⟨0, hn⟩ : Fin n)) (Finset.notMem_empty _)
    · exact h
  exact soft_grad s d (peak s) hs hM j

end Cert.Soft
end
-- ==== Proof.AttnRef.lean ====
module

public import proofs.«01_k».proof.Proof.Gen.ReferenceAttnIdeal.Read
public import proofs.«01_k».proof.Proof.Soft
public import Idealize.ShloMosaic.Lib.Pointwise

@[expose] public section

set_option maxRecDepth 16384

noncomputable section

open Idealize.ShloMosaic Idealize.ShloMosaic.TcCoe Idealize.SL.Sem

namespace Cert.ReferenceAttnIdeal.Read

open Cert.ReferenceAttnIdeal

/-- The column of the whole width at which head `h` has its entry `d`. -/
def col (h : Fin 4) (d : Fin 256) : Fin 1024 := ⟨h.val * 256 + d.val, by have := h.isLt; have := d.isLt; omega⟩

theorem col_cases (j : Fin 1024) : ∃ h d, j = col h d :=
  ⟨⟨j.val / 256, by have := j.isLt; omega⟩, ⟨j.val % 256, by omega⟩, Fin.ext (by simp only [col]; omega)⟩

/-- A sixteenth: the scale of the scores. -/
abbrev sixteenth : EReal := Ideal.ofBits .f32 1031798784#32

variable (x0 : (⟨ReferenceAttnIdeal.S16384x1024, .f32⟩ : BufTy).Contents (Elt Ideal)) (x1 : (⟨ReferenceAttnIdeal.S16384x1024, .f32⟩ : BufTy).Contents (Elt Ideal)) (x2 : (⟨ReferenceAttnIdeal.S1024x1024, .f32⟩ : BufTy).Contents (Elt Ideal)) (x3 : (⟨ReferenceAttnIdeal.S1024, .f32⟩ : BufTy).Contents (Elt Ideal)) (x4 : (⟨ReferenceAttnIdeal.S1024, .f32⟩ : BufTy).Contents (Elt Ideal)) (x5 : (⟨ReferenceAttnIdeal.S1024x1024, .f32⟩ : BufTy).Contents (Elt Ideal)) (x6 : (⟨ReferenceAttnIdeal.S256x1024, .f32⟩ : BufTy).Contents (Elt Ideal)) (x7 : (⟨ReferenceAttnIdeal.S256x1024, .f32⟩ : BufTy).Contents (Elt Ideal)) (x8 : (⟨ReferenceAttnIdeal.S1024x1024, .f32⟩ : BufTy).Contents (Elt Ideal)) (x9 : (⟨ReferenceAttnIdeal.S1024, .f32⟩ : BufTy).Contents (Elt Ideal)) (x10 : (⟨ReferenceAttnIdeal.S16384x1024, .f32⟩ : BufTy).Contents (Elt Ideal))

/-- The head's entry, in the whole width. -/
theorem split_v38 (h : Fin 4) (r : Fin 16384) (d : Fin 256) : val_main_v38 (F := Ideal) x0 x1 x2 x3 x4 x5 (ix3 r h d) = val_main_v37 (F := Ideal) x0 x1 x2 x3 x4 x5 (ix2 r (col h d)) := by
  rw [val_main_v38_apply]
  congr 1
  funext a
  match a with
  | ⟨0, _⟩ => exact Fin.ext (by have := h.isLt; have := d.isLt; show ((r.val * 4 + h.val) * 256 + d.val) / 1024 = r.val; omega)
  | ⟨1, _⟩ => exact Fin.ext (by have := h.isLt; have := d.isLt; show ((r.val * 4 + h.val) * 256 + d.val) % 1024 = h.val * 256 + d.val; omega)

/-- The head's entry, in the whole width. -/
theorem split_v117 (h : Fin 4) (r : Fin 16384) (d : Fin 256) : val_main_v117 (F := Ideal) x0 x1 x2 x3 x4 x5 x6 x7 x8 x9 x10 (ix3 r h d) = val_main_v116 (F := Ideal) x0 x1 x2 x3 x4 x5 x6 x7 x8 x9 x10 (ix2 r (col h d)) := by
  rw [val_main_v117_apply]
  congr 1
  funext a
  match a with
  | ⟨0, _⟩ => exact Fin.ext (by have := h.isLt; have := d.isLt; show ((r.val * 4 + h.val) * 256 + d.val) / 1024 = r.val; omega)
  | ⟨1, _⟩ => exact Fin.ext (by have := h.isLt; have := d.isLt; show ((r.val * 4 + h.val) * 256 + d.val) % 1024 = h.val * 256 + d.val; omega)

/-- The head's entry, in the whole width. -/
theorem split_v39 (h : Fin 4) (j d : Fin 256) : val_main_v39 (F := Ideal) x6 (ix3 j h d) = x6 (ix2 j (col h d)) := by
  rw [val_main_v39_apply]
  congr 1
  funext a
  match a with
  | ⟨0, _⟩ => exact Fin.ext (by have := h.isLt; have := d.isLt; show ((j.val * 4 + h.val) * 256 + d.val) / 1024 = j.val; omega)
  | ⟨1, _⟩ => exact Fin.ext (by have := h.isLt; have := d.isLt; show ((j.val * 4 + h.val) * 256 + d.val) % 1024 = h.val * 256 + d.val; omega)

/-- The head's entry, in the whole width. -/
theorem split_v40 (h : Fin 4) (j d : Fin 256) : val_main_v40 (F := Ideal) x7 (ix3 j h d) = x7 (ix2 j (col h d)) := by
  rw [val_main_v40_apply]
  congr 1
  funext a
  match a with
  | ⟨0, _⟩ => exact Fin.ext (by have := h.isLt; have := d.isLt; show ((j.val * 4 + h.val) * 256 + d.val) / 1024 = j.val; omega)
  | ⟨1, _⟩ => exact Fin.ext (by have := h.isLt; have := d.isLt; show ((j.val * 4 + h.val) * 256 + d.val) % 1024 = h.val * 256 + d.val; omega)

/-- The whole width's entry, in its head. -/
theorem join_v140 (h : Fin 4) (m d : Fin 256) : val_main_v140 (F := Ideal) x0 x1 x2 x3 x4 x5 x6 x7 x8 x9 x10 (ix2 m (col h d)) = val_main_v121 (F := Ideal) x0 x1 x2 x3 x4 x5 x6 x7 x8 x9 x10 (ix3 m h d) := by
  rw [val_main_v140_apply]
  congr 1
  funext a
  match a with
  | ⟨0, _⟩ => exact Fin.ext (by have := h.isLt; have := d.isLt; show (m.val * 1024 + (h.val * 256 + d.val)) / 1024 = m.val; omega)
  | ⟨1, _⟩ => exact Fin.ext (by have := h.isLt; have := d.isLt; show (m.val * 1024 + (h.val * 256 + d.val)) / 256 % 4 = h.val; omega)
  | ⟨2, _⟩ => exact Fin.ext (by have := h.isLt; have := d.isLt; show (m.val * 1024 + (h.val * 256 + d.val)) % 256 = d.val; omega)

/-- The whole width's entry, in its head. -/
theorem join_v141 (h : Fin 4) (m d : Fin 256) : val_main_v141 (F := Ideal) x0 x1 x2 x3 x4 x5 x6 x7 x8 x9 x10 (ix2 m (col h d)) = val_main_v137 (F := Ideal) x0 x1 x2 x3 x4 x5 x6 x7 x8 x9 x10 (ix3 m h d) := by
  rw [val_main_v141_apply]
  congr 1
  funext a
  match a with
  | ⟨0, _⟩ => exact Fin.ext (by have := h.isLt; have := d.isLt; show (m.val * 1024 + (h.val * 256 + d.val)) / 1024 = m.val; omega)
  | ⟨1, _⟩ => exact Fin.ext (by have := h.isLt; have := d.isLt; show (m.val * 1024 + (h.val * 256 + d.val)) / 256 % 4 = h.val; omega)
  | ⟨2, _⟩ => exact Fin.ext (by have := h.isLt; have := d.isLt; show (m.val * 1024 + (h.val * 256 + d.val)) % 256 = d.val; omega)

/-- The whole width's entry, in its head. -/
theorem join_v142 (h : Fin 4) (r : Fin 16384) (d : Fin 256) : val_main_v142 (F := Ideal) x0 x1 x2 x3 x4 x5 x6 x7 x8 x9 x10 (ix2 r (col h d)) = val_main_v139 (F := Ideal) x0 x1 x2 x3 x4 x5 x6 x7 x8 x9 x10 (ix3 r h d) := by
  rw [val_main_v142_apply]
  congr 1
  funext a
  match a with
  | ⟨0, _⟩ => exact Fin.ext (by have := h.isLt; have := d.isLt; show (r.val * 1024 + (h.val * 256 + d.val)) / 1024 = r.val; omega)
  | ⟨1, _⟩ => exact Fin.ext (by have := h.isLt; have := d.isLt; show (r.val * 1024 + (h.val * 256 + d.val)) / 256 % 4 = h.val; omega)
  | ⟨2, _⟩ => exact Fin.ext (by have := h.isLt; have := d.isLt; show (r.val * 1024 + (h.val * 256 + d.val)) % 256 = d.val; omega)

/-- The gradients are taken at zero added to the product: the product itself. -/
theorem eq2 : val_main_v2 (F := Ideal) x1 x2 = val_main_v1 (F := Ideal) x1 x2 := by
  funext i
  obtain ⟨i0, i1, rfl⟩ : ∃ i0 i1, i = ix2 i0 i1 := ⟨i 0, i 1, by funext a; match a with | ⟨0, _⟩ => rfl | ⟨1, _⟩ => rfl⟩
  show HAdd.hAdd (α := EReal) (β := EReal) (γ := EReal) (val_main_v1 (F := Ideal) x1 x2 (ix2 i0 i1)) (val_main_v0 (F := Ideal) (ix2 i0 i1)) = _
  have hz : val_main_v0 (F := Ideal) (ix2 i0 i1) = (0 : EReal) := by pointwise [val_main_v0, val_main_cst]
  rw [hz]
  exact add_zero (M := EReal) _

/-- The gradients are taken at zero added to the product: the product itself. -/
theorem eq37 : val_main_v37 (F := Ideal) x0 x1 x2 x3 x4 x5 = val_main_v36 (F := Ideal) x0 x1 x2 x3 x4 x5 := by
  funext i
  obtain ⟨i0, i1, rfl⟩ : ∃ i0 i1, i = ix2 i0 i1 := ⟨i 0, i 1, by funext a; match a with | ⟨0, _⟩ => rfl | ⟨1, _⟩ => rfl⟩
  show HAdd.hAdd (α := EReal) (β := EReal) (γ := EReal) (val_main_v36 (F := Ideal) x0 x1 x2 x3 x4 x5 (ix2 i0 i1)) (val_main_v0 (F := Ideal) (ix2 i0 i1)) = _
  have hz : val_main_v0 (F := Ideal) (ix2 i0 i1) = (0 : EReal) := by pointwise [val_main_v0, val_main_cst]
  rw [hz]
  exact add_zero (M := EReal) _

/-- The gradients are taken at zero added to the product: the product itself. -/
theorem eq76 : val_main_v76 (F := Ideal) x0 x1 x2 x3 x4 x5 x6 x7 x8 = val_main_v75 (F := Ideal) x0 x1 x2 x3 x4 x5 x6 x7 x8 := by
  funext i
  obtain ⟨i0, i1, rfl⟩ : ∃ i0 i1, i = ix2 i0 i1 := ⟨i 0, i 1, by funext a; match a with | ⟨0, _⟩ => rfl | ⟨1, _⟩ => rfl⟩
  show HAdd.hAdd (α := EReal) (β := EReal) (γ := EReal) (val_main_v75 (F := Ideal) x0 x1 x2 x3 x4 x5 x6 x7 x8 (ix2 i0 i1)) (val_main_v0 (F := Ideal) (ix2 i0 i1)) = _
  have hz : val_main_v0 (F := Ideal) (ix2 i0 i1) = (0 : EReal) := by pointwise [val_main_v0, val_main_cst]
  rw [hz]
  exact add_zero (M := EReal) _

/-- Minus infinity. -/
theorem ofBits_bot : Ideal.ofBits .f32 4286578688#32 = ⊥ := by simp [Ideal.ofBits, Ideal.ieee]

theorem scores (h : Fin 4) (r : Fin 16384) (j : Fin 256) : val_main_v43 (F := Ideal) x0 x1 x2 x3 x4 x5 x6 (ix3 h r j)
      = HMul.hMul (α := EReal) (β := EReal) (γ := EReal) (∑ d : Fin 256, HMul.hMul (α := EReal) (β := EReal) (γ := EReal) (val_main_v37 (F := Ideal) x0 x1 x2 x3 x4 x5 (ix2 r (col h d))) (x6 (ix2 j (col h d)))) sixteenth := by
  pointwise [val_main_v43, val_main_v42, val_main_v41, val_main_cst_8]
  simp only [split_v38, split_v39]

theorem ofBits_low : FloatOps.ofBits (F := Ideal) .f32 0xFF800000#32 = (⊥ : EReal) := ofBits_bot

theorem max_of (a b : EReal) : FloatOps.maximumf (F := Ideal) (φ := .f32) a b = max a b := rfl

/-- The largest entry of each row. -/
theorem max_rows (y : (⟨S4x16384x256, .f32⟩ : BufTy).Contents (Elt Ideal)) (h : Fin 4) (r : Fin 16384) :
    Host.reduce (FloatOps.maximumf (F := Ideal) (φ := .f32)) y (val_main_cst_9 (F := Ideal)) Gen.reducesTo_S4x16384x256_S4x16384_d2 Gen.h_S_ (ix2 h r)
      = Cert.Soft.peak fun k : Fin 256 => y (ix3 h r k) := by
  pointwise [val_main_cst_9]
  rw [ofBits_bot]
  rfl

/-- The number a row of scores is taken relative to. -/
theorem tops (h : Fin 4) (r : Fin 16384) : val_main_v51 (F := Ideal) x0 x1 x2 x3 x4 x5 x6 (ix2 h r)
      = max ⊥ (val_main_v44 (F := Ideal) x0 x1 x2 x3 x4 x5 x6 (ix2 h r)) := by
  rw [val_main_v51_apply, val_main_v50_apply, val_main_cst_11_apply, ofBits_low, max_of]

theorem exps_top (h : Fin 4) (r : Fin 16384) (j : Fin 256) : val_main_v64 (F := Ideal) x0 x1 x2 x3 x4 x5 x6 (ix3 h r j)
      = Ideal.exp (val_main_v43 (F := Ideal) x0 x1 x2 x3 x4 x5 x6 (ix3 h r j) - val_main_v51 (F := Ideal) x0 x1 x2 x3 x4 x5 x6 (ix2 h r)) := by
  pointwise [val_main_v64, val_main_v63, val_main_v62, val_main_v61]

theorem row_top (h : Fin 4) (r : Fin 16384) : val_main_v44 (F := Ideal) x0 x1 x2 x3 x4 x5 x6 (ix2 h r)
      = Cert.Soft.peak fun k : Fin 256 => val_main_v43 (F := Ideal) x0 x1 x2 x3 x4 x5 x6 (ix3 h r k) := by
  unfold val_main_v44
  exact max_rows _ h r

/-- The exponential of a score relative to the largest one of its row. -/
theorem exps (h : Fin 4) (r : Fin 16384) (j : Fin 256) : val_main_v64 (F := Ideal) x0 x1 x2 x3 x4 x5 x6 (ix3 h r j)
      = Ideal.exp (val_main_v43 (F := Ideal) x0 x1 x2 x3 x4 x5 x6 (ix3 h r j) - Cert.Soft.peak fun k : Fin 256 => val_main_v43 (F := Ideal) x0 x1 x2 x3 x4 x5 x6 (ix3 h r k)) := by
  rw [exps_top, tops, row_top, bot_sup_eq]

theorem weights (h : Fin 4) (r : Fin 16384) (j : Fin 256) : val_main_v68 (F := Ideal) x0 x1 x2 x3 x4 x5 x6 (ix3 h r j)
      = Cert.Soft.soft (fun k : Fin 256 => val_main_v43 (F := Ideal) x0 x1 x2 x3 x4 x5 x6 (ix3 h r k)) j := by
  pointwise [val_main_v68, val_main_v67, val_main_v66, val_main_v65, val_main_cst_17]
  simp only [exps]
  first | done | rfl

theorem reach (h : Fin 4) (r : Fin 16384) (j : Fin 256) : val_main_v119 (F := Ideal) x0 x1 x2 x3 x4 x5 x6 x7 x8 x9 x10 (ix3 h r j)
      = ∑ d : Fin 256, HMul.hMul (α := EReal) (β := EReal) (γ := EReal) (val_main_v116 (F := Ideal) x0 x1 x2 x3 x4 x5 x6 x7 x8 x9 x10 (ix2 r (col h d))) (x7 (ix2 j (col h d))) := by
  pointwise [val_main_v119, val_main_v118]
  simp only [split_v117, split_v40]

/-- The gradient at a score, where the scores of the row are finite. -/
theorem score_grad (h : Fin 4) (r : Fin 16384) (j : Fin 256) (hs : ∀ k : Fin 256, Cert.Gate.IsReal (val_main_v43 (F := Ideal) x0 x1 x2 x3 x4 x5 x6 (ix3 h r k))) :
    val_main_v135 (F := Ideal) x0 x1 x2 x3 x4 x5 x6 x7 x8 x9 x10 (ix3 h r j)
      = HMul.hMul (α := EReal) (β := EReal) (γ := EReal) (Cert.Soft.softGrad (fun k : Fin 256 => val_main_v43 (F := Ideal) x0 x1 x2 x3 x4 x5 x6 (ix3 h r k)) (fun k : Fin 256 => val_main_v119 (F := Ideal) x0 x1 x2 x3 x4 x5 x6 x7 x8 x9 x10 (ix3 h r k)) j) sixteenth := by
  rw [Cert.Soft.softGrad_eq _ _ hs (by decide)]
  pointwise [val_main_v135, val_main_v134, val_main_v133, val_main_v132, val_main_v131, val_main_v130, val_main_v129, val_main_v128, val_main_v127, val_main_v126, val_main_v125, val_main_v124, val_main_v123, val_main_v122, val_main_v71, val_main_v70, val_main_v69, val_main_v68, val_main_v67, val_main_v66, val_main_v65, val_main_cst_17, val_main_cst_18, val_main_cst_28, val_main_cst_29, val_main_cst_30]
  simp only [exps, Fin.sum_univ_one]
  first | done | rfl

theorem value_grad (h : Fin 4) (m d : Fin 256) : val_main_v140 (F := Ideal) x0 x1 x2 x3 x4 x5 x6 x7 x8 x9 x10 (ix2 m (col h d))
      = ∑ r : Fin 16384, HMul.hMul (α := EReal) (β := EReal) (γ := EReal) (val_main_v116 (F := Ideal) x0 x1 x2 x3 x4 x5 x6 x7 x8 x9 x10 (ix2 r (col h d))) (val_main_v68 (F := Ideal) x0 x1 x2 x3 x4 x5 x6 (ix3 h r m)) := by
  rw [join_v140]
  pointwise [val_main_v121, val_main_v120, val_main_v118]
  simp only [split_v117]

theorem key_grad (h : Fin 4) (m d : Fin 256) : val_main_v141 (F := Ideal) x0 x1 x2 x3 x4 x5 x6 x7 x8 x9 x10 (ix2 m (col h d))
      = ∑ r : Fin 16384, HMul.hMul (α := EReal) (β := EReal) (γ := EReal) (val_main_v135 (F := Ideal) x0 x1 x2 x3 x4 x5 x6 x7 x8 x9 x10 (ix3 h r m)) (val_main_v37 (F := Ideal) x0 x1 x2 x3 x4 x5 (ix2 r (col h d))) := by
  rw [join_v141]
  pointwise [val_main_v137, val_main_v136]
  simp only [split_v38]

theorem query_grad (h : Fin 4) (r : Fin 16384) (d : Fin 256) : val_main_v142 (F := Ideal) x0 x1 x2 x3 x4 x5 x6 x7 x8 x9 x10 (ix2 r (col h d))
      = ∑ j : Fin 256, HMul.hMul (α := EReal) (β := EReal) (γ := EReal) (val_main_v135 (F := Ideal) x0 x1 x2 x3 x4 x5 x6 x7 x8 x9 x10 (ix3 h r j)) (x6 (ix2 j (col h d))) := by
  rw [join_v142]
  pointwise [val_main_v139, val_main_v138]
  simp only [split_v39]

end Cert.ReferenceAttnIdeal.Read
end
-- ==== Proof.AfwdRef.lean ====
module

public import proofs.«01_k».proof.Proof.Gen.ReferenceAfwdIdeal.Read
public import proofs.«01_k».proof.Proof.AttnRef

@[expose] public section

set_option maxRecDepth 16384

noncomputable section

open Idealize.ShloMosaic Idealize.ShloMosaic.TcCoe Idealize.SL.Sem

namespace Cert.ReferenceAfwdIdeal.Read

open Cert.ReferenceAfwdIdeal
open Cert.ReferenceAttnIdeal.Read (col col_cases sixteenth ofBits_bot ofBits_low max_of)

variable (x0 : (⟨S16384x1024, .f32⟩ : BufTy).Contents (Elt Ideal)) (x1 : (⟨S1024, .f32⟩ : BufTy).Contents (Elt Ideal)) (x2 : (⟨S1024x1024, .f32⟩ : BufTy).Contents (Elt Ideal)) (x3 : (⟨S256x1024, .f32⟩ : BufTy).Contents (Elt Ideal)) (x4 : (⟨S256x1024, .f32⟩ : BufTy).Contents (Elt Ideal)) (x5 : (⟨S1024x1024, .f32⟩ : BufTy).Contents (Elt Ideal)) (x6 : (⟨S1024, .f32⟩ : BufTy).Contents (Elt Ideal))

/-- The head's entry, in the whole width. -/
theorem split_v14 (h : Fin 4) (r : Fin 16384) (d : Fin 256) : val_main_v14 (F := Ideal) x0 x1 x2 (ix3 r h d) = val_main_v13 (F := Ideal) x0 x1 x2 (ix2 r (col h d)) := by
  rw [val_main_v14_apply]
  congr 1
  funext a
  match a with
  | ⟨0, _⟩ => exact Fin.ext (by have := h.isLt; have := d.isLt; show ((r.val * 4 + h.val) * 256 + d.val) / 1024 = r.val; omega)
  | ⟨1, _⟩ => exact Fin.ext (by have := h.isLt; have := d.isLt; show ((r.val * 4 + h.val) * 256 + d.val) % 1024 = h.val * 256 + d.val; omega)

/-- The head's entry, in the whole width. -/
theorem split_v15 (h : Fin 4) (j d : Fin 256) : val_main_v15 (F := Ideal) x3 (ix3 j h d) = x3 (ix2 j (col h d)) := by
  rw [val_main_v15_apply]
  congr 1
  funext a
  match a with
  | ⟨0, _⟩ => exact Fin.ext (by have := h.isLt; have := d.isLt; show ((j.val * 4 + h.val) * 256 + d.val) / 1024 = j.val; omega)
  | ⟨1, _⟩ => exact Fin.ext (by have := h.isLt; have := d.isLt; show ((j.val * 4 + h.val) * 256 + d.val) % 1024 = h.val * 256 + d.val; omega)

/-- The head's entry, in the whole width. -/
theorem split_v16 (h : Fin 4) (j d : Fin 256) : val_main_v16 (F := Ideal) x4 (ix3 j h d) = x4 (ix2 j (col h d)) := split_v15 x4 h j d

/-- The whole width's column, in its head. -/
theorem join_v33 (h : Fin 4) (r : Fin 16384) (d : Fin 256) : val_main_v33 (F := Ideal) x0 x1 x2 x3 x4 (ix2 r (col h d)) = val_main_v32 (F := Ideal) x0 x1 x2 x3 x4 (ix3 r h d) := by
  rw [val_main_v33_apply]
  congr 1
  funext a
  match a with
  | ⟨0, _⟩ => exact Fin.ext (by have := h.isLt; have := d.isLt; show (r.val * 1024 + (h.val * 256 + d.val)) / 1024 = r.val; omega)
  | ⟨1, _⟩ => exact Fin.ext (by have := h.isLt; have := d.isLt; show (r.val * 1024 + (h.val * 256 + d.val)) / 256 % 4 = h.val; omega)
  | ⟨2, _⟩ => exact Fin.ext (by have := h.isLt; have := d.isLt; show (r.val * 1024 + (h.val * 256 + d.val)) % 256 = d.val; omega)

/-- The whole width's column, in its head. -/
theorem join_v50 (h : Fin 4) (r : Fin 16384) (d : Fin 256) : val_main_v50 (F := Ideal) x0 x1 x2 (ix2 r (col h d)) = val_main_v13 (F := Ideal) x0 x1 x2 (ix2 r (col h d)) := by
  rw [← split_v14, val_main_v50_apply]
  congr 1
  funext a
  match a with
  | ⟨0, _⟩ => exact Fin.ext (by have := h.isLt; have := d.isLt; show (r.val * 1024 + (h.val * 256 + d.val)) / 1024 = r.val; omega)
  | ⟨1, _⟩ => exact Fin.ext (by have := h.isLt; have := d.isLt; show (r.val * 1024 + (h.val * 256 + d.val)) / 256 % 4 = h.val; omega)
  | ⟨2, _⟩ => exact Fin.ext (by have := h.isLt; have := d.isLt; show (r.val * 1024 + (h.val * 256 + d.val)) % 256 = d.val; omega)

theorem scores (h : Fin 4) (r : Fin 16384) (j : Fin 256) : val_main_v19 (F := Ideal) x0 x1 x2 x3 (ix3 h r j)
      = HMul.hMul (α := EReal) (β := EReal) (γ := EReal) (∑ d : Fin 256, HMul.hMul (α := EReal) (β := EReal) (γ := EReal) (val_main_v13 (F := Ideal) x0 x1 x2 (ix2 r (col h d))) (x3 (ix2 j (col h d)))) sixteenth := by
  pointwise [val_main_v19, val_main_v18, val_main_v17, val_main_cst_2]
  simp only [split_v14, split_v15]

/-- The largest entry of each row. -/
theorem row_top (h : Fin 4) (r : Fin 16384) : val_main_v20 (F := Ideal) x0 x1 x2 x3 (ix2 h r) = Cert.Soft.peak fun k : Fin 256 => val_main_v19 (F := Ideal) x0 x1 x2 x3 (ix3 h r k) := by
  unfold val_main_v20
  generalize val_main_v19 (F := Ideal) x0 x1 x2 x3 = y
  pointwise [val_main_cst_3]
  rw [ofBits_bot]
  rfl

theorem tops (h : Fin 4) (r : Fin 16384) : val_main_v22 (F := Ideal) x0 x1 x2 x3 (ix2 h r) = max ⊥ (val_main_v20 (F := Ideal) x0 x1 x2 x3 (ix2 h r)) := by
  rw [val_main_v22_apply, val_main_v21_apply, val_main_cst_4_apply, ofBits_low, max_of]

theorem exps_top (h : Fin 4) (r : Fin 16384) (j : Fin 256) : val_main_v26 (F := Ideal) x0 x1 x2 x3 (ix3 h r j)
      = Ideal.exp (val_main_v19 (F := Ideal) x0 x1 x2 x3 (ix3 h r j) - val_main_v22 (F := Ideal) x0 x1 x2 x3 (ix2 h r)) := by
  pointwise [val_main_v26, val_main_v25, val_main_v24, val_main_v23]

/-- The exponential of a score relative to the largest one of its row. -/
theorem exps (h : Fin 4) (r : Fin 16384) (j : Fin 256) : val_main_v26 (F := Ideal) x0 x1 x2 x3 (ix3 h r j)
      = Ideal.exp (val_main_v19 (F := Ideal) x0 x1 x2 x3 (ix3 h r j) - Cert.Soft.peak fun k : Fin 256 => val_main_v19 (F := Ideal) x0 x1 x2 x3 (ix3 h r k)) := by
  rw [exps_top, tops, row_top, bot_sup_eq]

theorem weights (h : Fin 4) (r : Fin 16384) (j : Fin 256) : val_main_v30 (F := Ideal) x0 x1 x2 x3 (ix3 h r j)
      = Cert.Soft.soft (fun k : Fin 256 => val_main_v19 (F := Ideal) x0 x1 x2 x3 (ix3 h r k)) j := by
  pointwise [val_main_v30, val_main_v29, val_main_v28, val_main_v27, val_main_cst_5]
  simp only [exps]
  first | done | rfl

/-- The output of a head: the values under the weights. -/
theorem heads (h : Fin 4) (r : Fin 16384) (d : Fin 256) : val_main_v33 (F := Ideal) x0 x1 x2 x3 x4 (ix2 r (col h d))
      = ∑ j : Fin 256, HMul.hMul (α := EReal) (β := EReal) (γ := EReal) (x4 (ix2 j (col h d))) (Cert.Soft.soft (fun k : Fin 256 => val_main_v19 (F := Ideal) x0 x1 x2 x3 (ix3 h r k)) j) := by
  rw [join_v33]
  pointwise [val_main_v32, val_main_v31]
  simp only [split_v16, weights]

end Cert.ReferenceAfwdIdeal.Read
end
-- ==== Proof.AttnReads.lean ====
module

public import proofs.«01_k».proof.Proof.Gen.KernelAttnIdeal.Frame
public import proofs.«01_k».proof.Proof.Gen.ReferenceAttnIdeal.Run
public import proofs.«01_k».proof.Proof.AttnRef
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelAttnIdeal.Attn

open Cert.KernelAttnIdeal Cert.KernelAttnIdeal.Gen

variable (m : (ℓ : Loc nD τ sig) → Buf (Elt Ideal) ℓ)

/-- Where each block of point `t` lies: the row blocks at `t`, the rest whole. -/
theorem idx_all : ∀ t : Fin cfg0.N, win0_0.index t = ![t.val, 0] ∧ win0_1.index t = ![t.val, 0] ∧ win0_2.index t = ![t.val, 0] ∧ win0_3.index t = ![t.val, 0] ∧ win0_4.index t = ![0, 0] ∧ win0_5.index t = ![0, 0]
    ∧ win0_6.index t = ![0, 0] ∧ win0_7.index t = ![0, 0] ∧ win0_8.index t = ![0, 0] ∧ win0_9.index t = ![0, 0] ∧ win0_10.index t = ![t.val, 0] ∧ win0_11.index t = ![0, 0]
    ∧ win0_12.index t = ![0, 0] ∧ win0_13.index t = ![t.val, 0] ∧ win0_14.index t = ![t.val, 0] ∧ win0_15.index t = ![t.val, 0] ∧ win0_16.index t = ![0, 0] ∧ win0_17.index t = ![0, 0]
    ∧ win0_18.index t = ![0, 0] ∧ win0_19.index t = ![0, 0] ∧ win0_20.index t = ![t.val, 0] ∧ win0_21.index t = ![t.val, 0] ∧ win0_22.index t = ![0, 0] :=
  (by decide +kernel : ∀ t : Fin grid0.N, _)

theorem lt_N (t : Fin cfg0.N) : t.val < 32 := lt_of_lt_of_eq t.isLt (show cfg0.N = 32 from N_0)

/-- The row of the whole matrix that row `i` of point `t`'s block is. -/
def row (t : Fin cfg0.N) (i : Fin 512) : Fin 16384 := ⟨t.val * 512 + i.val, by have := lt_N t; have := i.isLt; omega⟩

/-- Stage 2 of the mathematics at the kernel's arguments. -/
abbrev r2 (c : Dev nD) := Cert.ReferenceAttnIdeal.Read.val_main_v2 (F := Ideal) (m ((c : Thread nD τ).loc main_arg1)) (m ((c : Thread nD τ).loc main_arg2))
/-- Stage 15 of the mathematics at the kernel's arguments. -/
abbrev r15 (c : Dev nD) := Cert.ReferenceAttnIdeal.Read.val_main_v15 (F := Ideal) (m ((c : Thread nD τ).loc main_arg1)) (m ((c : Thread nD τ).loc main_arg2))
/-- Stage 19 of the mathematics at the kernel's arguments. -/
abbrev r19 (c : Dev nD) := Cert.ReferenceAttnIdeal.Read.val_main_v19 (F := Ideal) (m ((c : Thread nD τ).loc main_arg0)) (m ((c : Thread nD τ).loc main_arg1)) (m ((c : Thread nD τ).loc main_arg2)) (m ((c : Thread nD τ).loc main_arg3))
/-- Stage 32 of the mathematics at the kernel's arguments. -/
abbrev r32 (c : Dev nD) := Cert.ReferenceAttnIdeal.Read.val_main_v32 (F := Ideal) (m ((c : Thread nD τ).loc main_arg0)) (m ((c : Thread nD τ).loc main_arg1)) (m ((c : Thread nD τ).loc main_arg2)) (m ((c : Thread nD τ).loc main_arg3))
/-- Stage 37 of the mathematics at the kernel's arguments. -/
abbrev r37 (c : Dev nD) := Cert.ReferenceAttnIdeal.Read.val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
/-- Stage 43 of the mathematics at the kernel's arguments. -/
abbrev r43 (c : Dev nD) := Cert.ReferenceAttnIdeal.Read.val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
/-- Stage 68 of the mathematics at the kernel's arguments. -/
abbrev r68 (c : Dev nD) := Cert.ReferenceAttnIdeal.Read.val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
/-- Stage 76 of the mathematics at the kernel's arguments. -/
abbrev r76 (c : Dev nD) := Cert.ReferenceAttnIdeal.Read.val_main_v76 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
/-- Stage 89 of the mathematics at the kernel's arguments. -/
abbrev r89 (c : Dev nD) := Cert.ReferenceAttnIdeal.Read.val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
/-- Stage 100 of the mathematics at the kernel's arguments. -/
abbrev r100 (c : Dev nD) := Cert.ReferenceAttnIdeal.Read.val_main_v100 (F := Ideal) (m ((c : Thread nD τ).loc main_arg9)) (m ((c : Thread nD τ).loc main_arg10))
/-- Stage 115 of the mathematics at the kernel's arguments. -/
abbrev r115 (c : Dev nD) := Cert.ReferenceAttnIdeal.Read.val_main_v115 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
/-- Stage 116 of the mathematics at the kernel's arguments. -/
abbrev r116 (c : Dev nD) := Cert.ReferenceAttnIdeal.Read.val_main_v116 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
/-- Stage 119 of the mathematics at the kernel's arguments. -/
abbrev r119 (c : Dev nD) := Cert.ReferenceAttnIdeal.Read.val_main_v119 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
/-- Stage 135 of the mathematics at the kernel's arguments. -/
abbrev r135 (c : Dev nD) := Cert.ReferenceAttnIdeal.Read.val_main_v135 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
/-- Stage 140 of the mathematics at the kernel's arguments. -/
abbrev r140 (c : Dev nD) := Cert.ReferenceAttnIdeal.Read.val_main_v140 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
/-- Stage 141 of the mathematics at the kernel's arguments. -/
abbrev r141 (c : Dev nD) := Cert.ReferenceAttnIdeal.Read.val_main_v141 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
/-- Stage 142 of the mathematics at the kernel's arguments. -/
abbrev r142 (c : Dev nD) := Cert.ReferenceAttnIdeal.Read.val_main_v142 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
/-- Stage 143 of the mathematics at the kernel's arguments. -/
abbrev r143 (c : Dev nD) := Cert.ReferenceAttnIdeal.Read.val_main_v143 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
/-- Stage 148 of the mathematics at the kernel's arguments. -/
abbrev r148 (c : Dev nD) := Cert.ReferenceAttnIdeal.Read.val_main_v148 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
/-- Stage 164 of the mathematics at the kernel's arguments. -/
abbrev r164 (c : Dev nD) := Cert.ReferenceAttnIdeal.Read.val_main_v164 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
/-- Stage 169 of the mathematics at the kernel's arguments. -/
abbrev r169 (c : Dev nD) := Cert.ReferenceAttnIdeal.Read.val_main_v169 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
/-- Stage 184 of the mathematics at the kernel's arguments. -/
abbrev r184 (c : Dev nD) := Cert.ReferenceAttnIdeal.Read.val_main_v184 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
/-- Stage 185 of the mathematics at the kernel's arguments. -/
abbrev r185 (c : Dev nD) := Cert.ReferenceAttnIdeal.Read.val_main_v185 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
/-- Stage 10 of the mathematics at the kernel's arguments. -/
abbrev r10 (c : Dev nD) := Cert.ReferenceAttnIdeal.Read.val_main_v10 (F := Ideal) (m ((c : Thread nD τ).loc main_arg1)) (m ((c : Thread nD τ).loc main_arg2))
/-- Stage 27 of the mathematics at the kernel's arguments. -/
abbrev r27 (c : Dev nD) := Cert.ReferenceAttnIdeal.Read.val_main_v27 (F := Ideal) (m ((c : Thread nD τ).loc main_arg0)) (m ((c : Thread nD τ).loc main_arg1)) (m ((c : Thread nD τ).loc main_arg2)) (m ((c : Thread nD τ).loc main_arg3))
/-- Stage 84 of the mathematics at the kernel's arguments. -/
abbrev r84 (c : Dev nD) := Cert.ReferenceAttnIdeal.Read.val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

theorem read0 (c : Dev nD) (t : Fin cfg0.N) (i : Fin 512) (j : Fin 1024) : iblk m c 0 t (ix2 i j) = m ((c : Thread nD τ).loc main_arg10) (ix2 (row t i) j) := by
  obtain ⟨i0, i1, i2, i3, i4, i5, i6, i7, i8, i9, i10, i11, i12, i13, i14, i15, i16, i17, i18, i19, i20, i21, i22⟩ := idx_all t
  have e : ((cfg0.win 0).blk t).view.emb (ix2 i j) = ix2 (row t i) j := by blk_ext [i0, row]
  unfold iblk
  rw [View.read_apply, e]
  exact congrFun (V_main_arg10 m c) _

theorem read4 (c : Dev nD) (t : Fin cfg0.N) (i : Fin 256) (j : Fin 1024) : iblk m c 4 t (ix2 i j) = m ((c : Thread nD τ).loc main_arg6) (ix2 i j) := by
  obtain ⟨i0, i1, i2, i3, i4, i5, i6, i7, i8, i9, i10, i11, i12, i13, i14, i15, i16, i17, i18, i19, i20, i21, i22⟩ := idx_all t
  have e : ((cfg0.win 4).blk t).view.emb (ix2 i j) = ix2 i j := by blk_ext [i4]
  unfold iblk
  rw [View.read_apply, e]
  show V m c main_v53 _ = _
  dsimp only [V, hostOps0, List.flatten_cons, List.flatten_nil, List.append_nil, List.cons_append, List.nil_append]
  after_results_simp
  rfl

theorem read5 (c : Dev nD) (t : Fin cfg0.N) (i : Fin 256) (j : Fin 1024) : iblk m c 5 t (ix2 i j) = m ((c : Thread nD τ).loc main_arg7) (ix2 i j) := by
  obtain ⟨i0, i1, i2, i3, i4, i5, i6, i7, i8, i9, i10, i11, i12, i13, i14, i15, i16, i17, i18, i19, i20, i21, i22⟩ := idx_all t
  have e : ((cfg0.win 5).blk t).view.emb (ix2 i j) = ix2 i j := by blk_ext [i5]
  unfold iblk
  rw [View.read_apply, e]
  show V m c main_v54 _ = _
  dsimp only [V, hostOps0, List.flatten_cons, List.flatten_nil, List.append_nil, List.cons_append, List.nil_append]
  after_results_simp
  rfl

theorem read7 (c : Dev nD) (t : Fin cfg0.N) (i : Fin 1024) (j : Fin 1024) : iblk m c 7 t (ix2 i j) = m ((c : Thread nD τ).loc main_arg5) (ix2 i j) := by
  obtain ⟨i0, i1, i2, i3, i4, i5, i6, i7, i8, i9, i10, i11, i12, i13, i14, i15, i16, i17, i18, i19, i20, i21, i22⟩ := idx_all t
  have e : ((cfg0.win 7).blk t).view.emb (ix2 i j) = ix2 i j := by blk_ext [i7]
  unfold iblk
  rw [View.read_apply, e]
  show V m c main_v56 _ = _
  dsimp only [V, hostOps0, List.flatten_cons, List.flatten_nil, List.append_nil, List.cons_append, List.nil_append]
  after_results_simp
  rfl

theorem read8 (c : Dev nD) (t : Fin cfg0.N) (i : Fin 1024) (j : Fin 1024) : iblk m c 8 t (ix2 i j) = m ((c : Thread nD τ).loc main_arg8) (ix2 i j) := by
  obtain ⟨i0, i1, i2, i3, i4, i5, i6, i7, i8, i9, i10, i11, i12, i13, i14, i15, i16, i17, i18, i19, i20, i21, i22⟩ := idx_all t
  have e : ((cfg0.win 8).blk t).view.emb (ix2 i j) = ix2 i j := by blk_ext [i8]
  unfold iblk
  rw [View.read_apply, e]
  show V m c main_v57 _ = _
  dsimp only [V, hostOps0, List.flatten_cons, List.flatten_nil, List.append_nil, List.cons_append, List.nil_append]
  after_results_simp
  rfl

theorem read11 (c : Dev nD) (t : Fin cfg0.N) (i : Fin 1024) (j : Fin 1024) : iblk m c 11 t (ix2 i j) = m ((c : Thread nD τ).loc main_arg2) (ix2 i j) := by
  obtain ⟨i0, i1, i2, i3, i4, i5, i6, i7, i8, i9, i10, i11, i12, i13, i14, i15, i16, i17, i18, i19, i20, i21, i22⟩ := idx_all t
  have e : ((cfg0.win 11).blk t).view.emb (ix2 i j) = ix2 i j := by blk_ext [i11]
  unfold iblk
  rw [View.read_apply, e]
  show V m c main_v60 _ = _
  dsimp only [V, hostOps0, List.flatten_cons, List.flatten_nil, List.append_nil, List.cons_append, List.nil_append]
  after_results_simp
  rfl

theorem read6 (c : Dev nD) (t : Fin cfg0.N) (i : Fin 1) (j : Fin 1024) : iblk m c 6 t (ix2 i j) = m ((c : Thread nD τ).loc main_arg4) (ix1 j) := by
  obtain ⟨i0, i1, i2, i3, i4, i5, i6, i7, i8, i9, i10, i11, i12, i13, i14, i15, i16, i17, i18, i19, i20, i21, i22⟩ := idx_all t
  have e : ((cfg0.win 6).blk t).view.emb (ix2 i j) = ix2 i j := by blk_ext [i6]
  unfold iblk
  rw [View.read_apply, e]
  show V m c main_v55 _ = _
  dsimp only [V, hostOps0, List.flatten_cons, List.flatten_nil, List.append_nil, List.cons_append, List.nil_append]
  after_results_simp
  pointwise []

theorem read9 (c : Dev nD) (t : Fin cfg0.N) (i : Fin 1) (j : Fin 1024) : iblk m c 9 t (ix2 i j) = m ((c : Thread nD τ).loc main_arg9) (ix1 j) := by
  obtain ⟨i0, i1, i2, i3, i4, i5, i6, i7, i8, i9, i10, i11, i12, i13, i14, i15, i16, i17, i18, i19, i20, i21, i22⟩ := idx_all t
  have e : ((cfg0.win 9).blk t).view.emb (ix2 i j) = ix2 i j := by blk_ext [i9]
  unfold iblk
  rw [View.read_apply, e]
  show V m c main_v58 _ = _
  dsimp only [V, hostOps0, List.flatten_cons, List.flatten_nil, List.append_nil, List.cons_append, List.nil_append]
  after_results_simp
  pointwise []

theorem read12 (c : Dev nD) (t : Fin cfg0.N) (i : Fin 1) (j : Fin 1024) : iblk m c 12 t (ix2 i j) = m ((c : Thread nD τ).loc main_arg3) (ix1 j) := by
  obtain ⟨i0, i1, i2, i3, i4, i5, i6, i7, i8, i9, i10, i11, i12, i13, i14, i15, i16, i17, i18, i19, i20, i21, i22⟩ := idx_all t
  have e : ((cfg0.win 12).blk t).view.emb (ix2 i j) = ix2 i j := by blk_ext [i12]
  unfold iblk
  rw [View.read_apply, e]
  show V m c main_v61 _ = _
  dsimp only [V, hostOps0, List.flatten_cons, List.flatten_nil, List.append_nil, List.cons_append, List.nil_append]
  after_results_simp
  pointwise []

theorem read10 (c : Dev nD) (t : Fin cfg0.N) (i : Fin 512) (j : Fin 1024) : iblk m c 10 t (ix2 i j) = r2 m c (ix2 (row t i) j) := by
  obtain ⟨i0, i1, i2, i3, i4, i5, i6, i7, i8, i9, i10, i11, i12, i13, i14, i15, i16, i17, i18, i19, i20, i21, i22⟩ := idx_all t
  have e : ((cfg0.win 10).blk t).view.emb (ix2 i j) = ix2 (row t i) j := by blk_ext [i10, row]
  unfold iblk
  rw [View.read_apply, e]
  simp only [r2, Cert.ReferenceAttnIdeal.Read.eq2]
  show V m c main_v59 _ = _
  dsimp only [V, hostOps0, List.flatten_cons, List.flatten_nil, List.append_nil, List.cons_append, List.nil_append]
  after_results_simp
  rfl

theorem read2 (c : Dev nD) (t : Fin cfg0.N) (i : Fin 512) (j : Fin 1024) : iblk m c 2 t (ix2 i j) = r19 m c (ix2 (row t i) j) := by
  obtain ⟨i0, i1, i2, i3, i4, i5, i6, i7, i8, i9, i10, i11, i12, i13, i14, i15, i16, i17, i18, i19, i20, i21, i22⟩ := idx_all t
  have e : ((cfg0.win 2).blk t).view.emb (ix2 i j) = ix2 (row t i) j := by blk_ext [i2, row]
  unfold iblk
  rw [View.read_apply, e]
  show V m c main_v14 _ = _
  dsimp only [V, hostOps0, List.flatten_cons, List.flatten_nil, List.append_nil, List.cons_append, List.nil_append]
  after_results_simp
  dsimp only [r19, Cert.ReferenceAttnIdeal.Read.val_main_v19, Cert.ReferenceAttnIdeal.Read.val_main_v18, Cert.ReferenceAttnIdeal.Read.val_main_v15, Cert.ReferenceAttnIdeal.Read.val_main_v14, Cert.ReferenceAttnIdeal.Read.val_main_v10, Cert.ReferenceAttnIdeal.Read.val_main_v9, Cert.ReferenceAttnIdeal.Read.val_main_v7, Cert.ReferenceAttnIdeal.Read.val_main_v5, Cert.ReferenceAttnIdeal.Read.val_main_v4, Cert.ReferenceAttnIdeal.Read.val_main_v3, Cert.ReferenceAttnIdeal.Read.val_main_cst_0, Cert.ReferenceAttnIdeal.Read.val_main_v6, Cert.ReferenceAttnIdeal.Read.val_main_cst_1, Cert.ReferenceAttnIdeal.Read.val_main_v8, Cert.ReferenceAttnIdeal.Read.val_main_cst_2, Cert.ReferenceAttnIdeal.Read.val_main_v17, Cert.ReferenceAttnIdeal.Read.val_main_v16]
  rw [Cert.ReferenceAttnIdeal.Read.eq2]
  rfl

theorem read3 (c : Dev nD) (t : Fin cfg0.N) (i : Fin 512) (j : Fin 1024) : iblk m c 3 t (ix2 i j) = r37 m c (ix2 (row t i) j) := by
  obtain ⟨i0, i1, i2, i3, i4, i5, i6, i7, i8, i9, i10, i11, i12, i13, i14, i15, i16, i17, i18, i19, i20, i21, i22⟩ := idx_all t
  have e : ((cfg0.win 3).blk t).view.emb (ix2 i j) = ix2 (row t i) j := by blk_ext [i3, row]
  unfold iblk
  rw [View.read_apply, e]
  simp only [r37, Cert.ReferenceAttnIdeal.Read.eq37]
  show V m c main_v52 _ = _
  dsimp only [V, hostOps0, List.flatten_cons, List.flatten_nil, List.append_nil, List.cons_append, List.nil_append]
  after_results_simp
  rw [shapeCast_shapeCast]
  dsimp only [Cert.ReferenceAttnIdeal.Read.val_main_v36, Cert.ReferenceAttnIdeal.Read.val_main_v35, Cert.ReferenceAttnIdeal.Read.val_main_v32, Cert.ReferenceAttnIdeal.Read.val_main_v19, Cert.ReferenceAttnIdeal.Read.val_main_v18, Cert.ReferenceAttnIdeal.Read.val_main_v15, Cert.ReferenceAttnIdeal.Read.val_main_v14, Cert.ReferenceAttnIdeal.Read.val_main_v10, Cert.ReferenceAttnIdeal.Read.val_main_v9, Cert.ReferenceAttnIdeal.Read.val_main_v7, Cert.ReferenceAttnIdeal.Read.val_main_v5, Cert.ReferenceAttnIdeal.Read.val_main_v4, Cert.ReferenceAttnIdeal.Read.val_main_v3, Cert.ReferenceAttnIdeal.Read.val_main_cst_0, Cert.ReferenceAttnIdeal.Read.val_main_v6, Cert.ReferenceAttnIdeal.Read.val_main_cst_1, Cert.ReferenceAttnIdeal.Read.val_main_v8, Cert.ReferenceAttnIdeal.Read.val_main_cst_2, Cert.ReferenceAttnIdeal.Read.val_main_v17, Cert.ReferenceAttnIdeal.Read.val_main_v16, Cert.ReferenceAttnIdeal.Read.val_main_v31, Cert.ReferenceAttnIdeal.Read.val_main_v27, Cert.ReferenceAttnIdeal.Read.val_main_v26, Cert.ReferenceAttnIdeal.Read.val_main_v24, Cert.ReferenceAttnIdeal.Read.val_main_v22, Cert.ReferenceAttnIdeal.Read.val_main_v21, Cert.ReferenceAttnIdeal.Read.val_main_v20, Cert.ReferenceAttnIdeal.Read.val_main_cst_4, Cert.ReferenceAttnIdeal.Read.val_main_v23, Cert.ReferenceAttnIdeal.Read.val_main_cst_5, Cert.ReferenceAttnIdeal.Read.val_main_v25, Cert.ReferenceAttnIdeal.Read.val_main_cst_6, Cert.ReferenceAttnIdeal.Read.val_main_v34, Cert.ReferenceAttnIdeal.Read.val_main_v33]
  rw [Cert.ReferenceAttnIdeal.Read.eq2]
  rfl

theorem read1 (c : Dev nD) (t : Fin cfg0.N) (i : Fin 512) (j : Fin 1024) : iblk m c 1 t (ix2 i j) = r76 m c (ix2 (row t i) j) := by
  obtain ⟨i0, i1, i2, i3, i4, i5, i6, i7, i8, i9, i10, i11, i12, i13, i14, i15, i16, i17, i18, i19, i20, i21, i22⟩ := idx_all t
  have e : ((cfg0.win 1).blk t).view.emb (ix2 i j) = ix2 (row t i) j := by blk_ext [i1, row]
  unfold iblk
  rw [View.read_apply, e]
  simp only [r76, Cert.ReferenceAttnIdeal.Read.eq76]
  show V m c main_v50 _ = _
  dsimp only [V, hostOps0, List.flatten_cons, List.flatten_nil, List.append_nil, List.cons_append, List.nil_append]
  after_results_simp
  dsimp only [Cert.ReferenceAttnIdeal.Read.val_main_v75, Cert.ReferenceAttnIdeal.Read.val_main_v74, Cert.ReferenceAttnIdeal.Read.val_main_v73, Cert.ReferenceAttnIdeal.Read.val_main_v72, Cert.ReferenceAttnIdeal.Read.val_main_v40, Cert.ReferenceAttnIdeal.Read.val_main_v68, Cert.ReferenceAttnIdeal.Read.val_main_v64, Cert.ReferenceAttnIdeal.Read.val_main_v63, Cert.ReferenceAttnIdeal.Read.val_main_v43, Cert.ReferenceAttnIdeal.Read.val_main_v41, Cert.ReferenceAttnIdeal.Read.val_main_v38, Cert.ReferenceAttnIdeal.Read.val_main_v39, Cert.ReferenceAttnIdeal.Read.val_main_v42, Cert.ReferenceAttnIdeal.Read.val_main_cst_8, Cert.ReferenceAttnIdeal.Read.val_main_v62, Cert.ReferenceAttnIdeal.Read.val_main_v61, Cert.ReferenceAttnIdeal.Read.val_main_v51, Cert.ReferenceAttnIdeal.Read.val_main_v50, Cert.ReferenceAttnIdeal.Read.val_main_cst_11, Cert.ReferenceAttnIdeal.Read.val_main_v44, Cert.ReferenceAttnIdeal.Read.val_main_cst_9, Cert.ReferenceAttnIdeal.Read.val_main_v67, Cert.ReferenceAttnIdeal.Read.val_main_v66, Cert.ReferenceAttnIdeal.Read.val_main_v65, Cert.ReferenceAttnIdeal.Read.val_main_cst_17]
  rw [Cert.ReferenceAttnIdeal.Read.eq37]
  dsimp only [Cert.ReferenceAttnIdeal.Read.val_main_v36, Cert.ReferenceAttnIdeal.Read.val_main_v35, Cert.ReferenceAttnIdeal.Read.val_main_v32, Cert.ReferenceAttnIdeal.Read.val_main_v19, Cert.ReferenceAttnIdeal.Read.val_main_v18, Cert.ReferenceAttnIdeal.Read.val_main_v15, Cert.ReferenceAttnIdeal.Read.val_main_v14, Cert.ReferenceAttnIdeal.Read.val_main_v10, Cert.ReferenceAttnIdeal.Read.val_main_v9, Cert.ReferenceAttnIdeal.Read.val_main_v7, Cert.ReferenceAttnIdeal.Read.val_main_v5, Cert.ReferenceAttnIdeal.Read.val_main_v4, Cert.ReferenceAttnIdeal.Read.val_main_v3, Cert.ReferenceAttnIdeal.Read.val_main_cst_0, Cert.ReferenceAttnIdeal.Read.val_main_v6, Cert.ReferenceAttnIdeal.Read.val_main_cst_1, Cert.ReferenceAttnIdeal.Read.val_main_v8, Cert.ReferenceAttnIdeal.Read.val_main_cst_2, Cert.ReferenceAttnIdeal.Read.val_main_v17, Cert.ReferenceAttnIdeal.Read.val_main_v16, Cert.ReferenceAttnIdeal.Read.val_main_v31, Cert.ReferenceAttnIdeal.Read.val_main_v27, Cert.ReferenceAttnIdeal.Read.val_main_v26, Cert.ReferenceAttnIdeal.Read.val_main_v24, Cert.ReferenceAttnIdeal.Read.val_main_v22, Cert.ReferenceAttnIdeal.Read.val_main_v21, Cert.ReferenceAttnIdeal.Read.val_main_v20, Cert.ReferenceAttnIdeal.Read.val_main_cst_4, Cert.ReferenceAttnIdeal.Read.val_main_v23, Cert.ReferenceAttnIdeal.Read.val_main_cst_5, Cert.ReferenceAttnIdeal.Read.val_main_v25, Cert.ReferenceAttnIdeal.Read.val_main_cst_6, Cert.ReferenceAttnIdeal.Read.val_main_v34, Cert.ReferenceAttnIdeal.Read.val_main_v33]
  rw [Cert.ReferenceAttnIdeal.Read.eq2]
  rfl

end Cert.KernelAttnIdeal.Attn
end
-- ==== Proof.AttnStages.lean ====
module

public import proofs.«01_k».proof.Proof.AttnReads
public import proofs.«01_k».proof.Proof.Gen.KernelAttnIdeal.Skeleton
public import proofs.«01_k».proof.Proof.Rms
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelAttnIdeal.Attn

open Cert.KernelAttnIdeal Cert.KernelAttnIdeal.Gen

open Cert.ReferenceAttnIdeal.Read (col col_cases sixteenth)

variable (m : (ℓ : Loc nD τ sig) → Buf (Elt Ideal) ℓ)

/-- The weights of a head in a block of rows: the softmax of its scaled scores. -/
theorem pay16_apply (q : Vec Ideal S512x256 .bf16) (k : Vec Ideal S256x256 .bf16) (i : Fin 512) (j : Fin 256) :
    k0_pay16 q k (ix2 i j) = Cert.Soft.soft (fun l : Fin 256 => HMul.hMul (α := EReal) (β := EReal) (γ := EReal) (∑ d : Fin 256, HMul.hMul (α := EReal) (β := EReal) (γ := EReal) (q (ix2 i d)) (k (ix2 l d))) sixteenth) j := by
  have hs : ∀ l : Fin 256, mulf (φ := .f32) (matmul (F := Ideal) (φ₁ := .bf16) (φ₂ := .bf16) dot_S512x256_S256x256_S512x256_1_1_0_0_n_n none (k0_pay15 q) (shapeCast (α := Ideal .bf16) S256x256 k shapeCasts_S256x256_S256x256) (constant S512x256 .f32 0x00000000#32))
      (broadcast S512x256 (Scalar.ofBits (F := Ideal) .f32 0x3D800000#32)) (ix2 i l) = HMul.hMul (α := EReal) (β := EReal) (γ := EReal) (∑ d : Fin 256, HMul.hMul (α := EReal) (β := EReal) (γ := EReal) (q (ix2 i d)) (k (ix2 l d))) sixteenth := fun l => by
    pointwise [k0_pay15]
  unfold k0_pay16
  dsimp only
  revert hs
  generalize mulf (φ := .f32) (matmul (F := Ideal) (φ₁ := .bf16) (φ₂ := .bf16) dot_S512x256_S256x256_S512x256_1_1_0_0_n_n none (k0_pay15 q) (shapeCast (α := Ideal .bf16) S256x256 k shapeCasts_S256x256_S256x256) (constant S512x256 .f32 0x00000000#32))
      (broadcast S512x256 (Scalar.ofBits (F := Ideal) .f32 0x3D800000#32)) = y
  intro hs
  simp only [← hs]
  pointwise []
  rw [Cert.ReferenceAttnIdeal.Read.ofBits_bot]
  rfl

theorem pay17_apply (o : Vec Ideal S512x256 .bf16) (v : Vec Ideal S256x256 .bf16) (i : Fin 512) (j : Fin 256) :
    k0_pay17 o v (ix2 i j) = ∑ d : Fin 256, HMul.hMul (α := EReal) (β := EReal) (γ := EReal) (o (ix2 i d)) (v (ix2 j d)) := by
  pointwise [k0_pay17]

theorem pay19_apply (p d : FVec Ideal S512x256 .f32) (i : Fin 512) (j : Fin 256) :
    k0_pay19 p d (ix2 i j) = HMul.hMul (α := EReal) (β := EReal) (γ := EReal) (HMul.hMul (α := EReal) (β := EReal) (γ := EReal) (p (ix2 i j)) (d (ix2 i j) - ∑ k : Fin 256, HMul.hMul (α := EReal) (β := EReal) (γ := EReal) (d (ix2 i k)) (p (ix2 i k)))) sixteenth := by
  pointwise [k0_pay19]

theorem pay20_apply (p d : FVec Ideal S512x256 .f32) (k : Vec Ideal S256x256 .bf16) (i : Fin 512) (j : Fin 256) :
    k0_pay20 p d k (ix2 i j) = ∑ l : Fin 256, HMul.hMul (α := EReal) (β := EReal) (γ := EReal) (k0_pay19 p d (ix2 i l)) (k (ix2 l j)) := by
  unfold k0_pay20
  change matmul (F := Ideal) _ none (k0_pay19 p d) _ _ (ix2 i j) = _
  generalize k0_pay19 p d = y
  pointwise []

/-- The gradient of the block before the output norm, at point `t`. -/
def kda (c : Dev nD) (t : Fin cfg0.N) := k0_pay13 (iblk m c 0 t) (iblk m c 1 t) (iblk m c 9 t)
/-- The gradient of the heads' outputs. -/
def kdo (c : Dev nD) (t : Fin cfg0.N) := k0_pay14 (kda m c t) (iblk m c 8 t)
/-- The queries, keys, values and output gradients of head `h`. -/
def qs (c : Dev nD) (t : Fin cfg0.N) (h : Fin 4) : Vec Ideal S512x256 .bf16 := fun y => iblk m c 3 t (ix2 (y 0) (col h (y 1)))
def ks (c : Dev nD) (t : Fin cfg0.N) (h : Fin 4) : Vec Ideal S256x256 .bf16 := fun y => iblk m c 4 t (ix2 (y 0) (col h (y 1)))
def vs (c : Dev nD) (t : Fin cfg0.N) (h : Fin 4) : Vec Ideal S256x256 .bf16 := fun y => iblk m c 5 t (ix2 (y 0) (col h (y 1)))
def dos (c : Dev nD) (t : Fin cfg0.N) (h : Fin 4) : Vec Ideal S512x256 .bf16 := fun y => kdo m c t (ix2 (y 0) (col h (y 1)))
/-- The weights of head `h`. -/
def kp (c : Dev nD) (t : Fin cfg0.N) (h : Fin 4) := k0_pay16 (qs m c t h) (ks m c t h)
/-- The gradient that reaches the weights of head `h`. -/
def kdp (c : Dev nD) (t : Fin cfg0.N) (h : Fin 4) := k0_pay17 (dos m c t h) (vs m c t h)
/-- The gradient of the queries, head beside head. -/
def kdq (c : Dev nD) (t : Fin cfg0.N) : Vec Ideal S512x1024 .bf16 := fun y =>
  k0_pay20 (kp m c t ⟨(y 1).val / 256, by have := (y 1).isLt; simp at this; omega⟩) (kdp m c t ⟨(y 1).val / 256, by have := (y 1).isLt; simp at this; omega⟩)
    (ks m c t ⟨(y 1).val / 256, by have := (y 1).isLt; simp at this; omega⟩) (ix2 (y 0) ⟨(y 1).val % 256, Nat.mod_lt _ (by decide)⟩)
/-- The gradient of the normalised row. -/
def kdh (c : Dev nD) (t : Fin cfg0.N) := k0_pay42 (kdq m c t) (iblk m c 7 t)
/-- The gradient of the row the attention reads. -/
def kdx1 (c : Dev nD) (t : Fin cfg0.N) := k0_pay48 (iblk m c 0 t) (kdh m c t) (k0_pay44 (iblk m c 6 t)) (k0_pay45 (iblk m c 2 t)) (k0_pay46 (iblk m c 2 t))
/-- That gradient times the gain of the norm before it. -/
def kdg (c : Dev nD) (t : Fin cfg0.N) := k0_pay53 (iblk m c 0 t) (kdh m c t) (k0_pay44 (iblk m c 6 t)) (k0_pay45 (iblk m c 2 t)) (k0_pay46 (iblk m c 2 t)) (iblk m c 12 t)
/-- The gradient of the product before that norm. -/
def kds (c : Dev nD) (t : Fin cfg0.N) := k0_pay2 (k0_pay50 (iblk m c 10 t)) (k0_pay51 (iblk m c 10 t)) (kdg m c t)

variable (c : Dev nD) (t : Fin cfg0.N) (i : Fin 512)

theorem kda_eq (j : Fin 1024) : kda m c t (ix2 i j) = r115 m c (ix2 (row t i) j) := by
  unfold kda
  open Cert.ReferenceAttnIdeal.Read in
  pointwise [k0_pay13, k0_pay11, k0_pay10, k0_pay9, val_main_v115, val_main_v113, val_main_v106, val_main_v100, val_main_v95, val_main_v99, val_main_v90, val_main_v105, val_main_v84, val_main_v83, val_main_v81, val_main_v79, val_main_v78, val_main_v77, val_main_cst_19, val_main_v80, val_main_cst_20, val_main_v82, val_main_cst_21, val_main_v112, val_main_v111, val_main_v110, val_main_v109, val_main_v107, val_main_v104, val_main_v103, val_main_v102, val_main_cst_25, val_main_v87, val_main_v86, val_main_cst_22, val_main_v85, val_main_v108, val_main_cst_26, val_main_cst_27, val_main_v114]
  simp only [read0, read1, read9, Fin.sum_univ_one]
  let X : Fin 1024 → EReal := fun j => r76 m c (ix2 (row t i) j)
  let D : Fin 1024 → EReal := fun j => m ((c : Thread nD τ).loc main_arg10) (ix2 (row t i) j)
  let G : Fin 1024 → EReal := fun j => m ((c : Thread nD τ).loc main_arg9) (ix1 j)
  exact Cert.Rms.row_grad' X (fun k => D k * G k) _

theorem kdo_eq (j : Fin 1024) : kdo m c t (ix2 i j) = r116 m c (ix2 (row t i) j) := by
  unfold kdo
  open Cert.ReferenceAttnIdeal.Read in
  pointwise [k0_pay14, val_main_v116]
  simp only [read8, kda_eq]

theorem kp_eq (h : Fin 4) (j : Fin 256) : kp m c t h (ix2 i j) = r68 m c (ix3 h (row t i) j) := by
  unfold kp
  refine (pay16_apply _ _ _ _).trans (Eq.trans ?_ (Cert.ReferenceAttnIdeal.Read.weights _ _ _ _ _ _ _ _ _ _).symm)
  simp only [qs, ks, ix2_0, ix2_1, read3, read4, Cert.ReferenceAttnIdeal.Read.scores]

theorem kdp_eq (h : Fin 4) (j : Fin 256) : kdp m c t h (ix2 i j) = r119 m c (ix3 h (row t i) j) := by
  unfold kdp
  refine (pay17_apply _ _ _ _).trans (Eq.trans ?_ (Cert.ReferenceAttnIdeal.Read.reach _ _ _ _ _ _ _ _ _ _ _ _ _ _).symm)
  simp only [dos, vs, ix2_0, ix2_1, kdo_eq, read5]

/-- Every score is finite. -/
def Scores : Prop := ∀ (h : Fin 4) (r : Fin 16384) (k : Fin 256), Cert.Gate.IsReal (r43 m c (ix3 h r k))

variable (hs : Scores m c)
include hs

theorem kdsc_eq (h : Fin 4) (j : Fin 256) : k0_pay19 (kp m c t h) (kdp m c t h) (ix2 i j) = r135 m c (ix3 h (row t i) j) := by
  refine (pay19_apply _ _ _ _).trans (Eq.trans ?_ (Cert.ReferenceAttnIdeal.Read.score_grad _ _ _ _ _ _ _ _ _ _ _ _ _ _ (hs h (row t i))).symm)
  simp only [kp_eq, kdp_eq, Cert.ReferenceAttnIdeal.Read.weights]
  rfl

theorem kdq_eq (j : Fin 1024) : kdq m c t (ix2 i j) = r142 m c (ix2 (row t i) j) := by
  obtain ⟨h, d, rfl⟩ := col_cases j
  have e1 : ∀ p, (⟨(col h d).val / 256, p⟩ : Fin 4) = h := fun p => Fin.ext (by have := d.isLt; simp only [col]; omega)
  have e2 : ∀ p, (⟨(col h d).val % 256, p⟩ : Fin 256) = d := fun p => Fin.ext (by have := d.isLt; simp only [col]; omega)
  refine Eq.trans ?_ (Cert.ReferenceAttnIdeal.Read.query_grad _ _ _ _ _ _ _ _ _ _ _ _ _ _).symm
  simp only [kdq, ix2_0, ix2_1, e1, e2]
  rw [pay20_apply]
  simp only [kdsc_eq m c t i hs, ks, ix2_0, ix2_1, read4]

theorem kdh_eq (j : Fin 1024) : kdh m c t (ix2 i j) = r143 m c (ix2 (row t i) j) := by
  unfold kdh
  open Cert.ReferenceAttnIdeal.Read in
  pointwise [k0_pay42, val_main_v143]
  simp only [read7, kdq_eq m c t i hs]

theorem kdx1_eq (j : Fin 1024) : kdx1 m c t (ix2 i j) = r164 m c (ix2 (row t i) j) := by
  unfold kdx1
  open Cert.ReferenceAttnIdeal.Read in
  pointwise [k0_pay48, k0_pay46, k0_pay45, k0_pay44, k0_pay43, val_main_v164, val_main_v162, val_main_v155, val_main_v94, val_main_v154, val_main_v148, val_main_v147, val_main_v33, val_main_v153, val_main_v27, val_main_v26, val_main_v24, val_main_v22, val_main_v21, val_main_v20, val_main_cst_4, val_main_v23, val_main_cst_5, val_main_v25, val_main_cst_6, val_main_v161, val_main_v160, val_main_v159, val_main_v158, val_main_v156, val_main_v152, val_main_v151, val_main_v150, val_main_cst_33, val_main_v30, val_main_v29, val_main_cst_7, val_main_v28, val_main_v157, val_main_cst_34, val_main_cst_35, val_main_v163]
  simp only [read0, read2, read6, kdh_eq m c t i hs, Fin.sum_univ_one]
  let X : Fin 1024 → EReal := fun j => r19 m c (ix2 (row t i) j)
  let D : Fin 1024 → EReal := fun j => r143 m c (ix2 (row t i) j)
  let G : Fin 1024 → EReal := fun j => m ((c : Thread nD τ).loc main_arg4) (ix1 j)
  exact Cert.Rms.row_grad X (fun k => D k * G k) _ _

theorem kdg_eq (j : Fin 1024) : kdg m c t (ix2 i j) = r169 m c (ix2 (row t i) j) := by
  unfold kdg k0_pay53
  change FloatOps.mulf (F := Ideal) (kdx1 m c t (ix2 i j)) _ = _
  open Cert.ReferenceAttnIdeal.Read in
  pointwise [val_main_v169, val_main_v168, val_main_v16]
  rw [kdx1_eq m c t i hs, read12]

theorem kds_eq (j : Fin 1024) : kds m c t (ix2 i j) = r184 m c (ix2 (row t i) j) := by
  unfold kds
  open Cert.ReferenceAttnIdeal.Read in
  pointwise [k0_pay2, k0_pay51, k0_pay50, k0_pay49, val_main_v184, val_main_v182, val_main_v175, val_main_v174, val_main_v10, val_main_v9, val_main_v7, val_main_v5, val_main_v4, val_main_v3, val_main_cst_0, val_main_v6, val_main_cst_1, val_main_v8, val_main_cst_2, val_main_v181, val_main_v180, val_main_v179, val_main_v178, val_main_v176, val_main_v173, val_main_v172, val_main_v171, val_main_cst_38, val_main_v13, val_main_v12, val_main_cst_3, val_main_v11, val_main_v177, val_main_cst_39, val_main_cst_40, val_main_v183]
  simp only [read10, kdg_eq m c t i hs, Fin.sum_univ_one]
  let X : Fin 1024 → EReal := fun j => r2 m c (ix2 (row t i) j)
  let D : Fin 1024 → EReal := fun j => r169 m c (ix2 (row t i) j)
  exact Cert.Rms.row_grad' X D _

theorem kdy_eq (j : Fin 1024) : k0_pay3 (k0_pay50 (iblk m c 10 t)) (k0_pay51 (iblk m c 10 t)) (kdg m c t) (iblk m c 11 t) (ix2 i j) = r185 m c (ix2 (row t i) j) := by
  unfold k0_pay3
  change matmul (F := Ideal) _ none (kds m c t) _ _ (ix2 i j) = _
  open Cert.ReferenceAttnIdeal.Read in
  pointwise [val_main_v185]
  simp only [read11, kds_eq m c t i hs]

end Cert.KernelAttnIdeal.Attn
end
-- ==== Proof.AttnPoint.lean ====
/- What the attention call holds at one grid point: the condition of its branch and the types of its outputs. -/
module

public import proofs.«01_k».proof.Proof.Gen.KernelAttnIdeal.Frame
public import proofs.«01_k».proof.Proof.Gen.KernelAttnIdeal.Skeleton

@[expose] public section

set_option maxRecDepth 16384

noncomputable section

namespace Cert.KernelAttnIdeal.Attn

open Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The condition under which the body sets its accumulators to zero. -/
abbrev AtFirst (i : grid0.Coords) : Prop :=
  (Scalar.cmpi .ne (Scalar.extui (Scalar.cmpi .eq (BitVec.ofNat 32 (i 0).val) 0#32)) 0#32) = 1#1

/-- The body sets its accumulators to zero at the first of its points. -/
theorem atFirst_iff : ∀ t : Fin cfg0.N, AtFirst (grid0.coords t) ↔ t.val % 32 = 0 := fun t => by
  have ht : t.val < 32 := Nat.lt_of_lt_of_eq t.isLt N_0
  have e0 : (grid0.coords t 0).val = t.val / 1 % 32 := Pipeline.Grid.coords_val t 0 (by decide) rfl
  simp only [AtFirst, e0]; word_cmp

variable (F) in
/-- What the ten outputs hold, in window order. -/
abbrev Outs : Type := Vec F S512x1024 .f32 × Vec F S512x1024 .bf16 × Vec F S512x1024 .bf16 × Vec F S256x1024 .f32 × Vec F S256x1024 .f32 × Vec F S1x1024 .f32 × Vec F S1x1024 .f32 × Vec F S512x1024 .bf16 × Vec F S512x1024 .bf16 × Vec F S1x1024 .f32

variable (F) in
/-- What the five accumulators hold: the gradients of the keys, of the values and of the three gains. -/
abbrev Accs : Type := Vec F S256x1024 .f32 × Vec F S256x1024 .f32 × Vec F S1x1024 .f32 × Vec F S1x1024 .f32 × Vec F S1x1024 .f32

/-- The accumulators among the outputs. -/
abbrev accs (o : Outs F) : Accs F := (o.2.2.2.1, o.2.2.2.2.1, o.2.2.2.2.2.1, o.2.2.2.2.2.2.1, o.2.2.2.2.2.2.2.2.2)

/-- Read back after writes that cover the shape, contents are those the writes alone determine. -/
theorem read_canon {s : Shape} {e : EltTy} (v : View sig .tc .vmem s e) (f : v.ty.Contents (Elt F)) (L : List (View.Piece (Elt F) s e))
    (h : ∀ y, ∃ p ∈ L, y ∈ p.1.set) : v.read (Elt F) (v.writes (Elt F) f L) = View.canon L :=
  (View.read_writes_of_cover v f v v.junk L h).trans (View.read_writes_junk_eq_canon v L)

end Cert.KernelAttnIdeal.Attn

end
-- ==== Proof.AttnFirst.lean ====
/- One run of the body of the attention call on any memory references, at the first point. -/
module

public import proofs.«01_k».proof.Proof.Gen.KernelAttnIdeal.Frame
public import proofs.«01_k».proof.Proof.Gen.KernelAttnIdeal.Skeleton
public import proofs.«01_k».proof.Proof.AttnPoint

@[expose] public section

set_option maxRecDepth 16384

noncomputable section

namespace Cert.KernelAttnIdeal.Attn

open Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (c : Dev nD) (i : grid0.Coords)
  (arg1 : Memref sig .tc .vmem S512x1024 .f32) (harg1 : arg1.IsWhole) (arg2 : Memref sig .tc .vmem S512x1024 .bf16) (harg2 : arg2.IsWhole)
  (arg3 : Memref sig .tc .vmem S512x1024 .f32) (harg3 : arg3.IsWhole) (arg4 : Memref sig .tc .vmem S512x1024 .bf16) (harg4 : arg4.IsWhole)
  (arg5 : Memref sig .tc .vmem S256x1024 .bf16) (harg5 : arg5.IsWhole) (arg6 : Memref sig .tc .vmem S256x1024 .bf16) (harg6 : arg6.IsWhole)
  (arg7 : Memref sig .tc .vmem S1x1024 .f32) (harg7 : arg7.IsWhole) (arg8 : Memref sig .tc .vmem S1024x1024 .bf16) (harg8 : arg8.IsWhole)
  (arg9 : Memref sig .tc .vmem S1024x1024 .bf16) (harg9 : arg9.IsWhole) (arg10 : Memref sig .tc .vmem S1x1024 .f32) (harg10 : arg10.IsWhole)
  (arg11 : Memref sig .tc .vmem S512x1024 .bf16) (harg11 : arg11.IsWhole) (arg12 : Memref sig .tc .vmem S1024x1024 .bf16) (harg12 : arg12.IsWhole)
  (arg13 : Memref sig .tc .vmem S1x1024 .f32) (harg13 : arg13.IsWhole) (arg14 : Memref sig .tc .vmem S512x1024 .f32) (harg14 : arg14.IsWhole)
  (arg15 : Memref sig .tc .vmem S512x1024 .bf16) (harg15 : arg15.IsWhole) (arg16 : Memref sig .tc .vmem S512x1024 .bf16) (harg16 : arg16.IsWhole)
  (arg17 : Memref sig .tc .vmem S256x1024 .f32) (harg17 : arg17.IsWhole) (arg18 : Memref sig .tc .vmem S256x1024 .f32) (harg18 : arg18.IsWhole)
  (arg19 : Memref sig .tc .vmem S1x1024 .f32) (harg19 : arg19.IsWhole) (arg20 : Memref sig .tc .vmem S1x1024 .f32) (harg20 : arg20.IsWhole)
  (arg21 : Memref sig .tc .vmem S512x1024 .bf16) (harg21 : arg21.IsWhole) (arg22 : Memref sig .tc .vmem S512x1024 .bf16) (harg22 : arg22.IsWhole)
  (arg23 : Memref sig .tc .vmem S1x1024 .f32) (harg23 : arg23.IsWhole) (arg24 : Memref sig .tc .vmem S512x1024 .bf16) (harg24 : arg24.IsWhole)
  (x0 : Vec F S512x1024 .f32) (x1 : Vec F S512x1024 .bf16) (x2 : Vec F S512x1024 .f32) (x3 : Vec F S512x1024 .bf16) (x4 : Vec F S256x1024 .bf16)
  (x5 : Vec F S256x1024 .bf16) (x6 : Vec F S1x1024 .f32) (x7 : Vec F S1024x1024 .bf16) (x8 : Vec F S1024x1024 .bf16) (x9 : Vec F S1x1024 .f32)
  (x10 : Vec F S512x1024 .bf16) (x11 : Vec F S1024x1024 .bf16) (x12 : Vec F S1x1024 .f32)

set_option maxHeartbeats 4000000 in
/-- The body at the first point: every accumulator is set to zero before it is read. What each output ends with is found by running the body. -/
def runFirst (hc : AtFirst i) :
    Σ' L13 : List (View.Piece (Elt F) S512x1024 .f32),
    Σ' L14 : List (View.Piece (Elt F) S512x1024 .bf16),
    Σ' L15 : List (View.Piece (Elt F) S512x1024 .bf16),
    Σ' L16 : List (View.Piece (Elt F) S256x1024 .f32),
    Σ' L17 : List (View.Piece (Elt F) S256x1024 .f32),
    Σ' L18 : List (View.Piece (Elt F) S1x1024 .f32),
    Σ' L19 : List (View.Piece (Elt F) S1x1024 .f32),
    Σ' L20 : List (View.Piece (Elt F) S512x1024 .bf16),
    Σ' L21 : List (View.Piece (Elt F) S512x1024 .bf16),
    Σ' L22 : List (View.Piece (Elt F) S1x1024 .f32),
    ∀ (E : Set ℕ) (K : PUnit → sProp (MT nD τ sig Unit (Elt F) ℕ (UR sig nD τ) ℕ)),
      iprop(owns (c : Thread nD τ) arg1 fullShare x0 ∗ owns (c : Thread nD τ) arg2 fullShare x1 ∗ owns (c : Thread nD τ) arg3 fullShare x2 ∗
        owns (c : Thread nD τ) arg4 fullShare x3 ∗ owns (c : Thread nD τ) arg5 fullShare x4 ∗ owns (c : Thread nD τ) arg6 fullShare x5 ∗
        owns (c : Thread nD τ) arg7 fullShare x6 ∗ owns (c : Thread nD τ) arg8 fullShare x7 ∗ owns (c : Thread nD τ) arg9 fullShare x8 ∗
        owns (c : Thread nD τ) arg10 fullShare x9 ∗ owns (c : Thread nD τ) arg11 fullShare x10 ∗ owns (c : Thread nD τ) arg12 fullShare x11 ∗
        owns (c : Thread nD τ) arg13 fullShare x12 ∗ (∃ d, owns (c : Thread nD τ) arg14 fullShare d) ∗ (∃ d, owns (c : Thread nD τ) arg15 fullShare d) ∗
        (∃ d, owns (c : Thread nD τ) arg16 fullShare d) ∗ (∃ d, owns (c : Thread nD τ) arg17 fullShare d) ∗ (∃ d, owns (c : Thread nD τ) arg18 fullShare d) ∗
        (∃ d, owns (c : Thread nD τ) arg19 fullShare d) ∗ (∃ d, owns (c : Thread nD τ) arg20 fullShare d) ∗ (∃ d, owns (c : Thread nD τ) arg21 fullShare d) ∗
        (∃ d, owns (c : Thread nD τ) arg22 fullShare d) ∗ (∃ d, owns (c : Thread nD τ) arg23 fullShare d) ∗ (∃ d, owns (c : Thread nD τ) arg24 fullShare d)
        ∗ (iprop(owns (c : Thread nD τ) arg1 fullShare x0 ∗ owns (c : Thread nD τ) arg2 fullShare x1 ∗ owns (c : Thread nD τ) arg3 fullShare x2 ∗
          owns (c : Thread nD τ) arg4 fullShare x3 ∗ owns (c : Thread nD τ) arg5 fullShare x4 ∗ owns (c : Thread nD τ) arg6 fullShare x5 ∗
          owns (c : Thread nD τ) arg7 fullShare x6 ∗ owns (c : Thread nD τ) arg8 fullShare x7 ∗ owns (c : Thread nD τ) arg9 fullShare x8 ∗
          owns (c : Thread nD τ) arg10 fullShare x9 ∗ owns (c : Thread nD τ) arg11 fullShare x10 ∗ owns (c : Thread nD τ) arg12 fullShare x11 ∗
          owns (c : Thread nD τ) arg13 fullShare x12 ∗ (∃ f, arg14.view.loc (c : Thread nD τ) ↦[arg14.view.set]{fullShare} arg14.view.writes (Elt F) f L13) ∗
          (∃ f, arg15.view.loc (c : Thread nD τ) ↦[arg15.view.set]{fullShare} arg15.view.writes (Elt F) f L14) ∗
          (∃ f, arg16.view.loc (c : Thread nD τ) ↦[arg16.view.set]{fullShare} arg16.view.writes (Elt F) f L15) ∗
          (∃ f, arg17.view.loc (c : Thread nD τ) ↦[arg17.view.set]{fullShare} arg17.view.writes (Elt F) f L16) ∗
          (∃ f, arg18.view.loc (c : Thread nD τ) ↦[arg18.view.set]{fullShare} arg18.view.writes (Elt F) f L17) ∗
          (∃ f, arg19.view.loc (c : Thread nD τ) ↦[arg19.view.set]{fullShare} arg19.view.writes (Elt F) f L18) ∗
          (∃ f, arg20.view.loc (c : Thread nD τ) ↦[arg20.view.set]{fullShare} arg20.view.writes (Elt F) f L19) ∗
          (∃ f, arg21.view.loc (c : Thread nD τ) ↦[arg21.view.set]{fullShare} arg21.view.writes (Elt F) f L20) ∗
          (∃ f, arg22.view.loc (c : Thread nD τ) ↦[arg22.view.set]{fullShare} arg22.view.writes (Elt F) f L21) ∗
          (∃ f, arg23.view.loc (c : Thread nD τ) ↦[arg23.view.set]{fullShare} arg23.view.writes (Elt F) f L22) ∗
          (∃ f, arg24.view.loc (c : Thread nD τ) ↦[arg24.view.set]{fullShare} f)) -∗ K ⟨⟩))
      ⊢ wp frame (wpE (defs₀ (F := F)) Variants.none c none) E
          (cc0_attn_bwd i arg1 harg1 arg2 harg2 arg3 harg3 arg4 harg4 arg5 harg5 arg6 harg6 arg7 harg7 arg8 harg8 arg9 harg9 arg10 harg10 arg11 harg11 arg12 harg12 arg13 harg13 arg14 harg14
            arg15 harg15 arg16 harg16 arg17 harg17 arg18 harg18 arg19 harg19 arg20 harg20 arg21 harg21 arg22 harg22 arg23 harg23 arg24 harg24) K := by
  refine ⟨?_, ?_, ?_, ?_, ?_, ?_, ?_, ?_, ?_, ?_, fun E K => ?run⟩
  case run =>
    simp only [cc0_attn_bwd_eq_skeleton]; unfold cc0_attn_bwd_skel owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩,
      ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩,
      ⟨%d18, %f18, -, H18⟩, ⟨%d19, %f19, -, H19⟩, ⟨%d20, %f20, -, H20⟩, ⟨%d21, %f21, -, H21⟩, ⟨%d22, %f22, -, H22⟩, ⟨%ds, %fs, -, HS⟩, Hk⟩
    obtain rfl := harg1.eq_unread hf0; obtain rfl := harg2.eq_unread hf1; obtain rfl := harg3.eq_unread hf2; obtain rfl := harg4.eq_unread hf3;
    obtain rfl := harg5.eq_unread hf4; obtain rfl := harg6.eq_unread hf5; obtain rfl := harg7.eq_unread hf6; obtain rfl := harg8.eq_unread hf7;
    obtain rfl := harg9.eq_unread hf8; obtain rfl := harg10.eq_unread hf9; obtain rfl := harg11.eq_unread hf10; obtain rfl := harg12.eq_unread hf11;
    obtain rfl := harg13.eq_unread hf12
    sl_exec_parts (disch := first | sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    iexists _; iexact HS

/-- What the ten outputs hold after that run. -/
def outFirst (hc : AtFirst i) : Outs F :=
  let r := runFirst c i arg1 harg1 arg2 harg2 arg3 harg3 arg4 harg4 arg5 harg5 arg6 harg6 arg7 harg7 arg8 harg8 arg9 harg9 arg10 harg10 arg11 harg11 arg12 harg12 arg13 harg13 arg14 harg14
    arg15 harg15 arg16 harg16 arg17 harg17 arg18 harg18 arg19 harg19 arg20 harg20 arg21 harg21 arg22 harg22 arg23 harg23 arg24 harg24
    x0 x1 x2 x3 x4 x5 x6 x7 x8 x9 x10 x11 x12 hc
  (View.canon r.1, View.canon r.2.1, View.canon r.2.2.1, View.canon r.2.2.2.1, View.canon r.2.2.2.2.1, View.canon r.2.2.2.2.2.1, View.canon r.2.2.2.2.2.2.1, View.canon r.2.2.2.2.2.2.2.1, View.canon r.2.2.2.2.2.2.2.2.1, View.canon r.2.2.2.2.2.2.2.2.2.1)

theorem covFirst13 (hc : AtFirst i) (y : S512x1024.Idx) :
    ∃ p ∈ (runFirst c i arg1 harg1 arg2 harg2 arg3 harg3 arg4 harg4 arg5 harg5 arg6 harg6 arg7 harg7 arg8 harg8 arg9 harg9 arg10 harg10 arg11 harg11 arg12 harg12 arg13 harg13 arg14 harg14
    arg15 harg15 arg16 harg16 arg17 harg17 arg18 harg18 arg19 harg19 arg20 harg20 arg21 harg21 arg22 harg22 arg23 harg23 arg24 harg24
      x0 x1 x2 x3 x4 x5 x6 x7 x8 x9 x10 x11 x12 hc).1, y ∈ p.1.set :=
  View.cover_of_tiledL _ S512x1024.size (by sl_kernel_rfl) y

theorem covFirst14 (hc : AtFirst i) (y : S512x1024.Idx) :
    ∃ p ∈ (runFirst c i arg1 harg1 arg2 harg2 arg3 harg3 arg4 harg4 arg5 harg5 arg6 harg6 arg7 harg7 arg8 harg8 arg9 harg9 arg10 harg10 arg11 harg11 arg12 harg12 arg13 harg13 arg14 harg14
    arg15 harg15 arg16 harg16 arg17 harg17 arg18 harg18 arg19 harg19 arg20 harg20 arg21 harg21 arg22 harg22 arg23 harg23 arg24 harg24
      x0 x1 x2 x3 x4 x5 x6 x7 x8 x9 x10 x11 x12 hc).2.1, y ∈ p.1.set :=
  View.cover_of_tiledL _ S512x1024.size (by sl_kernel_rfl) y

theorem covFirst15 (hc : AtFirst i) (y : S512x1024.Idx) :
    ∃ p ∈ (runFirst c i arg1 harg1 arg2 harg2 arg3 harg3 arg4 harg4 arg5 harg5 arg6 harg6 arg7 harg7 arg8 harg8 arg9 harg9 arg10 harg10 arg11 harg11 arg12 harg12 arg13 harg13 arg14 harg14
    arg15 harg15 arg16 harg16 arg17 harg17 arg18 harg18 arg19 harg19 arg20 harg20 arg21 harg21 arg22 harg22 arg23 harg23 arg24 harg24
      x0 x1 x2 x3 x4 x5 x6 x7 x8 x9 x10 x11 x12 hc).2.2.1, y ∈ p.1.set :=
  View.cover_of_tiledL _ ![512, 256] (by sl_kernel_rfl) y

theorem covFirst16 (hc : AtFirst i) (y : S256x1024.Idx) :
    ∃ p ∈ (runFirst c i arg1 harg1 arg2 harg2 arg3 harg3 arg4 harg4 arg5 harg5 arg6 harg6 arg7 harg7 arg8 harg8 arg9 harg9 arg10 harg10 arg11 harg11 arg12 harg12 arg13 harg13 arg14 harg14
    arg15 harg15 arg16 harg16 arg17 harg17 arg18 harg18 arg19 harg19 arg20 harg20 arg21 harg21 arg22 harg22 arg23 harg23 arg24 harg24
      x0 x1 x2 x3 x4 x5 x6 x7 x8 x9 x10 x11 x12 hc).2.2.2.1, y ∈ p.1.set :=
  View.cover_of_tiledBy _ ![256, 256] (by sl_kernel_rfl) y

theorem covFirst17 (hc : AtFirst i) (y : S256x1024.Idx) :
    ∃ p ∈ (runFirst c i arg1 harg1 arg2 harg2 arg3 harg3 arg4 harg4 arg5 harg5 arg6 harg6 arg7 harg7 arg8 harg8 arg9 harg9 arg10 harg10 arg11 harg11 arg12 harg12 arg13 harg13 arg14 harg14
    arg15 harg15 arg16 harg16 arg17 harg17 arg18 harg18 arg19 harg19 arg20 harg20 arg21 harg21 arg22 harg22 arg23 harg23 arg24 harg24
      x0 x1 x2 x3 x4 x5 x6 x7 x8 x9 x10 x11 x12 hc).2.2.2.2.1, y ∈ p.1.set :=
  View.cover_of_tiledBy _ ![256, 256] (by sl_kernel_rfl) y

theorem covFirst18 (hc : AtFirst i) (y : S1x1024.Idx) :
    ∃ p ∈ (runFirst c i arg1 harg1 arg2 harg2 arg3 harg3 arg4 harg4 arg5 harg5 arg6 harg6 arg7 harg7 arg8 harg8 arg9 harg9 arg10 harg10 arg11 harg11 arg12 harg12 arg13 harg13 arg14 harg14
    arg15 harg15 arg16 harg16 arg17 harg17 arg18 harg18 arg19 harg19 arg20 harg20 arg21 harg21 arg22 harg22 arg23 harg23 arg24 harg24
      x0 x1 x2 x3 x4 x5 x6 x7 x8 x9 x10 x11 x12 hc).2.2.2.2.2.1, y ∈ p.1.set :=
  View.cover_of_tiledL _ S1x1024.size (by sl_kernel_rfl) y

theorem covFirst19 (hc : AtFirst i) (y : S1x1024.Idx) :
    ∃ p ∈ (runFirst c i arg1 harg1 arg2 harg2 arg3 harg3 arg4 harg4 arg5 harg5 arg6 harg6 arg7 harg7 arg8 harg8 arg9 harg9 arg10 harg10 arg11 harg11 arg12 harg12 arg13 harg13 arg14 harg14
    arg15 harg15 arg16 harg16 arg17 harg17 arg18 harg18 arg19 harg19 arg20 harg20 arg21 harg21 arg22 harg22 arg23 harg23 arg24 harg24
      x0 x1 x2 x3 x4 x5 x6 x7 x8 x9 x10 x11 x12 hc).2.2.2.2.2.2.1, y ∈ p.1.set :=
  View.cover_of_tiledL _ S1x1024.size (by sl_kernel_rfl) y

theorem covFirst20 (hc : AtFirst i) (y : S512x1024.Idx) :
    ∃ p ∈ (runFirst c i arg1 harg1 arg2 harg2 arg3 harg3 arg4 harg4 arg5 harg5 arg6 harg6 arg7 harg7 arg8 harg8 arg9 harg9 arg10 harg10 arg11 harg11 arg12 harg12 arg13 harg13 arg14 harg14
    arg15 harg15 arg16 harg16 arg17 harg17 arg18 harg18 arg19 harg19 arg20 harg20 arg21 harg21 arg22 harg22 arg23 harg23 arg24 harg24
      x0 x1 x2 x3 x4 x5 x6 x7 x8 x9 x10 x11 x12 hc).2.2.2.2.2.2.2.1, y ∈ p.1.set :=
  View.cover_of_tiledL _ S512x1024.size (by sl_kernel_rfl) y

theorem covFirst21 (hc : AtFirst i) (y : S512x1024.Idx) :
    ∃ p ∈ (runFirst c i arg1 harg1 arg2 harg2 arg3 harg3 arg4 harg4 arg5 harg5 arg6 harg6 arg7 harg7 arg8 harg8 arg9 harg9 arg10 harg10 arg11 harg11 arg12 harg12 arg13 harg13 arg14 harg14
    arg15 harg15 arg16 harg16 arg17 harg17 arg18 harg18 arg19 harg19 arg20 harg20 arg21 harg21 arg22 harg22 arg23 harg23 arg24 harg24
      x0 x1 x2 x3 x4 x5 x6 x7 x8 x9 x10 x11 x12 hc).2.2.2.2.2.2.2.2.1, y ∈ p.1.set :=
  View.cover_of_tiledL _ S512x1024.size (by sl_kernel_rfl) y

theorem covFirst22 (hc : AtFirst i) (y : S1x1024.Idx) :
    ∃ p ∈ (runFirst c i arg1 harg1 arg2 harg2 arg3 harg3 arg4 harg4 arg5 harg5 arg6 harg6 arg7 harg7 arg8 harg8 arg9 harg9 arg10 harg10 arg11 harg11 arg12 harg12 arg13 harg13 arg14 harg14
    arg15 harg15 arg16 harg16 arg17 harg17 arg18 harg18 arg19 harg19 arg20 harg20 arg21 harg21 arg22 harg22 arg23 harg23 arg24 harg24
      x0 x1 x2 x3 x4 x5 x6 x7 x8 x9 x10 x11 x12 hc).2.2.2.2.2.2.2.2.2.1, y ∈ p.1.set :=
  View.cover_of_tiledL _ S1x1024.size (by sl_kernel_rfl) y

end Cert.KernelAttnIdeal.Attn

end
-- ==== Proof.AttnNext.lean ====
/- One run of the body of the attention call on any memory references, at a point after the first. -/
module

public import proofs.«01_k».proof.Proof.Gen.KernelAttnIdeal.Frame
public import proofs.«01_k».proof.Proof.Gen.KernelAttnIdeal.Skeleton
public import proofs.«01_k».proof.Proof.AttnPoint

@[expose] public section

set_option maxRecDepth 16384

noncomputable section

namespace Cert.KernelAttnIdeal.Attn

open Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (c : Dev nD) (i : grid0.Coords)
  (arg1 : Memref sig .tc .vmem S512x1024 .f32) (harg1 : arg1.IsWhole) (arg2 : Memref sig .tc .vmem S512x1024 .bf16) (harg2 : arg2.IsWhole)
  (arg3 : Memref sig .tc .vmem S512x1024 .f32) (harg3 : arg3.IsWhole) (arg4 : Memref sig .tc .vmem S512x1024 .bf16) (harg4 : arg4.IsWhole)
  (arg5 : Memref sig .tc .vmem S256x1024 .bf16) (harg5 : arg5.IsWhole) (arg6 : Memref sig .tc .vmem S256x1024 .bf16) (harg6 : arg6.IsWhole)
  (arg7 : Memref sig .tc .vmem S1x1024 .f32) (harg7 : arg7.IsWhole) (arg8 : Memref sig .tc .vmem S1024x1024 .bf16) (harg8 : arg8.IsWhole)
  (arg9 : Memref sig .tc .vmem S1024x1024 .bf16) (harg9 : arg9.IsWhole) (arg10 : Memref sig .tc .vmem S1x1024 .f32) (harg10 : arg10.IsWhole)
  (arg11 : Memref sig .tc .vmem S512x1024 .bf16) (harg11 : arg11.IsWhole) (arg12 : Memref sig .tc .vmem S1024x1024 .bf16) (harg12 : arg12.IsWhole)
  (arg13 : Memref sig .tc .vmem S1x1024 .f32) (harg13 : arg13.IsWhole) (arg14 : Memref sig .tc .vmem S512x1024 .f32) (harg14 : arg14.IsWhole)
  (arg15 : Memref sig .tc .vmem S512x1024 .bf16) (harg15 : arg15.IsWhole) (arg16 : Memref sig .tc .vmem S512x1024 .bf16) (harg16 : arg16.IsWhole)
  (arg17 : Memref sig .tc .vmem S256x1024 .f32) (harg17 : arg17.IsWhole) (arg18 : Memref sig .tc .vmem S256x1024 .f32) (harg18 : arg18.IsWhole)
  (arg19 : Memref sig .tc .vmem S1x1024 .f32) (harg19 : arg19.IsWhole) (arg20 : Memref sig .tc .vmem S1x1024 .f32) (harg20 : arg20.IsWhole)
  (arg21 : Memref sig .tc .vmem S512x1024 .bf16) (harg21 : arg21.IsWhole) (arg22 : Memref sig .tc .vmem S512x1024 .bf16) (harg22 : arg22.IsWhole)
  (arg23 : Memref sig .tc .vmem S1x1024 .f32) (harg23 : arg23.IsWhole) (arg24 : Memref sig .tc .vmem S512x1024 .bf16) (harg24 : arg24.IsWhole)
  (x0 : Vec F S512x1024 .f32) (x1 : Vec F S512x1024 .bf16) (x2 : Vec F S512x1024 .f32) (x3 : Vec F S512x1024 .bf16) (x4 : Vec F S256x1024 .bf16)
  (x5 : Vec F S256x1024 .bf16) (x6 : Vec F S1x1024 .f32) (x7 : Vec F S1024x1024 .bf16) (x8 : Vec F S1024x1024 .bf16) (x9 : Vec F S1x1024 .f32)
  (x10 : Vec F S512x1024 .bf16) (x11 : Vec F S1024x1024 .bf16) (x12 : Vec F S1x1024 .f32)

set_option maxHeartbeats 4000000 in
/-- The body at a point after the first: each accumulator is read before it is written, so that it ends at a value over what it held. -/
def runNext (hc : ¬ AtFirst i) (a : Accs F) :
    Σ' L13 : List (View.Piece (Elt F) S512x1024 .f32),
    Σ' L14 : List (View.Piece (Elt F) S512x1024 .bf16),
    Σ' L15 : List (View.Piece (Elt F) S512x1024 .bf16),
    Σ' L16 : List (View.Piece (Elt F) S256x1024 .f32),
    Σ' L17 : List (View.Piece (Elt F) S256x1024 .f32),
    Σ' L18 : List (View.Piece (Elt F) S1x1024 .f32),
    Σ' L19 : List (View.Piece (Elt F) S1x1024 .f32),
    Σ' L20 : List (View.Piece (Elt F) S512x1024 .bf16),
    Σ' L21 : List (View.Piece (Elt F) S512x1024 .bf16),
    Σ' L22 : List (View.Piece (Elt F) S1x1024 .f32),
    ∀ (E : Set ℕ) (K : PUnit → sProp (MT nD τ sig Unit (Elt F) ℕ (UR sig nD τ) ℕ)),
      iprop(owns (c : Thread nD τ) arg1 fullShare x0 ∗ owns (c : Thread nD τ) arg2 fullShare x1 ∗ owns (c : Thread nD τ) arg3 fullShare x2 ∗
        owns (c : Thread nD τ) arg4 fullShare x3 ∗ owns (c : Thread nD τ) arg5 fullShare x4 ∗ owns (c : Thread nD τ) arg6 fullShare x5 ∗
        owns (c : Thread nD τ) arg7 fullShare x6 ∗ owns (c : Thread nD τ) arg8 fullShare x7 ∗ owns (c : Thread nD τ) arg9 fullShare x8 ∗
        owns (c : Thread nD τ) arg10 fullShare x9 ∗ owns (c : Thread nD τ) arg11 fullShare x10 ∗ owns (c : Thread nD τ) arg12 fullShare x11 ∗
        owns (c : Thread nD τ) arg13 fullShare x12 ∗ (∃ d, owns (c : Thread nD τ) arg14 fullShare d) ∗ (∃ d, owns (c : Thread nD τ) arg15 fullShare d) ∗
        (∃ d, owns (c : Thread nD τ) arg16 fullShare d) ∗ owns (c : Thread nD τ) arg17 fullShare a.1 ∗ owns (c : Thread nD τ) arg18 fullShare a.2.1 ∗
        owns (c : Thread nD τ) arg19 fullShare a.2.2.1 ∗ owns (c : Thread nD τ) arg20 fullShare a.2.2.2.1 ∗ (∃ d, owns (c : Thread nD τ) arg21 fullShare d) ∗
        (∃ d, owns (c : Thread nD τ) arg22 fullShare d) ∗ owns (c : Thread nD τ) arg23 fullShare a.2.2.2.2 ∗ (∃ d, owns (c : Thread nD τ) arg24 fullShare d)
        ∗ (iprop(owns (c : Thread nD τ) arg1 fullShare x0 ∗ owns (c : Thread nD τ) arg2 fullShare x1 ∗ owns (c : Thread nD τ) arg3 fullShare x2 ∗
          owns (c : Thread nD τ) arg4 fullShare x3 ∗ owns (c : Thread nD τ) arg5 fullShare x4 ∗ owns (c : Thread nD τ) arg6 fullShare x5 ∗
          owns (c : Thread nD τ) arg7 fullShare x6 ∗ owns (c : Thread nD τ) arg8 fullShare x7 ∗ owns (c : Thread nD τ) arg9 fullShare x8 ∗
          owns (c : Thread nD τ) arg10 fullShare x9 ∗ owns (c : Thread nD τ) arg11 fullShare x10 ∗ owns (c : Thread nD τ) arg12 fullShare x11 ∗
          owns (c : Thread nD τ) arg13 fullShare x12 ∗ (∃ f, arg14.view.loc (c : Thread nD τ) ↦[arg14.view.set]{fullShare} arg14.view.writes (Elt F) f L13) ∗
          (∃ f, arg15.view.loc (c : Thread nD τ) ↦[arg15.view.set]{fullShare} arg15.view.writes (Elt F) f L14) ∗
          (∃ f, arg16.view.loc (c : Thread nD τ) ↦[arg16.view.set]{fullShare} arg16.view.writes (Elt F) f L15) ∗
          (∃ f, arg17.view.loc (c : Thread nD τ) ↦[arg17.view.set]{fullShare} arg17.view.writes (Elt F) f L16) ∗
          (∃ f, arg18.view.loc (c : Thread nD τ) ↦[arg18.view.set]{fullShare} arg18.view.writes (Elt F) f L17) ∗
          (∃ f, arg19.view.loc (c : Thread nD τ) ↦[arg19.view.set]{fullShare} arg19.view.writes (Elt F) f L18) ∗
          (∃ f, arg20.view.loc (c : Thread nD τ) ↦[arg20.view.set]{fullShare} arg20.view.writes (Elt F) f L19) ∗
          (∃ f, arg21.view.loc (c : Thread nD τ) ↦[arg21.view.set]{fullShare} arg21.view.writes (Elt F) f L20) ∗
          (∃ f, arg22.view.loc (c : Thread nD τ) ↦[arg22.view.set]{fullShare} arg22.view.writes (Elt F) f L21) ∗
          (∃ f, arg23.view.loc (c : Thread nD τ) ↦[arg23.view.set]{fullShare} arg23.view.writes (Elt F) f L22) ∗
          (∃ f, arg24.view.loc (c : Thread nD τ) ↦[arg24.view.set]{fullShare} f)) -∗ K ⟨⟩))
      ⊢ wp frame (wpE (defs₀ (F := F)) Variants.none c none) E
          (cc0_attn_bwd i arg1 harg1 arg2 harg2 arg3 harg3 arg4 harg4 arg5 harg5 arg6 harg6 arg7 harg7 arg8 harg8 arg9 harg9 arg10 harg10 arg11 harg11 arg12 harg12 arg13 harg13 arg14 harg14
            arg15 harg15 arg16 harg16 arg17 harg17 arg18 harg18 arg19 harg19 arg20 harg20 arg21 harg21 arg22 harg22 arg23 harg23 arg24 harg24) K := by
  refine ⟨?_, ?_, ?_, ?_, ?_, ?_, ?_, ?_, ?_, ?_, fun E K => ?run⟩
  case run =>
    simp only [cc0_attn_bwd_eq_skeleton]; unfold cc0_attn_bwd_skel owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩,
      ⟨%f10, %hf10, H10⟩, ⟨%f11, %hf11, H11⟩, ⟨%f12, %hf12, H12⟩, ⟨%d13, %f13, -, H13⟩, ⟨%d14, %f14, -, H14⟩, ⟨%d15, %f15, -, H15⟩, ⟨%f16, %hf16, H16⟩, ⟨%f17, %hf17, H17⟩,
      ⟨%f18, %hf18, H18⟩, ⟨%f19, %hf19, H19⟩, ⟨%d20, %f20, -, H20⟩, ⟨%d21, %f21, -, H21⟩, ⟨%f22, %hf22, H22⟩, ⟨%ds, %fs, -, HS⟩, Hk⟩
    obtain rfl := harg1.eq_unread hf0; obtain rfl := harg2.eq_unread hf1; obtain rfl := harg3.eq_unread hf2; obtain rfl := harg4.eq_unread hf3;
    obtain rfl := harg5.eq_unread hf4; obtain rfl := harg6.eq_unread hf5; obtain rfl := harg7.eq_unread hf6; obtain rfl := harg8.eq_unread hf7;
    obtain rfl := harg9.eq_unread hf8; obtain rfl := harg10.eq_unread hf9; obtain rfl := harg11.eq_unread hf10; obtain rfl := harg12.eq_unread hf11;
    obtain rfl := harg13.eq_unread hf12; obtain rfl := harg17.eq_unread hf16; obtain rfl := harg18.eq_unread hf17; obtain rfl := harg19.eq_unread hf18;
    obtain rfl := harg20.eq_unread hf19; obtain rfl := harg23.eq_unread hf22
    sl_exec_parts (disch := first | sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    iexists _; iexact HS

/-- What the ten outputs hold after that run. -/
def outNext (hc : ¬ AtFirst i) (a : Accs F) : Outs F :=
  let r := runNext c i arg1 harg1 arg2 harg2 arg3 harg3 arg4 harg4 arg5 harg5 arg6 harg6 arg7 harg7 arg8 harg8 arg9 harg9 arg10 harg10 arg11 harg11 arg12 harg12 arg13 harg13 arg14 harg14
    arg15 harg15 arg16 harg16 arg17 harg17 arg18 harg18 arg19 harg19 arg20 harg20 arg21 harg21 arg22 harg22 arg23 harg23 arg24 harg24
    x0 x1 x2 x3 x4 x5 x6 x7 x8 x9 x10 x11 x12 hc a
  (View.canon r.1, View.canon r.2.1, View.canon r.2.2.1, View.canon r.2.2.2.1, View.canon r.2.2.2.2.1, View.canon r.2.2.2.2.2.1, View.canon r.2.2.2.2.2.2.1, View.canon r.2.2.2.2.2.2.2.1, View.canon r.2.2.2.2.2.2.2.2.1, View.canon r.2.2.2.2.2.2.2.2.2.1)

theorem covNext13 (hc : ¬ AtFirst i) (a : Accs F) (y : S512x1024.Idx) :
    ∃ p ∈ (runNext c i arg1 harg1 arg2 harg2 arg3 harg3 arg4 harg4 arg5 harg5 arg6 harg6 arg7 harg7 arg8 harg8 arg9 harg9 arg10 harg10 arg11 harg11 arg12 harg12 arg13 harg13 arg14 harg14
    arg15 harg15 arg16 harg16 arg17 harg17 arg18 harg18 arg19 harg19 arg20 harg20 arg21 harg21 arg22 harg22 arg23 harg23 arg24 harg24
      x0 x1 x2 x3 x4 x5 x6 x7 x8 x9 x10 x11 x12 hc a).1, y ∈ p.1.set :=
  View.cover_of_tiledL _ S512x1024.size (by sl_kernel_rfl) y

theorem covNext14 (hc : ¬ AtFirst i) (a : Accs F) (y : S512x1024.Idx) :
    ∃ p ∈ (runNext c i arg1 harg1 arg2 harg2 arg3 harg3 arg4 harg4 arg5 harg5 arg6 harg6 arg7 harg7 arg8 harg8 arg9 harg9 arg10 harg10 arg11 harg11 arg12 harg12 arg13 harg13 arg14 harg14
    arg15 harg15 arg16 harg16 arg17 harg17 arg18 harg18 arg19 harg19 arg20 harg20 arg21 harg21 arg22 harg22 arg23 harg23 arg24 harg24
      x0 x1 x2 x3 x4 x5 x6 x7 x8 x9 x10 x11 x12 hc a).2.1, y ∈ p.1.set :=
  View.cover_of_tiledL _ S512x1024.size (by sl_kernel_rfl) y

theorem covNext15 (hc : ¬ AtFirst i) (a : Accs F) (y : S512x1024.Idx) :
    ∃ p ∈ (runNext c i arg1 harg1 arg2 harg2 arg3 harg3 arg4 harg4 arg5 harg5 arg6 harg6 arg7 harg7 arg8 harg8 arg9 harg9 arg10 harg10 arg11 harg11 arg12 harg12 arg13 harg13 arg14 harg14
    arg15 harg15 arg16 harg16 arg17 harg17 arg18 harg18 arg19 harg19 arg20 harg20 arg21 harg21 arg22 harg22 arg23 harg23 arg24 harg24
      x0 x1 x2 x3 x4 x5 x6 x7 x8 x9 x10 x11 x12 hc a).2.2.1, y ∈ p.1.set :=
  View.cover_of_tiledL _ ![512, 256] (by sl_kernel_rfl) y

theorem covNext16 (hc : ¬ AtFirst i) (a : Accs F) (y : S256x1024.Idx) :
    ∃ p ∈ (runNext c i arg1 harg1 arg2 harg2 arg3 harg3 arg4 harg4 arg5 harg5 arg6 harg6 arg7 harg7 arg8 harg8 arg9 harg9 arg10 harg10 arg11 harg11 arg12 harg12 arg13 harg13 arg14 harg14
    arg15 harg15 arg16 harg16 arg17 harg17 arg18 harg18 arg19 harg19 arg20 harg20 arg21 harg21 arg22 harg22 arg23 harg23 arg24 harg24
      x0 x1 x2 x3 x4 x5 x6 x7 x8 x9 x10 x11 x12 hc a).2.2.2.1, y ∈ p.1.set :=
  View.cover_of_tiledL _ ![256, 256] (by sl_kernel_rfl) y

theorem covNext17 (hc : ¬ AtFirst i) (a : Accs F) (y : S256x1024.Idx) :
    ∃ p ∈ (runNext c i arg1 harg1 arg2 harg2 arg3 harg3 arg4 harg4 arg5 harg5 arg6 harg6 arg7 harg7 arg8 harg8 arg9 harg9 arg10 harg10 arg11 harg11 arg12 harg12 arg13 harg13 arg14 harg14
    arg15 harg15 arg16 harg16 arg17 harg17 arg18 harg18 arg19 harg19 arg20 harg20 arg21 harg21 arg22 harg22 arg23 harg23 arg24 harg24
      x0 x1 x2 x3 x4 x5 x6 x7 x8 x9 x10 x11 x12 hc a).2.2.2.2.1, y ∈ p.1.set :=
  View.cover_of_tiledL _ ![256, 256] (by sl_kernel_rfl) y

theorem covNext18 (hc : ¬ AtFirst i) (a : Accs F) (y : S1x1024.Idx) :
    ∃ p ∈ (runNext c i arg1 harg1 arg2 harg2 arg3 harg3 arg4 harg4 arg5 harg5 arg6 harg6 arg7 harg7 arg8 harg8 arg9 harg9 arg10 harg10 arg11 harg11 arg12 harg12 arg13 harg13 arg14 harg14
    arg15 harg15 arg16 harg16 arg17 harg17 arg18 harg18 arg19 harg19 arg20 harg20 arg21 harg21 arg22 harg22 arg23 harg23 arg24 harg24
      x0 x1 x2 x3 x4 x5 x6 x7 x8 x9 x10 x11 x12 hc a).2.2.2.2.2.1, y ∈ p.1.set :=
  View.cover_of_tiledL _ S1x1024.size (by sl_kernel_rfl) y

theorem covNext19 (hc : ¬ AtFirst i) (a : Accs F) (y : S1x1024.Idx) :
    ∃ p ∈ (runNext c i arg1 harg1 arg2 harg2 arg3 harg3 arg4 harg4 arg5 harg5 arg6 harg6 arg7 harg7 arg8 harg8 arg9 harg9 arg10 harg10 arg11 harg11 arg12 harg12 arg13 harg13 arg14 harg14
    arg15 harg15 arg16 harg16 arg17 harg17 arg18 harg18 arg19 harg19 arg20 harg20 arg21 harg21 arg22 harg22 arg23 harg23 arg24 harg24
      x0 x1 x2 x3 x4 x5 x6 x7 x8 x9 x10 x11 x12 hc a).2.2.2.2.2.2.1, y ∈ p.1.set :=
  View.cover_of_tiledL _ S1x1024.size (by sl_kernel_rfl) y

theorem covNext20 (hc : ¬ AtFirst i) (a : Accs F) (y : S512x1024.Idx) :
    ∃ p ∈ (runNext c i arg1 harg1 arg2 harg2 arg3 harg3 arg4 harg4 arg5 harg5 arg6 harg6 arg7 harg7 arg8 harg8 arg9 harg9 arg10 harg10 arg11 harg11 arg12 harg12 arg13 harg13 arg14 harg14
    arg15 harg15 arg16 harg16 arg17 harg17 arg18 harg18 arg19 harg19 arg20 harg20 arg21 harg21 arg22 harg22 arg23 harg23 arg24 harg24
      x0 x1 x2 x3 x4 x5 x6 x7 x8 x9 x10 x11 x12 hc a).2.2.2.2.2.2.2.1, y ∈ p.1.set :=
  View.cover_of_tiledL _ S512x1024.size (by sl_kernel_rfl) y

theorem covNext21 (hc : ¬ AtFirst i) (a : Accs F) (y : S512x1024.Idx) :
    ∃ p ∈ (runNext c i arg1 harg1 arg2 harg2 arg3 harg3 arg4 harg4 arg5 harg5 arg6 harg6 arg7 harg7 arg8 harg8 arg9 harg9 arg10 harg10 arg11 harg11 arg12 harg12 arg13 harg13 arg14 harg14
    arg15 harg15 arg16 harg16 arg17 harg17 arg18 harg18 arg19 harg19 arg20 harg20 arg21 harg21 arg22 harg22 arg23 harg23 arg24 harg24
      x0 x1 x2 x3 x4 x5 x6 x7 x8 x9 x10 x11 x12 hc a).2.2.2.2.2.2.2.2.1, y ∈ p.1.set :=
  View.cover_of_tiledL _ S512x1024.size (by sl_kernel_rfl) y

theorem covNext22 (hc : ¬ AtFirst i) (a : Accs F) (y : S1x1024.Idx) :
    ∃ p ∈ (runNext c i arg1 harg1 arg2 harg2 arg3 harg3 arg4 harg4 arg5 harg5 arg6 harg6 arg7 harg7 arg8 harg8 arg9 harg9 arg10 harg10 arg11 harg11 arg12 harg12 arg13 harg13 arg14 harg14
    arg15 harg15 arg16 harg16 arg17 harg17 arg18 harg18 arg19 harg19 arg20 harg20 arg21 harg21 arg22 harg22 arg23 harg23 arg24 harg24
      x0 x1 x2 x3 x4 x5 x6 x7 x8 x9 x10 x11 x12 hc a).2.2.2.2.2.2.2.2.2.1, y ∈ p.1.set :=
  View.cover_of_tiledL _ S1x1024.size (by sl_kernel_rfl) y

end Cert.KernelAttnIdeal.Attn

end
-- ==== Proof.AttnFrame.lean ====
/- The attention call at every point of its grid: what its outputs hold after each point, that the body does so, and that the whole call leaves its arguments as they were. -/
module

public import proofs.«01_k».proof.Proof.Gen.KernelAttnIdeal.Frame
public import proofs.«01_k».proof.Proof.Gen.KernelAttnIdeal.Skeleton
public import proofs.«01_k».proof.Proof.AttnFirst
public import proofs.«01_k».proof.Proof.AttnNext
public import Idealize.ShloMosaic.Lib.Claim
public import Idealize.ShloMosaic.Lib.Pipeline.Value

@[expose] public section

set_option maxRecDepth 16384

noncomputable section

namespace Cert.KernelAttnIdeal.Attn

open Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The scratch buffer that holds the gradient at the heads' outputs. -/
abbrev scM : Memref sig .tc .vmem S512x1024 .bf16 := Memref.whole cc0_scratch0

/-- Beside the windows the call keeps its scratch buffer, at any contents, and the generator's register. -/
theorem rest_eq (c : Dev nD) : (Pipeline.ΦA spec0 c : sProp (MT nD τ sig Unit (Elt F) ℕ (UR sig nD τ) ℕ))
    = iprop(iprop((∃ d, owns (c : Thread nD τ) scM fullShare d)) ∗ (∃ r, prngReg c r)) := by
  unfold Pipeline.ΦA; rw [scopedRest0_eq]; simp only [scM, owns_whole]; try rfl

theorem hw0 (t : Fin cfg0.N) : (st0_0 t).IsWhole := hstage0_0 ((cfg0.slots t 0).cast nbuf0_0)
theorem hw1 (t : Fin cfg0.N) : (st0_1 t).IsWhole := hstage0_1 ((cfg0.slots t 1).cast nbuf0_1)
theorem hw2 (t : Fin cfg0.N) : (st0_2 t).IsWhole := hstage0_2 ((cfg0.slots t 2).cast nbuf0_2)
theorem hw3 (t : Fin cfg0.N) : (st0_3 t).IsWhole := hstage0_3 ((cfg0.slots t 3).cast nbuf0_3)
theorem hw4 (t : Fin cfg0.N) : (st0_4 t).IsWhole := hstage0_4 ((cfg0.slots t 4).cast nbuf0_4)
theorem hw5 (t : Fin cfg0.N) : (st0_5 t).IsWhole := hstage0_5 ((cfg0.slots t 5).cast nbuf0_5)
theorem hw6 (t : Fin cfg0.N) : (st0_6 t).IsWhole := hstage0_6 ((cfg0.slots t 6).cast nbuf0_6)
theorem hw7 (t : Fin cfg0.N) : (st0_7 t).IsWhole := hstage0_7 ((cfg0.slots t 7).cast nbuf0_7)
theorem hw8 (t : Fin cfg0.N) : (st0_8 t).IsWhole := hstage0_8 ((cfg0.slots t 8).cast nbuf0_8)
theorem hw9 (t : Fin cfg0.N) : (st0_9 t).IsWhole := hstage0_9 ((cfg0.slots t 9).cast nbuf0_9)
theorem hw10 (t : Fin cfg0.N) : (st0_10 t).IsWhole := hstage0_10 ((cfg0.slots t 10).cast nbuf0_10)
theorem hw11 (t : Fin cfg0.N) : (st0_11 t).IsWhole := hstage0_11 ((cfg0.slots t 11).cast nbuf0_11)
theorem hw12 (t : Fin cfg0.N) : (st0_12 t).IsWhole := hstage0_12 ((cfg0.slots t 12).cast nbuf0_12)
theorem hw13 (t : Fin cfg0.N) : (st0_13 t).IsWhole := hstage0_13 ((cfg0.slots t 13).cast nbuf0_13)
theorem hw14 (t : Fin cfg0.N) : (st0_14 t).IsWhole := hstage0_14 ((cfg0.slots t 14).cast nbuf0_14)
theorem hw15 (t : Fin cfg0.N) : (st0_15 t).IsWhole := hstage0_15 ((cfg0.slots t 15).cast nbuf0_15)
theorem hw16 (t : Fin cfg0.N) : (st0_16 t).IsWhole := hstage0_16 ((cfg0.slots t 16).cast nbuf0_16)
theorem hw17 (t : Fin cfg0.N) : (st0_17 t).IsWhole := hstage0_17 ((cfg0.slots t 17).cast nbuf0_17)
theorem hw18 (t : Fin cfg0.N) : (st0_18 t).IsWhole := hstage0_18 ((cfg0.slots t 18).cast nbuf0_18)
theorem hw19 (t : Fin cfg0.N) : (st0_19 t).IsWhole := hstage0_19 ((cfg0.slots t 19).cast nbuf0_19)
theorem hw20 (t : Fin cfg0.N) : (st0_20 t).IsWhole := hstage0_20 ((cfg0.slots t 20).cast nbuf0_20)
theorem hw21 (t : Fin cfg0.N) : (st0_21 t).IsWhole := hstage0_21 ((cfg0.slots t 21).cast nbuf0_21)
theorem hw22 (t : Fin cfg0.N) : (st0_22 t).IsWhole := hstage0_22 ((cfg0.slots t 22).cast nbuf0_22)

/-- What the outputs hold after the body at a point where it sets the accumulators to zero. -/
def firstAt (c : Dev nD) (t : Fin cfg0.N) (h : AtFirst (grid0.coords t)) : Outs F :=
  outFirst c (grid0.coords t) (st0_0 t) (hw0 t) (st0_1 t) (hw1 t) (st0_2 t) (hw2 t) (st0_3 t) (hw3 t) (st0_4 t) (hw4 t) (st0_5 t) (hw5 t) (st0_6 t) (hw6 t) (st0_7 t) (hw7 t) (st0_8 t) (hw8 t)
    (st0_9 t) (hw9 t) (st0_10 t) (hw10 t) (st0_11 t) (hw11 t) (st0_12 t) (hw12 t) (st0_13 t) (hw13 t) (st0_14 t) (hw14 t) (st0_15 t) (hw15 t) (st0_16 t) (hw16 t)
    (st0_17 t) (hw17 t) (st0_18 t) (hw18 t) (st0_19 t) (hw19 t) (st0_20 t) (hw20 t) (st0_21 t) (hw21 t) (st0_22 t) (hw22 t) scM (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t)
    (iblk m c 11 t) (iblk m c 12 t) h

/-- What the outputs hold after the body at another point, from what the accumulators held before it. -/
def nextAt (c : Dev nD) (t : Fin cfg0.N) (h : ¬ AtFirst (grid0.coords t)) (a : Accs F) : Outs F :=
  outNext c (grid0.coords t) (st0_0 t) (hw0 t) (st0_1 t) (hw1 t) (st0_2 t) (hw2 t) (st0_3 t) (hw3 t) (st0_4 t) (hw4 t) (st0_5 t) (hw5 t) (st0_6 t) (hw6 t) (st0_7 t) (hw7 t) (st0_8 t) (hw8 t)
    (st0_9 t) (hw9 t) (st0_10 t) (hw10 t) (st0_11 t) (hw11 t) (st0_12 t) (hw12 t) (st0_13 t) (hw13 t) (st0_14 t) (hw14 t) (st0_15 t) (hw15 t) (st0_16 t) (hw16 t)
    (st0_17 t) (hw17 t) (st0_18 t) (hw18 t) (st0_19 t) (hw19 t) (st0_20 t) (hw20 t) (st0_21 t) (hw21 t) (st0_22 t) (hw22 t) scM (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t)
    (iblk m c 11 t) (iblk m c 12 t) h a

/-- What the outputs hold after each point in turn. -/
def outsAt (c : Dev nD) : (n : ℕ) → n < cfg0.N → Outs F
  | 0, hn => firstAt m c ⟨0, hn⟩ ((atFirst_iff ⟨0, hn⟩).mpr (Nat.zero_mod _))
  | n + 1, hn =>
    if h : (n + 1) % 32 = 0 then firstAt m c ⟨n + 1, hn⟩ ((atFirst_iff ⟨n + 1, hn⟩).mpr h)
    else nextAt m c ⟨n + 1, hn⟩ (fun g => h ((atFirst_iff ⟨n + 1, hn⟩).mp g)) (accs (outsAt c n (Nat.lt_of_succ_lt hn)))

theorem outsAt_first (c : Dev nD) (t : Fin cfg0.N) (h : t.val % 32 = 0) :
    outsAt m c t.val t.isLt = firstAt m c t ((atFirst_iff t).mpr h) := by
  obtain ⟨n, hn⟩ := t
  cases n with
  | zero => exact rfl
  | succ n => exact (dif_pos h).trans rfl

theorem outsAt_next (c : Dev nD) (t : Fin cfg0.N) (h : ¬ t.val % 32 = 0) :
    outsAt m c t.val t.isLt = nextAt m c t (fun g => h ((atFirst_iff t).mp g))
      (accs (outsAt m c (t.val - 1) (Nat.lt_of_le_of_lt (Nat.sub_le _ _) t.isLt))) := by
  obtain ⟨n, hn⟩ := t
  cases n with
  | zero => exact absurd (Nat.zero_mod _) h
  | succ n => exact (dif_neg h).trans rfl

/-- The arrays and the contents of every window's buffer after the body, point by point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => (outsAt m c t.val t.isLt).1
    | ⟨14, _⟩ => (outsAt m c t.val t.isLt).2.1
    | ⟨15, _⟩ => (outsAt m c t.val t.isLt).2.2.1
    | ⟨16, _⟩ => (outsAt m c t.val t.isLt).2.2.2.1
    | ⟨17, _⟩ => (outsAt m c t.val t.isLt).2.2.2.2.1
    | ⟨18, _⟩ => (outsAt m c t.val t.isLt).2.2.2.2.2.1
    | ⟨19, _⟩ => (outsAt m c t.val t.isLt).2.2.2.2.2.2.1
    | ⟨20, _⟩ => (outsAt m c t.val t.isLt).2.2.2.2.2.2.2.1
    | ⟨21, _⟩ => (outsAt m c t.val t.isLt).2.2.2.2.2.2.2.2.1
    | ⟨22, _⟩ => (outsAt m c t.val t.isLt).2.2.2.2.2.2.2.2.2
    | ⟨_ + 23, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = (outsAt m c t.val t.isLt).1 := by dsimp only [dats]
theorem after14 (c : Dev nD) (t : Fin cfg0.N) : (dats m 0 c).after 14 t = (outsAt m c t.val t.isLt).2.1 := by dsimp only [dats]
theorem after15 (c : Dev nD) (t : Fin cfg0.N) : (dats m 0 c).after 15 t = (outsAt m c t.val t.isLt).2.2.1 := by dsimp only [dats]
theorem after16 (c : Dev nD) (t : Fin cfg0.N) : (dats m 0 c).after 16 t = (outsAt m c t.val t.isLt).2.2.2.1 := by dsimp only [dats]
theorem after17 (c : Dev nD) (t : Fin cfg0.N) : (dats m 0 c).after 17 t = (outsAt m c t.val t.isLt).2.2.2.2.1 := by dsimp only [dats]
theorem after18 (c : Dev nD) (t : Fin cfg0.N) : (dats m 0 c).after 18 t = (outsAt m c t.val t.isLt).2.2.2.2.2.1 := by dsimp only [dats]
theorem after19 (c : Dev nD) (t : Fin cfg0.N) : (dats m 0 c).after 19 t = (outsAt m c t.val t.isLt).2.2.2.2.2.2.1 := by dsimp only [dats]
theorem after20 (c : Dev nD) (t : Fin cfg0.N) : (dats m 0 c).after 20 t = (outsAt m c t.val t.isLt).2.2.2.2.2.2.2.1 := by dsimp only [dats]
theorem after21 (c : Dev nD) (t : Fin cfg0.N) : (dats m 0 c).after 21 t = (outsAt m c t.val t.isLt).2.2.2.2.2.2.2.2.1 := by dsimp only [dats]
theorem after22 (c : Dev nD) (t : Fin cfg0.N) : (dats m 0 c).after 22 t = (outsAt m c t.val t.isLt).2.2.2.2.2.2.2.2.2 := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d
theorem before11 (c : Dev nD) (t : Fin cfg0.N) (d) : (dats m 0 c).before 11 t d = iblk m c 11 t :=
  before0_11_of m (dats m 0 c) (A_eq m c 11) (after11 m c) t d
theorem before12 (c : Dev nD) (t : Fin cfg0.N) (d) : (dats m 0 c).before 12 t d = iblk m c 12 t :=
  before0_12_of m (dats m 0 c) (A_eq m c 12) (after12 m c) t d

theorem before16 (c : Dev nD) (t : Fin cfg0.N) (h0 : ¬ t.val % 32 = 0) (d) :
    (dats m 0 c).before 16 t d = (outsAt m c (t.val - 1) (Nat.lt_of_le_of_lt (Nat.sub_le _ _) t.isLt)).2.2.2.1 := by
  have hN : t.val < 32 := lt_of_lt_of_eq t.isLt N_0
  rw [Dat.before_out_kept _ 16 rfl t (by omega)
    (Bool.eq_false_iff.mpr fun h => by have := (flush0_16 _).mp h; dsimp only at this; omega) (fun _ => rfl) (fun _ _ => rfl)]
  dsimp only [dats]

theorem before17 (c : Dev nD) (t : Fin cfg0.N) (h0 : ¬ t.val % 32 = 0) (d) :
    (dats m 0 c).before 17 t d = (outsAt m c (t.val - 1) (Nat.lt_of_le_of_lt (Nat.sub_le _ _) t.isLt)).2.2.2.2.1 := by
  have hN : t.val < 32 := lt_of_lt_of_eq t.isLt N_0
  rw [Dat.before_out_kept _ 17 rfl t (by omega)
    (Bool.eq_false_iff.mpr fun h => by have := (flush0_17 _).mp h; dsimp only at this; omega) (fun _ => rfl) (fun _ _ => rfl)]
  dsimp only [dats]

theorem before18 (c : Dev nD) (t : Fin cfg0.N) (h0 : ¬ t.val % 32 = 0) (d) :
    (dats m 0 c).before 18 t d = (outsAt m c (t.val - 1) (Nat.lt_of_le_of_lt (Nat.sub_le _ _) t.isLt)).2.2.2.2.2.1 := by
  have hN : t.val < 32 := lt_of_lt_of_eq t.isLt N_0
  rw [Dat.before_out_kept _ 18 rfl t (by omega)
    (Bool.eq_false_iff.mpr fun h => by have := (flush0_18 _).mp h; dsimp only at this; omega) (fun _ => rfl) (fun _ _ => rfl)]
  dsimp only [dats]

theorem before19 (c : Dev nD) (t : Fin cfg0.N) (h0 : ¬ t.val % 32 = 0) (d) :
    (dats m 0 c).before 19 t d = (outsAt m c (t.val - 1) (Nat.lt_of_le_of_lt (Nat.sub_le _ _) t.isLt)).2.2.2.2.2.2.1 := by
  have hN : t.val < 32 := lt_of_lt_of_eq t.isLt N_0
  rw [Dat.before_out_kept _ 19 rfl t (by omega)
    (Bool.eq_false_iff.mpr fun h => by have := (flush0_19 _).mp h; dsimp only at this; omega) (fun _ => rfl) (fun _ _ => rfl)]
  dsimp only [dats]

theorem before22 (c : Dev nD) (t : Fin cfg0.N) (h0 : ¬ t.val % 32 = 0) (d) :
    (dats m 0 c).before 22 t d = (outsAt m c (t.val - 1) (Nat.lt_of_le_of_lt (Nat.sub_le _ _) t.isLt)).2.2.2.2.2.2.2.2.2 := by
  have hN : t.val < 32 := lt_of_lt_of_eq t.isLt N_0
  rw [Dat.before_out_kept _ 22 rfl t (by omega)
    (Bool.eq_false_iff.mpr fun h => by have := (flush0_22 _).mp h; dsimp only at this; omega) (fun _ => rfl) (fun _ _ => rfl)]
  dsimp only [dats]

/-- What the body is called with at a point. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d)))

/-- What it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t))

set_option maxHeartbeats 8000000 in
/-- The body at any point returns what it should. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13, after14, after15, after16, after17, after18, after19, after20, after21, after22,
    show (dats m 0 c).Φ t.castSucc = Pipeline.ΦA spec0 c from rfl, rest_eq]
  by_cases h0 : t.val % 32 = 0
  · rw [outsAt_first m c t h0]
    unfold firstAt outFirst; dsimp only
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
    iapply ((runFirst c (grid0.coords t) _ _ _ _ _ _ _ _ _ _ _ _ _ _ _ _ _ _ _ _ _ _ _ _ _ _ _ _ _ _ _ _ _ _ _ _ _ _ _ _ _ _ _ _ _ _ _ _
      (iblk m c 0 t) (iblk m c 1 t) (iblk m c 2 t) (iblk m c 3 t) (iblk m c 4 t) (iblk m c 5 t) (iblk m c 6 t) (iblk m c 7 t) (iblk m c 8 t) (iblk m c 9 t) (iblk m c 10 t)
      (iblk m c 11 t) (iblk m c 12 t) ((atFirst_iff t).mpr h0)).2.2.2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [HS]; · iexact HS
    iintro ⟨H0, H1, H2, H3, H4, H5, H6, H7, H8, H9, H10, H11, H12, ⟨%e13, H13⟩, ⟨%e14, H14⟩, ⟨%e15, H15⟩, ⟨%e16, H16⟩, ⟨%e17, H17⟩, ⟨%e18, H18⟩, ⟨%e19, H19⟩, ⟨%e20, H20⟩, ⟨%e21, H21⟩, ⟨%e22, H22⟩, ⟨%eS, HS⟩⟩
    isplitl [HS Hg]
    · isplitl [HS]
      · iexists _; unfold owns; iexists _; isplitr
        swap; · iexact HS
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]
    · unfold owns; iexists _; isplitr
      swap; · iexact H13
      ipureintro; exact read_canon _ _ _ (covFirst13 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H14]
    · unfold owns; iexists _; isplitr
      swap; · iexact H14
      ipureintro; exact read_canon _ _ _ (covFirst14 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H15]
    · unfold owns; iexists _; isplitr
      swap; · iexact H15
      ipureintro; exact read_canon _ _ _ (covFirst15 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H16]
    · unfold owns; iexists _; isplitr
      swap; · iexact H16
      ipureintro; exact read_canon _ _ _ (covFirst16 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H17]
    · unfold owns; iexists _; isplitr
      swap; · iexact H17
      ipureintro; exact read_canon _ _ _ (covFirst17 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H18]
    · unfold owns; iexists _; isplitr
      swap; · iexact H18
      ipureintro; exact read_canon _ _ _ (covFirst18 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H19]
    · unfold owns; iexists _; isplitr
      swap; · iexact H19
      ipureintro; exact read_canon _ _ _ (covFirst19 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H20]
    · unfold owns; iexists _; isplitr
      swap; · iexact H20
      ipureintro; exact read_canon _ _ _ (covFirst20 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H21]
    · unfold owns; iexists _; isplitr
      swap; · iexact H21
      ipureintro; exact read_canon _ _ _ (covFirst21 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    unfold owns; iexists _; isplitr
    swap; · iexact H22
    ipureintro; exact read_canon _ _ _ (covFirst22 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  · rw [outsAt_next m c t h0]
    simp only [before16 m c t h0, before17 m c t h0, before18 m c t h0, before19 m c t h0, before22 m c t h0]
    unfold nextAt outNext; dsimp only
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
    iapply ((runNext c (grid0.coords t) _ _ _ _ _ _ _ _ _ _ _ _ _ _ _ _ _ _ _ _ _ _ _ _ _ _ _ _ _ _ _ _ _ _ _ _ _ _ _ _ _ _ _ _ _ _ _ _
      (iblk m c 0 t) (iblk m c 1 t) (iblk m c 2 t) (iblk m c 3 t) (iblk m c 4 t) (iblk m c 5 t) (iblk m c 6 t) (iblk m c 7 t) (iblk m c 8 t) (iblk m c 9 t) (iblk m c 10 t)
      (iblk m c 11 t) (iblk m c 12 t) (fun g => h0 ((atFirst_iff t).mp g)) (accs (outsAt m c (t.val - 1) (Nat.lt_of_le_of_lt (Nat.sub_le _ _) t.isLt)))).2.2.2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    isplitl [H15]; · iexists _; iexact H15
    isplitl [H16]; · iexact H16
    isplitl [H17]; · iexact H17
    isplitl [H18]; · iexact H18
    isplitl [H19]; · iexact H19
    isplitl [H20]; · iexists _; iexact H20
    isplitl [H21]; · iexists _; iexact H21
    isplitl [H22]; · iexact H22
    isplitl [HS]; · iexact HS
    iintro ⟨H0, H1, H2, H3, H4, H5, H6, H7, H8, H9, H10, H11, H12, ⟨%e13, H13⟩, ⟨%e14, H14⟩, ⟨%e15, H15⟩, ⟨%e16, H16⟩, ⟨%e17, H17⟩, ⟨%e18, H18⟩, ⟨%e19, H19⟩, ⟨%e20, H20⟩, ⟨%e21, H21⟩, ⟨%e22, H22⟩, ⟨%eS, HS⟩⟩
    isplitl [HS Hg]
    · isplitl [HS]
      · iexists _; unfold owns; iexists _; isplitr
        swap; · iexact HS
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]
    · unfold owns; iexists _; isplitr
      swap; · iexact H13
      ipureintro; exact read_canon _ _ _ (covNext13 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H14]
    · unfold owns; iexists _; isplitr
      swap; · iexact H14
      ipureintro; exact read_canon _ _ _ (covNext14 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H15]
    · unfold owns; iexists _; isplitr
      swap; · iexact H15
      ipureintro; exact read_canon _ _ _ (covNext15 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H16]
    · unfold owns; iexists _; isplitr
      swap; · iexact H16
      ipureintro; exact read_canon _ _ _ (covNext16 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H17]
    · unfold owns; iexists _; isplitr
      swap; · iexact H17
      ipureintro; exact read_canon _ _ _ (covNext17 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H18]
    · unfold owns; iexists _; isplitr
      swap; · iexact H18
      ipureintro; exact read_canon _ _ _ (covNext18 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H19]
    · unfold owns; iexists _; isplitr
      swap; · iexact H19
      ipureintro; exact read_canon _ _ _ (covNext19 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H20]
    · unfold owns; iexists _; isplitr
      swap; · iexact H20
      ipureintro; exact read_canon _ _ _ (covNext20 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H21]
    · unfold owns; iexists _; isplitr
      swap; · iexact H21
      ipureintro; exact read_canon _ _ _ (covNext21 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    unfold owns; iexists _; isplitr
    swap; · iexact H22
    ipureintro; exact read_canon _ _ _ (covNext22 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

theorem body_row (t : Fin cfg0.N) : defs₀ (F := F) .tc cfg0.body (cfg0.bodyArgs t (cfg0.slots t)) = bodyAt0 t := by
  unfold defs₀; rw [Defs.onTc_tc]

set_option maxHeartbeats 2000000 in
theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

set_option backward.isDefEq.respectTransparency.types false in
/-- The whole call: every array ends at what the points leave, and every counter at zero. -/
theorem run_zero : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_zero m ρ)

/-- The call leaves its arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (frame_of m ρ (dats m) (A_eq m) (run_main m ρ)) ((θ_run defs _ _).mono (fun _ h => h.2) (run_zero m ρ))

end Cert.KernelAttnIdeal.Attn

end
-- ==== Proof.AttnSlices.lean ====
/- Part of this certificate's own proof. -/
module

public import proofs.«01_k».proof.Proof.AttnStages
public import proofs.«01_k».proof.Proof.AttnFrame
public import Idealize.ShloMosaic.Lib.Pipeline.ReadBack

@[expose] public section

set_option maxRecDepth 16384

noncomputable section

open Idealize.ShloMosaic Idealize.ShloMosaic.TcCoe Idealize.SL.Sem

namespace Cert.KernelAttnIdeal.Attn

open Cert.ReferenceAttnIdeal.Read (col col_cases)
open Cert.KernelAttnIdeal Cert.KernelAttnIdeal.Gen

/-- A block of 256 of the 1024 columns. -/
abbrev Quarter (n : ℕ) : Shape := ⟨2, ![n, 256]⟩
abbrev Full (n : ℕ) : Shape := ⟨2, ![n, 1024]⟩

/-- The head a column belongs to, and the column within it. -/
def hd (j : Fin 1024) : Fin 4 := ⟨j.val / 256, by have := j.isLt; omega⟩
def lo (j : Fin 1024) : Fin 256 := ⟨j.val % 256, Nat.mod_lt _ (by decide)⟩

theorem hd_col (h : Fin 4) (d : Fin 256) : hd (col h d) = h := Fin.ext (by have := d.isLt; simp only [hd, col]; omega)
theorem lo_col (h : Fin 4) (d : Fin 256) : lo (col h d) = d := Fin.ext (by have := d.isLt; simp only [lo, col]; omega)

theorem emb_quarter {n : ℕ} (h : Fin 4) (b) (i : Fin n) (j : Fin 256) :
    (Rect.unit (s := Full n) ![0, h.val * 256] ![n, 256] b).emb (ix2 i j) = ix2 i (col h j) := by
  funext a
  refine Fin.ext ((Rect.idx_unit_val _ _ _ _ _).trans ?_)
  fin_cases a
  · exact Nat.zero_add _
  · rfl

/-- Four stores of 256 columns each, beside each other: column `j` of store `h` holds that store's value. -/
theorem four {n : ℕ} {e : EltTy} (A : Fin 4 → (Quarter n).Idx → Elt Ideal e) (L : List (View.Piece (Elt Ideal) (Full n) e)) (b3 b2 b1 b0)
    (i : Fin n) (h : Fin 4) (j : Fin 256) :
    View.canon (⟨Rect.unit (s := Full n) ![0, 768] ![n, 256] b3, A 3⟩ :: ⟨Rect.unit ![0, 512] ![n, 256] b2, A 2⟩ :: ⟨Rect.unit ![0, 256] ![n, 256] b1, A 1⟩
      :: ⟨Rect.unit ![0, 0] ![n, 256] b0, A 0⟩ :: L) (ix2 i (col h j)) = A h (ix2 i j) := by
  have key : ∀ (k : Fin 4) (b) (x : (Quarter n).Idx), A k x = A (hd ((Rect.unit (s := Full n) ![0, k.val * 256] ![n, 256] b).emb x 1))
      (ix2 ((Rect.unit (s := Full n) ![0, k.val * 256] ![n, 256] b).emb x 0) (lo ((Rect.unit (s := Full n) ![0, k.val * 256] ![n, 256] b).emb x 1))) := fun k b x => by
    obtain ⟨p, q, rfl⟩ : ∃ p q, x = ix2 p q := ⟨x 0, x 1, eq_ix2 x⟩
    rw [emb_quarter]
    change _ = A (hd (col k _)) (ix2 _ (lo (col k _)))
    rw [hd_col, lo_col]
    rfl
  refine (View.canon_append_of_piecesOf (fun y => A (hd (y 1)) (ix2 (y 0) (lo (y 1)))) L [_, _, _, _] ⟨key 3 b3, key 2 b2, key 1 b1, key 0 b0, trivial⟩ _ ?_).trans ?_
  · fin_cases h
    · exact ⟨_, .tail _ (.tail _ (.tail _ (.head _))), (emb_quarter 0 b0 i j) ▸ LoadRect.idx_mem _ _⟩
    · exact ⟨_, .tail _ (.tail _ (.head _)), (emb_quarter 1 b1 i j) ▸ LoadRect.idx_mem _ _⟩
    · exact ⟨_, .tail _ (.head _), (emb_quarter 2 b2 i j) ▸ LoadRect.idx_mem _ _⟩
    · exact ⟨_, .head _, (emb_quarter 3 b3 i j) ▸ LoadRect.idx_mem _ _⟩
  · change A (hd (col h j)) (ix2 i (lo (col h j))) = _
    rw [hd_col, lo_col]

/-- The columns of head `h`, loaded. -/
theorem slice {n : ℕ} {e : EltTy} (X : (Full n).Idx → Elt Ideal e) (h : Fin 4) (b) :
    View.ld X (Rect.unit (s := Full n) ![0, h.val * 256] ![n, 256] b) = fun y => X (ix2 (y 0) (col h (y 1))) := by
  funext y
  obtain ⟨p, q, rfl⟩ : ∃ p q, y = ix2 p q := ⟨y 0, y 1, eq_ix2 y⟩
  exact congrArg X (emb_quarter h b _ _)

variable (m : (ℓ : Loc nD τ sig) → Buf (Elt Ideal) ℓ) (c : Dev nD) (t : Fin cfg0.N)

theorem q_0 : View.ld (iblk m c 3 t) (Rect.unit ![0, 0] ![512, 256] inb_S512x1024_S512x256_0_0) = qs m c t 0 := slice (n := 512) (e := .bf16) _ 0 _
theorem k_0 : View.ld (iblk m c 4 t) (Rect.unit ![0, 0] ![256, 256] inb_S256x1024_S256x256_0_0) = ks m c t 0 := slice (n := 256) (e := .bf16) _ 0 _
theorem v_0 : View.ld (iblk m c 5 t) (Rect.unit ![0, 0] ![256, 256] inb_S256x1024_S256x256_0_0) = vs m c t 0 := slice (n := 256) (e := .bf16) _ 0 _
theorem o_0 : @View.ld (Elt Ideal) S512x1024 .bf16 (k0_pay14 (k0_pay13 (iblk m c 0 t) (iblk m c 1 t) (iblk m c 9 t)) (iblk m c 8 t)) (Rect.unit ![0, 0] ![512, 256] inb_S512x1024_S512x256_0_0) = dos m c t 0 := slice (n := 512) (e := .bf16) _ 0 _
theorem cut_0 (X : Vec Ideal S256x1024 .f32) : @View.ld (Elt Ideal) S256x1024 .f32 X (Rect.unit ![0, 0] ![256, 256] inb_S256x1024_S256x256_0_0) = fun y => X (ix2 (y 0) (col 0 (y 1))) := slice (n := 256) (e := .f32) _ 0 _
theorem q_1 : View.ld (iblk m c 3 t) (Rect.unit ![0, 256] ![512, 256] inb_S512x1024_S512x256_0_256) = qs m c t 1 := slice (n := 512) (e := .bf16) _ 1 _
theorem k_1 : View.ld (iblk m c 4 t) (Rect.unit ![0, 256] ![256, 256] inb_S256x1024_S256x256_0_256) = ks m c t 1 := slice (n := 256) (e := .bf16) _ 1 _
theorem v_1 : View.ld (iblk m c 5 t) (Rect.unit ![0, 256] ![256, 256] inb_S256x1024_S256x256_0_256) = vs m c t 1 := slice (n := 256) (e := .bf16) _ 1 _
theorem o_1 : @View.ld (Elt Ideal) S512x1024 .bf16 (k0_pay14 (k0_pay13 (iblk m c 0 t) (iblk m c 1 t) (iblk m c 9 t)) (iblk m c 8 t)) (Rect.unit ![0, 256] ![512, 256] inb_S512x1024_S512x256_0_256) = dos m c t 1 := slice (n := 512) (e := .bf16) _ 1 _
theorem cut_1 (X : Vec Ideal S256x1024 .f32) : @View.ld (Elt Ideal) S256x1024 .f32 X (Rect.unit ![0, 256] ![256, 256] inb_S256x1024_S256x256_0_256) = fun y => X (ix2 (y 0) (col 1 (y 1))) := slice (n := 256) (e := .f32) _ 1 _
theorem q_2 : View.ld (iblk m c 3 t) (Rect.unit ![0, 512] ![512, 256] inb_S512x1024_S512x256_0_512) = qs m c t 2 := slice (n := 512) (e := .bf16) _ 2 _
theorem k_2 : View.ld (iblk m c 4 t) (Rect.unit ![0, 512] ![256, 256] inb_S256x1024_S256x256_0_512) = ks m c t 2 := slice (n := 256) (e := .bf16) _ 2 _
theorem v_2 : View.ld (iblk m c 5 t) (Rect.unit ![0, 512] ![256, 256] inb_S256x1024_S256x256_0_512) = vs m c t 2 := slice (n := 256) (e := .bf16) _ 2 _
theorem o_2 : @View.ld (Elt Ideal) S512x1024 .bf16 (k0_pay14 (k0_pay13 (iblk m c 0 t) (iblk m c 1 t) (iblk m c 9 t)) (iblk m c 8 t)) (Rect.unit ![0, 512] ![512, 256] inb_S512x1024_S512x256_0_512) = dos m c t 2 := slice (n := 512) (e := .bf16) _ 2 _
theorem cut_2 (X : Vec Ideal S256x1024 .f32) : @View.ld (Elt Ideal) S256x1024 .f32 X (Rect.unit ![0, 512] ![256, 256] inb_S256x1024_S256x256_0_512) = fun y => X (ix2 (y 0) (col 2 (y 1))) := slice (n := 256) (e := .f32) _ 2 _
theorem q_3 : View.ld (iblk m c 3 t) (Rect.unit ![0, 768] ![512, 256] inb_S512x1024_S512x256_0_768) = qs m c t 3 := slice (n := 512) (e := .bf16) _ 3 _
theorem k_3 : View.ld (iblk m c 4 t) (Rect.unit ![0, 768] ![256, 256] inb_S256x1024_S256x256_0_768) = ks m c t 3 := slice (n := 256) (e := .bf16) _ 3 _
theorem v_3 : View.ld (iblk m c 5 t) (Rect.unit ![0, 768] ![256, 256] inb_S256x1024_S256x256_0_768) = vs m c t 3 := slice (n := 256) (e := .bf16) _ 3 _
theorem o_3 : @View.ld (Elt Ideal) S512x1024 .bf16 (k0_pay14 (k0_pay13 (iblk m c 0 t) (iblk m c 1 t) (iblk m c 9 t)) (iblk m c 8 t)) (Rect.unit ![0, 768] ![512, 256] inb_S512x1024_S512x256_0_768) = dos m c t 3 := slice (n := 512) (e := .bf16) _ 3 _
theorem cut_3 (X : Vec Ideal S256x1024 .f32) : @View.ld (Elt Ideal) S256x1024 .f32 X (Rect.unit ![0, 768] ![256, 256] inb_S256x1024_S256x256_0_768) = fun y => X (ix2 (y 0) (col 3 (y 1))) := slice (n := 256) (e := .f32) _ 3 _

/-- The gradient of head `h`'s keys before the sum over the rows so far, and of its values: what each head's stores add to the block. -/
def dk1 (h : Fin 4) (X : Vec Ideal S256x1024 .f32) : FVec Ideal S256x256 .f32 := k0_pay21 (k0_pay15 (qs m c t h)) (kp m c t h) (kdp m c t h) (fun y => X (ix2 (y 0) (col h (y 1))))
def dv1 (h : Fin 4) (X : Vec Ideal S256x1024 .f32) : FVec Ideal S256x256 .f32 := k0_pay18 (qs m c t h) (ks m c t h) (dos m c t h) (fun y => X (ix2 (y 0) (col h (y 1))))
def dq1 (h : Fin 4) : FVec Ideal S512x256 .bf16 := k0_pay20 (kp m c t h) (kdp m c t h) (ks m c t h)

theorem dq_0 : k0_pay20 (k0_pay16 (qs m c t 0) (ks m c t 0)) (k0_pay17 (dos m c t 0) (vs m c t 0)) (ks m c t 0) = dq1 m c t 0 := rfl
theorem dq_1 : k0_pay26 (k0_pay23 (qs m c t 1) (ks m c t 1)) (dos m c t 1) (vs m c t 1) (ks m c t 1) = dq1 m c t 1 := rfl
theorem dq_2 : k0_pay32 (k0_pay28 (qs m c t 2)) (ks m c t 2) (dos m c t 2) (vs m c t 2) (ks m c t 2) = dq1 m c t 2 := rfl
theorem dq_3 : k0_pay40 (k0_pay35 (qs m c t 3) (ks m c t 3)) (k0_pay36 (dos m c t 3) (vs m c t 3)) (k0_pay38 (qs m c t 3) (ks m c t 3) (dos m c t 3) (vs m c t 3)) (ks m c t 3) = dq1 m c t 3 := rfl
theorem dk_0 (X : Vec Ideal S256x1024 .f32) : k0_pay21 (k0_pay15 (qs m c t 0)) (k0_pay16 (qs m c t 0) (ks m c t 0)) (k0_pay17 (dos m c t 0) (vs m c t 0)) (fun y => X (ix2 (y 0) (col 0 (y 1)))) = dk1 m c t 0 X := rfl
theorem dk_1 (X : Vec Ideal S256x1024 .f32) : k0_pay27 (k0_pay22 (qs m c t 1)) (k0_pay23 (qs m c t 1) (ks m c t 1)) (dos m c t 1) (vs m c t 1) (fun y => X (ix2 (y 0) (col 1 (y 1)))) = dk1 m c t 1 X := rfl
theorem dk_2 (X : Vec Ideal S256x1024 .f32) : k0_pay33 (k0_pay28 (qs m c t 2)) (k0_pay31 (k0_pay28 (qs m c t 2)) (ks m c t 2) (dos m c t 2) (vs m c t 2)) (fun y => X (ix2 (y 0) (col 2 (y 1)))) = dk1 m c t 2 X := rfl
theorem dk_3 (X : Vec Ideal S256x1024 .f32) : k0_pay41 (k0_pay34 (qs m c t 3)) (k0_pay35 (qs m c t 3) (ks m c t 3)) (k0_pay36 (dos m c t 3) (vs m c t 3)) (k0_pay38 (qs m c t 3) (ks m c t 3) (dos m c t 3) (vs m c t 3)) (fun y => X (ix2 (y 0) (col 3 (y 1)))) = dk1 m c t 3 X := rfl
theorem dv_0 (X : Vec Ideal S256x1024 .f32) : k0_pay18 (qs m c t 0) (ks m c t 0) (dos m c t 0) (fun y => X (ix2 (y 0) (col 0 (y 1)))) = dv1 m c t 0 X := rfl
theorem dv_1 (X : Vec Ideal S256x1024 .f32) : k0_pay24 (k0_pay23 (qs m c t 1) (ks m c t 1)) (dos m c t 1) (fun y => X (ix2 (y 0) (col 1 (y 1)))) = dv1 m c t 1 X := rfl
theorem dv_2 (X : Vec Ideal S256x1024 .f32) : k0_pay30 (k0_pay28 (qs m c t 2)) (ks m c t 2) (dos m c t 2) (fun y => X (ix2 (y 0) (col 2 (y 1)))) = dv1 m c t 2 X := rfl
theorem dv_3 (X : Vec Ideal S256x1024 .f32) : k0_pay37 (qs m c t 3) (ks m c t 3) (dos m c t 3) (fun y => X (ix2 (y 0) (col 3 (y 1)))) = dv1 m c t 3 X := rfl

/-- The four stores of the queries' gradient, read back whole. -/
theorem dq_back (b) : (st0_15 t).view.readCov [⟨Rect.unit ![0, 768] ![512, 256] inb_S512x1024_S512x256_0_768, dq1 m c t 3⟩, ⟨Rect.unit ![0, 512] ![512, 256] inb_S512x1024_S512x256_0_512, dq1 m c t 2⟩, ⟨Rect.unit ![0, 256] ![512, 256] inb_S512x1024_S512x256_0_256, dq1 m c t 1⟩, ⟨Rect.unit ![0, 0] ![512, 256] inb_S512x1024_S512x256_0_0, dq1 m c t 0⟩]
    (Rect.unit (s := S512x1024) ![0, 0] ![512, 1024] b).toLoadRect = kdq m c t := by
  rw [View.readCov_eq_canon']
  funext y
  idx_vars y
  obtain ⟨h, d, rfl⟩ := col_cases y1
  have e : (Rect.unit (s := S512x1024) ![0, 0] ![512, 1024] b).toLoadRect.idx (ix2 y0 (col h d)) = ix2 y0 (col h d) := by
    funext a
    refine Fin.ext ((Rect.idx_unit_val _ _ _ _ _).trans ?_)
    fin_cases a <;> exact Nat.zero_add _
  rw [e]
  refine (four (n := 512) (e := .bf16) (dq1 m c t) [] _ _ _ _ y0 h d).trans ?_
  change _ = dq1 m c t (hd (col h d)) (ix2 y0 (lo (col h d)))
  rw [hd_col, lo_col]

end Cert.KernelAttnIdeal.Attn
end
-- ==== Proof.AfwdValue.lean ====
module

public import proofs.«01_k».proof.Proof.Gen.KernelAfwdIdeal.Value
public import proofs.«01_k».proof.Proof.AfwdRef
public import proofs.«01_k».proof.Proof.AttnSlices
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelAfwdIdeal.Value

open Cert.ReferenceAttnIdeal.Read (col col_cases sixteenth)
open Cert.KernelAttnIdeal.Attn (four slice hd lo hd_col lo_col)
open Cert.KernelAfwdIdeal Cert.KernelAfwdIdeal.Gen

variable (m : (ℓ : Loc nD τ sig) → Buf (Elt Ideal) ℓ) (c : Dev nD) (t : Fin cfg0.N)

/-- Where each block of point `t` lies. -/
theorem idx_all : ∀ t : Fin cfg0.N, win0_0.index t = ![t.val, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![t.val, 0] ∧ win0_8.index t = ![t.val, 0] ∧ win0_9.index t = ![t.val, 0] ∧ win0_10.index t = ![t.val, 0] ∧ win0_11.index t = ![t.val, 0] :=
  (by decide +kernel : ∀ t : Fin grid0.N, _)

theorem lt_N : t.val < 32 := lt_of_lt_of_eq t.isLt (show cfg0.N = 32 from N_0)

/-- The row of the whole matrix that row `i` of point `t`'s block is. -/
def row (i : Fin 512) : Fin 16384 := ⟨t.val * 512 + i.val, by have := lt_N t; have := i.isLt; omega⟩

theorem read0 (i : Fin 512) (j : Fin 1024) : iblk m c 0 t (ix2 i j) = m ((c : Thread nD τ).loc main_arg0) (ix2 (row t i) j) := by
  obtain ⟨i0, i1, i2, i3, i4, i5, i6, i7, i8, i9, i10, i11⟩ := idx_all t
  blk_ext [iblk, V, i0, row]

theorem read1 (i : Fin 1) (j : Fin 1024) : iblk m c 1 t (ix2 i j) = m ((c : Thread nD τ).loc main_arg1) (ix1 j) := by
  obtain ⟨i0, i1, i2, i3, i4, i5, i6, i7, i8, i9, i10, i11⟩ := idx_all t
  have e : ((cfg0.win 1).blk t).view.emb (ix2 i j) = ix2 i j := by blk_ext [i1]
  unfold iblk
  rw [View.read_apply, e]
  show V m c main_v0 _ = _
  dsimp only [V, hostOps0]
  after_results_simp
  pointwise []

theorem read2 (i : Fin 1024) (j : Fin 1024) : iblk m c 2 t (ix2 i j) = m ((c : Thread nD τ).loc main_arg2) (ix2 i j) := by
  obtain ⟨i0, i1, i2, i3, i4, i5, i6, i7, i8, i9, i10, i11⟩ := idx_all t
  have e : ((cfg0.win 2).blk t).view.emb (ix2 i j) = ix2 i j := by blk_ext [i2]
  unfold iblk
  rw [View.read_apply, e]
  show V m c main_v1 _ = _
  dsimp only [V, hostOps0]
  after_results_simp
  rfl

theorem read3 (i : Fin 256) (j : Fin 1024) : iblk m c 3 t (ix2 i j) = m ((c : Thread nD τ).loc main_arg3) (ix2 i j) := by
  obtain ⟨i0, i1, i2, i3, i4, i5, i6, i7, i8, i9, i10, i11⟩ := idx_all t
  have e : ((cfg0.win 3).blk t).view.emb (ix2 i j) = ix2 i j := by blk_ext [i3]
  unfold iblk
  rw [View.read_apply, e]
  show V m c main_v2 _ = _
  dsimp only [V, hostOps0]
  after_results_simp
  rfl

theorem read4 (i : Fin 256) (j : Fin 1024) : iblk m c 4 t (ix2 i j) = m ((c : Thread nD τ).loc main_arg4) (ix2 i j) := by
  obtain ⟨i0, i1, i2, i3, i4, i5, i6, i7, i8, i9, i10, i11⟩ := idx_all t
  have e : ((cfg0.win 4).blk t).view.emb (ix2 i j) = ix2 i j := by blk_ext [i4]
  unfold iblk
  rw [View.read_apply, e]
  show V m c main_v3 _ = _
  dsimp only [V, hostOps0]
  after_results_simp
  rfl

theorem read5 (i : Fin 1024) (j : Fin 1024) : iblk m c 5 t (ix2 i j) = m ((c : Thread nD τ).loc main_arg5) (ix2 i j) := by
  obtain ⟨i0, i1, i2, i3, i4, i5, i6, i7, i8, i9, i10, i11⟩ := idx_all t
  have e : ((cfg0.win 5).blk t).view.emb (ix2 i j) = ix2 i j := by blk_ext [i5]
  unfold iblk
  rw [View.read_apply, e]
  show V m c main_v4 _ = _
  dsimp only [V, hostOps0]
  after_results_simp
  rfl

theorem read6 (i : Fin 1) (j : Fin 1024) : iblk m c 6 t (ix2 i j) = m ((c : Thread nD τ).loc main_arg6) (ix1 j) := by
  obtain ⟨i0, i1, i2, i3, i4, i5, i6, i7, i8, i9, i10, i11⟩ := idx_all t
  have e : ((cfg0.win 6).blk t).view.emb (ix2 i j) = ix2 i j := by blk_ext [i6]
  unfold iblk
  rw [View.read_apply, e]
  show V m c main_v5 _ = _
  dsimp only [V, hostOps0]
  after_results_simp
  pointwise []

/-- A head's output in a block of rows: its values under the softmax of its scaled scores. -/
theorem head_apply (q : Vec Ideal S512x256 .bf16) (k v : Vec Ideal S256x256 .bf16) (i : Fin 512) (j : Fin 256) :
    k0_pay13 q k v (ix2 i j) = ∑ l : Fin 256, HMul.hMul (α := EReal) (β := EReal) (γ := EReal) (Cert.Soft.soft (fun l : Fin 256 => HMul.hMul (α := EReal) (β := EReal) (γ := EReal) (∑ d : Fin 256, HMul.hMul (α := EReal) (β := EReal) (γ := EReal) (q (ix2 i d)) (k (ix2 l d))) sixteenth) l) (v (ix2 l j)) := by
  have hs : ∀ l : Fin 256, mulf (φ := .f32) (matmul (F := Ideal) (φ₁ := .bf16) (φ₂ := .bf16) dot_S512x256_S256x256_S512x256_1_1_0_0_n_n none (shapeCast (α := Ideal .bf16) S512x256 q shapeCasts_S512x256_S512x256) (shapeCast (α := Ideal .bf16) S256x256 k shapeCasts_S256x256_S256x256) (constant S512x256 .f32 0x00000000#32))
      (broadcast S512x256 (Scalar.ofBits (F := Ideal) .f32 0x3D800000#32)) (ix2 i l) = HMul.hMul (α := EReal) (β := EReal) (γ := EReal) (∑ d : Fin 256, HMul.hMul (α := EReal) (β := EReal) (γ := EReal) (q (ix2 i d)) (k (ix2 l d))) sixteenth := fun l => by
    pointwise []
  unfold k0_pay13
  dsimp only
  revert hs
  generalize mulf (φ := .f32) (matmul (F := Ideal) (φ₁ := .bf16) (φ₂ := .bf16) dot_S512x256_S256x256_S512x256_1_1_0_0_n_n none (shapeCast (α := Ideal .bf16) S512x256 q shapeCasts_S512x256_S512x256) (shapeCast (α := Ideal .bf16) S256x256 k shapeCasts_S256x256_S256x256) (constant S512x256 .f32 0x00000000#32))
      (broadcast S512x256 (Scalar.ofBits (F := Ideal) .f32 0x3D800000#32)) = y
  intro hs
  simp only [← hs]
  pointwise []
  rw [Cert.ReferenceAttnIdeal.Read.ofBits_bot]
  rfl

/-- The queries of a block of rows, and the queries, keys and values of head `h`. -/
def kq : Vec Ideal S512x1024 .bf16 := k0_pay5 (iblk m c 0 t) (iblk m c 1 t) (iblk m c 2 t)
def qs (h : Fin 4) : Vec Ideal S512x256 .bf16 := fun y => kq m c t (ix2 (y 0) (col h (y 1)))
def ks (h : Fin 4) : Vec Ideal S256x256 .bf16 := fun y => iblk m c 3 t (ix2 (y 0) (col h (y 1)))
def vs (h : Fin 4) : Vec Ideal S256x256 .bf16 := fun y => iblk m c 4 t (ix2 (y 0) (col h (y 1)))
/-- The output of head `h`, and the heads' outputs beside each other. -/
def head (h : Fin 4) : FVec Ideal S512x256 .bf16 := k0_pay13 (qs m c t h) (ks m c t h) (vs m c t h)
def ko : Vec Ideal S512x1024 .bf16 := fun y => head m c t (hd (y 1)) (ix2 (y 0) (lo (y 1)))

theorem q_0 : @View.ld (Elt Ideal) S512x1024 .bf16 (k0_pay5 (iblk m c 0 t) (iblk m c 1 t) (iblk m c 2 t)) (Rect.unit ![0, 0] ![512, 256] inb_S512x1024_S512x256_0_0) = qs m c t 0 := slice (n := 512) (e := .bf16) _ 0 _
theorem k_0 : View.ld (iblk m c 3 t) (Rect.unit ![0, 0] ![256, 256] inb_S256x1024_S256x256_0_0) = ks m c t 0 := slice (n := 256) (e := .bf16) _ 0 _
theorem v_0 : View.ld (iblk m c 4 t) (Rect.unit ![0, 0] ![256, 256] inb_S256x1024_S256x256_0_0) = vs m c t 0 := slice (n := 256) (e := .bf16) _ 0 _
theorem q_1 : @View.ld (Elt Ideal) S512x1024 .bf16 (k0_pay5 (iblk m c 0 t) (iblk m c 1 t) (iblk m c 2 t)) (Rect.unit ![0, 256] ![512, 256] inb_S512x1024_S512x256_0_256) = qs m c t 1 := slice (n := 512) (e := .bf16) _ 1 _
theorem k_1 : View.ld (iblk m c 3 t) (Rect.unit ![0, 256] ![256, 256] inb_S256x1024_S256x256_0_256) = ks m c t 1 := slice (n := 256) (e := .bf16) _ 1 _
theorem v_1 : View.ld (iblk m c 4 t) (Rect.unit ![0, 256] ![256, 256] inb_S256x1024_S256x256_0_256) = vs m c t 1 := slice (n := 256) (e := .bf16) _ 1 _
theorem q_2 : @View.ld (Elt Ideal) S512x1024 .bf16 (k0_pay5 (iblk m c 0 t) (iblk m c 1 t) (iblk m c 2 t)) (Rect.unit ![0, 512] ![512, 256] inb_S512x1024_S512x256_0_512) = qs m c t 2 := slice (n := 512) (e := .bf16) _ 2 _
theorem k_2 : View.ld (iblk m c 3 t) (Rect.unit ![0, 512] ![256, 256] inb_S256x1024_S256x256_0_512) = ks m c t 2 := slice (n := 256) (e := .bf16) _ 2 _
theorem v_2 : View.ld (iblk m c 4 t) (Rect.unit ![0, 512] ![256, 256] inb_S256x1024_S256x256_0_512) = vs m c t 2 := slice (n := 256) (e := .bf16) _ 2 _
theorem q_3 : @View.ld (Elt Ideal) S512x1024 .bf16 (k0_pay5 (iblk m c 0 t) (iblk m c 1 t) (iblk m c 2 t)) (Rect.unit ![0, 768] ![512, 256] inb_S512x1024_S512x256_0_768) = qs m c t 3 := slice (n := 512) (e := .bf16) _ 3 _
theorem k_3 : View.ld (iblk m c 3 t) (Rect.unit ![0, 768] ![256, 256] inb_S256x1024_S256x256_0_768) = ks m c t 3 := slice (n := 256) (e := .bf16) _ 3 _
theorem v_3 : View.ld (iblk m c 4 t) (Rect.unit ![0, 768] ![256, 256] inb_S256x1024_S256x256_0_768) = vs m c t 3 := slice (n := 256) (e := .bf16) _ 3 _

theorem h_0 : k0_pay8 (k0_pay6 (qs m c t 0) (ks m c t 0)) (k0_pay7 (qs m c t 0) (ks m c t 0)) (vs m c t 0) = head m c t 0 := rfl
theorem h_1 : k0_pay9 (qs m c t 1) (ks m c t 1) (vs m c t 1) = head m c t 1 := rfl
theorem h_2 : k0_pay12 (k0_pay10 (qs m c t 2)) (k0_pay11 (ks m c t 2)) (constant S512x256 .f32 0x00000000#32) (vs m c t 2) = head m c t 2 := rfl
theorem h_3 : k0_pay13 (qs m c t 3) (ks m c t 3) (vs m c t 3) = head m c t 3 := rfl

/-- The four stores of the heads' outputs, read back whole. -/
theorem o_back (b) : (ms0_10 t).view.readCov [⟨Rect.unit ![0, 768] ![512, 256] inb_S512x1024_S512x256_0_768, head m c t 3⟩, ⟨Rect.unit ![0, 512] ![512, 256] inb_S512x1024_S512x256_0_512, head m c t 2⟩, ⟨Rect.unit ![0, 256] ![512, 256] inb_S512x1024_S512x256_0_256, head m c t 1⟩, ⟨Rect.unit ![0, 0] ![512, 256] inb_S512x1024_S512x256_0_0, head m c t 0⟩]
    (Rect.unit (s := S512x1024) ![0, 0] ![512, 1024] b).toLoadRect = ko m c t := by
  rw [View.readCov_eq_canon']
  funext y
  idx_vars y
  obtain ⟨h, d, rfl⟩ := col_cases y1
  have e : (Rect.unit (s := S512x1024) ![0, 0] ![512, 1024] b).toLoadRect.idx (ix2 y0 (col h d)) = ix2 y0 (col h d) := by
    funext a
    refine Fin.ext ((Rect.idx_unit_val _ _ _ _ _).trans ?_)
    fin_cases a <;> exact Nat.zero_add _
  rw [e]
  refine (four (n := 512) (e := .bf16) (head m c t) [] _ _ _ _ y0 h d).trans ?_
  change _ = head m c t (hd (col h d)) (ix2 y0 (lo (col h d)))
  rw [hd_col, lo_col]

theorem out_8 (i : Fin 512) (j : Fin 1024) : (outsAt0 m c t).2.1 (ix2 i j) = k0_pay4 (iblk m c 0 t) (iblk m c 1 t) (ix2 i j) := by
  unfold outsAt0; frame_out

theorem out_9 (i : Fin 512) (j : Fin 1024) : (outsAt0 m c t).2.2.1 (ix2 i j) = kq m c t (ix2 i j) := by
  unfold outsAt0; frame_out
  rfl

theorem out_10 (i : Fin 512) (j : Fin 1024) : (outsAt0 m c t).2.2.2.1 (ix2 i j) = ko m c t (ix2 i j) := by
  obtain ⟨k, d, rfl⟩ := col_cases j
  unfold outsAt0
  frame_out
  simp (disch := decide +kernel) only [View.readCov_skip, View.readCov_fill, q_0, q_1, q_2, q_3, k_0, k_1, k_2, k_3, v_0, v_1, v_2, v_3, h_0, h_1, h_2, h_3]
  refine (four (n := 512) (e := .bf16) (head m c t) [] _ _ _ _ i k d).trans ?_
  change _ = head m c t (hd (col k d)) (ix2 i (lo (col k d)))
  rw [hd_col, lo_col]

theorem out_11 (i : Fin 512) (j : Fin 1024) : (outsAt0 m c t).2.2.2.2 (ix2 i j) = k0_pay2 (ko m c t) (iblk m c 5 t) (ix2 i j) := by
  unfold outsAt0
  frame_out
  simp (disch := decide +kernel) only [View.readCov_skip, View.readCov_fill, q_0, q_1, q_2, q_3, k_0, k_1, k_2, k_3, v_0, v_1, v_2, v_3, h_0, h_1, h_2, h_3]
  rw [← o_back m c t inb_S512x1024_S512x1024_0_0]

theorem out_7 (i : Fin 512) (j : Fin 1024) : (outsAt0 m c t).1 (ix2 i j) = k0_pay3 (iblk m c 0 t) (ko m c t) (iblk m c 5 t) (iblk m c 6 t) (ix2 i j) := by
  unfold outsAt0
  frame_out
  simp (disch := decide +kernel) only [View.readCov_skip, View.readCov_fill, q_0, q_1, q_2, q_3, k_0, k_1, k_2, k_3, v_0, v_1, v_2, v_3, h_0, h_1, h_2, h_3]
  rw [← o_back m c t inb_S512x1024_S512x1024_0_0]

theorem h_eq (i : Fin 512) (j : Fin 1024) : k0_pay4 (iblk m c 0 t) (iblk m c 1 t) (ix2 i j) = Cert.ReferenceAfwdIdeal.Read.val_main_v12 (F := Ideal) (m ((c : Thread nD τ).loc main_arg0)) (m ((c : Thread nD τ).loc main_arg1)) (ix2 (row t i) j) := by
  open Cert.ReferenceAfwdIdeal.Read in
  pointwise [k0_pay4, val_main_v12, val_main_v11, val_main_v10, val_main_v9, val_main_v8, val_main_v7, val_main_v6, val_main_v5, val_main_v4, val_main_v3, val_main_v2, val_main_v1, val_main_v0, val_main_cst, val_main_cst_0, val_main_cst_1]
  simp only [read0, read1]
  first | done | rfl

theorem kq_eq (i : Fin 512) (j : Fin 1024) : kq m c t (ix2 i j) = Cert.ReferenceAfwdIdeal.Read.val_main_v13 (F := Ideal) (m ((c : Thread nD τ).loc main_arg0)) (m ((c : Thread nD τ).loc main_arg1)) (m ((c : Thread nD τ).loc main_arg2)) (ix2 (row t i) j) := by
  unfold kq k0_pay5
  have e := h_eq m c t
  revert e
  generalize k0_pay4 (iblk m c 0 t) (iblk m c 1 t) = y
  intro e
  open Cert.ReferenceAfwdIdeal.Read in
  pointwise [val_main_v13]
  simp only [e, read2]

theorem ko_eq (i : Fin 512) (j : Fin 1024) : ko m c t (ix2 i j) = Cert.ReferenceAfwdIdeal.Read.val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (row t i) j) := by
  obtain ⟨h, d, rfl⟩ := col_cases j
  change head m c t (hd (col h d)) (ix2 i (lo (col h d))) = _
  rw [hd_col, lo_col]
  unfold head
  refine (head_apply _ _ _ _ _).trans (Eq.trans ?_ (Cert.ReferenceAfwdIdeal.Read.heads _ _ _ _ _ _ _ _).symm)
  simp only [qs, ks, vs, ix2_0, ix2_1, kq_eq, read3, read4, Cert.ReferenceAfwdIdeal.Read.scores]
  exact Finset.sum_congr rfl fun _ _ => mul_comm (G := EReal) _ _

theorem ka_eq (i : Fin 512) (j : Fin 1024) : k0_pay1 (ko m c t) (iblk m c 5 t) (ix2 i j) = Cert.ReferenceAfwdIdeal.Read.val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 (row t i) j) := by
  have e := ko_eq m c t
  revert e
  generalize ko m c t = y
  intro e
  open Cert.ReferenceAfwdIdeal.Read in
  pointwise [k0_pay1, val_main_v34]
  simp only [e, read5]

theorem final8 : (dats m 0 c).arrAt 8 cfg0.N = Cert.ReferenceAfwdIdeal.Read.val_main_v49 (F := Ideal) (m ((c : Thread nD τ).loc main_arg0)) (m ((c : Thread nD τ).loc main_arg1)) := by
  refine (dats m 0 c).arrAt_eq_of_covers 8 _ (by decide +kernel) fun t hf y => ?_
  blk_simp
  rw [after0_8]
  idx_vars y
  obtain ⟨i0, i1, i2, i3, i4, i5, i6, i7, i8, i9, i10, i11⟩ := idx_all t
  have e : ((cfg0.win 8).blk t).view.emb (ix2 y0 y1) = ix2 (row t y0) y1 := by blk_ext [i8, row]
  rw [e]
  rw [out_8, h_eq]
  rfl

theorem final9 : (dats m 0 c).arrAt 9 cfg0.N = Cert.ReferenceAfwdIdeal.Read.val_main_v51 (F := Ideal) (m ((c : Thread nD τ).loc main_arg0)) (m ((c : Thread nD τ).loc main_arg1)) (m ((c : Thread nD τ).loc main_arg2)) := by
  refine (dats m 0 c).arrAt_eq_of_covers 9 _ (by decide +kernel) fun t hf y => ?_
  blk_simp
  rw [after0_9]
  idx_vars y
  obtain ⟨i0, i1, i2, i3, i4, i5, i6, i7, i8, i9, i10, i11⟩ := idx_all t
  have e : ((cfg0.win 9).blk t).view.emb (ix2 y0 y1) = ix2 (row t y0) y1 := by blk_ext [i9, row]
  rw [e]
  rw [out_9, kq_eq]
  obtain ⟨h, d, rfl⟩ := col_cases y1
  exact (Cert.ReferenceAfwdIdeal.Read.join_v50 _ _ _ h _ d).symm

theorem final10 : (dats m 0 c).arrAt 10 cfg0.N = Cert.ReferenceAfwdIdeal.Read.val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 10 _ (by decide +kernel) fun t hf y => ?_
  blk_simp
  rw [after0_10]
  idx_vars y
  obtain ⟨i0, i1, i2, i3, i4, i5, i6, i7, i8, i9, i10, i11⟩ := idx_all t
  have e : ((cfg0.win 10).blk t).view.emb (ix2 y0 y1) = ix2 (row t y0) y1 := by blk_ext [i10, row]
  rw [e]
  rw [out_10, ko_eq]
  rfl

theorem final11 : (dats m 0 c).arrAt 11 cfg0.N = Cert.ReferenceAfwdIdeal.Read.val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 11 _ (by decide +kernel) fun t hf y => ?_
  blk_simp
  rw [after0_11]
  idx_vars y
  obtain ⟨i0, i1, i2, i3, i4, i5, i6, i7, i8, i9, i10, i11⟩ := idx_all t
  have e : ((cfg0.win 11).blk t).view.emb (ix2 y0 y1) = ix2 (row t y0) y1 := by blk_ext [i11, row]
  rw [e]
  rw [out_11]
  exact ka_eq m c t _ _

theorem final7 : (dats m 0 c).arrAt 7 cfg0.N = Cert.ReferenceAfwdIdeal.Read.val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t hf y => ?_
  blk_simp
  rw [after0_7]
  idx_vars y
  obtain ⟨i0, i1, i2, i3, i4, i5, i6, i7, i8, i9, i10, i11⟩ := idx_all t
  have e : ((cfg0.win 7).blk t).view.emb (ix2 y0 y1) = ix2 (row t y0) y1 := by blk_ext [i7, row]
  rw [e]
  rw [out_7]
  have e := ka_eq m c t
  revert e
  unfold k0_pay3
  dsimp only
  generalize k0_pay1 (ko m c t) (iblk m c 5 t) = z
  intro e
  open Cert.ReferenceAfwdIdeal.Read in
  pointwise [val_main_v48, val_main_v47, val_main_v46, val_main_v45, val_main_v44, val_main_v43, val_main_v42, val_main_v41, val_main_v40, val_main_v39, val_main_v38, val_main_v37, val_main_v36, val_main_v35, val_main_cst_6, val_main_cst_7, val_main_cst_8]
  simp only [e, read0, read6]
  first | done | rfl

end Cert.KernelAfwdIdeal.Value
end
-- ==== Proof.AfwdClaims.lean ====
module

public import proofs.«01_k».proof.Defs
public import proofs.«01_k».proof.Proof.Gen.KernelAfwd.Frame
public import proofs.«01_k».proof.Proof.Gen.ReferenceAfwdIdeal.Run
public import proofs.«01_k».proof.Proof.AfwdValue
public import Idealize.ShloMosaic.Lib.Quiescent

@[expose] public section

set_option maxRecDepth 16384

noncomputable section

open Idealize.ShloMosaic Idealize.ShloMosaic.TcCoe Idealize.SL.Sem

namespace Cert.Proof.Afwd

/-- The mathematics of the attention runs to its end, its arguments unchanged. -/
theorem frame_ri : Cert.quiescent_ReferenceAfwdIdeal := fun m ρ _ =>
  (θ_run Cert.ReferenceAfwdIdeal.defs _ _).mono (fun r h => ⟨fun c => (h c).2.2.2.2.2, sem_eq_zero_of_no_sems (by decide) r.2⟩)
    (Cert.ReferenceAfwdIdeal.Value.run (F := Ideal) m ρ)

/-- The kernel's five results are the mathematics' five. -/
theorem algebraic : Cert.algebraic_KernelAfwdIdeal_ReferenceAfwdIdeal := by
  intro m ρ m' ρ' _ hagree
  open Cert.KernelAfwdIdeal.Value in
  refine ⟨_, _, _, _, _, (θ_run Cert.KernelAfwdIdeal.defs _ _).mono (fun r h c => ⟨(h c).1.trans (final7 m c), (h c).2.1.trans (final8 m c),
    (h c).2.2.1.trans (final9 m c), (h c).2.2.2.1.trans (final10 m c), (h c).2.2.2.2.1.trans (final11 m c), (h c).2.2.2.2.2⟩)
    (run_blocks m ρ), ?_⟩
  refine (θ_run Cert.ReferenceAfwdIdeal.defs _ _).mono (fun _ h c => ⟨(h c).1.trans ((Cert.ReferenceAfwdIdeal.Read.val_main_v48_eq _ _).trans ?_),
    (h c).2.1.trans ((Cert.ReferenceAfwdIdeal.Read.val_main_v49_eq _ _).trans ?_),
    (h c).2.2.1.trans ((Cert.ReferenceAfwdIdeal.Read.val_main_v51_eq _ _ _).trans ?_),
    (h c).2.2.2.1.trans ((Cert.ReferenceAfwdIdeal.Read.val_main_v52_eq _ _).trans ?_),
    (h c).2.2.2.2.1.trans ((Cert.ReferenceAfwdIdeal.Read.val_main_v53_eq _ _).trans ?_), (h c).2.2.2.2.2⟩)
    (Cert.ReferenceAfwdIdeal.Value.run (F := Ideal) m' ρ')
  all_goals
    obtain ⟨h0, h1, h2, h3, h4, h5, h6⟩ := hagree c
    simp only [← h0, ← h1, ← h2, ← h3, ← h4, ← h5, ← h6]

end Cert.Proof.Afwd

end
-- ==== Proof.AttnOuts.lean ====
/- Part of this certificate's own proof. -/
module

public import proofs.«01_k».proof.Proof.AttnSlices
public import proofs.«01_k».proof.Proof.AttnFrame
public import Idealize.ShloMosaic.Lib.Pipeline.ReadBack

@[expose] public section

set_option maxRecDepth 16384

noncomputable section

open Idealize.ShloMosaic Idealize.ShloMosaic.TcCoe Idealize.SL.Sem

namespace Cert.KernelAttnIdeal.Attn

open Cert.ReferenceAttnIdeal.Read (col col_cases)
open Cert.KernelAttnIdeal Cert.KernelAttnIdeal.Gen

variable (m : (ℓ : Loc nD τ sig) → Buf (Elt Ideal) ℓ) (c : Dev nD) (t : Fin cfg0.N)
variable (i : Fin 512) (h : AtFirst (grid0.coords t)) (g : ¬ AtFirst (grid0.coords t)) (a : Accs Ideal)

theorem first_13 (j : Fin 1024) : (firstAt m c t h).1 (ix2 i j) = (kdx1 m c t) (ix2 i j) := by
  unfold firstAt outFirst
  dsimp only
  frame_out
  simp (disch := decide +kernel) only [View.readCov_skip, View.readCov_fill, q_0, q_1, q_2, q_3, k_0, k_1, k_2, k_3, v_0, v_1, v_2, v_3, o_0, o_1, o_2, o_3, dq_0, dq_1, dq_2, dq_3]
  unfold kdx1 kdh
  rw [← dq_back m c t inb_S512x1024_S512x1024_0_0]

theorem next_13 (j : Fin 1024) : (nextAt m c t g a).1 (ix2 i j) = (kdx1 m c t) (ix2 i j) := by
  unfold nextAt outNext
  dsimp only
  frame_out
  simp (disch := decide +kernel) only [View.readCov_skip, View.readCov_fill, q_0, q_1, q_2, q_3, k_0, k_1, k_2, k_3, v_0, v_1, v_2, v_3, o_0, o_1, o_2, o_3, dq_0, dq_1, dq_2, dq_3]
  unfold kdx1 kdh
  rw [← dq_back m c t inb_S512x1024_S512x1024_0_0]

theorem first_14 (j : Fin 1024) : (firstAt m c t h).2.1 (ix2 i j) = (kda m c t) (ix2 i j) := by
  unfold firstAt outFirst
  dsimp only
  frame_out
  rfl

theorem next_14 (j : Fin 1024) : (nextAt m c t g a).2.1 (ix2 i j) = (kda m c t) (ix2 i j) := by
  unfold nextAt outNext
  dsimp only
  frame_out
  rfl

theorem first_15 (j : Fin 1024) : (firstAt m c t h).2.2.1 (ix2 i j) = (kdq m c t) (ix2 i j) := by
  obtain ⟨k, d, rfl⟩ := col_cases j
  unfold firstAt outFirst
  dsimp only
  frame_out
  simp (disch := decide +kernel) only [View.readCov_skip, View.readCov_fill, q_0, q_1, q_2, q_3, k_0, k_1, k_2, k_3, v_0, v_1, v_2, v_3, o_0, o_1, o_2, o_3, dq_0, dq_1, dq_2, dq_3]
  refine (four (n := 512) (e := .bf16) (dq1 m c t) [] _ _ _ _ i k d).trans ?_
  change _ = dq1 m c t (hd (col k d)) (ix2 i (lo (col k d)))
  rw [hd_col, lo_col]

theorem next_15 (j : Fin 1024) : (nextAt m c t g a).2.2.1 (ix2 i j) = (kdq m c t) (ix2 i j) := by
  obtain ⟨k, d, rfl⟩ := col_cases j
  unfold nextAt outNext
  dsimp only
  frame_out
  simp (disch := decide +kernel) only [View.readCov_skip, View.readCov_fill, q_0, q_1, q_2, q_3, k_0, k_1, k_2, k_3, v_0, v_1, v_2, v_3, o_0, o_1, o_2, o_3, dq_0, dq_1, dq_2, dq_3]
  refine (four (n := 512) (e := .bf16) (dq1 m c t) [] _ _ _ _ i k d).trans ?_
  change _ = dq1 m c t (hd (col k d)) (ix2 i (lo (col k d)))
  rw [hd_col, lo_col]

theorem first_20 (j : Fin 1024) : (firstAt m c t h).2.2.2.2.2.2.2.1 (ix2 i j) = (kds m c t) (ix2 i j) := by
  unfold firstAt outFirst
  dsimp only
  frame_out
  simp (disch := decide +kernel) only [View.readCov_skip, View.readCov_fill, q_0, q_1, q_2, q_3, k_0, k_1, k_2, k_3, v_0, v_1, v_2, v_3, o_0, o_1, o_2, o_3, dq_0, dq_1, dq_2, dq_3]
  unfold kds kdg kdh
  rw [← dq_back m c t inb_S512x1024_S512x1024_0_0]

theorem next_20 (j : Fin 1024) : (nextAt m c t g a).2.2.2.2.2.2.2.1 (ix2 i j) = (kds m c t) (ix2 i j) := by
  unfold nextAt outNext
  dsimp only
  frame_out
  simp (disch := decide +kernel) only [View.readCov_skip, View.readCov_fill, q_0, q_1, q_2, q_3, k_0, k_1, k_2, k_3, v_0, v_1, v_2, v_3, o_0, o_1, o_2, o_3, dq_0, dq_1, dq_2, dq_3]
  unfold kds kdg kdh
  rw [← dq_back m c t inb_S512x1024_S512x1024_0_0]

theorem first_21 (j : Fin 1024) : (firstAt m c t h).2.2.2.2.2.2.2.2.1 (ix2 i j) = (k0_pay3 (k0_pay50 (iblk m c 10 t)) (k0_pay51 (iblk m c 10 t)) (kdg m c t) (iblk m c 11 t)) (ix2 i j) := by
  unfold firstAt outFirst
  dsimp only
  frame_out
  simp (disch := decide +kernel) only [View.readCov_skip, View.readCov_fill, q_0, q_1, q_2, q_3, k_0, k_1, k_2, k_3, v_0, v_1, v_2, v_3, o_0, o_1, o_2, o_3, dq_0, dq_1, dq_2, dq_3]
  unfold kdg kdh
  rw [← dq_back m c t inb_S512x1024_S512x1024_0_0]

theorem next_21 (j : Fin 1024) : (nextAt m c t g a).2.2.2.2.2.2.2.2.1 (ix2 i j) = (k0_pay3 (k0_pay50 (iblk m c 10 t)) (k0_pay51 (iblk m c 10 t)) (kdg m c t) (iblk m c 11 t)) (ix2 i j) := by
  unfold nextAt outNext
  dsimp only
  frame_out
  simp (disch := decide +kernel) only [View.readCov_skip, View.readCov_fill, q_0, q_1, q_2, q_3, k_0, k_1, k_2, k_3, v_0, v_1, v_2, v_3, o_0, o_1, o_2, o_3, dq_0, dq_1, dq_2, dq_3]
  unfold kdg kdh
  rw [← dq_back m c t inb_S512x1024_S512x1024_0_0]

theorem first_18 (j : Fin 1024) : (firstAt m c t h).2.2.2.2.2.1 (ix2 0 j) = k0_pay12 (iblk m c 0 t) (iblk m c 1 t) (k0_pay4 (F := Ideal)) (ix2 0 j) := by
  unfold firstAt outFirst
  dsimp only
  frame_out

theorem next_18 (j : Fin 1024) : (nextAt m c t g a).2.2.2.2.2.1 (ix2 0 j) = k0_pay12 (iblk m c 0 t) (iblk m c 1 t) (a.2.2.1) (ix2 0 j) := by
  unfold nextAt outNext
  dsimp only
  frame_out

theorem first_19 (j : Fin 1024) : (firstAt m c t h).2.2.2.2.2.2.1 (ix2 0 j) = k0_pay47 (kdh m c t) (k0_pay46 (iblk m c 2 t)) (k0_pay5 (F := Ideal)) (ix2 0 j) := by
  unfold firstAt outFirst
  dsimp only
  frame_out
  simp (disch := decide +kernel) only [View.readCov_skip, View.readCov_fill, q_0, q_1, q_2, q_3, k_0, k_1, k_2, k_3, v_0, v_1, v_2, v_3, o_0, o_1, o_2, o_3, dq_0, dq_1, dq_2, dq_3]
  unfold kdh
  rw [← dq_back m c t inb_S512x1024_S512x1024_0_0]

theorem next_19 (j : Fin 1024) : (nextAt m c t g a).2.2.2.2.2.2.1 (ix2 0 j) = k0_pay47 (kdh m c t) (k0_pay46 (iblk m c 2 t)) (a.2.2.2.1) (ix2 0 j) := by
  unfold nextAt outNext
  dsimp only
  frame_out
  simp (disch := decide +kernel) only [View.readCov_skip, View.readCov_fill, q_0, q_1, q_2, q_3, k_0, k_1, k_2, k_3, v_0, v_1, v_2, v_3, o_0, o_1, o_2, o_3, dq_0, dq_1, dq_2, dq_3]
  unfold kdh
  rw [← dq_back m c t inb_S512x1024_S512x1024_0_0]

theorem first_22 (j : Fin 1024) : (firstAt m c t h).2.2.2.2.2.2.2.2.2 (ix2 0 j) = k0_pay1 (k0_pay52 (iblk m c 0 t) (kdh m c t) (k0_pay44 (iblk m c 6 t)) (k0_pay45 (iblk m c 2 t)) (k0_pay46 (iblk m c 2 t)) (iblk m c 10 t)) (k0_pay8 (F := Ideal)) (ix2 0 j) := by
  unfold firstAt outFirst
  dsimp only
  frame_out
  simp (disch := decide +kernel) only [View.readCov_skip, View.readCov_fill, q_0, q_1, q_2, q_3, k_0, k_1, k_2, k_3, v_0, v_1, v_2, v_3, o_0, o_1, o_2, o_3, dq_0, dq_1, dq_2, dq_3]
  unfold kdh
  rw [← dq_back m c t inb_S512x1024_S512x1024_0_0]

theorem next_22 (j : Fin 1024) : (nextAt m c t g a).2.2.2.2.2.2.2.2.2 (ix2 0 j) = k0_pay1 (k0_pay52 (iblk m c 0 t) (kdh m c t) (k0_pay44 (iblk m c 6 t)) (k0_pay45 (iblk m c 2 t)) (k0_pay46 (iblk m c 2 t)) (iblk m c 10 t)) (a.2.2.2.2) (ix2 0 j) := by
  unfold nextAt outNext
  dsimp only
  frame_out
  simp (disch := decide +kernel) only [View.readCov_skip, View.readCov_fill, q_0, q_1, q_2, q_3, k_0, k_1, k_2, k_3, v_0, v_1, v_2, v_3, o_0, o_1, o_2, o_3, dq_0, dq_1, dq_2, dq_3]
  unfold kdh
  rw [← dq_back m c t inb_S512x1024_S512x1024_0_0]

theorem first_16 (r : Fin 256) (k : Fin 4) (d : Fin 256) : (firstAt m c t h).2.2.2.1 (ix2 r (col k d)) = dk1 m c t k ((k0_pay6 (F := Ideal))) (ix2 r d) := by
  unfold firstAt outFirst
  dsimp only
  frame_out
  simp (disch := decide +kernel) only [View.readCov_skip, View.readCov_fill, q_0, q_1, q_2, q_3, k_0, k_1, k_2, k_3, v_0, v_1, v_2, v_3, o_0, o_1, o_2, o_3, dq_0, dq_1, dq_2, dq_3, cut_0, dk_0, cut_1, dk_1, cut_2, dk_2, cut_3, dk_3]
  exact four (n := 256) (e := .f32) (fun k => dk1 m c t k ((k0_pay6 (F := Ideal)))) [_] _ _ _ _ r k d

theorem next_16 (r : Fin 256) (k : Fin 4) (d : Fin 256) : (nextAt m c t g a).2.2.2.1 (ix2 r (col k d)) = dk1 m c t k (a.1) (ix2 r d) := by
  unfold nextAt outNext
  dsimp only
  frame_out
  simp (disch := decide +kernel) only [View.readCov_skip, View.readCov_fill, q_0, q_1, q_2, q_3, k_0, k_1, k_2, k_3, v_0, v_1, v_2, v_3, o_0, o_1, o_2, o_3, dq_0, dq_1, dq_2, dq_3, cut_0, dk_0, cut_1, dk_1, cut_2, dk_2, cut_3, dk_3]
  exact four (n := 256) (e := .f32) (fun k => dk1 m c t k (a.1)) [] _ _ _ _ r k d

theorem first_17 (r : Fin 256) (k : Fin 4) (d : Fin 256) : (firstAt m c t h).2.2.2.2.1 (ix2 r (col k d)) = dv1 m c t k ((k0_pay7 (F := Ideal))) (ix2 r d) := by
  unfold firstAt outFirst
  dsimp only
  frame_out
  simp (disch := decide +kernel) only [View.readCov_skip, View.readCov_fill, q_0, q_1, q_2, q_3, k_0, k_1, k_2, k_3, v_0, v_1, v_2, v_3, o_0, o_1, o_2, o_3, dq_0, dq_1, dq_2, dq_3, cut_0, dv_0, cut_1, dv_1, cut_2, dv_2, cut_3, dv_3]
  exact four (n := 256) (e := .f32) (fun k => dv1 m c t k ((k0_pay7 (F := Ideal)))) [_] _ _ _ _ r k d

theorem next_17 (r : Fin 256) (k : Fin 4) (d : Fin 256) : (nextAt m c t g a).2.2.2.2.1 (ix2 r (col k d)) = dv1 m c t k (a.2.1) (ix2 r d) := by
  unfold nextAt outNext
  dsimp only
  frame_out
  simp (disch := decide +kernel) only [View.readCov_skip, View.readCov_fill, q_0, q_1, q_2, q_3, k_0, k_1, k_2, k_3, v_0, v_1, v_2, v_3, o_0, o_1, o_2, o_3, dq_0, dq_1, dq_2, dq_3, cut_0, dv_0, cut_1, dv_1, cut_2, dv_2, cut_3, dv_3]
  exact four (n := 256) (e := .f32) (fun k => dv1 m c t k (a.2.1)) [] _ _ _ _ r k d

end Cert.KernelAttnIdeal.Attn
end
-- ==== Proof.AttnKeys.lean ====
module

public import proofs.«01_k».proof.Proof.AttnOuts

@[expose] public section

set_option maxRecDepth 16384

noncomputable section

open Idealize.ShloMosaic Idealize.ShloMosaic.TcCoe Idealize.SL.Sem
open Idealize.ShloMosaic.Pipeline (Dat)

namespace Cert.KernelAttnIdeal.Attn

open Cert.ReferenceAttnIdeal.Read (col col_cases sixteenth)
open Cert.KernelAttnIdeal Cert.KernelAttnIdeal.Gen

variable (m : (ℓ : Loc nD τ sig) → Buf (Elt Ideal) ℓ)

variable (c : Dev nD)

/-- The last point. -/
def tEnd : Fin cfg0.N := ⟨31, by decide +kernel⟩

/-- A sum over the points and the rows of each point's block is the sum over all rows. -/
theorem sum_rows (f : Fin 32 → Fin 512 → EReal) (g : Fin 16384 → EReal) (h : ∀ (t : Fin 32) (k : Fin 512) (hl : t.val % 32 * 512 + k.val < 16384), f t k = g ⟨t.val % 32 * 512 + k.val, hl⟩) :
    ∑ t : Fin 32, ∑ k : Fin 512, f t k = ∑ r : Fin 16384, g r :=
  (Fin.sum_points_lanes_congr (A := 1) (g := fun _ r => g r) 32 fun t k _ hl => h t k hl).trans (Fin.sum_univ_one _)

/-- One step of the keys' gradient: what the points before left, and the sum over the block's rows. -/
theorem pay21_apply (q : FVec Ideal S512x256 .bf16) (p d : FVec Ideal S512x256 .f32) (x : Vec Ideal S256x256 .f32) (i j : Fin 256) :
    k0_pay21 q p d x (ix2 i j) = x (ix2 i j) + ∑ k : Fin 512, HMul.hMul (α := EReal) (β := EReal) (γ := EReal) (k0_pay19 p d (ix2 k i)) (q (ix2 k j)) := by
  unfold k0_pay21
  change FloatOps.addf (F := Ideal) (φ := .f32) (shapeCast (α := Ideal .f32) S256x256 x _ (ix2 i j)) (matmul (F := Ideal) _ none (k0_pay19 p d) q _ (ix2 i j)) = _
  generalize k0_pay19 p d = y
  pointwise []

theorem pay18_apply (q : Vec Ideal S512x256 .bf16) (k : Vec Ideal S256x256 .bf16) (d : Vec Ideal S512x256 .bf16) (x : Vec Ideal S256x256 .f32) (i j : Fin 256) :
    k0_pay18 q k d x (ix2 i j) = x (ix2 i j) + ∑ r : Fin 512, HMul.hMul (α := EReal) (β := EReal) (γ := EReal) (k0_pay16 q k (ix2 r i)) (d (ix2 r j)) := by
  unfold k0_pay18
  generalize k0_pay16 q k = y
  pointwise []

theorem step16 (t : Fin cfg0.N) (X : Vec Ideal S256x1024 .f32) (h : Fin 4) (r d : Fin 256) : dk1 m c t h X (ix2 r d)
    = X (ix2 r (col h d)) + (fun (t : Fin cfg0.N) (j : S256x1024.Idx) => ∑ k : Fin 512, HMul.hMul (α := EReal) (β := EReal) (γ := EReal) (k0_pay19 (kp m c t (hd (j 1))) (kdp m c t (hd (j 1))) (ix2 k (j 0))) (qs m c t (hd (j 1)) (ix2 k (lo (j 1))))) t (ix2 r (col h d)) := by
  change _ = _ + ∑ k : Fin 512, HMul.hMul (α := EReal) (β := EReal) (γ := EReal) (k0_pay19 (kp m c t (hd (col h d))) (kdp m c t (hd (col h d))) (ix2 k r)) (qs m c t (hd (col h d)) (ix2 k (lo (col h d))))
  rw [hd_col, lo_col]
  unfold dk1
  refine (pay21_apply _ _ _ _ _ _).trans ?_
  simp only [k0_pay15, shapeCast_self]
  rfl

theorem final16 (hs : Scores m c) : (dats m 0 c).arrAt 16 cfg0.N = r141 m c := by
  refine Pipeline.Dat.arrAt_eq_of_after_last (dats m 0 c) 16 tEnd (by decide +kernel) _ fun j => ?_
  blk_simp
  idx_vars j
  obtain ⟨h, d, rfl⟩ := col_cases j1
  rw [after16, Pipeline.eq_sum_fin_of_reset_step_apply_last (fun n h => (outsAt m c n h).2.2.2.1) 32 (fun _ => 0)
    (fun t j => ∑ k : Fin 512, HMul.hMul (α := EReal) (β := EReal) (γ := EReal) (k0_pay19 (kp m c t (hd (j 1))) (kdp m c t (hd (j 1))) (ix2 k (j 0))) (qs m c t (hd (j 1)) (ix2 k (lo (j 1)))))
    (fun t h j => by
      rw [outsAt_first m c t h]; idx_vars j; obtain ⟨g, d, rfl⟩ := col_cases j1
      refine (first_16 m c t _ _ _ _).trans ((step16 m c t _ _ _ _).trans ?_)
      pointwise [k0_pay6])
    (fun t h j => by
      rw [outsAt_next m c t h]; idx_vars j; obtain ⟨g, d, rfl⟩ := col_cases j1
      exact (next_16 m c t _ _ _ _ _).trans (step16 m c t _ _ _ _))
    (le_of_eq N_0) tEnd rfl _]
  refine Eq.trans ?_ (Cert.ReferenceAttnIdeal.Read.key_grad _ _ _ _ _ _ _ _ _ _ _ _ _ _).symm
  simp only [ix2_0, ix2_1, hd_col, lo_col, zero_add]
  refine sum_rows _ _ fun t k hl => ?_
  have hr : (⟨t.val % 32 * 512 + k.val, hl⟩ : Fin 16384) = row t k := Fin.ext (by simp only [row]; rw [Nat.mod_eq_of_lt (lt_N t)])
  rw [hr]
  exact congrArg₂ (HMul.hMul (α := EReal) (β := EReal) (γ := EReal)) (kdsc_eq m c t k hs h j0) (read3 m c t k (col h d))

theorem step17 (t : Fin cfg0.N) (X : Vec Ideal S256x1024 .f32) (h : Fin 4) (r d : Fin 256) : dv1 m c t h X (ix2 r d)
    = X (ix2 r (col h d)) + (fun (t : Fin cfg0.N) (j : S256x1024.Idx) => ∑ k : Fin 512, HMul.hMul (α := EReal) (β := EReal) (γ := EReal) (kp m c t (hd (j 1)) (ix2 k (j 0))) (dos m c t (hd (j 1)) (ix2 k (lo (j 1))))) t (ix2 r (col h d)) := by
  change _ = _ + ∑ k : Fin 512, HMul.hMul (α := EReal) (β := EReal) (γ := EReal) (kp m c t (hd (col h d)) (ix2 k r)) (dos m c t (hd (col h d)) (ix2 k (lo (col h d))))
  rw [hd_col, lo_col]
  unfold dv1
  refine (pay18_apply _ _ _ _ _ _).trans ?_
  rfl

theorem final17 : (dats m 0 c).arrAt 17 cfg0.N = r140 m c := by
  refine Pipeline.Dat.arrAt_eq_of_after_last (dats m 0 c) 17 tEnd (by decide +kernel) _ fun j => ?_
  blk_simp
  idx_vars j
  obtain ⟨h, d, rfl⟩ := col_cases j1
  rw [after17, Pipeline.eq_sum_fin_of_reset_step_apply_last (fun n h => (outsAt m c n h).2.2.2.2.1) 32 (fun _ => 0)
    (fun t j => ∑ k : Fin 512, HMul.hMul (α := EReal) (β := EReal) (γ := EReal) (kp m c t (hd (j 1)) (ix2 k (j 0))) (dos m c t (hd (j 1)) (ix2 k (lo (j 1)))))
    (fun t h j => by
      rw [outsAt_first m c t h]; idx_vars j; obtain ⟨g, d, rfl⟩ := col_cases j1
      refine (first_17 m c t _ _ _ _).trans ((step17 m c t _ _ _ _).trans ?_)
      pointwise [k0_pay7])
    (fun t h j => by
      rw [outsAt_next m c t h]; idx_vars j; obtain ⟨g, d, rfl⟩ := col_cases j1
      exact (next_17 m c t _ _ _ _ _).trans (step17 m c t _ _ _ _))
    (le_of_eq N_0) tEnd rfl _]
  refine Eq.trans ?_ (Cert.ReferenceAttnIdeal.Read.value_grad _ _ _ _ _ _ _ _ _ _ _ _ _ _).symm
  simp only [ix2_0, ix2_1, hd_col, lo_col, zero_add]
  refine sum_rows _ _ fun t k hl => ?_
  have hr : (⟨t.val % 32 * 512 + k.val, hl⟩ : Fin 16384) = row t k := Fin.ext (by simp only [row]; rw [Nat.mod_eq_of_lt (lt_N t)])
  rw [hr]
  exact (congrArg₂ (HMul.hMul (α := EReal) (β := EReal) (γ := EReal)) (kp_eq m c t k h j0) (kdo_eq m c t k (col h d))).trans (mul_comm (G := EReal) _ _)

end Cert.KernelAttnIdeal.Attn
end
-- ==== Proof.AttnValue.lean ====
module

public import proofs.«01_k».proof.Proof.AttnKeys

@[expose] public section

set_option maxRecDepth 16384

noncomputable section

open Idealize.ShloMosaic Idealize.ShloMosaic.TcCoe Idealize.SL.Sem
open Idealize.ShloMosaic.Pipeline (Dat)

namespace Cert.KernelAttnIdeal.Attn

open Cert.ReferenceAttnIdeal.Read (col col_cases sixteenth)
open Cert.KernelAttnIdeal Cert.KernelAttnIdeal.Gen

variable (m : (ℓ : Loc nD τ sig) → Buf (Elt Ideal) ℓ)

/-- Stage 186 of the mathematics at the kernel's arguments. -/
abbrev r186 (c : Dev nD) := Cert.ReferenceAttnIdeal.Read.val_main_v186 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
/-- Stage 187 of the mathematics at the kernel's arguments. -/
abbrev r187 (c : Dev nD) := Cert.ReferenceAttnIdeal.Read.val_main_v187 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
/-- Stage 188 of the mathematics at the kernel's arguments. -/
abbrev r188 (c : Dev nD) := Cert.ReferenceAttnIdeal.Read.val_main_v188 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg10))
/-- Stage 189 of the mathematics at the kernel's arguments. -/
abbrev r189 (c : Dev nD) := Cert.ReferenceAttnIdeal.Read.val_main_v189 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
/-- Stage 190 of the mathematics at the kernel's arguments. -/
abbrev r190 (c : Dev nD) := Cert.ReferenceAttnIdeal.Read.val_main_v190 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
/-- Stage 191 of the mathematics at the kernel's arguments. -/
abbrev r191 (c : Dev nD) := Cert.ReferenceAttnIdeal.Read.val_main_v191 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
/-- Stage 192 of the mathematics at the kernel's arguments. -/
abbrev r192 (c : Dev nD) := Cert.ReferenceAttnIdeal.Read.val_main_v192 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

variable (c : Dev nD)

theorem final13 (hs : Scores m c) : (dats m 0 c).arrAt 13 cfg0.N = r164 m c := by
  refine (dats m 0 c).arrAt_eq_of_covers 13 _ (by decide +kernel) fun t hf y => ?_
  blk_simp
  rw [after13]
  idx_vars y
  obtain ⟨i0, i1, i2, i3, i4, i5, i6, i7, i8, i9, i10, i11, i12, i13, i14, i15, i16, i17, i18, i19, i20, i21, i22⟩ := idx_all t
  have e : ((cfg0.win 13).blk t).view.emb (ix2 y0 y1) = ix2 (row t y0) y1 := by blk_ext [i13, row]
  rw [e]
  refine Eq.trans ?_ (kdx1_eq m c t y0 hs y1)
  by_cases h0 : t.val % 32 = 0
  · rw [outsAt_first m c t h0]; exact first_13 m c t y0 _ y1
  · rw [outsAt_next m c t h0]; exact next_13 m c t y0 _ _ y1

theorem final14 : (dats m 0 c).arrAt 14 cfg0.N = r186 m c := by
  refine (dats m 0 c).arrAt_eq_of_covers 14 _ (by decide +kernel) fun t hf y => ?_
  blk_simp
  rw [after14]
  idx_vars y
  obtain ⟨i0, i1, i2, i3, i4, i5, i6, i7, i8, i9, i10, i11, i12, i13, i14, i15, i16, i17, i18, i19, i20, i21, i22⟩ := idx_all t
  have e : ((cfg0.win 14).blk t).view.emb (ix2 y0 y1) = ix2 (row t y0) y1 := by blk_ext [i14, row]
  rw [e]
  refine Eq.trans ?_ (kda_eq m c t y0 y1)
  by_cases h0 : t.val % 32 = 0
  · rw [outsAt_first m c t h0]; exact first_14 m c t y0 _ y1
  · rw [outsAt_next m c t h0]; exact next_14 m c t y0 _ _ y1

theorem final15 (hs : Scores m c) : (dats m 0 c).arrAt 15 cfg0.N = r187 m c := by
  refine (dats m 0 c).arrAt_eq_of_covers 15 _ (by decide +kernel) fun t hf y => ?_
  blk_simp
  rw [after15]
  idx_vars y
  obtain ⟨i0, i1, i2, i3, i4, i5, i6, i7, i8, i9, i10, i11, i12, i13, i14, i15, i16, i17, i18, i19, i20, i21, i22⟩ := idx_all t
  have e : ((cfg0.win 15).blk t).view.emb (ix2 y0 y1) = ix2 (row t y0) y1 := by blk_ext [i15, row]
  rw [e]
  refine Eq.trans ?_ (kdq_eq m c t y0 hs y1)
  by_cases h0 : t.val % 32 = 0
  · rw [outsAt_first m c t h0]; exact first_15 m c t y0 _ y1
  · rw [outsAt_next m c t h0]; exact next_15 m c t y0 _ _ y1

theorem final20 (hs : Scores m c) : (dats m 0 c).arrAt 20 cfg0.N = r190 m c := by
  refine (dats m 0 c).arrAt_eq_of_covers 20 _ (by decide +kernel) fun t hf y => ?_
  blk_simp
  rw [after20]
  idx_vars y
  obtain ⟨i0, i1, i2, i3, i4, i5, i6, i7, i8, i9, i10, i11, i12, i13, i14, i15, i16, i17, i18, i19, i20, i21, i22⟩ := idx_all t
  have e : ((cfg0.win 20).blk t).view.emb (ix2 y0 y1) = ix2 (row t y0) y1 := by blk_ext [i20, row]
  rw [e]
  refine Eq.trans ?_ (kds_eq m c t y0 hs y1)
  by_cases h0 : t.val % 32 = 0
  · rw [outsAt_first m c t h0]; exact first_20 m c t y0 _ y1
  · rw [outsAt_next m c t h0]; exact next_20 m c t y0 _ _ y1

theorem final21 (hs : Scores m c) : (dats m 0 c).arrAt 21 cfg0.N = r191 m c := by
  refine (dats m 0 c).arrAt_eq_of_covers 21 _ (by decide +kernel) fun t hf y => ?_
  blk_simp
  rw [after21]
  idx_vars y
  obtain ⟨i0, i1, i2, i3, i4, i5, i6, i7, i8, i9, i10, i11, i12, i13, i14, i15, i16, i17, i18, i19, i20, i21, i22⟩ := idx_all t
  have e : ((cfg0.win 21).blk t).view.emb (ix2 y0 y1) = ix2 (row t y0) y1 := by blk_ext [i21, row]
  rw [e]
  refine Eq.trans ?_ (kdy_eq m c t y0 hs y1)
  by_cases h0 : t.val % 32 = 0
  · rw [outsAt_first m c t h0]; exact first_21 m c t y0 _ y1
  · rw [outsAt_next m c t h0]; exact next_21 m c t y0 _ _ y1

theorem step18 (t : Fin cfg0.N) (acc : Vec Ideal S1x1024 .f32) (i : Fin 1) (j : Fin 1024) : k0_pay12 (iblk m c 0 t) (iblk m c 1 t) acc (ix2 i j)
    = acc (ix2 i j) + ∑ k : Fin 512, HMul.hMul (α := EReal) (β := EReal) (γ := EReal) (iblk m c 0 t (ix2 k j)) (k0_pay11 (iblk m c 1 t) (ix2 k j)) := by
  pointwise [k0_pay12]

theorem final18 : (dats m 0 c).arrAt 18 cfg0.N = r188 m c := by
  refine Pipeline.Dat.arrAt_eq_of_after_last (dats m 0 c) 18 tEnd (by decide +kernel) _ fun j => ?_
  blk_simp
  idx_vars j
  rw [after18, Pipeline.eq_sum_fin_of_reset_step_apply_last (fun n h => (outsAt m c n h).2.2.2.2.2.1) 32 (fun _ => 0)
    (fun t j => ∑ k : Fin 512, HMul.hMul (α := EReal) (β := EReal) (γ := EReal) (iblk m c 0 t (ix2 k (j 1))) (k0_pay11 (iblk m c 1 t) (ix2 k (j 1))))
    (fun t h j => by
      rw [outsAt_first m c t h]; idx_vars j; obtain rfl : j0 = 0 := Subsingleton.elim _ _
      refine (first_18 m c t _ _).trans ((step18 m c t _ _ _).trans ?_)
      pointwise [k0_pay4])
    (fun t h j => by
      rw [outsAt_next m c t h]; idx_vars j; obtain rfl : j0 = 0 := Subsingleton.elim _ _
      exact (next_18 m c t _ _ _).trans (step18 m c t _ _ _))
    (le_of_eq N_0) tEnd rfl _]
  open Cert.ReferenceAttnIdeal.Read in
  pointwise [k0_pay11, k0_pay10, k0_pay9, val_main_v188, val_main_v101, val_main_v98, val_main_v97, val_main_v96, val_main_v89, val_main_v88, val_main_v84, val_main_v83, val_main_v81, val_main_v79, val_main_v78, val_main_v77, val_main_cst_19, val_main_v80, val_main_cst_20, val_main_v82, val_main_cst_21, val_main_v95, val_main_cst_23, val_main_cst_24]
  refine Fin.sum_points_lanes_congr 32 fun t k ha hl => ?_
  have hr : (⟨t.val % 32 * 512 + k.val, hl⟩ : Fin 16384) = row t k := Fin.ext (by simp only [row]; rw [Nat.mod_eq_of_lt (lt_N t)])
  simp only [read0, read1, hr]
  exact mul_comm (G := EReal) _ _

theorem step19 (t : Fin cfg0.N) (acc : Vec Ideal S1x1024 .f32) (i : Fin 1) (j : Fin 1024) : k0_pay47 (kdh m c t) (k0_pay46 (iblk m c 2 t)) acc (ix2 i j)
    = acc (ix2 i j) + ∑ k : Fin 512, HMul.hMul (α := EReal) (β := EReal) (γ := EReal) (kdh m c t (ix2 k j)) (k0_pay46 (iblk m c 2 t) (ix2 k j)) := by
  pointwise [k0_pay47]

theorem final19 (hs : Scores m c) : (dats m 0 c).arrAt 19 cfg0.N = r189 m c := by
  refine Pipeline.Dat.arrAt_eq_of_after_last (dats m 0 c) 19 tEnd (by decide +kernel) _ fun j => ?_
  blk_simp
  idx_vars j
  rw [after19, Pipeline.eq_sum_fin_of_reset_step_apply_last (fun n h => (outsAt m c n h).2.2.2.2.2.2.1) 32 (fun _ => 0)
    (fun t j => ∑ k : Fin 512, HMul.hMul (α := EReal) (β := EReal) (γ := EReal) (kdh m c t (ix2 k (j 1))) (k0_pay46 (iblk m c 2 t) (ix2 k (j 1))))
    (fun t h j => by
      rw [outsAt_first m c t h]; idx_vars j; obtain rfl : j0 = 0 := Subsingleton.elim _ _
      refine (first_19 m c t _ _).trans ((step19 m c t _ _ _).trans ?_)
      pointwise [k0_pay5])
    (fun t h j => by
      rw [outsAt_next m c t h]; idx_vars j; obtain rfl : j0 = 0 := Subsingleton.elim _ _
      exact (next_19 m c t _ _ _).trans (step19 m c t _ _ _))
    (le_of_eq N_0) tEnd rfl _]
  open Cert.ReferenceAttnIdeal.Read in
  pointwise [k0_pay46, k0_pay45, k0_pay43, val_main_v189, val_main_v149, val_main_v146, val_main_v145, val_main_v144, val_main_v32, val_main_v31, val_main_v27, val_main_v26, val_main_v24, val_main_v22, val_main_v21, val_main_v20, val_main_cst_4, val_main_v23, val_main_cst_5, val_main_v25, val_main_cst_6, val_main_cst_31, val_main_cst_32]
  refine Fin.sum_points_lanes_congr 32 fun t k ha hl => ?_
  have hr : (⟨t.val % 32 * 512 + k.val, hl⟩ : Fin 16384) = row t k := Fin.ext (by simp only [row]; rw [Nat.mod_eq_of_lt (lt_N t)])
  simp only [read2, kdh_eq m c _ _ hs, hr]
  exact mul_comm (G := EReal) _ _

theorem step22 (t : Fin cfg0.N) (acc : Vec Ideal S1x1024 .f32) (i : Fin 1) (j : Fin 1024) : k0_pay1 (k0_pay52 (iblk m c 0 t) (kdh m c t) (k0_pay44 (iblk m c 6 t)) (k0_pay45 (iblk m c 2 t)) (k0_pay46 (iblk m c 2 t)) (iblk m c 10 t)) acc (ix2 i j)
    = acc (ix2 i j) + ∑ k : Fin 512, HMul.hMul (α := EReal) (β := EReal) (γ := EReal) (kdx1 m c t (ix2 k j)) (k0_pay51 (iblk m c 10 t) (ix2 k j)) := by
  unfold kdx1
  pointwise [k0_pay1, k0_pay52]

theorem final22 (hs : Scores m c) : (dats m 0 c).arrAt 22 cfg0.N = r192 m c := by
  refine Pipeline.Dat.arrAt_eq_of_after_last (dats m 0 c) 22 tEnd (by decide +kernel) _ fun j => ?_
  blk_simp
  idx_vars j
  rw [after22, Pipeline.eq_sum_fin_of_reset_step_apply_last (fun n h => (outsAt m c n h).2.2.2.2.2.2.2.2.2) 32 (fun _ => 0)
    (fun t j => ∑ k : Fin 512, HMul.hMul (α := EReal) (β := EReal) (γ := EReal) (kdx1 m c t (ix2 k (j 1))) (k0_pay51 (iblk m c 10 t) (ix2 k (j 1))))
    (fun t h j => by
      rw [outsAt_first m c t h]; idx_vars j; obtain rfl : j0 = 0 := Subsingleton.elim _ _
      refine (first_22 m c t _ _).trans ((step22 m c t _ _ _).trans ?_)
      pointwise [k0_pay8])
    (fun t h j => by
      rw [outsAt_next m c t h]; idx_vars j; obtain rfl : j0 = 0 := Subsingleton.elim _ _
      exact (next_22 m c t _ _ _).trans (step22 m c t _ _ _))
    (le_of_eq N_0) tEnd rfl _]
  open Cert.ReferenceAttnIdeal.Read in
  pointwise [k0_pay51, k0_pay50, k0_pay49, val_main_v192, val_main_v170, val_main_v167, val_main_v166, val_main_v165, val_main_v15, val_main_v14, val_main_v10, val_main_v9, val_main_v7, val_main_v5, val_main_v4, val_main_v3, val_main_cst_0, val_main_v6, val_main_cst_1, val_main_v8, val_main_cst_2, val_main_cst_36, val_main_cst_37]
  refine Fin.sum_points_lanes_congr 32 fun t k ha hl => ?_
  have hr : (⟨t.val % 32 * 512 + k.val, hl⟩ : Fin 16384) = row t k := Fin.ext (by simp only [row]; rw [Nat.mod_eq_of_lt (lt_N t)])
  simp only [read10, kdx1_eq m c _ _ hs, hr]
  exact mul_comm (G := EReal) _ _

end Cert.KernelAttnIdeal.Attn
end
-- ==== Proof.AttnReal.lean ====
module

public import proofs.«01_k».proof.Proof.AttnStages
public import proofs.«01_k».proof.Proof.Gate

@[expose] public section

set_option maxRecDepth 16384

noncomputable section

open Idealize.ShloMosaic Idealize.ShloMosaic.TcCoe Idealize.SL.Sem

namespace Cert.KernelAttnIdeal.Attn

open Cert.ReferenceAttnIdeal.Read (col col_cases sixteenth)
open Cert.KernelAttnIdeal Cert.KernelAttnIdeal.Gen
open Cert.Gate (IsReal)

/-- A row times the root of its mean square is real: the row is real, or its mean square is infinite and the product is zero. -/
theorem normed_real {n : ℕ} (x : Fin n → EReal) (j : Fin n) : IsReal (x j * Ideal.rsqrt (Cert.Rms.meanSq x)) := by
  rcases Cert.Rms.meanSq_cases x with h | ⟨⟨v, hv, h⟩, hx⟩
  · exact ⟨0, by simp [h, Ideal.rsqrt_top]⟩
  · have hr : IsReal (x j) := hx j
    exact hr.mul ⟨(√v)⁻¹, by rw [h, Ideal.rsqrt_coe, if_neg (not_lt.mpr hv.le), if_neg hv.ne']⟩

theorem sixteenth_real : IsReal sixteenth := ⟨1 / 16, by simp [Ideal.ofBits, Ideal.ieee, -EReal.coe_mul]; norm_num⟩

variable (m : (ℓ : Loc nD τ sig) → Buf (Elt Ideal) ℓ) (c : Dev nD)

/-- The gain before the attention, the weight of the queries and the keys are finite. -/
def FiniteArgs : Prop := (∀ j : Fin 1024, IsReal (m ((c : Thread nD τ).loc main_arg4) (ix1 j)))
  ∧ (∀ i j : Fin 1024, IsReal (m ((c : Thread nD τ).loc main_arg5) (ix2 i j)))
  ∧ ∀ (i : Fin 256) (j : Fin 1024), IsReal (m ((c : Thread nD τ).loc main_arg6) (ix2 i j))

/-- Stage 35 of the mathematics at the kernel's arguments. -/
abbrev r35 (c : Dev nD) := Cert.ReferenceAttnIdeal.Read.val_main_v35 (F := Ideal) (m ((c : Thread nD τ).loc main_arg0)) (m ((c : Thread nD τ).loc main_arg1)) (m ((c : Thread nD τ).loc main_arg2)) (m ((c : Thread nD τ).loc main_arg3)) (m ((c : Thread nD τ).loc main_arg4))

theorem row_real (h : FiniteArgs m c) (r : Fin 16384) (l : Fin 1024) : IsReal (r35 m c (ix2 r l)) := by
  have e : r35 m c (ix2 r l) = HMul.hMul (α := EReal) (β := EReal) (γ := EReal) (HMul.hMul (α := EReal) (β := EReal) (γ := EReal) (r19 m c (ix2 r l)) (Ideal.rsqrt (Cert.Rms.meanSq fun k : Fin 1024 => r19 m c (ix2 r k)))) (m ((c : Thread nD τ).loc main_arg4) (ix1 l)) := by
    open Cert.ReferenceAttnIdeal.Read in
    pointwise [val_main_v35, val_main_v32, val_main_v31, val_main_v27, val_main_v26, val_main_v24, val_main_v22, val_main_v21, val_main_v20, val_main_cst_4, val_main_v23, val_main_cst_5, val_main_v25, val_main_cst_6, val_main_v34, val_main_v33]
    rfl
  rw [e]
  exact (normed_real (fun k : Fin 1024 => r19 m c (ix2 r k)) l).mul (h.1 l)

theorem query_real (h : FiniteArgs m c) (r : Fin 16384) (j : Fin 1024) : IsReal (r37 m c (ix2 r j)) := by
  have e : r37 m c (ix2 r j) = ∑ l : Fin 1024, HMul.hMul (α := EReal) (β := EReal) (γ := EReal) (r35 m c (ix2 r l)) (m ((c : Thread nD τ).loc main_arg5) (ix2 l j)) := by
    simp only [r37, Cert.ReferenceAttnIdeal.Read.eq37]
    open Cert.ReferenceAttnIdeal.Read in
    pointwise [val_main_v36]
  rw [e]
  exact IsReal.sum _ fun l _ => (row_real m c h r l).mul (h.2.1 l j)

/-- Under finite arguments every score is real. -/
theorem scores_real (h : FiniteArgs m c) : Scores m c := fun g r k => by
  have e := Cert.ReferenceAttnIdeal.Read.scores (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) g r k
  unfold r43
  rw [e]
  exact (IsReal.sum _ fun d _ => (query_real m c h r (col g d)).mul (h.2.2 k (col g d))).mul sixteenth_real

end Cert.KernelAttnIdeal.Attn
end
-- ==== Proof.FfnReads.lean ====
module

public import proofs.«01_k».proof.Proof.Gen.KernelFfnIdeal.Value
public import proofs.«01_k».proof.Proof.Gen.ReferenceFfnIdeal.Run
public import proofs.«01_k».proof.Proof.Gen.ReferenceFfnIdeal.Read
public import proofs.«01_k».proof.Proof.Gate
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelFfnIdeal.Value

open Cert.KernelFfnIdeal Cert.KernelFfnIdeal.Gen

variable (m : (ℓ : Loc nD τ sig) → Buf (Elt Ideal) ℓ)

/-- Where each block of point `t` lies: the row blocks at `t`, the weights and gains whole. -/
theorem idx_all : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![0, 0] ∧ win0_6.index t = ![0, 0] ∧ win0_7.index t = ![0, 0] ∧ win0_8.index t = ![0, 0] ∧ win0_9.index t = ![0, 0]
    ∧ win0_10.index t = ![t.val, 0] ∧ win0_11.index t = ![t.val, 0] ∧ win0_12.index t = ![t.val, 0] ∧ win0_13.index t = ![t.val, 0] ∧ win0_14.index t = ![t.val, 0] :=
  (by decide +kernel : ∀ t : Fin grid0.N, _)

theorem lt_N (t : Fin cfg0.N) : t.val < 64 := lt_of_lt_of_eq t.isLt (show cfg0.N = 64 from N_0)

/-- The row of the whole matrix that row `i` of point `t`'s block is. -/
def row (t : Fin cfg0.N) (i : Fin 256) : Fin 16384 := ⟨t.val * 256 + i.val, by have := lt_N t; have := i.isLt; omega⟩

/-- Stage 19 of the mathematics at the kernel's arguments. -/
abbrev r19 (c : Dev nD) := Cert.ReferenceFfnIdeal.Read.val_main_v19 (F := Ideal) (m ((c : Thread nD τ).loc main_arg0)) (m ((c : Thread nD τ).loc main_arg2)) (m ((c : Thread nD τ).loc main_arg3))
/-- Stage 21 of the mathematics at the kernel's arguments. -/
abbrev r21 (c : Dev nD) := Cert.ReferenceFfnIdeal.Read.val_main_v21 (F := Ideal) (m ((c : Thread nD τ).loc main_arg0)) (m ((c : Thread nD τ).loc main_arg2)) (m ((c : Thread nD τ).loc main_arg4))
/-- Stage 23 of the mathematics at the kernel's arguments. -/
abbrev r23 (c : Dev nD) := Cert.ReferenceFfnIdeal.Read.val_main_v23 (F := Ideal) (m ((c : Thread nD τ).loc main_arg0)) (m ((c : Thread nD τ).loc main_arg2)) (m ((c : Thread nD τ).loc main_arg3)) (m ((c : Thread nD τ).loc main_arg4))
/-- Stage 25 of the mathematics at the kernel's arguments. -/
abbrev r25 (c : Dev nD) := Cert.ReferenceFfnIdeal.Read.val_main_v25 (F := Ideal) (m ((c : Thread nD τ).loc main_arg0)) (m ((c : Thread nD τ).loc main_arg2)) (m ((c : Thread nD τ).loc main_arg3)) (m ((c : Thread nD τ).loc main_arg4)) (m ((c : Thread nD τ).loc main_arg5))
/-- Stage 57 of the mathematics at the kernel's arguments. -/
abbrev r57 (c : Dev nD) := Cert.ReferenceFfnIdeal.Read.val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
/-- Stage 77 of the mathematics at the kernel's arguments. -/
abbrev r77 (c : Dev nD) := Cert.ReferenceFfnIdeal.Read.val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
/-- Stage 78 of the mathematics at the kernel's arguments. -/
abbrev r78 (c : Dev nD) := Cert.ReferenceFfnIdeal.Read.val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
/-- Stage 79 of the mathematics at the kernel's arguments. -/
abbrev r79 (c : Dev nD) := Cert.ReferenceFfnIdeal.Read.val_main_v79 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
/-- Stage 81 of the mathematics at the kernel's arguments. -/
abbrev r81 (c : Dev nD) := Cert.ReferenceFfnIdeal.Read.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
/-- Stage 84 of the mathematics at the kernel's arguments. -/
abbrev r84 (c : Dev nD) := Cert.ReferenceFfnIdeal.Read.val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
/-- Stage 105 of the mathematics at the kernel's arguments. -/
abbrev r105 (c : Dev nD) := Cert.ReferenceFfnIdeal.Read.val_main_v105 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
/-- Stage 110 of the mathematics at the kernel's arguments. -/
abbrev r110 (c : Dev nD) := Cert.ReferenceFfnIdeal.Read.val_main_v110 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
/-- Stage 111 of the mathematics at the kernel's arguments. -/
abbrev r111 (c : Dev nD) := Cert.ReferenceFfnIdeal.Read.val_main_v111 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
/-- Stage 22_2 of the mathematics at the kernel's arguments. -/
abbrev r22_2 (c : Dev nD) := Cert.ReferenceFfnIdeal.Read.val_main_v22_2 (F := Ideal) (m ((c : Thread nD τ).loc main_arg0)) (m ((c : Thread nD τ).loc main_arg2)) (m ((c : Thread nD τ).loc main_arg3))
/-- Stage 106 of the mathematics at the kernel's arguments. -/
abbrev r106 (c : Dev nD) := Cert.ReferenceFfnIdeal.Read.val_main_v106 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
/-- Stage 107 of the mathematics at the kernel's arguments. -/
abbrev r107 (c : Dev nD) := Cert.ReferenceFfnIdeal.Read.val_main_v107 (F := Ideal) (m ((c : Thread nD τ).loc main_arg0)) (m ((c : Thread nD τ).loc main_arg2)) (m ((c : Thread nD τ).loc main_arg3)) (m ((c : Thread nD τ).loc main_arg4))
/-- Stage 108 of the mathematics at the kernel's arguments. -/
abbrev r108 (c : Dev nD) := Cert.ReferenceFfnIdeal.Read.val_main_v108 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
/-- Stage 109 of the mathematics at the kernel's arguments. -/
abbrev r109 (c : Dev nD) := Cert.ReferenceFfnIdeal.Read.val_main_v109 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
theorem read0 (c : Dev nD) (t : Fin cfg0.N) (i : Fin 256) (j : Fin 1024) : iblk m c 0 t (ix2 i j) = m ((c : Thread nD τ).loc main_arg0) (ix2 (row t i) j) := by
  obtain ⟨i0, i1, i2, i3, i4, i5, i6, i7, i8, i9, i10, i11, i12, i13, i14⟩ := idx_all t
  have e : ((cfg0.win 0).blk t).view.emb (ix2 i j) = ix2 (row t i) j := by blk_ext [i0, row]
  unfold iblk
  rw [View.read_apply, e]
  exact congrFun (V_main_arg0 m c) _

theorem read2 (c : Dev nD) (t : Fin cfg0.N) (i : Fin 256) (j : Fin 1024) : iblk m c 2 t (ix2 i j) = m ((c : Thread nD τ).loc main_arg1) (ix2 (row t i) j) := by
  obtain ⟨i0, i1, i2, i3, i4, i5, i6, i7, i8, i9, i10, i11, i12, i13, i14⟩ := idx_all t
  have e : ((cfg0.win 2).blk t).view.emb (ix2 i j) = ix2 (row t i) j := by blk_ext [i2, row]
  unfold iblk
  rw [View.read_apply, e]
  exact congrFun (V_main_arg1 m c) _

/-- The gradients are taken at zero added to the product: the product itself. -/
theorem eq19 (c : Dev nD) : r19 m c = Cert.ReferenceFfnIdeal.Read.val_main_v18 (F := Ideal) (m ((c : Thread nD τ).loc main_arg0)) (m ((c : Thread nD τ).loc main_arg2)) (m ((c : Thread nD τ).loc main_arg3)) := by
  funext i
  obtain ⟨i0, i1, rfl⟩ : ∃ i0 i1, i = ix2 i0 i1 := ⟨i 0, i 1, by funext a; match a with | ⟨0, _⟩ => rfl | ⟨1, _⟩ => rfl⟩
  show HAdd.hAdd (α := EReal) (β := EReal) (γ := EReal) (Cert.ReferenceFfnIdeal.Read.val_main_v18 (F := Ideal) (m ((c : Thread nD τ).loc main_arg0)) (m ((c : Thread nD τ).loc main_arg2)) (m ((c : Thread nD τ).loc main_arg3)) (ix2 i0 i1)) (Cert.ReferenceFfnIdeal.Read.val_main_v0 (F := Ideal) (ix2 i0 i1)) = _
  have hz : Cert.ReferenceFfnIdeal.Read.val_main_v0 (F := Ideal) (ix2 i0 i1) = (0 : EReal) := by pointwise [Cert.ReferenceFfnIdeal.Read.val_main_v0, Cert.ReferenceFfnIdeal.Read.val_main_cst]
  rw [hz]
  exact add_zero (M := EReal) _

/-- The gradients are taken at zero added to the product: the product itself. -/
theorem eq21 (c : Dev nD) : r21 m c = Cert.ReferenceFfnIdeal.Read.val_main_v20 (F := Ideal) (m ((c : Thread nD τ).loc main_arg0)) (m ((c : Thread nD τ).loc main_arg2)) (m ((c : Thread nD τ).loc main_arg4)) := by
  funext i
  obtain ⟨i0, i1, rfl⟩ : ∃ i0 i1, i = ix2 i0 i1 := ⟨i 0, i 1, by funext a; match a with | ⟨0, _⟩ => rfl | ⟨1, _⟩ => rfl⟩
  show HAdd.hAdd (α := EReal) (β := EReal) (γ := EReal) (Cert.ReferenceFfnIdeal.Read.val_main_v20 (F := Ideal) (m ((c : Thread nD τ).loc main_arg0)) (m ((c : Thread nD τ).loc main_arg2)) (m ((c : Thread nD τ).loc main_arg4)) (ix2 i0 i1)) (Cert.ReferenceFfnIdeal.Read.val_main_v0 (F := Ideal) (ix2 i0 i1)) = _
  have hz : Cert.ReferenceFfnIdeal.Read.val_main_v0 (F := Ideal) (ix2 i0 i1) = (0 : EReal) := by pointwise [Cert.ReferenceFfnIdeal.Read.val_main_v0, Cert.ReferenceFfnIdeal.Read.val_main_cst]
  rw [hz]
  exact add_zero (M := EReal) _

/-- The gradients are taken at zero added to the product: the product itself. -/
theorem eq25 (c : Dev nD) : r25 m c = Cert.ReferenceFfnIdeal.Read.val_main_v24 (F := Ideal) (m ((c : Thread nD τ).loc main_arg0)) (m ((c : Thread nD τ).loc main_arg2)) (m ((c : Thread nD τ).loc main_arg3)) (m ((c : Thread nD τ).loc main_arg4)) (m ((c : Thread nD τ).loc main_arg5)) := by
  funext i
  obtain ⟨i0, i1, rfl⟩ : ∃ i0 i1, i = ix2 i0 i1 := ⟨i 0, i 1, by funext a; match a with | ⟨0, _⟩ => rfl | ⟨1, _⟩ => rfl⟩
  show HAdd.hAdd (α := EReal) (β := EReal) (γ := EReal) (Cert.ReferenceFfnIdeal.Read.val_main_v24 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (ix2 i0 i1)) (Cert.ReferenceFfnIdeal.Read.val_main_v1 (F := Ideal) (ix2 i0 i1)) = _
  have hz : Cert.ReferenceFfnIdeal.Read.val_main_v1 (F := Ideal) (ix2 i0 i1) = (0 : EReal) := by pointwise [Cert.ReferenceFfnIdeal.Read.val_main_v1, Cert.ReferenceFfnIdeal.Read.val_main_cst_0]
  rw [hz]
  exact add_zero (M := EReal) _

theorem read3 (c : Dev nD) (t : Fin cfg0.N) (i : Fin 256) (j : Fin 2816) : iblk m c 3 t (ix2 i j) = r19 m c (ix2 (row t i) j) := by
  obtain ⟨i0, i1, i2, i3, i4, i5, i6, i7, i8, i9, i10, i11, i12, i13, i14⟩ := idx_all t
  have e : ((cfg0.win 3).blk t).view.emb (ix2 i j) = ix2 (row t i) j := by blk_ext [i3, row]
  unfold iblk
  rw [View.read_apply, e]
  rw [eq19]
  show V m c main_v19 _ = _
  dsimp only [V, hostOps0, hostOps0_1, hostOps0_2, List.flatten_cons, List.flatten_nil, List.append_nil, List.cons_append, List.nil_append]
  after_results_simp
  rfl

theorem read4 (c : Dev nD) (t : Fin cfg0.N) (i : Fin 256) (j : Fin 2816) : iblk m c 4 t (ix2 i j) = r21 m c (ix2 (row t i) j) := by
  obtain ⟨i0, i1, i2, i3, i4, i5, i6, i7, i8, i9, i10, i11, i12, i13, i14⟩ := idx_all t
  have e : ((cfg0.win 4).blk t).view.emb (ix2 i j) = ix2 (row t i) j := by blk_ext [i4, row]
  unfold iblk
  rw [View.read_apply, e]
  rw [eq21]
  show V m c main_v20 _ = _
  dsimp only [V, hostOps0, hostOps0_1, hostOps0_2, List.flatten_cons, List.flatten_nil, List.append_nil, List.cons_append, List.nil_append]
  after_results_simp
  rfl

theorem read1 (c : Dev nD) (t : Fin cfg0.N) (i : Fin 256) (j : Fin 1024) : iblk m c 1 t (ix2 i j) = r25 m c (ix2 (row t i) j) := by
  obtain ⟨i0, i1, i2, i3, i4, i5, i6, i7, i8, i9, i10, i11, i12, i13, i14⟩ := idx_all t
  have e : ((cfg0.win 1).blk t).view.emb (ix2 i j) = ix2 (row t i) j := by blk_ext [i1, row]
  unfold iblk
  rw [View.read_apply, e]
  rw [eq25]
  have h : V m c main_v18 (ix2 (row t i) j) = Host.dotGeneral (F := Ideal) (φ₁ := .f32) (φ₂ := .f32) Cert.ReferenceFfnIdeal.dot_S16384x2816_S2816x1024_S16384x1024_1_0_0_1_n_n none
      (mulf (φ := .f32) (mulf (φ := .f32) (Cert.ReferenceFfnIdeal.Read.val_main_v18 (F := Ideal) (m ((c : Thread nD τ).loc main_arg0)) (m ((c : Thread nD τ).loc main_arg2)) (m ((c : Thread nD τ).loc main_arg3))) (Host.divf (φ := .f32) (Cert.ReferenceFfnIdeal.Read.val_main_call0_v4 (F := Ideal)) (addf (φ := .f32) (Cert.ReferenceFfnIdeal.Read.val_main_call0_v2 (F := Ideal)) (Host.exp (φ := .f32) (Host.negf (φ := .f32) (Cert.ReferenceFfnIdeal.Read.val_main_v18 (F := Ideal) (m ((c : Thread nD τ).loc main_arg0)) (m ((c : Thread nD τ).loc main_arg2)) (m ((c : Thread nD τ).loc main_arg3)))))))) (Cert.ReferenceFfnIdeal.Read.val_main_v20 (F := Ideal) (m ((c : Thread nD τ).loc main_arg0)) (m ((c : Thread nD τ).loc main_arg2)) (m ((c : Thread nD τ).loc main_arg4))))
      (m ((c : Thread nD τ).loc main_arg5)) (ix2 (row t i) j) := by
    dsimp only [V, hostOps0, hostOps0_1, hostOps0_2, List.flatten_cons, List.flatten_nil, List.append_nil, List.cons_append, List.nil_append]
    after_results_simp
    rfl
  refine (show _ = V m c main_v18 (ix2 (row t i) j) from rfl).trans (h.trans ?_)
  rw [← eq19, ← eq21]
  rfl

theorem read5 (c : Dev nD) (t : Fin cfg0.N) (i : Fin 1) (j : Fin 1024) : iblk m c 5 t (ix2 i j) = m ((c : Thread nD τ).loc main_arg2) (ix1 j) := by
  obtain ⟨i0, i1, i2, i3, i4, i5, i6, i7, i8, i9, i10, i11, i12, i13, i14⟩ := idx_all t
  have e : ((cfg0.win 5).blk t).view.emb (ix2 i j) = ix2 i j := by blk_ext [i5]
  unfold iblk
  rw [View.read_apply, e]
  show V m c main_v21 _ = _
  dsimp only [V, hostOps0, hostOps0_1, hostOps0_2, List.flatten_cons, List.flatten_nil, List.append_nil, List.cons_append, List.nil_append]
  after_results_simp
  pointwise []

theorem read6 (c : Dev nD) (t : Fin cfg0.N) (i : Fin 2816) (j : Fin 1024) : iblk m c 6 t (ix2 i j) = m ((c : Thread nD τ).loc main_arg3) (ix2 j i) := by
  obtain ⟨i0, i1, i2, i3, i4, i5, i6, i7, i8, i9, i10, i11, i12, i13, i14⟩ := idx_all t
  have e : ((cfg0.win 6).blk t).view.emb (ix2 i j) = ix2 i j := by blk_ext [i6]
  unfold iblk
  rw [View.read_apply, e]
  show V m c main_v23 _ = _
  dsimp only [V, hostOps0, hostOps0_1, hostOps0_2, List.flatten_cons, List.flatten_nil, List.append_nil, List.cons_append, List.nil_append]
  after_results_simp
  pointwise []

theorem read7 (c : Dev nD) (t : Fin cfg0.N) (i : Fin 2816) (j : Fin 1024) : iblk m c 7 t (ix2 i j) = m ((c : Thread nD τ).loc main_arg4) (ix2 j i) := by
  obtain ⟨i0, i1, i2, i3, i4, i5, i6, i7, i8, i9, i10, i11, i12, i13, i14⟩ := idx_all t
  have e : ((cfg0.win 7).blk t).view.emb (ix2 i j) = ix2 i j := by blk_ext [i7]
  unfold iblk
  rw [View.read_apply, e]
  show V m c main_v25 _ = _
  dsimp only [V, hostOps0, hostOps0_1, hostOps0_2, List.flatten_cons, List.flatten_nil, List.append_nil, List.cons_append, List.nil_append]
  after_results_simp
  pointwise []

theorem read8 (c : Dev nD) (t : Fin cfg0.N) (i : Fin 2816) (j : Fin 1024) : iblk m c 8 t (ix2 i j) = m ((c : Thread nD τ).loc main_arg5) (ix2 i j) := by
  obtain ⟨i0, i1, i2, i3, i4, i5, i6, i7, i8, i9, i10, i11, i12, i13, i14⟩ := idx_all t
  have e : ((cfg0.win 8).blk t).view.emb (ix2 i j) = ix2 i j := by blk_ext [i8]
  unfold iblk
  rw [View.read_apply, e]
  show V m c main_v26 _ = _
  dsimp only [V, hostOps0, hostOps0_1, hostOps0_2, List.flatten_cons, List.flatten_nil, List.append_nil, List.cons_append, List.nil_append]
  after_results_simp
  rfl

theorem read9 (c : Dev nD) (t : Fin cfg0.N) (i : Fin 1) (j : Fin 1024) : iblk m c 9 t (ix2 i j) = m ((c : Thread nD τ).loc main_arg6) (ix1 j) := by
  obtain ⟨i0, i1, i2, i3, i4, i5, i6, i7, i8, i9, i10, i11, i12, i13, i14⟩ := idx_all t
  have e : ((cfg0.win 9).blk t).view.emb (ix2 i j) = ix2 i j := by blk_ext [i9]
  unfold iblk
  rw [View.read_apply, e]
  show V m c main_v27 _ = _
  dsimp only [V, hostOps0, hostOps0_1, hostOps0_2, List.flatten_cons, List.flatten_nil, List.append_nil, List.cons_append, List.nil_append]
  after_results_simp
  pointwise []

end Cert.KernelFfnIdeal.Value
end
-- ==== Proof.FfnStages.lean ====
module

public import proofs.«01_k».proof.Proof.FfnReads
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelFfnIdeal.Value

open Cert.KernelFfnIdeal Cert.KernelFfnIdeal.Gen

variable (m : (ℓ : Loc nD τ sig) → Buf (Elt Ideal) ℓ)

/-- The loss's gradient in the block of point `t`. -/
def kdx3 (c : Dev nD) (t : Fin cfg0.N) := k0_pay6 (iblk m c 0 t) (iblk m c 1 t) (iblk m c 9 t) (iblk m c 2 t)
/-- The gradient of the network's output. -/
def kdf (c : Dev nD) (t : Fin cfg0.N) := k0_pay12 (kdx3 m c t) (k0_pay7 (iblk m c 9 t)) (k0_pay8 (iblk m c 1 t)) (k0_pay9 (iblk m c 1 t))
/-- The gradient of the gated hidden row. -/
def kdhd (c : Dev nD) (t : Fin cfg0.N) := k0_pay13 (kdx3 m c t) (k0_pay7 (iblk m c 9 t)) (k0_pay8 (iblk m c 1 t)) (k0_pay9 (iblk m c 1 t)) (iblk m c 8 t)
/-- The gradient of the product with the up weights. -/
def kdup (c : Dev nD) (t : Fin cfg0.N) := k0_pay19 (kdhd m c t) (k0_pay17 (iblk m c 3 t))
/-- The gradient of the product with the gate's weights. -/
def kdgt (c : Dev nD) (t : Fin cfg0.N) := k0_pay20 (kdhd m c t) (k0_pay14 (iblk m c 3 t)) (k0_pay15 (iblk m c 4 t)) (k0_pay16 (iblk m c 3 t))
/-- The gradient of the normalised row. -/
def kdh (c : Dev nD) (t : Fin cfg0.N) := k0_pay21 (kdhd m c t) (k0_pay14 (iblk m c 3 t)) (k0_pay15 (iblk m c 4 t)) (k0_pay16 (iblk m c 3 t)) (k0_pay17 (iblk m c 3 t)) (iblk m c 6 t) (iblk m c 7 t)

variable (c : Dev nD) (t : Fin cfg0.N) (i : Fin 256)

theorem kdx3_eq (j : Fin 1024) : kdx3 m c t (ix2 i j) = r57 m c (ix2 (row t i) j) := by
  unfold kdx3
  open Cert.ReferenceFfnIdeal.Read in
  pointwise [k0_pay6, k0_pay5, val_main_v57, val_main_v56, val_main_v55, val_main_v54, val_main_v53, val_main_v52, val_main_v46, val_main_v45, val_main_v43, val_main_v42, val_main_v41, val_main_v40, val_main_v39,
    val_main_v38, val_main_v37, val_main_v33, val_main_v32, val_main_v31, val_main_v30, val_main_v29, val_main_v28, val_main_v27, val_main_v26, val_main_cst_5, val_main_cst_6, val_main_cst_7, val_main_cst_9, val_main_cst_14, val_main_cst_15, val_main_cst_16]
  simp only [read0, read1, read2, read9]
  exact (Cert.Gate.loss_grad _).symm

theorem kdf_eq (j : Fin 1024) : kdf m c t (ix2 i j) = r77 m c (ix2 (row t i) j) := by
  unfold kdf
  open Cert.ReferenceFfnIdeal.Read in
  pointwise [k0_pay12, k0_pay9, k0_pay8, k0_pay7, k0_pay5, val_main_v77, val_main_v76, val_main_v75, val_main_v74, val_main_v73, val_main_v72, val_main_v71, val_main_v70, val_main_v69, val_main_v68, val_main_v67, val_main_v66, val_main_v65, val_main_v64, val_main_v62, val_main_v61, val_main_v39,
    val_main_v36, val_main_v35, val_main_v34, val_main_v33, val_main_v32, val_main_v31, val_main_v30, val_main_v29, val_main_v28, val_main_v27, val_main_v26, val_main_cst_5, val_main_cst_6, val_main_cst_7, val_main_cst_8, val_main_cst_19, val_main_cst_20, val_main_cst_21]
  simp only [read1, read9, kdx3_eq, Fin.sum_univ_one]
  let X : Fin 1024 → EReal := fun j => r25 m c (ix2 (row t i) j)
  let D : Fin 1024 → EReal := fun j => r57 m c (ix2 (row t i) j)
  let G : Fin 1024 → EReal := fun j => m ((c : Thread nD τ).loc main_arg6) (ix1 j)
  exact Cert.Rms.row_grad' X (fun k => D k * G k) _

theorem kdhd_eq (l : Fin 2816) : kdhd m c t (ix2 i l) = r78 m c (ix2 (row t i) l) := by
  unfold kdhd k0_pay13
  change matmul (F := Ideal) _ _ (kdf m c t) _ _ (ix2 i l) = _
  open Cert.ReferenceFfnIdeal.Read in
  pointwise [val_main_v78]
  simp only [read8, kdf_eq]

/-- The logistic function of the gate's product. -/
theorem ksig_eq (l : Fin 2816) : k0_pay16 (iblk m c 3 t) (ix2 i l) = Cert.Gate.sig (r19 m c (ix2 (row t i) l)) := by
  pointwise [k0_pay16, k0_pay14]
  simp only [read3, Cert.Gate.sig, show ∀ g : EReal, (0 : EReal) - g = -g from fun g => by rw [sub_eq_add_neg, zero_add]]

theorem rsig_eq (x0 : (⟨ReferenceFfnIdeal.S16384x1024, .f32⟩ : BufTy).Contents (Elt Ideal)) (x2 : (⟨ReferenceFfnIdeal.S1024, .f32⟩ : BufTy).Contents (Elt Ideal)) (x3 : (⟨ReferenceFfnIdeal.S1024x2816, .f32⟩ : BufTy).Contents (Elt Ideal)) (r : Fin 16384) (l : Fin 2816) :
    ReferenceFfnIdeal.Read.val_main_v22_2 (F := Ideal) x0 x2 x3 (ix2 r l) = Cert.Gate.sig (ReferenceFfnIdeal.Read.val_main_v19 (F := Ideal) x0 x2 x3 (ix2 r l)) := by
  open Cert.ReferenceFfnIdeal.Read in
  pointwise [val_main_v22_2, val_main_call0_v4, val_main_call0_v3, val_main_call0_v2, val_main_call0_v1, val_main_call0_v0, val_main_call0_cst, val_main_call0_cst_0]
  rfl

theorem khd_eq (l : Fin 2816) : k0_pay18 (iblk m c 3 t) (iblk m c 4 t) (ix2 i l) = r107 m c (ix2 (row t i) l) := by
  open Cert.ReferenceFfnIdeal.Read in
  pointwise [k0_pay18, k0_pay17, k0_pay15, k0_pay14, val_main_v107, val_main_v23, val_main_v22_0]
  rw [ksig_eq, rsig_eq, read3, read4]

theorem kdup_eq (l : Fin 2816) : kdup m c t (ix2 i l) = r79 m c (ix2 (row t i) l) := by
  unfold kdup
  open Cert.ReferenceFfnIdeal.Read in
  pointwise [k0_pay19, k0_pay17, k0_pay14, val_main_v79, val_main_v22_0]
  rw [ksig_eq, rsig_eq, read3, kdhd_eq]
  exact mul_comm (G := EReal) _ _

/-- The gradient that reaches the gate's product of a row, for a finite target row and a finite gain of the second norm. -/
theorem gate_reach (r : Fin 16384) (l : Fin 2816) (ht : ∀ j : Fin 1024, Cert.Gate.IsReal (m ((c : Thread nD τ).loc main_arg1) (ix2 r j)))
    (hg : ∀ j : Fin 1024, Cert.Gate.IsReal (m ((c : Thread nD τ).loc main_arg6) (ix1 j))) :
    (∃ q : ℝ, HMul.hMul (α := EReal) (β := EReal) (γ := EReal) (r78 m c (ix2 r l)) (r21 m c (ix2 r l)) = (q : EReal)) ∨ r19 m c (ix2 r l) = (0 : EReal) ∨ r19 m c (ix2 r l) = (⊤ : EReal) ∨ r19 m c (ix2 r l) = (⊥ : EReal) := by
  have e : r78 m c (ix2 r l) = ∑ j : Fin 1024, HMul.hMul (α := EReal) (β := EReal) (γ := EReal) (r77 m c (ix2 r j)) (m ((c : Thread nD τ).loc main_arg5) (ix2 l j)) := by
    open Cert.ReferenceFfnIdeal.Read in
    pointwise [val_main_v78]
  rw [e]
  refine Cert.Gate.reach_net (fun j => m ((c : Thread nD τ).loc main_arg0) (ix2 r j)) (fun j => m ((c : Thread nD τ).loc main_arg1) (ix2 r j)) (fun j => m ((c : Thread nD τ).loc main_arg6) (ix1 j))
    (fun j => m ((c : Thread nD τ).loc main_arg2) (ix1 j)) (fun j => r25 m c (ix2 r j)) (fun j => r57 m c (ix2 r j)) (fun j => r77 m c (ix2 r j)) (fun l => r21 m c (ix2 r l)) (fun l => r19 m c (ix2 r l))
    (fun j l => m ((c : Thread nD τ).loc main_arg4) (ix2 j l)) (fun l j => m ((c : Thread nD τ).loc main_arg5) (ix2 l j)) ht hg (fun l => ?_) (fun j => ?_) (fun j => ?_) (fun j => ?_) l
  · rw [eq21]
    open Cert.ReferenceFfnIdeal.Read in
    pointwise [val_main_v20, val_main_v17, val_main_v16, val_main_v15, val_main_v14, val_main_v13, val_main_v9, val_main_v8, val_main_v7, val_main_v6, val_main_v5, val_main_v4, val_main_v3, val_main_v2, val_main_cst_1, val_main_cst_2, val_main_cst_3]
    rfl
  · rw [eq25]
    open Cert.ReferenceFfnIdeal.Read in
    pointwise [val_main_v24, val_main_v23, val_main_v22_0]
    simp only [rsig_eq]
  · open Cert.ReferenceFfnIdeal.Read in
    pointwise [val_main_v57, val_main_v56, val_main_v55, val_main_v54, val_main_v53, val_main_v52, val_main_v46, val_main_v45, val_main_v43, val_main_v42, val_main_v41, val_main_v40, val_main_v39,
    val_main_v38, val_main_v37, val_main_v33, val_main_v32, val_main_v31, val_main_v30, val_main_v29, val_main_v28, val_main_v27, val_main_v26, val_main_cst_5, val_main_cst_6, val_main_cst_7, val_main_cst_9, val_main_cst_14, val_main_cst_15, val_main_cst_16]
    exact Cert.Gate.loss_grad _
  · open Cert.ReferenceFfnIdeal.Read in
    pointwise [val_main_v77, val_main_v76, val_main_v75, val_main_v74, val_main_v73, val_main_v72, val_main_v71, val_main_v70, val_main_v69, val_main_v68, val_main_v67, val_main_v66, val_main_v65, val_main_v64, val_main_v62, val_main_v61, val_main_v39,
    val_main_v36, val_main_v35, val_main_v34, val_main_v33, val_main_v32, val_main_v31, val_main_v30, val_main_v29, val_main_v28, val_main_v27, val_main_v26, val_main_cst_5, val_main_cst_6, val_main_cst_7, val_main_cst_8, val_main_cst_19, val_main_cst_20, val_main_cst_21]
    simp only [Fin.sum_univ_one]
    let X : Fin 1024 → EReal := fun j => r25 m c (ix2 r j)
    let D : Fin 1024 → EReal := fun j => r57 m c (ix2 r j)
    let G : Fin 1024 → EReal := fun j => m ((c : Thread nD τ).loc main_arg6) (ix1 j)
    exact (Cert.Rms.row_grad' X (fun k => D k * G k) j).symm

end Cert.KernelFfnIdeal.Value
end
-- ==== Proof.FfnValue.lean ====
module

public import proofs.«01_k».proof.Proof.FfnStages
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelFfnIdeal.Value

open Cert.KernelFfnIdeal Cert.KernelFfnIdeal.Gen

variable (m : (ℓ : Loc nD τ sig) → Buf (Elt Ideal) ℓ) (c : Dev nD) (t : Fin cfg0.N) (i : Fin 256)

/-- The last point. -/
def tEnd : Fin cfg0.N := ⟨63, by decide +kernel⟩

/-- The target and the gain of the second norm are finite. -/
def FiniteArgs : Prop := (∀ (r : Fin 16384) (j : Fin 1024), Cert.Gate.IsReal (m ((c : Thread nD τ).loc main_arg1) (ix2 r j)))
  ∧ ∀ j : Fin 1024, Cert.Gate.IsReal (m ((c : Thread nD τ).loc main_arg6) (ix1 j))

theorem kdgt_eq (hfin : FiniteArgs m c) (l : Fin 2816) : kdgt m c t (ix2 i l) = r81 m c (ix2 (row t i) l) := by
  have h := gate_reach m c (row t i) l (hfin.1 _) hfin.2
  unfold kdgt
  open Cert.ReferenceFfnIdeal.Read in
  pointwise [k0_pay20, k0_pay15, k0_pay14, val_main_v81, val_main_v80, val_main_call1_v2, val_main_call1_v1, val_main_call1_v0, val_main_v22_1, val_main_call0_v7, val_main_call0_v6, val_main_call0_cst_1]
  rw [ksig_eq, rsig_eq, read3, read4, kdhd_eq]
  exact Cert.Gate.silu_grad _ _ h

theorem kdh_eq (hfin : FiniteArgs m c) (j : Fin 1024) : kdh m c t (ix2 i j) = r84 m c (ix2 (row t i) j) := by
  unfold kdh k0_pay21
  change FloatOps.addf (F := Ideal) (matmul (F := Ideal) _ _ (kdgt m c t) _ _ (ix2 i j)) (matmul (F := Ideal) _ _ (kdup m c t) _ _ (ix2 i j)) = _
  open Cert.ReferenceFfnIdeal.Read in
  pointwise [val_main_v84, val_main_v83, val_main_v82]
  simp only [read6, read7, kdgt_eq m c t i hfin, kdup_eq]
  exact add_comm (G := EReal) _ _

theorem kdx_eq (hfin : FiniteArgs m c) (j : Fin 1024) : k0_pay2 (kdx3 m c t) (kdh m c t) (k0_pay22 (iblk m c 0 t)) (k0_pay23 (iblk m c 0 t)) (k0_pay25 (iblk m c 5 t)) (ix2 i j) = r105 m c (ix2 (row t i) j) := by
  open Cert.ReferenceFfnIdeal.Read in
  pointwise [k0_pay2, k0_pay25, k0_pay23, k0_pay22, val_main_v89, val_main_v88, val_main_v105, val_main_v104, val_main_v103, val_main_v102, val_main_v101, val_main_v100, val_main_v99, val_main_v98, val_main_v97, val_main_v96, val_main_v95, val_main_v94, val_main_v93, val_main_v92, val_main_v91, val_main_v15, val_main_v12, val_main_v11, val_main_v10, val_main_v9, val_main_v8, val_main_v7, val_main_v6, val_main_v5, val_main_v4, val_main_v3, val_main_v2, val_main_cst_1, val_main_cst_2, val_main_cst_3, val_main_cst_4, val_main_cst_24, val_main_cst_25, val_main_cst_26]
  simp only [read0, read5, kdx3_eq, kdh_eq m c t i hfin, Fin.sum_univ_one]
  let X : Fin 1024 → EReal := fun j => m ((c : Thread nD τ).loc main_arg0) (ix2 (row t i) j)
  let D : Fin 1024 → EReal := fun j => r84 m c (ix2 (row t i) j)
  let G : Fin 1024 → EReal := fun j => m ((c : Thread nD τ).loc main_arg2) (ix1 j)
  exact Cert.Rms.row_grad X (fun k => D k * G k) _ _

theorem final10 (hfin : FiniteArgs m c) : (dats m 0 c).arrAt 10 cfg0.N = r105 m c := by
  refine (dats m 0 c).arrAt_eq_of_covers 10 _ (by decide +kernel) fun t hf y => ?_
  blk_simp
  rw [after0_10]
  idx_vars y
  obtain ⟨i0, i1, i2, i3, i4, i5, i6, i7, i8, i9, i10, i11, i12, i13, i14⟩ := idx_all t
  have e : ((cfg0.win 10).blk t).view.emb (ix2 y0 y1) = ix2 (row t y0) y1 := by blk_ext [i10, row]
  rw [e]
  have hk : (outsAt0 m c t.val t.isLt).1 (ix2 y0 y1) = k0_pay2 (kdx3 m c t) (kdh m c t) (k0_pay22 (iblk m c 0 t)) (k0_pay23 (iblk m c 0 t)) (k0_pay25 (iblk m c 5 t)) (ix2 y0 y1) := by
    by_cases h0 : t.val % 64 = 0
    · rw [outsAt0_A m c t h0]; frame_out; rfl
    · rw [outsAt0_B m c t h0]; frame_out; rfl
  rw [hk]
  exact kdx_eq m c t y0 hfin y1

theorem final11 : (dats m 0 c).arrAt 11 cfg0.N = r106 m c := by
  refine (dats m 0 c).arrAt_eq_of_covers 11 _ (by decide +kernel) fun t hf y => ?_
  blk_simp
  rw [after0_11]
  idx_vars y
  obtain ⟨i0, i1, i2, i3, i4, i5, i6, i7, i8, i9, i10, i11, i12, i13, i14⟩ := idx_all t
  have e : ((cfg0.win 11).blk t).view.emb (ix2 y0 y1) = ix2 (row t y0) y1 := by blk_ext [i11, row]
  rw [e]
  have hk : (outsAt0 m c t.val t.isLt).2.1 (ix2 y0 y1) = kdf m c t (ix2 y0 y1) := by
    by_cases h0 : t.val % 64 = 0
    · rw [outsAt0_A m c t h0]; frame_out; rfl
    · rw [outsAt0_B m c t h0]; frame_out; rfl
  rw [hk]
  exact kdf_eq m c t y0 y1

theorem final12 : (dats m 0 c).arrAt 12 cfg0.N = r107 m c := by
  refine (dats m 0 c).arrAt_eq_of_covers 12 _ (by decide +kernel) fun t hf y => ?_
  blk_simp
  rw [after0_12]
  idx_vars y
  obtain ⟨i0, i1, i2, i3, i4, i5, i6, i7, i8, i9, i10, i11, i12, i13, i14⟩ := idx_all t
  have e : ((cfg0.win 12).blk t).view.emb (ix2 y0 y1) = ix2 (row t y0) y1 := by blk_ext [i12, row]
  rw [e]
  have hk : (outsAt0 m c t.val t.isLt).2.2.1 (ix2 y0 y1) = k0_pay18 (iblk m c 3 t) (iblk m c 4 t) (ix2 y0 y1) := by
    by_cases h0 : t.val % 64 = 0
    · rw [outsAt0_A m c t h0]; frame_out
    · rw [outsAt0_B m c t h0]; frame_out
  rw [hk]
  exact khd_eq m c t y0 y1

theorem final13 (hfin : FiniteArgs m c) : (dats m 0 c).arrAt 13 cfg0.N = r108 m c := by
  refine (dats m 0 c).arrAt_eq_of_covers 13 _ (by decide +kernel) fun t hf y => ?_
  blk_simp
  rw [after0_13]
  idx_vars y
  obtain ⟨i0, i1, i2, i3, i4, i5, i6, i7, i8, i9, i10, i11, i12, i13, i14⟩ := idx_all t
  have e : ((cfg0.win 13).blk t).view.emb (ix2 y0 y1) = ix2 (row t y0) y1 := by blk_ext [i13, row]
  rw [e]
  have hk : (outsAt0 m c t.val t.isLt).2.2.2.1 (ix2 y0 y1) = kdgt m c t (ix2 y0 y1) := by
    by_cases h0 : t.val % 64 = 0
    · rw [outsAt0_A m c t h0]; frame_out; rfl
    · rw [outsAt0_B m c t h0]; frame_out; rfl
  rw [hk]
  exact kdgt_eq m c t y0 hfin y1

theorem final14 : (dats m 0 c).arrAt 14 cfg0.N = r109 m c := by
  refine (dats m 0 c).arrAt_eq_of_covers 14 _ (by decide +kernel) fun t hf y => ?_
  blk_simp
  rw [after0_14]
  idx_vars y
  obtain ⟨i0, i1, i2, i3, i4, i5, i6, i7, i8, i9, i10, i11, i12, i13, i14⟩ := idx_all t
  have e : ((cfg0.win 14).blk t).view.emb (ix2 y0 y1) = ix2 (row t y0) y1 := by blk_ext [i14, row]
  rw [e]
  have hk : (outsAt0 m c t.val t.isLt).2.2.2.2.1 (ix2 y0 y1) = kdup m c t (ix2 y0 y1) := by
    by_cases h0 : t.val % 64 = 0
    · rw [outsAt0_A m c t h0]; frame_out; rfl
    · rw [outsAt0_B m c t h0]; frame_out; rfl
  rw [hk]
  exact kdup_eq m c t y0 y1

/-- One step of the second gain's gradient: what the points before left, and the sum over the block's rows. -/
theorem step15 (acc : Vec Ideal S1x1024 .f32) (i : Fin 1) (j : Fin 1024) : k0_pay11 (k0_pay10 (iblk m c 0 t) (iblk m c 1 t) (iblk m c 9 t) (iblk m c 2 t)) acc (ix2 i j)
    = acc (ix2 i j) + ∑ k : Fin 256, kdx3 m c t (ix2 k j) * k0_pay9 (iblk m c 1 t) (ix2 k j) := by
  unfold kdx3
  pointwise [k0_pay11, k0_pay10]

theorem final15 : (dats m 0 c).arrAt 15 cfg0.N = r110 m c := by
  refine Pipeline.Dat.arrAt_eq_of_after_last (dats m 0 c) 15 tEnd (by decide +kernel) _ fun j => ?_
  blk_simp
  idx_vars j
  rw [after0_15, Pipeline.eq_sum_fin_of_reset_step_apply_last (fun n h => (outsAt0 m c n h).2.2.2.2.2.1) 64 (fun _ => 0)
    (fun t j => ∑ k : Fin 256, kdx3 m c t (ix2 k (j 1)) * k0_pay9 (iblk m c 1 t) (ix2 k (j 1)))
    (fun t h j => by rw [outsAt0_A m c t h]; frame_out; idx_vars j; refine (step15 m c t _ _ _).trans ?_; pointwise [k0_pay3])
    (fun t h j => by rw [outsAt0_B m c t h]; frame_out; idx_vars j; exact step15 m c t _ _ _)
    (le_of_eq N_0) tEnd rfl _]
  open Cert.ReferenceFfnIdeal.Read in
  pointwise [k0_pay9, k0_pay8, k0_pay5, val_main_v110, val_main_v63, val_main_v60, val_main_v59, val_main_v58, val_main_v38, val_main_v37, val_main_v33, val_main_v32, val_main_v31, val_main_v30, val_main_v29, val_main_v28, val_main_v27, val_main_v26, val_main_cst_5, val_main_cst_6, val_main_cst_7, val_main_cst_17, val_main_cst_18]
  refine Fin.sum_points_lanes_congr 64 fun t k ha hl => ?_
  have hr : (⟨t.val % 64 * 256 + k.val, hl⟩ : Fin 16384) = row t k := Fin.ext (by simp only [row]; rw [Nat.mod_eq_of_lt (lt_N t)])
  simp only [read1, kdx3_eq, hr]
  exact mul_comm (G := EReal) _ _

/-- One step of the first gain's gradient. -/
theorem step16 (acc : Vec Ideal S1x1024 .f32) (i : Fin 1) (j : Fin 1024) : k0_pay1 (k0_pay24 (iblk m c 0 t) (kdhd m c t) (k0_pay14 (iblk m c 3 t)) (k0_pay15 (iblk m c 4 t)) (k0_pay16 (iblk m c 3 t)) (k0_pay17 (iblk m c 3 t)) (iblk m c 6 t) (iblk m c 7 t)) acc (ix2 i j)
    = acc (ix2 i j) + ∑ k : Fin 256, kdh m c t (ix2 k j) * k0_pay23 (iblk m c 0 t) (ix2 k j) := by
  unfold kdh
  pointwise [k0_pay1, k0_pay24]

theorem final16 (hfin : FiniteArgs m c) : (dats m 0 c).arrAt 16 cfg0.N = r111 m c := by
  refine Pipeline.Dat.arrAt_eq_of_after_last (dats m 0 c) 16 tEnd (by decide +kernel) _ fun j => ?_
  blk_simp
  idx_vars j
  rw [after0_16, Pipeline.eq_sum_fin_of_reset_step_apply_last (fun n h => (outsAt0 m c n h).2.2.2.2.2.2) 64 (fun _ => 0)
    (fun t j => ∑ k : Fin 256, kdh m c t (ix2 k (j 1)) * k0_pay23 (iblk m c 0 t) (ix2 k (j 1)))
    (fun t h j => by rw [outsAt0_A m c t h]; frame_out; idx_vars j; refine (step16 m c t _ _ _).trans ?_; pointwise [k0_pay4])
    (fun t h j => by rw [outsAt0_B m c t h]; frame_out; idx_vars j; exact step16 m c t _ _ _)
    (le_of_eq N_0) tEnd rfl _]
  open Cert.ReferenceFfnIdeal.Read in
  pointwise [k0_pay23, k0_pay22, val_main_v111, val_main_v90, val_main_v87, val_main_v86, val_main_v85, val_main_v14, val_main_v13, val_main_v9, val_main_v8, val_main_v7, val_main_v6, val_main_v5, val_main_v4, val_main_v3, val_main_v2, val_main_cst_1, val_main_cst_2, val_main_cst_3, val_main_cst_22, val_main_cst_23]
  refine Fin.sum_points_lanes_congr 64 fun t k ha hl => ?_
  have hr : (⟨t.val % 64 * 256 + k.val, hl⟩ : Fin 16384) = row t k := Fin.ext (by simp only [row]; rw [Nat.mod_eq_of_lt (lt_N t)])
  simp only [read0, kdh_eq m c _ _ hfin, hr]
  exact mul_comm (G := EReal) _ _

end Cert.KernelFfnIdeal.Value
end
-- ==== Proof.FfnClaims.lean ====
module

public import proofs.«01_k».proof.Defs
public import proofs.«01_k».proof.Proof.Gen.KernelFfn.Frame
public import proofs.«01_k».proof.Proof.FfnValue
public import Idealize.ShloMosaic.Lib.Quiescent
public import Idealize.ShloMosaic.Lib.ReduceAll
public import Idealize.ShloMosaic.Lib.Affine

@[expose] public section

set_option maxRecDepth 16384

noncomputable section

open Idealize.ShloMosaic Idealize.ShloMosaic.TcCoe Idealize.SL.Sem

namespace Cert.Proof.Ffn

/-- The shape relations of the precondition's operations. -/
instance pre_facts : Cert.Pre_finite_ffn.Facts where
  bcast_S_S16384x1024 := by decide
  reducesTo_S16384x1024_S_d0_1 := by decide
  h_S_ := by decide
  bcast_S_S1024 := by decide
  reducesTo_S1024_S_d0 := by decide

/-- The mathematics of the gradient of the feed-forward network runs to its end, its arguments unchanged. -/
theorem frame_ri : Cert.quiescent_ReferenceFfnIdeal := fun m ρ _ =>
  (θ_run Cert.ReferenceFfnIdeal.defs _ _).mono (fun r h => ⟨fun c => (h c).2.2.2.2.2.2.2, sem_eq_zero_of_no_sems (by decide) r.2⟩)
    (Cert.ReferenceFfnIdeal.Value.run (F := Ideal) m ρ)

/-- A value whose absolute value lies below infinity is a real. -/
theorem isReal_of_abs_lt (x : Ideal .f32) (h : FloatOps.cmpf .olt (FloatOps.hostAbsf x) (FloatOps.ofBits (F := Ideal) .f32 0x7F800000#32) = 1#1) : Cert.Gate.IsReal (x : EReal) := by
  have htop : Ideal.ofBits .f32 0x7F800000#32 = ⊤ := by simp [Ideal.ofBits, Ideal.ieee]
  have e : Ideal.cmp .olt (max (x : EReal) (-(x : EReal))) (Ideal.ofBits .f32 0x7F800000#32) = 1#1 := h
  rw [htop] at e
  unfold Ideal.cmp at e
  by_cases hx : max (x : EReal) (-(x : EReal)) < ⊤
  · rw [max_lt_iff] at hx
    induction x using EReal.rec with
    | coe r => exact ⟨r, rfl⟩
    | top => exact absurd hx.1 (lt_irrefl _)
    | bot => exact absurd hx.2 (by simp)
  · simp [hx] at e

/-- What the precondition says: the target and the gain of the second norm are finite. -/
theorem finite (m : (ℓ : Loc Cert.KernelFfnIdeal.nD Cert.KernelFfnIdeal.τ Cert.KernelFfnIdeal.sig) → Buf (Elt Ideal) ℓ)
    (h : Cert.Pre_KernelFfnIdeal_finite_ffn m) (c : Dev Cert.KernelFfnIdeal.nD) : Cert.KernelFfnIdeal.Value.FiniteArgs m c := by
  have e := congrFun (h c) (fun a => a.elim0)
  obtain ⟨ht, hg⟩ := IntOp.andi_eq_one.1 e
  have hs : Subsingleton Cert.Pre_finite_ffn.S_.Idx := ⟨fun a b => funext fun k => k.elim0⟩
  exact ⟨fun r j => isReal_of_abs_lt _ (Host.reduce_andi_all _ _ _ _ _ ht (ix2 r j)), fun j => isReal_of_abs_lt _ (Host.reduce_andi_all _ _ _ _ _ hg (ix1 j))⟩

/-- The kernel's seven gradients are the mathematics' seven. -/
theorem algebraic : Cert.algebraic_KernelFfnIdeal_ReferenceFfnIdeal_pre_finite_ffn := by
  intro m ρ m' ρ' hpre hagree
  open Cert.KernelFfnIdeal.Value in
  refine ⟨_, _, _, _, _, _, _, (θ_run Cert.KernelFfnIdeal.defs _ _).mono (fun r h c => ⟨(h c).1.trans (final10 m c (finite m hpre c)), (h c).2.1.trans (final11 m c),
    (h c).2.2.1.trans (final12 m c), (h c).2.2.2.1.trans (final13 m c (finite m hpre c)), (h c).2.2.2.2.1.trans (final14 m c), (h c).2.2.2.2.2.1.trans (final15 m c),
    (h c).2.2.2.2.2.2.1.trans (final16 m c (finite m hpre c)), (h c).2.2.2.2.2.2.2⟩)
    (run_blocks m ρ), ?_⟩
  refine (θ_run Cert.ReferenceFfnIdeal.defs _ _).mono (fun _ h c => ⟨(h c).1.trans ((Cert.ReferenceFfnIdeal.Read.val_main_v105_eq _).trans ?_),
    (h c).2.1.trans ((Cert.ReferenceFfnIdeal.Read.val_main_v106_eq _).trans ?_),
    (h c).2.2.1.trans ((Cert.ReferenceFfnIdeal.Read.val_main_v107_eq _).trans ?_),
    (h c).2.2.2.1.trans ((Cert.ReferenceFfnIdeal.Read.val_main_v108_eq _).trans ?_),
    (h c).2.2.2.2.1.trans ((Cert.ReferenceFfnIdeal.Read.val_main_v109_eq _).trans ?_),
    (h c).2.2.2.2.2.1.trans ((Cert.ReferenceFfnIdeal.Read.val_main_v110_eq _).trans ?_),
    (h c).2.2.2.2.2.2.1.trans ((Cert.ReferenceFfnIdeal.Read.val_main_v111_eq _).trans ?_), (h c).2.2.2.2.2.2.2⟩)
    (Cert.ReferenceFfnIdeal.Value.run (F := Ideal) m' ρ')
  all_goals
    obtain ⟨h0, h1, h2, h3, h4, h5, h6⟩ := hagree c
    open Cert.ReferenceFfnIdeal in
    simp only [show StableHlo.launchContents m' c (Proc.devRef .tc main_arg0) = _ from h0, show StableHlo.launchContents m' c (Proc.devRef .tc main_arg1) = _ from h1,
      show StableHlo.launchContents m' c (Proc.devRef .tc main_arg2) = _ from h2, show StableHlo.launchContents m' c (Proc.devRef .tc main_arg3) = _ from h3,
      show StableHlo.launchContents m' c (Proc.devRef .tc main_arg4) = _ from h4, show StableHlo.launchContents m' c (Proc.devRef .tc main_arg5) = _ from h5,
      show StableHlo.launchContents m' c (Proc.devRef .tc main_arg6) = _ from h6]

end Cert.Proof.Ffn

end
-- ==== Proof.AttnClaims.lean ====
module

public import proofs.«01_k».proof.Defs
public import proofs.«01_k».proof.Proof.AttnValue
public import proofs.«01_k».proof.Proof.AttnReal
public import proofs.«01_k».proof.Proof.AttnFrameK
public import proofs.«01_k».proof.Proof.FfnClaims
public import proofs.«01_k».proof.Proof.Gen.KernelAttn.Frame
public import proofs.«01_k».proof.Proof.Gen.KernelAttn.Skeleton
public import proofs.«01_k».proof.Proof.Gen.ReferenceAttnIdeal.Run

@[expose] public section

set_option maxRecDepth 16384

noncomputable section

open Idealize.ShloMosaic Idealize.ShloMosaic.TcCoe Idealize.SL.Sem

namespace Cert.KernelAttnIdeal.Attn

open Cert.KernelAttnIdeal Cert.KernelAttnIdeal.Gen

variable (m : (ℓ : Loc nD τ sig) → Buf (Elt Ideal) ℓ) (ρ : Dev nD → PrngReg)

set_option maxHeartbeats 2000000 in
/-- What the call's outputs hold after it. -/
theorem run_outs : θ_run defs (onTc (τ := τ) (main (F := Ideal))) ⟨m, fun _ => 0, ρ⟩ (fun r => ∀ c : Dev nD,
      r.2.mem ((c.tc : Thread nD τ).loc main_v62_0) = (dats m 0 c).arrAt 13 cfg0.N
      ∧ r.2.mem ((c.tc : Thread nD τ).loc main_v62_1) = (dats m 0 c).arrAt 14 cfg0.N
      ∧ r.2.mem ((c.tc : Thread nD τ).loc main_v62_2) = (dats m 0 c).arrAt 15 cfg0.N
      ∧ r.2.mem ((c.tc : Thread nD τ).loc main_v62_3) = (dats m 0 c).arrAt 16 cfg0.N
      ∧ r.2.mem ((c.tc : Thread nD τ).loc main_v62_4) = (dats m 0 c).arrAt 17 cfg0.N
      ∧ r.2.mem ((c.tc : Thread nD τ).loc main_v62_5) = (dats m 0 c).arrAt 18 cfg0.N
      ∧ r.2.mem ((c.tc : Thread nD τ).loc main_v62_6) = (dats m 0 c).arrAt 19 cfg0.N
      ∧ r.2.mem ((c.tc : Thread nD τ).loc main_v62_7) = (dats m 0 c).arrAt 20 cfg0.N
      ∧ r.2.mem ((c.tc : Thread nD τ).loc main_v62_8) = (dats m 0 c).arrAt 21 cfg0.N
      ∧ r.2.mem ((c.tc : Thread nD τ).loc main_v62_9) = (dats m 0 c).arrAt 22 cfg0.N) :=
  (θ_run defs _ _).mono (fun _ h c => ⟨(h c).1 13, (h c).1 14, (h c).1 15, (h c).1 16, (h c).1 17, (h c).1 18, (h c).1 19, (h c).1 20, (h c).1 21, (h c).1 22⟩) (run_main m ρ)

end Cert.KernelAttnIdeal.Attn

namespace Cert.Proof.Attn

/-- The shape relations of the precondition's operations. -/
instance pre_facts : Cert.Pre_finite_attn.Facts where
  bcast_S_S1024 := by decide
  reducesTo_S1024_S_d0 := by decide
  h_S_ := by decide
  bcast_S_S1024x1024 := by decide
  reducesTo_S1024x1024_S_d0_1 := by decide
  bcast_S_S256x1024 := by decide
  reducesTo_S256x1024_S_d0_1 := by decide

/-- The mathematics of the gradient of the attention runs to its end, its arguments unchanged. -/
theorem frame_ri : Cert.quiescent_ReferenceAttnIdeal := fun m ρ _ =>
  (θ_run Cert.ReferenceAttnIdeal.defs _ _).mono (fun r h => ⟨fun c => (h c).2.2.2.2.2.2.2.2.2.2, sem_eq_zero_of_no_sems (by decide) r.2⟩)
    (Cert.ReferenceAttnIdeal.Value.run (F := Ideal) m ρ)

/-- What the precondition says: the gain before the attention, the weight of the queries and the keys are finite. -/
theorem finite (m : (ℓ : Loc Cert.KernelAttnIdeal.nD Cert.KernelAttnIdeal.τ Cert.KernelAttnIdeal.sig) → Buf (Elt Ideal) ℓ)
    (h : Cert.Pre_KernelAttnIdeal_finite_attn m) (c : Dev Cert.KernelAttnIdeal.nD) : Cert.KernelAttnIdeal.Attn.FiniteArgs m c := by
  have e := congrFun (h c) (fun a => a.elim0)
  obtain ⟨e1, hk⟩ := IntOp.andi_eq_one.1 e
  obtain ⟨hg, hq⟩ := IntOp.andi_eq_one.1 e1
  have hs : Subsingleton Cert.Pre_finite_attn.S_.Idx := ⟨fun a b => funext fun k => k.elim0⟩
  exact ⟨fun j => Ffn.isReal_of_abs_lt _ (Host.reduce_andi_all _ _ _ _ _ hg (ix1 j)), fun i j => Ffn.isReal_of_abs_lt _ (Host.reduce_andi_all _ _ _ _ _ hq (ix2 i j)),
    fun i j => Ffn.isReal_of_abs_lt _ (Host.reduce_andi_all _ _ _ _ _ hk (ix2 i j))⟩

set_option maxHeartbeats 4000000 in
/-- The kernel's ten results are the mathematics' ten. -/
theorem algebraic : Cert.algebraic_KernelAttnIdeal_ReferenceAttnIdeal_pre_finite_attn := by
  intro m ρ m' ρ' hpre hagree
  have hs : ∀ c, Cert.KernelAttnIdeal.Attn.Scores m c := fun c => Cert.KernelAttnIdeal.Attn.scores_real m c (finite m hpre c)
  open Cert.KernelAttnIdeal.Attn in
  refine ⟨_, _, _, _, _, _, _, _, _, _, (θ_run Cert.KernelAttnIdeal.defs _ _).mono (fun r h c => ⟨(h.1 c).1.trans (final13 m c (hs c)),
    (h.1 c).2.1.trans (final14 m c),
    (h.1 c).2.2.1.trans (final15 m c (hs c)),
    (h.1 c).2.2.2.1.trans (final16 m c (hs c)),
    (h.1 c).2.2.2.2.1.trans (final17 m c),
    (h.1 c).2.2.2.2.2.1.trans (final18 m c),
    (h.1 c).2.2.2.2.2.2.1.trans (final19 m c (hs c)),
    (h.1 c).2.2.2.2.2.2.2.1.trans (final20 m c (hs c)),
    (h.1 c).2.2.2.2.2.2.2.2.1.trans (final21 m c (hs c)),
    (h.1 c).2.2.2.2.2.2.2.2.2.trans (final22 m c (hs c)), h.2.1 c⟩)
    (θ_run_and (run_outs m ρ) (frame m ρ)), ?_⟩
  refine (θ_run Cert.ReferenceAttnIdeal.defs _ _).mono (fun _ h c => ⟨(h c).1.trans ((Cert.ReferenceAttnIdeal.Read.val_main_v164_eq _).trans ?_),
    (h c).2.1.trans ((Cert.ReferenceAttnIdeal.Read.val_main_v186_eq _).trans ?_),
    (h c).2.2.1.trans ((Cert.ReferenceAttnIdeal.Read.val_main_v187_eq _).trans ?_),
    (h c).2.2.2.1.trans ((Cert.ReferenceAttnIdeal.Read.val_main_v141_eq _).trans ?_),
    (h c).2.2.2.2.1.trans ((Cert.ReferenceAttnIdeal.Read.val_main_v140_eq _).trans ?_),
    (h c).2.2.2.2.2.1.trans ((Cert.ReferenceAttnIdeal.Read.val_main_v188_eq _).trans ?_),
    (h c).2.2.2.2.2.2.1.trans ((Cert.ReferenceAttnIdeal.Read.val_main_v189_eq _).trans ?_),
    (h c).2.2.2.2.2.2.2.1.trans ((Cert.ReferenceAttnIdeal.Read.val_main_v190_eq _).trans ?_),
    (h c).2.2.2.2.2.2.2.2.1.trans ((Cert.ReferenceAttnIdeal.Read.val_main_v191_eq _).trans ?_),
    (h c).2.2.2.2.2.2.2.2.2.1.trans ((Cert.ReferenceAttnIdeal.Read.val_main_v192_eq _).trans ?_), (h c).2.2.2.2.2.2.2.2.2.2⟩)
    (Cert.ReferenceAttnIdeal.Value.run (F := Ideal) m' ρ')
  all_goals
    obtain ⟨h0, h1, h2, h3, h4, h5, h6, h7, h8, h9, h10⟩ := hagree c
    open Cert.ReferenceAttnIdeal in
    simp only [show StableHlo.launchContents m' c (Proc.devRef .tc main_arg0) = _ from h0,
      show StableHlo.launchContents m' c (Proc.devRef .tc main_arg1) = _ from h1,
      show StableHlo.launchContents m' c (Proc.devRef .tc main_arg2) = _ from h2,
      show StableHlo.launchContents m' c (Proc.devRef .tc main_arg3) = _ from h3,
      show StableHlo.launchContents m' c (Proc.devRef .tc main_arg4) = _ from h4,
      show StableHlo.launchContents m' c (Proc.devRef .tc main_arg5) = _ from h5,
      show StableHlo.launchContents m' c (Proc.devRef .tc main_arg6) = _ from h6,
      show StableHlo.launchContents m' c (Proc.devRef .tc main_arg7) = _ from h7,
      show StableHlo.launchContents m' c (Proc.devRef .tc main_arg8) = _ from h8,
      show StableHlo.launchContents m' c (Proc.devRef .tc main_arg9) = _ from h9,
      show StableHlo.launchContents m' c (Proc.devRef .tc main_arg10) = _ from h10]

end Cert.Proof.Attn

end
-- ==== Proof.ConvClaims.lean ====
module

public import proofs.«01_k».proof.Defs
public import proofs.«01_k».proof.Proof.Gen.KernelConv.Frame
public import proofs.«01_k».proof.Proof.Gen.KernelConvIdeal.Frame
public import proofs.«01_k».proof.Proof.Gen.ReferenceConvIdeal.Run
public import Idealize.ShloMosaic.Lib.Quiescent

@[expose] public section

set_option maxRecDepth 16384

noncomputable section

open Idealize.ShloMosaic Idealize.ShloMosaic.TcCoe Idealize.SL.Sem

namespace Cert.Proof.Conv

/-- The convolutions' gradient as the mathematics writes it runs to its end, its arguments unchanged. -/
theorem frame_ri : Cert.quiescent_ReferenceConvIdeal := fun m ρ _ =>
  (θ_run Cert.ReferenceConvIdeal.defs _ _).mono (fun r h => ⟨fun c => (h c).2.2.2.2.2.2, sem_eq_zero_of_no_sems (by decide) r.2⟩)
    (Cert.ReferenceConvIdeal.Value.run (F := Ideal) m ρ)

end Cert.Proof.Conv

end
-- ==== Proof.FfwdValue.lean ====
module

public import proofs.«01_k».proof.Proof.Gen.KernelFfwdIdeal.Value
public import proofs.«01_k».proof.Proof.Gen.ReferenceFfwdIdeal.Run
public import proofs.«01_k».proof.Proof.Gen.ReferenceFfwdIdeal.Read
public import proofs.«01_k».proof.Proof.Gate
public import Idealize.ShloMosaic.Lib.Pipeline.ReadBack
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelFfwdIdeal.Value

open Cert.KernelFfwdIdeal Cert.KernelFfwdIdeal.Gen

variable (m : (ℓ : Loc nD τ sig) → Buf (Elt Ideal) ℓ) (c : Dev nD) (t : Fin cfg0.N)

/-- Where each block of point `t` lies. -/
theorem idx_all : ∀ t : Fin cfg0.N, win0_0.index t = ![t.val, 0] ∧ win0_1.index t = ![0, 0] ∧ win0_2.index t = ![0, 0] ∧ win0_3.index t = ![0, 0] ∧ win0_4.index t = ![0, 0] ∧ win0_5.index t = ![0, 0] ∧ win0_6.index t = ![t.val, 0] ∧ win0_7.index t = ![t.val, 0] ∧ win0_8.index t = ![t.val, 0] ∧ win0_9.index t = ![t.val, 0] ∧ win0_10.index t = ![t.val, 0] ∧ win0_11.index t = ![0, 0] :=
  (by decide +kernel : ∀ t : Fin grid0.N, _)

theorem lt_N : t.val < 32 := lt_of_lt_of_eq t.isLt (show cfg0.N = 32 from N_0)

/-- The row of the whole matrix that row `i` of point `t`'s block is. -/
def row (i : Fin 512) : Fin 16384 := ⟨t.val * 512 + i.val, by have := lt_N t; have := i.isLt; omega⟩

/-- The last point. -/
def tEnd : Fin cfg0.N := ⟨31, by decide +kernel⟩

theorem read0 (i : Fin 512) (j : Fin 1024) : iblk m c 0 t (ix2 i j) = m ((c : Thread nD τ).loc main_arg0) (ix2 (row t i) j) := by
  obtain ⟨i0, i1, i2, i3, i4, i5, i6, i7, i8, i9, i10, i11⟩ := idx_all t
  blk_ext [iblk, V, i0, row]

theorem read1 (i : Fin 1) (j : Fin 1024) : iblk m c 1 t (ix2 i j) = m ((c : Thread nD τ).loc main_arg2) (ix1 j) := by
  obtain ⟨i0, i1, i2, i3, i4, i5, i6, i7, i8, i9, i10, i11⟩ := idx_all t
  have e : ((cfg0.win 1).blk t).view.emb (ix2 i j) = ix2 i j := by blk_ext [i1]
  unfold iblk
  rw [View.read_apply, e]
  show V m c main_v0 _ = _
  dsimp only [V, hostOps0]
  after_results_simp
  pointwise []

theorem read2 (i : Fin 2816) (j : Fin 1024) : iblk m c 2 t (ix2 i j) = m ((c : Thread nD τ).loc main_arg3) (ix2 j i) := by
  obtain ⟨i0, i1, i2, i3, i4, i5, i6, i7, i8, i9, i10, i11⟩ := idx_all t
  have e : ((cfg0.win 2).blk t).view.emb (ix2 i j) = ix2 i j := by blk_ext [i2]
  unfold iblk
  rw [View.read_apply, e]
  show V m c main_v2 _ = _
  dsimp only [V, hostOps0]
  after_results_simp
  pointwise []

theorem read3 (i : Fin 2816) (j : Fin 1024) : iblk m c 3 t (ix2 i j) = m ((c : Thread nD τ).loc main_arg4) (ix2 j i) := by
  obtain ⟨i0, i1, i2, i3, i4, i5, i6, i7, i8, i9, i10, i11⟩ := idx_all t
  have e : ((cfg0.win 3).blk t).view.emb (ix2 i j) = ix2 i j := by blk_ext [i3]
  unfold iblk
  rw [View.read_apply, e]
  show V m c main_v4 _ = _
  dsimp only [V, hostOps0]
  after_results_simp
  pointwise []

theorem read4 (i : Fin 2816) (j : Fin 1024) : iblk m c 4 t (ix2 i j) = m ((c : Thread nD τ).loc main_arg5) (ix2 i j) := by
  obtain ⟨i0, i1, i2, i3, i4, i5, i6, i7, i8, i9, i10, i11⟩ := idx_all t
  have e : ((cfg0.win 4).blk t).view.emb (ix2 i j) = ix2 i j := by blk_ext [i4]
  unfold iblk
  rw [View.read_apply, e]
  show V m c main_v5 _ = _
  dsimp only [V, hostOps0]
  after_results_simp
  rfl

theorem read5 (i : Fin 1) (j : Fin 1024) : iblk m c 5 t (ix2 i j) = m ((c : Thread nD τ).loc main_arg6) (ix1 j) := by
  obtain ⟨i0, i1, i2, i3, i4, i5, i6, i7, i8, i9, i10, i11⟩ := idx_all t
  have e : ((cfg0.win 5).blk t).view.emb (ix2 i j) = ix2 i j := by blk_ext [i5]
  unfold iblk
  rw [View.read_apply, e]
  show V m c main_v6 _ = _
  dsimp only [V, hostOps0]
  after_results_simp
  pointwise []

theorem read6 (i : Fin 512) (j : Fin 1024) : iblk m c 6 t (ix2 i j) = m ((c : Thread nD τ).loc main_arg1) (ix2 (row t i) j) := by
  obtain ⟨i0, i1, i2, i3, i4, i5, i6, i7, i8, i9, i10, i11⟩ := idx_all t
  blk_ext [iblk, V, i6, row]

/-- The normalised rows of point `t`'s block. -/
theorem n_eq (i : Fin 512) (j : Fin 1024) : k0_pay5 (iblk m c 0 t) (iblk m c 1 t) (ix2 i j) = Cert.ReferenceFfwdIdeal.Read.val_main_v12 (F := Ideal) (m ((c : Thread nD τ).loc main_arg0)) (m ((c : Thread nD τ).loc main_arg2)) (ix2 (row t i) j) := by
  open Cert.ReferenceFfwdIdeal.Read in
  pointwise [k0_pay5, val_main_v12, val_main_v11, val_main_v10, val_main_v9, val_main_v8, val_main_v7, val_main_v6, val_main_v5, val_main_v4, val_main_v3, val_main_v2, val_main_v1, val_main_v0, val_main_cst, val_main_cst_0, val_main_cst_1]
  simp only [read0, read1]
  first | done | rfl

/-- Their product with the gate's weights. -/
theorem g_eq (i : Fin 512) (l : Fin 2816) : k0_pay6 (iblk m c 0 t) (iblk m c 1 t) (iblk m c 2 t) (ix2 i l) = Cert.ReferenceFfwdIdeal.Read.val_main_v13 (F := Ideal) (m ((c : Thread nD τ).loc main_arg0)) (m ((c : Thread nD τ).loc main_arg2)) (m ((c : Thread nD τ).loc main_arg3)) (ix2 (row t i) l) := by
  have h := n_eq m c t
  unfold k0_pay6
  revert h
  generalize k0_pay5 (iblk m c 0 t) (iblk m c 1 t) = n
  intro h
  open Cert.ReferenceFfwdIdeal.Read in
  pointwise [val_main_v13]
  simp only [h, read2]

/-- Their product with the up weights. -/
theorem u_eq (i : Fin 512) (l : Fin 2816) : k0_pay7 (iblk m c 0 t) (iblk m c 1 t) (iblk m c 3 t) (ix2 i l) = Cert.ReferenceFfwdIdeal.Read.val_main_v14 (F := Ideal) (m ((c : Thread nD τ).loc main_arg0)) (m ((c : Thread nD τ).loc main_arg2)) (m ((c : Thread nD τ).loc main_arg4)) (ix2 (row t i) l) := by
  have h := n_eq m c t
  unfold k0_pay7
  revert h
  generalize k0_pay5 (iblk m c 0 t) (iblk m c 1 t) = n
  intro h
  open Cert.ReferenceFfwdIdeal.Read in
  pointwise [val_main_v14]
  simp only [h, read3]

/-- The exponential the logistic function is made of. -/
theorem e_eq (i : Fin 512) (l : Fin 2816) : k0_pay10 (iblk m c 0 t) (iblk m c 1 t) (iblk m c 2 t) (ix2 i l) = Ideal.exp (-(show EReal from Cert.ReferenceFfwdIdeal.Read.val_main_v13 (F := Ideal) (m ((c : Thread nD τ).loc main_arg0)) (m ((c : Thread nD τ).loc main_arg2)) (m ((c : Thread nD τ).loc main_arg3)) (ix2 (row t i) l))) := by
  rw [← g_eq]
  unfold k0_pay10
  generalize k0_pay6 (iblk m c 0 t) (iblk m c 1 t) (iblk m c 2 t) = g
  pointwise []
  simp only [show ∀ g : EReal, (0 : EReal) - g = -g from fun g => by rw [sub_eq_add_neg, zero_add]]

/-- The network's output in point `t`'s block. -/
def kf : FVec Ideal S512x1024 .f32 := k0_pay1 (k0_pay6 (iblk m c 0 t) (iblk m c 1 t) (iblk m c 2 t)) (k0_pay7 (iblk m c 0 t) (iblk m c 1 t) (iblk m c 3 t)) (k0_pay10 (iblk m c 0 t) (iblk m c 1 t) (iblk m c 2 t)) (iblk m c 4 t)

theorem f_eq (i : Fin 512) (j : Fin 1024) : kf m c t (ix2 i j) = Cert.ReferenceFfwdIdeal.Read.val_main_v17 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (ix2 (row t i) j) := by
  have hg := g_eq m c t
  have hu := u_eq m c t
  have he := e_eq m c t
  unfold kf
  revert hg hu he
  generalize k0_pay6 (iblk m c 0 t) (iblk m c 1 t) (iblk m c 2 t) = g
  generalize k0_pay7 (iblk m c 0 t) (iblk m c 1 t) (iblk m c 3 t) = u
  generalize k0_pay10 (iblk m c 0 t) (iblk m c 1 t) (iblk m c 2 t) = e
  intro hg hu he
  open Cert.ReferenceFfwdIdeal.Read in
  pointwise [k0_pay1, val_main_v17, val_main_v16, val_main_v15, val_main_call0_v5, val_main_call0_v4, val_main_call0_v3, val_main_call0_v2, val_main_call0_v1, val_main_call0_v0, val_main_call0_cst, val_main_call0_cst_0]
  simp only [hg, hu, he, read4]
  first | done | rfl

/-- One step of the loss's sums: what the points before left, and the sum of the squares over the block's rows. -/
theorem step11 (acc : Vec Ideal S1x1024 .f32) (i : Fin 1) (j : Fin 1024) : k0_pay3 (iblk m c 0 t) (k0_pay6 (iblk m c 0 t) (iblk m c 1 t) (iblk m c 2 t)) (k0_pay7 (iblk m c 0 t) (iblk m c 1 t) (iblk m c 3 t)) (k0_pay10 (iblk m c 0 t) (iblk m c 1 t) (iblk m c 2 t)) (iblk m c 4 t) (iblk m c 5 t) (iblk m c 6 t) acc (ix2 i j)
    = acc (ix2 i j) + ∑ k : Fin 512, Cert.ReferenceFfwdIdeal.Read.val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (row t k) j) := by
  have hf := f_eq m c t
  unfold kf at hf
  unfold k0_pay3
  dsimp only
  revert hf
  generalize k0_pay1 (k0_pay6 (iblk m c 0 t) (iblk m c 1 t) (iblk m c 2 t)) (k0_pay7 (iblk m c 0 t) (iblk m c 1 t) (iblk m c 3 t)) (k0_pay10 (iblk m c 0 t) (iblk m c 1 t) (iblk m c 2 t)) (iblk m c 4 t) = f
  intro hf
  open Cert.ReferenceFfwdIdeal.Read in
  pointwise [val_main_v33, val_main_v32, val_main_v31, val_main_v30, val_main_v29, val_main_v28, val_main_v27, val_main_v26, val_main_v25, val_main_v24, val_main_v23, val_main_v22, val_main_v21, val_main_v20, val_main_v19, val_main_v18, val_main_cst_2, val_main_cst_3, val_main_cst_4]
  simp only [hf, read0, read5, read6]
  first | done | rfl

/-- The normalised rows. -/
theorem final7 : (dats m 0 c).arrAt 7 cfg0.N = Cert.ReferenceFfwdIdeal.Read.val_main_v34 (F := Ideal) (m ((c : Thread nD τ).loc main_arg0)) (m ((c : Thread nD τ).loc main_arg2)) := by
  refine (dats m 0 c).arrAt_eq_of_covers 7 _ (by decide +kernel) fun t hf y => ?_
  blk_simp
  rw [after0_7]
  idx_vars y
  obtain ⟨i0, i1, i2, i3, i4, i5, i6, i7, i8, i9, i10, i11⟩ := idx_all t
  have e : ((cfg0.win 7).blk t).view.emb (ix2 y0 y1) = ix2 (row t y0) y1 := by blk_ext [i7, row]
  rw [e]
  have hk : (outsAt0 m c t.val t.isLt).1 (ix2 y0 y1) = k0_pay5 (iblk m c 0 t) (iblk m c 1 t) (ix2 y0 y1) := by
    by_cases h0 : t.val % 32 = 0
    · rw [outsAt0_A m c t h0]; frame_out
    · rw [outsAt0_B m c t h0]; frame_out
  rw [hk]
  refine (n_eq m c t y0 y1).trans ?_
  open Cert.ReferenceFfwdIdeal.Read in
  pointwise [val_main_v34]

/-- Their product with the gate's weights. -/
theorem final8 : (dats m 0 c).arrAt 8 cfg0.N = Cert.ReferenceFfwdIdeal.Read.val_main_v35 (F := Ideal) (m ((c : Thread nD τ).loc main_arg0)) (m ((c : Thread nD τ).loc main_arg2)) (m ((c : Thread nD τ).loc main_arg3)) := by
  refine (dats m 0 c).arrAt_eq_of_covers 8 _ (by decide +kernel) fun t hf y => ?_
  blk_simp
  rw [after0_8]
  idx_vars y
  obtain ⟨i0, i1, i2, i3, i4, i5, i6, i7, i8, i9, i10, i11⟩ := idx_all t
  have e : ((cfg0.win 8).blk t).view.emb (ix2 y0 y1) = ix2 (row t y0) y1 := by blk_ext [i8, row]
  rw [e]
  have hk : (outsAt0 m c t.val t.isLt).2.1 (ix2 y0 y1) = k0_pay8 (iblk m c 0 t) (iblk m c 1 t) (iblk m c 2 t) (ix2 y0 y1) := by
    by_cases h0 : t.val % 32 = 0
    · rw [outsAt0_A m c t h0]; frame_out
    · rw [outsAt0_B m c t h0]; frame_out
  rw [hk]
  refine (g_eq m c t y0 y1).trans ?_
  open Cert.ReferenceFfwdIdeal.Read in
  pointwise [val_main_v35]

/-- Their product with the up weights. -/
theorem final9 : (dats m 0 c).arrAt 9 cfg0.N = Cert.ReferenceFfwdIdeal.Read.val_main_v36 (F := Ideal) (m ((c : Thread nD τ).loc main_arg0)) (m ((c : Thread nD τ).loc main_arg2)) (m ((c : Thread nD τ).loc main_arg4)) := by
  refine (dats m 0 c).arrAt_eq_of_covers 9 _ (by decide +kernel) fun t hf y => ?_
  blk_simp
  rw [after0_9]
  idx_vars y
  obtain ⟨i0, i1, i2, i3, i4, i5, i6, i7, i8, i9, i10, i11⟩ := idx_all t
  have e : ((cfg0.win 9).blk t).view.emb (ix2 y0 y1) = ix2 (row t y0) y1 := by blk_ext [i9, row]
  rw [e]
  have hk : (outsAt0 m c t.val t.isLt).2.2.1 (ix2 y0 y1) = k0_pay9 (iblk m c 0 t) (iblk m c 1 t) (iblk m c 3 t) (ix2 y0 y1) := by
    by_cases h0 : t.val % 32 = 0
    · rw [outsAt0_A m c t h0]; frame_out
    · rw [outsAt0_B m c t h0]; frame_out
  rw [hk]
  refine (u_eq m c t y0 y1).trans ?_
  open Cert.ReferenceFfwdIdeal.Read in
  pointwise [val_main_v36]

/-- The network's output. -/
theorem final10 : (dats m 0 c).arrAt 10 cfg0.N = Cert.ReferenceFfwdIdeal.Read.val_main_v37 (F := Ideal) (m ((c : Thread nD τ).loc main_arg0)) (m ((c : Thread nD τ).loc main_arg2)) (m ((c : Thread nD τ).loc main_arg3)) (m ((c : Thread nD τ).loc main_arg4)) (m ((c : Thread nD τ).loc main_arg5)) := by
  refine (dats m 0 c).arrAt_eq_of_covers 10 _ (by decide +kernel) fun t hf y => ?_
  blk_simp
  rw [after0_10]
  idx_vars y
  obtain ⟨i0, i1, i2, i3, i4, i5, i6, i7, i8, i9, i10, i11⟩ := idx_all t
  have e : ((cfg0.win 10).blk t).view.emb (ix2 y0 y1) = ix2 (row t y0) y1 := by blk_ext [i10, row]
  rw [e]
  have hk : (outsAt0 m c t.val t.isLt).2.2.2.1 (ix2 y0 y1) = kf m c t (ix2 y0 y1) := by
    by_cases h0 : t.val % 32 = 0
    · rw [outsAt0_A m c t h0]; frame_out; rfl
    · rw [outsAt0_B m c t h0]; frame_out; rfl
  rw [hk]
  refine (f_eq m c t y0 y1).trans ?_
  open Cert.ReferenceFfwdIdeal.Read in
  pointwise [val_main_v37]

/-- The sums of the squared differences from the target. -/
theorem final11 : (dats m 0 c).arrAt 11 cfg0.N = Cert.ReferenceFfwdIdeal.Read.val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine Pipeline.Dat.arrAt_eq_of_after_last (dats m 0 c) 11 tEnd (by decide +kernel) _ fun j => ?_
  blk_simp
  idx_vars j
  rw [after0_11, Pipeline.eq_sum_fin_of_reset_step_apply_last (fun n h => (outsAt0 m c n h).2.2.2.2) 32 (fun _ => 0)
    (fun t j => ∑ k : Fin 512, Cert.ReferenceFfwdIdeal.Read.val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (row t k) (j 1)))
    (fun t h j => by rw [outsAt0_A m c t h]; frame_out; idx_vars j; refine (step11 m c t _ _ _).trans ?_; pointwise [k0_pay4])
    (fun t h j => by rw [outsAt0_B m c t h]; frame_out; idx_vars j; exact step11 m c t _ _ _)
    (le_of_eq N_0) tEnd rfl _]
  open Cert.ReferenceFfwdIdeal.Read in
  pointwise [val_main_v39, val_main_v38, val_main_cst_5]
  refine (Fin.sum_points_lanes_congr (A := 1) (L := 16384) 32 (g := fun _ l => Cert.ReferenceFfwdIdeal.Read.val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 l j1)) fun t k ha hl => ?_).trans
    (Fin.sum_univ_one fun _ => ∑ l : Fin 16384, Cert.ReferenceFfwdIdeal.Read.val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 l j1))
  have hr : (⟨t.val % 32 * 512 + k.val, hl⟩ : Fin 16384) = row t k := Fin.ext (by simp only [row]; rw [Nat.mod_eq_of_lt (lt_N t)])
  simp only [hr]

end Cert.KernelFfwdIdeal.Value
end
-- ==== Proof.FfwdClaims.lean ====
module

public import proofs.«01_k».proof.Defs
public import proofs.«01_k».proof.Proof.Gen.KernelFfwd.Frame
public import proofs.«01_k».proof.Proof.Gen.ReferenceFfwdIdeal.Run
public import proofs.«01_k».proof.Proof.FfwdValue
public import Idealize.ShloMosaic.Lib.Quiescent

@[expose] public section

set_option maxRecDepth 16384

noncomputable section

open Idealize.ShloMosaic Idealize.ShloMosaic.TcCoe Idealize.SL.Sem

namespace Cert.Proof.Ffwd

/-- The mathematics of the gated network and of the loss's sums runs to its end, its arguments unchanged. -/
theorem frame_ri : Cert.quiescent_ReferenceFfwdIdeal := fun m ρ _ =>
  (θ_run Cert.ReferenceFfwdIdeal.defs _ _).mono (fun r h => ⟨fun c => (h c).2.2.2.2.2, sem_eq_zero_of_no_sems (by decide) r.2⟩)
    (Cert.ReferenceFfwdIdeal.Value.run (F := Ideal) m ρ)

/-- The kernel's five results are the mathematics' five. -/
theorem algebraic : Cert.algebraic_KernelFfwdIdeal_ReferenceFfwdIdeal := by
  intro m ρ m' ρ' _ hagree
  open Cert.KernelFfwdIdeal.Value in
  refine ⟨_, _, _, _, _, (θ_run Cert.KernelFfwdIdeal.defs _ _).mono (fun r h c => ⟨(h c).1.trans (final7 m c), (h c).2.1.trans (final8 m c), (h c).2.2.1.trans (final9 m c), (h c).2.2.2.1.trans (final10 m c), (h c).2.2.2.2.1.trans (final11 m c), (h c).2.2.2.2.2⟩)
    (run_blocks m ρ), ?_⟩
  refine (θ_run Cert.ReferenceFfwdIdeal.defs _ _).mono (fun _ h c => ⟨(h c).1.trans ((Cert.ReferenceFfwdIdeal.Read.val_main_v34_eq _ _).trans ?_),
    (h c).2.1.trans ((Cert.ReferenceFfwdIdeal.Read.val_main_v35_eq _ _ _).trans ?_),
    (h c).2.2.1.trans ((Cert.ReferenceFfwdIdeal.Read.val_main_v36_eq _ _ _).trans ?_),
    (h c).2.2.2.1.trans ((Cert.ReferenceFfwdIdeal.Read.val_main_v37_eq _ _ _ _ _).trans ?_),
    (h c).2.2.2.2.1.trans ((Cert.ReferenceFfwdIdeal.Read.val_main_v39_eq _ _).trans ?_), (h c).2.2.2.2.2⟩)
    (Cert.ReferenceFfwdIdeal.Value.run (F := Ideal) m' ρ')
  all_goals
    obtain ⟨h0, h1, h2, h3, h4, h5, h6⟩ := hagree c
    simp only [← h0, ← h1, ← h2, ← h3, ← h4, ← h5, ← h6]

end Cert.Proof.Ffwd

end
-- ==== Proof.InValue.lean ====
module

public import proofs.«01_k».proof.Proof.Gen.KernelInIdeal.Value
public import proofs.«01_k».proof.Proof.Gen.ReferenceInIdeal.Run
public import proofs.«01_k».proof.Proof.Gen.ReferenceInIdeal.Read
public import proofs.«01_k».proof.Proof.Rms
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelInIdeal.Value

open Cert.KernelInIdeal Cert.KernelInIdeal.Gen

variable (m : (ℓ : Loc nD τ sig) → Buf (Elt Ideal) ℓ)

/-- Where each block of point `t` lies. -/
theorem idx_all : ∀ t : Fin cfg0.N, win0_0.index t = ![t.val, 0] ∧ win0_1.index t = ![0, 0] ∧ win0_2.index t = ![t.val, 0] ∧ win0_3.index t = ![t.val, 0]
    ∧ win0_4.index t = ![0, 0] ∧ win0_5.index t = ![t.val, 0] ∧ win0_6.index t = ![0, 0] :=
  (by decide +kernel : ∀ t : Fin grid0.N, _)

theorem lt_N (t : Fin cfg0.N) : t.val < 16 := lt_of_lt_of_eq t.isLt (show cfg0.N = 16 from N_0)

/-- The row of the whole matrix that row `i` of point `t`'s block is. -/
def row (t : Fin cfg0.N) (i : Fin 1024) : Fin 16384 := ⟨t.val * 1024 + i.val, by have := lt_N t; have := i.isLt; omega⟩

theorem read0 (c : Dev nD) (t : Fin cfg0.N) (i : Fin 1024) (j : Fin 2560) : iblk m c 0 t (ix2 i j) = m ((c : Thread nD τ).loc main_arg3) (ix2 (row t i) j) := by
  obtain ⟨i0, i1, i2, i3, i4, i5, i6⟩ := idx_all t
  have e : ((cfg0.win 0).blk t).view.emb (ix2 i j) = ix2 (row t i) j := by blk_ext [i0, row]
  have h : V m c (Pipeline.arrRef spec0 0) = m ((c : Thread nD τ).loc main_arg3) := by
    show V m c main_v1 = _
    dsimp only [V, hostOps0]
    after_results_simp
    rfl
  unfold iblk
  rw [View.read_apply, e, h]
  rfl

theorem read1 (c : Dev nD) (t : Fin cfg0.N) (i : Fin 2560) (j : Fin 1024) : iblk m c 1 t (ix2 i j) = m ((c : Thread nD τ).loc main_arg2) (ix2 j i) := by
  obtain ⟨i0, i1, i2, i3, i4, i5, i6⟩ := idx_all t
  have e : ((cfg0.win 1).blk t).view.emb (ix2 i j) = ix2 i j := by blk_ext [i1]
  unfold iblk
  rw [View.read_apply, e]
  show V m c main_v3 _ = _
  dsimp only [V, hostOps0]
  after_results_simp
  pointwise []
theorem read2 (c : Dev nD) (t : Fin cfg0.N) (i : Fin 1024) (j : Fin 1024) : iblk m c 2 t (ix2 i j) = m ((c : Thread nD τ).loc main_arg0) (ix2 (row t i) j) := by
  obtain ⟨i0, i1, i2, i3, i4, i5, i6⟩ := idx_all t
  blk_ext [iblk, V, i2, row]
theorem read3 (c : Dev nD) (t : Fin cfg0.N) (i : Fin 1024) (j : Fin 1024) : iblk m c 3 t (ix2 i j) = m ((c : Thread nD τ).loc main_arg4) (ix2 (row t i) j) := by
  obtain ⟨i0, i1, i2, i3, i4, i5, i6⟩ := idx_all t
  blk_ext [iblk, V, i3, row]
theorem read4 (c : Dev nD) (t : Fin cfg0.N) (i : Fin 1) (j : Fin 1024) : iblk m c 4 t (ix2 i j) = m ((c : Thread nD τ).loc main_arg1) (ix1 j) := by
  obtain ⟨i0, i1, i2, i3, i4, i5, i6⟩ := idx_all t
  have e : ((cfg0.win 4).blk t).view.emb (ix2 i j) = ix2 i j := by blk_ext [i4]
  unfold iblk
  rw [View.read_apply, e]
  show V m c main_v4 _ = _
  dsimp only [V, hostOps0]
  after_results_simp
  pointwise []

theorem final5 (c : Dev nD) : (dats m 0 c).arrAt 5 cfg0.N
    = Cert.ReferenceInIdeal.Read.val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  idx_vars y
  obtain ⟨i0, i1, i2, i3, i4, i5, i6⟩ := idx_all t
  have e : ((cfg0.win 5).blk t).view.emb (ix2 y0 y1) = ix2 (row t y0) y1 := by blk_ext [i5, row]
  rw [e]
  have hk : (outsAt0 m c t.val t.isLt).1 (ix2 y0 y1) = k0_pay1 (k0_pay6 (iblk m c 0 t) (iblk m c 1 t) (iblk m c 2 t) (iblk m c 4 t)) (iblk m c 3 t) (ix2 y0 y1) := by
    by_cases h0 : t.val % 16 = 0
    · rw [outsAt0_A m c t h0]; frame_out
    · rw [outsAt0_B m c t h0]; frame_out
  rw [hk]
  open Cert.ReferenceInIdeal.Read in
  pointwise [k0_pay1, k0_pay6, k0_pay5, k0_pay4, k0_pay3, val_main_v38, val_main_v37, val_main_v36, val_main_v35, val_main_v34, val_main_v33, val_main_v32, val_main_v31, val_main_v30, val_main_v29, val_main_v28, val_main_v27, val_main_v26, val_main_v25, val_main_v24, val_main_v22, val_main_v21, val_main_v17, val_main_v13,
     val_main_v10, val_main_v9, val_main_v8, val_main_v7, val_main_v6, val_main_v5, val_main_v4, val_main_v3, val_main_v2, val_main_v1, val_main_v0, val_main_cst, val_main_cst_0, val_main_cst_1, val_main_cst_2, val_main_cst_5, val_main_cst_6, val_main_cst_7]
  simp only [read0, read1, read2, read3, read4, Fin.sum_univ_one]
  let X : Fin 16384 → Fin 1024 → EReal := fun i j => m ((c : Thread nD τ).loc main_arg0) (ix2 i j)
  let D : Fin 16384 → Fin 2560 → EReal := fun i j => m ((c : Thread nD τ).loc main_arg3) (ix2 i j)
  let W : Fin 1024 → Fin 2560 → EReal := fun i j => m ((c : Thread nD τ).loc main_arg2) (ix2 i j)
  let G : Fin 1024 → EReal := fun j => m ((c : Thread nD τ).loc main_arg1) (ix1 j)
  exact Cert.Rms.row_grad (fun k => X (row t y0) k) (fun k => (∑ l, D (row t y0) l * W k l) * G k) _ _

/-- One step of the gain's gradient: what the points before left, and the sum over the block's rows. -/
theorem step6 (x3 x5 x8) (acc : Vec Ideal S1x1024 .f32) (i : Fin 1) (j : Fin 1024) : k0_pay7 x3 x5 x8 acc (ix2 i j)
    = acc (ix2 i j) + ∑ k : Fin 1024, k0_pay3 x3 x5 (ix2 k j) * k0_pay5 x8 (ix2 k j) := by
  pointwise [k0_pay7]

theorem final6 (c : Dev nD) : (dats m 0 c).arrAt 6 cfg0.N
    = Cert.ReferenceInIdeal.Read.val_main_v39 (F := Ideal) (m ((c : Thread nD τ).loc main_arg0)) (m ((c : Thread nD τ).loc main_arg2)) (m ((c : Thread nD τ).loc main_arg3)) := by
  refine Pipeline.Dat.arrAt_eq_of_after_last (dats m 0 c) 6 t0_15 (by decide +kernel) _ fun j => ?_
  blk_simp
  idx_vars j
  rw [after0_6, Pipeline.eq_sum_fin_of_reset_step_apply_last (fun n h => (outsAt0 m c n h).2) 16 (fun _ => 0)
    (fun t j => ∑ k : Fin 1024, k0_pay3 (iblk m c 0 t) (iblk m c 1 t) (ix2 k (j 1)) * k0_pay5 (iblk m c 2 t) (ix2 k (j 1)))
    (fun t h j => by rw [outsAt0_A m c t h]; frame_out; idx_vars j; rw [step6]; pointwise [k0_pay2])
    (fun t h j => by rw [outsAt0_B m c t h]; frame_out; idx_vars j; rw [step6])
    (le_of_eq N_0) t0_15 rfl _]
  open Cert.ReferenceInIdeal.Read in
  pointwise [k0_pay5, k0_pay4, k0_pay3, val_main_v39, val_main_v23, val_main_v20, val_main_v19, val_main_v18, val_main_v17, val_main_v12, val_main_v11,
     val_main_v7, val_main_v6, val_main_v5, val_main_v4, val_main_v3, val_main_v2, val_main_v1, val_main_v0, val_main_cst, val_main_cst_0, val_main_cst_1, val_main_cst_3, val_main_cst_4]
  refine Fin.sum_points_lanes_congr 16 fun t k ha hl => ?_
  have hr : (⟨t.val % 16 * 1024 + k.val, hl⟩ : Fin 16384) = row t k := Fin.ext (by simp only [row]; rw [Nat.mod_eq_of_lt (lt_N t)])
  simp only [read0, read1, read2, hr]
  exact mul_comm (G := EReal) _ _

end Cert.KernelInIdeal.Value
end
-- ==== Proof.InClaims.lean ====
module

public import proofs.«01_k».proof.Defs
public import proofs.«01_k».proof.Proof.Gen.KernelIn.Frame
public import proofs.«01_k».proof.Proof.InValue
public import Idealize.ShloMosaic.Lib.Quiescent

@[expose] public section

set_option maxRecDepth 16384

noncomputable section

open Idealize.ShloMosaic Idealize.ShloMosaic.TcCoe Idealize.SL.Sem

namespace Cert.Proof.In

/-- The mathematics of the gradient of the in-projection and its norm runs to its end, its arguments unchanged. -/
theorem frame_ri : Cert.quiescent_ReferenceInIdeal := fun m ρ _ =>
  (θ_run Cert.ReferenceInIdeal.defs _ _).mono (fun r h => ⟨fun c => (h c).2.2, sem_eq_zero_of_no_sems (by decide) r.2⟩)
    (Cert.ReferenceInIdeal.Value.run (F := Ideal) m ρ)

/-- The kernel's two gradients are the mathematics' two. -/
theorem algebraic : Cert.algebraic_KernelInIdeal_ReferenceInIdeal := by
  intro m ρ m' ρ' _ hagree
  refine ⟨_, _, (θ_run Cert.KernelInIdeal.defs _ _).mono (fun r h c => ⟨(h c).1.trans (Cert.KernelInIdeal.Value.final5 m c),
    (h c).2.1.trans (Cert.KernelInIdeal.Value.final6 m c), (h c).2.2⟩)
    (Cert.KernelInIdeal.Value.run_blocks m ρ), ?_⟩
  refine (θ_run Cert.ReferenceInIdeal.defs _ _).mono (fun _ h c => ⟨(h c).1.trans ?_, (h c).2.1.trans ?_, (h c).2.2⟩)
    (Cert.ReferenceInIdeal.Value.run (F := Ideal) m' ρ')
  all_goals
    obtain ⟨h0, h1, h2, h3, h4⟩ := hagree c
    simp only [← h0, ← h1, ← h2, ← h3, ← h4]
    rfl

end Cert.Proof.In

end
-- ==== Proof.MemValue.lean ====
module

public import proofs.«01_k».proof.Proof.Gen.KernelMemIdeal.Value
public import proofs.«01_k».proof.Proof.Gen.ReferenceMemIdeal.Run
public import proofs.«01_k».proof.Proof.Gen.ReferenceMemIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelMemIdeal.Value

open Cert.KernelMemIdeal Cert.KernelMemIdeal.Gen

variable (m : (ℓ : Loc nD τ sig) → Buf (Elt Ideal) ℓ)

theorem idx_all : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0] ∧ win0_9.index t = ![0, 0] :=
  (by decide +kernel : ∀ t : Fin grid0.N, _)

/-- What reaches the kernel as its normalised memory is the normalised memory of the mathematics. -/
theorem n_read (c : Dev nD) (t : Fin cfg0.N) (i : Fin 256) (j : Fin 1024) : iblk m c 1 t (ix2 i j)
    = Cert.ReferenceMemIdeal.Read.val_main_v12 (F := Ideal) (m ((c : Thread nD τ).loc main_arg0)) (m ((c : Thread nD τ).loc main_arg1)) (ix2 i j) := by
  obtain ⟨i0, i1, i2, i3, i4, i5, i6, i7, i8, i9⟩ := idx_all t
  have e : ((cfg0.win 1).blk t).view.emb (ix2 i j) = ix2 i j := by blk_ext [i1]
  have h : V m c (Pipeline.arrRef spec0 1) = Cert.ReferenceMemIdeal.Read.val_main_v12 (F := Ideal) (m ((c : Thread nD τ).loc main_arg0)) (m ((c : Thread nD τ).loc main_arg1)) := by
    show V m c main_v13 = _
    dsimp only [V, hostOps0]
    after_results_simp
    rfl
  unfold iblk
  rw [View.read_apply, e, h]
  rfl

theorem read2 (c : Dev nD) (t : Fin cfg0.N) (i : Fin 256) (j : Fin 1024) : iblk m c 2 t (ix2 i j) = m ((c : Thread nD τ).loc main_arg4) (ix2 i j) := by
  obtain ⟨i0, i1, i2, i3, i4, i5, i6, i7, i8, i9⟩ := idx_all t
  blk_ext [iblk, V, i2]
theorem read3 (c : Dev nD) (t : Fin cfg0.N) (i : Fin 256) (j : Fin 1024) : iblk m c 3 t (ix2 i j) = m ((c : Thread nD τ).loc main_arg5) (ix2 i j) := by
  obtain ⟨i0, i1, i2, i3, i4, i5, i6, i7, i8, i9⟩ := idx_all t
  blk_ext [iblk, V, i3]
theorem read0 (c : Dev nD) (t : Fin cfg0.N) (i : Fin 256) (j : Fin 1024) : iblk m c 0 t (ix2 i j) = m ((c : Thread nD τ).loc main_arg0) (ix2 i j) := by
  obtain ⟨i0, i1, i2, i3, i4, i5, i6, i7, i8, i9⟩ := idx_all t
  blk_ext [iblk, V, i0]
theorem read5 (c : Dev nD) (t : Fin cfg0.N) (i : Fin 1024) (j : Fin 1024) : iblk m c 5 t (ix2 i j) = m ((c : Thread nD τ).loc main_arg2) (ix2 i j) := by
  obtain ⟨i0, i1, i2, i3, i4, i5, i6, i7, i8, i9⟩ := idx_all t
  blk_ext [iblk, V, i5]
theorem read6 (c : Dev nD) (t : Fin cfg0.N) (i : Fin 1024) (j : Fin 1024) : iblk m c 6 t (ix2 i j) = m ((c : Thread nD τ).loc main_arg3) (ix2 i j) := by
  obtain ⟨i0, i1, i2, i3, i4, i5, i6, i7, i8, i9⟩ := idx_all t
  blk_ext [iblk, V, i6]

theorem final7 (c : Dev nD) : (dats m 0 c).arrAt 7 cfg0.N
    = Cert.ReferenceMemIdeal.Read.val_main_v26 (F := Ideal) (m ((c : Thread nD τ).loc main_arg0)) (m ((c : Thread nD τ).loc main_arg1)) (m ((c : Thread nD τ).loc main_arg4)) := by
  refine (dats m 0 c).arrAt_eq_of_covers 7 _ (by decide +kernel) fun t hf y => ?_
  blk_simp
  rw [after0_7]
  frame_out
  idx_vars y
  obtain ⟨i0, i1, i2, i3, i4, i5, i6, i7, i8, i9⟩ := idx_all t
  have e : ((cfg0.win 7).blk t).view.emb (ix2 y0 y1) = ix2 y0 y1 := by blk_ext [i7]
  rw [e]
  pointwise [k0_pay4, k0_pay3, k0_pay1, Cert.ReferenceMemIdeal.Read.val_main_v26, Cert.ReferenceMemIdeal.Read.val_main_v19, Cert.ReferenceMemIdeal.Read.val_main_v18]
  refine Fin.sum_fin_congr fun x => ?_
  rw [n_read, read2]
  exact mul_comm (G := EReal) _ _

theorem final8 (c : Dev nD) : (dats m 0 c).arrAt 8 cfg0.N
    = Cert.ReferenceMemIdeal.Read.val_main_v27 (F := Ideal) (m ((c : Thread nD τ).loc main_arg0)) (m ((c : Thread nD τ).loc main_arg1)) (m ((c : Thread nD τ).loc main_arg5)) := by
  refine (dats m 0 c).arrAt_eq_of_covers 8 _ (by decide +kernel) fun t hf y => ?_
  blk_simp
  rw [after0_8]
  frame_out
  idx_vars y
  obtain ⟨i0, i1, i2, i3, i4, i5, i6, i7, i8, i9⟩ := idx_all t
  have e : ((cfg0.win 8).blk t).view.emb (ix2 y0 y1) = ix2 y0 y1 := by blk_ext [i8]
  rw [e]
  pointwise [k0_pay5, k0_pay3, k0_pay2, Cert.ReferenceMemIdeal.Read.val_main_v27, Cert.ReferenceMemIdeal.Read.val_main_v16, Cert.ReferenceMemIdeal.Read.val_main_v15]
  refine Fin.sum_fin_congr fun x => ?_
  rw [n_read, read3]
  exact mul_comm (G := EReal) _ _

theorem final9 (c : Dev nD) : (dats m 0 c).arrAt 9 cfg0.N
    = Cert.ReferenceMemIdeal.Read.val_main_v28 (F := Ideal) (m ((c : Thread nD τ).loc main_arg0)) (m ((c : Thread nD τ).loc main_arg2)) (m ((c : Thread nD τ).loc main_arg3)) (m ((c : Thread nD τ).loc main_arg4)) (m ((c : Thread nD τ).loc main_arg5)) := by
  refine (dats m 0 c).arrAt_eq_of_covers 9 _ (by decide +kernel) fun t hf y => ?_
  blk_simp
  rw [after0_9]
  frame_out
  idx_vars y
  obtain ⟨i0, i1, i2, i3, i4, i5, i6, i7, i8, i9⟩ := idx_all t
  have e : ((cfg0.win 9).blk t).view.emb (ix2 y0 y1) = ix2 y0 y1 := by blk_ext [i9]
  rw [e]
  open Cert.ReferenceMemIdeal.Read in
  pointwise [k0_pay6, k0_pay2, k0_pay1, val_main_v28, val_main_v25, val_main_v24, val_main_v23, val_main_v22, val_main_v21, val_main_v20, val_main_v17,
     val_main_v9, val_main_v8, val_main_v7, val_main_v6, val_main_v5, val_main_v4, val_main_v3, val_main_v2, val_main_v1, val_main_v0, val_main_cst, val_main_cst_0, val_main_cst_1, val_main_cst_2, val_main_cst_3]
  simp only [read0, read2, read3, read5, read6, Fin.sum_univ_one]
  ac_nf

end Cert.KernelMemIdeal.Value
end
-- ==== Proof.MemClaims.lean ====
module

public import proofs.«01_k».proof.Defs
public import proofs.«01_k».proof.Proof.Gen.KernelMem.Frame
public import proofs.«01_k».proof.Proof.MemValue
public import Idealize.ShloMosaic.Lib.Quiescent

@[expose] public section

set_option maxRecDepth 16384

noncomputable section

open Idealize.ShloMosaic Idealize.ShloMosaic.TcCoe Idealize.SL.Sem

namespace Cert.Proof.Mem

/-- The mathematics of the memory's gradients runs to its end, its arguments unchanged. -/
theorem frame_ri : Cert.quiescent_ReferenceMemIdeal := fun m ρ _ =>
  (θ_run Cert.ReferenceMemIdeal.defs _ _).mono (fun r h => ⟨fun c => (h c).2.2.2, sem_eq_zero_of_no_sems (by decide) r.2⟩)
    (Cert.ReferenceMemIdeal.Value.run (F := Ideal) m ρ)

/-- The kernel's three gradients are the mathematics' three. -/
theorem algebraic : Cert.algebraic_KernelMemIdeal_ReferenceMemIdeal := by
  intro m ρ m' ρ' _ hagree
  refine ⟨_, _, _, (θ_run Cert.KernelMemIdeal.defs _ _).mono (fun r h c => ⟨(h c).1.trans (Cert.KernelMemIdeal.Value.final7 m c),
    (h c).2.1.trans (Cert.KernelMemIdeal.Value.final8 m c), (h c).2.2.1.trans (Cert.KernelMemIdeal.Value.final9 m c), (h c).2.2.2⟩)
    (Cert.KernelMemIdeal.Value.run_blocks m ρ), ?_⟩
  refine (θ_run Cert.ReferenceMemIdeal.defs _ _).mono (fun _ h c => ⟨(h c).1.trans ?_, (h c).2.1.trans ?_, (h c).2.2.1.trans ?_, (h c).2.2.2⟩)
    (Cert.ReferenceMemIdeal.Value.run (F := Ideal) m' ρ')
  all_goals
    obtain ⟨h0, h1, h2, h3, h4, h5⟩ := hagree c
    simp only [h0, h1, h2, h3, h4, h5]
    rfl

end Cert.Proof.Mem

end
-- ==== Proof.MfwdValue.lean ====
module

public import proofs.«01_k».proof.Proof.Gen.KernelMfwdIdeal.Value
public import proofs.«01_k».proof.Proof.Gen.ReferenceMfwdIdeal.Run
public import proofs.«01_k».proof.Proof.Gen.ReferenceMfwdIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelMfwdIdeal.Value

open Cert.KernelMfwdIdeal Cert.KernelMfwdIdeal.Gen

variable (m : (ℓ : Loc nD τ sig) → Buf (Elt Ideal) ℓ) (c : Dev nD) (t : Fin cfg0.N)

/-- Where each block of point `t` lies. -/
theorem idx_all : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] :=
  (by decide +kernel : ∀ t : Fin grid0.N, _)

theorem read0 (i : Fin 256) (j : Fin 1024) : iblk m c 0 t (ix2 i j) = m ((c : Thread nD τ).loc main_arg0) (ix2 i j) := by
  obtain ⟨i0, i1, i2, i3, i4, i5, i6⟩ := idx_all t
  blk_ext [iblk, V, i0]

theorem read1 (i : Fin 1) (j : Fin 1024) : iblk m c 1 t (ix2 i j) = m ((c : Thread nD τ).loc main_arg1) (ix1 j) := by
  obtain ⟨i0, i1, i2, i3, i4, i5, i6⟩ := idx_all t
  have e : ((cfg0.win 1).blk t).view.emb (ix2 i j) = ix2 i j := by blk_ext [i1]
  unfold iblk
  rw [View.read_apply, e]
  show V m c main_v0 _ = _
  dsimp only [V, hostOps0]
  after_results_simp
  pointwise []

theorem read2 (i : Fin 1024) (j : Fin 1024) : iblk m c 2 t (ix2 i j) = m ((c : Thread nD τ).loc main_arg2) (ix2 i j) := by
  obtain ⟨i0, i1, i2, i3, i4, i5, i6⟩ := idx_all t
  have e : ((cfg0.win 2).blk t).view.emb (ix2 i j) = ix2 i j := by blk_ext [i2]
  unfold iblk
  rw [View.read_apply, e]
  show V m c main_v1 _ = _
  dsimp only [V, hostOps0]
  after_results_simp
  rfl

theorem read3 (i : Fin 1024) (j : Fin 1024) : iblk m c 3 t (ix2 i j) = m ((c : Thread nD τ).loc main_arg3) (ix2 i j) := by
  obtain ⟨i0, i1, i2, i3, i4, i5, i6⟩ := idx_all t
  have e : ((cfg0.win 3).blk t).view.emb (ix2 i j) = ix2 i j := by blk_ext [i3]
  unfold iblk
  rw [View.read_apply, e]
  show V m c main_v2 _ = _
  dsimp only [V, hostOps0]
  after_results_simp
  rfl

/-- The normalised rows of point `t`'s block. -/
theorem n_eq (i : Fin 256) (j : Fin 1024) : k0_pay1 (iblk m c 0 t) (iblk m c 1 t) (ix2 i j) = Cert.ReferenceMfwdIdeal.Read.val_main_v12 (F := Ideal) (m ((c : Thread nD τ).loc main_arg0)) (m ((c : Thread nD τ).loc main_arg1)) (ix2 i j) := by
  open Cert.ReferenceMfwdIdeal.Read in
  pointwise [k0_pay1, val_main_v12, val_main_v11, val_main_v10, val_main_v9, val_main_v8, val_main_v7, val_main_v6, val_main_v5, val_main_v4, val_main_v3, val_main_v2, val_main_v1, val_main_v0, val_main_cst, val_main_cst_0, val_main_cst_1]
  simp only [read0, read1]
  first | done | rfl

/-- The normalised memory. -/
theorem final4 : (dats m 0 c).arrAt 4 cfg0.N = Cert.ReferenceMfwdIdeal.Read.val_main_v15 (F := Ideal) (m ((c : Thread nD τ).loc main_arg0)) (m ((c : Thread nD τ).loc main_arg1)) := by
  refine (dats m 0 c).arrAt_eq_of_covers 4 _ (by decide +kernel) fun t hf y => ?_
  blk_simp
  rw [after0_4]
  frame_out
  idx_vars y
  obtain ⟨i0, i1, i2, i3, i4, i5, i6⟩ := idx_all t
  have e : ((cfg0.win 4).blk t).view.emb (ix2 y0 y1) = ix2 y0 y1 := by blk_ext [i4]
  rw [e]
  open Cert.ReferenceMfwdIdeal.Read in
  refine (n_eq m c t y0 y1).trans ?_
  pointwise [val_main_v15]
/-- Its product with the key weights. -/
theorem final5 : (dats m 0 c).arrAt 5 cfg0.N = Cert.ReferenceMfwdIdeal.Read.val_main_v16 (F := Ideal) (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  frame_out
  idx_vars y
  obtain ⟨i0, i1, i2, i3, i4, i5, i6⟩ := idx_all t
  have e : ((cfg0.win 5).blk t).view.emb (ix2 y0 y1) = ix2 y0 y1 := by blk_ext [i5]
  rw [e]
  have h := n_eq m c t
  unfold k0_pay2
  revert h
  generalize k0_pay1 (iblk m c 0 t) (iblk m c 1 t) = n
  intro h
  open Cert.ReferenceMfwdIdeal.Read in
  pointwise [val_main_v16, val_main_v13]
  simp only [h, read2]
/-- Its product with the value weights. -/
theorem final6 : (dats m 0 c).arrAt 6 cfg0.N = Cert.ReferenceMfwdIdeal.Read.val_main_v17 (F := Ideal) (m ((c : Thread nD τ).loc main_arg0)) (m ((c : Thread nD τ).loc main_arg1)) (m ((c : Thread nD τ).loc main_arg3)) := by
  refine (dats m 0 c).arrAt_eq_of_covers 6 _ (by decide +kernel) fun t hf y => ?_
  blk_simp
  rw [after0_6]
  frame_out
  idx_vars y
  obtain ⟨i0, i1, i2, i3, i4, i5, i6⟩ := idx_all t
  have e : ((cfg0.win 6).blk t).view.emb (ix2 y0 y1) = ix2 y0 y1 := by blk_ext [i6]
  rw [e]
  have h := n_eq m c t
  unfold k0_pay3
  revert h
  generalize k0_pay1 (iblk m c 0 t) (iblk m c 1 t) = n
  intro h
  open Cert.ReferenceMfwdIdeal.Read in
  pointwise [val_main_v17, val_main_v14]
  simp only [h, read3]

end Cert.KernelMfwdIdeal.Value
end
-- ==== Proof.MfwdClaims.lean ====
module

public import proofs.«01_k».proof.Defs
public import proofs.«01_k».proof.Proof.Gen.KernelMfwd.Frame
public import proofs.«01_k».proof.Proof.Gen.ReferenceMfwdIdeal.Run
public import proofs.«01_k».proof.Proof.MfwdValue
public import Idealize.ShloMosaic.Lib.Quiescent

@[expose] public section

set_option maxRecDepth 16384

noncomputable section

open Idealize.ShloMosaic Idealize.ShloMosaic.TcCoe Idealize.SL.Sem

namespace Cert.Proof.Mfwd

/-- The mathematics of the memory's keys and values runs to its end, its arguments unchanged. -/
theorem frame_ri : Cert.quiescent_ReferenceMfwdIdeal := fun m ρ _ =>
  (θ_run Cert.ReferenceMfwdIdeal.defs _ _).mono (fun r h => ⟨fun c => (h c).2.2.2, sem_eq_zero_of_no_sems (by decide) r.2⟩)
    (Cert.ReferenceMfwdIdeal.Value.run (F := Ideal) m ρ)

/-- The kernel's three results are the mathematics' three. -/
theorem algebraic : Cert.algebraic_KernelMfwdIdeal_ReferenceMfwdIdeal := by
  intro m ρ m' ρ' _ hagree
  open Cert.KernelMfwdIdeal.Value in
  refine ⟨_, _, _, (θ_run Cert.KernelMfwdIdeal.defs _ _).mono (fun r h c => ⟨(h c).1.trans (final4 m c), (h c).2.1.trans (final5 m c), (h c).2.2.1.trans (final6 m c), (h c).2.2.2⟩)
    (run_blocks m ρ), ?_⟩
  refine (θ_run Cert.ReferenceMfwdIdeal.defs _ _).mono (fun _ h c => ⟨(h c).1.trans ((Cert.ReferenceMfwdIdeal.Read.val_main_v15_eq _ _).trans ?_),
    (h c).2.1.trans ((Cert.ReferenceMfwdIdeal.Read.val_main_v16_eq _ _ _).trans ?_),
    (h c).2.2.1.trans ((Cert.ReferenceMfwdIdeal.Read.val_main_v17_eq _ _ _).trans ?_), (h c).2.2.2⟩)
    (Cert.ReferenceMfwdIdeal.Value.run (F := Ideal) m' ρ')
  all_goals
    obtain ⟨h0, h1, h2, h3⟩ := hagree c
    simp only [← h0, ← h1, ← h2, ← h3]

end Cert.Proof.Mfwd

end
-- ==== Proof.NfwdValue.lean ====
module

public import proofs.«01_k».proof.Proof.Gen.KernelNfwdIdeal.Value
public import proofs.«01_k».proof.Proof.Gen.ReferenceNfwdIdeal.Run
public import proofs.«01_k».proof.Proof.Gen.ReferenceNfwdIdeal.Read
public import Idealize.ShloMosaic.Lib.Pipeline.ReadBack
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelNfwdIdeal.Value

open Cert.KernelNfwdIdeal Cert.KernelNfwdIdeal.Gen

variable (m : (ℓ : Loc nD τ sig) → Buf (Elt Ideal) ℓ) (c : Dev nD) (t : Fin cfg0.N)

/-- Where each block of point `t` lies. -/
theorem idx_all : ∀ t : Fin cfg0.N, win0_0.index t = ![t.val, 0] ∧ win0_1.index t = ![0, 0] ∧ win0_2.index t = ![0, 0] ∧ win0_3.index t = ![t.val, 0] ∧ win0_4.index t = ![t.val, 0] :=
  (by decide +kernel : ∀ t : Fin grid0.N, _)

theorem lt_N : t.val < 32 := lt_of_lt_of_eq t.isLt (show cfg0.N = 32 from N_0)

/-- The row of the whole matrix that row `i` of point `t`'s block is. -/
def row (i : Fin 512) : Fin 16384 := ⟨t.val * 512 + i.val, by have := lt_N t; have := i.isLt; omega⟩

theorem read0 (i : Fin 512) (j : Fin 1024) : iblk m c 0 t (ix2 i j) = m ((c : Thread nD τ).loc main_arg0) (ix2 (row t i) j) := by
  obtain ⟨i0, i1, i2, i3, i4⟩ := idx_all t
  blk_ext [iblk, V, i0, row]

theorem read1 (i : Fin 1) (j : Fin 1024) : iblk m c 1 t (ix2 i j) = m ((c : Thread nD τ).loc main_arg1) (ix1 j) := by
  obtain ⟨i0, i1, i2, i3, i4⟩ := idx_all t
  have e : ((cfg0.win 1).blk t).view.emb (ix2 i j) = ix2 i j := by blk_ext [i1]
  unfold iblk
  rw [View.read_apply, e]
  show V m c main_v0 _ = _
  dsimp only [V, hostOps0]
  after_results_simp
  pointwise []

theorem read2 (i : Fin 2560) (j : Fin 1024) : iblk m c 2 t (ix2 i j) = m ((c : Thread nD τ).loc main_arg2) (ix2 j i) := by
  obtain ⟨i0, i1, i2, i3, i4⟩ := idx_all t
  have e : ((cfg0.win 2).blk t).view.emb (ix2 i j) = ix2 i j := by blk_ext [i2]
  unfold iblk
  rw [View.read_apply, e]
  show V m c main_v2 _ = _
  dsimp only [V, hostOps0]
  after_results_simp
  pointwise []

/-- The normalised rows of point `t`'s block. -/
theorem n_eq (i : Fin 512) (j : Fin 1024) : k0_pay2 (iblk m c 0 t) (iblk m c 1 t) (ix2 i j) = Cert.ReferenceNfwdIdeal.Read.val_main_v12 (F := Ideal) (m ((c : Thread nD τ).loc main_arg0)) (m ((c : Thread nD τ).loc main_arg1)) (ix2 (row t i) j) := by
  open Cert.ReferenceNfwdIdeal.Read in
  pointwise [k0_pay2, val_main_v12, val_main_v11, val_main_v10, val_main_v9, val_main_v8, val_main_v7, val_main_v6, val_main_v5, val_main_v4, val_main_v3, val_main_v2, val_main_v1, val_main_v0, val_main_cst, val_main_cst_0, val_main_cst_1]
  simp only [read0, read1]
  first | done | rfl

/-- At every point the kept weights are those the first point turned. -/
theorem kept (n : ℕ) (h : n < cfg0.N) (i : Fin 1024) (j : Fin 2560) : (outsAt0 m c n h).2.2 (ix2 i j) = m ((c : Thread nD τ).loc main_arg2) (ix2 i j) := by
  induction n with
  | zero =>
    have e := outsAt0_A m c ⟨0, h⟩ (Nat.zero_mod _)
    dsimp only at e
    rw [e]
    frame_out
    pointwise [k0_pay1]
    exact read2 m c ⟨0, h⟩ j i
  | succ n ih =>
    have hn : ¬(n + 1) % 32 = 0 := by
      have := lt_of_lt_of_eq h (show cfg0.N = 32 from N_0)
      omega
    have e := outsAt0_B m c ⟨n + 1, h⟩ hn
    dsimp only at e
    rw [e]
    unfold sout0_B_0
    exact ih (Nat.lt_of_succ_lt h)

/-- The product of a block's normalised rows with the weights, as the scratch holds them. -/
theorem u_eq (w : Vec Ideal S1024x2560 .bf16) (hw : ∀ (i : Fin 1024) (j : Fin 2560), w (ix2 i j) = m ((c : Thread nD τ).loc main_arg2) (ix2 i j))
    (i : Fin 512) (j : Fin 2560) : k0_pay3 (iblk m c 0 t) (iblk m c 1 t) w (ix2 i j) = Cert.ReferenceNfwdIdeal.Read.val_main_v15 (F := Ideal) (m ((c : Thread nD τ).loc main_arg0)) (m ((c : Thread nD τ).loc main_arg1)) (m ((c : Thread nD τ).loc main_arg2)) (ix2 (row t i) j) := by
  have h := n_eq m c t
  unfold k0_pay3
  revert h
  generalize k0_pay2 (iblk m c 0 t) (iblk m c 1 t) = n
  intro h
  open Cert.ReferenceNfwdIdeal.Read in
  pointwise [val_main_v15, val_main_v14]
  simp only [h, hw]

/-- The normalised rows. -/
theorem value3 : (dats m 0 c).arrAt 3 cfg0.N = Cert.ReferenceNfwdIdeal.Read.val_main_v13 (F := Ideal) (m ((c : Thread nD τ).loc main_arg0)) (m ((c : Thread nD τ).loc main_arg1)) := by
  refine (dats m 0 c).arrAt_eq_of_covers 3 _ (by decide +kernel) fun t hf y => ?_
  blk_simp
  rw [after0_3]
  idx_vars y
  obtain ⟨i0, i1, i2, i3, i4⟩ := idx_all t
  have e : ((cfg0.win 3).blk t).view.emb (ix2 y0 y1) = ix2 (row t y0) y1 := by blk_ext [i3, row]
  rw [e]
  have hk : (outsAt0 m c t.val t.isLt).1 (ix2 y0 y1) = k0_pay2 (iblk m c 0 t) (iblk m c 1 t) (ix2 y0 y1) := by
    by_cases h0 : t.val % 32 = 0
    · rw [outsAt0_A m c t h0]; frame_out
    · rw [outsAt0_B m c t h0]; frame_out
  rw [hk]
  refine (n_eq m c t y0 y1).trans ?_
  open Cert.ReferenceNfwdIdeal.Read in
  pointwise [val_main_v13]
/-- Their product with the weights. -/
theorem value4 : (dats m 0 c).arrAt 4 cfg0.N = Cert.ReferenceNfwdIdeal.Read.val_main_v15 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  idx_vars y
  obtain ⟨i0, i1, i2, i3, i4⟩ := idx_all t
  have e : ((cfg0.win 4).blk t).view.emb (ix2 y0 y1) = ix2 (row t y0) y1 := by blk_ext [i4, row]
  rw [e]
  by_cases h0 : t.val % 32 = 0
  · rw [outsAt0_A m c t h0]
    frame_out
    refine u_eq m c t _ (fun i j => ?_) y0 y1
    pointwise [k0_pay1]
    rw [read2]
  · rw [outsAt0_B m c t h0]
    have hw := kept m c (t.val - 1) (Nat.lt_of_le_of_lt (Nat.sub_le _ _) t.isLt)
    revert hw
    generalize (outsAt0 m c (t.val - 1) _).2.2 = w
    intro hw
    frame_out
    rw [read_unread_whole]
    exact u_eq m c t w hw y0 y1

end Cert.KernelNfwdIdeal.Value
end
-- ==== Proof.NfwdClaims.lean ====
module

public import proofs.«01_k».proof.Defs
public import proofs.«01_k».proof.Proof.Gen.KernelNfwd.Frame
public import proofs.«01_k».proof.Proof.Gen.ReferenceNfwdIdeal.Run
public import proofs.«01_k».proof.Proof.NfwdValue
public import Idealize.ShloMosaic.Lib.Quiescent

@[expose] public section

set_option maxRecDepth 16384

noncomputable section

open Idealize.ShloMosaic Idealize.ShloMosaic.TcCoe Idealize.SL.Sem

namespace Cert.Proof.Nfwd

/-- The mathematics of the normalised product runs to its end, its arguments unchanged. -/
theorem frame_ri : Cert.quiescent_ReferenceNfwdIdeal := fun m ρ _ =>
  (θ_run Cert.ReferenceNfwdIdeal.defs _ _).mono (fun r h => ⟨fun c => (h c).2.2, sem_eq_zero_of_no_sems (by decide) r.2⟩)
    (Cert.ReferenceNfwdIdeal.Value.run (F := Ideal) m ρ)

/-- The kernel's two results are the mathematics' two. -/
theorem algebraic : Cert.algebraic_KernelNfwdIdeal_ReferenceNfwdIdeal := by
  intro m ρ m' ρ' _ hagree
  open Cert.KernelNfwdIdeal.Value in
  refine ⟨_, _, (θ_run Cert.KernelNfwdIdeal.defs _ _).mono (fun r h c => ⟨(h c).1.trans (value3 m c), (h c).2.1.trans (value4 m c), (h c).2.2⟩)
    (run_blocks m ρ), ?_⟩
  refine (θ_run Cert.ReferenceNfwdIdeal.defs _ _).mono (fun _ h c => ⟨(h c).1.trans ((Cert.ReferenceNfwdIdeal.Read.val_main_v13_eq _ _).trans ?_),
    (h c).2.1.trans ((Cert.ReferenceNfwdIdeal.Read.val_main_v15_eq _ _ _).trans ?_), (h c).2.2⟩)
    (Cert.ReferenceNfwdIdeal.Value.run (F := Ideal) m' ρ')
  all_goals
    obtain ⟨h0, h1, h2⟩ := hagree c
    simp only [← h0, ← h1, ← h2]

end Cert.Proof.Nfwd

end
-- ==== Proof.SumsValue.lean ====
module

public import proofs.«01_k».proof.Proof.Gen.KernelSumsIdeal.Value
public import proofs.«01_k».proof.Proof.Gen.ReferenceSumsIdeal.Run
public import proofs.«01_k».proof.Proof.Gen.ReferenceSumsIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelSumsIdeal.Value

open Cert.KernelSumsIdeal Cert.KernelSumsIdeal.Gen

variable (m : (ℓ : Loc nD τ sig) → Buf (Elt Ideal) ℓ) (c : Dev nD) (t : Fin cfg0.N)

/-- Where each block of point `t` lies. -/
theorem idx_all : ∀ t : Fin cfg0.N, win0_0.index t = ![0, 0, 0] ∧ win0_1.index t = ![0, 0] :=
  (by decide +kernel : ∀ t : Fin grid0.N, _)

theorem read0 (k : Fin 8) (i : Fin 232) (j : Fin 128) : iblk m c 0 t (ix3 k i j) = m ((c : Thread nD τ).loc main_arg0) (ix3 k i j) := by
  obtain ⟨i0, i1⟩ := idx_all t
  blk_ext [iblk, V, i0]

/-- Slice `k` of the eight, loaded. -/
theorem part (X : Vec Ideal S8x232x128 .f32) (k : Fin 8) (b) (i : Fin 232) (j : Fin 128) :
    View.ld X (Rect.unit (s := S8x232x128) ![k.val, 0, 0] ![1, 232, 128] b) (ix3 0 i j) = X (ix3 k i j) := by
  refine congrArg X ?_
  funext a
  refine Fin.ext ((Rect.idx_unit_val _ _ _ _ _).trans ?_)
  fin_cases a
  · rfl
  · exact Nat.zero_add _
  · exact Nat.zero_add _

/-- The eight slices added, one after another. -/
def total (X : Vec Ideal S8x232x128 .f32) : FVec Ideal S232x128 .f32 := k0_pay1 (View.ld X (Rect.unit (s := S8x232x128) ![0, 0, 0] ![1, 232, 128] inb_S8x232x128_S1x232x128_0_0_0)) (View.ld X (Rect.unit (s := S8x232x128) ![1, 0, 0] ![1, 232, 128] inb_S8x232x128_S1x232x128_1_0_0)) (View.ld X (Rect.unit (s := S8x232x128) ![2, 0, 0] ![1, 232, 128] inb_S8x232x128_S1x232x128_2_0_0)) (View.ld X (Rect.unit (s := S8x232x128) ![3, 0, 0] ![1, 232, 128] inb_S8x232x128_S1x232x128_3_0_0)) (View.ld X (Rect.unit (s := S8x232x128) ![4, 0, 0] ![1, 232, 128] inb_S8x232x128_S1x232x128_4_0_0)) (View.ld X (Rect.unit (s := S8x232x128) ![5, 0, 0] ![1, 232, 128] inb_S8x232x128_S1x232x128_5_0_0)) (View.ld X (Rect.unit (s := S8x232x128) ![6, 0, 0] ![1, 232, 128] inb_S8x232x128_S1x232x128_6_0_0)) (View.ld X (Rect.unit (s := S8x232x128) ![7, 0, 0] ![1, 232, 128] inb_S8x232x128_S1x232x128_7_0_0))

theorem total_eq (X : Vec Ideal S8x232x128 .f32) (i : Fin 232) (j : Fin 128) : total X (ix2 i j) = ∑ k : Fin 8, (show EReal from X (ix3 k i j)) := by
  simp only [Fin.sum_univ_eight, ← part X 0 inb_S8x232x128_S1x232x128_0_0_0, ← part X 1 inb_S8x232x128_S1x232x128_1_0_0, ← part X 2 inb_S8x232x128_S1x232x128_2_0_0, ← part X 3 inb_S8x232x128_S1x232x128_3_0_0, ← part X 4 inb_S8x232x128_S1x232x128_4_0_0, ← part X 5 inb_S8x232x128_S1x232x128_5_0_0, ← part X 6 inb_S8x232x128_S1x232x128_6_0_0, ← part X 7 inb_S8x232x128_S1x232x128_7_0_0]
  unfold total
  pointwise [k0_pay1]

/-- The sums. -/
theorem value1 : (dats m 0 c).arrAt 1 cfg0.N = Cert.ReferenceSumsIdeal.Read.val_main_v0 (F := Ideal) (m ((c : Thread nD τ).loc main_arg0)) := by
  refine (dats m 0 c).arrAt_eq_of_covers 1 _ (by decide +kernel) fun t hf y => ?_
  blk_simp
  rw [after0_1]
  frame_out
  idx_vars y
  obtain ⟨i0, i1⟩ := idx_all t
  have e : ((cfg0.win 1).blk t).view.emb (ix2 y0 y1) = ix2 y0 y1 := by blk_ext [i1]
  rw [e]
  refine (total_eq (iblk m c 0 t) y0 y1).trans ?_
  open Cert.ReferenceSumsIdeal.Read in
  pointwise [val_main_v0, val_main_cst]
  simp only [read0]

end Cert.KernelSumsIdeal.Value
end
-- ==== Proof.SumsClaims.lean ====
module

public import proofs.«01_k».proof.Defs
public import proofs.«01_k».proof.Proof.Gen.KernelSums.Frame
public import proofs.«01_k».proof.Proof.Gen.ReferenceSumsIdeal.Run
public import proofs.«01_k».proof.Proof.SumsValue
public import Idealize.ShloMosaic.Lib.Quiescent

@[expose] public section

set_option maxRecDepth 16384

noncomputable section

open Idealize.ShloMosaic Idealize.ShloMosaic.TcCoe Idealize.SL.Sem

namespace Cert.Proof.Sums

/-- The sum over the devices runs to its end, its argument unchanged. -/
theorem frame_ri : Cert.quiescent_ReferenceSumsIdeal := fun m ρ _ =>
  (θ_run Cert.ReferenceSumsIdeal.defs _ _).mono (fun r h => ⟨fun c => (h c).2, sem_eq_zero_of_no_sems (by decide) r.2⟩)
    (Cert.ReferenceSumsIdeal.Value.run (F := Ideal) m ρ)

/-- The kernel's sums are the sums over the devices. -/
theorem algebraic : Cert.algebraic_KernelSumsIdeal_ReferenceSumsIdeal := by
  intro m ρ m' ρ' _ hagree
  open Cert.KernelSumsIdeal.Value in
  refine ⟨_, (θ_run Cert.KernelSumsIdeal.defs _ _).mono (fun r h c => ⟨(h c).1.trans (value1 m c), (h c).2⟩)
    (run_blocks m ρ), ?_⟩
  refine (θ_run Cert.ReferenceSumsIdeal.defs _ _).mono (fun _ h c => ⟨(h c).1.trans ((Cert.ReferenceSumsIdeal.Read.val_main_v0_eq _).trans ?_), (h c).2⟩)
    (Cert.ReferenceSumsIdeal.Value.run (F := Ideal) m' ρ')
  all_goals
    have h0 := hagree c
    simp only [← h0]

end Cert.Proof.Sums

end
-- ==== Proof.WgradValue.lean ====
module

public import proofs.«01_k».proof.Proof.Gen.KernelWgradIdeal.Value
public import proofs.«01_k».proof.Proof.Gen.ReferenceWgradIdeal.Run
public import proofs.«01_k».proof.Proof.Gen.ReferenceWgradIdeal.Read
public import Idealize.ShloMosaic.Lib.Pipeline.ReadBack
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelWgradIdeal.Value

open Cert.KernelWgradIdeal Cert.KernelWgradIdeal.Gen

variable (m : (ℓ : Loc nD τ sig) → Buf (Elt Ideal) ℓ) (c : Dev nD) (t : Fin cfg0.N)

/-- Where each block of point `t` lies. -/
theorem idx_all : ∀ t : Fin cfg0.N, win0_0.index t = ![t.val % 8, t.val / 8] ∧ win0_1.index t = ![t.val % 8, 0] ∧ win0_2.index t = ![t.val / 8, 0] :=
  (by decide +kernel : ∀ t : Fin grid0.N, _)

theorem lt_N : t.val < 16 := lt_of_lt_of_eq t.isLt (show cfg0.N = 16 from N_0)

/-- The row of the whole operands that row `k` of point `t`'s blocks is. -/
def row (k : Fin 2048) : Fin 16384 := ⟨t.val % 8 * 2048 + k.val, by have := k.isLt; omega⟩

/-- The row of the whole product that row `i` of point `t`'s block is. -/
def col (i : Fin 1408) : Fin 2816 := ⟨t.val / 8 * 1408 + i.val, by have := lt_N t; have := i.isLt; omega⟩

theorem read0 (i : Fin 2048) (j : Fin 1408) : iblk m c 0 t (ix2 i j) = m ((c : Thread nD τ).loc main_arg0) (ix2 (row t i) (col t j)) := by
  obtain ⟨i0, i1, i2⟩ := idx_all t
  have e : ((cfg0.win 0).blk t).view.emb (ix2 i j) = ix2 (row t i) (col t j) := by blk_ext [i0, row, col]
  unfold iblk
  rw [View.read_apply, e]
  show V m c main_v0 _ = _
  dsimp only [V, hostOps0]
  after_results_simp
  rfl

theorem read1 (i : Fin 2048) (j : Fin 1024) : iblk m c 1 t (ix2 i j) = m ((c : Thread nD τ).loc main_arg1) (ix2 (row t i) j) := by
  obtain ⟨i0, i1, i2⟩ := idx_all t
  have e : ((cfg0.win 1).blk t).view.emb (ix2 i j) = ix2 (row t i) j := by blk_ext [i1, row]
  unfold iblk
  rw [View.read_apply, e]
  show V m c main_v1 _ = _
  dsimp only [V, hostOps0]
  after_results_simp
  rfl

/-- One step of the accumulator: what the points before left, and the product over the block's rows. -/
theorem step (acc : Vec Ideal S1408x1024 .f32) (i : Fin 1408) (j : Fin 1024) : k0_pay2 acc (iblk m c 0 t) (iblk m c 1 t) (ix2 i j)
    = acc (ix2 i j) + ∑ k : Fin 2048, HMul.hMul (α := EReal) (β := EReal) (γ := EReal) (m ((c : Thread nD τ).loc main_arg0) (ix2 (row t k) (col t i))) (m ((c : Thread nD τ).loc main_arg1) (ix2 (row t k) j)) := by
  pointwise [k0_pay2]
  simp only [read0, read1]

/-- The product of the two operands' rows. -/
theorem value2 : (dats m 0 c).arrAt 2 cfg0.N = Cert.ReferenceWgradIdeal.Read.val_main_v1 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  idx_vars y
  obtain ⟨i0, i1, i2⟩ := idx_all t
  have e : ((cfg0.win 2).blk t).view.emb (ix2 y0 y1) = ix2 (col t y0) y1 := by blk_ext [i2, col]
  rw [e]
  have h7 : t.val % 8 = 7 := (by decide +kernel : ∀ t : Fin grid0.N, win0_2.flush t = true → t.val % 8 = 7) t hf
  have hk : (outsAt0 m c t.val t.isLt).1 (ix2 y0 y1) = (outsAt0 m c t.val t.isLt).2 (ix2 y0 y1) := by
    have h2 : (outsAt0 m c t.val t.isLt).2 (ix2 y0 y1) = k0_pay2 (outsAt0 m c (t.val - 1) (Nat.lt_of_le_of_lt (Nat.sub_le _ _) t.isLt)).2 (iblk m c 0 t) (iblk m c 1 t) (ix2 y0 y1) := by
      rw [outsAt0_C m c t (by omega) h7]; frame_out; rw [read_unread_whole]
    rw [h2, outsAt0_C m c t (by omega) h7]
    frame_out
    pointwise [k0_pay3]
    rw [read_unread_whole]
  rw [hk, Pipeline.eq_sum_fin_of_reset_step_apply_of_flush (fun n h => (outsAt0 m c n h).2) 8 (fun _ => 0)
    (fun t j => ∑ k : Fin 2048, HMul.hMul (α := EReal) (β := EReal) (γ := EReal) (m ((c : Thread nD τ).loc main_arg0) (ix2 (row t k) (col t (j 0)))) (m ((c : Thread nD τ).loc main_arg1) (ix2 (row t k) (j 1))))
    (fun t h j => by rw [outsAt0_A m c t h (by omega)]; frame_out; idx_vars j; refine (step m c t _ _ _).trans ?_; pointwise [k0_pay1])
    (fun t h j => by
      by_cases h7 : t.val % 8 = 7
      · rw [outsAt0_C m c t h h7]; frame_out; rw [read_unread_whole]; idx_vars j; exact step m c t _ _ _
      · rw [outsAt0_B m c t h h7]; frame_out; rw [read_unread_whole]; idx_vars j; exact step m c t _ _ _)
    t h7 _]
  open Cert.ReferenceWgradIdeal.Read in
  pointwise [val_main_v1, val_main_v0]
  have key : ∑ s : Fin 8, ∑ k : Fin 2048, HMul.hMul (α := EReal) (β := EReal) (γ := EReal) (m ((c : Thread nD τ).loc main_arg0) (ix2 (row ⟨8 * (t.val / 8) + s.val, Pipeline.run_point_lt_of_flush t h7 s⟩ k) (col ⟨8 * (t.val / 8) + s.val, Pipeline.run_point_lt_of_flush t h7 s⟩ y0))) (m ((c : Thread nD τ).loc main_arg1) (ix2 (row ⟨8 * (t.val / 8) + s.val, Pipeline.run_point_lt_of_flush t h7 s⟩ k) y1))
      = ∑ l : Fin 16384, HMul.hMul (α := EReal) (β := EReal) (γ := EReal) (m ((c : Thread nD τ).loc main_arg0) (ix2 l (col t y0))) (m ((c : Thread nD τ).loc main_arg1) (ix2 l y1)) := by
    refine (Finset.sum_congr rfl fun s _ => Finset.sum_congr rfl fun k _ => ?_).trans (Fin.sum_mul_add_fin 8 2048 (fun l : Fin 16384 => HMul.hMul (α := EReal) (β := EReal) (γ := EReal) (m ((c : Thread nD τ).loc main_arg0) (ix2 l (col t y0))) (m ((c : Thread nD τ).loc main_arg1) (ix2 l y1))) rfl)
    have hr : row ⟨8 * (t.val / 8) + s.val, Pipeline.run_point_lt_of_flush t h7 s⟩ k = ⟨s.val * 2048 + k.val, Fin.mul_add_lt_of_eq_mul rfl s k⟩ :=
      Fin.ext (by have := s.isLt; simp only [row]; omega)
    have hc : col ⟨8 * (t.val / 8) + s.val, Pipeline.run_point_lt_of_flush t h7 s⟩ y0 = col t y0 :=
      Fin.ext (by have := s.isLt; simp only [col]; omega)
    rw [← hr, ← hc]
  exact key

end Cert.KernelWgradIdeal.Value
end
-- ==== Proof.WgradClaims.lean ====
module

public import proofs.«01_k».proof.Defs
public import proofs.«01_k».proof.Proof.Gen.KernelWgrad.Frame
public import proofs.«01_k».proof.Proof.Gen.ReferenceWgradIdeal.Run
public import proofs.«01_k».proof.Proof.WgradValue
public import Idealize.ShloMosaic.Lib.Quiescent

@[expose] public section

set_option maxRecDepth 16384

noncomputable section

open Idealize.ShloMosaic Idealize.ShloMosaic.TcCoe Idealize.SL.Sem

namespace Cert.Proof.Wgrad

/-- The product runs to its end, its arguments unchanged. -/
theorem frame_ri : Cert.quiescent_ReferenceWgradIdeal := fun m ρ _ =>
  (θ_run Cert.ReferenceWgradIdeal.defs _ _).mono (fun r h => ⟨fun c => (h c).2, sem_eq_zero_of_no_sems (by decide) r.2⟩)
    (Cert.ReferenceWgradIdeal.Value.run (F := Ideal) m ρ)

/-- The kernel's product is the mathematics'. -/
theorem algebraic : Cert.algebraic_KernelWgradIdeal_ReferenceWgradIdeal := by
  intro m ρ m' ρ' _ hagree
  open Cert.KernelWgradIdeal.Value in
  refine ⟨_, (θ_run Cert.KernelWgradIdeal.defs _ _).mono (fun r h c => ⟨(h c).1.trans (value2 m c), (h c).2⟩)
    (run_blocks m ρ), ?_⟩
  refine (θ_run Cert.ReferenceWgradIdeal.defs _ _).mono (fun _ h c => ⟨(h c).1.trans ((Cert.ReferenceWgradIdeal.Read.val_main_v1_eq _ _).trans ?_), (h c).2⟩)
    (Cert.ReferenceWgradIdeal.Value.run (F := Ideal) m' ρ')
  all_goals
    obtain ⟨h0, h1⟩ := hagree c
    simp only [← h0, ← h1]

end Cert.Proof.Wgrad

end
-- ==== Proof.lean ====
module

public import proofs.«01_k».proof.Defs
public import proofs.«01_k».proof.Proof.AdamwClaims
public import proofs.«01_k».proof.Proof.AfwdClaims
public import proofs.«01_k».proof.Proof.AttnClaims
public import proofs.«01_k».proof.Proof.ConvClaims
public import proofs.«01_k».proof.Proof.FfnClaims
public import proofs.«01_k».proof.Proof.FfwdClaims
public import proofs.«01_k».proof.Proof.InClaims
public import proofs.«01_k».proof.Proof.MemClaims
public import proofs.«01_k».proof.Proof.MfwdClaims
public import proofs.«01_k».proof.Proof.NfwdClaims
public import proofs.«01_k».proof.Proof.SumsClaims
public import proofs.«01_k».proof.Proof.WgradClaims

@[expose] public section

noncomputable section

namespace Cert.Proof

theorem claim : Cert.Claim :=
  ⟨Cert.KernelMem.Gen.facts, Cert.KernelMemIdeal.Gen.facts, Cert.ReferenceMemIdeal.Gen.facts,
    Cert.KernelIn.Gen.facts, Cert.KernelInIdeal.Gen.facts, Cert.ReferenceInIdeal.Gen.facts,
    Cert.KernelFfn.Gen.facts, Cert.KernelFfnIdeal.Gen.facts, Cert.ReferenceFfnIdeal.Gen.facts,
    Cert.KernelAttn.Gen.facts, Cert.KernelAttnIdeal.Gen.facts, Cert.ReferenceAttnIdeal.Gen.facts,
    Cert.KernelAfwd.Gen.facts, Cert.KernelAfwdIdeal.Gen.facts, Cert.ReferenceAfwdIdeal.Gen.facts,
    Cert.KernelConv.Gen.facts, Cert.KernelConvIdeal.Gen.facts, Cert.ReferenceConvIdeal.Gen.facts,
    Cert.KernelMfwd.Gen.facts, Cert.KernelMfwdIdeal.Gen.facts, Cert.ReferenceMfwdIdeal.Gen.facts,
    Cert.KernelFfwd.Gen.facts, Cert.KernelFfwdIdeal.Gen.facts, Cert.ReferenceFfwdIdeal.Gen.facts,
    Cert.KernelNfwd.Gen.facts, Cert.KernelNfwdIdeal.Gen.facts, Cert.ReferenceNfwdIdeal.Gen.facts,
    Cert.KernelWgrad.Gen.facts, Cert.KernelWgradIdeal.Gen.facts, Cert.ReferenceWgradIdeal.Gen.facts,
    Cert.KernelAdamw.Gen.facts, Cert.KernelAdamwIdeal.Gen.facts, Cert.ReferenceAdamwIdeal.Gen.facts,
    Cert.KernelSums.Gen.facts, Cert.KernelSumsIdeal.Gen.facts, Cert.ReferenceSumsIdeal.Gen.facts,
    Ffn.pre_facts, Attn.pre_facts,
    fun m ρ _ => Cert.KernelMem.Gen.frame m ρ, fun m ρ _ => Cert.KernelMemIdeal.Gen.frame m ρ, Mem.frame_ri,
    fun m ρ _ => Cert.KernelIn.Gen.frame m ρ, fun m ρ _ => Cert.KernelInIdeal.Gen.frame m ρ, In.frame_ri,
    fun m ρ _ => Cert.KernelFfn.Gen.frame m ρ, fun m ρ _ => Cert.KernelFfnIdeal.Gen.frame m ρ, fun m ρ _ => Cert.KernelFfnIdeal.Gen.frame m ρ,
    Ffn.frame_ri, fun m ρ _ => Ffn.frame_ri m ρ trivial,
    fun m ρ _ => Cert.KernelAttn.Attn.frame m ρ, fun m ρ _ => Cert.KernelAttnIdeal.Attn.frame m ρ, fun m ρ _ => Cert.KernelAttnIdeal.Attn.frame m ρ,
    Attn.frame_ri, fun m ρ _ => Attn.frame_ri m ρ trivial,
    fun m ρ _ => Cert.KernelAfwd.Gen.frame m ρ, fun m ρ _ => Cert.KernelAfwdIdeal.Gen.frame m ρ, Afwd.frame_ri,
    fun m ρ _ => Cert.KernelConv.Gen.frame m ρ, fun m ρ _ => Cert.KernelConvIdeal.Gen.frame m ρ, Conv.frame_ri,
    fun m ρ _ => Cert.KernelMfwd.Gen.frame m ρ, fun m ρ _ => Cert.KernelMfwdIdeal.Gen.frame m ρ, Mfwd.frame_ri,
    fun m ρ _ => Cert.KernelFfwd.Gen.frame m ρ, fun m ρ _ => Cert.KernelFfwdIdeal.Gen.frame m ρ, Ffwd.frame_ri,
    fun m ρ _ => Cert.KernelNfwd.Gen.frame m ρ, fun m ρ _ => Cert.KernelNfwdIdeal.Gen.frame m ρ, Nfwd.frame_ri,
    fun m ρ _ => Cert.KernelWgrad.Gen.frame m ρ, fun m ρ _ => Cert.KernelWgradIdeal.Gen.frame m ρ, Wgrad.frame_ri,
    fun m ρ _ => Cert.KernelAdamw.Gen.frame m ρ, fun m ρ _ => Cert.KernelAdamwIdeal.Gen.frame m ρ, Adamw.frame_ri,
    fun m ρ _ => Cert.KernelSums.Gen.frame m ρ, fun m ρ _ => Cert.KernelSumsIdeal.Gen.frame m ρ, Sums.frame_ri,
    trivial, Mem.algebraic, trivial, In.algebraic, trivial, Ffn.algebraic, trivial, Attn.algebraic, trivial, Afwd.algebraic, trivial,
    trivial, Mfwd.algebraic, trivial, Ffwd.algebraic, trivial, Nfwd.algebraic, trivial, Wgrad.algebraic, trivial, Adamw.algebraic, trivial, Sums.algebraic⟩

end Cert.Proof

end
